-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_in_range [hPre_x_in_range : Cert.Pre_x_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_x_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_in_range [hPre_x_in_range : Cert.Pre_x_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_x_in_range [hKernelIdeal : Cert.KernelIdeal.Facts] [hPre_x_in_range : Cert.Pre_x_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_x_in_range [hReferenceIdeal : Cert.ReferenceIdeal.Facts] [hPre_x_in_range : Cert.Pre_x_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_x_in_range [hKernelIdeal : Cert.KernelIdeal.Facts] [hReferenceIdeal : Cert.ReferenceIdeal.Facts] [hPre_x_in_range : Cert.Pre_x_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_x_in_range : Cert.Pre_x_in_range.Facts),
    quiescent_Kernel (hKernel := hKernel)
    ∧ quiescent_KernelIdeal (hKernelIdeal := hKernelIdeal)
    ∧ quiescent_KernelIdeal_pre_x_in_range (hKernelIdeal := hKernelIdeal) (hPre_x_in_range := hPre_x_in_range)
    ∧ quiescent_ReferenceIdeal (hReferenceIdeal := hReferenceIdeal)
    ∧ quiescent_ReferenceIdeal_pre_x_in_range (hReferenceIdeal := hReferenceIdeal) (hPre_x_in_range := hPre_x_in_range)
    ∧ preserves_Kernel_KernelIdeal
    ∧ algebraic_KernelIdeal_ReferenceIdeal_pre_x_in_range (hKernelIdeal := hKernelIdeal) (hReferenceIdeal := hReferenceIdeal) (hPre_x_in_range := hPre_x_in_range)
-- ==== Pre_x_in_range.lean ====
abbrev S6x1024x3456 : Shape := ⟨3, ![6, 1024, 3456]⟩
abbrev S3456x4288 : Shape := ⟨2, ![3456, 4288]⟩
abbrev S27x8576 : Shape := ⟨2, ![27, 8576]⟩
abbrev S8576 : Shape := ⟨1, ![8576]⟩
abbrev S_ : Shape := ⟨0, ![]⟩

class Facts : Prop where
  bcast_S_S6x1024x3456 : S_.BroadcastsInDim S6x1024x3456 (![] : Fin 0 → Fin S6x1024x3456.rank)

variable [Facts]

def fn {F : FTy → Type} [FloatOps F] (main_arg0 : FVec F S6x1024x3456 .bf16) (main_arg1 : IVec S3456x4288 8) (main_arg2 : FVec F S27x8576 .f32) (main_arg3 : FVec F S8576 .f32) : IVec S6x1024x3456 1 :=
  let main_v0 : FVec F S6x1024x3456 .bf16 := Host.absf main_arg0
  let main_cst : FVec F S_ .bf16 := constant S_ .bf16 0x7F7F#16
  let main_v1 : FVec F S6x1024x3456 .bf16 := broadcastInDim S6x1024x3456 ![] bcast_S_S6x1024x3456 main_cst
  let main_v2 : IVec S6x1024x3456 1 := cmpf .ole main_v0 main_v1
  main_v2
-- ==== Kernel.lean ====
abbrev S6x1024x3456 : Shape := ⟨3, ![6, 1024, 3456]⟩
abbrev S3456x4288 : Shape := ⟨2, ![3456, 4288]⟩
abbrev S27x8576 : Shape := ⟨2, ![27, 8576]⟩
abbrev S8576 : Shape := ⟨1, ![8576]⟩
abbrev S6144x3456 : Shape := ⟨2, ![6144, 3456]⟩
abbrev S_ : Shape := ⟨0, ![]⟩
abbrev S3456x4352 : Shape := ⟨2, ![3456, 4352]⟩
abbrev S1x8576 : Shape := ⟨2, ![1, 8576]⟩
abbrev S6144x8576 : Shape := ⟨2, ![6144, 8576]⟩
abbrev S6144x27 : Shape := ⟨2, ![6144, 27]⟩
abbrev S3584x512 : Shape := ⟨2, ![3584, 512]⟩
abbrev S3456x640 : Shape := ⟨2, ![3456, 640]⟩
abbrev S4x27x128 : Shape := ⟨3, ![4, 27, 128]⟩
abbrev S2x128x3456 : Shape := ⟨3, ![2, 128, 3456]⟩
abbrev S2x128x27 : Shape := ⟨3, ![2, 128, 27]⟩
abbrev S2x512x512 : Shape := ⟨3, ![2, 512, 512]⟩
abbrev S2 : Shape := ⟨1, ![2]⟩
abbrev S1 : Shape := ⟨1, ![1]⟩
abbrev S1x27x128 : Shape := ⟨3, ![1, 27, 128]⟩
abbrev S27x128 : Shape := ⟨2, ![27, 128]⟩
abbrev S3456x128 : Shape := ⟨2, ![3456, 128]⟩
abbrev S1x128x3456 : Shape := ⟨3, ![1, 128, 3456]⟩
abbrev S128x3456 : Shape := ⟨2, ![128, 3456]⟩
abbrev S128x512 : Shape := ⟨2, ![128, 512]⟩
abbrev S128x128 : Shape := ⟨2, ![128, 128]⟩
abbrev S128x27 : Shape := ⟨2, ![128, 27]⟩
abbrev S1x128x27 : Shape := ⟨3, ![1, 128, 27]⟩
abbrev S1x128x128 : Shape := ⟨3, ![1, 128, 128]⟩
abbrev S128 : Shape := ⟨1, ![128]⟩
abbrev S128x1 : Shape := ⟨2, ![128, 1]⟩
abbrev S128x256 : Shape := ⟨2, ![128, 256]⟩
abbrev S32x128 : Shape := ⟨2, ![32, 128]⟩
abbrev S1x1x128 : Shape := ⟨3, ![1, 1, 128]⟩
abbrev S1x128 : Shape := ⟨2, ![1, 128]⟩
abbrev S256x256 : Shape := ⟨2, ![256, 256]⟩
abbrev S512x512 : Shape := ⟨2, ![512, 512]⟩
abbrev S1x512x512 : Shape := ⟨3, ![1, 512, 512]⟩
abbrev S256x128 : Shape := ⟨2, ![256, 128]⟩
abbrev S1x256 : Shape := ⟨2, ![1, 256]⟩
abbrev S1x256x256 : Shape := ⟨3, ![1, 256, 256]⟩

abbrev nBuf : Space → Nat
  | .hbm => 12
  | .vmem => 10
  | .smem => 0
  | _ => 0

abbrev bufTy : (tb : Table) → Fin (tcTables nBuf tb) → BufTy
  | .hbm, ⟨0, _⟩ => ⟨S6x1024x3456, .bf16⟩
  | .hbm, ⟨1, _⟩ => ⟨S3456x4288, .i8⟩
  | .hbm, ⟨2, _⟩ => ⟨S27x8576, .f32⟩
  | .hbm, ⟨3, _⟩ => ⟨S8576, .f32⟩
  | .hbm, ⟨4, _⟩ => ⟨S6144x3456, .bf16⟩
  | .hbm, ⟨5, _⟩ => ⟨S_, .i32⟩
  | .hbm, ⟨6, _⟩ => ⟨S_, .i8⟩
  | .hbm, ⟨7, _⟩ => ⟨S3456x4352, .i8⟩
  | .hbm, ⟨8, _⟩ => ⟨S1x8576, .f32⟩
  | .hbm, ⟨9, _⟩ => ⟨S6144x8576, .bf16⟩
  | .hbm, ⟨10, _⟩ => ⟨S6144x3456, .fp8e4m3⟩
  | .hbm, ⟨11, _⟩ => ⟨S6144x27, .f32⟩
  | .local _ .vmem, ⟨0, _⟩ => ⟨S1x8576, .f32⟩
  | .local _ .vmem, ⟨1, _⟩ => ⟨S6144x3456, .bf16⟩
  | .local _ .vmem, ⟨2, _⟩ => ⟨S3584x512, .bf16⟩
  | .local _ .vmem, ⟨3, _⟩ => ⟨S3584x512, .bf16⟩
  | .local _ .vmem, ⟨4, _⟩ => ⟨S3456x640, .i8⟩
  | .local _ .vmem, ⟨5, _⟩ => ⟨S4x27x128, .f32⟩
  | .local _ .vmem, ⟨6, _⟩ => ⟨S2x128x3456, .bf16⟩
  | .local _ .vmem, ⟨7, _⟩ => ⟨S2x128x3456, .fp8e4m3⟩
  | .local _ .vmem, ⟨8, _⟩ => ⟨S2x128x27, .f32⟩
  | .local _ .vmem, ⟨9, _⟩ => ⟨S2x512x512, .bf16⟩
  | _, _ => ⟨S6x1024x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_sem0_0 : DmaSem sig := 0

abbrev nD : Nat := 1
abbrev τ : Topo := Topo.v7x

variable {F : FTy → Type} [FloatOps F]

abbrev grid0 : Pipeline.Grid := .none

def k0_mult1 : BitVec 32 :=
  let c0_i32 : BitVec 32 := 0#32
  let c4_i32 : BitVec 32 := 4#32
  let v0 : BitVec 32 := Scalar.muli c0_i32 c4_i32
  let c63_i32 : BitVec 32 := 63#32
  let v1 : BitVec 32 := Scalar.minsi v0 c63_i32
  let c0_i32_0 : BitVec 32 := 0#32
  let v2 : BitVec 32 := Scalar.addi v1 c0_i32_0
  let c128_i32 : BitVec 32 := 128#32
  let v3 : BitVec 32 := Scalar.muli v2 c128_i32
  v3
def k0_mult2 : BitVec 32 :=
  let c0_i32 : BitVec 32 := 0#32
  let c4_i32 : BitVec 32 := 4#32
  let v0 : BitVec 32 := Scalar.muli c0_i32 c4_i32
  let c63_i32 : BitVec 32 := 63#32
  let v1 : BitVec 32 := Scalar.minsi v0 c63_i32
  let c1_i32 : BitVec 32 := 1#32
  let v5 : BitVec 32 := Scalar.addi v1 c1_i32
  let c128_i32_1 : BitVec 32 := 128#32
  let v6 : BitVec 32 := Scalar.muli v5 c128_i32_1
  v6
def k0_mult3 : BitVec 32 :=
  let c0_i32 : BitVec 32 := 0#32
  let c4_i32 : BitVec 32 := 4#32
  let v0 : BitVec 32 := Scalar.muli c0_i32 c4_i32
  let c63_i32 : BitVec 32 := 63#32
  let v1 : BitVec 32 := Scalar.minsi v0 c63_i32
  let c2_i32 : BitVec 32 := 2#32
  let v8 : BitVec 32 := Scalar.addi v1 c2_i32
  let c128_i32_2 : BitVec 32 := 128#32
  let v9 : BitVec 32 := Scalar.muli v8 c128_i32_2
  v9
def k0_mult4 : BitVec 32 :=
  let c0_i32 : BitVec 32 := 0#32
  let c4_i32 : BitVec 32 := 4#32
  let v0 : BitVec 32 := Scalar.muli c0_i32 c4_i32
  let c63_i32 : BitVec 32 := 63#32
  let v1 : BitVec 32 := Scalar.minsi v0 c63_i32
  let c3_i32 : BitVec 32 := 3#32
  let v11 : BitVec 32 := Scalar.addi v1 c3_i32
  let c128_i32_3 : BitVec 32 := 128#32
  let v12 : BitVec 32 := Scalar.muli v11 c128_i32_3
  v12
def k0_mult5 : BitVec 32 :=
  let c0_i32 : BitVec 32 := 0#32
  let c4_i32 : BitVec 32 := 4#32
  let v0 : BitVec 32 := Scalar.muli c0_i32 c4_i32
  let c63_i32 : BitVec 32 := 63#32
  let v1 : BitVec 32 := Scalar.minsi v0 c63_i32
  let c0_i32_4 : BitVec 32 := 0#32
  let v14 : BitVec 32 := Scalar.addi v1 c0_i32_4
  let c34_i32 : BitVec 32 := 34#32
  let v15 : BitVec 1 := Scalar.cmpi .slt v14 c34_i32
  let c34_i32_5 : BitVec 32 := 34#32
  let v16 : BitVec 32 := Scalar.subi v14 c34_i32_5
  let v17 : BitVec 32 := Scalar.select v15 v14 v16
  let c128_i32_6 : BitVec 32 := 128#32
  let v18 : BitVec 32 := Scalar.muli v17 c128_i32_6
  v18
def k0_mult6 : BitVec 32 :=
  let c0_i32 : BitVec 32 := 0#32
  let c4_i32 : BitVec 32 := 4#32
  let v0 : BitVec 32 := Scalar.muli c0_i32 c4_i32
  let c63_i32 : BitVec 32 := 63#32
  let v1 : BitVec 32 := Scalar.minsi v0 c63_i32
  let c1_i32_7 : BitVec 32 := 1#32
  let v20 : BitVec 32 := Scalar.addi v1 c1_i32_7
  let c34_i32_8 : BitVec 32 := 34#32
  let v21 : BitVec 1 := Scalar.cmpi .slt v20 c34_i32_8
  let c34_i32_9 : BitVec 32 := 34#32
  let v22 : BitVec 32 := Scalar.subi v20 c34_i32_9
  let v23 : BitVec 32 := Scalar.select v21 v20 v22
  let c128_i32_10 : BitVec 32 := 128#32
  let v24 : BitVec 32 := Scalar.muli v23 c128_i32_10
  v24
def k0_mult7 : BitVec 32 :=
  let c0_i32 : BitVec 32 := 0#32
  let c4_i32 : BitVec 32 := 4#32
  let v0 : BitVec 32 := Scalar.muli c0_i32 c4_i32
  let c63_i32 : BitVec 32 := 63#32
  let v1 : BitVec 32 := Scalar.minsi v0 c63_i32
  let c2_i32_11 : BitVec 32 := 2#32
  let v26 : BitVec 32 := Scalar.addi v1 c2_i32_11
  let c34_i32_12 : BitVec 32 := 34#32
  let v27 : BitVec 1 := Scalar.cmpi .slt v26 c34_i32_12
  let c34_i32_13 : BitVec 32 := 34#32
  let v28 : BitVec 32 := Scalar.subi v26 c34_i32_13
  let v29 : BitVec 32 := Scalar.select v27 v26 v28
  let c128_i32_14 : BitVec 32 := 128#32
  let v30 : BitVec 32 := Scalar.muli v29 c128_i32_14
  v30
def k0_mult8 : BitVec 32 :=
  let c0_i32 : BitVec 32 := 0#32
  let c4_i32 : BitVec 32 := 4#32
  let v0 : BitVec 32 := Scalar.muli c0_i32 c4_i32
  let c63_i32 : BitVec 32 := 63#32
  let v1 : BitVec 32 := Scalar.minsi v0 c63_i32
  let c3_i32_15 : BitVec 32 := 3#32
  let v32 : BitVec 32 := Scalar.addi v1 c3_i32_15
  let c34_i32_16 : BitVec 32 := 34#32
  let v33 : BitVec 1 := Scalar.cmpi .slt v32 c34_i32_16
  let c34_i32_17 : BitVec 32 := 34#32
  let v34 : BitVec 32 := Scalar.subi v32 c34_i32_17
  let v35 : BitVec 32 := Scalar.select v33 v32 v34
  let c128_i32_18 : BitVec 32 := 128#32
  let v36 : BitVec 32 := Scalar.muli v35 c128_i32_18
  v36
def k0_mult9 : BitVec 32 :=
  let c0_i32 : BitVec 32 := 0#32
  let c4_i32 : BitVec 32 := 4#32
  let v0 : BitVec 32 := Scalar.muli c0_i32 c4_i32
  let c63_i32 : BitVec 32 := 63#32
  let v1 : BitVec 32 := Scalar.minsi v0 c63_i32
  let c4_i32_19 : BitVec 32 := 4#32
  let v38 : BitVec 32 := Scalar.addi v1 c4_i32_19
  let c34_i32_20 : BitVec 32 := 34#32
  let v39 : BitVec 1 := Scalar.cmpi .slt v38 c34_i32_20
  let c34_i32_21 : BitVec 32 := 34#32
  let v40 : BitVec 32 := Scalar.subi v38 c34_i32_21
  let v41 : BitVec 32 := Scalar.select v39 v38 v40
  let c128_i32_22 : BitVec 32 := 128#32
  let v42 : BitVec 32 := Scalar.muli v41 c128_i32_22
  v42
def k0_off1 (c0_i32 : BitVec 32) (c0_i32_0 : BitVec 32) : Fin 2 → Nat :=
  let c0_i32_27 : BitVec 32 := 0#32
  let c4_i32 : BitVec 32 := 4#32
  let v0 : BitVec 32 := Scalar.muli c0_i32 c4_i32
  let c63_i32 : BitVec 32 := 63#32
  let v1 : BitVec 32 := Scalar.minsi v0 c63_i32
  let v2 : BitVec 32 := Scalar.addi v1 c0_i32_0
  let c128_i32 : BitVec 32 := 128#32
  let v3 : BitVec 32 := Scalar.muli v2 c128_i32
  let v4 : BitVec 32 := v3
  ![0, v4.toNat]
def k0_off1_at (r : Fin 12) : BitVec 32 × BitVec 32 :=
  if r.val < 6 then
    if r.val < 3 then
      if r.val < 1 then
        (0#32, 0#32)
      else
        if r.val < 2 then
          (0#32, 1#32)
        else
          (0#32, 2#32)
    else
      if r.val < 4 then
        (0#32, 3#32)
      else
        if r.val < 5 then
          (1#32, 0#32)
        else
          (1#32, 1#32)
  else
    if r.val < 9 then
      if r.val < 7 then
        (1#32, 2#32)
      else
        if r.val < 8 then
          (1#32, 3#32)
        else
          (16#32, 0#32)
    else
      if r.val < 10 then
        (16#32, 1#32)
      else
        if r.val < 11 then
          (16#32, 2#32)
        else
          (16#32, 3#32)
def k0_off2 (c0_i32 : BitVec 32) (c0_i32_4 : BitVec 32) : Fin 2 → Nat :=
  let c0_i32_46 : BitVec 32 := 0#32
  let c4_i32 : BitVec 32 := 4#32
  let v0 : BitVec 32 := Scalar.muli c0_i32 c4_i32
  let c63_i32 : BitVec 32 := 63#32
  let v1 : BitVec 32 := Scalar.minsi v0 c63_i32
  let v14 : BitVec 32 := Scalar.addi v1 c0_i32_4
  let c34_i32 : BitVec 32 := 34#32
  let v15 : BitVec 1 := Scalar.cmpi .slt v14 c34_i32
  let c34_i32_5 : BitVec 32 := 34#32
  let v16 : BitVec 32 := Scalar.subi v14 c34_i32_5
  let v17 : BitVec 32 := Scalar.select v15 v14 v16
  let c128_i32_6 : BitVec 32 := 128#32
  let v18 : BitVec 32 := Scalar.muli v17 c128_i32_6
  let v19 : BitVec 32 := v18
  ![0, v19.toNat]
def k0_off2_at (r : Fin 15) : BitVec 32 × BitVec 32 :=
  if r.val < 7 then
    if r.val < 3 then
      if r.val < 1 then
        (0#32, 0#32)
      else
        if r.val < 2 then
          (0#32, 1#32)
        else
          (0#32, 2#32)
    else
      if r.val < 5 then
        if r.val < 4 then
          (0#32, 3#32)
        else
          (0#32, 4#32)
      else
        if r.val < 6 then
          (1#32, 0#32)
        else
          (1#32, 1#32)
  else
    if r.val < 11 then
      if r.val < 9 then
        if r.val < 8 then
          (1#32, 2#32)
        else
          (1#32, 3#32)
      else
        if r.val < 10 then
          (1#32, 4#32)
        else
          (16#32, 0#32)
    else
      if r.val < 13 then
        if r.val < 12 then
          (16#32, 1#32)
        else
          (16#32, 2#32)
      else
        if r.val < 14 then
          (16#32, 3#32)
        else
          (16#32, 4#32)
@[reducible] def k0_t1_loop : Scf.Loop 32 :=
  let c0_i32_69 : BitVec 32 := 0#32
  let c48_i32 : BitVec 32 := 48#32
  let v98 : BitVec 32 := Scalar.addi c0_i32_69 c48_i32
  let c1_i32_70 : BitVec 32 := 1#32
  ⟨c0_i32_69, v98, c1_i32_70⟩
def k0_cond1 (k0_t1 : Fin k0_t1_loop.trips) : BitVec 1 :=
  let c0_i32_69 : BitVec 32 := 0#32
  let c1_i32_70 : BitVec 32 := 1#32
  let arg21 : BitVec 32 := Scf.iv c0_i32_69 c1_i32_70 k0_t1
  let c1_i32_240 : BitVec 32 := 1#32
  let v289 : BitVec 32 := Scalar.addi arg21 c1_i32_240
  let c48_i32_241 : BitVec 32 := 48#32
  let v290 : BitVec 1 := Scalar.cmpi .slt v289 c48_i32_241
  let v291 : BitVec 32 := Scalar.extui v290
  let c0_i32_242 : BitVec 32 := 0#32
  let v292 : BitVec 1 := Scalar.cmpi .ne v291 c0_i32_242
  v292

def k0_off3 (k0_t1 : Fin k0_t1_loop.trips) : Fin 1 → Nat :=
  let c1_i32_779 : BitVec 32 := 1#32
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v1997 : BitVec 32 := Scalar.subi c1_i32_779 v288
  ![v1997.toNat]
def k0_off4 (k0_t1 : Fin k0_t1_loop.trips) : Fin 3 → Nat :=
  let c1_i32_779 : BitVec 32 := 1#32
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v1997 : BitVec 32 := Scalar.subi c1_i32_779 v288
  let c0_i32_781 : BitVec 32 := 0#32
  let c0_i32_782 : BitVec 32 := 0#32
  ![v1997.toNat, 0, 0]
def k0_off5 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c1_i32_778 : BitVec 32 := 1#32
  let v1996 : BitVec 32 := Scalar.addi arg21 c1_i32_778
  let c128_i32_780 : BitVec 32 := 128#32
  let v1998 : BitVec 32 := Scalar.muli v1996 c128_i32_780
  let c0_i32_783 : BitVec 32 := 0#32
  ![v1998.toNat, 0]
def k0_off6 (k0_t1 : Fin k0_t1_loop.trips) : Fin 1 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  ![v288.toNat]
def k0_off7 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let c0_i32_244 : BitVec 32 := 0#32
  let c0_i32_245 : BitVec 32 := 0#32
  ![v288.toNat, 0, 0]
def k0_off8 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_243 : BitVec 32 := 128#32
  let v293 : BitVec 32 := Scalar.muli arg21 c128_i32_243
  let c0_i32_246 : BitVec 32 := 0#32
  ![v293.toNat, 0]
def k0_cond2 (k0_t1 : Fin k0_t1_loop.trips) : BitVec 1 :=
  let c0_i32_69 : BitVec 32 := 0#32
  let c1_i32_70 : BitVec 32 := 1#32
  let arg21 : BitVec 32 := Scf.iv c0_i32_69 c1_i32_70 k0_t1
  let c2_i32_247 : BitVec 32 := 2#32
  let v299 : BitVec 1 := Scalar.cmpi .sge arg21 c2_i32_247
  let v300 : BitVec 32 := Scalar.extui v299
  let c0_i32_248 : BitVec 32 := 0#32
  let v301 : BitVec 1 := Scalar.cmpi .ne v300 c0_i32_248
  v301

def k0_off9 (k0_t1 : Fin k0_t1_loop.trips) : Fin 1 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  ![v288.toNat]
def k0_off10 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c2_i32_778 : BitVec 32 := 2#32
  let v1996 : BitVec 32 := Scalar.subi arg21 c2_i32_778
  let c128_i32_779 : BitVec 32 := 128#32
  let v1997 : BitVec 32 := Scalar.muli v1996 c128_i32_779
  let c0_i32_780 : BitVec 32 := 0#32
  ![v1997.toNat, 0]
def k0_off11 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let c0_i32_781 : BitVec 32 := 0#32
  let c0_i32_782 : BitVec 32 := 0#32
  ![v288.toNat, 0, 0]
def k0_off12 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c2_i32_783 : BitVec 32 := 2#32
  let v2003 : BitVec 32 := Scalar.subi arg21 c2_i32_783
  let c128_i32_784 : BitVec 32 := 128#32
  let v2004 : BitVec 32 := Scalar.muli v2003 c128_i32_784
  let c0_i32_785 : BitVec 32 := 0#32
  ![v2004.toNat, 0]
def k0_off13 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let c0_i32_786 : BitVec 32 := 0#32
  let c0_i32_787 : BitVec 32 := 0#32
  ![v288.toNat, 0, 0]
def k0_mult10 (k0_t1 : Fin k0_t1_loop.trips) : BitVec 32 :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  v303
def k0_off14 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v305 : Index := Scalar.indexCast v288
  let c0_251 : Index := 0#32
  let c0_252 : Index := 0#32
  ![v305.toNat, 0, 0]
def k0_off15 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v358 : Index := Scalar.indexCast v304
  let c0_267 : Index := 0#32
  ![v358.toNat, 0]
def k0_off16 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v367 : Index := Scalar.indexCast v288
  let c0_269 : Index := 0#32
  let c128 : Index := 128#32
  ![v367.toNat, 0, 128]
def k0_off17 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v420 : Index := Scalar.indexCast v304
  let c128_287 : Index := 128#32
  ![v420.toNat, 128]
def k0_off18 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v429 : Index := Scalar.indexCast v288
  let c0_289 : Index := 0#32
  let c256 : Index := 256#32
  ![v429.toNat, 0, 256]
def k0_off19 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v482 : Index := Scalar.indexCast v304
  let c256_307 : Index := 256#32
  ![v482.toNat, 256]
def k0_off20 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v491 : Index := Scalar.indexCast v288
  let c0_309 : Index := 0#32
  let c384 : Index := 384#32
  ![v491.toNat, 0, 384]
def k0_off21 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v544 : Index := Scalar.indexCast v304
  let c384_327 : Index := 384#32
  ![v544.toNat, 384]
def k0_off22 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v553 : Index := Scalar.indexCast v288
  let c0_329 : Index := 0#32
  let c512 : Index := 512#32
  ![v553.toNat, 0, 512]
def k0_off23 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v606 : Index := Scalar.indexCast v304
  let c512_347 : Index := 512#32
  ![v606.toNat, 512]
def k0_off24 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v615 : Index := Scalar.indexCast v288
  let c0_349 : Index := 0#32
  let c640 : Index := 640#32
  ![v615.toNat, 0, 640]
def k0_off25 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v668 : Index := Scalar.indexCast v304
  let c640_367 : Index := 640#32
  ![v668.toNat, 640]
def k0_off26 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v677 : Index := Scalar.indexCast v288
  let c0_368 : Index := 0#32
  let c768 : Index := 768#32
  ![v677.toNat, 0, 768]
def k0_off27 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v730 : Index := Scalar.indexCast v304
  let c768_386 : Index := 768#32
  ![v730.toNat, 768]
def k0_off28 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v739 : Index := Scalar.indexCast v288
  let c0_387 : Index := 0#32
  let c896 : Index := 896#32
  ![v739.toNat, 0, 896]
def k0_off29 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v792 : Index := Scalar.indexCast v304
  let c896_405 : Index := 896#32
  ![v792.toNat, 896]
def k0_off30 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v801 : Index := Scalar.indexCast v288
  let c0_406 : Index := 0#32
  let c1024 : Index := 1024#32
  ![v801.toNat, 0, 1024]
def k0_off31 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v854 : Index := Scalar.indexCast v304
  let c1024_424 : Index := 1024#32
  ![v854.toNat, 1024]
def k0_off32 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v863 : Index := Scalar.indexCast v288
  let c0_425 : Index := 0#32
  let c1152 : Index := 1152#32
  ![v863.toNat, 0, 1152]
def k0_off33 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v916 : Index := Scalar.indexCast v304
  let c1152_443 : Index := 1152#32
  ![v916.toNat, 1152]
def k0_off34 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v925 : Index := Scalar.indexCast v288
  let c0_444 : Index := 0#32
  let c1280 : Index := 1280#32
  ![v925.toNat, 0, 1280]
def k0_off35 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v978 : Index := Scalar.indexCast v304
  let c1280_462 : Index := 1280#32
  ![v978.toNat, 1280]
def k0_off36 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v987 : Index := Scalar.indexCast v288
  let c0_463 : Index := 0#32
  let c1408 : Index := 1408#32
  ![v987.toNat, 0, 1408]
def k0_off37 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v1040 : Index := Scalar.indexCast v304
  let c1408_481 : Index := 1408#32
  ![v1040.toNat, 1408]
def k0_off38 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v1049 : Index := Scalar.indexCast v288
  let c0_482 : Index := 0#32
  let c1536 : Index := 1536#32
  ![v1049.toNat, 0, 1536]
def k0_off39 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v1102 : Index := Scalar.indexCast v304
  let c1536_500 : Index := 1536#32
  ![v1102.toNat, 1536]
def k0_off40 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v1111 : Index := Scalar.indexCast v288
  let c0_501 : Index := 0#32
  let c1664 : Index := 1664#32
  ![v1111.toNat, 0, 1664]
def k0_off41 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v1164 : Index := Scalar.indexCast v304
  let c1664_519 : Index := 1664#32
  ![v1164.toNat, 1664]
def k0_off42 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v1173 : Index := Scalar.indexCast v288
  let c0_520 : Index := 0#32
  let c1792 : Index := 1792#32
  ![v1173.toNat, 0, 1792]
def k0_off43 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v1226 : Index := Scalar.indexCast v304
  let c1792_538 : Index := 1792#32
  ![v1226.toNat, 1792]
def k0_off44 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v1235 : Index := Scalar.indexCast v288
  let c0_539 : Index := 0#32
  let c1920 : Index := 1920#32
  ![v1235.toNat, 0, 1920]
def k0_off45 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v1288 : Index := Scalar.indexCast v304
  let c1920_557 : Index := 1920#32
  ![v1288.toNat, 1920]
def k0_off46 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v1297 : Index := Scalar.indexCast v288
  let c0_558 : Index := 0#32
  let c2048 : Index := 2048#32
  ![v1297.toNat, 0, 2048]
def k0_off47 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v1350 : Index := Scalar.indexCast v304
  let c2048_576 : Index := 2048#32
  ![v1350.toNat, 2048]
def k0_off48 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v1359 : Index := Scalar.indexCast v288
  let c0_577 : Index := 0#32
  let c2176 : Index := 2176#32
  ![v1359.toNat, 0, 2176]
def k0_off49 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v1412 : Index := Scalar.indexCast v304
  let c2176_595 : Index := 2176#32
  ![v1412.toNat, 2176]
def k0_off50 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v1421 : Index := Scalar.indexCast v288
  let c0_596 : Index := 0#32
  let c2304 : Index := 2304#32
  ![v1421.toNat, 0, 2304]
def k0_off51 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v1474 : Index := Scalar.indexCast v304
  let c2304_614 : Index := 2304#32
  ![v1474.toNat, 2304]
def k0_off52 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v1483 : Index := Scalar.indexCast v288
  let c0_615 : Index := 0#32
  let c2432 : Index := 2432#32
  ![v1483.toNat, 0, 2432]
def k0_off53 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v1536 : Index := Scalar.indexCast v304
  let c2432_633 : Index := 2432#32
  ![v1536.toNat, 2432]
def k0_off54 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v1545 : Index := Scalar.indexCast v288
  let c0_634 : Index := 0#32
  let c2560 : Index := 2560#32
  ![v1545.toNat, 0, 2560]
def k0_off55 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v1598 : Index := Scalar.indexCast v304
  let c2560_652 : Index := 2560#32
  ![v1598.toNat, 2560]
def k0_off56 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v1607 : Index := Scalar.indexCast v288
  let c0_653 : Index := 0#32
  let c2688 : Index := 2688#32
  ![v1607.toNat, 0, 2688]
def k0_off57 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v1660 : Index := Scalar.indexCast v304
  let c2688_671 : Index := 2688#32
  ![v1660.toNat, 2688]
def k0_off58 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v1669 : Index := Scalar.indexCast v288
  let c0_672 : Index := 0#32
  let c2816 : Index := 2816#32
  ![v1669.toNat, 0, 2816]
def k0_off59 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v1722 : Index := Scalar.indexCast v304
  let c2816_690 : Index := 2816#32
  ![v1722.toNat, 2816]
def k0_off60 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v1731 : Index := Scalar.indexCast v288
  let c0_691 : Index := 0#32
  let c2944 : Index := 2944#32
  ![v1731.toNat, 0, 2944]
def k0_off61 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v1784 : Index := Scalar.indexCast v304
  let c2944_709 : Index := 2944#32
  ![v1784.toNat, 2944]
def k0_off62 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v1793 : Index := Scalar.indexCast v288
  let c0_711 : Index := 0#32
  let c3072 : Index := 3072#32
  ![v1793.toNat, 0, 3072]
def k0_off63 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v1846 : Index := Scalar.indexCast v304
  let c3072_729 : Index := 3072#32
  ![v1846.toNat, 3072]
def k0_off64 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v1855 : Index := Scalar.indexCast v288
  let c0_730 : Index := 0#32
  let c3200 : Index := 3200#32
  ![v1855.toNat, 0, 3200]
def k0_off65 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v1908 : Index := Scalar.indexCast v304
  let c3200_748 : Index := 3200#32
  ![v1908.toNat, 3200]
def k0_off66 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v1917 : Index := Scalar.indexCast v288
  let c0_749 : Index := 0#32
  let c3328 : Index := 3328#32
  ![v1917.toNat, 0, 3328]
def k0_off67 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_250 : BitVec 32 := 128#32
  let v303 : BitVec 32 := Scalar.muli arg21 c128_i32_250
  let v304 : BitVec 32 := v303
  let v1970 : Index := Scalar.indexCast v304
  let c3328_767 : Index := 3328#32
  ![v1970.toNat, 3328]
def k0_off68 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let v1980 : Index := Scalar.indexCast v288
  let c0_768 : Index := 0#32
  let c0_769 : Index := 0#32
  ![v1980.toNat, 0, 0]
def k0_off69 (k0_t1 : Fin k0_t1_loop.trips) : Fin 2 → Nat :=
  let c0_i32_69 : BitVec 32 := 0#32
  let c1_i32_70 : BitVec 32 := 1#32
  let arg21 : BitVec 32 := Scf.iv c0_i32_69 c1_i32_70 k0_t1
  let c128_i32_774 : BitVec 32 := 128#32
  let v1990 : BitVec 32 := Scalar.muli arg21 c128_i32_774
  let c0_i32_775 : BitVec 32 := 0#32
  ![v1990.toNat, 0]
def k0_off70 (k0_t1 : Fin k0_t1_loop.trips) : Fin 3 → Nat :=
  let c0_i32_69 : BitVec 32 := 0#32
  let c1_i32_70 : BitVec 32 := 1#32
  let arg21 : BitVec 32 := Scf.iv c0_i32_69 c1_i32_70 k0_t1
  let c2_i32_239 : BitVec 32 := 2#32
  let v288 : BitVec 32 := Scalar.remsi arg21 c2_i32_239
  let c0_i32_776 : BitVec 32 := 0#32
  let c0_i32_777 : BitVec 32 := 0#32
  ![v288.toNat, 0, 0]
def k0_mult11 : BitVec 32 :=
  let c0_i32_94 : BitVec 32 := 0#32
  let c4_i32_95 : BitVec 32 := 4#32
  let v119 : BitVec 32 := Scalar.muli c0_i32_94 c4_i32_95
  let c63_i32_96 : BitVec 32 := 63#32
  let v120 : BitVec 32 := Scalar.minsi v119 c63_i32_96
  let c0_i32_97 : BitVec 32 := 0#32
  let v121 : BitVec 32 := Scalar.addi v120 c0_i32_97
  let c128_i32_98 : BitVec 32 := 128#32
  let v122 : BitVec 32 := Scalar.muli v121 c128_i32_98
  v122
def k0_mult12 : BitVec 32 :=
  let c0_i32_94 : BitVec 32 := 0#32
  let c4_i32_95 : BitVec 32 := 4#32
  let v119 : BitVec 32 := Scalar.muli c0_i32_94 c4_i32_95
  let c63_i32_96 : BitVec 32 := 63#32
  let v120 : BitVec 32 := Scalar.minsi v119 c63_i32_96
  let c1_i32_99 : BitVec 32 := 1#32
  let v124 : BitVec 32 := Scalar.addi v120 c1_i32_99
  let c128_i32_100 : BitVec 32 := 128#32
  let v125 : BitVec 32 := Scalar.muli v124 c128_i32_100
  v125
def k0_mult13 : BitVec 32 :=
  let c0_i32_94 : BitVec 32 := 0#32
  let c4_i32_95 : BitVec 32 := 4#32
  let v119 : BitVec 32 := Scalar.muli c0_i32_94 c4_i32_95
  let c63_i32_96 : BitVec 32 := 63#32
  let v120 : BitVec 32 := Scalar.minsi v119 c63_i32_96
  let c2_i32_101 : BitVec 32 := 2#32
  let v127 : BitVec 32 := Scalar.addi v120 c2_i32_101
  let c128_i32_102 : BitVec 32 := 128#32
  let v128 : BitVec 32 := Scalar.muli v127 c128_i32_102
  v128
def k0_mult14 : BitVec 32 :=
  let c0_i32_94 : BitVec 32 := 0#32
  let c4_i32_95 : BitVec 32 := 4#32
  let v119 : BitVec 32 := Scalar.muli c0_i32_94 c4_i32_95
  let c63_i32_96 : BitVec 32 := 63#32
  let v120 : BitVec 32 := Scalar.minsi v119 c63_i32_96
  let c3_i32_103 : BitVec 32 := 3#32
  let v130 : BitVec 32 := Scalar.addi v120 c3_i32_103
  let c128_i32_104 : BitVec 32 := 128#32
  let v131 : BitVec 32 := Scalar.muli v130 c128_i32_104
  v131
def k0_mult15 : BitVec 32 :=
  let c0_i32_94 : BitVec 32 := 0#32
  let c4_i32_95 : BitVec 32 := 4#32
  let v119 : BitVec 32 := Scalar.muli c0_i32_94 c4_i32_95
  let c63_i32_96 : BitVec 32 := 63#32
  let v120 : BitVec 32 := Scalar.minsi v119 c63_i32_96
  let c0_i32_105 : BitVec 32 := 0#32
  let v133 : BitVec 32 := Scalar.addi v120 c0_i32_105
  let c34_i32_106 : BitVec 32 := 34#32
  let v134 : BitVec 1 := Scalar.cmpi .slt v133 c34_i32_106
  let c34_i32_107 : BitVec 32 := 34#32
  let v135 : BitVec 32 := Scalar.subi v133 c34_i32_107
  let v136 : BitVec 32 := Scalar.select v134 v133 v135
  let c128_i32_108 : BitVec 32 := 128#32
  let v137 : BitVec 32 := Scalar.muli v136 c128_i32_108
  v137
def k0_mult16 : BitVec 32 :=
  let c0_i32_94 : BitVec 32 := 0#32
  let c4_i32_95 : BitVec 32 := 4#32
  let v119 : BitVec 32 := Scalar.muli c0_i32_94 c4_i32_95
  let c63_i32_96 : BitVec 32 := 63#32
  let v120 : BitVec 32 := Scalar.minsi v119 c63_i32_96
  let c1_i32_109 : BitVec 32 := 1#32
  let v139 : BitVec 32 := Scalar.addi v120 c1_i32_109
  let c34_i32_110 : BitVec 32 := 34#32
  let v140 : BitVec 1 := Scalar.cmpi .slt v139 c34_i32_110
  let c34_i32_111 : BitVec 32 := 34#32
  let v141 : BitVec 32 := Scalar.subi v139 c34_i32_111
  let v142 : BitVec 32 := Scalar.select v140 v139 v141
  let c128_i32_112 : BitVec 32 := 128#32
  let v143 : BitVec 32 := Scalar.muli v142 c128_i32_112
  v143
def k0_mult17 : BitVec 32 :=
  let c0_i32_94 : BitVec 32 := 0#32
  let c4_i32_95 : BitVec 32 := 4#32
  let v119 : BitVec 32 := Scalar.muli c0_i32_94 c4_i32_95
  let c63_i32_96 : BitVec 32 := 63#32
  let v120 : BitVec 32 := Scalar.minsi v119 c63_i32_96
  let c2_i32_113 : BitVec 32 := 2#32
  let v145 : BitVec 32 := Scalar.addi v120 c2_i32_113
  let c34_i32_114 : BitVec 32 := 34#32
  let v146 : BitVec 1 := Scalar.cmpi .slt v145 c34_i32_114
  let c34_i32_115 : BitVec 32 := 34#32
  let v147 : BitVec 32 := Scalar.subi v145 c34_i32_115
  let v148 : BitVec 32 := Scalar.select v146 v145 v147
  let c128_i32_116 : BitVec 32 := 128#32
  let v149 : BitVec 32 := Scalar.muli v148 c128_i32_116
  v149
def k0_mult18 : BitVec 32 :=
  let c0_i32_94 : BitVec 32 := 0#32
  let c4_i32_95 : BitVec 32 := 4#32
  let v119 : BitVec 32 := Scalar.muli c0_i32_94 c4_i32_95
  let c63_i32_96 : BitVec 32 := 63#32
  let v120 : BitVec 32 := Scalar.minsi v119 c63_i32_96
  let c3_i32_117 : BitVec 32 := 3#32
  let v151 : BitVec 32 := Scalar.addi v120 c3_i32_117
  let c34_i32_118 : BitVec 32 := 34#32
  let v152 : BitVec 1 := Scalar.cmpi .slt v151 c34_i32_118
  let c34_i32_119 : BitVec 32 := 34#32
  let v153 : BitVec 32 := Scalar.subi v151 c34_i32_119
  let v154 : BitVec 32 := Scalar.select v152 v151 v153
  let c128_i32_120 : BitVec 32 := 128#32
  let v155 : BitVec 32 := Scalar.muli v154 c128_i32_120
  v155
def k0_mult19 : BitVec 32 :=
  let c0_i32_94 : BitVec 32 := 0#32
  let c4_i32_95 : BitVec 32 := 4#32
  let v119 : BitVec 32 := Scalar.muli c0_i32_94 c4_i32_95
  let c63_i32_96 : BitVec 32 := 63#32
  let v120 : BitVec 32 := Scalar.minsi v119 c63_i32_96
  let c4_i32_121 : BitVec 32 := 4#32
  let v157 : BitVec 32 := Scalar.addi v120 c4_i32_121
  let c34_i32_122 : BitVec 32 := 34#32
  let v158 : BitVec 1 := Scalar.cmpi .slt v157 c34_i32_122
  let c34_i32_123 : BitVec 32 := 34#32
  let v159 : BitVec 32 := Scalar.subi v157 c34_i32_123
  let v160 : BitVec 32 := Scalar.select v158 v157 v159
  let c128_i32_124 : BitVec 32 := 128#32
  let v161 : BitVec 32 := Scalar.muli v160 c128_i32_124
  v161
@[reducible] def k0_t2_loop : Scf.Loop 32 :=
  let c0_i32_165 : BitVec 32 := 0#32
  let c27_i32 : BitVec 32 := 27#32
  let v203 : BitVec 32 := Scalar.addi c0_i32_165 c27_i32
  let c1_i32_166 : BitVec 32 := 1#32
  ⟨c0_i32_165, v203, c1_i32_166⟩
def k0_mult20 (k0_t2 : Fin k0_t2_loop.trips) : BitVec 32 :=
  let c0_i32_165 : BitVec 32 := 0#32
  let c1_i32_166 : BitVec 32 := 1#32
  let arg21 : BitVec 32 := Scf.iv c0_i32_165 c1_i32_166 k0_t2
  let c128_i32_239 : BitVec 32 := 128#32
  let v288 : BitVec 32 := Scalar.muli arg21 c128_i32_239
  v288
def k0_off71 (k0_t2 : Fin k0_t2_loop.trips) : Fin 2 → Nat :=
  let c0_i32_165 : BitVec 32 := 0#32
  let c1_i32_166 : BitVec 32 := 1#32
  let arg21 : BitVec 32 := Scf.iv c0_i32_165 c1_i32_166 k0_t2
  let c128_i32_239 : BitVec 32 := 128#32
  let v288 : BitVec 32 := Scalar.muli arg21 c128_i32_239
  let v289 : BitVec 32 := v288
  let v294 : Index := Scalar.indexCast v289
  let c0_244 : Index := 0#32
  ![v294.toNat, 0]
def k0_off72 (k0_t2 : Fin k0_t2_loop.trips) : Fin 2 → Nat :=
  let c0_i32_165 : BitVec 32 := 0#32
  let c1_i32_166 : BitVec 32 := 1#32
  let arg21 : BitVec 32 := Scf.iv c0_i32_165 c1_i32_166 k0_t2
  let c128_i32_239 : BitVec 32 := 128#32
  let v288 : BitVec 32 := Scalar.muli arg21 c128_i32_239
  let v289 : BitVec 32 := v288
  let v297 : Index := Scalar.indexCast v289
  let c128 : Index := 128#32
  ![v297.toNat, 128]
def k0_off73 (k0_t2 : Fin k0_t2_loop.trips) : Fin 2 → Nat :=
  let c0_i32_165 : BitVec 32 := 0#32
  let c1_i32_166 : BitVec 32 := 1#32
  let arg21 : BitVec 32 := Scf.iv c0_i32_165 c1_i32_166 k0_t2
  let c128_i32_239 : BitVec 32 := 128#32
  let v288 : BitVec 32 := Scalar.muli arg21 c128_i32_239
  let v289 : BitVec 32 := v288
  let v300 : Index := Scalar.indexCast v289
  let c256 : Index := 256#32
  ![v300.toNat, 256]
def k0_off74 (k0_t2 : Fin k0_t2_loop.trips) : Fin 2 → Nat :=
  let c0_i32_165 : BitVec 32 := 0#32
  let c1_i32_166 : BitVec 32 := 1#32
  let arg21 : BitVec 32 := Scf.iv c0_i32_165 c1_i32_166 k0_t2
  let c128_i32_239 : BitVec 32 := 128#32
  let v288 : BitVec 32 := Scalar.muli arg21 c128_i32_239
  let v289 : BitVec 32 := v288
  let v303 : Index := Scalar.indexCast v289
  let c384 : Index := 384#32
  ![v303.toNat, 384]
def k0_off75 (k0_t2 : Fin k0_t2_loop.trips) : Fin 2 → Nat :=
  let c0_i32_165 : BitVec 32 := 0#32
  let c1_i32_166 : BitVec 32 := 1#32
  let arg21 : BitVec 32 := Scf.iv c0_i32_165 c1_i32_166 k0_t2
  let c128_i32_239 : BitVec 32 := 128#32
  let v288 : BitVec 32 := Scalar.muli arg21 c128_i32_239
  let v289 : BitVec 32 := v288
  let v306 : Index := Scalar.indexCast v289
  let c512 : Index := 512#32
  ![v306.toNat, 512]
def k0_off76 (k0_t2 : Fin k0_t2_loop.trips) : Fin 3 → Nat :=
  let c0_253 : Index := 0#32
  let c0_i32_165 : BitVec 32 := 0#32
  let c1_i32_166 : BitVec 32 := 1#32
  let arg21 : BitVec 32 := Scf.iv c0_i32_165 c1_i32_166 k0_t2
  let v332 : Index := Scalar.indexCast arg21
  let c0_254 : Index := 0#32
  ![0, v332.toNat, 0]
def k0_off77 (k0_t2 : Fin k0_t2_loop.trips) : Fin 2 → Nat :=
  let c0_i32_165 : BitVec 32 := 0#32
  let c1_i32_166 : BitVec 32 := 1#32
  let arg21 : BitVec 32 := Scf.iv c0_i32_165 c1_i32_166 k0_t2
  let c128_i32_239 : BitVec 32 := 128#32
  let v288 : BitVec 32 := Scalar.muli arg21 c128_i32_239
  let v289 : BitVec 32 := v288
  let v338 : Index := Scalar.indexCast v289
  let c0_255 : Index := 0#32
  ![v338.toNat, 0]
def k0_off78 (k0_t2 : Fin k0_t2_loop.trips) : Fin 3 → Nat :=
  let c1 : Index := 1#32
  let c0_i32_165 : BitVec 32 := 0#32
  let c1_i32_166 : BitVec 32 := 1#32
  let arg21 : BitVec 32 := Scf.iv c0_i32_165 c1_i32_166 k0_t2
  let v360 : Index := Scalar.indexCast arg21
  let c0_263 : Index := 0#32
  ![1, v360.toNat, 0]
def k0_off79 (k0_t2 : Fin k0_t2_loop.trips) : Fin 2 → Nat :=
  let c0_i32_165 : BitVec 32 := 0#32
  let c1_i32_166 : BitVec 32 := 1#32
  let arg21 : BitVec 32 := Scf.iv c0_i32_165 c1_i32_166 k0_t2
  let c128_i32_239 : BitVec 32 := 128#32
  let v288 : BitVec 32 := Scalar.muli arg21 c128_i32_239
  let v289 : BitVec 32 := v288
  let v366 : Index := Scalar.indexCast v289
  let c128_264 : Index := 128#32
  ![v366.toNat, 128]
def k0_off80 (k0_t2 : Fin k0_t2_loop.trips) : Fin 3 → Nat :=
  let c2 : Index := 2#32
  let c0_i32_165 : BitVec 32 := 0#32
  let c1_i32_166 : BitVec 32 := 1#32
  let arg21 : BitVec 32 := Scf.iv c0_i32_165 c1_i32_166 k0_t2
  let v388 : Index := Scalar.indexCast arg21
  let c0_272 : Index := 0#32
  ![2, v388.toNat, 0]
def k0_off81 (k0_t2 : Fin k0_t2_loop.trips) : Fin 2 → Nat :=
  let c0_i32_165 : BitVec 32 := 0#32
  let c1_i32_166 : BitVec 32 := 1#32
  let arg21 : BitVec 32 := Scf.iv c0_i32_165 c1_i32_166 k0_t2
  let c128_i32_239 : BitVec 32 := 128#32
  let v288 : BitVec 32 := Scalar.muli arg21 c128_i32_239
  let v289 : BitVec 32 := v288
  let v394 : Index := Scalar.indexCast v289
  let c256_273 : Index := 256#32
  ![v394.toNat, 256]
def k0_off82 (k0_t2 : Fin k0_t2_loop.trips) : Fin 3 → Nat :=
  let c3 : Index := 3#32
  let c0_i32_165 : BitVec 32 := 0#32
  let c1_i32_166 : BitVec 32 := 1#32
  let arg21 : BitVec 32 := Scf.iv c0_i32_165 c1_i32_166 k0_t2
  let v416 : Index := Scalar.indexCast arg21
  let c0_281 : Index := 0#32
  ![3, v416.toNat, 0]
def k0_off83 (k0_t2 : Fin k0_t2_loop.trips) : Fin 2 → Nat :=
  let c0_i32_165 : BitVec 32 := 0#32
  let c1_i32_166 : BitVec 32 := 1#32
  let arg21 : BitVec 32 := Scf.iv c0_i32_165 c1_i32_166 k0_t2
  let c128_i32_239 : BitVec 32 := 128#32
  let v288 : BitVec 32 := Scalar.muli arg21 c128_i32_239
  let v289 : BitVec 32 := v288
  let v422 : Index := Scalar.indexCast v289
  let c384_282 : Index := 384#32
  ![v422.toNat, 384]
def k0_mult21 : BitVec 32 :=
  let c1_i32_168 : BitVec 32 := 1#32
  let c4_i32_169 : BitVec 32 := 4#32
  let v204 : BitVec 32 := Scalar.muli c1_i32_168 c4_i32_169
  let c63_i32_170 : BitVec 32 := 63#32
  let v205 : BitVec 32 := Scalar.minsi v204 c63_i32_170
  let c0_i32_171 : BitVec 32 := 0#32
  let v206 : BitVec 32 := Scalar.addi v205 c0_i32_171
  let c128_i32_172 : BitVec 32 := 128#32
  let v207 : BitVec 32 := Scalar.muli v206 c128_i32_172
  v207
def k0_mult22 : BitVec 32 :=
  let c1_i32_168 : BitVec 32 := 1#32
  let c4_i32_169 : BitVec 32 := 4#32
  let v204 : BitVec 32 := Scalar.muli c1_i32_168 c4_i32_169
  let c63_i32_170 : BitVec 32 := 63#32
  let v205 : BitVec 32 := Scalar.minsi v204 c63_i32_170
  let c1_i32_173 : BitVec 32 := 1#32
  let v209 : BitVec 32 := Scalar.addi v205 c1_i32_173
  let c128_i32_174 : BitVec 32 := 128#32
  let v210 : BitVec 32 := Scalar.muli v209 c128_i32_174
  v210
def k0_mult23 : BitVec 32 :=
  let c1_i32_168 : BitVec 32 := 1#32
  let c4_i32_169 : BitVec 32 := 4#32
  let v204 : BitVec 32 := Scalar.muli c1_i32_168 c4_i32_169
  let c63_i32_170 : BitVec 32 := 63#32
  let v205 : BitVec 32 := Scalar.minsi v204 c63_i32_170
  let c2_i32_175 : BitVec 32 := 2#32
  let v212 : BitVec 32 := Scalar.addi v205 c2_i32_175
  let c128_i32_176 : BitVec 32 := 128#32
  let v213 : BitVec 32 := Scalar.muli v212 c128_i32_176
  v213
def k0_mult24 : BitVec 32 :=
  let c1_i32_168 : BitVec 32 := 1#32
  let c4_i32_169 : BitVec 32 := 4#32
  let v204 : BitVec 32 := Scalar.muli c1_i32_168 c4_i32_169
  let c63_i32_170 : BitVec 32 := 63#32
  let v205 : BitVec 32 := Scalar.minsi v204 c63_i32_170
  let c3_i32_177 : BitVec 32 := 3#32
  let v215 : BitVec 32 := Scalar.addi v205 c3_i32_177
  let c128_i32_178 : BitVec 32 := 128#32
  let v216 : BitVec 32 := Scalar.muli v215 c128_i32_178
  v216
def k0_mult25 : BitVec 32 :=
  let c1_i32_168 : BitVec 32 := 1#32
  let c4_i32_169 : BitVec 32 := 4#32
  let v204 : BitVec 32 := Scalar.muli c1_i32_168 c4_i32_169
  let c63_i32_170 : BitVec 32 := 63#32
  let v205 : BitVec 32 := Scalar.minsi v204 c63_i32_170
  let c0_i32_179 : BitVec 32 := 0#32
  let v218 : BitVec 32 := Scalar.addi v205 c0_i32_179
  let c34_i32_180 : BitVec 32 := 34#32
  let v219 : BitVec 1 := Scalar.cmpi .slt v218 c34_i32_180
  let c34_i32_181 : BitVec 32 := 34#32
  let v220 : BitVec 32 := Scalar.subi v218 c34_i32_181
  let v221 : BitVec 32 := Scalar.select v219 v218 v220
  let c128_i32_182 : BitVec 32 := 128#32
  let v222 : BitVec 32 := Scalar.muli v221 c128_i32_182
  v222
def k0_mult26 : BitVec 32 :=
  let c1_i32_168 : BitVec 32 := 1#32
  let c4_i32_169 : BitVec 32 := 4#32
  let v204 : BitVec 32 := Scalar.muli c1_i32_168 c4_i32_169
  let c63_i32_170 : BitVec 32 := 63#32
  let v205 : BitVec 32 := Scalar.minsi v204 c63_i32_170
  let c1_i32_183 : BitVec 32 := 1#32
  let v224 : BitVec 32 := Scalar.addi v205 c1_i32_183
  let c34_i32_184 : BitVec 32 := 34#32
  let v225 : BitVec 1 := Scalar.cmpi .slt v224 c34_i32_184
  let c34_i32_185 : BitVec 32 := 34#32
  let v226 : BitVec 32 := Scalar.subi v224 c34_i32_185
  let v227 : BitVec 32 := Scalar.select v225 v224 v226
  let c128_i32_186 : BitVec 32 := 128#32
  let v228 : BitVec 32 := Scalar.muli v227 c128_i32_186
  v228
def k0_mult27 : BitVec 32 :=
  let c1_i32_168 : BitVec 32 := 1#32
  let c4_i32_169 : BitVec 32 := 4#32
  let v204 : BitVec 32 := Scalar.muli c1_i32_168 c4_i32_169
  let c63_i32_170 : BitVec 32 := 63#32
  let v205 : BitVec 32 := Scalar.minsi v204 c63_i32_170
  let c2_i32_187 : BitVec 32 := 2#32
  let v230 : BitVec 32 := Scalar.addi v205 c2_i32_187
  let c34_i32_188 : BitVec 32 := 34#32
  let v231 : BitVec 1 := Scalar.cmpi .slt v230 c34_i32_188
  let c34_i32_189 : BitVec 32 := 34#32
  let v232 : BitVec 32 := Scalar.subi v230 c34_i32_189
  let v233 : BitVec 32 := Scalar.select v231 v230 v232
  let c128_i32_190 : BitVec 32 := 128#32
  let v234 : BitVec 32 := Scalar.muli v233 c128_i32_190
  v234
def k0_mult28 : BitVec 32 :=
  let c1_i32_168 : BitVec 32 := 1#32
  let c4_i32_169 : BitVec 32 := 4#32
  let v204 : BitVec 32 := Scalar.muli c1_i32_168 c4_i32_169
  let c63_i32_170 : BitVec 32 := 63#32
  let v205 : BitVec 32 := Scalar.minsi v204 c63_i32_170
  let c3_i32_191 : BitVec 32 := 3#32
  let v236 : BitVec 32 := Scalar.addi v205 c3_i32_191
  let c34_i32_192 : BitVec 32 := 34#32
  let v237 : BitVec 1 := Scalar.cmpi .slt v236 c34_i32_192
  let c34_i32_193 : BitVec 32 := 34#32
  let v238 : BitVec 32 := Scalar.subi v236 c34_i32_193
  let v239 : BitVec 32 := Scalar.select v237 v236 v238
  let c128_i32_194 : BitVec 32 := 128#32
  let v240 : BitVec 32 := Scalar.muli v239 c128_i32_194
  v240
def k0_mult29 : BitVec 32 :=
  let c1_i32_168 : BitVec 32 := 1#32
  let c4_i32_169 : BitVec 32 := 4#32
  let v204 : BitVec 32 := Scalar.muli c1_i32_168 c4_i32_169
  let c63_i32_170 : BitVec 32 := 63#32
  let v205 : BitVec 32 := Scalar.minsi v204 c63_i32_170
  let c4_i32_195 : BitVec 32 := 4#32
  let v242 : BitVec 32 := Scalar.addi v205 c4_i32_195
  let c34_i32_196 : BitVec 32 := 34#32
  let v243 : BitVec 1 := Scalar.cmpi .slt v242 c34_i32_196
  let c34_i32_197 : BitVec 32 := 34#32
  let v244 : BitVec 32 := Scalar.subi v242 c34_i32_197
  let v245 : BitVec 32 := Scalar.select v243 v242 v244
  let c128_i32_198 : BitVec 32 := 128#32
  let v246 : BitVec 32 := Scalar.muli v245 c128_i32_198
  v246
def k0_mult30 : BitVec 32 :=
  let c0_i32_242_r0 : BitVec 32 := 0#32
  c0_i32_242_r0
def k0_mult31 : BitVec 32 :=
  let c0_i32_248_r0 : BitVec 32 := 0#32
  c0_i32_248_r0
def k0_mult32 : BitVec 32 :=
  let c0_i32_253_r0 : BitVec 32 := 0#32
  let c1_i32_254_r0 : BitVec 32 := 1#32
  let v304_r0 : BitVec 32 := Scalar.addi c0_i32_253_r0 c1_i32_254_r0
  let c4_i32_255_r0 : BitVec 32 := 4#32
  let v305_r0 : BitVec 32 := Scalar.muli v304_r0 c4_i32_255_r0
  let c63_i32_256_r0 : BitVec 32 := 63#32
  let v306_r0 : BitVec 32 := Scalar.minsi v305_r0 c63_i32_256_r0
  let c0_i32_257_r0 : BitVec 32 := 0#32
  let v307_r0 : BitVec 32 := Scalar.addi v306_r0 c0_i32_257_r0
  let c128_i32_258_r0 : BitVec 32 := 128#32
  let v308_r0 : BitVec 32 := Scalar.muli v307_r0 c128_i32_258_r0
  v308_r0
def k0_mult33 : BitVec 32 :=
  let c0_i32_253_r0 : BitVec 32 := 0#32
  let c1_i32_254_r0 : BitVec 32 := 1#32
  let v304_r0 : BitVec 32 := Scalar.addi c0_i32_253_r0 c1_i32_254_r0
  let c4_i32_255_r0 : BitVec 32 := 4#32
  let v305_r0 : BitVec 32 := Scalar.muli v304_r0 c4_i32_255_r0
  let c63_i32_256_r0 : BitVec 32 := 63#32
  let v306_r0 : BitVec 32 := Scalar.minsi v305_r0 c63_i32_256_r0
  let c1_i32_259_r0 : BitVec 32 := 1#32
  let v310_r0 : BitVec 32 := Scalar.addi v306_r0 c1_i32_259_r0
  let c128_i32_260_r0 : BitVec 32 := 128#32
  let v311_r0 : BitVec 32 := Scalar.muli v310_r0 c128_i32_260_r0
  v311_r0
def k0_mult34 : BitVec 32 :=
  let c0_i32_253_r0 : BitVec 32 := 0#32
  let c1_i32_254_r0 : BitVec 32 := 1#32
  let v304_r0 : BitVec 32 := Scalar.addi c0_i32_253_r0 c1_i32_254_r0
  let c4_i32_255_r0 : BitVec 32 := 4#32
  let v305_r0 : BitVec 32 := Scalar.muli v304_r0 c4_i32_255_r0
  let c63_i32_256_r0 : BitVec 32 := 63#32
  let v306_r0 : BitVec 32 := Scalar.minsi v305_r0 c63_i32_256_r0
  let c2_i32_261_r0 : BitVec 32 := 2#32
  let v313_r0 : BitVec 32 := Scalar.addi v306_r0 c2_i32_261_r0
  let c128_i32_262_r0 : BitVec 32 := 128#32
  let v314_r0 : BitVec 32 := Scalar.muli v313_r0 c128_i32_262_r0
  v314_r0
def k0_mult35 : BitVec 32 :=
  let c0_i32_253_r0 : BitVec 32 := 0#32
  let c1_i32_254_r0 : BitVec 32 := 1#32
  let v304_r0 : BitVec 32 := Scalar.addi c0_i32_253_r0 c1_i32_254_r0
  let c4_i32_255_r0 : BitVec 32 := 4#32
  let v305_r0 : BitVec 32 := Scalar.muli v304_r0 c4_i32_255_r0
  let c63_i32_256_r0 : BitVec 32 := 63#32
  let v306_r0 : BitVec 32 := Scalar.minsi v305_r0 c63_i32_256_r0
  let c3_i32_263_r0 : BitVec 32 := 3#32
  let v316_r0 : BitVec 32 := Scalar.addi v306_r0 c3_i32_263_r0
  let c128_i32_264_r0 : BitVec 32 := 128#32
  let v317_r0 : BitVec 32 := Scalar.muli v316_r0 c128_i32_264_r0
  v317_r0
def k0_mult36 : BitVec 32 :=
  let c0_i32_253_r0 : BitVec 32 := 0#32
  let c1_i32_254_r0 : BitVec 32 := 1#32
  let v304_r0 : BitVec 32 := Scalar.addi c0_i32_253_r0 c1_i32_254_r0
  let c4_i32_255_r0 : BitVec 32 := 4#32
  let v305_r0 : BitVec 32 := Scalar.muli v304_r0 c4_i32_255_r0
  let c63_i32_256_r0 : BitVec 32 := 63#32
  let v306_r0 : BitVec 32 := Scalar.minsi v305_r0 c63_i32_256_r0
  let c0_i32_265_r0 : BitVec 32 := 0#32
  let v319_r0 : BitVec 32 := Scalar.addi v306_r0 c0_i32_265_r0
  let c34_i32_266_r0 : BitVec 32 := 34#32
  let v320_r0 : BitVec 1 := Scalar.cmpi .slt v319_r0 c34_i32_266_r0
  let c34_i32_267_r0 : BitVec 32 := 34#32
  let v321_r0 : BitVec 32 := Scalar.subi v319_r0 c34_i32_267_r0
  let v322_r0 : BitVec 32 := Scalar.select v320_r0 v319_r0 v321_r0
  let c128_i32_268_r0 : BitVec 32 := 128#32
  let v323_r0 : BitVec 32 := Scalar.muli v322_r0 c128_i32_268_r0
  v323_r0
def k0_mult37 : BitVec 32 :=
  let c0_i32_253_r0 : BitVec 32 := 0#32
  let c1_i32_254_r0 : BitVec 32 := 1#32
  let v304_r0 : BitVec 32 := Scalar.addi c0_i32_253_r0 c1_i32_254_r0
  let c4_i32_255_r0 : BitVec 32 := 4#32
  let v305_r0 : BitVec 32 := Scalar.muli v304_r0 c4_i32_255_r0
  let c63_i32_256_r0 : BitVec 32 := 63#32
  let v306_r0 : BitVec 32 := Scalar.minsi v305_r0 c63_i32_256_r0
  let c1_i32_269_r0 : BitVec 32 := 1#32
  let v325_r0 : BitVec 32 := Scalar.addi v306_r0 c1_i32_269_r0
  let c34_i32_270_r0 : BitVec 32 := 34#32
  let v326_r0 : BitVec 1 := Scalar.cmpi .slt v325_r0 c34_i32_270_r0
  let c34_i32_271_r0 : BitVec 32 := 34#32
  let v327_r0 : BitVec 32 := Scalar.subi v325_r0 c34_i32_271_r0
  let v328_r0 : BitVec 32 := Scalar.select v326_r0 v325_r0 v327_r0
  let c128_i32_272_r0 : BitVec 32 := 128#32
  let v329_r0 : BitVec 32 := Scalar.muli v328_r0 c128_i32_272_r0
  v329_r0
def k0_mult38 : BitVec 32 :=
  let c0_i32_253_r0 : BitVec 32 := 0#32
  let c1_i32_254_r0 : BitVec 32 := 1#32
  let v304_r0 : BitVec 32 := Scalar.addi c0_i32_253_r0 c1_i32_254_r0
  let c4_i32_255_r0 : BitVec 32 := 4#32
  let v305_r0 : BitVec 32 := Scalar.muli v304_r0 c4_i32_255_r0
  let c63_i32_256_r0 : BitVec 32 := 63#32
  let v306_r0 : BitVec 32 := Scalar.minsi v305_r0 c63_i32_256_r0
  let c2_i32_273_r0 : BitVec 32 := 2#32
  let v331_r0 : BitVec 32 := Scalar.addi v306_r0 c2_i32_273_r0
  let c34_i32_274_r0 : BitVec 32 := 34#32
  let v332_r0 : BitVec 1 := Scalar.cmpi .slt v331_r0 c34_i32_274_r0
  let c34_i32_275_r0 : BitVec 32 := 34#32
  let v333_r0 : BitVec 32 := Scalar.subi v331_r0 c34_i32_275_r0
  let v334_r0 : BitVec 32 := Scalar.select v332_r0 v331_r0 v333_r0
  let c128_i32_276_r0 : BitVec 32 := 128#32
  let v335_r0 : BitVec 32 := Scalar.muli v334_r0 c128_i32_276_r0
  v335_r0
def k0_mult39 : BitVec 32 :=
  let c0_i32_253_r0 : BitVec 32 := 0#32
  let c1_i32_254_r0 : BitVec 32 := 1#32
  let v304_r0 : BitVec 32 := Scalar.addi c0_i32_253_r0 c1_i32_254_r0
  let c4_i32_255_r0 : BitVec 32 := 4#32
  let v305_r0 : BitVec 32 := Scalar.muli v304_r0 c4_i32_255_r0
  let c63_i32_256_r0 : BitVec 32 := 63#32
  let v306_r0 : BitVec 32 := Scalar.minsi v305_r0 c63_i32_256_r0
  let c3_i32_277_r0 : BitVec 32 := 3#32
  let v337_r0 : BitVec 32 := Scalar.addi v306_r0 c3_i32_277_r0
  let c34_i32_278_r0 : BitVec 32 := 34#32
  let v338_r0 : BitVec 1 := Scalar.cmpi .slt v337_r0 c34_i32_278_r0
  let c34_i32_279_r0 : BitVec 32 := 34#32
  let v339_r0 : BitVec 32 := Scalar.subi v337_r0 c34_i32_279_r0
  let v340_r0 : BitVec 32 := Scalar.select v338_r0 v337_r0 v339_r0
  let c128_i32_280_r0 : BitVec 32 := 128#32
  let v341_r0 : BitVec 32 := Scalar.muli v340_r0 c128_i32_280_r0
  v341_r0
def k0_mult40 : BitVec 32 :=
  let c0_i32_253_r0 : BitVec 32 := 0#32
  let c1_i32_254_r0 : BitVec 32 := 1#32
  let v304_r0 : BitVec 32 := Scalar.addi c0_i32_253_r0 c1_i32_254_r0
  let c4_i32_255_r0 : BitVec 32 := 4#32
  let v305_r0 : BitVec 32 := Scalar.muli v304_r0 c4_i32_255_r0
  let c63_i32_256_r0 : BitVec 32 := 63#32
  let v306_r0 : BitVec 32 := Scalar.minsi v305_r0 c63_i32_256_r0
  let c4_i32_281_r0 : BitVec 32 := 4#32
  let v343_r0 : BitVec 32 := Scalar.addi v306_r0 c4_i32_281_r0
  let c34_i32_282_r0 : BitVec 32 := 34#32
  let v344_r0 : BitVec 1 := Scalar.cmpi .slt v343_r0 c34_i32_282_r0
  let c34_i32_283_r0 : BitVec 32 := 34#32
  let v345_r0 : BitVec 32 := Scalar.subi v343_r0 c34_i32_283_r0
  let v346_r0 : BitVec 32 := Scalar.select v344_r0 v343_r0 v345_r0
  let c128_i32_284_r0 : BitVec 32 := 128#32
  let v347_r0 : BitVec 32 := Scalar.muli v346_r0 c128_i32_284_r0
  v347_r0
def k0_off84 (c0_i32_257_r0 : BitVec 32) : Fin 2 → Nat :=
  let c0_i32_289_r0 : BitVec 32 := 0#32
  let c0_i32_253_r0 : BitVec 32 := 0#32
  let c1_i32_254_r0 : BitVec 32 := 1#32
  let v304_r0 : BitVec 32 := Scalar.addi c0_i32_253_r0 c1_i32_254_r0
  let c4_i32_255_r0 : BitVec 32 := 4#32
  let v305_r0 : BitVec 32 := Scalar.muli v304_r0 c4_i32_255_r0
  let c63_i32_256_r0 : BitVec 32 := 63#32
  let v306_r0 : BitVec 32 := Scalar.minsi v305_r0 c63_i32_256_r0
  let v307_r0 : BitVec 32 := Scalar.addi v306_r0 c0_i32_257_r0
  let c128_i32_258_r0 : BitVec 32 := 128#32
  let v308_r0 : BitVec 32 := Scalar.muli v307_r0 c128_i32_258_r0
  let v309_r0 : BitVec 32 := v308_r0
  ![0, v309_r0.toNat]
def k0_off85 (c0_i32_265_r0 : BitVec 32) : Fin 2 → Nat :=
  let c0_i32_308_r0 : BitVec 32 := 0#32
  let c0_i32_253_r0 : BitVec 32 := 0#32
  let c1_i32_254_r0 : BitVec 32 := 1#32
  let v304_r0 : BitVec 32 := Scalar.addi c0_i32_253_r0 c1_i32_254_r0
  let c4_i32_255_r0 : BitVec 32 := 4#32
  let v305_r0 : BitVec 32 := Scalar.muli v304_r0 c4_i32_255_r0
  let c63_i32_256_r0 : BitVec 32 := 63#32
  let v306_r0 : BitVec 32 := Scalar.minsi v305_r0 c63_i32_256_r0
  let v319_r0 : BitVec 32 := Scalar.addi v306_r0 c0_i32_265_r0
  let c34_i32_266_r0 : BitVec 32 := 34#32
  let v320_r0 : BitVec 1 := Scalar.cmpi .slt v319_r0 c34_i32_266_r0
  let c34_i32_267_r0 : BitVec 32 := 34#32
  let v321_r0 : BitVec 32 := Scalar.subi v319_r0 c34_i32_267_r0
  let v322_r0 : BitVec 32 := Scalar.select v320_r0 v319_r0 v321_r0
  let c128_i32_268_r0 : BitVec 32 := 128#32
  let v323_r0 : BitVec 32 := Scalar.muli v322_r0 c128_i32_268_r0
  let v324_r0 : BitVec 32 := v323_r0
  ![0, v324_r0.toNat]
@[reducible] def k0_t3_loop : Scf.Loop 32 :=
  let c0_i32_327_r0 : BitVec 32 := 0#32
  let c9_i32_r0 : BitVec 32 := 9#32
  let v389_r0 : BitVec 32 := Scalar.addi c0_i32_327_r0 c9_i32_r0
  let c1_i32_328_r0 : BitVec 32 := 1#32
  ⟨c0_i32_327_r0, v389_r0, c1_i32_328_r0⟩
def k0_cond3 (k0_t3 : Fin k0_t3_loop.trips) : BitVec 1 :=
  let c0_i32_327_r0 : BitVec 32 := 0#32
  let c1_i32_328_r0 : BitVec 32 := 1#32
  let arg21_r0 : BitVec 32 := Scf.iv c0_i32_327_r0 c1_i32_328_r0 k0_t3
  let c0_i32_721_r0 : BitVec 32 := 0#32
  let v860_r0 : BitVec 1 := Scalar.cmpi .sgt arg21_r0 c0_i32_721_r0
  let v861_r0 : BitVec 32 := Scalar.extui v860_r0
  let c0_i32_722_r0 : BitVec 32 := 0#32
  let v862_r0 : BitVec 1 := Scalar.cmpi .ne v861_r0 c0_i32_722_r0
  v862_r0

def k0_mult41 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c0_i32_1072_r0 : BitVec 32 := 0#32
  let v1513_r0 : BitVec 1 := Scalar.cmpi .eq arg21_r0 c0_i32_1072_r0
  let c0_i32_326_r0 : BitVec 32 := 0#32
  let c1_i32_1073_r0 : BitVec 32 := 1#32
  let v1514_r0 : BitVec 32 := Scalar.subi c0_i32_326_r0 c1_i32_1073_r0
  let v1515_r0 : BitVec 32 := Scalar.select v1513_r0 v1514_r0 c0_i32_326_r0
  let c4_i32_1077_r0 : BitVec 32 := 4#32
  let v1519_r0 : BitVec 32 := Scalar.muli v1515_r0 c4_i32_1077_r0
  let c63_i32_1078_r0 : BitVec 32 := 63#32
  let v1520_r0 : BitVec 32 := Scalar.minsi v1519_r0 c63_i32_1078_r0
  let c128_i32_1079_r0 : BitVec 32 := 128#32
  let v1521_r0 : BitVec 32 := Scalar.muli v1520_r0 c128_i32_1079_r0
  v1521_r0
def k0_mult42 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c0_i32_1072_r0 : BitVec 32 := 0#32
  let v1513_r0 : BitVec 1 := Scalar.cmpi .eq arg21_r0 c0_i32_1072_r0
  let c11_i32_1075_r0 : BitVec 32 := 11#32
  let c1_i32_1074_r0 : BitVec 32 := 1#32
  let v1516_r0 : BitVec 32 := Scalar.subi arg21_r0 c1_i32_1074_r0
  let v1517_r0 : BitVec 32 := Scalar.select v1513_r0 c11_i32_1075_r0 v1516_r0
  let c512_i32_1080_r0 : BitVec 32 := 512#32
  let v1523_r0 : BitVec 32 := Scalar.muli v1517_r0 c512_i32_1080_r0
  v1523_r0
def k0_off86 (k0_t3 : Fin k0_t3_loop.trips) : Fin 1 → Nat :=
  let c1_i32_1076_r0 : BitVec 32 := 1#32
  let c0_i32_326_r0 : BitVec 32 := 0#32
  let c12_i32_719_r0 : BitVec 32 := 12#32
  let v857_r0 : BitVec 32 := Scalar.muli c0_i32_326_r0 c12_i32_719_r0
  let c0_i32_327_r0 : BitVec 32 := 0#32
  let c1_i32_328_r0 : BitVec 32 := 1#32
  let arg21_r0 : BitVec 32 := Scf.iv c0_i32_327_r0 c1_i32_328_r0 k0_t3
  let v858_r0 : BitVec 32 := Scalar.addi v857_r0 arg21_r0
  let c2_i32_720_r0 : BitVec 32 := 2#32
  let v859_r0 : BitVec 32 := Scalar.remsi v858_r0 c2_i32_720_r0
  let v1518_r0 : BitVec 32 := Scalar.subi c1_i32_1076_r0 v859_r0
  ![v1518_r0.toNat]
def k0_off87 (k0_t3 : Fin k0_t3_loop.trips) : Fin 2 → Nat :=
  let c0_i32_327_r0 : BitVec 32 := 0#32
  let c1_i32_328_r0 : BitVec 32 := 1#32
  let arg21_r0 : BitVec 32 := Scf.iv c0_i32_327_r0 c1_i32_328_r0 k0_t3
  let c0_i32_1072_r0 : BitVec 32 := 0#32
  let v1513_r0 : BitVec 1 := Scalar.cmpi .eq arg21_r0 c0_i32_1072_r0
  let c11_i32_1075_r0 : BitVec 32 := 11#32
  let c1_i32_1074_r0 : BitVec 32 := 1#32
  let v1516_r0 : BitVec 32 := Scalar.subi arg21_r0 c1_i32_1074_r0
  let v1517_r0 : BitVec 32 := Scalar.select v1513_r0 c11_i32_1075_r0 v1516_r0
  let c512_i32_1080_r0 : BitVec 32 := 512#32
  let v1523_r0 : BitVec 32 := Scalar.muli v1517_r0 c512_i32_1080_r0
  let v1524_r0 : BitVec 32 := v1523_r0
  let c0_i32_326_r0 : BitVec 32 := 0#32
  let c1_i32_1073_r0 : BitVec 32 := 1#32
  let v1514_r0 : BitVec 32 := Scalar.subi c0_i32_326_r0 c1_i32_1073_r0
  let v1515_r0 : BitVec 32 := Scalar.select v1513_r0 v1514_r0 c0_i32_326_r0
  let c4_i32_1077_r0 : BitVec 32 := 4#32
  let v1519_r0 : BitVec 32 := Scalar.muli v1515_r0 c4_i32_1077_r0
  let c63_i32_1078_r0 : BitVec 32 := 63#32
  let v1520_r0 : BitVec 32 := Scalar.minsi v1519_r0 c63_i32_1078_r0
  let c128_i32_1079_r0 : BitVec 32 := 128#32
  let v1521_r0 : BitVec 32 := Scalar.muli v1520_r0 c128_i32_1079_r0
  let v1522_r0 : BitVec 32 := v1521_r0
  ![v1524_r0.toNat, v1522_r0.toNat]
def k0_off88 (k0_t3 : Fin k0_t3_loop.trips) : Fin 3 → Nat :=
  let c1_i32_1076_r0 : BitVec 32 := 1#32
  let c0_i32_326_r0 : BitVec 32 := 0#32
  let c12_i32_719_r0 : BitVec 32 := 12#32
  let v857_r0 : BitVec 32 := Scalar.muli c0_i32_326_r0 c12_i32_719_r0
  let c0_i32_327_r0 : BitVec 32 := 0#32
  let c1_i32_328_r0 : BitVec 32 := 1#32
  let arg21_r0 : BitVec 32 := Scf.iv c0_i32_327_r0 c1_i32_328_r0 k0_t3
  let v858_r0 : BitVec 32 := Scalar.addi v857_r0 arg21_r0
  let c2_i32_720_r0 : BitVec 32 := 2#32
  let v859_r0 : BitVec 32 := Scalar.remsi v858_r0 c2_i32_720_r0
  let v1518_r0 : BitVec 32 := Scalar.subi c1_i32_1076_r0 v859_r0
  let c0_i32_1081_r0 : BitVec 32 := 0#32
  let c0_i32_1082_r0 : BitVec 32 := 0#32
  ![v1518_r0.toNat, 0, 0]
def k0_cond4 (k0_t3 : Fin k0_t3_loop.trips) : BitVec 1 :=
  let c0_i32_327_r0 : BitVec 32 := 0#32
  let c1_i32_328_r0 : BitVec 32 := 1#32
  let arg21_r0 : BitVec 32 := Scf.iv c0_i32_327_r0 c1_i32_328_r0 k0_t3
  let c1_i32_723_r0 : BitVec 32 := 1#32
  let v863_r0 : BitVec 1 := Scalar.cmpi .sgt arg21_r0 c1_i32_723_r0
  let v864_r0 : BitVec 32 := Scalar.extui v863_r0
  let c0_i32_724_r0 : BitVec 32 := 0#32
  let v865_r0 : BitVec 1 := Scalar.cmpi .ne v864_r0 c0_i32_724_r0
  v865_r0

def k0_mult43 : BitVec 32 :=
  let c0_i32_326_r0 : BitVec 32 := 0#32
  let c4_i32_1072_r0 : BitVec 32 := 4#32
  let v1513_r0 : BitVec 32 := Scalar.muli c0_i32_326_r0 c4_i32_1072_r0
  let c63_i32_1073_r0 : BitVec 32 := 63#32
  let v1514_r0 : BitVec 32 := Scalar.minsi v1513_r0 c63_i32_1073_r0
  let c128_i32_1074_r0 : BitVec 32 := 128#32
  let v1515_r0 : BitVec 32 := Scalar.muli v1514_r0 c128_i32_1074_r0
  v1515_r0
def k0_mult44 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_1075_r0 : BitVec 32 := 512#32
  let v1517_r0 : BitVec 32 := Scalar.muli arg21_r0 c512_i32_1075_r0
  v1517_r0
def k0_off89 (k0_t3 : Fin k0_t3_loop.trips) : Fin 1 → Nat :=
  let c0_i32_326_r0 : BitVec 32 := 0#32
  let c12_i32_719_r0 : BitVec 32 := 12#32
  let v857_r0 : BitVec 32 := Scalar.muli c0_i32_326_r0 c12_i32_719_r0
  let c0_i32_327_r0 : BitVec 32 := 0#32
  let c1_i32_328_r0 : BitVec 32 := 1#32
  let arg21_r0 : BitVec 32 := Scf.iv c0_i32_327_r0 c1_i32_328_r0 k0_t3
  let v858_r0 : BitVec 32 := Scalar.addi v857_r0 arg21_r0
  let c2_i32_720_r0 : BitVec 32 := 2#32
  let v859_r0 : BitVec 32 := Scalar.remsi v858_r0 c2_i32_720_r0
  ![v859_r0.toNat]
def k0_off90 (k0_t3 : Fin k0_t3_loop.trips) : Fin 2 → Nat :=
  let c0_i32_327_r0 : BitVec 32 := 0#32
  let c1_i32_328_r0 : BitVec 32 := 1#32
  let arg21_r0 : BitVec 32 := Scf.iv c0_i32_327_r0 c1_i32_328_r0 k0_t3
  let c512_i32_1075_r0 : BitVec 32 := 512#32
  let v1517_r0 : BitVec 32 := Scalar.muli arg21_r0 c512_i32_1075_r0
  let v1518_r0 : BitVec 32 := v1517_r0
  let c0_i32_326_r0 : BitVec 32 := 0#32
  let c4_i32_1072_r0 : BitVec 32 := 4#32
  let v1513_r0 : BitVec 32 := Scalar.muli c0_i32_326_r0 c4_i32_1072_r0
  let c63_i32_1073_r0 : BitVec 32 := 63#32
  let v1514_r0 : BitVec 32 := Scalar.minsi v1513_r0 c63_i32_1073_r0
  let c128_i32_1074_r0 : BitVec 32 := 128#32
  let v1515_r0 : BitVec 32 := Scalar.muli v1514_r0 c128_i32_1074_r0
  let v1516_r0 : BitVec 32 := v1515_r0
  ![v1518_r0.toNat, v1516_r0.toNat]
def k0_off91 (k0_t3 : Fin k0_t3_loop.trips) : Fin 3 → Nat :=
  let c0_i32_326_r0 : BitVec 32 := 0#32
  let c12_i32_719_r0 : BitVec 32 := 12#32
  let v857_r0 : BitVec 32 := Scalar.muli c0_i32_326_r0 c12_i32_719_r0
  let c0_i32_327_r0 : BitVec 32 := 0#32
  let c1_i32_328_r0 : BitVec 32 := 1#32
  let arg21_r0 : BitVec 32 := Scf.iv c0_i32_327_r0 c1_i32_328_r0 k0_t3
  let v858_r0 : BitVec 32 := Scalar.addi v857_r0 arg21_r0
  let c2_i32_720_r0 : BitVec 32 := 2#32
  let v859_r0 : BitVec 32 := Scalar.remsi v858_r0 c2_i32_720_r0
  let c0_i32_1076_r0 : BitVec 32 := 0#32
  let c0_i32_1077_r0 : BitVec 32 := 0#32
  ![v859_r0.toNat, 0, 0]
def k0_mult45 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c3_i32_725_r0 : BitVec 32 := 3#32
  let v866_r0 : BitVec 32 := Scalar.muli arg21_r0 c3_i32_725_r0
  let c0_i32_726_r0 : BitVec 32 := 0#32
  let v867_r0 : BitVec 32 := Scalar.addi v866_r0 c0_i32_726_r0
  let c128_i32_728_r0 : BitVec 32 := 128#32
  let v869_r0 : BitVec 32 := Scalar.muli v867_r0 c128_i32_728_r0
  v869_r0
def k0_off92 (k0_t3 : Fin k0_t3_loop.trips) (c0_i32_726_r0 : BitVec 32) : Fin 2 → Nat :=
  let c0_i32_327_r0 : BitVec 32 := 0#32
  let c1_i32_328_r0 : BitVec 32 := 1#32
  let arg21_r0 : BitVec 32 := Scf.iv c0_i32_327_r0 c1_i32_328_r0 k0_t3
  let c3_i32_725_r0 : BitVec 32 := 3#32
  let v866_r0 : BitVec 32 := Scalar.muli arg21_r0 c3_i32_725_r0
  let v867_r0 : BitVec 32 := Scalar.addi v866_r0 c0_i32_726_r0
  let c128_i32_728_r0 : BitVec 32 := 128#32
  let v869_r0 : BitVec 32 := Scalar.muli v867_r0 c128_i32_728_r0
  let v870_r0 : BitVec 32 := v869_r0
  let v875_r0 : Index := Scalar.indexCast v870_r0
  let c0_732_r0 : Index := 0#32
  ![v875_r0.toNat, 0]
def k0_off93 (k0_t3 : Fin k0_t3_loop.trips) (c0_i32_726_r0 : BitVec 32) : Fin 2 → Nat :=
  let c0_i32_327_r0 : BitVec 32 := 0#32
  let c1_i32_328_r0 : BitVec 32 := 1#32
  let arg21_r0 : BitVec 32 := Scf.iv c0_i32_327_r0 c1_i32_328_r0 k0_t3
  let c3_i32_725_r0 : BitVec 32 := 3#32
  let v866_r0 : BitVec 32 := Scalar.muli arg21_r0 c3_i32_725_r0
  let v867_r0 : BitVec 32 := Scalar.addi v866_r0 c0_i32_726_r0
  let c128_i32_728_r0 : BitVec 32 := 128#32
  let v869_r0 : BitVec 32 := Scalar.muli v867_r0 c128_i32_728_r0
  let v870_r0 : BitVec 32 := v869_r0
  let v878_r0 : Index := Scalar.indexCast v870_r0
  let c128_r0 : Index := 128#32
  ![v878_r0.toNat, 128]
def k0_off94 (k0_t3 : Fin k0_t3_loop.trips) (c0_i32_726_r0 : BitVec 32) : Fin 2 → Nat :=
  let c0_i32_327_r0 : BitVec 32 := 0#32
  let c1_i32_328_r0 : BitVec 32 := 1#32
  let arg21_r0 : BitVec 32 := Scf.iv c0_i32_327_r0 c1_i32_328_r0 k0_t3
  let c3_i32_725_r0 : BitVec 32 := 3#32
  let v866_r0 : BitVec 32 := Scalar.muli arg21_r0 c3_i32_725_r0
  let v867_r0 : BitVec 32 := Scalar.addi v866_r0 c0_i32_726_r0
  let c128_i32_728_r0 : BitVec 32 := 128#32
  let v869_r0 : BitVec 32 := Scalar.muli v867_r0 c128_i32_728_r0
  let v870_r0 : BitVec 32 := v869_r0
  let v881_r0 : Index := Scalar.indexCast v870_r0
  let c256_733_r0 : Index := 256#32
  ![v881_r0.toNat, 256]
def k0_off95 (k0_t3 : Fin k0_t3_loop.trips) (c0_i32_726_r0 : BitVec 32) : Fin 2 → Nat :=
  let c0_i32_327_r0 : BitVec 32 := 0#32
  let c1_i32_328_r0 : BitVec 32 := 1#32
  let arg21_r0 : BitVec 32 := Scf.iv c0_i32_327_r0 c1_i32_328_r0 k0_t3
  let c3_i32_725_r0 : BitVec 32 := 3#32
  let v866_r0 : BitVec 32 := Scalar.muli arg21_r0 c3_i32_725_r0
  let v867_r0 : BitVec 32 := Scalar.addi v866_r0 c0_i32_726_r0
  let c128_i32_728_r0 : BitVec 32 := 128#32
  let v869_r0 : BitVec 32 := Scalar.muli v867_r0 c128_i32_728_r0
  let v870_r0 : BitVec 32 := v869_r0
  let v884_r0 : Index := Scalar.indexCast v870_r0
  let c384_r0 : Index := 384#32
  ![v884_r0.toNat, 384]
def k0_off96 (k0_t3 : Fin k0_t3_loop.trips) (c0_i32_726_r0 : BitVec 32) : Fin 2 → Nat :=
  let c0_i32_327_r0 : BitVec 32 := 0#32
  let c1_i32_328_r0 : BitVec 32 := 1#32
  let arg21_r0 : BitVec 32 := Scf.iv c0_i32_327_r0 c1_i32_328_r0 k0_t3
  let c3_i32_725_r0 : BitVec 32 := 3#32
  let v866_r0 : BitVec 32 := Scalar.muli arg21_r0 c3_i32_725_r0
  let v867_r0 : BitVec 32 := Scalar.addi v866_r0 c0_i32_726_r0
  let c128_i32_728_r0 : BitVec 32 := 128#32
  let v869_r0 : BitVec 32 := Scalar.muli v867_r0 c128_i32_728_r0
  let v870_r0 : BitVec 32 := v869_r0
  let v887_r0 : Index := Scalar.indexCast v870_r0
  let c512_734_r0 : Index := 512#32
  ![v887_r0.toNat, 512]
def k0_off97 (k0_t3 : Fin k0_t3_loop.trips) (c0_i32_726_r0 : BitVec 32) : Fin 3 → Nat :=
  let c0_743_r0 : Index := 0#32
  let c0_i32_327_r0 : BitVec 32 := 0#32
  let c1_i32_328_r0 : BitVec 32 := 1#32
  let arg21_r0 : BitVec 32 := Scf.iv c0_i32_327_r0 c1_i32_328_r0 k0_t3
  let c3_i32_725_r0 : BitVec 32 := 3#32
  let v866_r0 : BitVec 32 := Scalar.muli arg21_r0 c3_i32_725_r0
  let v867_r0 : BitVec 32 := Scalar.addi v866_r0 c0_i32_726_r0
  let v913_r0 : Index := Scalar.indexCast v867_r0
  let c0_744_r0 : Index := 0#32
  ![0, v913_r0.toNat, 0]
def k0_off98 (k0_t3 : Fin k0_t3_loop.trips) (c0_i32_726_r0 : BitVec 32) : Fin 2 → Nat :=
  let c0_i32_327_r0 : BitVec 32 := 0#32
  let c1_i32_328_r0 : BitVec 32 := 1#32
  let arg21_r0 : BitVec 32 := Scf.iv c0_i32_327_r0 c1_i32_328_r0 k0_t3
  let c3_i32_725_r0 : BitVec 32 := 3#32
  let v866_r0 : BitVec 32 := Scalar.muli arg21_r0 c3_i32_725_r0
  let v867_r0 : BitVec 32 := Scalar.addi v866_r0 c0_i32_726_r0
  let c128_i32_728_r0 : BitVec 32 := 128#32
  let v869_r0 : BitVec 32 := Scalar.muli v867_r0 c128_i32_728_r0
  let v870_r0 : BitVec 32 := v869_r0
  let v919_r0 : Index := Scalar.indexCast v870_r0
  let c0_745_r0 : Index := 0#32
  ![v919_r0.toNat, 0]
def k0_off99 (k0_t3 : Fin k0_t3_loop.trips) (c0_i32_726_r0 : BitVec 32) : Fin 3 → Nat :=
  let c1_r0 : Index := 1#32
  let c0_i32_327_r0 : BitVec 32 := 0#32
  let c1_i32_328_r0 : BitVec 32 := 1#32
  let arg21_r0 : BitVec 32 := Scf.iv c0_i32_327_r0 c1_i32_328_r0 k0_t3
  let c3_i32_725_r0 : BitVec 32 := 3#32
  let v866_r0 : BitVec 32 := Scalar.muli arg21_r0 c3_i32_725_r0
  let v867_r0 : BitVec 32 := Scalar.addi v866_r0 c0_i32_726_r0
  let v941_r0 : Index := Scalar.indexCast v867_r0
  let c0_753_r0 : Index := 0#32
  ![1, v941_r0.toNat, 0]
def k0_off100 (k0_t3 : Fin k0_t3_loop.trips) (c0_i32_726_r0 : BitVec 32) : Fin 2 → Nat :=
  let c0_i32_327_r0 : BitVec 32 := 0#32
  let c1_i32_328_r0 : BitVec 32 := 1#32
  let arg21_r0 : BitVec 32 := Scf.iv c0_i32_327_r0 c1_i32_328_r0 k0_t3
  let c3_i32_725_r0 : BitVec 32 := 3#32
  let v866_r0 : BitVec 32 := Scalar.muli arg21_r0 c3_i32_725_r0
  let v867_r0 : BitVec 32 := Scalar.addi v866_r0 c0_i32_726_r0
  let c128_i32_728_r0 : BitVec 32 := 128#32
  let v869_r0 : BitVec 32 := Scalar.muli v867_r0 c128_i32_728_r0
  let v870_r0 : BitVec 32 := v869_r0
  let v947_r0 : Index := Scalar.indexCast v870_r0
  let c128_754_r0 : Index := 128#32
  ![v947_r0.toNat, 128]
def k0_off101 (k0_t3 : Fin k0_t3_loop.trips) (c0_i32_726_r0 : BitVec 32) : Fin 3 → Nat :=
  let c2_r0 : Index := 2#32
  let c0_i32_327_r0 : BitVec 32 := 0#32
  let c1_i32_328_r0 : BitVec 32 := 1#32
  let arg21_r0 : BitVec 32 := Scf.iv c0_i32_327_r0 c1_i32_328_r0 k0_t3
  let c3_i32_725_r0 : BitVec 32 := 3#32
  let v866_r0 : BitVec 32 := Scalar.muli arg21_r0 c3_i32_725_r0
  let v867_r0 : BitVec 32 := Scalar.addi v866_r0 c0_i32_726_r0
  let v969_r0 : Index := Scalar.indexCast v867_r0
  let c0_762_r0 : Index := 0#32
  ![2, v969_r0.toNat, 0]
def k0_off102 (k0_t3 : Fin k0_t3_loop.trips) (c0_i32_726_r0 : BitVec 32) : Fin 2 → Nat :=
  let c0_i32_327_r0 : BitVec 32 := 0#32
  let c1_i32_328_r0 : BitVec 32 := 1#32
  let arg21_r0 : BitVec 32 := Scf.iv c0_i32_327_r0 c1_i32_328_r0 k0_t3
  let c3_i32_725_r0 : BitVec 32 := 3#32
  let v866_r0 : BitVec 32 := Scalar.muli arg21_r0 c3_i32_725_r0
  let v867_r0 : BitVec 32 := Scalar.addi v866_r0 c0_i32_726_r0
  let c128_i32_728_r0 : BitVec 32 := 128#32
  let v869_r0 : BitVec 32 := Scalar.muli v867_r0 c128_i32_728_r0
  let v870_r0 : BitVec 32 := v869_r0
  let v975_r0 : Index := Scalar.indexCast v870_r0
  let c256_763_r0 : Index := 256#32
  ![v975_r0.toNat, 256]
def k0_off103 (k0_t3 : Fin k0_t3_loop.trips) (c0_i32_726_r0 : BitVec 32) : Fin 3 → Nat :=
  let c3_r0 : Index := 3#32
  let c0_i32_327_r0 : BitVec 32 := 0#32
  let c1_i32_328_r0 : BitVec 32 := 1#32
  let arg21_r0 : BitVec 32 := Scf.iv c0_i32_327_r0 c1_i32_328_r0 k0_t3
  let c3_i32_725_r0 : BitVec 32 := 3#32
  let v866_r0 : BitVec 32 := Scalar.muli arg21_r0 c3_i32_725_r0
  let v867_r0 : BitVec 32 := Scalar.addi v866_r0 c0_i32_726_r0
  let v997_r0 : Index := Scalar.indexCast v867_r0
  let c0_771_r0 : Index := 0#32
  ![3, v997_r0.toNat, 0]
def k0_off104 (k0_t3 : Fin k0_t3_loop.trips) (c0_i32_726_r0 : BitVec 32) : Fin 2 → Nat :=
  let c0_i32_327_r0 : BitVec 32 := 0#32
  let c1_i32_328_r0 : BitVec 32 := 1#32
  let arg21_r0 : BitVec 32 := Scf.iv c0_i32_327_r0 c1_i32_328_r0 k0_t3
  let c3_i32_725_r0 : BitVec 32 := 3#32
  let v866_r0 : BitVec 32 := Scalar.muli arg21_r0 c3_i32_725_r0
  let v867_r0 : BitVec 32 := Scalar.addi v866_r0 c0_i32_726_r0
  let c128_i32_728_r0 : BitVec 32 := 128#32
  let v869_r0 : BitVec 32 := Scalar.muli v867_r0 c128_i32_728_r0
  let v870_r0 : BitVec 32 := v869_r0
  let v1003_r0 : Index := Scalar.indexCast v870_r0
  let c384_772_r0 : Index := 384#32
  ![v1003_r0.toNat, 384]
def k0_mult46 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c3_i32_773_r0 : BitVec 32 := 3#32
  let v1007_r0 : BitVec 32 := Scalar.muli arg21_r0 c3_i32_773_r0
  let c1_i32_774_r0 : BitVec 32 := 1#32
  let v1008_r0 : BitVec 32 := Scalar.addi v1007_r0 c1_i32_774_r0
  let c128_i32_776_r0 : BitVec 32 := 128#32
  let v1010_r0 : BitVec 32 := Scalar.muli v1008_r0 c128_i32_776_r0
  v1010_r0
def k0_mult47 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c3_i32_830_r0 : BitVec 32 := 3#32
  let v1148_r0 : BitVec 32 := Scalar.muli arg21_r0 c3_i32_830_r0
  let c2_i32_831_r0 : BitVec 32 := 2#32
  let v1149_r0 : BitVec 32 := Scalar.addi v1148_r0 c2_i32_831_r0
  let c128_i32_833_r0 : BitVec 32 := 128#32
  let v1151_r0 : BitVec 32 := Scalar.muli v1149_r0 c128_i32_833_r0
  v1151_r0
def k0_mult48 : BitVec 32 :=
  let c0_i32_326_r0 : BitVec 32 := 0#32
  let c4_i32_887_r0 : BitVec 32 := 4#32
  let v1289_r0 : BitVec 32 := Scalar.muli c0_i32_326_r0 c4_i32_887_r0
  let c63_i32_888_r0 : BitVec 32 := 63#32
  let v1290_r0 : BitVec 32 := Scalar.minsi v1289_r0 c63_i32_888_r0
  let c128_i32_889_r0 : BitVec 32 := 128#32
  let v1291_r0 : BitVec 32 := Scalar.muli v1290_r0 c128_i32_889_r0
  v1291_r0
def k0_mult49 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c0_i32_891_r0 : BitVec 32 := 0#32
  let v1294_r0 : BitVec 32 := Scalar.addi v1293_r0 c0_i32_891_r0
  v1294_r0
def k0_off105 (k0_t3 : Fin k0_t3_loop.trips) (c0_i32_891_r0 : BitVec 32) : Fin 2 → Nat :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let v1294_r0 : BitVec 32 := Scalar.addi v1293_r0 c0_i32_891_r0
  let v1295_r0 : BitVec 32 := v1294_r0
  let v1296_r0 : Index := Scalar.indexCast v1295_r0
  let c512_892_r0 : Index := 512#32
  ![v1296_r0.toNat, 512]
def k0_mult50 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c0_i32_897_r0 : BitVec 32 := 0#32
  let v1300_r0 : BitVec 32 := Scalar.addi v1293_r0 c0_i32_897_r0
  v1300_r0
def k0_off106 (k0_t3 : Fin k0_t3_loop.trips) (c0_i32_897_r0 : BitVec 32) : Fin 2 → Nat :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let v1300_r0 : BitVec 32 := Scalar.addi v1293_r0 c0_i32_897_r0
  let v1301_r0 : BitVec 32 := v1300_r0
  let v1302_r0 : Index := Scalar.indexCast v1301_r0
  let c768_898_r0 : Index := 768#32
  ![v1302_r0.toNat, 768]
def k0_mult51 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c0_i32_903_r0 : BitVec 32 := 0#32
  let v1306_r0 : BitVec 32 := Scalar.addi v1293_r0 c0_i32_903_r0
  v1306_r0
def k0_off107 (k0_t3 : Fin k0_t3_loop.trips) (c0_i32_903_r0 : BitVec 32) : Fin 2 → Nat :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let v1306_r0 : BitVec 32 := Scalar.addi v1293_r0 c0_i32_903_r0
  let v1307_r0 : BitVec 32 := v1306_r0
  let v1308_r0 : Index := Scalar.indexCast v1307_r0
  let c1024_904_r0 : Index := 1024#32
  ![v1308_r0.toNat, 1024]
def k0_mult52 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c0_i32_909_r0 : BitVec 32 := 0#32
  let v1312_r0 : BitVec 32 := Scalar.addi v1293_r0 c0_i32_909_r0
  v1312_r0
def k0_off108 (k0_t3 : Fin k0_t3_loop.trips) (c0_i32_909_r0 : BitVec 32) : Fin 2 → Nat :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let v1312_r0 : BitVec 32 := Scalar.addi v1293_r0 c0_i32_909_r0
  let v1313_r0 : BitVec 32 := v1312_r0
  let v1314_r0 : Index := Scalar.indexCast v1313_r0
  let c1280_910_r0 : Index := 1280#32
  ![v1314_r0.toNat, 1280]
def k0_mult53 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c0_i32_915_r0 : BitVec 32 := 0#32
  let v1318_r0 : BitVec 32 := Scalar.addi v1293_r0 c0_i32_915_r0
  v1318_r0
def k0_off109 (k0_t3 : Fin k0_t3_loop.trips) (c0_i32_915_r0 : BitVec 32) : Fin 2 → Nat :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let v1318_r0 : BitVec 32 := Scalar.addi v1293_r0 c0_i32_915_r0
  let v1319_r0 : BitVec 32 := v1318_r0
  let v1320_r0 : Index := Scalar.indexCast v1319_r0
  let c1536_916_r0 : Index := 1536#32
  ![v1320_r0.toNat, 1536]
def k0_mult54 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c0_i32_921_r0 : BitVec 32 := 0#32
  let v1324_r0 : BitVec 32 := Scalar.addi v1293_r0 c0_i32_921_r0
  v1324_r0
def k0_off110 (k0_t3 : Fin k0_t3_loop.trips) (c0_i32_921_r0 : BitVec 32) : Fin 2 → Nat :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let v1324_r0 : BitVec 32 := Scalar.addi v1293_r0 c0_i32_921_r0
  let v1325_r0 : BitVec 32 := v1324_r0
  let v1326_r0 : Index := Scalar.indexCast v1325_r0
  let c1792_922_r0 : Index := 1792#32
  ![v1326_r0.toNat, 1792]
def k0_mult55 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c0_i32_927_r0 : BitVec 32 := 0#32
  let v1330_r0 : BitVec 32 := Scalar.addi v1293_r0 c0_i32_927_r0
  v1330_r0
def k0_off111 (k0_t3 : Fin k0_t3_loop.trips) (c0_i32_927_r0 : BitVec 32) : Fin 2 → Nat :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let v1330_r0 : BitVec 32 := Scalar.addi v1293_r0 c0_i32_927_r0
  let v1331_r0 : BitVec 32 := v1330_r0
  let v1332_r0 : Index := Scalar.indexCast v1331_r0
  let c2048_928_r0 : Index := 2048#32
  ![v1332_r0.toNat, 2048]
def k0_mult56 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c0_i32_933_r0 : BitVec 32 := 0#32
  let v1336_r0 : BitVec 32 := Scalar.addi v1293_r0 c0_i32_933_r0
  v1336_r0
def k0_off112 (k0_t3 : Fin k0_t3_loop.trips) (c0_i32_933_r0 : BitVec 32) : Fin 2 → Nat :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let v1336_r0 : BitVec 32 := Scalar.addi v1293_r0 c0_i32_933_r0
  let v1337_r0 : BitVec 32 := v1336_r0
  let v1338_r0 : Index := Scalar.indexCast v1337_r0
  let c2304_934_r0 : Index := 2304#32
  ![v1338_r0.toNat, 2304]
def k0_mult57 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c0_i32_939_r0 : BitVec 32 := 0#32
  let v1342_r0 : BitVec 32 := Scalar.addi v1293_r0 c0_i32_939_r0
  v1342_r0
def k0_off113 (k0_t3 : Fin k0_t3_loop.trips) (c0_i32_939_r0 : BitVec 32) : Fin 2 → Nat :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let v1342_r0 : BitVec 32 := Scalar.addi v1293_r0 c0_i32_939_r0
  let v1343_r0 : BitVec 32 := v1342_r0
  let v1344_r0 : Index := Scalar.indexCast v1343_r0
  let c2560_940_r0 : Index := 2560#32
  ![v1344_r0.toNat, 2560]
def k0_mult58 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c0_i32_945_r0 : BitVec 32 := 0#32
  let v1348_r0 : BitVec 32 := Scalar.addi v1293_r0 c0_i32_945_r0
  v1348_r0
def k0_off114 (k0_t3 : Fin k0_t3_loop.trips) (c0_i32_945_r0 : BitVec 32) : Fin 2 → Nat :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let v1348_r0 : BitVec 32 := Scalar.addi v1293_r0 c0_i32_945_r0
  let v1349_r0 : BitVec 32 := v1348_r0
  let v1350_r0 : Index := Scalar.indexCast v1349_r0
  let c2816_946_r0 : Index := 2816#32
  ![v1350_r0.toNat, 2816]
def k0_mult59 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c0_i32_951_r0 : BitVec 32 := 0#32
  let v1354_r0 : BitVec 32 := Scalar.addi v1293_r0 c0_i32_951_r0
  v1354_r0
def k0_off115 (k0_t3 : Fin k0_t3_loop.trips) (c0_i32_951_r0 : BitVec 32) : Fin 2 → Nat :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let v1354_r0 : BitVec 32 := Scalar.addi v1293_r0 c0_i32_951_r0
  let v1355_r0 : BitVec 32 := v1354_r0
  let v1356_r0 : Index := Scalar.indexCast v1355_r0
  let c3072_952_r0 : Index := 3072#32
  ![v1356_r0.toNat, 3072]
def k0_mult60 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c0_i32_957_r0 : BitVec 32 := 0#32
  let v1360_r0 : BitVec 32 := Scalar.addi v1293_r0 c0_i32_957_r0
  v1360_r0
def k0_off116 (k0_t3 : Fin k0_t3_loop.trips) (c0_i32_957_r0 : BitVec 32) : Fin 2 → Nat :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let v1360_r0 : BitVec 32 := Scalar.addi v1293_r0 c0_i32_957_r0
  let v1361_r0 : BitVec 32 := v1360_r0
  let v1362_r0 : Index := Scalar.indexCast v1361_r0
  let c3328_958_r0 : Index := 3328#32
  ![v1362_r0.toNat, 3328]
def k0_mult61 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c256_i32_963_r0 : BitVec 32 := 256#32
  let v1367_r0 : BitVec 32 := Scalar.addi v1293_r0 c256_i32_963_r0
  v1367_r0
def k0_off117 (k0_t3 : Fin k0_t3_loop.trips) : Fin 2 → Nat :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c256_i32_963_r0 : BitVec 32 := 256#32
  let v1367_r0 : BitVec 32 := Scalar.addi v1293_r0 c256_i32_963_r0
  let v1368_r0 : BitVec 32 := v1367_r0
  let v1369_r0 : Index := Scalar.indexCast v1368_r0
  let c0_964_r0 : Index := 0#32
  ![v1369_r0.toNat, 0]
def k0_mult62 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c256_i32_963_r0 : BitVec 32 := 256#32
  let v1367_r0 : BitVec 32 := Scalar.addi v1293_r0 c256_i32_963_r0
  v1367_r0
def k0_off118 (k0_t3 : Fin k0_t3_loop.trips) : Fin 2 → Nat :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c256_i32_963_r0 : BitVec 32 := 256#32
  let v1367_r0 : BitVec 32 := Scalar.addi v1293_r0 c256_i32_963_r0
  let v1373_r0 : BitVec 32 := v1367_r0
  let v1374_r0 : Index := Scalar.indexCast v1373_r0
  let c256_969_r0 : Index := 256#32
  ![v1374_r0.toNat, 256]
def k0_mult63 : BitVec 32 :=
  let c0_i32_326_r0 : BitVec 32 := 0#32
  let c4_i32_887_r0 : BitVec 32 := 4#32
  let v1289_r0 : BitVec 32 := Scalar.muli c0_i32_326_r0 c4_i32_887_r0
  let c63_i32_888_r0 : BitVec 32 := 63#32
  let v1290_r0 : BitVec 32 := Scalar.minsi v1289_r0 c63_i32_888_r0
  let c128_i32_889_r0 : BitVec 32 := 128#32
  let v1291_r0 : BitVec 32 := Scalar.muli v1290_r0 c128_i32_889_r0
  let v1292_r0 : BitVec 32 := v1291_r0
  let c0_i32_974_r0 : BitVec 32 := 0#32
  let v1378_r0 : BitVec 32 := Scalar.addi v1292_r0 c0_i32_974_r0
  v1378_r0
def k0_off119 (c0_i32_974_r0 : BitVec 32) : Fin 2 → Nat :=
  let c0_975_r0 : Index := 0#32
  let c0_i32_326_r0 : BitVec 32 := 0#32
  let c4_i32_887_r0 : BitVec 32 := 4#32
  let v1289_r0 : BitVec 32 := Scalar.muli c0_i32_326_r0 c4_i32_887_r0
  let c63_i32_888_r0 : BitVec 32 := 63#32
  let v1290_r0 : BitVec 32 := Scalar.minsi v1289_r0 c63_i32_888_r0
  let c128_i32_889_r0 : BitVec 32 := 128#32
  let v1291_r0 : BitVec 32 := Scalar.muli v1290_r0 c128_i32_889_r0
  let v1292_r0 : BitVec 32 := v1291_r0
  let v1378_r0 : BitVec 32 := Scalar.addi v1292_r0 c0_i32_974_r0
  let v1379_r0 : BitVec 32 := v1378_r0
  let v1380_r0 : Index := Scalar.indexCast v1379_r0
  ![0, v1380_r0.toNat]
def k0_off120 (k0_t3 : Fin k0_t3_loop.trips) : Fin 3 → Nat :=
  let c0_i32_326_r0 : BitVec 32 := 0#32
  let c12_i32_719_r0 : BitVec 32 := 12#32
  let v857_r0 : BitVec 32 := Scalar.muli c0_i32_326_r0 c12_i32_719_r0
  let c0_i32_327_r0 : BitVec 32 := 0#32
  let c1_i32_328_r0 : BitVec 32 := 1#32
  let arg21_r0 : BitVec 32 := Scf.iv c0_i32_327_r0 c1_i32_328_r0 k0_t3
  let v858_r0 : BitVec 32 := Scalar.addi v857_r0 arg21_r0
  let c2_i32_720_r0 : BitVec 32 := 2#32
  let v859_r0 : BitVec 32 := Scalar.remsi v858_r0 c2_i32_720_r0
  let v1387_r0 : Index := Scalar.indexCast v859_r0
  let c0_976_r0 : Index := 0#32
  let c0_977_r0 : Index := 0#32
  ![v1387_r0.toNat, 0, 0]
def k0_mult64 : BitVec 32 :=
  let c0_i32_326_r0 : BitVec 32 := 0#32
  let c4_i32_887_r0 : BitVec 32 := 4#32
  let v1289_r0 : BitVec 32 := Scalar.muli c0_i32_326_r0 c4_i32_887_r0
  let c63_i32_888_r0 : BitVec 32 := 63#32
  let v1290_r0 : BitVec 32 := Scalar.minsi v1289_r0 c63_i32_888_r0
  let c128_i32_889_r0 : BitVec 32 := 128#32
  let v1291_r0 : BitVec 32 := Scalar.muli v1290_r0 c128_i32_889_r0
  let v1292_r0 : BitVec 32 := v1291_r0
  let c256_i32_978_r0 : BitVec 32 := 256#32
  let v1391_r0 : BitVec 32 := Scalar.addi v1292_r0 c256_i32_978_r0
  v1391_r0
def k0_off121 (k0_t3 : Fin k0_t3_loop.trips) : Fin 3 → Nat :=
  let c0_i32_326_r0 : BitVec 32 := 0#32
  let c12_i32_719_r0 : BitVec 32 := 12#32
  let v857_r0 : BitVec 32 := Scalar.muli c0_i32_326_r0 c12_i32_719_r0
  let c0_i32_327_r0 : BitVec 32 := 0#32
  let c1_i32_328_r0 : BitVec 32 := 1#32
  let arg21_r0 : BitVec 32 := Scf.iv c0_i32_327_r0 c1_i32_328_r0 k0_t3
  let v858_r0 : BitVec 32 := Scalar.addi v857_r0 arg21_r0
  let c2_i32_720_r0 : BitVec 32 := 2#32
  let v859_r0 : BitVec 32 := Scalar.remsi v858_r0 c2_i32_720_r0
  let v1400_r0 : Index := Scalar.indexCast v859_r0
  let c0_980_r0 : Index := 0#32
  let c256_981_r0 : Index := 256#32
  ![v1400_r0.toNat, 0, 256]
def k0_mult65 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c256_i32_982_r0 : BitVec 32 := 256#32
  let v1404_r0 : BitVec 32 := Scalar.addi v1293_r0 c256_i32_982_r0
  v1404_r0
def k0_mult66 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c256_i32_988_r0 : BitVec 32 := 256#32
  let v1410_r0 : BitVec 32 := Scalar.addi v1293_r0 c256_i32_988_r0
  v1410_r0
def k0_mult67 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c256_i32_994_r0 : BitVec 32 := 256#32
  let v1416_r0 : BitVec 32 := Scalar.addi v1293_r0 c256_i32_994_r0
  v1416_r0
def k0_mult68 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c256_i32_1000_r0 : BitVec 32 := 256#32
  let v1422_r0 : BitVec 32 := Scalar.addi v1293_r0 c256_i32_1000_r0
  v1422_r0
def k0_mult69 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c256_i32_1006_r0 : BitVec 32 := 256#32
  let v1428_r0 : BitVec 32 := Scalar.addi v1293_r0 c256_i32_1006_r0
  v1428_r0
def k0_mult70 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c256_i32_1012_r0 : BitVec 32 := 256#32
  let v1434_r0 : BitVec 32 := Scalar.addi v1293_r0 c256_i32_1012_r0
  v1434_r0
def k0_mult71 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c256_i32_1018_r0 : BitVec 32 := 256#32
  let v1440_r0 : BitVec 32 := Scalar.addi v1293_r0 c256_i32_1018_r0
  v1440_r0
def k0_mult72 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c256_i32_1024_r0 : BitVec 32 := 256#32
  let v1446_r0 : BitVec 32 := Scalar.addi v1293_r0 c256_i32_1024_r0
  v1446_r0
def k0_mult73 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c256_i32_1030_r0 : BitVec 32 := 256#32
  let v1452_r0 : BitVec 32 := Scalar.addi v1293_r0 c256_i32_1030_r0
  v1452_r0
def k0_mult74 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c256_i32_1036_r0 : BitVec 32 := 256#32
  let v1458_r0 : BitVec 32 := Scalar.addi v1293_r0 c256_i32_1036_r0
  v1458_r0
def k0_mult75 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c256_i32_1042_r0 : BitVec 32 := 256#32
  let v1464_r0 : BitVec 32 := Scalar.addi v1293_r0 c256_i32_1042_r0
  v1464_r0
def k0_mult76 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c512_i32_890_r0 : BitVec 32 := 512#32
  let v1293_r0 : BitVec 32 := Scalar.muli arg21_r0 c512_i32_890_r0
  let c256_i32_1048_r0 : BitVec 32 := 256#32
  let v1470_r0 : BitVec 32 := Scalar.addi v1293_r0 c256_i32_1048_r0
  v1470_r0
def k0_mult77 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c1_i32_717_r0 : BitVec 32 := 1#32
  let v855_r0 : BitVec 32 := Scalar.addi arg21_r0 c1_i32_717_r0
  let c512_i32_718_r0 : BitVec 32 := 512#32
  let v856_r0 : BitVec 32 := Scalar.muli v855_r0 c512_i32_718_r0
  v856_r0
def k0_off122 (k0_t3 : Fin k0_t3_loop.trips) : Fin 2 → Nat :=
  let c0_i32_327_r0 : BitVec 32 := 0#32
  let c1_i32_328_r0 : BitVec 32 := 1#32
  let arg21_r0 : BitVec 32 := Scf.iv c0_i32_327_r0 c1_i32_328_r0 k0_t3
  let c1_i32_717_r0 : BitVec 32 := 1#32
  let v855_r0 : BitVec 32 := Scalar.addi arg21_r0 c1_i32_717_r0
  let c512_i32_718_r0 : BitVec 32 := 512#32
  let v856_r0 : BitVec 32 := Scalar.muli v855_r0 c512_i32_718_r0
  let v1477_r0 : BitVec 32 := v856_r0
  let v1478_r0 : Index := Scalar.indexCast v1477_r0
  let c0_1054_r0 : Index := 0#32
  ![v1478_r0.toNat, 0]
def k0_mult78 (k0_t3 : Fin k0_t3_loop.trips) : BitVec 32 :=
  let c0_i32_327_r0 : BitVec 32 := 0#32
  let c1_i32_328_r0 : BitVec 32 := 1#32
  let arg21_r0 : BitVec 32 := Scf.iv c0_i32_327_r0 c1_i32_328_r0 k0_t3
  let c1_i32_717_r0 : BitVec 32 := 1#32
  let v855_r0 : BitVec 32 := Scalar.addi arg21_r0 c1_i32_717_r0
  let c512_i32_718_r0 : BitVec 32 := 512#32
  let v856_r0 : BitVec 32 := Scalar.muli v855_r0 c512_i32_718_r0
  v856_r0
def k0_off123 (k0_t3 : Fin k0_t3_loop.trips) : Fin 2 → Nat :=
  let c0_i32_327_r0 : BitVec 32 := 0#32
  let c1_i32_328_r0 : BitVec 32 := 1#32
  let arg21_r0 : BitVec 32 := Scf.iv c0_i32_327_r0 c1_i32_328_r0 k0_t3
  let c1_i32_717_r0 : BitVec 32 := 1#32
  let v855_r0 : BitVec 32 := Scalar.addi arg21_r0 c1_i32_717_r0
  let c512_i32_718_r0 : BitVec 32 := 512#32
  let v856_r0 : BitVec 32 := Scalar.muli v855_r0 c512_i32_718_r0
  let v1482_r0 : BitVec 32 := v856_r0
  let v1483_r0 : Index := Scalar.indexCast v1482_r0
  let c256_1059_r0 : Index := 256#32
  ![v1483_r0.toNat, 256]
def k0_mult79 : BitVec 32 :=
  let c0_i32_326_r0 : BitVec 32 := 0#32
  let c4_i32_887_r0 : BitVec 32 := 4#32
  let v1289_r0 : BitVec 32 := Scalar.muli c0_i32_326_r0 c4_i32_887_r0
  let c63_i32_888_r0 : BitVec 32 := 63#32
  let v1290_r0 : BitVec 32 := Scalar.minsi v1289_r0 c63_i32_888_r0
  let c128_i32_889_r0 : BitVec 32 := 128#32
  let v1291_r0 : BitVec 32 := Scalar.muli v1290_r0 c128_i32_889_r0
  let v1292_r0 : BitVec 32 := v1291_r0
  let c0_i32_1064_r0 : BitVec 32 := 0#32
  let v1487_r0 : BitVec 32 := Scalar.addi v1292_r0 c0_i32_1064_r0
  v1487_r0
def k0_off124 (k0_t3 : Fin k0_t3_loop.trips) : Fin 3 → Nat :=
  let c0_i32_326_r0 : BitVec 32 := 0#32
  let c12_i32_719_r0 : BitVec 32 := 12#32
  let v857_r0 : BitVec 32 := Scalar.muli c0_i32_326_r0 c12_i32_719_r0
  let c0_i32_327_r0 : BitVec 32 := 0#32
  let c1_i32_328_r0 : BitVec 32 := 1#32
  let arg21_r0 : BitVec 32 := Scf.iv c0_i32_327_r0 c1_i32_328_r0 k0_t3
  let v858_r0 : BitVec 32 := Scalar.addi v857_r0 arg21_r0
  let c2_i32_720_r0 : BitVec 32 := 2#32
  let v859_r0 : BitVec 32 := Scalar.remsi v858_r0 c2_i32_720_r0
  let v1496_r0 : Index := Scalar.indexCast v859_r0
  let c256_1066_r0 : Index := 256#32
  let c0_1067_r0 : Index := 0#32
  ![v1496_r0.toNat, 256, 0]
def k0_mult80 : BitVec 32 :=
  let c0_i32_326_r0 : BitVec 32 := 0#32
  let c4_i32_887_r0 : BitVec 32 := 4#32
  let v1289_r0 : BitVec 32 := Scalar.muli c0_i32_326_r0 c4_i32_887_r0
  let c63_i32_888_r0 : BitVec 32 := 63#32
  let v1290_r0 : BitVec 32 := Scalar.minsi v1289_r0 c63_i32_888_r0
  let c128_i32_889_r0 : BitVec 32 := 128#32
  let v1291_r0 : BitVec 32 := Scalar.muli v1290_r0 c128_i32_889_r0
  let v1292_r0 : BitVec 32 := v1291_r0
  let c256_i32_1068_r0 : BitVec 32 := 256#32
  let v1500_r0 : BitVec 32 := Scalar.addi v1292_r0 c256_i32_1068_r0
  v1500_r0
def k0_off125 (k0_t3 : Fin k0_t3_loop.trips) : Fin 3 → Nat :=
  let c0_i32_326_r0 : BitVec 32 := 0#32
  let c12_i32_719_r0 : BitVec 32 := 12#32
  let v857_r0 : BitVec 32 := Scalar.muli c0_i32_326_r0 c12_i32_719_r0
  let c0_i32_327_r0 : BitVec 32 := 0#32
  let c1_i32_328_r0 : BitVec 32 := 1#32
  let arg21_r0 : BitVec 32 := Scf.iv c0_i32_327_r0 c1_i32_328_r0 k0_t3
  let v858_r0 : BitVec 32 := Scalar.addi v857_r0 arg21_r0
  let c2_i32_720_r0 : BitVec 32 := 2#32
  let v859_r0 : BitVec 32 := Scalar.remsi v858_r0 c2_i32_720_r0
  let v1509_r0 : Index := Scalar.indexCast v859_r0
  let c256_1070_r0 : Index := 256#32
  let c256_1071_r0 : Index := 256#32
  ![v1509_r0.toNat, 256, 256]
def k0_mult81 : BitVec 32 :=
  let c0_i32_330_r0 : BitVec 32 := 0#32
  let c2_i32_331_r0 : BitVec 32 := 2#32
  let v390_r0 : BitVec 32 := Scalar.addi c0_i32_330_r0 c2_i32_331_r0
  let c16_i32_r0 : BitVec 32 := 16#32
  let v391_r0 : BitVec 32 := Scalar.minsi v390_r0 c16_i32_r0
  let c4_i32_332_r0 : BitVec 32 := 4#32
  let v392_r0 : BitVec 32 := Scalar.muli v391_r0 c4_i32_332_r0
  let c63_i32_333_r0 : BitVec 32 := 63#32
  let v393_r0 : BitVec 32 := Scalar.minsi v392_r0 c63_i32_333_r0
  let c0_i32_334_r0 : BitVec 32 := 0#32
  let v394_r0 : BitVec 32 := Scalar.addi v393_r0 c0_i32_334_r0
  let c128_i32_335_r0 : BitVec 32 := 128#32
  let v395_r0 : BitVec 32 := Scalar.muli v394_r0 c128_i32_335_r0
  v395_r0
def k0_mult82 : BitVec 32 :=
  let c0_i32_330_r0 : BitVec 32 := 0#32
  let c2_i32_331_r0 : BitVec 32 := 2#32
  let v390_r0 : BitVec 32 := Scalar.addi c0_i32_330_r0 c2_i32_331_r0
  let c16_i32_r0 : BitVec 32 := 16#32
  let v391_r0 : BitVec 32 := Scalar.minsi v390_r0 c16_i32_r0
  let c4_i32_332_r0 : BitVec 32 := 4#32
  let v392_r0 : BitVec 32 := Scalar.muli v391_r0 c4_i32_332_r0
  let c63_i32_333_r0 : BitVec 32 := 63#32
  let v393_r0 : BitVec 32 := Scalar.minsi v392_r0 c63_i32_333_r0
  let c1_i32_336_r0 : BitVec 32 := 1#32
  let v397_r0 : BitVec 32 := Scalar.addi v393_r0 c1_i32_336_r0
  let c128_i32_337_r0 : BitVec 32 := 128#32
  let v398_r0 : BitVec 32 := Scalar.muli v397_r0 c128_i32_337_r0
  v398_r0
def k0_mult83 : BitVec 32 :=
  let c0_i32_330_r0 : BitVec 32 := 0#32
  let c2_i32_331_r0 : BitVec 32 := 2#32
  let v390_r0 : BitVec 32 := Scalar.addi c0_i32_330_r0 c2_i32_331_r0
  let c16_i32_r0 : BitVec 32 := 16#32
  let v391_r0 : BitVec 32 := Scalar.minsi v390_r0 c16_i32_r0
  let c4_i32_332_r0 : BitVec 32 := 4#32
  let v392_r0 : BitVec 32 := Scalar.muli v391_r0 c4_i32_332_r0
  let c63_i32_333_r0 : BitVec 32 := 63#32
  let v393_r0 : BitVec 32 := Scalar.minsi v392_r0 c63_i32_333_r0
  let c2_i32_338_r0 : BitVec 32 := 2#32
  let v400_r0 : BitVec 32 := Scalar.addi v393_r0 c2_i32_338_r0
  let c128_i32_339_r0 : BitVec 32 := 128#32
  let v401_r0 : BitVec 32 := Scalar.muli v400_r0 c128_i32_339_r0
  v401_r0
def k0_mult84 : BitVec 32 :=
  let c0_i32_330_r0 : BitVec 32 := 0#32
  let c2_i32_331_r0 : BitVec 32 := 2#32
  let v390_r0 : BitVec 32 := Scalar.addi c0_i32_330_r0 c2_i32_331_r0
  let c16_i32_r0 : BitVec 32 := 16#32
  let v391_r0 : BitVec 32 := Scalar.minsi v390_r0 c16_i32_r0
  let c4_i32_332_r0 : BitVec 32 := 4#32
  let v392_r0 : BitVec 32 := Scalar.muli v391_r0 c4_i32_332_r0
  let c63_i32_333_r0 : BitVec 32 := 63#32
  let v393_r0 : BitVec 32 := Scalar.minsi v392_r0 c63_i32_333_r0
  let c3_i32_340_r0 : BitVec 32 := 3#32
  let v403_r0 : BitVec 32 := Scalar.addi v393_r0 c3_i32_340_r0
  let c128_i32_341_r0 : BitVec 32 := 128#32
  let v404_r0 : BitVec 32 := Scalar.muli v403_r0 c128_i32_341_r0
  v404_r0
def k0_mult85 : BitVec 32 :=
  let c0_i32_330_r0 : BitVec 32 := 0#32
  let c2_i32_331_r0 : BitVec 32 := 2#32
  let v390_r0 : BitVec 32 := Scalar.addi c0_i32_330_r0 c2_i32_331_r0
  let c16_i32_r0 : BitVec 32 := 16#32
  let v391_r0 : BitVec 32 := Scalar.minsi v390_r0 c16_i32_r0
  let c4_i32_332_r0 : BitVec 32 := 4#32
  let v392_r0 : BitVec 32 := Scalar.muli v391_r0 c4_i32_332_r0
  let c63_i32_333_r0 : BitVec 32 := 63#32
  let v393_r0 : BitVec 32 := Scalar.minsi v392_r0 c63_i32_333_r0
  let c0_i32_342_r0 : BitVec 32 := 0#32
  let v406_r0 : BitVec 32 := Scalar.addi v393_r0 c0_i32_342_r0
  let c34_i32_343_r0 : BitVec 32 := 34#32
  let v407_r0 : BitVec 1 := Scalar.cmpi .slt v406_r0 c34_i32_343_r0
  let c34_i32_344_r0 : BitVec 32 := 34#32
  let v408_r0 : BitVec 32 := Scalar.subi v406_r0 c34_i32_344_r0
  let v409_r0 : BitVec 32 := Scalar.select v407_r0 v406_r0 v408_r0
  let c128_i32_345_r0 : BitVec 32 := 128#32
  let v410_r0 : BitVec 32 := Scalar.muli v409_r0 c128_i32_345_r0
  v410_r0
def k0_mult86 : BitVec 32 :=
  let c0_i32_330_r0 : BitVec 32 := 0#32
  let c2_i32_331_r0 : BitVec 32 := 2#32
  let v390_r0 : BitVec 32 := Scalar.addi c0_i32_330_r0 c2_i32_331_r0
  let c16_i32_r0 : BitVec 32 := 16#32
  let v391_r0 : BitVec 32 := Scalar.minsi v390_r0 c16_i32_r0
  let c4_i32_332_r0 : BitVec 32 := 4#32
  let v392_r0 : BitVec 32 := Scalar.muli v391_r0 c4_i32_332_r0
  let c63_i32_333_r0 : BitVec 32 := 63#32
  let v393_r0 : BitVec 32 := Scalar.minsi v392_r0 c63_i32_333_r0
  let c1_i32_346_r0 : BitVec 32 := 1#32
  let v412_r0 : BitVec 32 := Scalar.addi v393_r0 c1_i32_346_r0
  let c34_i32_347_r0 : BitVec 32 := 34#32
  let v413_r0 : BitVec 1 := Scalar.cmpi .slt v412_r0 c34_i32_347_r0
  let c34_i32_348_r0 : BitVec 32 := 34#32
  let v414_r0 : BitVec 32 := Scalar.subi v412_r0 c34_i32_348_r0
  let v415_r0 : BitVec 32 := Scalar.select v413_r0 v412_r0 v414_r0
  let c128_i32_349_r0 : BitVec 32 := 128#32
  let v416_r0 : BitVec 32 := Scalar.muli v415_r0 c128_i32_349_r0
  v416_r0
def k0_mult87 : BitVec 32 :=
  let c0_i32_330_r0 : BitVec 32 := 0#32
  let c2_i32_331_r0 : BitVec 32 := 2#32
  let v390_r0 : BitVec 32 := Scalar.addi c0_i32_330_r0 c2_i32_331_r0
  let c16_i32_r0 : BitVec 32 := 16#32
  let v391_r0 : BitVec 32 := Scalar.minsi v390_r0 c16_i32_r0
  let c4_i32_332_r0 : BitVec 32 := 4#32
  let v392_r0 : BitVec 32 := Scalar.muli v391_r0 c4_i32_332_r0
  let c63_i32_333_r0 : BitVec 32 := 63#32
  let v393_r0 : BitVec 32 := Scalar.minsi v392_r0 c63_i32_333_r0
  let c2_i32_350_r0 : BitVec 32 := 2#32
  let v418_r0 : BitVec 32 := Scalar.addi v393_r0 c2_i32_350_r0
  let c34_i32_351_r0 : BitVec 32 := 34#32
  let v419_r0 : BitVec 1 := Scalar.cmpi .slt v418_r0 c34_i32_351_r0
  let c34_i32_352_r0 : BitVec 32 := 34#32
  let v420_r0 : BitVec 32 := Scalar.subi v418_r0 c34_i32_352_r0
  let v421_r0 : BitVec 32 := Scalar.select v419_r0 v418_r0 v420_r0
  let c128_i32_353_r0 : BitVec 32 := 128#32
  let v422_r0 : BitVec 32 := Scalar.muli v421_r0 c128_i32_353_r0
  v422_r0
def k0_mult88 : BitVec 32 :=
  let c0_i32_330_r0 : BitVec 32 := 0#32
  let c2_i32_331_r0 : BitVec 32 := 2#32
  let v390_r0 : BitVec 32 := Scalar.addi c0_i32_330_r0 c2_i32_331_r0
  let c16_i32_r0 : BitVec 32 := 16#32
  let v391_r0 : BitVec 32 := Scalar.minsi v390_r0 c16_i32_r0
  let c4_i32_332_r0 : BitVec 32 := 4#32
  let v392_r0 : BitVec 32 := Scalar.muli v391_r0 c4_i32_332_r0
  let c63_i32_333_r0 : BitVec 32 := 63#32
  let v393_r0 : BitVec 32 := Scalar.minsi v392_r0 c63_i32_333_r0
  let c3_i32_354_r0 : BitVec 32 := 3#32
  let v424_r0 : BitVec 32 := Scalar.addi v393_r0 c3_i32_354_r0
  let c34_i32_355_r0 : BitVec 32 := 34#32
  let v425_r0 : BitVec 1 := Scalar.cmpi .slt v424_r0 c34_i32_355_r0
  let c34_i32_356_r0 : BitVec 32 := 34#32
  let v426_r0 : BitVec 32 := Scalar.subi v424_r0 c34_i32_356_r0
  let v427_r0 : BitVec 32 := Scalar.select v425_r0 v424_r0 v426_r0
  let c128_i32_357_r0 : BitVec 32 := 128#32
  let v428_r0 : BitVec 32 := Scalar.muli v427_r0 c128_i32_357_r0
  v428_r0
def k0_mult89 : BitVec 32 :=
  let c0_i32_330_r0 : BitVec 32 := 0#32
  let c2_i32_331_r0 : BitVec 32 := 2#32
  let v390_r0 : BitVec 32 := Scalar.addi c0_i32_330_r0 c2_i32_331_r0
  let c16_i32_r0 : BitVec 32 := 16#32
  let v391_r0 : BitVec 32 := Scalar.minsi v390_r0 c16_i32_r0
  let c4_i32_332_r0 : BitVec 32 := 4#32
  let v392_r0 : BitVec 32 := Scalar.muli v391_r0 c4_i32_332_r0
  let c63_i32_333_r0 : BitVec 32 := 63#32
  let v393_r0 : BitVec 32 := Scalar.minsi v392_r0 c63_i32_333_r0
  let c4_i32_358_r0 : BitVec 32 := 4#32
  let v430_r0 : BitVec 32 := Scalar.addi v393_r0 c4_i32_358_r0
  let c34_i32_359_r0 : BitVec 32 := 34#32
  let v431_r0 : BitVec 1 := Scalar.cmpi .slt v430_r0 c34_i32_359_r0
  let c34_i32_360_r0 : BitVec 32 := 34#32
  let v432_r0 : BitVec 32 := Scalar.subi v430_r0 c34_i32_360_r0
  let v433_r0 : BitVec 32 := Scalar.select v431_r0 v430_r0 v432_r0
  let c128_i32_361_r0 : BitVec 32 := 128#32
  let v434_r0 : BitVec 32 := Scalar.muli v433_r0 c128_i32_361_r0
  v434_r0
def k0_off126 (c0_i32_334_r0 : BitVec 32) : Fin 2 → Nat :=
  let c0_i32_366_r0 : BitVec 32 := 0#32
  let c0_i32_330_r0 : BitVec 32 := 0#32
  let c2_i32_331_r0 : BitVec 32 := 2#32
  let v390_r0 : BitVec 32 := Scalar.addi c0_i32_330_r0 c2_i32_331_r0
  let c16_i32_r0 : BitVec 32 := 16#32
  let v391_r0 : BitVec 32 := Scalar.minsi v390_r0 c16_i32_r0
  let c4_i32_332_r0 : BitVec 32 := 4#32
  let v392_r0 : BitVec 32 := Scalar.muli v391_r0 c4_i32_332_r0
  let c63_i32_333_r0 : BitVec 32 := 63#32
  let v393_r0 : BitVec 32 := Scalar.minsi v392_r0 c63_i32_333_r0
  let v394_r0 : BitVec 32 := Scalar.addi v393_r0 c0_i32_334_r0
  let c128_i32_335_r0 : BitVec 32 := 128#32
  let v395_r0 : BitVec 32 := Scalar.muli v394_r0 c128_i32_335_r0
  let v396_r0 : BitVec 32 := v395_r0
  ![0, v396_r0.toNat]
def k0_off127 (c0_i32_342_r0 : BitVec 32) : Fin 2 → Nat :=
  let c0_i32_385_r0 : BitVec 32 := 0#32
  let c0_i32_330_r0 : BitVec 32 := 0#32
  let c2_i32_331_r0 : BitVec 32 := 2#32
  let v390_r0 : BitVec 32 := Scalar.addi c0_i32_330_r0 c2_i32_331_r0
  let c16_i32_r0 : BitVec 32 := 16#32
  let v391_r0 : BitVec 32 := Scalar.minsi v390_r0 c16_i32_r0
  let c4_i32_332_r0 : BitVec 32 := 4#32
  let v392_r0 : BitVec 32 := Scalar.muli v391_r0 c4_i32_332_r0
  let c63_i32_333_r0 : BitVec 32 := 63#32
  let v393_r0 : BitVec 32 := Scalar.minsi v392_r0 c63_i32_333_r0
  let v406_r0 : BitVec 32 := Scalar.addi v393_r0 c0_i32_342_r0
  let c34_i32_343_r0 : BitVec 32 := 34#32
  let v407_r0 : BitVec 1 := Scalar.cmpi .slt v406_r0 c34_i32_343_r0
  let c34_i32_344_r0 : BitVec 32 := 34#32
  let v408_r0 : BitVec 32 := Scalar.subi v406_r0 c34_i32_344_r0
  let v409_r0 : BitVec 32 := Scalar.select v407_r0 v406_r0 v408_r0
  let c128_i32_345_r0 : BitVec 32 := 128#32
  let v410_r0 : BitVec 32 := Scalar.muli v409_r0 c128_i32_345_r0
  let v411_r0 : BitVec 32 := v410_r0
  ![0, v411_r0.toNat]
@[reducible] def k0_t4_loop : Scf.Loop 32 :=
  let c9_i32_404_r0 : BitVec 32 := 9#32
  let c2_i32_405_r0 : BitVec 32 := 2#32
  let v476_r0 : BitVec 32 := Scalar.addi c9_i32_404_r0 c2_i32_405_r0
  let c1_i32_406_r0 : BitVec 32 := 1#32
  ⟨c9_i32_404_r0, v476_r0, c1_i32_406_r0⟩
def k0_cond5 (k0_t4 : Fin k0_t4_loop.trips) : BitVec 1 :=
  let c9_i32_404_r0 : BitVec 32 := 9#32
  let c1_i32_406_r0 : BitVec 32 := 1#32
  let arg21_r0 : BitVec 32 := Scf.iv c9_i32_404_r0 c1_i32_406_r0 k0_t4
  let c0_i32_721_r0 : BitVec 32 := 0#32
  let v860_r0 : BitVec 1 := Scalar.cmpi .sgt arg21_r0 c0_i32_721_r0
  let v861_r0 : BitVec 32 := Scalar.extui v860_r0
  let c0_i32_722_r0 : BitVec 32 := 0#32
  let v862_r0 : BitVec 1 := Scalar.cmpi .ne v861_r0 c0_i32_722_r0
  v862_r0

def k0_mult90 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c0_i32_910_r0 : BitVec 32 := 0#32
  let v1090_r0 : BitVec 1 := Scalar.cmpi .eq arg21_r0 c0_i32_910_r0
  let c0_i32_403_r0 : BitVec 32 := 0#32
  let c1_i32_911_r0 : BitVec 32 := 1#32
  let v1091_r0 : BitVec 32 := Scalar.subi c0_i32_403_r0 c1_i32_911_r0
  let v1092_r0 : BitVec 32 := Scalar.select v1090_r0 v1091_r0 c0_i32_403_r0
  let c4_i32_915_r0 : BitVec 32 := 4#32
  let v1096_r0 : BitVec 32 := Scalar.muli v1092_r0 c4_i32_915_r0
  let c63_i32_916_r0 : BitVec 32 := 63#32
  let v1097_r0 : BitVec 32 := Scalar.minsi v1096_r0 c63_i32_916_r0
  let c128_i32_917_r0 : BitVec 32 := 128#32
  let v1098_r0 : BitVec 32 := Scalar.muli v1097_r0 c128_i32_917_r0
  v1098_r0
def k0_mult91 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c0_i32_910_r0 : BitVec 32 := 0#32
  let v1090_r0 : BitVec 1 := Scalar.cmpi .eq arg21_r0 c0_i32_910_r0
  let c11_i32_913_r0 : BitVec 32 := 11#32
  let c1_i32_912_r0 : BitVec 32 := 1#32
  let v1093_r0 : BitVec 32 := Scalar.subi arg21_r0 c1_i32_912_r0
  let v1094_r0 : BitVec 32 := Scalar.select v1090_r0 c11_i32_913_r0 v1093_r0
  let c512_i32_918_r0 : BitVec 32 := 512#32
  let v1100_r0 : BitVec 32 := Scalar.muli v1094_r0 c512_i32_918_r0
  v1100_r0
def k0_off128 (k0_t4 : Fin k0_t4_loop.trips) : Fin 1 → Nat :=
  let c1_i32_914_r0 : BitVec 32 := 1#32
  let c0_i32_403_r0 : BitVec 32 := 0#32
  let c12_i32_719_r0 : BitVec 32 := 12#32
  let v857_r0 : BitVec 32 := Scalar.muli c0_i32_403_r0 c12_i32_719_r0
  let c9_i32_404_r0 : BitVec 32 := 9#32
  let c1_i32_406_r0 : BitVec 32 := 1#32
  let arg21_r0 : BitVec 32 := Scf.iv c9_i32_404_r0 c1_i32_406_r0 k0_t4
  let v858_r0 : BitVec 32 := Scalar.addi v857_r0 arg21_r0
  let c2_i32_720_r0 : BitVec 32 := 2#32
  let v859_r0 : BitVec 32 := Scalar.remsi v858_r0 c2_i32_720_r0
  let v1095_r0 : BitVec 32 := Scalar.subi c1_i32_914_r0 v859_r0
  ![v1095_r0.toNat]
def k0_off129 (k0_t4 : Fin k0_t4_loop.trips) : Fin 2 → Nat :=
  let c9_i32_404_r0 : BitVec 32 := 9#32
  let c1_i32_406_r0 : BitVec 32 := 1#32
  let arg21_r0 : BitVec 32 := Scf.iv c9_i32_404_r0 c1_i32_406_r0 k0_t4
  let c0_i32_910_r0 : BitVec 32 := 0#32
  let v1090_r0 : BitVec 1 := Scalar.cmpi .eq arg21_r0 c0_i32_910_r0
  let c11_i32_913_r0 : BitVec 32 := 11#32
  let c1_i32_912_r0 : BitVec 32 := 1#32
  let v1093_r0 : BitVec 32 := Scalar.subi arg21_r0 c1_i32_912_r0
  let v1094_r0 : BitVec 32 := Scalar.select v1090_r0 c11_i32_913_r0 v1093_r0
  let c512_i32_918_r0 : BitVec 32 := 512#32
  let v1100_r0 : BitVec 32 := Scalar.muli v1094_r0 c512_i32_918_r0
  let v1101_r0 : BitVec 32 := v1100_r0
  let c0_i32_403_r0 : BitVec 32 := 0#32
  let c1_i32_911_r0 : BitVec 32 := 1#32
  let v1091_r0 : BitVec 32 := Scalar.subi c0_i32_403_r0 c1_i32_911_r0
  let v1092_r0 : BitVec 32 := Scalar.select v1090_r0 v1091_r0 c0_i32_403_r0
  let c4_i32_915_r0 : BitVec 32 := 4#32
  let v1096_r0 : BitVec 32 := Scalar.muli v1092_r0 c4_i32_915_r0
  let c63_i32_916_r0 : BitVec 32 := 63#32
  let v1097_r0 : BitVec 32 := Scalar.minsi v1096_r0 c63_i32_916_r0
  let c128_i32_917_r0 : BitVec 32 := 128#32
  let v1098_r0 : BitVec 32 := Scalar.muli v1097_r0 c128_i32_917_r0
  let v1099_r0 : BitVec 32 := v1098_r0
  ![v1101_r0.toNat, v1099_r0.toNat]
def k0_off130 (k0_t4 : Fin k0_t4_loop.trips) : Fin 3 → Nat :=
  let c1_i32_914_r0 : BitVec 32 := 1#32
  let c0_i32_403_r0 : BitVec 32 := 0#32
  let c12_i32_719_r0 : BitVec 32 := 12#32
  let v857_r0 : BitVec 32 := Scalar.muli c0_i32_403_r0 c12_i32_719_r0
  let c9_i32_404_r0 : BitVec 32 := 9#32
  let c1_i32_406_r0 : BitVec 32 := 1#32
  let arg21_r0 : BitVec 32 := Scf.iv c9_i32_404_r0 c1_i32_406_r0 k0_t4
  let v858_r0 : BitVec 32 := Scalar.addi v857_r0 arg21_r0
  let c2_i32_720_r0 : BitVec 32 := 2#32
  let v859_r0 : BitVec 32 := Scalar.remsi v858_r0 c2_i32_720_r0
  let v1095_r0 : BitVec 32 := Scalar.subi c1_i32_914_r0 v859_r0
  let c0_i32_919_r0 : BitVec 32 := 0#32
  let c0_i32_920_r0 : BitVec 32 := 0#32
  ![v1095_r0.toNat, 0, 0]
def k0_cond6 (k0_t4 : Fin k0_t4_loop.trips) : BitVec 1 :=
  let c9_i32_404_r0 : BitVec 32 := 9#32
  let c1_i32_406_r0 : BitVec 32 := 1#32
  let arg21_r0 : BitVec 32 := Scf.iv c9_i32_404_r0 c1_i32_406_r0 k0_t4
  let c1_i32_723_r0 : BitVec 32 := 1#32
  let v863_r0 : BitVec 1 := Scalar.cmpi .sgt arg21_r0 c1_i32_723_r0
  let v864_r0 : BitVec 32 := Scalar.extui v863_r0
  let c0_i32_724_r0 : BitVec 32 := 0#32
  let v865_r0 : BitVec 1 := Scalar.cmpi .ne v864_r0 c0_i32_724_r0
  v865_r0

def k0_mult92 : BitVec 32 :=
  let c0_i32_403_r0 : BitVec 32 := 0#32
  let c4_i32_910_r0 : BitVec 32 := 4#32
  let v1090_r0 : BitVec 32 := Scalar.muli c0_i32_403_r0 c4_i32_910_r0
  let c63_i32_911_r0 : BitVec 32 := 63#32
  let v1091_r0 : BitVec 32 := Scalar.minsi v1090_r0 c63_i32_911_r0
  let c128_i32_912_r0 : BitVec 32 := 128#32
  let v1092_r0 : BitVec 32 := Scalar.muli v1091_r0 c128_i32_912_r0
  v1092_r0
def k0_mult93 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_913_r0 : BitVec 32 := 512#32
  let v1094_r0 : BitVec 32 := Scalar.muli arg21_r0 c512_i32_913_r0
  v1094_r0
def k0_off131 (k0_t4 : Fin k0_t4_loop.trips) : Fin 1 → Nat :=
  let c0_i32_403_r0 : BitVec 32 := 0#32
  let c12_i32_719_r0 : BitVec 32 := 12#32
  let v857_r0 : BitVec 32 := Scalar.muli c0_i32_403_r0 c12_i32_719_r0
  let c9_i32_404_r0 : BitVec 32 := 9#32
  let c1_i32_406_r0 : BitVec 32 := 1#32
  let arg21_r0 : BitVec 32 := Scf.iv c9_i32_404_r0 c1_i32_406_r0 k0_t4
  let v858_r0 : BitVec 32 := Scalar.addi v857_r0 arg21_r0
  let c2_i32_720_r0 : BitVec 32 := 2#32
  let v859_r0 : BitVec 32 := Scalar.remsi v858_r0 c2_i32_720_r0
  ![v859_r0.toNat]
def k0_off132 (k0_t4 : Fin k0_t4_loop.trips) : Fin 2 → Nat :=
  let c9_i32_404_r0 : BitVec 32 := 9#32
  let c1_i32_406_r0 : BitVec 32 := 1#32
  let arg21_r0 : BitVec 32 := Scf.iv c9_i32_404_r0 c1_i32_406_r0 k0_t4
  let c512_i32_913_r0 : BitVec 32 := 512#32
  let v1094_r0 : BitVec 32 := Scalar.muli arg21_r0 c512_i32_913_r0
  let v1095_r0 : BitVec 32 := v1094_r0
  let c0_i32_403_r0 : BitVec 32 := 0#32
  let c4_i32_910_r0 : BitVec 32 := 4#32
  let v1090_r0 : BitVec 32 := Scalar.muli c0_i32_403_r0 c4_i32_910_r0
  let c63_i32_911_r0 : BitVec 32 := 63#32
  let v1091_r0 : BitVec 32 := Scalar.minsi v1090_r0 c63_i32_911_r0
  let c128_i32_912_r0 : BitVec 32 := 128#32
  let v1092_r0 : BitVec 32 := Scalar.muli v1091_r0 c128_i32_912_r0
  let v1093_r0 : BitVec 32 := v1092_r0
  ![v1095_r0.toNat, v1093_r0.toNat]
def k0_off133 (k0_t4 : Fin k0_t4_loop.trips) : Fin 3 → Nat :=
  let c0_i32_403_r0 : BitVec 32 := 0#32
  let c12_i32_719_r0 : BitVec 32 := 12#32
  let v857_r0 : BitVec 32 := Scalar.muli c0_i32_403_r0 c12_i32_719_r0
  let c9_i32_404_r0 : BitVec 32 := 9#32
  let c1_i32_406_r0 : BitVec 32 := 1#32
  let arg21_r0 : BitVec 32 := Scf.iv c9_i32_404_r0 c1_i32_406_r0 k0_t4
  let v858_r0 : BitVec 32 := Scalar.addi v857_r0 arg21_r0
  let c2_i32_720_r0 : BitVec 32 := 2#32
  let v859_r0 : BitVec 32 := Scalar.remsi v858_r0 c2_i32_720_r0
  let c0_i32_914_r0 : BitVec 32 := 0#32
  let c0_i32_915_r0 : BitVec 32 := 0#32
  ![v859_r0.toNat, 0, 0]
def k0_mult94 : BitVec 32 :=
  let c0_i32_403_r0 : BitVec 32 := 0#32
  let c4_i32_725_r0 : BitVec 32 := 4#32
  let v866_r0 : BitVec 32 := Scalar.muli c0_i32_403_r0 c4_i32_725_r0
  let c63_i32_726_r0 : BitVec 32 := 63#32
  let v867_r0 : BitVec 32 := Scalar.minsi v866_r0 c63_i32_726_r0
  let c128_i32_727_r0 : BitVec 32 := 128#32
  let v868_r0 : BitVec 32 := Scalar.muli v867_r0 c128_i32_727_r0
  v868_r0
def k0_mult95 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c0_i32_729_r0 : BitVec 32 := 0#32
  let v871_r0 : BitVec 32 := Scalar.addi v870_r0 c0_i32_729_r0
  v871_r0
def k0_off134 (k0_t4 : Fin k0_t4_loop.trips) (c0_i32_729_r0 : BitVec 32) : Fin 2 → Nat :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let v871_r0 : BitVec 32 := Scalar.addi v870_r0 c0_i32_729_r0
  let v872_r0 : BitVec 32 := v871_r0
  let v873_r0 : Index := Scalar.indexCast v872_r0
  let c512_730_r0 : Index := 512#32
  ![v873_r0.toNat, 512]
def k0_mult96 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c0_i32_735_r0 : BitVec 32 := 0#32
  let v877_r0 : BitVec 32 := Scalar.addi v870_r0 c0_i32_735_r0
  v877_r0
def k0_off135 (k0_t4 : Fin k0_t4_loop.trips) (c0_i32_735_r0 : BitVec 32) : Fin 2 → Nat :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let v877_r0 : BitVec 32 := Scalar.addi v870_r0 c0_i32_735_r0
  let v878_r0 : BitVec 32 := v877_r0
  let v879_r0 : Index := Scalar.indexCast v878_r0
  let c768_736_r0 : Index := 768#32
  ![v879_r0.toNat, 768]
def k0_mult97 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c0_i32_741_r0 : BitVec 32 := 0#32
  let v883_r0 : BitVec 32 := Scalar.addi v870_r0 c0_i32_741_r0
  v883_r0
def k0_off136 (k0_t4 : Fin k0_t4_loop.trips) (c0_i32_741_r0 : BitVec 32) : Fin 2 → Nat :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let v883_r0 : BitVec 32 := Scalar.addi v870_r0 c0_i32_741_r0
  let v884_r0 : BitVec 32 := v883_r0
  let v885_r0 : Index := Scalar.indexCast v884_r0
  let c1024_742_r0 : Index := 1024#32
  ![v885_r0.toNat, 1024]
def k0_mult98 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c0_i32_747_r0 : BitVec 32 := 0#32
  let v889_r0 : BitVec 32 := Scalar.addi v870_r0 c0_i32_747_r0
  v889_r0
def k0_off137 (k0_t4 : Fin k0_t4_loop.trips) (c0_i32_747_r0 : BitVec 32) : Fin 2 → Nat :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let v889_r0 : BitVec 32 := Scalar.addi v870_r0 c0_i32_747_r0
  let v890_r0 : BitVec 32 := v889_r0
  let v891_r0 : Index := Scalar.indexCast v890_r0
  let c1280_748_r0 : Index := 1280#32
  ![v891_r0.toNat, 1280]
def k0_mult99 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c0_i32_753_r0 : BitVec 32 := 0#32
  let v895_r0 : BitVec 32 := Scalar.addi v870_r0 c0_i32_753_r0
  v895_r0
def k0_off138 (k0_t4 : Fin k0_t4_loop.trips) (c0_i32_753_r0 : BitVec 32) : Fin 2 → Nat :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let v895_r0 : BitVec 32 := Scalar.addi v870_r0 c0_i32_753_r0
  let v896_r0 : BitVec 32 := v895_r0
  let v897_r0 : Index := Scalar.indexCast v896_r0
  let c1536_754_r0 : Index := 1536#32
  ![v897_r0.toNat, 1536]
def k0_mult100 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c0_i32_759_r0 : BitVec 32 := 0#32
  let v901_r0 : BitVec 32 := Scalar.addi v870_r0 c0_i32_759_r0
  v901_r0
def k0_off139 (k0_t4 : Fin k0_t4_loop.trips) (c0_i32_759_r0 : BitVec 32) : Fin 2 → Nat :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let v901_r0 : BitVec 32 := Scalar.addi v870_r0 c0_i32_759_r0
  let v902_r0 : BitVec 32 := v901_r0
  let v903_r0 : Index := Scalar.indexCast v902_r0
  let c1792_760_r0 : Index := 1792#32
  ![v903_r0.toNat, 1792]
def k0_mult101 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c0_i32_765_r0 : BitVec 32 := 0#32
  let v907_r0 : BitVec 32 := Scalar.addi v870_r0 c0_i32_765_r0
  v907_r0
def k0_off140 (k0_t4 : Fin k0_t4_loop.trips) (c0_i32_765_r0 : BitVec 32) : Fin 2 → Nat :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let v907_r0 : BitVec 32 := Scalar.addi v870_r0 c0_i32_765_r0
  let v908_r0 : BitVec 32 := v907_r0
  let v909_r0 : Index := Scalar.indexCast v908_r0
  let c2048_766_r0 : Index := 2048#32
  ![v909_r0.toNat, 2048]
def k0_mult102 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c0_i32_771_r0 : BitVec 32 := 0#32
  let v913_r0 : BitVec 32 := Scalar.addi v870_r0 c0_i32_771_r0
  v913_r0
def k0_off141 (k0_t4 : Fin k0_t4_loop.trips) (c0_i32_771_r0 : BitVec 32) : Fin 2 → Nat :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let v913_r0 : BitVec 32 := Scalar.addi v870_r0 c0_i32_771_r0
  let v914_r0 : BitVec 32 := v913_r0
  let v915_r0 : Index := Scalar.indexCast v914_r0
  let c2304_772_r0 : Index := 2304#32
  ![v915_r0.toNat, 2304]
def k0_mult103 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c0_i32_777_r0 : BitVec 32 := 0#32
  let v919_r0 : BitVec 32 := Scalar.addi v870_r0 c0_i32_777_r0
  v919_r0
def k0_off142 (k0_t4 : Fin k0_t4_loop.trips) (c0_i32_777_r0 : BitVec 32) : Fin 2 → Nat :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let v919_r0 : BitVec 32 := Scalar.addi v870_r0 c0_i32_777_r0
  let v920_r0 : BitVec 32 := v919_r0
  let v921_r0 : Index := Scalar.indexCast v920_r0
  let c2560_778_r0 : Index := 2560#32
  ![v921_r0.toNat, 2560]
def k0_mult104 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c0_i32_783_r0 : BitVec 32 := 0#32
  let v925_r0 : BitVec 32 := Scalar.addi v870_r0 c0_i32_783_r0
  v925_r0
def k0_off143 (k0_t4 : Fin k0_t4_loop.trips) (c0_i32_783_r0 : BitVec 32) : Fin 2 → Nat :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let v925_r0 : BitVec 32 := Scalar.addi v870_r0 c0_i32_783_r0
  let v926_r0 : BitVec 32 := v925_r0
  let v927_r0 : Index := Scalar.indexCast v926_r0
  let c2816_784_r0 : Index := 2816#32
  ![v927_r0.toNat, 2816]
def k0_mult105 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c0_i32_789_r0 : BitVec 32 := 0#32
  let v931_r0 : BitVec 32 := Scalar.addi v870_r0 c0_i32_789_r0
  v931_r0
def k0_off144 (k0_t4 : Fin k0_t4_loop.trips) (c0_i32_789_r0 : BitVec 32) : Fin 2 → Nat :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let v931_r0 : BitVec 32 := Scalar.addi v870_r0 c0_i32_789_r0
  let v932_r0 : BitVec 32 := v931_r0
  let v933_r0 : Index := Scalar.indexCast v932_r0
  let c3072_790_r0 : Index := 3072#32
  ![v933_r0.toNat, 3072]
def k0_mult106 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c0_i32_795_r0 : BitVec 32 := 0#32
  let v937_r0 : BitVec 32 := Scalar.addi v870_r0 c0_i32_795_r0
  v937_r0
def k0_off145 (k0_t4 : Fin k0_t4_loop.trips) (c0_i32_795_r0 : BitVec 32) : Fin 2 → Nat :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let v937_r0 : BitVec 32 := Scalar.addi v870_r0 c0_i32_795_r0
  let v938_r0 : BitVec 32 := v937_r0
  let v939_r0 : Index := Scalar.indexCast v938_r0
  let c3328_796_r0 : Index := 3328#32
  ![v939_r0.toNat, 3328]
def k0_mult107 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c256_i32_801_r0 : BitVec 32 := 256#32
  let v944_r0 : BitVec 32 := Scalar.addi v870_r0 c256_i32_801_r0
  v944_r0
def k0_off146 (k0_t4 : Fin k0_t4_loop.trips) : Fin 2 → Nat :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c256_i32_801_r0 : BitVec 32 := 256#32
  let v944_r0 : BitVec 32 := Scalar.addi v870_r0 c256_i32_801_r0
  let v945_r0 : BitVec 32 := v944_r0
  let v946_r0 : Index := Scalar.indexCast v945_r0
  let c0_802_r0 : Index := 0#32
  ![v946_r0.toNat, 0]
def k0_mult108 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c256_i32_801_r0 : BitVec 32 := 256#32
  let v944_r0 : BitVec 32 := Scalar.addi v870_r0 c256_i32_801_r0
  v944_r0
def k0_off147 (k0_t4 : Fin k0_t4_loop.trips) : Fin 2 → Nat :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c256_i32_801_r0 : BitVec 32 := 256#32
  let v944_r0 : BitVec 32 := Scalar.addi v870_r0 c256_i32_801_r0
  let v950_r0 : BitVec 32 := v944_r0
  let v951_r0 : Index := Scalar.indexCast v950_r0
  let c256_807_r0 : Index := 256#32
  ![v951_r0.toNat, 256]
def k0_mult109 : BitVec 32 :=
  let c0_i32_403_r0 : BitVec 32 := 0#32
  let c4_i32_725_r0 : BitVec 32 := 4#32
  let v866_r0 : BitVec 32 := Scalar.muli c0_i32_403_r0 c4_i32_725_r0
  let c63_i32_726_r0 : BitVec 32 := 63#32
  let v867_r0 : BitVec 32 := Scalar.minsi v866_r0 c63_i32_726_r0
  let c128_i32_727_r0 : BitVec 32 := 128#32
  let v868_r0 : BitVec 32 := Scalar.muli v867_r0 c128_i32_727_r0
  let v869_r0 : BitVec 32 := v868_r0
  let c0_i32_812_r0 : BitVec 32 := 0#32
  let v955_r0 : BitVec 32 := Scalar.addi v869_r0 c0_i32_812_r0
  v955_r0
def k0_off148 (c0_i32_812_r0 : BitVec 32) : Fin 2 → Nat :=
  let c0_813_r0 : Index := 0#32
  let c0_i32_403_r0 : BitVec 32 := 0#32
  let c4_i32_725_r0 : BitVec 32 := 4#32
  let v866_r0 : BitVec 32 := Scalar.muli c0_i32_403_r0 c4_i32_725_r0
  let c63_i32_726_r0 : BitVec 32 := 63#32
  let v867_r0 : BitVec 32 := Scalar.minsi v866_r0 c63_i32_726_r0
  let c128_i32_727_r0 : BitVec 32 := 128#32
  let v868_r0 : BitVec 32 := Scalar.muli v867_r0 c128_i32_727_r0
  let v869_r0 : BitVec 32 := v868_r0
  let v955_r0 : BitVec 32 := Scalar.addi v869_r0 c0_i32_812_r0
  let v956_r0 : BitVec 32 := v955_r0
  let v957_r0 : Index := Scalar.indexCast v956_r0
  ![0, v957_r0.toNat]
def k0_off149 (k0_t4 : Fin k0_t4_loop.trips) : Fin 3 → Nat :=
  let c0_i32_403_r0 : BitVec 32 := 0#32
  let c12_i32_719_r0 : BitVec 32 := 12#32
  let v857_r0 : BitVec 32 := Scalar.muli c0_i32_403_r0 c12_i32_719_r0
  let c9_i32_404_r0 : BitVec 32 := 9#32
  let c1_i32_406_r0 : BitVec 32 := 1#32
  let arg21_r0 : BitVec 32 := Scf.iv c9_i32_404_r0 c1_i32_406_r0 k0_t4
  let v858_r0 : BitVec 32 := Scalar.addi v857_r0 arg21_r0
  let c2_i32_720_r0 : BitVec 32 := 2#32
  let v859_r0 : BitVec 32 := Scalar.remsi v858_r0 c2_i32_720_r0
  let v964_r0 : Index := Scalar.indexCast v859_r0
  let c0_814_r0 : Index := 0#32
  let c0_815_r0 : Index := 0#32
  ![v964_r0.toNat, 0, 0]
def k0_mult110 : BitVec 32 :=
  let c0_i32_403_r0 : BitVec 32 := 0#32
  let c4_i32_725_r0 : BitVec 32 := 4#32
  let v866_r0 : BitVec 32 := Scalar.muli c0_i32_403_r0 c4_i32_725_r0
  let c63_i32_726_r0 : BitVec 32 := 63#32
  let v867_r0 : BitVec 32 := Scalar.minsi v866_r0 c63_i32_726_r0
  let c128_i32_727_r0 : BitVec 32 := 128#32
  let v868_r0 : BitVec 32 := Scalar.muli v867_r0 c128_i32_727_r0
  let v869_r0 : BitVec 32 := v868_r0
  let c256_i32_816_r0 : BitVec 32 := 256#32
  let v968_r0 : BitVec 32 := Scalar.addi v869_r0 c256_i32_816_r0
  v968_r0
def k0_off150 (k0_t4 : Fin k0_t4_loop.trips) : Fin 3 → Nat :=
  let c0_i32_403_r0 : BitVec 32 := 0#32
  let c12_i32_719_r0 : BitVec 32 := 12#32
  let v857_r0 : BitVec 32 := Scalar.muli c0_i32_403_r0 c12_i32_719_r0
  let c9_i32_404_r0 : BitVec 32 := 9#32
  let c1_i32_406_r0 : BitVec 32 := 1#32
  let arg21_r0 : BitVec 32 := Scf.iv c9_i32_404_r0 c1_i32_406_r0 k0_t4
  let v858_r0 : BitVec 32 := Scalar.addi v857_r0 arg21_r0
  let c2_i32_720_r0 : BitVec 32 := 2#32
  let v859_r0 : BitVec 32 := Scalar.remsi v858_r0 c2_i32_720_r0
  let v977_r0 : Index := Scalar.indexCast v859_r0
  let c0_818_r0 : Index := 0#32
  let c256_819_r0 : Index := 256#32
  ![v977_r0.toNat, 0, 256]
def k0_mult111 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c256_i32_820_r0 : BitVec 32 := 256#32
  let v981_r0 : BitVec 32 := Scalar.addi v870_r0 c256_i32_820_r0
  v981_r0
def k0_mult112 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c256_i32_826_r0 : BitVec 32 := 256#32
  let v987_r0 : BitVec 32 := Scalar.addi v870_r0 c256_i32_826_r0
  v987_r0
def k0_mult113 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c256_i32_832_r0 : BitVec 32 := 256#32
  let v993_r0 : BitVec 32 := Scalar.addi v870_r0 c256_i32_832_r0
  v993_r0
def k0_mult114 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c256_i32_838_r0 : BitVec 32 := 256#32
  let v999_r0 : BitVec 32 := Scalar.addi v870_r0 c256_i32_838_r0
  v999_r0
def k0_mult115 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c256_i32_844_r0 : BitVec 32 := 256#32
  let v1005_r0 : BitVec 32 := Scalar.addi v870_r0 c256_i32_844_r0
  v1005_r0
def k0_mult116 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c256_i32_850_r0 : BitVec 32 := 256#32
  let v1011_r0 : BitVec 32 := Scalar.addi v870_r0 c256_i32_850_r0
  v1011_r0
def k0_mult117 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c256_i32_856_r0 : BitVec 32 := 256#32
  let v1017_r0 : BitVec 32 := Scalar.addi v870_r0 c256_i32_856_r0
  v1017_r0
def k0_mult118 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c256_i32_862_r0 : BitVec 32 := 256#32
  let v1023_r0 : BitVec 32 := Scalar.addi v870_r0 c256_i32_862_r0
  v1023_r0
def k0_mult119 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c256_i32_868_r0 : BitVec 32 := 256#32
  let v1029_r0 : BitVec 32 := Scalar.addi v870_r0 c256_i32_868_r0
  v1029_r0
def k0_mult120 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c256_i32_874_r0 : BitVec 32 := 256#32
  let v1035_r0 : BitVec 32 := Scalar.addi v870_r0 c256_i32_874_r0
  v1035_r0
def k0_mult121 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c256_i32_880_r0 : BitVec 32 := 256#32
  let v1041_r0 : BitVec 32 := Scalar.addi v870_r0 c256_i32_880_r0
  v1041_r0
def k0_mult122 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c512_i32_728_r0 : BitVec 32 := 512#32
  let v870_r0 : BitVec 32 := Scalar.muli arg21_r0 c512_i32_728_r0
  let c256_i32_886_r0 : BitVec 32 := 256#32
  let v1047_r0 : BitVec 32 := Scalar.addi v870_r0 c256_i32_886_r0
  v1047_r0
def k0_mult123 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c1_i32_717_r0 : BitVec 32 := 1#32
  let v855_r0 : BitVec 32 := Scalar.addi arg21_r0 c1_i32_717_r0
  let c512_i32_718_r0 : BitVec 32 := 512#32
  let v856_r0 : BitVec 32 := Scalar.muli v855_r0 c512_i32_718_r0
  v856_r0
def k0_off151 (k0_t4 : Fin k0_t4_loop.trips) : Fin 2 → Nat :=
  let c9_i32_404_r0 : BitVec 32 := 9#32
  let c1_i32_406_r0 : BitVec 32 := 1#32
  let arg21_r0 : BitVec 32 := Scf.iv c9_i32_404_r0 c1_i32_406_r0 k0_t4
  let c1_i32_717_r0 : BitVec 32 := 1#32
  let v855_r0 : BitVec 32 := Scalar.addi arg21_r0 c1_i32_717_r0
  let c512_i32_718_r0 : BitVec 32 := 512#32
  let v856_r0 : BitVec 32 := Scalar.muli v855_r0 c512_i32_718_r0
  let v1054_r0 : BitVec 32 := v856_r0
  let v1055_r0 : Index := Scalar.indexCast v1054_r0
  let c0_892_r0 : Index := 0#32
  ![v1055_r0.toNat, 0]
def k0_mult124 (k0_t4 : Fin k0_t4_loop.trips) : BitVec 32 :=
  let c9_i32_404_r0 : BitVec 32 := 9#32
  let c1_i32_406_r0 : BitVec 32 := 1#32
  let arg21_r0 : BitVec 32 := Scf.iv c9_i32_404_r0 c1_i32_406_r0 k0_t4
  let c1_i32_717_r0 : BitVec 32 := 1#32
  let v855_r0 : BitVec 32 := Scalar.addi arg21_r0 c1_i32_717_r0
  let c512_i32_718_r0 : BitVec 32 := 512#32
  let v856_r0 : BitVec 32 := Scalar.muli v855_r0 c512_i32_718_r0
  v856_r0
def k0_off152 (k0_t4 : Fin k0_t4_loop.trips) : Fin 2 → Nat :=
  let c9_i32_404_r0 : BitVec 32 := 9#32
  let c1_i32_406_r0 : BitVec 32 := 1#32
  let arg21_r0 : BitVec 32 := Scf.iv c9_i32_404_r0 c1_i32_406_r0 k0_t4
  let c1_i32_717_r0 : BitVec 32 := 1#32
  let v855_r0 : BitVec 32 := Scalar.addi arg21_r0 c1_i32_717_r0
  let c512_i32_718_r0 : BitVec 32 := 512#32
  let v856_r0 : BitVec 32 := Scalar.muli v855_r0 c512_i32_718_r0
  let v1059_r0 : BitVec 32 := v856_r0
  let v1060_r0 : Index := Scalar.indexCast v1059_r0
  let c256_897_r0 : Index := 256#32
  ![v1060_r0.toNat, 256]
def k0_mult125 : BitVec 32 :=
  let c0_i32_403_r0 : BitVec 32 := 0#32
  let c4_i32_725_r0 : BitVec 32 := 4#32
  let v866_r0 : BitVec 32 := Scalar.muli c0_i32_403_r0 c4_i32_725_r0
  let c63_i32_726_r0 : BitVec 32 := 63#32
  let v867_r0 : BitVec 32 := Scalar.minsi v866_r0 c63_i32_726_r0
  let c128_i32_727_r0 : BitVec 32 := 128#32
  let v868_r0 : BitVec 32 := Scalar.muli v867_r0 c128_i32_727_r0
  let v869_r0 : BitVec 32 := v868_r0
  let c0_i32_902_r0 : BitVec 32 := 0#32
  let v1064_r0 : BitVec 32 := Scalar.addi v869_r0 c0_i32_902_r0
  v1064_r0
def k0_off153 (k0_t4 : Fin k0_t4_loop.trips) : Fin 3 → Nat :=
  let c0_i32_403_r0 : BitVec 32 := 0#32
  let c12_i32_719_r0 : BitVec 32 := 12#32
  let v857_r0 : BitVec 32 := Scalar.muli c0_i32_403_r0 c12_i32_719_r0
  let c9_i32_404_r0 : BitVec 32 := 9#32
  let c1_i32_406_r0 : BitVec 32 := 1#32
  let arg21_r0 : BitVec 32 := Scf.iv c9_i32_404_r0 c1_i32_406_r0 k0_t4
  let v858_r0 : BitVec 32 := Scalar.addi v857_r0 arg21_r0
  let c2_i32_720_r0 : BitVec 32 := 2#32
  let v859_r0 : BitVec 32 := Scalar.remsi v858_r0 c2_i32_720_r0
  let v1073_r0 : Index := Scalar.indexCast v859_r0
  let c256_904_r0 : Index := 256#32
  let c0_905_r0 : Index := 0#32
  ![v1073_r0.toNat, 256, 0]
def k0_mult126 : BitVec 32 :=
  let c0_i32_403_r0 : BitVec 32 := 0#32
  let c4_i32_725_r0 : BitVec 32 := 4#32
  let v866_r0 : BitVec 32 := Scalar.muli c0_i32_403_r0 c4_i32_725_r0
  let c63_i32_726_r0 : BitVec 32 := 63#32
  let v867_r0 : BitVec 32 := Scalar.minsi v866_r0 c63_i32_726_r0
  let c128_i32_727_r0 : BitVec 32 := 128#32
  let v868_r0 : BitVec 32 := Scalar.muli v867_r0 c128_i32_727_r0
  let v869_r0 : BitVec 32 := v868_r0
  let c256_i32_906_r0 : BitVec 32 := 256#32
  let v1077_r0 : BitVec 32 := Scalar.addi v869_r0 c256_i32_906_r0
  v1077_r0
def k0_off154 (k0_t4 : Fin k0_t4_loop.trips) : Fin 3 → Nat :=
  let c0_i32_403_r0 : BitVec 32 := 0#32
  let c12_i32_719_r0 : BitVec 32 := 12#32
  let v857_r0 : BitVec 32 := Scalar.muli c0_i32_403_r0 c12_i32_719_r0
  let c9_i32_404_r0 : BitVec 32 := 9#32
  let c1_i32_406_r0 : BitVec 32 := 1#32
  let arg21_r0 : BitVec 32 := Scf.iv c9_i32_404_r0 c1_i32_406_r0 k0_t4
  let v858_r0 : BitVec 32 := Scalar.addi v857_r0 arg21_r0
  let c2_i32_720_r0 : BitVec 32 := 2#32
  let v859_r0 : BitVec 32 := Scalar.remsi v858_r0 c2_i32_720_r0
  let v1086_r0 : Index := Scalar.indexCast v859_r0
  let c256_908_r0 : Index := 256#32
  let c256_909_r0 : Index := 256#32
  ![v1086_r0.toNat, 256, 256]
def k0_mult127 : BitVec 32 :=
  let c11_i32_410_r0 : BitVec 32 := 11#32
  let c0_i32_411_r0 : BitVec 32 := 0#32
  let v480_r0 : BitVec 1 := Scalar.cmpi .eq c11_i32_410_r0 c0_i32_411_r0
  let c0_i32_412_r0 : BitVec 32 := 0#32
  let c1_i32_413_r0 : BitVec 32 := 1#32
  let v481_r0 : BitVec 32 := Scalar.subi c0_i32_412_r0 c1_i32_413_r0
  let c0_i32_414_r0 : BitVec 32 := 0#32
  let v482_r0 : BitVec 32 := Scalar.select v480_r0 v481_r0 c0_i32_414_r0
  let c4_i32_419_r0 : BitVec 32 := 4#32
  let v486_r0 : BitVec 32 := Scalar.muli v482_r0 c4_i32_419_r0
  let c63_i32_420_r0 : BitVec 32 := 63#32
  let v487_r0 : BitVec 32 := Scalar.minsi v486_r0 c63_i32_420_r0
  let c128_i32_421_r0 : BitVec 32 := 128#32
  let v488_r0 : BitVec 32 := Scalar.muli v487_r0 c128_i32_421_r0
  v488_r0
def k0_mult128 : BitVec 32 :=
  let c11_i32_410_r0 : BitVec 32 := 11#32
  let c0_i32_411_r0 : BitVec 32 := 0#32
  let v480_r0 : BitVec 1 := Scalar.cmpi .eq c11_i32_410_r0 c0_i32_411_r0
  let c11_i32_417_r0 : BitVec 32 := 11#32
  let c11_i32_415_r0 : BitVec 32 := 11#32
  let c1_i32_416_r0 : BitVec 32 := 1#32
  let v483_r0 : BitVec 32 := Scalar.subi c11_i32_415_r0 c1_i32_416_r0
  let v484_r0 : BitVec 32 := Scalar.select v480_r0 c11_i32_417_r0 v483_r0
  let c512_i32_422_r0 : BitVec 32 := 512#32
  let v490_r0 : BitVec 32 := Scalar.muli v484_r0 c512_i32_422_r0
  v490_r0
def k0_off155 : Fin 1 → Nat :=
  let c1_i32_418_r0 : BitVec 32 := 1#32
  let c0_i32_408_r0 : BitVec 32 := 0#32
  let c12_i32_r0 : BitVec 32 := 12#32
  let v477_r0 : BitVec 32 := Scalar.muli c0_i32_408_r0 c12_i32_r0
  let c11_i32_r0 : BitVec 32 := 11#32
  let v478_r0 : BitVec 32 := Scalar.addi v477_r0 c11_i32_r0
  let c2_i32_409_r0 : BitVec 32 := 2#32
  let v479_r0 : BitVec 32 := Scalar.remsi v478_r0 c2_i32_409_r0
  let v485_r0 : BitVec 32 := Scalar.subi c1_i32_418_r0 v479_r0
  ![v485_r0.toNat]
def k0_off156 : Fin 2 → Nat :=
  let c11_i32_410_r0 : BitVec 32 := 11#32
  let c0_i32_411_r0 : BitVec 32 := 0#32
  let v480_r0 : BitVec 1 := Scalar.cmpi .eq c11_i32_410_r0 c0_i32_411_r0
  let c11_i32_417_r0 : BitVec 32 := 11#32
  let c11_i32_415_r0 : BitVec 32 := 11#32
  let c1_i32_416_r0 : BitVec 32 := 1#32
  let v483_r0 : BitVec 32 := Scalar.subi c11_i32_415_r0 c1_i32_416_r0
  let v484_r0 : BitVec 32 := Scalar.select v480_r0 c11_i32_417_r0 v483_r0
  let c512_i32_422_r0 : BitVec 32 := 512#32
  let v490_r0 : BitVec 32 := Scalar.muli v484_r0 c512_i32_422_r0
  let v491_r0 : BitVec 32 := v490_r0
  let c0_i32_412_r0 : BitVec 32 := 0#32
  let c1_i32_413_r0 : BitVec 32 := 1#32
  let v481_r0 : BitVec 32 := Scalar.subi c0_i32_412_r0 c1_i32_413_r0
  let c0_i32_414_r0 : BitVec 32 := 0#32
  let v482_r0 : BitVec 32 := Scalar.select v480_r0 v481_r0 c0_i32_414_r0
  let c4_i32_419_r0 : BitVec 32 := 4#32
  let v486_r0 : BitVec 32 := Scalar.muli v482_r0 c4_i32_419_r0
  let c63_i32_420_r0 : BitVec 32 := 63#32
  let v487_r0 : BitVec 32 := Scalar.minsi v486_r0 c63_i32_420_r0
  let c128_i32_421_r0 : BitVec 32 := 128#32
  let v488_r0 : BitVec 32 := Scalar.muli v487_r0 c128_i32_421_r0
  let v489_r0 : BitVec 32 := v488_r0
  ![v491_r0.toNat, v489_r0.toNat]
def k0_off157 : Fin 3 → Nat :=
  let c1_i32_418_r0 : BitVec 32 := 1#32
  let c0_i32_408_r0 : BitVec 32 := 0#32
  let c12_i32_r0 : BitVec 32 := 12#32
  let v477_r0 : BitVec 32 := Scalar.muli c0_i32_408_r0 c12_i32_r0
  let c11_i32_r0 : BitVec 32 := 11#32
  let v478_r0 : BitVec 32 := Scalar.addi v477_r0 c11_i32_r0
  let c2_i32_409_r0 : BitVec 32 := 2#32
  let v479_r0 : BitVec 32 := Scalar.remsi v478_r0 c2_i32_409_r0
  let v485_r0 : BitVec 32 := Scalar.subi c1_i32_418_r0 v479_r0
  let c0_i32_423_r0 : BitVec 32 := 0#32
  let c0_i32_424_r0 : BitVec 32 := 0#32
  ![v485_r0.toNat, 0, 0]
def k0_mult129 : BitVec 32 :=
  let c0_i32_425_r0 : BitVec 32 := 0#32
  let c4_i32_426_r0 : BitVec 32 := 4#32
  let v497_r0 : BitVec 32 := Scalar.muli c0_i32_425_r0 c4_i32_426_r0
  let c63_i32_427_r0 : BitVec 32 := 63#32
  let v498_r0 : BitVec 32 := Scalar.minsi v497_r0 c63_i32_427_r0
  let c128_i32_428_r0 : BitVec 32 := 128#32
  let v499_r0 : BitVec 32 := Scalar.muli v498_r0 c128_i32_428_r0
  v499_r0
def k0_mult130 : BitVec 32 :=
  let c11_i32_429_r0 : BitVec 32 := 11#32
  let c512_i32_430_r0 : BitVec 32 := 512#32
  let v501_r0 : BitVec 32 := Scalar.muli c11_i32_429_r0 c512_i32_430_r0
  v501_r0
def k0_off158 : Fin 1 → Nat :=
  let c0_i32_408_r0 : BitVec 32 := 0#32
  let c12_i32_r0 : BitVec 32 := 12#32
  let v477_r0 : BitVec 32 := Scalar.muli c0_i32_408_r0 c12_i32_r0
  let c11_i32_r0 : BitVec 32 := 11#32
  let v478_r0 : BitVec 32 := Scalar.addi v477_r0 c11_i32_r0
  let c2_i32_409_r0 : BitVec 32 := 2#32
  let v479_r0 : BitVec 32 := Scalar.remsi v478_r0 c2_i32_409_r0
  ![v479_r0.toNat]
def k0_off159 (c11_i32_429_r0 : BitVec 32) (c0_i32_425_r0 : BitVec 32) : Fin 2 → Nat :=
  let c512_i32_430_r0 : BitVec 32 := 512#32
  let v501_r0 : BitVec 32 := Scalar.muli c11_i32_429_r0 c512_i32_430_r0
  let v502_r0 : BitVec 32 := v501_r0
  let c4_i32_426_r0 : BitVec 32 := 4#32
  let v497_r0 : BitVec 32 := Scalar.muli c0_i32_425_r0 c4_i32_426_r0
  let c63_i32_427_r0 : BitVec 32 := 63#32
  let v498_r0 : BitVec 32 := Scalar.minsi v497_r0 c63_i32_427_r0
  let c128_i32_428_r0 : BitVec 32 := 128#32
  let v499_r0 : BitVec 32 := Scalar.muli v498_r0 c128_i32_428_r0
  let v500_r0 : BitVec 32 := v499_r0
  ![v502_r0.toNat, v500_r0.toNat]
def k0_off159_at (r : Fin 3) : BitVec 32 × BitVec 32 :=
  if r.val < 1 then
    (11#32, 0#32)
  else
    if r.val < 2 then
      (11#32, 16#32)
    else
      (10#32, 16#32)
def k0_off160 : Fin 3 → Nat :=
  let c0_i32_408_r0 : BitVec 32 := 0#32
  let c12_i32_r0 : BitVec 32 := 12#32
  let v477_r0 : BitVec 32 := Scalar.muli c0_i32_408_r0 c12_i32_r0
  let c11_i32_r0 : BitVec 32 := 11#32
  let v478_r0 : BitVec 32 := Scalar.addi v477_r0 c11_i32_r0
  let c2_i32_409_r0 : BitVec 32 := 2#32
  let v479_r0 : BitVec 32 := Scalar.remsi v478_r0 c2_i32_409_r0
  let c0_i32_431_r0 : BitVec 32 := 0#32
  let c0_i32_432_r0 : BitVec 32 := 0#32
  ![v479_r0.toNat, 0, 0]
def k0_mult131 : BitVec 32 :=
  let c0_i32_433_r0 : BitVec 32 := 0#32
  let c4_i32_434_r0 : BitVec 32 := 4#32
  let v508_r0 : BitVec 32 := Scalar.muli c0_i32_433_r0 c4_i32_434_r0
  let c63_i32_435_r0 : BitVec 32 := 63#32
  let v509_r0 : BitVec 32 := Scalar.minsi v508_r0 c63_i32_435_r0
  let c128_i32_436_r0 : BitVec 32 := 128#32
  let v510_r0 : BitVec 32 := Scalar.muli v509_r0 c128_i32_436_r0
  v510_r0
def k0_mult132 : BitVec 32 :=
  let c11_i32_437_r0 : BitVec 32 := 11#32
  let c512_i32_438_r0 : BitVec 32 := 512#32
  let v512_r0 : BitVec 32 := Scalar.muli c11_i32_437_r0 c512_i32_438_r0
  let c0_i32_439_r0 : BitVec 32 := 0#32
  let v513_r0 : BitVec 32 := Scalar.addi v512_r0 c0_i32_439_r0
  v513_r0
def k0_off161 (c0_i32_439_r0 : BitVec 32) : Fin 2 → Nat :=
  let c11_i32_437_r0 : BitVec 32 := 11#32
  let c512_i32_438_r0 : BitVec 32 := 512#32
  let v512_r0 : BitVec 32 := Scalar.muli c11_i32_437_r0 c512_i32_438_r0
  let v513_r0 : BitVec 32 := Scalar.addi v512_r0 c0_i32_439_r0
  let v514_r0 : BitVec 32 := v513_r0
  let v515_r0 : Index := Scalar.indexCast v514_r0
  let c512_440_r0 : Index := 512#32
  ![v515_r0.toNat, 512]
def k0_mult133 : BitVec 32 :=
  let c11_i32_437_r0 : BitVec 32 := 11#32
  let c512_i32_438_r0 : BitVec 32 := 512#32
  let v512_r0 : BitVec 32 := Scalar.muli c11_i32_437_r0 c512_i32_438_r0
  let c0_i32_444_r0 : BitVec 32 := 0#32
  let v519_r0 : BitVec 32 := Scalar.addi v512_r0 c0_i32_444_r0
  v519_r0
def k0_off162 (c0_i32_444_r0 : BitVec 32) : Fin 2 → Nat :=
  let c11_i32_437_r0 : BitVec 32 := 11#32
  let c512_i32_438_r0 : BitVec 32 := 512#32
  let v512_r0 : BitVec 32 := Scalar.muli c11_i32_437_r0 c512_i32_438_r0
  let v519_r0 : BitVec 32 := Scalar.addi v512_r0 c0_i32_444_r0
  let v520_r0 : BitVec 32 := v519_r0
  let v521_r0 : Index := Scalar.indexCast v520_r0
  let c768_445_r0 : Index := 768#32
  ![v521_r0.toNat, 768]
def k0_mult134 : BitVec 32 :=
  let c11_i32_437_r0 : BitVec 32 := 11#32
  let c512_i32_438_r0 : BitVec 32 := 512#32
  let v512_r0 : BitVec 32 := Scalar.muli c11_i32_437_r0 c512_i32_438_r0
  let c0_i32_449_r0 : BitVec 32 := 0#32
  let v525_r0 : BitVec 32 := Scalar.addi v512_r0 c0_i32_449_r0
  v525_r0
def k0_off163 (c0_i32_449_r0 : BitVec 32) : Fin 2 → Nat :=
  let c11_i32_437_r0 : BitVec 32 := 11#32
  let c512_i32_438_r0 : BitVec 32 := 512#32
  let v512_r0 : BitVec 32 := Scalar.muli c11_i32_437_r0 c512_i32_438_r0
  let v525_r0 : BitVec 32 := Scalar.addi v512_r0 c0_i32_449_r0
  let v526_r0 : BitVec 32 := v525_r0
  let v527_r0 : Index := Scalar.indexCast v526_r0
  let c1024_450_r0 : Index := 1024#32
  ![v527_r0.toNat, 1024]
def k0_mult135 : BitVec 32 :=
  let c11_i32_437_r0 : BitVec 32 := 11#32
  let c512_i32_438_r0 : BitVec 32 := 512#32
  let v512_r0 : BitVec 32 := Scalar.muli c11_i32_437_r0 c512_i32_438_r0
  let c0_i32_454_r0 : BitVec 32 := 0#32
  let v531_r0 : BitVec 32 := Scalar.addi v512_r0 c0_i32_454_r0
  v531_r0
def k0_off164 (c0_i32_454_r0 : BitVec 32) : Fin 2 → Nat :=
  let c11_i32_437_r0 : BitVec 32 := 11#32
  let c512_i32_438_r0 : BitVec 32 := 512#32
  let v512_r0 : BitVec 32 := Scalar.muli c11_i32_437_r0 c512_i32_438_r0
  let v531_r0 : BitVec 32 := Scalar.addi v512_r0 c0_i32_454_r0
  let v532_r0 : BitVec 32 := v531_r0
  let v533_r0 : Index := Scalar.indexCast v532_r0
  let c1280_455_r0 : Index := 1280#32
  ![v533_r0.toNat, 1280]
def k0_mult136 : BitVec 32 :=
  let c11_i32_437_r0 : BitVec 32 := 11#32
  let c512_i32_438_r0 : BitVec 32 := 512#32
  let v512_r0 : BitVec 32 := Scalar.muli c11_i32_437_r0 c512_i32_438_r0
  let c0_i32_459_r0 : BitVec 32 := 0#32
  let v537_r0 : BitVec 32 := Scalar.addi v512_r0 c0_i32_459_r0
  v537_r0
def k0_off165 (c0_i32_459_r0 : BitVec 32) : Fin 2 → Nat :=
  let c11_i32_437_r0 : BitVec 32 := 11#32
  let c512_i32_438_r0 : BitVec 32 := 512#32
  let v512_r0 : BitVec 32 := Scalar.muli c11_i32_437_r0 c512_i32_438_r0
  let v537_r0 : BitVec 32 := Scalar.addi v512_r0 c0_i32_459_r0
  let v538_r0 : BitVec 32 := v537_r0
  let v539_r0 : Index := Scalar.indexCast v538_r0
  let c1536_460_r0 : Index := 1536#32
  ![v539_r0.toNat, 1536]
def k0_mult137 : BitVec 32 :=
  let c11_i32_437_r0 : BitVec 32 := 11#32
  let c512_i32_438_r0 : BitVec 32 := 512#32
  let v512_r0 : BitVec 32 := Scalar.muli c11_i32_437_r0 c512_i32_438_r0
  let c0_i32_464_r0 : BitVec 32 := 0#32
  let v543_r0 : BitVec 32 := Scalar.addi v512_r0 c0_i32_464_r0
  v543_r0
def k0_off166 (c0_i32_464_r0 : BitVec 32) : Fin 2 → Nat :=
  let c11_i32_437_r0 : BitVec 32 := 11#32
  let c512_i32_438_r0 : BitVec 32 := 512#32
  let v512_r0 : BitVec 32 := Scalar.muli c11_i32_437_r0 c512_i32_438_r0
  let v543_r0 : BitVec 32 := Scalar.addi v512_r0 c0_i32_464_r0
  let v544_r0 : BitVec 32 := v543_r0
  let v545_r0 : Index := Scalar.indexCast v544_r0
  let c1792_465_r0 : Index := 1792#32
  ![v545_r0.toNat, 1792]
def k0_mult138 : BitVec 32 :=
  let c11_i32_437_r0 : BitVec 32 := 11#32
  let c512_i32_438_r0 : BitVec 32 := 512#32
  let v512_r0 : BitVec 32 := Scalar.muli c11_i32_437_r0 c512_i32_438_r0
  let c0_i32_469_r0 : BitVec 32 := 0#32
  let v549_r0 : BitVec 32 := Scalar.addi v512_r0 c0_i32_469_r0
  v549_r0
def k0_off167 (c0_i32_469_r0 : BitVec 32) : Fin 2 → Nat :=
  let c11_i32_437_r0 : BitVec 32 := 11#32
  let c512_i32_438_r0 : BitVec 32 := 512#32
  let v512_r0 : BitVec 32 := Scalar.muli c11_i32_437_r0 c512_i32_438_r0
  let v549_r0 : BitVec 32 := Scalar.addi v512_r0 c0_i32_469_r0
  let v550_r0 : BitVec 32 := v549_r0
  let v551_r0 : Index := Scalar.indexCast v550_r0
  let c2048_470_r0 : Index := 2048#32
  ![v551_r0.toNat, 2048]
def k0_mult139 : BitVec 32 :=
  let c11_i32_437_r0 : BitVec 32 := 11#32
  let c512_i32_438_r0 : BitVec 32 := 512#32
  let v512_r0 : BitVec 32 := Scalar.muli c11_i32_437_r0 c512_i32_438_r0
  let c0_i32_474_r0 : BitVec 32 := 0#32
  let v555_r0 : BitVec 32 := Scalar.addi v512_r0 c0_i32_474_r0
  v555_r0
def k0_off168 (c0_i32_474_r0 : BitVec 32) : Fin 2 → Nat :=
  let c11_i32_437_r0 : BitVec 32 := 11#32
  let c512_i32_438_r0 : BitVec 32 := 512#32
  let v512_r0 : BitVec 32 := Scalar.muli c11_i32_437_r0 c512_i32_438_r0
  let v555_r0 : BitVec 32 := Scalar.addi v512_r0 c0_i32_474_r0
  let v556_r0 : BitVec 32 := v555_r0
  let v557_r0 : Index := Scalar.indexCast v556_r0
  let c2304_475_r0 : Index := 2304#32
  ![v557_r0.toNat, 2304]
def k0_mult140 : BitVec 32 :=
  let c11_i32_437_r0 : BitVec 32 := 11#32
  let c512_i32_438_r0 : BitVec 32 := 512#32
  let v512_r0 : BitVec 32 := Scalar.muli c11_i32_437_r0 c512_i32_438_r0
  let c0_i32_479_r0 : BitVec 32 := 0#32
  let v561_r0 : BitVec 32 := Scalar.addi v512_r0 c0_i32_479_r0
  v561_r0
def k0_off169 (c0_i32_479_r0 : BitVec 32) : Fin 2 → Nat :=
  let c11_i32_437_r0 : BitVec 32 := 11#32
  let c512_i32_438_r0 : BitVec 32 := 512#32
  let v512_r0 : BitVec 32 := Scalar.muli c11_i32_437_r0 c512_i32_438_r0
  let v561_r0 : BitVec 32 := Scalar.addi v512_r0 c0_i32_479_r0
  let v562_r0 : BitVec 32 := v561_r0
  let v563_r0 : Index := Scalar.indexCast v562_r0
  let c2560_480_r0 : Index := 2560#32
  ![v563_r0.toNat, 2560]
def k0_mult141 : BitVec 32 :=
  let c11_i32_437_r0 : BitVec 32 := 11#32
  let c512_i32_438_r0 : BitVec 32 := 512#32
  let v512_r0 : BitVec 32 := Scalar.muli c11_i32_437_r0 c512_i32_438_r0
  let c0_i32_484_r0 : BitVec 32 := 0#32
  let v567_r0 : BitVec 32 := Scalar.addi v512_r0 c0_i32_484_r0
  v567_r0
def k0_off170 (c0_i32_484_r0 : BitVec 32) : Fin 2 → Nat :=
  let c11_i32_437_r0 : BitVec 32 := 11#32
  let c512_i32_438_r0 : BitVec 32 := 512#32
  let v512_r0 : BitVec 32 := Scalar.muli c11_i32_437_r0 c512_i32_438_r0
  let v567_r0 : BitVec 32 := Scalar.addi v512_r0 c0_i32_484_r0
  let v568_r0 : BitVec 32 := v567_r0
  let v569_r0 : Index := Scalar.indexCast v568_r0
  let c2816_485_r0 : Index := 2816#32
  ![v569_r0.toNat, 2816]
def k0_mult142 : BitVec 32 :=
  let c11_i32_437_r0 : BitVec 32 := 11#32
  let c512_i32_438_r0 : BitVec 32 := 512#32
  let v512_r0 : BitVec 32 := Scalar.muli c11_i32_437_r0 c512_i32_438_r0
  let c0_i32_489_r0 : BitVec 32 := 0#32
  let v573_r0 : BitVec 32 := Scalar.addi v512_r0 c0_i32_489_r0
  v573_r0
def k0_off171 (c0_i32_489_r0 : BitVec 32) : Fin 2 → Nat :=
  let c11_i32_437_r0 : BitVec 32 := 11#32
  let c512_i32_438_r0 : BitVec 32 := 512#32
  let v512_r0 : BitVec 32 := Scalar.muli c11_i32_437_r0 c512_i32_438_r0
  let v573_r0 : BitVec 32 := Scalar.addi v512_r0 c0_i32_489_r0
  let v574_r0 : BitVec 32 := v573_r0
  let v575_r0 : Index := Scalar.indexCast v574_r0
  let c3072_490_r0 : Index := 3072#32
  ![v575_r0.toNat, 3072]
def k0_mult143 : BitVec 32 :=
  let c11_i32_437_r0 : BitVec 32 := 11#32
  let c512_i32_438_r0 : BitVec 32 := 512#32
  let v512_r0 : BitVec 32 := Scalar.muli c11_i32_437_r0 c512_i32_438_r0
  let c0_i32_494_r0 : BitVec 32 := 0#32
  let v579_r0 : BitVec 32 := Scalar.addi v512_r0 c0_i32_494_r0
  v579_r0
def k0_off172 (c0_i32_494_r0 : BitVec 32) : Fin 2 → Nat :=
  let c11_i32_437_r0 : BitVec 32 := 11#32
  let c512_i32_438_r0 : BitVec 32 := 512#32
  let v512_r0 : BitVec 32 := Scalar.muli c11_i32_437_r0 c512_i32_438_r0
  let v579_r0 : BitVec 32 := Scalar.addi v512_r0 c0_i32_494_r0
  let v580_r0 : BitVec 32 := v579_r0
  let v581_r0 : Index := Scalar.indexCast v580_r0
  let c3328_495_r0 : Index := 3328#32
  ![v581_r0.toNat, 3328]
def k0_mult144 : BitVec 32 :=
  let c11_i32_437_r0 : BitVec 32 := 11#32
  let c512_i32_438_r0 : BitVec 32 := 512#32
  let v512_r0 : BitVec 32 := Scalar.muli c11_i32_437_r0 c512_i32_438_r0
  let c256_i32_500_r0 : BitVec 32 := 256#32
  let v586_r0 : BitVec 32 := Scalar.addi v512_r0 c256_i32_500_r0
  v586_r0
def k0_off173 : Fin 2 → Nat :=
  let c11_i32_437_r0 : BitVec 32 := 11#32
  let c512_i32_438_r0 : BitVec 32 := 512#32
  let v512_r0 : BitVec 32 := Scalar.muli c11_i32_437_r0 c512_i32_438_r0
  let c256_i32_500_r0 : BitVec 32 := 256#32
  let v586_r0 : BitVec 32 := Scalar.addi v512_r0 c256_i32_500_r0
  let v587_r0 : BitVec 32 := v586_r0
  let v588_r0 : Index := Scalar.indexCast v587_r0
  let c0_501_r0 : Index := 0#32
  ![v588_r0.toNat, 0]
def k0_mult145 : BitVec 32 :=
  let c11_i32_437_r0 : BitVec 32 := 11#32
  let c512_i32_438_r0 : BitVec 32 := 512#32
  let v512_r0 : BitVec 32 := Scalar.muli c11_i32_437_r0 c512_i32_438_r0
  let c256_i32_500_r0 : BitVec 32 := 256#32
  let v586_r0 : BitVec 32 := Scalar.addi v512_r0 c256_i32_500_r0
  v586_r0
def k0_off174 : Fin 2 → Nat :=
  let c11_i32_437_r0 : BitVec 32 := 11#32
  let c512_i32_438_r0 : BitVec 32 := 512#32
  let v512_r0 : BitVec 32 := Scalar.muli c11_i32_437_r0 c512_i32_438_r0
  let c256_i32_500_r0 : BitVec 32 := 256#32
  let v586_r0 : BitVec 32 := Scalar.addi v512_r0 c256_i32_500_r0
  let v592_r0 : BitVec 32 := v586_r0
  let v593_r0 : Index := Scalar.indexCast v592_r0
  let c256_506_r0 : Index := 256#32
  ![v593_r0.toNat, 256]
def k0_mult146 : BitVec 32 :=
  let c0_i32_433_r0 : BitVec 32 := 0#32
  let c4_i32_434_r0 : BitVec 32 := 4#32
  let v508_r0 : BitVec 32 := Scalar.muli c0_i32_433_r0 c4_i32_434_r0
  let c63_i32_435_r0 : BitVec 32 := 63#32
  let v509_r0 : BitVec 32 := Scalar.minsi v508_r0 c63_i32_435_r0
  let c128_i32_436_r0 : BitVec 32 := 128#32
  let v510_r0 : BitVec 32 := Scalar.muli v509_r0 c128_i32_436_r0
  let v511_r0 : BitVec 32 := v510_r0
  let c0_i32_511_r0 : BitVec 32 := 0#32
  let v597_r0 : BitVec 32 := Scalar.addi v511_r0 c0_i32_511_r0
  v597_r0
def k0_off175 (c0_i32_511_r0 : BitVec 32) : Fin 2 → Nat :=
  let c0_512_r0 : Index := 0#32
  let c0_i32_433_r0 : BitVec 32 := 0#32
  let c4_i32_434_r0 : BitVec 32 := 4#32
  let v508_r0 : BitVec 32 := Scalar.muli c0_i32_433_r0 c4_i32_434_r0
  let c63_i32_435_r0 : BitVec 32 := 63#32
  let v509_r0 : BitVec 32 := Scalar.minsi v508_r0 c63_i32_435_r0
  let c128_i32_436_r0 : BitVec 32 := 128#32
  let v510_r0 : BitVec 32 := Scalar.muli v509_r0 c128_i32_436_r0
  let v511_r0 : BitVec 32 := v510_r0
  let v597_r0 : BitVec 32 := Scalar.addi v511_r0 c0_i32_511_r0
  let v598_r0 : BitVec 32 := v597_r0
  let v599_r0 : Index := Scalar.indexCast v598_r0
  ![0, v599_r0.toNat]
def k0_off176 : Fin 3 → Nat :=
  let c0_i32_408_r0 : BitVec 32 := 0#32
  let c12_i32_r0 : BitVec 32 := 12#32
  let v477_r0 : BitVec 32 := Scalar.muli c0_i32_408_r0 c12_i32_r0
  let c11_i32_r0 : BitVec 32 := 11#32
  let v478_r0 : BitVec 32 := Scalar.addi v477_r0 c11_i32_r0
  let c2_i32_409_r0 : BitVec 32 := 2#32
  let v479_r0 : BitVec 32 := Scalar.remsi v478_r0 c2_i32_409_r0
  let v606_r0 : Index := Scalar.indexCast v479_r0
  let c0_513_r0 : Index := 0#32
  let c0_514_r0 : Index := 0#32
  ![v606_r0.toNat, 0, 0]
def k0_mult147 : BitVec 32 :=
  let c0_i32_433_r0 : BitVec 32 := 0#32
  let c4_i32_434_r0 : BitVec 32 := 4#32
  let v508_r0 : BitVec 32 := Scalar.muli c0_i32_433_r0 c4_i32_434_r0
  let c63_i32_435_r0 : BitVec 32 := 63#32
  let v509_r0 : BitVec 32 := Scalar.minsi v508_r0 c63_i32_435_r0
  let c128_i32_436_r0 : BitVec 32 := 128#32
  let v510_r0 : BitVec 32 := Scalar.muli v509_r0 c128_i32_436_r0
  let v511_r0 : BitVec 32 := v510_r0
  let c256_i32_515_r0 : BitVec 32 := 256#32
  let v610_r0 : BitVec 32 := Scalar.addi v511_r0 c256_i32_515_r0
  v610_r0
def k0_off177 : Fin 3 → Nat :=
  let c0_i32_408_r0 : BitVec 32 := 0#32
  let c12_i32_r0 : BitVec 32 := 12#32
  let v477_r0 : BitVec 32 := Scalar.muli c0_i32_408_r0 c12_i32_r0
  let c11_i32_r0 : BitVec 32 := 11#32
  let v478_r0 : BitVec 32 := Scalar.addi v477_r0 c11_i32_r0
  let c2_i32_409_r0 : BitVec 32 := 2#32
  let v479_r0 : BitVec 32 := Scalar.remsi v478_r0 c2_i32_409_r0
  let v619_r0 : Index := Scalar.indexCast v479_r0
  let c0_517_r0 : Index := 0#32
  let c256_518_r0 : Index := 256#32
  ![v619_r0.toNat, 0, 256]
def k0_mult148 : BitVec 32 :=
  let c11_i32_437_r0 : BitVec 32 := 11#32
  let c512_i32_438_r0 : BitVec 32 := 512#32
  let v512_r0 : BitVec 32 := Scalar.muli c11_i32_437_r0 c512_i32_438_r0
  let c256_i32_519_r0 : BitVec 32 := 256#32
  let v623_r0 : BitVec 32 := Scalar.addi v512_r0 c256_i32_519_r0
  v623_r0
def k0_mult149 : BitVec 32 :=
  let c11_i32_437_r0 : BitVec 32 := 11#32
  let c512_i32_438_r0 : BitVec 32 := 512#32
  let v512_r0 : BitVec 32 := Scalar.muli c11_i32_437_r0 c512_i32_438_r0
  let c256_i32_525_r0 : BitVec 32 := 256#32
  let v629_r0 : BitVec 32 := Scalar.addi v512_r0 c256_i32_525_r0
  v629_r0
def k0_mult150 : BitVec 32 :=
  let c11_i32_437_r0 : BitVec 32 := 11#32
  let c512_i32_438_r0 : BitVec 32 := 512#32
  let v512_r0 : BitVec 32 := Scalar.muli c11_i32_437_r0 c512_i32_438_r0
  let c256_i32_531_r0 : BitVec 32 := 256#32
  let v635_r0 : BitVec 32 := Scalar.addi v512_r0 c256_i32_531_r0
  v635_r0
def k0_mult151 : BitVec 32 :=
  let c11_i32_437_r0 : BitVec 32 := 11#32
  let c512_i32_438_r0 : BitVec 32 := 512#32
  let v512_r0 : BitVec 32 := Scalar.muli c11_i32_437_r0 c512_i32_438_r0
  let c256_i32_537_r0 : BitVec 32 := 256#32
  let v641_r0 : BitVec 32 := Scalar.addi v512_r0 c256_i32_537_r0
  v641_r0
def k0_mult152 : BitVec 32 :=
  let c11_i32_437_r0 : BitVec 32 := 11#32
  let c512_i32_438_r0 : BitVec 32 := 512#32
  let v512_r0 : BitVec 32 := Scalar.muli c11_i32_437_r0 c512_i32_438_r0
  let c256_i32_543_r0 : BitVec 32 := 256#32
  let v647_r0 : BitVec 32 := Scalar.addi v512_r0 c256_i32_543_r0
  v647_r0
def k0_mult153 : BitVec 32 :=
  let c11_i32_437_r0 : BitVec 32 := 11#32
  let c512_i32_438_r0 : BitVec 32 := 512#32
  let v512_r0 : BitVec 32 := Scalar.muli c11_i32_437_r0 c512_i32_438_r0
  let c256_i32_549_r0 : BitVec 32 := 256#32
  let v653_r0 : BitVec 32 := Scalar.addi v512_r0 c256_i32_549_r0
  v653_r0
def k0_mult154 : BitVec 32 :=
  let c11_i32_437_r0 : BitVec 32 := 11#32
  let c512_i32_438_r0 : BitVec 32 := 512#32
  let v512_r0 : BitVec 32 := Scalar.muli c11_i32_437_r0 c512_i32_438_r0
  let c256_i32_555_r0 : BitVec 32 := 256#32
  let v659_r0 : BitVec 32 := Scalar.addi v512_r0 c256_i32_555_r0
  v659_r0
def k0_mult155 : BitVec 32 :=
  let c11_i32_437_r0 : BitVec 32 := 11#32
  let c512_i32_438_r0 : BitVec 32 := 512#32
  let v512_r0 : BitVec 32 := Scalar.muli c11_i32_437_r0 c512_i32_438_r0
  let c256_i32_561_r0 : BitVec 32 := 256#32
  let v665_r0 : BitVec 32 := Scalar.addi v512_r0 c256_i32_561_r0
  v665_r0
def k0_mult156 : BitVec 32 :=
  let c11_i32_437_r0 : BitVec 32 := 11#32
  let c512_i32_438_r0 : BitVec 32 := 512#32
  let v512_r0 : BitVec 32 := Scalar.muli c11_i32_437_r0 c512_i32_438_r0
  let c256_i32_567_r0 : BitVec 32 := 256#32
  let v671_r0 : BitVec 32 := Scalar.addi v512_r0 c256_i32_567_r0
  v671_r0
def k0_mult157 : BitVec 32 :=
  let c11_i32_437_r0 : BitVec 32 := 11#32
  let c512_i32_438_r0 : BitVec 32 := 512#32
  let v512_r0 : BitVec 32 := Scalar.muli c11_i32_437_r0 c512_i32_438_r0
  let c256_i32_573_r0 : BitVec 32 := 256#32
  let v677_r0 : BitVec 32 := Scalar.addi v512_r0 c256_i32_573_r0
  v677_r0
def k0_mult158 : BitVec 32 :=
  let c11_i32_437_r0 : BitVec 32 := 11#32
  let c512_i32_438_r0 : BitVec 32 := 512#32
  let v512_r0 : BitVec 32 := Scalar.muli c11_i32_437_r0 c512_i32_438_r0
  let c256_i32_579_r0 : BitVec 32 := 256#32
  let v683_r0 : BitVec 32 := Scalar.addi v512_r0 c256_i32_579_r0
  v683_r0
def k0_mult159 : BitVec 32 :=
  let c11_i32_437_r0 : BitVec 32 := 11#32
  let c512_i32_438_r0 : BitVec 32 := 512#32
  let v512_r0 : BitVec 32 := Scalar.muli c11_i32_437_r0 c512_i32_438_r0
  let c256_i32_585_r0 : BitVec 32 := 256#32
  let v689_r0 : BitVec 32 := Scalar.addi v512_r0 c256_i32_585_r0
  v689_r0
def k0_mult160 : BitVec 32 :=
  let c0_i32_591_r0 : BitVec 32 := 0#32
  c0_i32_591_r0
def k0_mult161 : BitVec 32 :=
  let c0_i32_597_r0 : BitVec 32 := 0#32
  c0_i32_597_r0
def k0_mult162 : BitVec 32 :=
  let c0_i32_433_r0 : BitVec 32 := 0#32
  let c4_i32_434_r0 : BitVec 32 := 4#32
  let v508_r0 : BitVec 32 := Scalar.muli c0_i32_433_r0 c4_i32_434_r0
  let c63_i32_435_r0 : BitVec 32 := 63#32
  let v509_r0 : BitVec 32 := Scalar.minsi v508_r0 c63_i32_435_r0
  let c128_i32_436_r0 : BitVec 32 := 128#32
  let v510_r0 : BitVec 32 := Scalar.muli v509_r0 c128_i32_436_r0
  let v511_r0 : BitVec 32 := v510_r0
  let c0_i32_603_r0 : BitVec 32 := 0#32
  let v706_r0 : BitVec 32 := Scalar.addi v511_r0 c0_i32_603_r0
  v706_r0
def k0_off178 : Fin 3 → Nat :=
  let c0_i32_408_r0 : BitVec 32 := 0#32
  let c12_i32_r0 : BitVec 32 := 12#32
  let v477_r0 : BitVec 32 := Scalar.muli c0_i32_408_r0 c12_i32_r0
  let c11_i32_r0 : BitVec 32 := 11#32
  let v478_r0 : BitVec 32 := Scalar.addi v477_r0 c11_i32_r0
  let c2_i32_409_r0 : BitVec 32 := 2#32
  let v479_r0 : BitVec 32 := Scalar.remsi v478_r0 c2_i32_409_r0
  let v715_r0 : Index := Scalar.indexCast v479_r0
  let c256_605_r0 : Index := 256#32
  let c0_606_r0 : Index := 0#32
  ![v715_r0.toNat, 256, 0]
def k0_mult163 : BitVec 32 :=
  let c0_i32_433_r0 : BitVec 32 := 0#32
  let c4_i32_434_r0 : BitVec 32 := 4#32
  let v508_r0 : BitVec 32 := Scalar.muli c0_i32_433_r0 c4_i32_434_r0
  let c63_i32_435_r0 : BitVec 32 := 63#32
  let v509_r0 : BitVec 32 := Scalar.minsi v508_r0 c63_i32_435_r0
  let c128_i32_436_r0 : BitVec 32 := 128#32
  let v510_r0 : BitVec 32 := Scalar.muli v509_r0 c128_i32_436_r0
  let v511_r0 : BitVec 32 := v510_r0
  let c256_i32_607_r0 : BitVec 32 := 256#32
  let v719_r0 : BitVec 32 := Scalar.addi v511_r0 c256_i32_607_r0
  v719_r0
def k0_off179 : Fin 3 → Nat :=
  let c0_i32_408_r0 : BitVec 32 := 0#32
  let c12_i32_r0 : BitVec 32 := 12#32
  let v477_r0 : BitVec 32 := Scalar.muli c0_i32_408_r0 c12_i32_r0
  let c11_i32_r0 : BitVec 32 := 11#32
  let v478_r0 : BitVec 32 := Scalar.addi v477_r0 c11_i32_r0
  let c2_i32_409_r0 : BitVec 32 := 2#32
  let v479_r0 : BitVec 32 := Scalar.remsi v478_r0 c2_i32_409_r0
  let v728_r0 : Index := Scalar.indexCast v479_r0
  let c256_609_r0 : Index := 256#32
  let c256_610_r0 : Index := 256#32
  ![v728_r0.toNat, 256, 256]
@[reducible] def k0_t5_loop : Scf.Loop 32 :=
  let c0_i32_612_r0 : BitVec 32 := 0#32
  let c8_i32_r0 : BitVec 32 := 8#32
  let v732_r0 : BitVec 32 := Scalar.addi c0_i32_612_r0 c8_i32_r0
  let c1_i32_613_r0 : BitVec 32 := 1#32
  ⟨c0_i32_612_r0, v732_r0, c1_i32_613_r0⟩
def k0_mult164 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c1_i32_719_r0 : BitVec 32 := 1#32
  let v857_r0 : BitVec 32 := Scalar.addi v856_r0 c1_i32_719_r0
  let c4_i32_720_r0 : BitVec 32 := 4#32
  let v858_r0 : BitVec 32 := Scalar.muli v857_r0 c4_i32_720_r0
  let c63_i32_721_r0 : BitVec 32 := 63#32
  let v859_r0 : BitVec 32 := Scalar.minsi v858_r0 c63_i32_721_r0
  let c0_i32_722_r0 : BitVec 32 := 0#32
  let v860_r0 : BitVec 32 := Scalar.addi v859_r0 c0_i32_722_r0
  let c128_i32_723_r0 : BitVec 32 := 128#32
  let v861_r0 : BitVec 32 := Scalar.muli v860_r0 c128_i32_723_r0
  v861_r0
def k0_mult165 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c1_i32_719_r0 : BitVec 32 := 1#32
  let v857_r0 : BitVec 32 := Scalar.addi v856_r0 c1_i32_719_r0
  let c4_i32_720_r0 : BitVec 32 := 4#32
  let v858_r0 : BitVec 32 := Scalar.muli v857_r0 c4_i32_720_r0
  let c63_i32_721_r0 : BitVec 32 := 63#32
  let v859_r0 : BitVec 32 := Scalar.minsi v858_r0 c63_i32_721_r0
  let c1_i32_724_r0 : BitVec 32 := 1#32
  let v863_r0 : BitVec 32 := Scalar.addi v859_r0 c1_i32_724_r0
  let c128_i32_725_r0 : BitVec 32 := 128#32
  let v864_r0 : BitVec 32 := Scalar.muli v863_r0 c128_i32_725_r0
  v864_r0
def k0_mult166 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c1_i32_719_r0 : BitVec 32 := 1#32
  let v857_r0 : BitVec 32 := Scalar.addi v856_r0 c1_i32_719_r0
  let c4_i32_720_r0 : BitVec 32 := 4#32
  let v858_r0 : BitVec 32 := Scalar.muli v857_r0 c4_i32_720_r0
  let c63_i32_721_r0 : BitVec 32 := 63#32
  let v859_r0 : BitVec 32 := Scalar.minsi v858_r0 c63_i32_721_r0
  let c2_i32_726_r0 : BitVec 32 := 2#32
  let v866_r0 : BitVec 32 := Scalar.addi v859_r0 c2_i32_726_r0
  let c128_i32_727_r0 : BitVec 32 := 128#32
  let v867_r0 : BitVec 32 := Scalar.muli v866_r0 c128_i32_727_r0
  v867_r0
def k0_mult167 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c1_i32_719_r0 : BitVec 32 := 1#32
  let v857_r0 : BitVec 32 := Scalar.addi v856_r0 c1_i32_719_r0
  let c4_i32_720_r0 : BitVec 32 := 4#32
  let v858_r0 : BitVec 32 := Scalar.muli v857_r0 c4_i32_720_r0
  let c63_i32_721_r0 : BitVec 32 := 63#32
  let v859_r0 : BitVec 32 := Scalar.minsi v858_r0 c63_i32_721_r0
  let c3_i32_728_r0 : BitVec 32 := 3#32
  let v869_r0 : BitVec 32 := Scalar.addi v859_r0 c3_i32_728_r0
  let c128_i32_729_r0 : BitVec 32 := 128#32
  let v870_r0 : BitVec 32 := Scalar.muli v869_r0 c128_i32_729_r0
  v870_r0
def k0_mult168 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c1_i32_719_r0 : BitVec 32 := 1#32
  let v857_r0 : BitVec 32 := Scalar.addi v856_r0 c1_i32_719_r0
  let c4_i32_720_r0 : BitVec 32 := 4#32
  let v858_r0 : BitVec 32 := Scalar.muli v857_r0 c4_i32_720_r0
  let c63_i32_721_r0 : BitVec 32 := 63#32
  let v859_r0 : BitVec 32 := Scalar.minsi v858_r0 c63_i32_721_r0
  let c0_i32_730_r0 : BitVec 32 := 0#32
  let v872_r0 : BitVec 32 := Scalar.addi v859_r0 c0_i32_730_r0
  let c34_i32_731_r0 : BitVec 32 := 34#32
  let v873_r0 : BitVec 1 := Scalar.cmpi .slt v872_r0 c34_i32_731_r0
  let c34_i32_732_r0 : BitVec 32 := 34#32
  let v874_r0 : BitVec 32 := Scalar.subi v872_r0 c34_i32_732_r0
  let v875_r0 : BitVec 32 := Scalar.select v873_r0 v872_r0 v874_r0
  let c128_i32_733_r0 : BitVec 32 := 128#32
  let v876_r0 : BitVec 32 := Scalar.muli v875_r0 c128_i32_733_r0
  v876_r0
def k0_mult169 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c1_i32_719_r0 : BitVec 32 := 1#32
  let v857_r0 : BitVec 32 := Scalar.addi v856_r0 c1_i32_719_r0
  let c4_i32_720_r0 : BitVec 32 := 4#32
  let v858_r0 : BitVec 32 := Scalar.muli v857_r0 c4_i32_720_r0
  let c63_i32_721_r0 : BitVec 32 := 63#32
  let v859_r0 : BitVec 32 := Scalar.minsi v858_r0 c63_i32_721_r0
  let c1_i32_734_r0 : BitVec 32 := 1#32
  let v878_r0 : BitVec 32 := Scalar.addi v859_r0 c1_i32_734_r0
  let c34_i32_735_r0 : BitVec 32 := 34#32
  let v879_r0 : BitVec 1 := Scalar.cmpi .slt v878_r0 c34_i32_735_r0
  let c34_i32_736_r0 : BitVec 32 := 34#32
  let v880_r0 : BitVec 32 := Scalar.subi v878_r0 c34_i32_736_r0
  let v881_r0 : BitVec 32 := Scalar.select v879_r0 v878_r0 v880_r0
  let c128_i32_737_r0 : BitVec 32 := 128#32
  let v882_r0 : BitVec 32 := Scalar.muli v881_r0 c128_i32_737_r0
  v882_r0
def k0_mult170 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c1_i32_719_r0 : BitVec 32 := 1#32
  let v857_r0 : BitVec 32 := Scalar.addi v856_r0 c1_i32_719_r0
  let c4_i32_720_r0 : BitVec 32 := 4#32
  let v858_r0 : BitVec 32 := Scalar.muli v857_r0 c4_i32_720_r0
  let c63_i32_721_r0 : BitVec 32 := 63#32
  let v859_r0 : BitVec 32 := Scalar.minsi v858_r0 c63_i32_721_r0
  let c2_i32_738_r0 : BitVec 32 := 2#32
  let v884_r0 : BitVec 32 := Scalar.addi v859_r0 c2_i32_738_r0
  let c34_i32_739_r0 : BitVec 32 := 34#32
  let v885_r0 : BitVec 1 := Scalar.cmpi .slt v884_r0 c34_i32_739_r0
  let c34_i32_740_r0 : BitVec 32 := 34#32
  let v886_r0 : BitVec 32 := Scalar.subi v884_r0 c34_i32_740_r0
  let v887_r0 : BitVec 32 := Scalar.select v885_r0 v884_r0 v886_r0
  let c128_i32_741_r0 : BitVec 32 := 128#32
  let v888_r0 : BitVec 32 := Scalar.muli v887_r0 c128_i32_741_r0
  v888_r0
def k0_mult171 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c1_i32_719_r0 : BitVec 32 := 1#32
  let v857_r0 : BitVec 32 := Scalar.addi v856_r0 c1_i32_719_r0
  let c4_i32_720_r0 : BitVec 32 := 4#32
  let v858_r0 : BitVec 32 := Scalar.muli v857_r0 c4_i32_720_r0
  let c63_i32_721_r0 : BitVec 32 := 63#32
  let v859_r0 : BitVec 32 := Scalar.minsi v858_r0 c63_i32_721_r0
  let c3_i32_742_r0 : BitVec 32 := 3#32
  let v890_r0 : BitVec 32 := Scalar.addi v859_r0 c3_i32_742_r0
  let c34_i32_743_r0 : BitVec 32 := 34#32
  let v891_r0 : BitVec 1 := Scalar.cmpi .slt v890_r0 c34_i32_743_r0
  let c34_i32_744_r0 : BitVec 32 := 34#32
  let v892_r0 : BitVec 32 := Scalar.subi v890_r0 c34_i32_744_r0
  let v893_r0 : BitVec 32 := Scalar.select v891_r0 v890_r0 v892_r0
  let c128_i32_745_r0 : BitVec 32 := 128#32
  let v894_r0 : BitVec 32 := Scalar.muli v893_r0 c128_i32_745_r0
  v894_r0
def k0_mult172 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c1_i32_719_r0 : BitVec 32 := 1#32
  let v857_r0 : BitVec 32 := Scalar.addi v856_r0 c1_i32_719_r0
  let c4_i32_720_r0 : BitVec 32 := 4#32
  let v858_r0 : BitVec 32 := Scalar.muli v857_r0 c4_i32_720_r0
  let c63_i32_721_r0 : BitVec 32 := 63#32
  let v859_r0 : BitVec 32 := Scalar.minsi v858_r0 c63_i32_721_r0
  let c4_i32_746_r0 : BitVec 32 := 4#32
  let v896_r0 : BitVec 32 := Scalar.addi v859_r0 c4_i32_746_r0
  let c34_i32_747_r0 : BitVec 32 := 34#32
  let v897_r0 : BitVec 1 := Scalar.cmpi .slt v896_r0 c34_i32_747_r0
  let c34_i32_748_r0 : BitVec 32 := 34#32
  let v898_r0 : BitVec 32 := Scalar.subi v896_r0 c34_i32_748_r0
  let v899_r0 : BitVec 32 := Scalar.select v897_r0 v896_r0 v898_r0
  let c128_i32_749_r0 : BitVec 32 := 128#32
  let v900_r0 : BitVec 32 := Scalar.muli v899_r0 c128_i32_749_r0
  v900_r0
def k0_off180 (k0_t5 : Fin k0_t5_loop.trips) (c1_i32_718_r0 : BitVec 32) (c0_i32_722_r0 : BitVec 32) : Fin 2 → Nat :=
  let c0_i32_754_r0 : BitVec 32 := 0#32
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let v856_r0 : BitVec 32 := Scalar.addi v855_r0 c1_i32_718_r0
  let c1_i32_719_r0 : BitVec 32 := 1#32
  let v857_r0 : BitVec 32 := Scalar.addi v856_r0 c1_i32_719_r0
  let c4_i32_720_r0 : BitVec 32 := 4#32
  let v858_r0 : BitVec 32 := Scalar.muli v857_r0 c4_i32_720_r0
  let c63_i32_721_r0 : BitVec 32 := 63#32
  let v859_r0 : BitVec 32 := Scalar.minsi v858_r0 c63_i32_721_r0
  let v860_r0 : BitVec 32 := Scalar.addi v859_r0 c0_i32_722_r0
  let c128_i32_723_r0 : BitVec 32 := 128#32
  let v861_r0 : BitVec 32 := Scalar.muli v860_r0 c128_i32_723_r0
  let v862_r0 : BitVec 32 := v861_r0
  ![0, v862_r0.toNat]
def k0_off181 (k0_t5 : Fin k0_t5_loop.trips) (c1_i32_718_r0 : BitVec 32) (c0_i32_730_r0 : BitVec 32) : Fin 2 → Nat :=
  let c0_i32_773_r0 : BitVec 32 := 0#32
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let v856_r0 : BitVec 32 := Scalar.addi v855_r0 c1_i32_718_r0
  let c1_i32_719_r0 : BitVec 32 := 1#32
  let v857_r0 : BitVec 32 := Scalar.addi v856_r0 c1_i32_719_r0
  let c4_i32_720_r0 : BitVec 32 := 4#32
  let v858_r0 : BitVec 32 := Scalar.muli v857_r0 c4_i32_720_r0
  let c63_i32_721_r0 : BitVec 32 := 63#32
  let v859_r0 : BitVec 32 := Scalar.minsi v858_r0 c63_i32_721_r0
  let v872_r0 : BitVec 32 := Scalar.addi v859_r0 c0_i32_730_r0
  let c34_i32_731_r0 : BitVec 32 := 34#32
  let v873_r0 : BitVec 1 := Scalar.cmpi .slt v872_r0 c34_i32_731_r0
  let c34_i32_732_r0 : BitVec 32 := 34#32
  let v874_r0 : BitVec 32 := Scalar.subi v872_r0 c34_i32_732_r0
  let v875_r0 : BitVec 32 := Scalar.select v873_r0 v872_r0 v874_r0
  let c128_i32_733_r0 : BitVec 32 := 128#32
  let v876_r0 : BitVec 32 := Scalar.muli v875_r0 c128_i32_733_r0
  let v877_r0 : BitVec 32 := v876_r0
  ![0, v877_r0.toNat]
@[reducible] def k0_t6_loop : Scf.Loop 32 :=
  let c0_i32_791_r0 : BitVec 32 := 0#32
  let c9_i32_792_r0 : BitVec 32 := 9#32
  let v942_r0 : BitVec 32 := Scalar.addi c0_i32_791_r0 c9_i32_792_r0
  let c1_i32_793_r0 : BitVec 32 := 1#32
  ⟨c0_i32_791_r0, v942_r0, c1_i32_793_r0⟩
def k0_mult173 (k0_t5 : Fin k0_t5_loop.trips) (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c0_i32_1453_r0 : BitVec 32 := 0#32
  let v1720_r0 : BitVec 1 := Scalar.cmpi .eq arg22_r0 c0_i32_1453_r0
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c1_i32_1454_r0 : BitVec 32 := 1#32
  let v1721_r0 : BitVec 32 := Scalar.subi v856_r0 c1_i32_1454_r0
  let v1722_r0 : BitVec 32 := Scalar.select v1720_r0 v1721_r0 v856_r0
  let c4_i32_1458_r0 : BitVec 32 := 4#32
  let v1726_r0 : BitVec 32 := Scalar.muli v1722_r0 c4_i32_1458_r0
  let c63_i32_1459_r0 : BitVec 32 := 63#32
  let v1727_r0 : BitVec 32 := Scalar.minsi v1726_r0 c63_i32_1459_r0
  let c128_i32_1460_r0 : BitVec 32 := 128#32
  let v1728_r0 : BitVec 32 := Scalar.muli v1727_r0 c128_i32_1460_r0
  v1728_r0
def k0_mult174 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c0_i32_1453_r0 : BitVec 32 := 0#32
  let v1720_r0 : BitVec 1 := Scalar.cmpi .eq arg22_r0 c0_i32_1453_r0
  let c11_i32_1456_r0 : BitVec 32 := 11#32
  let c1_i32_1455_r0 : BitVec 32 := 1#32
  let v1723_r0 : BitVec 32 := Scalar.subi arg22_r0 c1_i32_1455_r0
  let v1724_r0 : BitVec 32 := Scalar.select v1720_r0 c11_i32_1456_r0 v1723_r0
  let c512_i32_1461_r0 : BitVec 32 := 512#32
  let v1730_r0 : BitVec 32 := Scalar.muli v1724_r0 c512_i32_1461_r0
  v1730_r0
def k0_off182 (k0_t5 : Fin k0_t5_loop.trips) (k0_t6 : Fin k0_t6_loop.trips) : Fin 1 → Nat :=
  let c1_i32_1457_r0 : BitVec 32 := 1#32
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c12_i32_1451_r0 : BitVec 32 := 12#32
  let v1717_r0 : BitVec 32 := Scalar.muli v856_r0 c12_i32_1451_r0
  let c0_i32_791_r0 : BitVec 32 := 0#32
  let c1_i32_793_r0 : BitVec 32 := 1#32
  let arg22_r0 : BitVec 32 := Scf.iv c0_i32_791_r0 c1_i32_793_r0 k0_t6
  let v1718_r0 : BitVec 32 := Scalar.addi v1717_r0 arg22_r0
  let c2_i32_1452_r0 : BitVec 32 := 2#32
  let v1719_r0 : BitVec 32 := Scalar.remsi v1718_r0 c2_i32_1452_r0
  let v1725_r0 : BitVec 32 := Scalar.subi c1_i32_1457_r0 v1719_r0
  ![v1725_r0.toNat]
def k0_off183 (k0_t5 : Fin k0_t5_loop.trips) (k0_t6 : Fin k0_t6_loop.trips) : Fin 2 → Nat :=
  let c0_i32_791_r0 : BitVec 32 := 0#32
  let c1_i32_793_r0 : BitVec 32 := 1#32
  let arg22_r0 : BitVec 32 := Scf.iv c0_i32_791_r0 c1_i32_793_r0 k0_t6
  let c0_i32_1453_r0 : BitVec 32 := 0#32
  let v1720_r0 : BitVec 1 := Scalar.cmpi .eq arg22_r0 c0_i32_1453_r0
  let c11_i32_1456_r0 : BitVec 32 := 11#32
  let c1_i32_1455_r0 : BitVec 32 := 1#32
  let v1723_r0 : BitVec 32 := Scalar.subi arg22_r0 c1_i32_1455_r0
  let v1724_r0 : BitVec 32 := Scalar.select v1720_r0 c11_i32_1456_r0 v1723_r0
  let c512_i32_1461_r0 : BitVec 32 := 512#32
  let v1730_r0 : BitVec 32 := Scalar.muli v1724_r0 c512_i32_1461_r0
  let v1731_r0 : BitVec 32 := v1730_r0
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c1_i32_1454_r0 : BitVec 32 := 1#32
  let v1721_r0 : BitVec 32 := Scalar.subi v856_r0 c1_i32_1454_r0
  let v1722_r0 : BitVec 32 := Scalar.select v1720_r0 v1721_r0 v856_r0
  let c4_i32_1458_r0 : BitVec 32 := 4#32
  let v1726_r0 : BitVec 32 := Scalar.muli v1722_r0 c4_i32_1458_r0
  let c63_i32_1459_r0 : BitVec 32 := 63#32
  let v1727_r0 : BitVec 32 := Scalar.minsi v1726_r0 c63_i32_1459_r0
  let c128_i32_1460_r0 : BitVec 32 := 128#32
  let v1728_r0 : BitVec 32 := Scalar.muli v1727_r0 c128_i32_1460_r0
  let v1729_r0 : BitVec 32 := v1728_r0
  ![v1731_r0.toNat, v1729_r0.toNat]
def k0_off184 (k0_t5 : Fin k0_t5_loop.trips) (k0_t6 : Fin k0_t6_loop.trips) : Fin 3 → Nat :=
  let c1_i32_1457_r0 : BitVec 32 := 1#32
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c12_i32_1451_r0 : BitVec 32 := 12#32
  let v1717_r0 : BitVec 32 := Scalar.muli v856_r0 c12_i32_1451_r0
  let c0_i32_791_r0 : BitVec 32 := 0#32
  let c1_i32_793_r0 : BitVec 32 := 1#32
  let arg22_r0 : BitVec 32 := Scf.iv c0_i32_791_r0 c1_i32_793_r0 k0_t6
  let v1718_r0 : BitVec 32 := Scalar.addi v1717_r0 arg22_r0
  let c2_i32_1452_r0 : BitVec 32 := 2#32
  let v1719_r0 : BitVec 32 := Scalar.remsi v1718_r0 c2_i32_1452_r0
  let v1725_r0 : BitVec 32 := Scalar.subi c1_i32_1457_r0 v1719_r0
  let c0_i32_1462_r0 : BitVec 32 := 0#32
  let c0_i32_1463_r0 : BitVec 32 := 0#32
  ![v1725_r0.toNat, 0, 0]
def k0_mult175 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c4_i32_1464_r0 : BitVec 32 := 4#32
  let v1737_r0 : BitVec 32 := Scalar.muli v856_r0 c4_i32_1464_r0
  let c63_i32_1465_r0 : BitVec 32 := 63#32
  let v1738_r0 : BitVec 32 := Scalar.minsi v1737_r0 c63_i32_1465_r0
  let c128_i32_1466_r0 : BitVec 32 := 128#32
  let v1739_r0 : BitVec 32 := Scalar.muli v1738_r0 c128_i32_1466_r0
  v1739_r0
def k0_mult176 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1467_r0 : BitVec 32 := 512#32
  let v1741_r0 : BitVec 32 := Scalar.muli arg22_r0 c512_i32_1467_r0
  v1741_r0
def k0_off185 (k0_t5 : Fin k0_t5_loop.trips) (k0_t6 : Fin k0_t6_loop.trips) : Fin 1 → Nat :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c12_i32_1451_r0 : BitVec 32 := 12#32
  let v1717_r0 : BitVec 32 := Scalar.muli v856_r0 c12_i32_1451_r0
  let c0_i32_791_r0 : BitVec 32 := 0#32
  let c1_i32_793_r0 : BitVec 32 := 1#32
  let arg22_r0 : BitVec 32 := Scf.iv c0_i32_791_r0 c1_i32_793_r0 k0_t6
  let v1718_r0 : BitVec 32 := Scalar.addi v1717_r0 arg22_r0
  let c2_i32_1452_r0 : BitVec 32 := 2#32
  let v1719_r0 : BitVec 32 := Scalar.remsi v1718_r0 c2_i32_1452_r0
  ![v1719_r0.toNat]
def k0_off186 (k0_t5 : Fin k0_t5_loop.trips) (k0_t6 : Fin k0_t6_loop.trips) : Fin 2 → Nat :=
  let c0_i32_791_r0 : BitVec 32 := 0#32
  let c1_i32_793_r0 : BitVec 32 := 1#32
  let arg22_r0 : BitVec 32 := Scf.iv c0_i32_791_r0 c1_i32_793_r0 k0_t6
  let c512_i32_1467_r0 : BitVec 32 := 512#32
  let v1741_r0 : BitVec 32 := Scalar.muli arg22_r0 c512_i32_1467_r0
  let v1742_r0 : BitVec 32 := v1741_r0
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c4_i32_1464_r0 : BitVec 32 := 4#32
  let v1737_r0 : BitVec 32 := Scalar.muli v856_r0 c4_i32_1464_r0
  let c63_i32_1465_r0 : BitVec 32 := 63#32
  let v1738_r0 : BitVec 32 := Scalar.minsi v1737_r0 c63_i32_1465_r0
  let c128_i32_1466_r0 : BitVec 32 := 128#32
  let v1739_r0 : BitVec 32 := Scalar.muli v1738_r0 c128_i32_1466_r0
  let v1740_r0 : BitVec 32 := v1739_r0
  ![v1742_r0.toNat, v1740_r0.toNat]
def k0_off187 (k0_t5 : Fin k0_t5_loop.trips) (k0_t6 : Fin k0_t6_loop.trips) : Fin 3 → Nat :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c12_i32_1451_r0 : BitVec 32 := 12#32
  let v1717_r0 : BitVec 32 := Scalar.muli v856_r0 c12_i32_1451_r0
  let c0_i32_791_r0 : BitVec 32 := 0#32
  let c1_i32_793_r0 : BitVec 32 := 1#32
  let arg22_r0 : BitVec 32 := Scf.iv c0_i32_791_r0 c1_i32_793_r0 k0_t6
  let v1718_r0 : BitVec 32 := Scalar.addi v1717_r0 arg22_r0
  let c2_i32_1452_r0 : BitVec 32 := 2#32
  let v1719_r0 : BitVec 32 := Scalar.remsi v1718_r0 c2_i32_1452_r0
  let c0_i32_1468_r0 : BitVec 32 := 0#32
  let c0_i32_1469_r0 : BitVec 32 := 0#32
  ![v1719_r0.toNat, 0, 0]
def k0_mult177 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c3_i32_1470_r0 : BitVec 32 := 3#32
  let v1748_r0 : BitVec 32 := Scalar.muli arg22_r0 c3_i32_1470_r0
  let c0_i32_1471_r0 : BitVec 32 := 0#32
  let v1749_r0 : BitVec 32 := Scalar.addi v1748_r0 c0_i32_1471_r0
  let c128_i32_1473_r0 : BitVec 32 := 128#32
  let v1751_r0 : BitVec 32 := Scalar.muli v1749_r0 c128_i32_1473_r0
  v1751_r0
def k0_off188 (k0_t6 : Fin k0_t6_loop.trips) (c0_i32_1471_r0 : BitVec 32) : Fin 2 → Nat :=
  let c0_i32_791_r0 : BitVec 32 := 0#32
  let c1_i32_793_r0 : BitVec 32 := 1#32
  let arg22_r0 : BitVec 32 := Scf.iv c0_i32_791_r0 c1_i32_793_r0 k0_t6
  let c3_i32_1470_r0 : BitVec 32 := 3#32
  let v1748_r0 : BitVec 32 := Scalar.muli arg22_r0 c3_i32_1470_r0
  let v1749_r0 : BitVec 32 := Scalar.addi v1748_r0 c0_i32_1471_r0
  let c128_i32_1473_r0 : BitVec 32 := 128#32
  let v1751_r0 : BitVec 32 := Scalar.muli v1749_r0 c128_i32_1473_r0
  let v1752_r0 : BitVec 32 := v1751_r0
  let v1757_r0 : Index := Scalar.indexCast v1752_r0
  let c0_1477_r0 : Index := 0#32
  ![v1757_r0.toNat, 0]
def k0_off189 (k0_t6 : Fin k0_t6_loop.trips) (c0_i32_1471_r0 : BitVec 32) : Fin 2 → Nat :=
  let c0_i32_791_r0 : BitVec 32 := 0#32
  let c1_i32_793_r0 : BitVec 32 := 1#32
  let arg22_r0 : BitVec 32 := Scf.iv c0_i32_791_r0 c1_i32_793_r0 k0_t6
  let c3_i32_1470_r0 : BitVec 32 := 3#32
  let v1748_r0 : BitVec 32 := Scalar.muli arg22_r0 c3_i32_1470_r0
  let v1749_r0 : BitVec 32 := Scalar.addi v1748_r0 c0_i32_1471_r0
  let c128_i32_1473_r0 : BitVec 32 := 128#32
  let v1751_r0 : BitVec 32 := Scalar.muli v1749_r0 c128_i32_1473_r0
  let v1752_r0 : BitVec 32 := v1751_r0
  let v1760_r0 : Index := Scalar.indexCast v1752_r0
  let c128_r0 : Index := 128#32
  ![v1760_r0.toNat, 128]
def k0_off190 (k0_t6 : Fin k0_t6_loop.trips) (c0_i32_1471_r0 : BitVec 32) : Fin 2 → Nat :=
  let c0_i32_791_r0 : BitVec 32 := 0#32
  let c1_i32_793_r0 : BitVec 32 := 1#32
  let arg22_r0 : BitVec 32 := Scf.iv c0_i32_791_r0 c1_i32_793_r0 k0_t6
  let c3_i32_1470_r0 : BitVec 32 := 3#32
  let v1748_r0 : BitVec 32 := Scalar.muli arg22_r0 c3_i32_1470_r0
  let v1749_r0 : BitVec 32 := Scalar.addi v1748_r0 c0_i32_1471_r0
  let c128_i32_1473_r0 : BitVec 32 := 128#32
  let v1751_r0 : BitVec 32 := Scalar.muli v1749_r0 c128_i32_1473_r0
  let v1752_r0 : BitVec 32 := v1751_r0
  let v1763_r0 : Index := Scalar.indexCast v1752_r0
  let c256_1478_r0 : Index := 256#32
  ![v1763_r0.toNat, 256]
def k0_off191 (k0_t6 : Fin k0_t6_loop.trips) (c0_i32_1471_r0 : BitVec 32) : Fin 2 → Nat :=
  let c0_i32_791_r0 : BitVec 32 := 0#32
  let c1_i32_793_r0 : BitVec 32 := 1#32
  let arg22_r0 : BitVec 32 := Scf.iv c0_i32_791_r0 c1_i32_793_r0 k0_t6
  let c3_i32_1470_r0 : BitVec 32 := 3#32
  let v1748_r0 : BitVec 32 := Scalar.muli arg22_r0 c3_i32_1470_r0
  let v1749_r0 : BitVec 32 := Scalar.addi v1748_r0 c0_i32_1471_r0
  let c128_i32_1473_r0 : BitVec 32 := 128#32
  let v1751_r0 : BitVec 32 := Scalar.muli v1749_r0 c128_i32_1473_r0
  let v1752_r0 : BitVec 32 := v1751_r0
  let v1766_r0 : Index := Scalar.indexCast v1752_r0
  let c384_r0 : Index := 384#32
  ![v1766_r0.toNat, 384]
def k0_off192 (k0_t6 : Fin k0_t6_loop.trips) (c0_i32_1471_r0 : BitVec 32) : Fin 2 → Nat :=
  let c0_i32_791_r0 : BitVec 32 := 0#32
  let c1_i32_793_r0 : BitVec 32 := 1#32
  let arg22_r0 : BitVec 32 := Scf.iv c0_i32_791_r0 c1_i32_793_r0 k0_t6
  let c3_i32_1470_r0 : BitVec 32 := 3#32
  let v1748_r0 : BitVec 32 := Scalar.muli arg22_r0 c3_i32_1470_r0
  let v1749_r0 : BitVec 32 := Scalar.addi v1748_r0 c0_i32_1471_r0
  let c128_i32_1473_r0 : BitVec 32 := 128#32
  let v1751_r0 : BitVec 32 := Scalar.muli v1749_r0 c128_i32_1473_r0
  let v1752_r0 : BitVec 32 := v1751_r0
  let v1769_r0 : Index := Scalar.indexCast v1752_r0
  let c512_1479_r0 : Index := 512#32
  ![v1769_r0.toNat, 512]
def k0_off193 (k0_t6 : Fin k0_t6_loop.trips) (c0_i32_1471_r0 : BitVec 32) : Fin 3 → Nat :=
  let c0_1488_r0 : Index := 0#32
  let c0_i32_791_r0 : BitVec 32 := 0#32
  let c1_i32_793_r0 : BitVec 32 := 1#32
  let arg22_r0 : BitVec 32 := Scf.iv c0_i32_791_r0 c1_i32_793_r0 k0_t6
  let c3_i32_1470_r0 : BitVec 32 := 3#32
  let v1748_r0 : BitVec 32 := Scalar.muli arg22_r0 c3_i32_1470_r0
  let v1749_r0 : BitVec 32 := Scalar.addi v1748_r0 c0_i32_1471_r0
  let v1795_r0 : Index := Scalar.indexCast v1749_r0
  let c0_1489_r0 : Index := 0#32
  ![0, v1795_r0.toNat, 0]
def k0_off194 (k0_t6 : Fin k0_t6_loop.trips) (c0_i32_1471_r0 : BitVec 32) : Fin 2 → Nat :=
  let c0_i32_791_r0 : BitVec 32 := 0#32
  let c1_i32_793_r0 : BitVec 32 := 1#32
  let arg22_r0 : BitVec 32 := Scf.iv c0_i32_791_r0 c1_i32_793_r0 k0_t6
  let c3_i32_1470_r0 : BitVec 32 := 3#32
  let v1748_r0 : BitVec 32 := Scalar.muli arg22_r0 c3_i32_1470_r0
  let v1749_r0 : BitVec 32 := Scalar.addi v1748_r0 c0_i32_1471_r0
  let c128_i32_1473_r0 : BitVec 32 := 128#32
  let v1751_r0 : BitVec 32 := Scalar.muli v1749_r0 c128_i32_1473_r0
  let v1752_r0 : BitVec 32 := v1751_r0
  let v1801_r0 : Index := Scalar.indexCast v1752_r0
  let c0_1490_r0 : Index := 0#32
  ![v1801_r0.toNat, 0]
def k0_off195 (k0_t6 : Fin k0_t6_loop.trips) (c0_i32_1471_r0 : BitVec 32) : Fin 3 → Nat :=
  let c1_r0 : Index := 1#32
  let c0_i32_791_r0 : BitVec 32 := 0#32
  let c1_i32_793_r0 : BitVec 32 := 1#32
  let arg22_r0 : BitVec 32 := Scf.iv c0_i32_791_r0 c1_i32_793_r0 k0_t6
  let c3_i32_1470_r0 : BitVec 32 := 3#32
  let v1748_r0 : BitVec 32 := Scalar.muli arg22_r0 c3_i32_1470_r0
  let v1749_r0 : BitVec 32 := Scalar.addi v1748_r0 c0_i32_1471_r0
  let v1823_r0 : Index := Scalar.indexCast v1749_r0
  let c0_1498_r0 : Index := 0#32
  ![1, v1823_r0.toNat, 0]
def k0_off196 (k0_t6 : Fin k0_t6_loop.trips) (c0_i32_1471_r0 : BitVec 32) : Fin 2 → Nat :=
  let c0_i32_791_r0 : BitVec 32 := 0#32
  let c1_i32_793_r0 : BitVec 32 := 1#32
  let arg22_r0 : BitVec 32 := Scf.iv c0_i32_791_r0 c1_i32_793_r0 k0_t6
  let c3_i32_1470_r0 : BitVec 32 := 3#32
  let v1748_r0 : BitVec 32 := Scalar.muli arg22_r0 c3_i32_1470_r0
  let v1749_r0 : BitVec 32 := Scalar.addi v1748_r0 c0_i32_1471_r0
  let c128_i32_1473_r0 : BitVec 32 := 128#32
  let v1751_r0 : BitVec 32 := Scalar.muli v1749_r0 c128_i32_1473_r0
  let v1752_r0 : BitVec 32 := v1751_r0
  let v1829_r0 : Index := Scalar.indexCast v1752_r0
  let c128_1499_r0 : Index := 128#32
  ![v1829_r0.toNat, 128]
def k0_off197 (k0_t6 : Fin k0_t6_loop.trips) (c0_i32_1471_r0 : BitVec 32) : Fin 3 → Nat :=
  let c2_r0 : Index := 2#32
  let c0_i32_791_r0 : BitVec 32 := 0#32
  let c1_i32_793_r0 : BitVec 32 := 1#32
  let arg22_r0 : BitVec 32 := Scf.iv c0_i32_791_r0 c1_i32_793_r0 k0_t6
  let c3_i32_1470_r0 : BitVec 32 := 3#32
  let v1748_r0 : BitVec 32 := Scalar.muli arg22_r0 c3_i32_1470_r0
  let v1749_r0 : BitVec 32 := Scalar.addi v1748_r0 c0_i32_1471_r0
  let v1851_r0 : Index := Scalar.indexCast v1749_r0
  let c0_1507_r0 : Index := 0#32
  ![2, v1851_r0.toNat, 0]
def k0_off198 (k0_t6 : Fin k0_t6_loop.trips) (c0_i32_1471_r0 : BitVec 32) : Fin 2 → Nat :=
  let c0_i32_791_r0 : BitVec 32 := 0#32
  let c1_i32_793_r0 : BitVec 32 := 1#32
  let arg22_r0 : BitVec 32 := Scf.iv c0_i32_791_r0 c1_i32_793_r0 k0_t6
  let c3_i32_1470_r0 : BitVec 32 := 3#32
  let v1748_r0 : BitVec 32 := Scalar.muli arg22_r0 c3_i32_1470_r0
  let v1749_r0 : BitVec 32 := Scalar.addi v1748_r0 c0_i32_1471_r0
  let c128_i32_1473_r0 : BitVec 32 := 128#32
  let v1751_r0 : BitVec 32 := Scalar.muli v1749_r0 c128_i32_1473_r0
  let v1752_r0 : BitVec 32 := v1751_r0
  let v1857_r0 : Index := Scalar.indexCast v1752_r0
  let c256_1508_r0 : Index := 256#32
  ![v1857_r0.toNat, 256]
def k0_off199 (k0_t6 : Fin k0_t6_loop.trips) (c0_i32_1471_r0 : BitVec 32) : Fin 3 → Nat :=
  let c3_r0 : Index := 3#32
  let c0_i32_791_r0 : BitVec 32 := 0#32
  let c1_i32_793_r0 : BitVec 32 := 1#32
  let arg22_r0 : BitVec 32 := Scf.iv c0_i32_791_r0 c1_i32_793_r0 k0_t6
  let c3_i32_1470_r0 : BitVec 32 := 3#32
  let v1748_r0 : BitVec 32 := Scalar.muli arg22_r0 c3_i32_1470_r0
  let v1749_r0 : BitVec 32 := Scalar.addi v1748_r0 c0_i32_1471_r0
  let v1879_r0 : Index := Scalar.indexCast v1749_r0
  let c0_1516_r0 : Index := 0#32
  ![3, v1879_r0.toNat, 0]
def k0_off200 (k0_t6 : Fin k0_t6_loop.trips) (c0_i32_1471_r0 : BitVec 32) : Fin 2 → Nat :=
  let c0_i32_791_r0 : BitVec 32 := 0#32
  let c1_i32_793_r0 : BitVec 32 := 1#32
  let arg22_r0 : BitVec 32 := Scf.iv c0_i32_791_r0 c1_i32_793_r0 k0_t6
  let c3_i32_1470_r0 : BitVec 32 := 3#32
  let v1748_r0 : BitVec 32 := Scalar.muli arg22_r0 c3_i32_1470_r0
  let v1749_r0 : BitVec 32 := Scalar.addi v1748_r0 c0_i32_1471_r0
  let c128_i32_1473_r0 : BitVec 32 := 128#32
  let v1751_r0 : BitVec 32 := Scalar.muli v1749_r0 c128_i32_1473_r0
  let v1752_r0 : BitVec 32 := v1751_r0
  let v1885_r0 : Index := Scalar.indexCast v1752_r0
  let c384_1517_r0 : Index := 384#32
  ![v1885_r0.toNat, 384]
def k0_mult178 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c3_i32_1518_r0 : BitVec 32 := 3#32
  let v1889_r0 : BitVec 32 := Scalar.muli arg22_r0 c3_i32_1518_r0
  let c1_i32_1519_r0 : BitVec 32 := 1#32
  let v1890_r0 : BitVec 32 := Scalar.addi v1889_r0 c1_i32_1519_r0
  let c128_i32_1521_r0 : BitVec 32 := 128#32
  let v1892_r0 : BitVec 32 := Scalar.muli v1890_r0 c128_i32_1521_r0
  v1892_r0
def k0_mult179 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c3_i32_1575_r0 : BitVec 32 := 3#32
  let v2030_r0 : BitVec 32 := Scalar.muli arg22_r0 c3_i32_1575_r0
  let c2_i32_1576_r0 : BitVec 32 := 2#32
  let v2031_r0 : BitVec 32 := Scalar.addi v2030_r0 c2_i32_1576_r0
  let c128_i32_1578_r0 : BitVec 32 := 128#32
  let v2033_r0 : BitVec 32 := Scalar.muli v2031_r0 c128_i32_1578_r0
  v2033_r0
def k0_mult180 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c4_i32_1632_r0 : BitVec 32 := 4#32
  let v2171_r0 : BitVec 32 := Scalar.muli v856_r0 c4_i32_1632_r0
  let c63_i32_1633_r0 : BitVec 32 := 63#32
  let v2172_r0 : BitVec 32 := Scalar.minsi v2171_r0 c63_i32_1633_r0
  let c128_i32_1634_r0 : BitVec 32 := 128#32
  let v2173_r0 : BitVec 32 := Scalar.muli v2172_r0 c128_i32_1634_r0
  v2173_r0
def k0_mult181 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c0_i32_1636_r0 : BitVec 32 := 0#32
  let v2176_r0 : BitVec 32 := Scalar.addi v2175_r0 c0_i32_1636_r0
  v2176_r0
def k0_off201 (k0_t6 : Fin k0_t6_loop.trips) (c0_i32_1636_r0 : BitVec 32) : Fin 2 → Nat :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let v2176_r0 : BitVec 32 := Scalar.addi v2175_r0 c0_i32_1636_r0
  let v2177_r0 : BitVec 32 := v2176_r0
  let v2178_r0 : Index := Scalar.indexCast v2177_r0
  let c512_1637_r0 : Index := 512#32
  ![v2178_r0.toNat, 512]
def k0_mult182 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c0_i32_1642_r0 : BitVec 32 := 0#32
  let v2182_r0 : BitVec 32 := Scalar.addi v2175_r0 c0_i32_1642_r0
  v2182_r0
def k0_off202 (k0_t6 : Fin k0_t6_loop.trips) (c0_i32_1642_r0 : BitVec 32) : Fin 2 → Nat :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let v2182_r0 : BitVec 32 := Scalar.addi v2175_r0 c0_i32_1642_r0
  let v2183_r0 : BitVec 32 := v2182_r0
  let v2184_r0 : Index := Scalar.indexCast v2183_r0
  let c768_1643_r0 : Index := 768#32
  ![v2184_r0.toNat, 768]
def k0_mult183 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c0_i32_1648_r0 : BitVec 32 := 0#32
  let v2188_r0 : BitVec 32 := Scalar.addi v2175_r0 c0_i32_1648_r0
  v2188_r0
def k0_off203 (k0_t6 : Fin k0_t6_loop.trips) (c0_i32_1648_r0 : BitVec 32) : Fin 2 → Nat :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let v2188_r0 : BitVec 32 := Scalar.addi v2175_r0 c0_i32_1648_r0
  let v2189_r0 : BitVec 32 := v2188_r0
  let v2190_r0 : Index := Scalar.indexCast v2189_r0
  let c1024_1649_r0 : Index := 1024#32
  ![v2190_r0.toNat, 1024]
def k0_mult184 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c0_i32_1654_r0 : BitVec 32 := 0#32
  let v2194_r0 : BitVec 32 := Scalar.addi v2175_r0 c0_i32_1654_r0
  v2194_r0
def k0_off204 (k0_t6 : Fin k0_t6_loop.trips) (c0_i32_1654_r0 : BitVec 32) : Fin 2 → Nat :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let v2194_r0 : BitVec 32 := Scalar.addi v2175_r0 c0_i32_1654_r0
  let v2195_r0 : BitVec 32 := v2194_r0
  let v2196_r0 : Index := Scalar.indexCast v2195_r0
  let c1280_1655_r0 : Index := 1280#32
  ![v2196_r0.toNat, 1280]
def k0_mult185 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c0_i32_1660_r0 : BitVec 32 := 0#32
  let v2200_r0 : BitVec 32 := Scalar.addi v2175_r0 c0_i32_1660_r0
  v2200_r0
def k0_off205 (k0_t6 : Fin k0_t6_loop.trips) (c0_i32_1660_r0 : BitVec 32) : Fin 2 → Nat :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let v2200_r0 : BitVec 32 := Scalar.addi v2175_r0 c0_i32_1660_r0
  let v2201_r0 : BitVec 32 := v2200_r0
  let v2202_r0 : Index := Scalar.indexCast v2201_r0
  let c1536_1661_r0 : Index := 1536#32
  ![v2202_r0.toNat, 1536]
def k0_mult186 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c0_i32_1666_r0 : BitVec 32 := 0#32
  let v2206_r0 : BitVec 32 := Scalar.addi v2175_r0 c0_i32_1666_r0
  v2206_r0
def k0_off206 (k0_t6 : Fin k0_t6_loop.trips) (c0_i32_1666_r0 : BitVec 32) : Fin 2 → Nat :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let v2206_r0 : BitVec 32 := Scalar.addi v2175_r0 c0_i32_1666_r0
  let v2207_r0 : BitVec 32 := v2206_r0
  let v2208_r0 : Index := Scalar.indexCast v2207_r0
  let c1792_1667_r0 : Index := 1792#32
  ![v2208_r0.toNat, 1792]
def k0_mult187 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c0_i32_1672_r0 : BitVec 32 := 0#32
  let v2212_r0 : BitVec 32 := Scalar.addi v2175_r0 c0_i32_1672_r0
  v2212_r0
def k0_off207 (k0_t6 : Fin k0_t6_loop.trips) (c0_i32_1672_r0 : BitVec 32) : Fin 2 → Nat :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let v2212_r0 : BitVec 32 := Scalar.addi v2175_r0 c0_i32_1672_r0
  let v2213_r0 : BitVec 32 := v2212_r0
  let v2214_r0 : Index := Scalar.indexCast v2213_r0
  let c2048_1673_r0 : Index := 2048#32
  ![v2214_r0.toNat, 2048]
def k0_mult188 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c0_i32_1678_r0 : BitVec 32 := 0#32
  let v2218_r0 : BitVec 32 := Scalar.addi v2175_r0 c0_i32_1678_r0
  v2218_r0
def k0_off208 (k0_t6 : Fin k0_t6_loop.trips) (c0_i32_1678_r0 : BitVec 32) : Fin 2 → Nat :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let v2218_r0 : BitVec 32 := Scalar.addi v2175_r0 c0_i32_1678_r0
  let v2219_r0 : BitVec 32 := v2218_r0
  let v2220_r0 : Index := Scalar.indexCast v2219_r0
  let c2304_1679_r0 : Index := 2304#32
  ![v2220_r0.toNat, 2304]
def k0_mult189 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c0_i32_1684_r0 : BitVec 32 := 0#32
  let v2224_r0 : BitVec 32 := Scalar.addi v2175_r0 c0_i32_1684_r0
  v2224_r0
def k0_off209 (k0_t6 : Fin k0_t6_loop.trips) (c0_i32_1684_r0 : BitVec 32) : Fin 2 → Nat :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let v2224_r0 : BitVec 32 := Scalar.addi v2175_r0 c0_i32_1684_r0
  let v2225_r0 : BitVec 32 := v2224_r0
  let v2226_r0 : Index := Scalar.indexCast v2225_r0
  let c2560_1685_r0 : Index := 2560#32
  ![v2226_r0.toNat, 2560]
def k0_mult190 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c0_i32_1690_r0 : BitVec 32 := 0#32
  let v2230_r0 : BitVec 32 := Scalar.addi v2175_r0 c0_i32_1690_r0
  v2230_r0
def k0_off210 (k0_t6 : Fin k0_t6_loop.trips) (c0_i32_1690_r0 : BitVec 32) : Fin 2 → Nat :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let v2230_r0 : BitVec 32 := Scalar.addi v2175_r0 c0_i32_1690_r0
  let v2231_r0 : BitVec 32 := v2230_r0
  let v2232_r0 : Index := Scalar.indexCast v2231_r0
  let c2816_1691_r0 : Index := 2816#32
  ![v2232_r0.toNat, 2816]
def k0_mult191 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c0_i32_1696_r0 : BitVec 32 := 0#32
  let v2236_r0 : BitVec 32 := Scalar.addi v2175_r0 c0_i32_1696_r0
  v2236_r0
def k0_off211 (k0_t6 : Fin k0_t6_loop.trips) (c0_i32_1696_r0 : BitVec 32) : Fin 2 → Nat :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let v2236_r0 : BitVec 32 := Scalar.addi v2175_r0 c0_i32_1696_r0
  let v2237_r0 : BitVec 32 := v2236_r0
  let v2238_r0 : Index := Scalar.indexCast v2237_r0
  let c3072_1697_r0 : Index := 3072#32
  ![v2238_r0.toNat, 3072]
def k0_mult192 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c0_i32_1702_r0 : BitVec 32 := 0#32
  let v2242_r0 : BitVec 32 := Scalar.addi v2175_r0 c0_i32_1702_r0
  v2242_r0
def k0_off212 (k0_t6 : Fin k0_t6_loop.trips) (c0_i32_1702_r0 : BitVec 32) : Fin 2 → Nat :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let v2242_r0 : BitVec 32 := Scalar.addi v2175_r0 c0_i32_1702_r0
  let v2243_r0 : BitVec 32 := v2242_r0
  let v2244_r0 : Index := Scalar.indexCast v2243_r0
  let c3328_1703_r0 : Index := 3328#32
  ![v2244_r0.toNat, 3328]
def k0_mult193 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c256_i32_1708_r0 : BitVec 32 := 256#32
  let v2249_r0 : BitVec 32 := Scalar.addi v2175_r0 c256_i32_1708_r0
  v2249_r0
def k0_off213 (k0_t6 : Fin k0_t6_loop.trips) : Fin 2 → Nat :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c256_i32_1708_r0 : BitVec 32 := 256#32
  let v2249_r0 : BitVec 32 := Scalar.addi v2175_r0 c256_i32_1708_r0
  let v2250_r0 : BitVec 32 := v2249_r0
  let v2251_r0 : Index := Scalar.indexCast v2250_r0
  let c0_1709_r0 : Index := 0#32
  ![v2251_r0.toNat, 0]
def k0_mult194 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c256_i32_1708_r0 : BitVec 32 := 256#32
  let v2249_r0 : BitVec 32 := Scalar.addi v2175_r0 c256_i32_1708_r0
  v2249_r0
def k0_off214 (k0_t6 : Fin k0_t6_loop.trips) : Fin 2 → Nat :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c256_i32_1708_r0 : BitVec 32 := 256#32
  let v2249_r0 : BitVec 32 := Scalar.addi v2175_r0 c256_i32_1708_r0
  let v2255_r0 : BitVec 32 := v2249_r0
  let v2256_r0 : Index := Scalar.indexCast v2255_r0
  let c256_1714_r0 : Index := 256#32
  ![v2256_r0.toNat, 256]
def k0_mult195 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c4_i32_1632_r0 : BitVec 32 := 4#32
  let v2171_r0 : BitVec 32 := Scalar.muli v856_r0 c4_i32_1632_r0
  let c63_i32_1633_r0 : BitVec 32 := 63#32
  let v2172_r0 : BitVec 32 := Scalar.minsi v2171_r0 c63_i32_1633_r0
  let c128_i32_1634_r0 : BitVec 32 := 128#32
  let v2173_r0 : BitVec 32 := Scalar.muli v2172_r0 c128_i32_1634_r0
  let v2174_r0 : BitVec 32 := v2173_r0
  let c0_i32_1719_r0 : BitVec 32 := 0#32
  let v2260_r0 : BitVec 32 := Scalar.addi v2174_r0 c0_i32_1719_r0
  v2260_r0
def k0_off215 (k0_t5 : Fin k0_t5_loop.trips) (c0_i32_1719_r0 : BitVec 32) : Fin 2 → Nat :=
  let c0_1720_r0 : Index := 0#32
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c4_i32_1632_r0 : BitVec 32 := 4#32
  let v2171_r0 : BitVec 32 := Scalar.muli v856_r0 c4_i32_1632_r0
  let c63_i32_1633_r0 : BitVec 32 := 63#32
  let v2172_r0 : BitVec 32 := Scalar.minsi v2171_r0 c63_i32_1633_r0
  let c128_i32_1634_r0 : BitVec 32 := 128#32
  let v2173_r0 : BitVec 32 := Scalar.muli v2172_r0 c128_i32_1634_r0
  let v2174_r0 : BitVec 32 := v2173_r0
  let v2260_r0 : BitVec 32 := Scalar.addi v2174_r0 c0_i32_1719_r0
  let v2261_r0 : BitVec 32 := v2260_r0
  let v2262_r0 : Index := Scalar.indexCast v2261_r0
  ![0, v2262_r0.toNat]
def k0_off216 (k0_t5 : Fin k0_t5_loop.trips) (k0_t6 : Fin k0_t6_loop.trips) : Fin 3 → Nat :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c12_i32_1451_r0 : BitVec 32 := 12#32
  let v1717_r0 : BitVec 32 := Scalar.muli v856_r0 c12_i32_1451_r0
  let c0_i32_791_r0 : BitVec 32 := 0#32
  let c1_i32_793_r0 : BitVec 32 := 1#32
  let arg22_r0 : BitVec 32 := Scf.iv c0_i32_791_r0 c1_i32_793_r0 k0_t6
  let v1718_r0 : BitVec 32 := Scalar.addi v1717_r0 arg22_r0
  let c2_i32_1452_r0 : BitVec 32 := 2#32
  let v1719_r0 : BitVec 32 := Scalar.remsi v1718_r0 c2_i32_1452_r0
  let v2269_r0 : Index := Scalar.indexCast v1719_r0
  let c0_1721_r0 : Index := 0#32
  let c0_1722_r0 : Index := 0#32
  ![v2269_r0.toNat, 0, 0]
def k0_mult196 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c4_i32_1632_r0 : BitVec 32 := 4#32
  let v2171_r0 : BitVec 32 := Scalar.muli v856_r0 c4_i32_1632_r0
  let c63_i32_1633_r0 : BitVec 32 := 63#32
  let v2172_r0 : BitVec 32 := Scalar.minsi v2171_r0 c63_i32_1633_r0
  let c128_i32_1634_r0 : BitVec 32 := 128#32
  let v2173_r0 : BitVec 32 := Scalar.muli v2172_r0 c128_i32_1634_r0
  let v2174_r0 : BitVec 32 := v2173_r0
  let c256_i32_1723_r0 : BitVec 32 := 256#32
  let v2273_r0 : BitVec 32 := Scalar.addi v2174_r0 c256_i32_1723_r0
  v2273_r0
def k0_off217 (k0_t5 : Fin k0_t5_loop.trips) (k0_t6 : Fin k0_t6_loop.trips) : Fin 3 → Nat :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c12_i32_1451_r0 : BitVec 32 := 12#32
  let v1717_r0 : BitVec 32 := Scalar.muli v856_r0 c12_i32_1451_r0
  let c0_i32_791_r0 : BitVec 32 := 0#32
  let c1_i32_793_r0 : BitVec 32 := 1#32
  let arg22_r0 : BitVec 32 := Scf.iv c0_i32_791_r0 c1_i32_793_r0 k0_t6
  let v1718_r0 : BitVec 32 := Scalar.addi v1717_r0 arg22_r0
  let c2_i32_1452_r0 : BitVec 32 := 2#32
  let v1719_r0 : BitVec 32 := Scalar.remsi v1718_r0 c2_i32_1452_r0
  let v2282_r0 : Index := Scalar.indexCast v1719_r0
  let c0_1725_r0 : Index := 0#32
  let c256_1726_r0 : Index := 256#32
  ![v2282_r0.toNat, 0, 256]
def k0_mult197 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c256_i32_1727_r0 : BitVec 32 := 256#32
  let v2286_r0 : BitVec 32 := Scalar.addi v2175_r0 c256_i32_1727_r0
  v2286_r0
def k0_mult198 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c256_i32_1733_r0 : BitVec 32 := 256#32
  let v2292_r0 : BitVec 32 := Scalar.addi v2175_r0 c256_i32_1733_r0
  v2292_r0
def k0_mult199 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c256_i32_1739_r0 : BitVec 32 := 256#32
  let v2298_r0 : BitVec 32 := Scalar.addi v2175_r0 c256_i32_1739_r0
  v2298_r0
def k0_mult200 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c256_i32_1745_r0 : BitVec 32 := 256#32
  let v2304_r0 : BitVec 32 := Scalar.addi v2175_r0 c256_i32_1745_r0
  v2304_r0
def k0_mult201 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c256_i32_1751_r0 : BitVec 32 := 256#32
  let v2310_r0 : BitVec 32 := Scalar.addi v2175_r0 c256_i32_1751_r0
  v2310_r0
def k0_mult202 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c256_i32_1757_r0 : BitVec 32 := 256#32
  let v2316_r0 : BitVec 32 := Scalar.addi v2175_r0 c256_i32_1757_r0
  v2316_r0
def k0_mult203 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c256_i32_1763_r0 : BitVec 32 := 256#32
  let v2322_r0 : BitVec 32 := Scalar.addi v2175_r0 c256_i32_1763_r0
  v2322_r0
def k0_mult204 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c256_i32_1769_r0 : BitVec 32 := 256#32
  let v2328_r0 : BitVec 32 := Scalar.addi v2175_r0 c256_i32_1769_r0
  v2328_r0
def k0_mult205 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c256_i32_1775_r0 : BitVec 32 := 256#32
  let v2334_r0 : BitVec 32 := Scalar.addi v2175_r0 c256_i32_1775_r0
  v2334_r0
def k0_mult206 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c256_i32_1781_r0 : BitVec 32 := 256#32
  let v2340_r0 : BitVec 32 := Scalar.addi v2175_r0 c256_i32_1781_r0
  v2340_r0
def k0_mult207 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c256_i32_1787_r0 : BitVec 32 := 256#32
  let v2346_r0 : BitVec 32 := Scalar.addi v2175_r0 c256_i32_1787_r0
  v2346_r0
def k0_mult208 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c512_i32_1635_r0 : BitVec 32 := 512#32
  let v2175_r0 : BitVec 32 := Scalar.muli arg22_r0 c512_i32_1635_r0
  let c256_i32_1793_r0 : BitVec 32 := 256#32
  let v2352_r0 : BitVec 32 := Scalar.addi v2175_r0 c256_i32_1793_r0
  v2352_r0
def k0_mult209 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c1_i32_1449_r0 : BitVec 32 := 1#32
  let v1715_r0 : BitVec 32 := Scalar.addi arg22_r0 c1_i32_1449_r0
  let c512_i32_1450_r0 : BitVec 32 := 512#32
  let v1716_r0 : BitVec 32 := Scalar.muli v1715_r0 c512_i32_1450_r0
  v1716_r0
def k0_off218 (k0_t6 : Fin k0_t6_loop.trips) : Fin 2 → Nat :=
  let c0_i32_791_r0 : BitVec 32 := 0#32
  let c1_i32_793_r0 : BitVec 32 := 1#32
  let arg22_r0 : BitVec 32 := Scf.iv c0_i32_791_r0 c1_i32_793_r0 k0_t6
  let c1_i32_1449_r0 : BitVec 32 := 1#32
  let v1715_r0 : BitVec 32 := Scalar.addi arg22_r0 c1_i32_1449_r0
  let c512_i32_1450_r0 : BitVec 32 := 512#32
  let v1716_r0 : BitVec 32 := Scalar.muli v1715_r0 c512_i32_1450_r0
  let v2359_r0 : BitVec 32 := v1716_r0
  let v2360_r0 : Index := Scalar.indexCast v2359_r0
  let c0_1799_r0 : Index := 0#32
  ![v2360_r0.toNat, 0]
def k0_mult210 (k0_t6 : Fin k0_t6_loop.trips) : BitVec 32 :=
  let c0_i32_791_r0 : BitVec 32 := 0#32
  let c1_i32_793_r0 : BitVec 32 := 1#32
  let arg22_r0 : BitVec 32 := Scf.iv c0_i32_791_r0 c1_i32_793_r0 k0_t6
  let c1_i32_1449_r0 : BitVec 32 := 1#32
  let v1715_r0 : BitVec 32 := Scalar.addi arg22_r0 c1_i32_1449_r0
  let c512_i32_1450_r0 : BitVec 32 := 512#32
  let v1716_r0 : BitVec 32 := Scalar.muli v1715_r0 c512_i32_1450_r0
  v1716_r0
def k0_off219 (k0_t6 : Fin k0_t6_loop.trips) : Fin 2 → Nat :=
  let c0_i32_791_r0 : BitVec 32 := 0#32
  let c1_i32_793_r0 : BitVec 32 := 1#32
  let arg22_r0 : BitVec 32 := Scf.iv c0_i32_791_r0 c1_i32_793_r0 k0_t6
  let c1_i32_1449_r0 : BitVec 32 := 1#32
  let v1715_r0 : BitVec 32 := Scalar.addi arg22_r0 c1_i32_1449_r0
  let c512_i32_1450_r0 : BitVec 32 := 512#32
  let v1716_r0 : BitVec 32 := Scalar.muli v1715_r0 c512_i32_1450_r0
  let v2364_r0 : BitVec 32 := v1716_r0
  let v2365_r0 : Index := Scalar.indexCast v2364_r0
  let c256_1804_r0 : Index := 256#32
  ![v2365_r0.toNat, 256]
def k0_mult211 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c4_i32_1632_r0 : BitVec 32 := 4#32
  let v2171_r0 : BitVec 32 := Scalar.muli v856_r0 c4_i32_1632_r0
  let c63_i32_1633_r0 : BitVec 32 := 63#32
  let v2172_r0 : BitVec 32 := Scalar.minsi v2171_r0 c63_i32_1633_r0
  let c128_i32_1634_r0 : BitVec 32 := 128#32
  let v2173_r0 : BitVec 32 := Scalar.muli v2172_r0 c128_i32_1634_r0
  let v2174_r0 : BitVec 32 := v2173_r0
  let c0_i32_1809_r0 : BitVec 32 := 0#32
  let v2369_r0 : BitVec 32 := Scalar.addi v2174_r0 c0_i32_1809_r0
  v2369_r0
def k0_off220 (k0_t5 : Fin k0_t5_loop.trips) (k0_t6 : Fin k0_t6_loop.trips) : Fin 3 → Nat :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c12_i32_1451_r0 : BitVec 32 := 12#32
  let v1717_r0 : BitVec 32 := Scalar.muli v856_r0 c12_i32_1451_r0
  let c0_i32_791_r0 : BitVec 32 := 0#32
  let c1_i32_793_r0 : BitVec 32 := 1#32
  let arg22_r0 : BitVec 32 := Scf.iv c0_i32_791_r0 c1_i32_793_r0 k0_t6
  let v1718_r0 : BitVec 32 := Scalar.addi v1717_r0 arg22_r0
  let c2_i32_1452_r0 : BitVec 32 := 2#32
  let v1719_r0 : BitVec 32 := Scalar.remsi v1718_r0 c2_i32_1452_r0
  let v2378_r0 : Index := Scalar.indexCast v1719_r0
  let c256_1811_r0 : Index := 256#32
  let c0_1812_r0 : Index := 0#32
  ![v2378_r0.toNat, 256, 0]
def k0_mult212 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c4_i32_1632_r0 : BitVec 32 := 4#32
  let v2171_r0 : BitVec 32 := Scalar.muli v856_r0 c4_i32_1632_r0
  let c63_i32_1633_r0 : BitVec 32 := 63#32
  let v2172_r0 : BitVec 32 := Scalar.minsi v2171_r0 c63_i32_1633_r0
  let c128_i32_1634_r0 : BitVec 32 := 128#32
  let v2173_r0 : BitVec 32 := Scalar.muli v2172_r0 c128_i32_1634_r0
  let v2174_r0 : BitVec 32 := v2173_r0
  let c256_i32_1813_r0 : BitVec 32 := 256#32
  let v2382_r0 : BitVec 32 := Scalar.addi v2174_r0 c256_i32_1813_r0
  v2382_r0
def k0_off221 (k0_t5 : Fin k0_t5_loop.trips) (k0_t6 : Fin k0_t6_loop.trips) : Fin 3 → Nat :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c12_i32_1451_r0 : BitVec 32 := 12#32
  let v1717_r0 : BitVec 32 := Scalar.muli v856_r0 c12_i32_1451_r0
  let c0_i32_791_r0 : BitVec 32 := 0#32
  let c1_i32_793_r0 : BitVec 32 := 1#32
  let arg22_r0 : BitVec 32 := Scf.iv c0_i32_791_r0 c1_i32_793_r0 k0_t6
  let v1718_r0 : BitVec 32 := Scalar.addi v1717_r0 arg22_r0
  let c2_i32_1452_r0 : BitVec 32 := 2#32
  let v1719_r0 : BitVec 32 := Scalar.remsi v1718_r0 c2_i32_1452_r0
  let v2391_r0 : Index := Scalar.indexCast v1719_r0
  let c256_1815_r0 : Index := 256#32
  let c256_1816_r0 : Index := 256#32
  ![v2391_r0.toNat, 256, 256]
def k0_mult213 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c2_i32_795_r0 : BitVec 32 := 2#32
  let v943_r0 : BitVec 32 := Scalar.addi v856_r0 c2_i32_795_r0
  let c16_i32_796_r0 : BitVec 32 := 16#32
  let v944_r0 : BitVec 32 := Scalar.minsi v943_r0 c16_i32_796_r0
  let c4_i32_797_r0 : BitVec 32 := 4#32
  let v945_r0 : BitVec 32 := Scalar.muli v944_r0 c4_i32_797_r0
  let c63_i32_798_r0 : BitVec 32 := 63#32
  let v946_r0 : BitVec 32 := Scalar.minsi v945_r0 c63_i32_798_r0
  let c0_i32_799_r0 : BitVec 32 := 0#32
  let v947_r0 : BitVec 32 := Scalar.addi v946_r0 c0_i32_799_r0
  let c128_i32_800_r0 : BitVec 32 := 128#32
  let v948_r0 : BitVec 32 := Scalar.muli v947_r0 c128_i32_800_r0
  v948_r0
def k0_mult214 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c2_i32_795_r0 : BitVec 32 := 2#32
  let v943_r0 : BitVec 32 := Scalar.addi v856_r0 c2_i32_795_r0
  let c16_i32_796_r0 : BitVec 32 := 16#32
  let v944_r0 : BitVec 32 := Scalar.minsi v943_r0 c16_i32_796_r0
  let c4_i32_797_r0 : BitVec 32 := 4#32
  let v945_r0 : BitVec 32 := Scalar.muli v944_r0 c4_i32_797_r0
  let c63_i32_798_r0 : BitVec 32 := 63#32
  let v946_r0 : BitVec 32 := Scalar.minsi v945_r0 c63_i32_798_r0
  let c1_i32_801_r0 : BitVec 32 := 1#32
  let v950_r0 : BitVec 32 := Scalar.addi v946_r0 c1_i32_801_r0
  let c128_i32_802_r0 : BitVec 32 := 128#32
  let v951_r0 : BitVec 32 := Scalar.muli v950_r0 c128_i32_802_r0
  v951_r0
def k0_mult215 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c2_i32_795_r0 : BitVec 32 := 2#32
  let v943_r0 : BitVec 32 := Scalar.addi v856_r0 c2_i32_795_r0
  let c16_i32_796_r0 : BitVec 32 := 16#32
  let v944_r0 : BitVec 32 := Scalar.minsi v943_r0 c16_i32_796_r0
  let c4_i32_797_r0 : BitVec 32 := 4#32
  let v945_r0 : BitVec 32 := Scalar.muli v944_r0 c4_i32_797_r0
  let c63_i32_798_r0 : BitVec 32 := 63#32
  let v946_r0 : BitVec 32 := Scalar.minsi v945_r0 c63_i32_798_r0
  let c2_i32_803_r0 : BitVec 32 := 2#32
  let v953_r0 : BitVec 32 := Scalar.addi v946_r0 c2_i32_803_r0
  let c128_i32_804_r0 : BitVec 32 := 128#32
  let v954_r0 : BitVec 32 := Scalar.muli v953_r0 c128_i32_804_r0
  v954_r0
def k0_mult216 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c2_i32_795_r0 : BitVec 32 := 2#32
  let v943_r0 : BitVec 32 := Scalar.addi v856_r0 c2_i32_795_r0
  let c16_i32_796_r0 : BitVec 32 := 16#32
  let v944_r0 : BitVec 32 := Scalar.minsi v943_r0 c16_i32_796_r0
  let c4_i32_797_r0 : BitVec 32 := 4#32
  let v945_r0 : BitVec 32 := Scalar.muli v944_r0 c4_i32_797_r0
  let c63_i32_798_r0 : BitVec 32 := 63#32
  let v946_r0 : BitVec 32 := Scalar.minsi v945_r0 c63_i32_798_r0
  let c3_i32_805_r0 : BitVec 32 := 3#32
  let v956_r0 : BitVec 32 := Scalar.addi v946_r0 c3_i32_805_r0
  let c128_i32_806_r0 : BitVec 32 := 128#32
  let v957_r0 : BitVec 32 := Scalar.muli v956_r0 c128_i32_806_r0
  v957_r0
def k0_mult217 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c2_i32_795_r0 : BitVec 32 := 2#32
  let v943_r0 : BitVec 32 := Scalar.addi v856_r0 c2_i32_795_r0
  let c16_i32_796_r0 : BitVec 32 := 16#32
  let v944_r0 : BitVec 32 := Scalar.minsi v943_r0 c16_i32_796_r0
  let c4_i32_797_r0 : BitVec 32 := 4#32
  let v945_r0 : BitVec 32 := Scalar.muli v944_r0 c4_i32_797_r0
  let c63_i32_798_r0 : BitVec 32 := 63#32
  let v946_r0 : BitVec 32 := Scalar.minsi v945_r0 c63_i32_798_r0
  let c0_i32_807_r0 : BitVec 32 := 0#32
  let v959_r0 : BitVec 32 := Scalar.addi v946_r0 c0_i32_807_r0
  let c34_i32_808_r0 : BitVec 32 := 34#32
  let v960_r0 : BitVec 1 := Scalar.cmpi .slt v959_r0 c34_i32_808_r0
  let c34_i32_809_r0 : BitVec 32 := 34#32
  let v961_r0 : BitVec 32 := Scalar.subi v959_r0 c34_i32_809_r0
  let v962_r0 : BitVec 32 := Scalar.select v960_r0 v959_r0 v961_r0
  let c128_i32_810_r0 : BitVec 32 := 128#32
  let v963_r0 : BitVec 32 := Scalar.muli v962_r0 c128_i32_810_r0
  v963_r0
def k0_mult218 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c2_i32_795_r0 : BitVec 32 := 2#32
  let v943_r0 : BitVec 32 := Scalar.addi v856_r0 c2_i32_795_r0
  let c16_i32_796_r0 : BitVec 32 := 16#32
  let v944_r0 : BitVec 32 := Scalar.minsi v943_r0 c16_i32_796_r0
  let c4_i32_797_r0 : BitVec 32 := 4#32
  let v945_r0 : BitVec 32 := Scalar.muli v944_r0 c4_i32_797_r0
  let c63_i32_798_r0 : BitVec 32 := 63#32
  let v946_r0 : BitVec 32 := Scalar.minsi v945_r0 c63_i32_798_r0
  let c1_i32_811_r0 : BitVec 32 := 1#32
  let v965_r0 : BitVec 32 := Scalar.addi v946_r0 c1_i32_811_r0
  let c34_i32_812_r0 : BitVec 32 := 34#32
  let v966_r0 : BitVec 1 := Scalar.cmpi .slt v965_r0 c34_i32_812_r0
  let c34_i32_813_r0 : BitVec 32 := 34#32
  let v967_r0 : BitVec 32 := Scalar.subi v965_r0 c34_i32_813_r0
  let v968_r0 : BitVec 32 := Scalar.select v966_r0 v965_r0 v967_r0
  let c128_i32_814_r0 : BitVec 32 := 128#32
  let v969_r0 : BitVec 32 := Scalar.muli v968_r0 c128_i32_814_r0
  v969_r0
def k0_mult219 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c2_i32_795_r0 : BitVec 32 := 2#32
  let v943_r0 : BitVec 32 := Scalar.addi v856_r0 c2_i32_795_r0
  let c16_i32_796_r0 : BitVec 32 := 16#32
  let v944_r0 : BitVec 32 := Scalar.minsi v943_r0 c16_i32_796_r0
  let c4_i32_797_r0 : BitVec 32 := 4#32
  let v945_r0 : BitVec 32 := Scalar.muli v944_r0 c4_i32_797_r0
  let c63_i32_798_r0 : BitVec 32 := 63#32
  let v946_r0 : BitVec 32 := Scalar.minsi v945_r0 c63_i32_798_r0
  let c2_i32_815_r0 : BitVec 32 := 2#32
  let v971_r0 : BitVec 32 := Scalar.addi v946_r0 c2_i32_815_r0
  let c34_i32_816_r0 : BitVec 32 := 34#32
  let v972_r0 : BitVec 1 := Scalar.cmpi .slt v971_r0 c34_i32_816_r0
  let c34_i32_817_r0 : BitVec 32 := 34#32
  let v973_r0 : BitVec 32 := Scalar.subi v971_r0 c34_i32_817_r0
  let v974_r0 : BitVec 32 := Scalar.select v972_r0 v971_r0 v973_r0
  let c128_i32_818_r0 : BitVec 32 := 128#32
  let v975_r0 : BitVec 32 := Scalar.muli v974_r0 c128_i32_818_r0
  v975_r0
def k0_mult220 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c2_i32_795_r0 : BitVec 32 := 2#32
  let v943_r0 : BitVec 32 := Scalar.addi v856_r0 c2_i32_795_r0
  let c16_i32_796_r0 : BitVec 32 := 16#32
  let v944_r0 : BitVec 32 := Scalar.minsi v943_r0 c16_i32_796_r0
  let c4_i32_797_r0 : BitVec 32 := 4#32
  let v945_r0 : BitVec 32 := Scalar.muli v944_r0 c4_i32_797_r0
  let c63_i32_798_r0 : BitVec 32 := 63#32
  let v946_r0 : BitVec 32 := Scalar.minsi v945_r0 c63_i32_798_r0
  let c3_i32_819_r0 : BitVec 32 := 3#32
  let v977_r0 : BitVec 32 := Scalar.addi v946_r0 c3_i32_819_r0
  let c34_i32_820_r0 : BitVec 32 := 34#32
  let v978_r0 : BitVec 1 := Scalar.cmpi .slt v977_r0 c34_i32_820_r0
  let c34_i32_821_r0 : BitVec 32 := 34#32
  let v979_r0 : BitVec 32 := Scalar.subi v977_r0 c34_i32_821_r0
  let v980_r0 : BitVec 32 := Scalar.select v978_r0 v977_r0 v979_r0
  let c128_i32_822_r0 : BitVec 32 := 128#32
  let v981_r0 : BitVec 32 := Scalar.muli v980_r0 c128_i32_822_r0
  v981_r0
def k0_mult221 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c2_i32_795_r0 : BitVec 32 := 2#32
  let v943_r0 : BitVec 32 := Scalar.addi v856_r0 c2_i32_795_r0
  let c16_i32_796_r0 : BitVec 32 := 16#32
  let v944_r0 : BitVec 32 := Scalar.minsi v943_r0 c16_i32_796_r0
  let c4_i32_797_r0 : BitVec 32 := 4#32
  let v945_r0 : BitVec 32 := Scalar.muli v944_r0 c4_i32_797_r0
  let c63_i32_798_r0 : BitVec 32 := 63#32
  let v946_r0 : BitVec 32 := Scalar.minsi v945_r0 c63_i32_798_r0
  let c4_i32_823_r0 : BitVec 32 := 4#32
  let v983_r0 : BitVec 32 := Scalar.addi v946_r0 c4_i32_823_r0
  let c34_i32_824_r0 : BitVec 32 := 34#32
  let v984_r0 : BitVec 1 := Scalar.cmpi .slt v983_r0 c34_i32_824_r0
  let c34_i32_825_r0 : BitVec 32 := 34#32
  let v985_r0 : BitVec 32 := Scalar.subi v983_r0 c34_i32_825_r0
  let v986_r0 : BitVec 32 := Scalar.select v984_r0 v983_r0 v985_r0
  let c128_i32_826_r0 : BitVec 32 := 128#32
  let v987_r0 : BitVec 32 := Scalar.muli v986_r0 c128_i32_826_r0
  v987_r0
def k0_off222 (k0_t5 : Fin k0_t5_loop.trips) (c1_i32_718_r0 : BitVec 32) (c0_i32_799_r0 : BitVec 32) : Fin 2 → Nat :=
  let c0_i32_831_r0 : BitVec 32 := 0#32
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let v856_r0 : BitVec 32 := Scalar.addi v855_r0 c1_i32_718_r0
  let c2_i32_795_r0 : BitVec 32 := 2#32
  let v943_r0 : BitVec 32 := Scalar.addi v856_r0 c2_i32_795_r0
  let c16_i32_796_r0 : BitVec 32 := 16#32
  let v944_r0 : BitVec 32 := Scalar.minsi v943_r0 c16_i32_796_r0
  let c4_i32_797_r0 : BitVec 32 := 4#32
  let v945_r0 : BitVec 32 := Scalar.muli v944_r0 c4_i32_797_r0
  let c63_i32_798_r0 : BitVec 32 := 63#32
  let v946_r0 : BitVec 32 := Scalar.minsi v945_r0 c63_i32_798_r0
  let v947_r0 : BitVec 32 := Scalar.addi v946_r0 c0_i32_799_r0
  let c128_i32_800_r0 : BitVec 32 := 128#32
  let v948_r0 : BitVec 32 := Scalar.muli v947_r0 c128_i32_800_r0
  let v949_r0 : BitVec 32 := v948_r0
  ![0, v949_r0.toNat]
def k0_off223 (k0_t5 : Fin k0_t5_loop.trips) (c1_i32_718_r0 : BitVec 32) (c0_i32_807_r0 : BitVec 32) : Fin 2 → Nat :=
  let c0_i32_850_r0 : BitVec 32 := 0#32
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let v856_r0 : BitVec 32 := Scalar.addi v855_r0 c1_i32_718_r0
  let c2_i32_795_r0 : BitVec 32 := 2#32
  let v943_r0 : BitVec 32 := Scalar.addi v856_r0 c2_i32_795_r0
  let c16_i32_796_r0 : BitVec 32 := 16#32
  let v944_r0 : BitVec 32 := Scalar.minsi v943_r0 c16_i32_796_r0
  let c4_i32_797_r0 : BitVec 32 := 4#32
  let v945_r0 : BitVec 32 := Scalar.muli v944_r0 c4_i32_797_r0
  let c63_i32_798_r0 : BitVec 32 := 63#32
  let v946_r0 : BitVec 32 := Scalar.minsi v945_r0 c63_i32_798_r0
  let v959_r0 : BitVec 32 := Scalar.addi v946_r0 c0_i32_807_r0
  let c34_i32_808_r0 : BitVec 32 := 34#32
  let v960_r0 : BitVec 1 := Scalar.cmpi .slt v959_r0 c34_i32_808_r0
  let c34_i32_809_r0 : BitVec 32 := 34#32
  let v961_r0 : BitVec 32 := Scalar.subi v959_r0 c34_i32_809_r0
  let v962_r0 : BitVec 32 := Scalar.select v960_r0 v959_r0 v961_r0
  let c128_i32_810_r0 : BitVec 32 := 128#32
  let v963_r0 : BitVec 32 := Scalar.muli v962_r0 c128_i32_810_r0
  let v964_r0 : BitVec 32 := v963_r0
  ![0, v964_r0.toNat]
@[reducible] def k0_t7_loop : Scf.Loop 32 :=
  let c9_i32_868_r0 : BitVec 32 := 9#32
  let c2_i32_869_r0 : BitVec 32 := 2#32
  let v1029_r0 : BitVec 32 := Scalar.addi c9_i32_868_r0 c2_i32_869_r0
  let c1_i32_870_r0 : BitVec 32 := 1#32
  ⟨c9_i32_868_r0, v1029_r0, c1_i32_870_r0⟩
def k0_mult222 (k0_t5 : Fin k0_t5_loop.trips) (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c0_i32_1453_r0 : BitVec 32 := 0#32
  let v1720_r0 : BitVec 1 := Scalar.cmpi .eq arg22_r0 c0_i32_1453_r0
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c1_i32_1454_r0 : BitVec 32 := 1#32
  let v1721_r0 : BitVec 32 := Scalar.subi v856_r0 c1_i32_1454_r0
  let v1722_r0 : BitVec 32 := Scalar.select v1720_r0 v1721_r0 v856_r0
  let c4_i32_1458_r0 : BitVec 32 := 4#32
  let v1726_r0 : BitVec 32 := Scalar.muli v1722_r0 c4_i32_1458_r0
  let c63_i32_1459_r0 : BitVec 32 := 63#32
  let v1727_r0 : BitVec 32 := Scalar.minsi v1726_r0 c63_i32_1459_r0
  let c128_i32_1460_r0 : BitVec 32 := 128#32
  let v1728_r0 : BitVec 32 := Scalar.muli v1727_r0 c128_i32_1460_r0
  v1728_r0
def k0_mult223 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c0_i32_1453_r0 : BitVec 32 := 0#32
  let v1720_r0 : BitVec 1 := Scalar.cmpi .eq arg22_r0 c0_i32_1453_r0
  let c11_i32_1456_r0 : BitVec 32 := 11#32
  let c1_i32_1455_r0 : BitVec 32 := 1#32
  let v1723_r0 : BitVec 32 := Scalar.subi arg22_r0 c1_i32_1455_r0
  let v1724_r0 : BitVec 32 := Scalar.select v1720_r0 c11_i32_1456_r0 v1723_r0
  let c512_i32_1461_r0 : BitVec 32 := 512#32
  let v1730_r0 : BitVec 32 := Scalar.muli v1724_r0 c512_i32_1461_r0
  v1730_r0
def k0_off224 (k0_t5 : Fin k0_t5_loop.trips) (k0_t7 : Fin k0_t7_loop.trips) : Fin 1 → Nat :=
  let c1_i32_1457_r0 : BitVec 32 := 1#32
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c12_i32_1451_r0 : BitVec 32 := 12#32
  let v1717_r0 : BitVec 32 := Scalar.muli v856_r0 c12_i32_1451_r0
  let c9_i32_868_r0 : BitVec 32 := 9#32
  let c1_i32_870_r0 : BitVec 32 := 1#32
  let arg22_r0 : BitVec 32 := Scf.iv c9_i32_868_r0 c1_i32_870_r0 k0_t7
  let v1718_r0 : BitVec 32 := Scalar.addi v1717_r0 arg22_r0
  let c2_i32_1452_r0 : BitVec 32 := 2#32
  let v1719_r0 : BitVec 32 := Scalar.remsi v1718_r0 c2_i32_1452_r0
  let v1725_r0 : BitVec 32 := Scalar.subi c1_i32_1457_r0 v1719_r0
  ![v1725_r0.toNat]
def k0_off225 (k0_t5 : Fin k0_t5_loop.trips) (k0_t7 : Fin k0_t7_loop.trips) : Fin 2 → Nat :=
  let c9_i32_868_r0 : BitVec 32 := 9#32
  let c1_i32_870_r0 : BitVec 32 := 1#32
  let arg22_r0 : BitVec 32 := Scf.iv c9_i32_868_r0 c1_i32_870_r0 k0_t7
  let c0_i32_1453_r0 : BitVec 32 := 0#32
  let v1720_r0 : BitVec 1 := Scalar.cmpi .eq arg22_r0 c0_i32_1453_r0
  let c11_i32_1456_r0 : BitVec 32 := 11#32
  let c1_i32_1455_r0 : BitVec 32 := 1#32
  let v1723_r0 : BitVec 32 := Scalar.subi arg22_r0 c1_i32_1455_r0
  let v1724_r0 : BitVec 32 := Scalar.select v1720_r0 c11_i32_1456_r0 v1723_r0
  let c512_i32_1461_r0 : BitVec 32 := 512#32
  let v1730_r0 : BitVec 32 := Scalar.muli v1724_r0 c512_i32_1461_r0
  let v1731_r0 : BitVec 32 := v1730_r0
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c1_i32_1454_r0 : BitVec 32 := 1#32
  let v1721_r0 : BitVec 32 := Scalar.subi v856_r0 c1_i32_1454_r0
  let v1722_r0 : BitVec 32 := Scalar.select v1720_r0 v1721_r0 v856_r0
  let c4_i32_1458_r0 : BitVec 32 := 4#32
  let v1726_r0 : BitVec 32 := Scalar.muli v1722_r0 c4_i32_1458_r0
  let c63_i32_1459_r0 : BitVec 32 := 63#32
  let v1727_r0 : BitVec 32 := Scalar.minsi v1726_r0 c63_i32_1459_r0
  let c128_i32_1460_r0 : BitVec 32 := 128#32
  let v1728_r0 : BitVec 32 := Scalar.muli v1727_r0 c128_i32_1460_r0
  let v1729_r0 : BitVec 32 := v1728_r0
  ![v1731_r0.toNat, v1729_r0.toNat]
def k0_off226 (k0_t5 : Fin k0_t5_loop.trips) (k0_t7 : Fin k0_t7_loop.trips) : Fin 3 → Nat :=
  let c1_i32_1457_r0 : BitVec 32 := 1#32
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c12_i32_1451_r0 : BitVec 32 := 12#32
  let v1717_r0 : BitVec 32 := Scalar.muli v856_r0 c12_i32_1451_r0
  let c9_i32_868_r0 : BitVec 32 := 9#32
  let c1_i32_870_r0 : BitVec 32 := 1#32
  let arg22_r0 : BitVec 32 := Scf.iv c9_i32_868_r0 c1_i32_870_r0 k0_t7
  let v1718_r0 : BitVec 32 := Scalar.addi v1717_r0 arg22_r0
  let c2_i32_1452_r0 : BitVec 32 := 2#32
  let v1719_r0 : BitVec 32 := Scalar.remsi v1718_r0 c2_i32_1452_r0
  let v1725_r0 : BitVec 32 := Scalar.subi c1_i32_1457_r0 v1719_r0
  let c0_i32_1462_r0 : BitVec 32 := 0#32
  let c0_i32_1463_r0 : BitVec 32 := 0#32
  ![v1725_r0.toNat, 0, 0]
def k0_mult224 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c4_i32_1464_r0 : BitVec 32 := 4#32
  let v1737_r0 : BitVec 32 := Scalar.muli v856_r0 c4_i32_1464_r0
  let c63_i32_1465_r0 : BitVec 32 := 63#32
  let v1738_r0 : BitVec 32 := Scalar.minsi v1737_r0 c63_i32_1465_r0
  let c128_i32_1466_r0 : BitVec 32 := 128#32
  let v1739_r0 : BitVec 32 := Scalar.muli v1738_r0 c128_i32_1466_r0
  v1739_r0
def k0_mult225 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1467_r0 : BitVec 32 := 512#32
  let v1741_r0 : BitVec 32 := Scalar.muli arg22_r0 c512_i32_1467_r0
  v1741_r0
def k0_off227 (k0_t5 : Fin k0_t5_loop.trips) (k0_t7 : Fin k0_t7_loop.trips) : Fin 1 → Nat :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c12_i32_1451_r0 : BitVec 32 := 12#32
  let v1717_r0 : BitVec 32 := Scalar.muli v856_r0 c12_i32_1451_r0
  let c9_i32_868_r0 : BitVec 32 := 9#32
  let c1_i32_870_r0 : BitVec 32 := 1#32
  let arg22_r0 : BitVec 32 := Scf.iv c9_i32_868_r0 c1_i32_870_r0 k0_t7
  let v1718_r0 : BitVec 32 := Scalar.addi v1717_r0 arg22_r0
  let c2_i32_1452_r0 : BitVec 32 := 2#32
  let v1719_r0 : BitVec 32 := Scalar.remsi v1718_r0 c2_i32_1452_r0
  ![v1719_r0.toNat]
def k0_off228 (k0_t5 : Fin k0_t5_loop.trips) (k0_t7 : Fin k0_t7_loop.trips) : Fin 2 → Nat :=
  let c9_i32_868_r0 : BitVec 32 := 9#32
  let c1_i32_870_r0 : BitVec 32 := 1#32
  let arg22_r0 : BitVec 32 := Scf.iv c9_i32_868_r0 c1_i32_870_r0 k0_t7
  let c512_i32_1467_r0 : BitVec 32 := 512#32
  let v1741_r0 : BitVec 32 := Scalar.muli arg22_r0 c512_i32_1467_r0
  let v1742_r0 : BitVec 32 := v1741_r0
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c4_i32_1464_r0 : BitVec 32 := 4#32
  let v1737_r0 : BitVec 32 := Scalar.muli v856_r0 c4_i32_1464_r0
  let c63_i32_1465_r0 : BitVec 32 := 63#32
  let v1738_r0 : BitVec 32 := Scalar.minsi v1737_r0 c63_i32_1465_r0
  let c128_i32_1466_r0 : BitVec 32 := 128#32
  let v1739_r0 : BitVec 32 := Scalar.muli v1738_r0 c128_i32_1466_r0
  let v1740_r0 : BitVec 32 := v1739_r0
  ![v1742_r0.toNat, v1740_r0.toNat]
def k0_off229 (k0_t5 : Fin k0_t5_loop.trips) (k0_t7 : Fin k0_t7_loop.trips) : Fin 3 → Nat :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c12_i32_1451_r0 : BitVec 32 := 12#32
  let v1717_r0 : BitVec 32 := Scalar.muli v856_r0 c12_i32_1451_r0
  let c9_i32_868_r0 : BitVec 32 := 9#32
  let c1_i32_870_r0 : BitVec 32 := 1#32
  let arg22_r0 : BitVec 32 := Scf.iv c9_i32_868_r0 c1_i32_870_r0 k0_t7
  let v1718_r0 : BitVec 32 := Scalar.addi v1717_r0 arg22_r0
  let c2_i32_1452_r0 : BitVec 32 := 2#32
  let v1719_r0 : BitVec 32 := Scalar.remsi v1718_r0 c2_i32_1452_r0
  let c0_i32_1468_r0 : BitVec 32 := 0#32
  let c0_i32_1469_r0 : BitVec 32 := 0#32
  ![v1719_r0.toNat, 0, 0]
def k0_mult226 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c4_i32_1470_r0 : BitVec 32 := 4#32
  let v1748_r0 : BitVec 32 := Scalar.muli v856_r0 c4_i32_1470_r0
  let c63_i32_1471_r0 : BitVec 32 := 63#32
  let v1749_r0 : BitVec 32 := Scalar.minsi v1748_r0 c63_i32_1471_r0
  let c128_i32_1472_r0 : BitVec 32 := 128#32
  let v1750_r0 : BitVec 32 := Scalar.muli v1749_r0 c128_i32_1472_r0
  v1750_r0
def k0_mult227 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c0_i32_1474_r0 : BitVec 32 := 0#32
  let v1753_r0 : BitVec 32 := Scalar.addi v1752_r0 c0_i32_1474_r0
  v1753_r0
def k0_off230 (k0_t7 : Fin k0_t7_loop.trips) (c0_i32_1474_r0 : BitVec 32) : Fin 2 → Nat :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let v1753_r0 : BitVec 32 := Scalar.addi v1752_r0 c0_i32_1474_r0
  let v1754_r0 : BitVec 32 := v1753_r0
  let v1755_r0 : Index := Scalar.indexCast v1754_r0
  let c512_1475_r0 : Index := 512#32
  ![v1755_r0.toNat, 512]
def k0_mult228 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c0_i32_1480_r0 : BitVec 32 := 0#32
  let v1759_r0 : BitVec 32 := Scalar.addi v1752_r0 c0_i32_1480_r0
  v1759_r0
def k0_off231 (k0_t7 : Fin k0_t7_loop.trips) (c0_i32_1480_r0 : BitVec 32) : Fin 2 → Nat :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let v1759_r0 : BitVec 32 := Scalar.addi v1752_r0 c0_i32_1480_r0
  let v1760_r0 : BitVec 32 := v1759_r0
  let v1761_r0 : Index := Scalar.indexCast v1760_r0
  let c768_1481_r0 : Index := 768#32
  ![v1761_r0.toNat, 768]
def k0_mult229 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c0_i32_1486_r0 : BitVec 32 := 0#32
  let v1765_r0 : BitVec 32 := Scalar.addi v1752_r0 c0_i32_1486_r0
  v1765_r0
def k0_off232 (k0_t7 : Fin k0_t7_loop.trips) (c0_i32_1486_r0 : BitVec 32) : Fin 2 → Nat :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let v1765_r0 : BitVec 32 := Scalar.addi v1752_r0 c0_i32_1486_r0
  let v1766_r0 : BitVec 32 := v1765_r0
  let v1767_r0 : Index := Scalar.indexCast v1766_r0
  let c1024_1487_r0 : Index := 1024#32
  ![v1767_r0.toNat, 1024]
def k0_mult230 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c0_i32_1492_r0 : BitVec 32 := 0#32
  let v1771_r0 : BitVec 32 := Scalar.addi v1752_r0 c0_i32_1492_r0
  v1771_r0
def k0_off233 (k0_t7 : Fin k0_t7_loop.trips) (c0_i32_1492_r0 : BitVec 32) : Fin 2 → Nat :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let v1771_r0 : BitVec 32 := Scalar.addi v1752_r0 c0_i32_1492_r0
  let v1772_r0 : BitVec 32 := v1771_r0
  let v1773_r0 : Index := Scalar.indexCast v1772_r0
  let c1280_1493_r0 : Index := 1280#32
  ![v1773_r0.toNat, 1280]
def k0_mult231 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c0_i32_1498_r0 : BitVec 32 := 0#32
  let v1777_r0 : BitVec 32 := Scalar.addi v1752_r0 c0_i32_1498_r0
  v1777_r0
def k0_off234 (k0_t7 : Fin k0_t7_loop.trips) (c0_i32_1498_r0 : BitVec 32) : Fin 2 → Nat :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let v1777_r0 : BitVec 32 := Scalar.addi v1752_r0 c0_i32_1498_r0
  let v1778_r0 : BitVec 32 := v1777_r0
  let v1779_r0 : Index := Scalar.indexCast v1778_r0
  let c1536_1499_r0 : Index := 1536#32
  ![v1779_r0.toNat, 1536]
def k0_mult232 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c0_i32_1504_r0 : BitVec 32 := 0#32
  let v1783_r0 : BitVec 32 := Scalar.addi v1752_r0 c0_i32_1504_r0
  v1783_r0
def k0_off235 (k0_t7 : Fin k0_t7_loop.trips) (c0_i32_1504_r0 : BitVec 32) : Fin 2 → Nat :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let v1783_r0 : BitVec 32 := Scalar.addi v1752_r0 c0_i32_1504_r0
  let v1784_r0 : BitVec 32 := v1783_r0
  let v1785_r0 : Index := Scalar.indexCast v1784_r0
  let c1792_1505_r0 : Index := 1792#32
  ![v1785_r0.toNat, 1792]
def k0_mult233 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c0_i32_1510_r0 : BitVec 32 := 0#32
  let v1789_r0 : BitVec 32 := Scalar.addi v1752_r0 c0_i32_1510_r0
  v1789_r0
def k0_off236 (k0_t7 : Fin k0_t7_loop.trips) (c0_i32_1510_r0 : BitVec 32) : Fin 2 → Nat :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let v1789_r0 : BitVec 32 := Scalar.addi v1752_r0 c0_i32_1510_r0
  let v1790_r0 : BitVec 32 := v1789_r0
  let v1791_r0 : Index := Scalar.indexCast v1790_r0
  let c2048_1511_r0 : Index := 2048#32
  ![v1791_r0.toNat, 2048]
def k0_mult234 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c0_i32_1516_r0 : BitVec 32 := 0#32
  let v1795_r0 : BitVec 32 := Scalar.addi v1752_r0 c0_i32_1516_r0
  v1795_r0
def k0_off237 (k0_t7 : Fin k0_t7_loop.trips) (c0_i32_1516_r0 : BitVec 32) : Fin 2 → Nat :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let v1795_r0 : BitVec 32 := Scalar.addi v1752_r0 c0_i32_1516_r0
  let v1796_r0 : BitVec 32 := v1795_r0
  let v1797_r0 : Index := Scalar.indexCast v1796_r0
  let c2304_1517_r0 : Index := 2304#32
  ![v1797_r0.toNat, 2304]
def k0_mult235 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c0_i32_1522_r0 : BitVec 32 := 0#32
  let v1801_r0 : BitVec 32 := Scalar.addi v1752_r0 c0_i32_1522_r0
  v1801_r0
def k0_off238 (k0_t7 : Fin k0_t7_loop.trips) (c0_i32_1522_r0 : BitVec 32) : Fin 2 → Nat :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let v1801_r0 : BitVec 32 := Scalar.addi v1752_r0 c0_i32_1522_r0
  let v1802_r0 : BitVec 32 := v1801_r0
  let v1803_r0 : Index := Scalar.indexCast v1802_r0
  let c2560_1523_r0 : Index := 2560#32
  ![v1803_r0.toNat, 2560]
def k0_mult236 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c0_i32_1528_r0 : BitVec 32 := 0#32
  let v1807_r0 : BitVec 32 := Scalar.addi v1752_r0 c0_i32_1528_r0
  v1807_r0
def k0_off239 (k0_t7 : Fin k0_t7_loop.trips) (c0_i32_1528_r0 : BitVec 32) : Fin 2 → Nat :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let v1807_r0 : BitVec 32 := Scalar.addi v1752_r0 c0_i32_1528_r0
  let v1808_r0 : BitVec 32 := v1807_r0
  let v1809_r0 : Index := Scalar.indexCast v1808_r0
  let c2816_1529_r0 : Index := 2816#32
  ![v1809_r0.toNat, 2816]
def k0_mult237 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c0_i32_1534_r0 : BitVec 32 := 0#32
  let v1813_r0 : BitVec 32 := Scalar.addi v1752_r0 c0_i32_1534_r0
  v1813_r0
def k0_off240 (k0_t7 : Fin k0_t7_loop.trips) (c0_i32_1534_r0 : BitVec 32) : Fin 2 → Nat :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let v1813_r0 : BitVec 32 := Scalar.addi v1752_r0 c0_i32_1534_r0
  let v1814_r0 : BitVec 32 := v1813_r0
  let v1815_r0 : Index := Scalar.indexCast v1814_r0
  let c3072_1535_r0 : Index := 3072#32
  ![v1815_r0.toNat, 3072]
def k0_mult238 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c0_i32_1540_r0 : BitVec 32 := 0#32
  let v1819_r0 : BitVec 32 := Scalar.addi v1752_r0 c0_i32_1540_r0
  v1819_r0
def k0_off241 (k0_t7 : Fin k0_t7_loop.trips) (c0_i32_1540_r0 : BitVec 32) : Fin 2 → Nat :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let v1819_r0 : BitVec 32 := Scalar.addi v1752_r0 c0_i32_1540_r0
  let v1820_r0 : BitVec 32 := v1819_r0
  let v1821_r0 : Index := Scalar.indexCast v1820_r0
  let c3328_1541_r0 : Index := 3328#32
  ![v1821_r0.toNat, 3328]
def k0_mult239 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c256_i32_1546_r0 : BitVec 32 := 256#32
  let v1826_r0 : BitVec 32 := Scalar.addi v1752_r0 c256_i32_1546_r0
  v1826_r0
def k0_off242 (k0_t7 : Fin k0_t7_loop.trips) : Fin 2 → Nat :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c256_i32_1546_r0 : BitVec 32 := 256#32
  let v1826_r0 : BitVec 32 := Scalar.addi v1752_r0 c256_i32_1546_r0
  let v1827_r0 : BitVec 32 := v1826_r0
  let v1828_r0 : Index := Scalar.indexCast v1827_r0
  let c0_1547_r0 : Index := 0#32
  ![v1828_r0.toNat, 0]
def k0_mult240 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c256_i32_1546_r0 : BitVec 32 := 256#32
  let v1826_r0 : BitVec 32 := Scalar.addi v1752_r0 c256_i32_1546_r0
  v1826_r0
def k0_off243 (k0_t7 : Fin k0_t7_loop.trips) : Fin 2 → Nat :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c256_i32_1546_r0 : BitVec 32 := 256#32
  let v1826_r0 : BitVec 32 := Scalar.addi v1752_r0 c256_i32_1546_r0
  let v1832_r0 : BitVec 32 := v1826_r0
  let v1833_r0 : Index := Scalar.indexCast v1832_r0
  let c256_1552_r0 : Index := 256#32
  ![v1833_r0.toNat, 256]
def k0_mult241 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c4_i32_1470_r0 : BitVec 32 := 4#32
  let v1748_r0 : BitVec 32 := Scalar.muli v856_r0 c4_i32_1470_r0
  let c63_i32_1471_r0 : BitVec 32 := 63#32
  let v1749_r0 : BitVec 32 := Scalar.minsi v1748_r0 c63_i32_1471_r0
  let c128_i32_1472_r0 : BitVec 32 := 128#32
  let v1750_r0 : BitVec 32 := Scalar.muli v1749_r0 c128_i32_1472_r0
  let v1751_r0 : BitVec 32 := v1750_r0
  let c0_i32_1557_r0 : BitVec 32 := 0#32
  let v1837_r0 : BitVec 32 := Scalar.addi v1751_r0 c0_i32_1557_r0
  v1837_r0
def k0_off244 (k0_t5 : Fin k0_t5_loop.trips) (c0_i32_1557_r0 : BitVec 32) : Fin 2 → Nat :=
  let c0_1558_r0 : Index := 0#32
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c4_i32_1470_r0 : BitVec 32 := 4#32
  let v1748_r0 : BitVec 32 := Scalar.muli v856_r0 c4_i32_1470_r0
  let c63_i32_1471_r0 : BitVec 32 := 63#32
  let v1749_r0 : BitVec 32 := Scalar.minsi v1748_r0 c63_i32_1471_r0
  let c128_i32_1472_r0 : BitVec 32 := 128#32
  let v1750_r0 : BitVec 32 := Scalar.muli v1749_r0 c128_i32_1472_r0
  let v1751_r0 : BitVec 32 := v1750_r0
  let v1837_r0 : BitVec 32 := Scalar.addi v1751_r0 c0_i32_1557_r0
  let v1838_r0 : BitVec 32 := v1837_r0
  let v1839_r0 : Index := Scalar.indexCast v1838_r0
  ![0, v1839_r0.toNat]
def k0_off245 (k0_t5 : Fin k0_t5_loop.trips) (k0_t7 : Fin k0_t7_loop.trips) : Fin 3 → Nat :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c12_i32_1451_r0 : BitVec 32 := 12#32
  let v1717_r0 : BitVec 32 := Scalar.muli v856_r0 c12_i32_1451_r0
  let c9_i32_868_r0 : BitVec 32 := 9#32
  let c1_i32_870_r0 : BitVec 32 := 1#32
  let arg22_r0 : BitVec 32 := Scf.iv c9_i32_868_r0 c1_i32_870_r0 k0_t7
  let v1718_r0 : BitVec 32 := Scalar.addi v1717_r0 arg22_r0
  let c2_i32_1452_r0 : BitVec 32 := 2#32
  let v1719_r0 : BitVec 32 := Scalar.remsi v1718_r0 c2_i32_1452_r0
  let v1846_r0 : Index := Scalar.indexCast v1719_r0
  let c0_1559_r0 : Index := 0#32
  let c0_1560_r0 : Index := 0#32
  ![v1846_r0.toNat, 0, 0]
def k0_mult242 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c4_i32_1470_r0 : BitVec 32 := 4#32
  let v1748_r0 : BitVec 32 := Scalar.muli v856_r0 c4_i32_1470_r0
  let c63_i32_1471_r0 : BitVec 32 := 63#32
  let v1749_r0 : BitVec 32 := Scalar.minsi v1748_r0 c63_i32_1471_r0
  let c128_i32_1472_r0 : BitVec 32 := 128#32
  let v1750_r0 : BitVec 32 := Scalar.muli v1749_r0 c128_i32_1472_r0
  let v1751_r0 : BitVec 32 := v1750_r0
  let c256_i32_1561_r0 : BitVec 32 := 256#32
  let v1850_r0 : BitVec 32 := Scalar.addi v1751_r0 c256_i32_1561_r0
  v1850_r0
def k0_off246 (k0_t5 : Fin k0_t5_loop.trips) (k0_t7 : Fin k0_t7_loop.trips) : Fin 3 → Nat :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c12_i32_1451_r0 : BitVec 32 := 12#32
  let v1717_r0 : BitVec 32 := Scalar.muli v856_r0 c12_i32_1451_r0
  let c9_i32_868_r0 : BitVec 32 := 9#32
  let c1_i32_870_r0 : BitVec 32 := 1#32
  let arg22_r0 : BitVec 32 := Scf.iv c9_i32_868_r0 c1_i32_870_r0 k0_t7
  let v1718_r0 : BitVec 32 := Scalar.addi v1717_r0 arg22_r0
  let c2_i32_1452_r0 : BitVec 32 := 2#32
  let v1719_r0 : BitVec 32 := Scalar.remsi v1718_r0 c2_i32_1452_r0
  let v1859_r0 : Index := Scalar.indexCast v1719_r0
  let c0_1563_r0 : Index := 0#32
  let c256_1564_r0 : Index := 256#32
  ![v1859_r0.toNat, 0, 256]
def k0_mult243 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c256_i32_1565_r0 : BitVec 32 := 256#32
  let v1863_r0 : BitVec 32 := Scalar.addi v1752_r0 c256_i32_1565_r0
  v1863_r0
def k0_mult244 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c256_i32_1571_r0 : BitVec 32 := 256#32
  let v1869_r0 : BitVec 32 := Scalar.addi v1752_r0 c256_i32_1571_r0
  v1869_r0
def k0_mult245 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c256_i32_1577_r0 : BitVec 32 := 256#32
  let v1875_r0 : BitVec 32 := Scalar.addi v1752_r0 c256_i32_1577_r0
  v1875_r0
def k0_mult246 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c256_i32_1583_r0 : BitVec 32 := 256#32
  let v1881_r0 : BitVec 32 := Scalar.addi v1752_r0 c256_i32_1583_r0
  v1881_r0
def k0_mult247 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c256_i32_1589_r0 : BitVec 32 := 256#32
  let v1887_r0 : BitVec 32 := Scalar.addi v1752_r0 c256_i32_1589_r0
  v1887_r0
def k0_mult248 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c256_i32_1595_r0 : BitVec 32 := 256#32
  let v1893_r0 : BitVec 32 := Scalar.addi v1752_r0 c256_i32_1595_r0
  v1893_r0
def k0_mult249 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c256_i32_1601_r0 : BitVec 32 := 256#32
  let v1899_r0 : BitVec 32 := Scalar.addi v1752_r0 c256_i32_1601_r0
  v1899_r0
def k0_mult250 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c256_i32_1607_r0 : BitVec 32 := 256#32
  let v1905_r0 : BitVec 32 := Scalar.addi v1752_r0 c256_i32_1607_r0
  v1905_r0
def k0_mult251 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c256_i32_1613_r0 : BitVec 32 := 256#32
  let v1911_r0 : BitVec 32 := Scalar.addi v1752_r0 c256_i32_1613_r0
  v1911_r0
def k0_mult252 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c256_i32_1619_r0 : BitVec 32 := 256#32
  let v1917_r0 : BitVec 32 := Scalar.addi v1752_r0 c256_i32_1619_r0
  v1917_r0
def k0_mult253 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c256_i32_1625_r0 : BitVec 32 := 256#32
  let v1923_r0 : BitVec 32 := Scalar.addi v1752_r0 c256_i32_1625_r0
  v1923_r0
def k0_mult254 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c512_i32_1473_r0 : BitVec 32 := 512#32
  let v1752_r0 : BitVec 32 := Scalar.muli arg22_r0 c512_i32_1473_r0
  let c256_i32_1631_r0 : BitVec 32 := 256#32
  let v1929_r0 : BitVec 32 := Scalar.addi v1752_r0 c256_i32_1631_r0
  v1929_r0
def k0_mult255 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c1_i32_1449_r0 : BitVec 32 := 1#32
  let v1715_r0 : BitVec 32 := Scalar.addi arg22_r0 c1_i32_1449_r0
  let c512_i32_1450_r0 : BitVec 32 := 512#32
  let v1716_r0 : BitVec 32 := Scalar.muli v1715_r0 c512_i32_1450_r0
  v1716_r0
def k0_off247 (k0_t7 : Fin k0_t7_loop.trips) : Fin 2 → Nat :=
  let c9_i32_868_r0 : BitVec 32 := 9#32
  let c1_i32_870_r0 : BitVec 32 := 1#32
  let arg22_r0 : BitVec 32 := Scf.iv c9_i32_868_r0 c1_i32_870_r0 k0_t7
  let c1_i32_1449_r0 : BitVec 32 := 1#32
  let v1715_r0 : BitVec 32 := Scalar.addi arg22_r0 c1_i32_1449_r0
  let c512_i32_1450_r0 : BitVec 32 := 512#32
  let v1716_r0 : BitVec 32 := Scalar.muli v1715_r0 c512_i32_1450_r0
  let v1936_r0 : BitVec 32 := v1716_r0
  let v1937_r0 : Index := Scalar.indexCast v1936_r0
  let c0_1637_r0 : Index := 0#32
  ![v1937_r0.toNat, 0]
def k0_mult256 (k0_t7 : Fin k0_t7_loop.trips) : BitVec 32 :=
  let c9_i32_868_r0 : BitVec 32 := 9#32
  let c1_i32_870_r0 : BitVec 32 := 1#32
  let arg22_r0 : BitVec 32 := Scf.iv c9_i32_868_r0 c1_i32_870_r0 k0_t7
  let c1_i32_1449_r0 : BitVec 32 := 1#32
  let v1715_r0 : BitVec 32 := Scalar.addi arg22_r0 c1_i32_1449_r0
  let c512_i32_1450_r0 : BitVec 32 := 512#32
  let v1716_r0 : BitVec 32 := Scalar.muli v1715_r0 c512_i32_1450_r0
  v1716_r0
def k0_off248 (k0_t7 : Fin k0_t7_loop.trips) : Fin 2 → Nat :=
  let c9_i32_868_r0 : BitVec 32 := 9#32
  let c1_i32_870_r0 : BitVec 32 := 1#32
  let arg22_r0 : BitVec 32 := Scf.iv c9_i32_868_r0 c1_i32_870_r0 k0_t7
  let c1_i32_1449_r0 : BitVec 32 := 1#32
  let v1715_r0 : BitVec 32 := Scalar.addi arg22_r0 c1_i32_1449_r0
  let c512_i32_1450_r0 : BitVec 32 := 512#32
  let v1716_r0 : BitVec 32 := Scalar.muli v1715_r0 c512_i32_1450_r0
  let v1941_r0 : BitVec 32 := v1716_r0
  let v1942_r0 : Index := Scalar.indexCast v1941_r0
  let c256_1642_r0 : Index := 256#32
  ![v1942_r0.toNat, 256]
def k0_mult257 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c4_i32_1470_r0 : BitVec 32 := 4#32
  let v1748_r0 : BitVec 32 := Scalar.muli v856_r0 c4_i32_1470_r0
  let c63_i32_1471_r0 : BitVec 32 := 63#32
  let v1749_r0 : BitVec 32 := Scalar.minsi v1748_r0 c63_i32_1471_r0
  let c128_i32_1472_r0 : BitVec 32 := 128#32
  let v1750_r0 : BitVec 32 := Scalar.muli v1749_r0 c128_i32_1472_r0
  let v1751_r0 : BitVec 32 := v1750_r0
  let c0_i32_1647_r0 : BitVec 32 := 0#32
  let v1946_r0 : BitVec 32 := Scalar.addi v1751_r0 c0_i32_1647_r0
  v1946_r0
def k0_off249 (k0_t5 : Fin k0_t5_loop.trips) (k0_t7 : Fin k0_t7_loop.trips) : Fin 3 → Nat :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c12_i32_1451_r0 : BitVec 32 := 12#32
  let v1717_r0 : BitVec 32 := Scalar.muli v856_r0 c12_i32_1451_r0
  let c9_i32_868_r0 : BitVec 32 := 9#32
  let c1_i32_870_r0 : BitVec 32 := 1#32
  let arg22_r0 : BitVec 32 := Scf.iv c9_i32_868_r0 c1_i32_870_r0 k0_t7
  let v1718_r0 : BitVec 32 := Scalar.addi v1717_r0 arg22_r0
  let c2_i32_1452_r0 : BitVec 32 := 2#32
  let v1719_r0 : BitVec 32 := Scalar.remsi v1718_r0 c2_i32_1452_r0
  let v1955_r0 : Index := Scalar.indexCast v1719_r0
  let c256_1649_r0 : Index := 256#32
  let c0_1650_r0 : Index := 0#32
  ![v1955_r0.toNat, 256, 0]
def k0_mult258 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c4_i32_1470_r0 : BitVec 32 := 4#32
  let v1748_r0 : BitVec 32 := Scalar.muli v856_r0 c4_i32_1470_r0
  let c63_i32_1471_r0 : BitVec 32 := 63#32
  let v1749_r0 : BitVec 32 := Scalar.minsi v1748_r0 c63_i32_1471_r0
  let c128_i32_1472_r0 : BitVec 32 := 128#32
  let v1750_r0 : BitVec 32 := Scalar.muli v1749_r0 c128_i32_1472_r0
  let v1751_r0 : BitVec 32 := v1750_r0
  let c256_i32_1651_r0 : BitVec 32 := 256#32
  let v1959_r0 : BitVec 32 := Scalar.addi v1751_r0 c256_i32_1651_r0
  v1959_r0
def k0_off250 (k0_t5 : Fin k0_t5_loop.trips) (k0_t7 : Fin k0_t7_loop.trips) : Fin 3 → Nat :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c12_i32_1451_r0 : BitVec 32 := 12#32
  let v1717_r0 : BitVec 32 := Scalar.muli v856_r0 c12_i32_1451_r0
  let c9_i32_868_r0 : BitVec 32 := 9#32
  let c1_i32_870_r0 : BitVec 32 := 1#32
  let arg22_r0 : BitVec 32 := Scf.iv c9_i32_868_r0 c1_i32_870_r0 k0_t7
  let v1718_r0 : BitVec 32 := Scalar.addi v1717_r0 arg22_r0
  let c2_i32_1452_r0 : BitVec 32 := 2#32
  let v1719_r0 : BitVec 32 := Scalar.remsi v1718_r0 c2_i32_1452_r0
  let v1968_r0 : Index := Scalar.indexCast v1719_r0
  let c256_1653_r0 : Index := 256#32
  let c256_1654_r0 : Index := 256#32
  ![v1968_r0.toNat, 256, 256]
def k0_mult259 (k0_t5 : Fin k0_t5_loop.trips) : BitVec 32 :=
  let c11_i32_875_r0 : BitVec 32 := 11#32
  let c0_i32_876_r0 : BitVec 32 := 0#32
  let v1033_r0 : BitVec 1 := Scalar.cmpi .eq c11_i32_875_r0 c0_i32_876_r0
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c1_i32_877_r0 : BitVec 32 := 1#32
  let v1034_r0 : BitVec 32 := Scalar.subi v856_r0 c1_i32_877_r0
  let v1035_r0 : BitVec 32 := Scalar.select v1033_r0 v1034_r0 v856_r0
  let c4_i32_882_r0 : BitVec 32 := 4#32
  let v1039_r0 : BitVec 32 := Scalar.muli v1035_r0 c4_i32_882_r0
  let c63_i32_883_r0 : BitVec 32 := 63#32
  let v1040_r0 : BitVec 32 := Scalar.minsi v1039_r0 c63_i32_883_r0
  let c128_i32_884_r0 : BitVec 32 := 128#32
  let v1041_r0 : BitVec 32 := Scalar.muli v1040_r0 c128_i32_884_r0
  v1041_r0
def k0_mult260 : BitVec 32 :=
  let c11_i32_875_r0 : BitVec 32 := 11#32
  let c0_i32_876_r0 : BitVec 32 := 0#32
  let v1033_r0 : BitVec 1 := Scalar.cmpi .eq c11_i32_875_r0 c0_i32_876_r0
  let c11_i32_880_r0 : BitVec 32 := 11#32
  let c11_i32_878_r0 : BitVec 32 := 11#32
  let c1_i32_879_r0 : BitVec 32 := 1#32
  let v1036_r0 : BitVec 32 := Scalar.subi c11_i32_878_r0 c1_i32_879_r0
  let v1037_r0 : BitVec 32 := Scalar.select v1033_r0 c11_i32_880_r0 v1036_r0
  let c512_i32_885_r0 : BitVec 32 := 512#32
  let v1043_r0 : BitVec 32 := Scalar.muli v1037_r0 c512_i32_885_r0
  v1043_r0
def k0_off251 (k0_t5 : Fin k0_t5_loop.trips) (c1_i32_718_r0 : BitVec 32) : Fin 1 → Nat :=
  let c1_i32_881_r0 : BitVec 32 := 1#32
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let v856_r0 : BitVec 32 := Scalar.addi v855_r0 c1_i32_718_r0
  let c12_i32_872_r0 : BitVec 32 := 12#32
  let v1030_r0 : BitVec 32 := Scalar.muli v856_r0 c12_i32_872_r0
  let c11_i32_873_r0 : BitVec 32 := 11#32
  let v1031_r0 : BitVec 32 := Scalar.addi v1030_r0 c11_i32_873_r0
  let c2_i32_874_r0 : BitVec 32 := 2#32
  let v1032_r0 : BitVec 32 := Scalar.remsi v1031_r0 c2_i32_874_r0
  let v1038_r0 : BitVec 32 := Scalar.subi c1_i32_881_r0 v1032_r0
  ![v1038_r0.toNat]
def k0_off252 (k0_t5 : Fin k0_t5_loop.trips) (c1_i32_718_r0 : BitVec 32) : Fin 2 → Nat :=
  let c11_i32_875_r0 : BitVec 32 := 11#32
  let c0_i32_876_r0 : BitVec 32 := 0#32
  let v1033_r0 : BitVec 1 := Scalar.cmpi .eq c11_i32_875_r0 c0_i32_876_r0
  let c11_i32_880_r0 : BitVec 32 := 11#32
  let c11_i32_878_r0 : BitVec 32 := 11#32
  let c1_i32_879_r0 : BitVec 32 := 1#32
  let v1036_r0 : BitVec 32 := Scalar.subi c11_i32_878_r0 c1_i32_879_r0
  let v1037_r0 : BitVec 32 := Scalar.select v1033_r0 c11_i32_880_r0 v1036_r0
  let c512_i32_885_r0 : BitVec 32 := 512#32
  let v1043_r0 : BitVec 32 := Scalar.muli v1037_r0 c512_i32_885_r0
  let v1044_r0 : BitVec 32 := v1043_r0
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let v856_r0 : BitVec 32 := Scalar.addi v855_r0 c1_i32_718_r0
  let c1_i32_877_r0 : BitVec 32 := 1#32
  let v1034_r0 : BitVec 32 := Scalar.subi v856_r0 c1_i32_877_r0
  let v1035_r0 : BitVec 32 := Scalar.select v1033_r0 v1034_r0 v856_r0
  let c4_i32_882_r0 : BitVec 32 := 4#32
  let v1039_r0 : BitVec 32 := Scalar.muli v1035_r0 c4_i32_882_r0
  let c63_i32_883_r0 : BitVec 32 := 63#32
  let v1040_r0 : BitVec 32 := Scalar.minsi v1039_r0 c63_i32_883_r0
  let c128_i32_884_r0 : BitVec 32 := 128#32
  let v1041_r0 : BitVec 32 := Scalar.muli v1040_r0 c128_i32_884_r0
  let v1042_r0 : BitVec 32 := v1041_r0
  ![v1044_r0.toNat, v1042_r0.toNat]
def k0_off253 (k0_t5 : Fin k0_t5_loop.trips) (c1_i32_718_r0 : BitVec 32) : Fin 3 → Nat :=
  let c1_i32_881_r0 : BitVec 32 := 1#32
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let v856_r0 : BitVec 32 := Scalar.addi v855_r0 c1_i32_718_r0
  let c12_i32_872_r0 : BitVec 32 := 12#32
  let v1030_r0 : BitVec 32 := Scalar.muli v856_r0 c12_i32_872_r0
  let c11_i32_873_r0 : BitVec 32 := 11#32
  let v1031_r0 : BitVec 32 := Scalar.addi v1030_r0 c11_i32_873_r0
  let c2_i32_874_r0 : BitVec 32 := 2#32
  let v1032_r0 : BitVec 32 := Scalar.remsi v1031_r0 c2_i32_874_r0
  let v1038_r0 : BitVec 32 := Scalar.subi c1_i32_881_r0 v1032_r0
  let c0_i32_886_r0 : BitVec 32 := 0#32
  let c0_i32_887_r0 : BitVec 32 := 0#32
  ![v1038_r0.toNat, 0, 0]
def k0_mult261 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c4_i32_888_r0 : BitVec 32 := 4#32
  let v1050_r0 : BitVec 32 := Scalar.muli v856_r0 c4_i32_888_r0
  let c63_i32_889_r0 : BitVec 32 := 63#32
  let v1051_r0 : BitVec 32 := Scalar.minsi v1050_r0 c63_i32_889_r0
  let c128_i32_890_r0 : BitVec 32 := 128#32
  let v1052_r0 : BitVec 32 := Scalar.muli v1051_r0 c128_i32_890_r0
  v1052_r0
def k0_mult262 : BitVec 32 :=
  let c11_i32_891_r0 : BitVec 32 := 11#32
  let c512_i32_892_r0 : BitVec 32 := 512#32
  let v1054_r0 : BitVec 32 := Scalar.muli c11_i32_891_r0 c512_i32_892_r0
  v1054_r0
def k0_off254 (k0_t5 : Fin k0_t5_loop.trips) (c1_i32_718_r0 : BitVec 32) : Fin 1 → Nat :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let v856_r0 : BitVec 32 := Scalar.addi v855_r0 c1_i32_718_r0
  let c12_i32_872_r0 : BitVec 32 := 12#32
  let v1030_r0 : BitVec 32 := Scalar.muli v856_r0 c12_i32_872_r0
  let c11_i32_873_r0 : BitVec 32 := 11#32
  let v1031_r0 : BitVec 32 := Scalar.addi v1030_r0 c11_i32_873_r0
  let c2_i32_874_r0 : BitVec 32 := 2#32
  let v1032_r0 : BitVec 32 := Scalar.remsi v1031_r0 c2_i32_874_r0
  ![v1032_r0.toNat]
def k0_off255 (k0_t5 : Fin k0_t5_loop.trips) (c1_i32_718_r0 : BitVec 32) : Fin 2 → Nat :=
  let c11_i32_891_r0 : BitVec 32 := 11#32
  let c512_i32_892_r0 : BitVec 32 := 512#32
  let v1054_r0 : BitVec 32 := Scalar.muli c11_i32_891_r0 c512_i32_892_r0
  let v1055_r0 : BitVec 32 := v1054_r0
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let v856_r0 : BitVec 32 := Scalar.addi v855_r0 c1_i32_718_r0
  let c4_i32_888_r0 : BitVec 32 := 4#32
  let v1050_r0 : BitVec 32 := Scalar.muli v856_r0 c4_i32_888_r0
  let c63_i32_889_r0 : BitVec 32 := 63#32
  let v1051_r0 : BitVec 32 := Scalar.minsi v1050_r0 c63_i32_889_r0
  let c128_i32_890_r0 : BitVec 32 := 128#32
  let v1052_r0 : BitVec 32 := Scalar.muli v1051_r0 c128_i32_890_r0
  let v1053_r0 : BitVec 32 := v1052_r0
  ![v1055_r0.toNat, v1053_r0.toNat]
def k0_off256 (k0_t5 : Fin k0_t5_loop.trips) (c1_i32_718_r0 : BitVec 32) : Fin 3 → Nat :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let v856_r0 : BitVec 32 := Scalar.addi v855_r0 c1_i32_718_r0
  let c12_i32_872_r0 : BitVec 32 := 12#32
  let v1030_r0 : BitVec 32 := Scalar.muli v856_r0 c12_i32_872_r0
  let c11_i32_873_r0 : BitVec 32 := 11#32
  let v1031_r0 : BitVec 32 := Scalar.addi v1030_r0 c11_i32_873_r0
  let c2_i32_874_r0 : BitVec 32 := 2#32
  let v1032_r0 : BitVec 32 := Scalar.remsi v1031_r0 c2_i32_874_r0
  let c0_i32_893_r0 : BitVec 32 := 0#32
  let c0_i32_894_r0 : BitVec 32 := 0#32
  ![v1032_r0.toNat, 0, 0]
def k0_mult263 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c4_i32_895_r0 : BitVec 32 := 4#32
  let v1061_r0 : BitVec 32 := Scalar.muli v856_r0 c4_i32_895_r0
  let c63_i32_896_r0 : BitVec 32 := 63#32
  let v1062_r0 : BitVec 32 := Scalar.minsi v1061_r0 c63_i32_896_r0
  let c128_i32_897_r0 : BitVec 32 := 128#32
  let v1063_r0 : BitVec 32 := Scalar.muli v1062_r0 c128_i32_897_r0
  v1063_r0
def k0_mult264 : BitVec 32 :=
  let c11_i32_898_r0 : BitVec 32 := 11#32
  let c512_i32_899_r0 : BitVec 32 := 512#32
  let v1065_r0 : BitVec 32 := Scalar.muli c11_i32_898_r0 c512_i32_899_r0
  let c0_i32_900_r0 : BitVec 32 := 0#32
  let v1066_r0 : BitVec 32 := Scalar.addi v1065_r0 c0_i32_900_r0
  v1066_r0
def k0_off257 (c0_i32_900_r0 : BitVec 32) : Fin 2 → Nat :=
  let c11_i32_898_r0 : BitVec 32 := 11#32
  let c512_i32_899_r0 : BitVec 32 := 512#32
  let v1065_r0 : BitVec 32 := Scalar.muli c11_i32_898_r0 c512_i32_899_r0
  let v1066_r0 : BitVec 32 := Scalar.addi v1065_r0 c0_i32_900_r0
  let v1067_r0 : BitVec 32 := v1066_r0
  let v1068_r0 : Index := Scalar.indexCast v1067_r0
  let c512_901_r0 : Index := 512#32
  ![v1068_r0.toNat, 512]
def k0_mult265 : BitVec 32 :=
  let c11_i32_898_r0 : BitVec 32 := 11#32
  let c512_i32_899_r0 : BitVec 32 := 512#32
  let v1065_r0 : BitVec 32 := Scalar.muli c11_i32_898_r0 c512_i32_899_r0
  let c0_i32_906_r0 : BitVec 32 := 0#32
  let v1072_r0 : BitVec 32 := Scalar.addi v1065_r0 c0_i32_906_r0
  v1072_r0
def k0_off258 (c0_i32_906_r0 : BitVec 32) : Fin 2 → Nat :=
  let c11_i32_898_r0 : BitVec 32 := 11#32
  let c512_i32_899_r0 : BitVec 32 := 512#32
  let v1065_r0 : BitVec 32 := Scalar.muli c11_i32_898_r0 c512_i32_899_r0
  let v1072_r0 : BitVec 32 := Scalar.addi v1065_r0 c0_i32_906_r0
  let v1073_r0 : BitVec 32 := v1072_r0
  let v1074_r0 : Index := Scalar.indexCast v1073_r0
  let c768_907_r0 : Index := 768#32
  ![v1074_r0.toNat, 768]
def k0_mult266 : BitVec 32 :=
  let c11_i32_898_r0 : BitVec 32 := 11#32
  let c512_i32_899_r0 : BitVec 32 := 512#32
  let v1065_r0 : BitVec 32 := Scalar.muli c11_i32_898_r0 c512_i32_899_r0
  let c0_i32_912_r0 : BitVec 32 := 0#32
  let v1078_r0 : BitVec 32 := Scalar.addi v1065_r0 c0_i32_912_r0
  v1078_r0
def k0_off259 (c0_i32_912_r0 : BitVec 32) : Fin 2 → Nat :=
  let c11_i32_898_r0 : BitVec 32 := 11#32
  let c512_i32_899_r0 : BitVec 32 := 512#32
  let v1065_r0 : BitVec 32 := Scalar.muli c11_i32_898_r0 c512_i32_899_r0
  let v1078_r0 : BitVec 32 := Scalar.addi v1065_r0 c0_i32_912_r0
  let v1079_r0 : BitVec 32 := v1078_r0
  let v1080_r0 : Index := Scalar.indexCast v1079_r0
  let c1024_913_r0 : Index := 1024#32
  ![v1080_r0.toNat, 1024]
def k0_mult267 : BitVec 32 :=
  let c11_i32_898_r0 : BitVec 32 := 11#32
  let c512_i32_899_r0 : BitVec 32 := 512#32
  let v1065_r0 : BitVec 32 := Scalar.muli c11_i32_898_r0 c512_i32_899_r0
  let c0_i32_918_r0 : BitVec 32 := 0#32
  let v1084_r0 : BitVec 32 := Scalar.addi v1065_r0 c0_i32_918_r0
  v1084_r0
def k0_off260 (c0_i32_918_r0 : BitVec 32) : Fin 2 → Nat :=
  let c11_i32_898_r0 : BitVec 32 := 11#32
  let c512_i32_899_r0 : BitVec 32 := 512#32
  let v1065_r0 : BitVec 32 := Scalar.muli c11_i32_898_r0 c512_i32_899_r0
  let v1084_r0 : BitVec 32 := Scalar.addi v1065_r0 c0_i32_918_r0
  let v1085_r0 : BitVec 32 := v1084_r0
  let v1086_r0 : Index := Scalar.indexCast v1085_r0
  let c1280_919_r0 : Index := 1280#32
  ![v1086_r0.toNat, 1280]
def k0_mult268 : BitVec 32 :=
  let c11_i32_898_r0 : BitVec 32 := 11#32
  let c512_i32_899_r0 : BitVec 32 := 512#32
  let v1065_r0 : BitVec 32 := Scalar.muli c11_i32_898_r0 c512_i32_899_r0
  let c0_i32_924_r0 : BitVec 32 := 0#32
  let v1090_r0 : BitVec 32 := Scalar.addi v1065_r0 c0_i32_924_r0
  v1090_r0
def k0_off261 (c0_i32_924_r0 : BitVec 32) : Fin 2 → Nat :=
  let c11_i32_898_r0 : BitVec 32 := 11#32
  let c512_i32_899_r0 : BitVec 32 := 512#32
  let v1065_r0 : BitVec 32 := Scalar.muli c11_i32_898_r0 c512_i32_899_r0
  let v1090_r0 : BitVec 32 := Scalar.addi v1065_r0 c0_i32_924_r0
  let v1091_r0 : BitVec 32 := v1090_r0
  let v1092_r0 : Index := Scalar.indexCast v1091_r0
  let c1536_925_r0 : Index := 1536#32
  ![v1092_r0.toNat, 1536]
def k0_mult269 : BitVec 32 :=
  let c11_i32_898_r0 : BitVec 32 := 11#32
  let c512_i32_899_r0 : BitVec 32 := 512#32
  let v1065_r0 : BitVec 32 := Scalar.muli c11_i32_898_r0 c512_i32_899_r0
  let c0_i32_930_r0 : BitVec 32 := 0#32
  let v1096_r0 : BitVec 32 := Scalar.addi v1065_r0 c0_i32_930_r0
  v1096_r0
def k0_off262 (c0_i32_930_r0 : BitVec 32) : Fin 2 → Nat :=
  let c11_i32_898_r0 : BitVec 32 := 11#32
  let c512_i32_899_r0 : BitVec 32 := 512#32
  let v1065_r0 : BitVec 32 := Scalar.muli c11_i32_898_r0 c512_i32_899_r0
  let v1096_r0 : BitVec 32 := Scalar.addi v1065_r0 c0_i32_930_r0
  let v1097_r0 : BitVec 32 := v1096_r0
  let v1098_r0 : Index := Scalar.indexCast v1097_r0
  let c1792_931_r0 : Index := 1792#32
  ![v1098_r0.toNat, 1792]
def k0_mult270 : BitVec 32 :=
  let c11_i32_898_r0 : BitVec 32 := 11#32
  let c512_i32_899_r0 : BitVec 32 := 512#32
  let v1065_r0 : BitVec 32 := Scalar.muli c11_i32_898_r0 c512_i32_899_r0
  let c0_i32_936_r0 : BitVec 32 := 0#32
  let v1102_r0 : BitVec 32 := Scalar.addi v1065_r0 c0_i32_936_r0
  v1102_r0
def k0_off263 (c0_i32_936_r0 : BitVec 32) : Fin 2 → Nat :=
  let c11_i32_898_r0 : BitVec 32 := 11#32
  let c512_i32_899_r0 : BitVec 32 := 512#32
  let v1065_r0 : BitVec 32 := Scalar.muli c11_i32_898_r0 c512_i32_899_r0
  let v1102_r0 : BitVec 32 := Scalar.addi v1065_r0 c0_i32_936_r0
  let v1103_r0 : BitVec 32 := v1102_r0
  let v1104_r0 : Index := Scalar.indexCast v1103_r0
  let c2048_937_r0 : Index := 2048#32
  ![v1104_r0.toNat, 2048]
def k0_mult271 : BitVec 32 :=
  let c11_i32_898_r0 : BitVec 32 := 11#32
  let c512_i32_899_r0 : BitVec 32 := 512#32
  let v1065_r0 : BitVec 32 := Scalar.muli c11_i32_898_r0 c512_i32_899_r0
  let c0_i32_942_r0 : BitVec 32 := 0#32
  let v1108_r0 : BitVec 32 := Scalar.addi v1065_r0 c0_i32_942_r0
  v1108_r0
def k0_off264 (c0_i32_942_r0 : BitVec 32) : Fin 2 → Nat :=
  let c11_i32_898_r0 : BitVec 32 := 11#32
  let c512_i32_899_r0 : BitVec 32 := 512#32
  let v1065_r0 : BitVec 32 := Scalar.muli c11_i32_898_r0 c512_i32_899_r0
  let v1108_r0 : BitVec 32 := Scalar.addi v1065_r0 c0_i32_942_r0
  let v1109_r0 : BitVec 32 := v1108_r0
  let v1110_r0 : Index := Scalar.indexCast v1109_r0
  let c2304_943_r0 : Index := 2304#32
  ![v1110_r0.toNat, 2304]
def k0_mult272 : BitVec 32 :=
  let c11_i32_898_r0 : BitVec 32 := 11#32
  let c512_i32_899_r0 : BitVec 32 := 512#32
  let v1065_r0 : BitVec 32 := Scalar.muli c11_i32_898_r0 c512_i32_899_r0
  let c0_i32_948_r0 : BitVec 32 := 0#32
  let v1114_r0 : BitVec 32 := Scalar.addi v1065_r0 c0_i32_948_r0
  v1114_r0
def k0_off265 (c0_i32_948_r0 : BitVec 32) : Fin 2 → Nat :=
  let c11_i32_898_r0 : BitVec 32 := 11#32
  let c512_i32_899_r0 : BitVec 32 := 512#32
  let v1065_r0 : BitVec 32 := Scalar.muli c11_i32_898_r0 c512_i32_899_r0
  let v1114_r0 : BitVec 32 := Scalar.addi v1065_r0 c0_i32_948_r0
  let v1115_r0 : BitVec 32 := v1114_r0
  let v1116_r0 : Index := Scalar.indexCast v1115_r0
  let c2560_949_r0 : Index := 2560#32
  ![v1116_r0.toNat, 2560]
def k0_mult273 : BitVec 32 :=
  let c11_i32_898_r0 : BitVec 32 := 11#32
  let c512_i32_899_r0 : BitVec 32 := 512#32
  let v1065_r0 : BitVec 32 := Scalar.muli c11_i32_898_r0 c512_i32_899_r0
  let c0_i32_954_r0 : BitVec 32 := 0#32
  let v1120_r0 : BitVec 32 := Scalar.addi v1065_r0 c0_i32_954_r0
  v1120_r0
def k0_off266 (c0_i32_954_r0 : BitVec 32) : Fin 2 → Nat :=
  let c11_i32_898_r0 : BitVec 32 := 11#32
  let c512_i32_899_r0 : BitVec 32 := 512#32
  let v1065_r0 : BitVec 32 := Scalar.muli c11_i32_898_r0 c512_i32_899_r0
  let v1120_r0 : BitVec 32 := Scalar.addi v1065_r0 c0_i32_954_r0
  let v1121_r0 : BitVec 32 := v1120_r0
  let v1122_r0 : Index := Scalar.indexCast v1121_r0
  let c2816_955_r0 : Index := 2816#32
  ![v1122_r0.toNat, 2816]
def k0_mult274 : BitVec 32 :=
  let c11_i32_898_r0 : BitVec 32 := 11#32
  let c512_i32_899_r0 : BitVec 32 := 512#32
  let v1065_r0 : BitVec 32 := Scalar.muli c11_i32_898_r0 c512_i32_899_r0
  let c0_i32_960_r0 : BitVec 32 := 0#32
  let v1126_r0 : BitVec 32 := Scalar.addi v1065_r0 c0_i32_960_r0
  v1126_r0
def k0_off267 (c0_i32_960_r0 : BitVec 32) : Fin 2 → Nat :=
  let c11_i32_898_r0 : BitVec 32 := 11#32
  let c512_i32_899_r0 : BitVec 32 := 512#32
  let v1065_r0 : BitVec 32 := Scalar.muli c11_i32_898_r0 c512_i32_899_r0
  let v1126_r0 : BitVec 32 := Scalar.addi v1065_r0 c0_i32_960_r0
  let v1127_r0 : BitVec 32 := v1126_r0
  let v1128_r0 : Index := Scalar.indexCast v1127_r0
  let c3072_961_r0 : Index := 3072#32
  ![v1128_r0.toNat, 3072]
def k0_mult275 : BitVec 32 :=
  let c11_i32_898_r0 : BitVec 32 := 11#32
  let c512_i32_899_r0 : BitVec 32 := 512#32
  let v1065_r0 : BitVec 32 := Scalar.muli c11_i32_898_r0 c512_i32_899_r0
  let c0_i32_966_r0 : BitVec 32 := 0#32
  let v1132_r0 : BitVec 32 := Scalar.addi v1065_r0 c0_i32_966_r0
  v1132_r0
def k0_off268 (c0_i32_966_r0 : BitVec 32) : Fin 2 → Nat :=
  let c11_i32_898_r0 : BitVec 32 := 11#32
  let c512_i32_899_r0 : BitVec 32 := 512#32
  let v1065_r0 : BitVec 32 := Scalar.muli c11_i32_898_r0 c512_i32_899_r0
  let v1132_r0 : BitVec 32 := Scalar.addi v1065_r0 c0_i32_966_r0
  let v1133_r0 : BitVec 32 := v1132_r0
  let v1134_r0 : Index := Scalar.indexCast v1133_r0
  let c3328_967_r0 : Index := 3328#32
  ![v1134_r0.toNat, 3328]
def k0_mult276 : BitVec 32 :=
  let c11_i32_898_r0 : BitVec 32 := 11#32
  let c512_i32_899_r0 : BitVec 32 := 512#32
  let v1065_r0 : BitVec 32 := Scalar.muli c11_i32_898_r0 c512_i32_899_r0
  let c256_i32_972_r0 : BitVec 32 := 256#32
  let v1139_r0 : BitVec 32 := Scalar.addi v1065_r0 c256_i32_972_r0
  v1139_r0
def k0_off269 : Fin 2 → Nat :=
  let c11_i32_898_r0 : BitVec 32 := 11#32
  let c512_i32_899_r0 : BitVec 32 := 512#32
  let v1065_r0 : BitVec 32 := Scalar.muli c11_i32_898_r0 c512_i32_899_r0
  let c256_i32_972_r0 : BitVec 32 := 256#32
  let v1139_r0 : BitVec 32 := Scalar.addi v1065_r0 c256_i32_972_r0
  let v1140_r0 : BitVec 32 := v1139_r0
  let v1141_r0 : Index := Scalar.indexCast v1140_r0
  let c0_973_r0 : Index := 0#32
  ![v1141_r0.toNat, 0]
def k0_mult277 : BitVec 32 :=
  let c11_i32_898_r0 : BitVec 32 := 11#32
  let c512_i32_899_r0 : BitVec 32 := 512#32
  let v1065_r0 : BitVec 32 := Scalar.muli c11_i32_898_r0 c512_i32_899_r0
  let c256_i32_972_r0 : BitVec 32 := 256#32
  let v1139_r0 : BitVec 32 := Scalar.addi v1065_r0 c256_i32_972_r0
  v1139_r0
def k0_off270 : Fin 2 → Nat :=
  let c11_i32_898_r0 : BitVec 32 := 11#32
  let c512_i32_899_r0 : BitVec 32 := 512#32
  let v1065_r0 : BitVec 32 := Scalar.muli c11_i32_898_r0 c512_i32_899_r0
  let c256_i32_972_r0 : BitVec 32 := 256#32
  let v1139_r0 : BitVec 32 := Scalar.addi v1065_r0 c256_i32_972_r0
  let v1145_r0 : BitVec 32 := v1139_r0
  let v1146_r0 : Index := Scalar.indexCast v1145_r0
  let c256_978_r0 : Index := 256#32
  ![v1146_r0.toNat, 256]
def k0_mult278 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c4_i32_895_r0 : BitVec 32 := 4#32
  let v1061_r0 : BitVec 32 := Scalar.muli v856_r0 c4_i32_895_r0
  let c63_i32_896_r0 : BitVec 32 := 63#32
  let v1062_r0 : BitVec 32 := Scalar.minsi v1061_r0 c63_i32_896_r0
  let c128_i32_897_r0 : BitVec 32 := 128#32
  let v1063_r0 : BitVec 32 := Scalar.muli v1062_r0 c128_i32_897_r0
  let v1064_r0 : BitVec 32 := v1063_r0
  let c0_i32_983_r0 : BitVec 32 := 0#32
  let v1150_r0 : BitVec 32 := Scalar.addi v1064_r0 c0_i32_983_r0
  v1150_r0
def k0_off271 (k0_t5 : Fin k0_t5_loop.trips) (c1_i32_718_r0 : BitVec 32) (c0_i32_983_r0 : BitVec 32) : Fin 2 → Nat :=
  let c0_984_r0 : Index := 0#32
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let v856_r0 : BitVec 32 := Scalar.addi v855_r0 c1_i32_718_r0
  let c4_i32_895_r0 : BitVec 32 := 4#32
  let v1061_r0 : BitVec 32 := Scalar.muli v856_r0 c4_i32_895_r0
  let c63_i32_896_r0 : BitVec 32 := 63#32
  let v1062_r0 : BitVec 32 := Scalar.minsi v1061_r0 c63_i32_896_r0
  let c128_i32_897_r0 : BitVec 32 := 128#32
  let v1063_r0 : BitVec 32 := Scalar.muli v1062_r0 c128_i32_897_r0
  let v1064_r0 : BitVec 32 := v1063_r0
  let v1150_r0 : BitVec 32 := Scalar.addi v1064_r0 c0_i32_983_r0
  let v1151_r0 : BitVec 32 := v1150_r0
  let v1152_r0 : Index := Scalar.indexCast v1151_r0
  ![0, v1152_r0.toNat]
def k0_off272 (k0_t5 : Fin k0_t5_loop.trips) (c1_i32_718_r0 : BitVec 32) : Fin 3 → Nat :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let v856_r0 : BitVec 32 := Scalar.addi v855_r0 c1_i32_718_r0
  let c12_i32_872_r0 : BitVec 32 := 12#32
  let v1030_r0 : BitVec 32 := Scalar.muli v856_r0 c12_i32_872_r0
  let c11_i32_873_r0 : BitVec 32 := 11#32
  let v1031_r0 : BitVec 32 := Scalar.addi v1030_r0 c11_i32_873_r0
  let c2_i32_874_r0 : BitVec 32 := 2#32
  let v1032_r0 : BitVec 32 := Scalar.remsi v1031_r0 c2_i32_874_r0
  let v1159_r0 : Index := Scalar.indexCast v1032_r0
  let c0_985_r0 : Index := 0#32
  let c0_986_r0 : Index := 0#32
  ![v1159_r0.toNat, 0, 0]
def k0_mult279 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c4_i32_895_r0 : BitVec 32 := 4#32
  let v1061_r0 : BitVec 32 := Scalar.muli v856_r0 c4_i32_895_r0
  let c63_i32_896_r0 : BitVec 32 := 63#32
  let v1062_r0 : BitVec 32 := Scalar.minsi v1061_r0 c63_i32_896_r0
  let c128_i32_897_r0 : BitVec 32 := 128#32
  let v1063_r0 : BitVec 32 := Scalar.muli v1062_r0 c128_i32_897_r0
  let v1064_r0 : BitVec 32 := v1063_r0
  let c256_i32_987_r0 : BitVec 32 := 256#32
  let v1163_r0 : BitVec 32 := Scalar.addi v1064_r0 c256_i32_987_r0
  v1163_r0
def k0_off273 (k0_t5 : Fin k0_t5_loop.trips) (c1_i32_718_r0 : BitVec 32) : Fin 3 → Nat :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let v856_r0 : BitVec 32 := Scalar.addi v855_r0 c1_i32_718_r0
  let c12_i32_872_r0 : BitVec 32 := 12#32
  let v1030_r0 : BitVec 32 := Scalar.muli v856_r0 c12_i32_872_r0
  let c11_i32_873_r0 : BitVec 32 := 11#32
  let v1031_r0 : BitVec 32 := Scalar.addi v1030_r0 c11_i32_873_r0
  let c2_i32_874_r0 : BitVec 32 := 2#32
  let v1032_r0 : BitVec 32 := Scalar.remsi v1031_r0 c2_i32_874_r0
  let v1172_r0 : Index := Scalar.indexCast v1032_r0
  let c0_989_r0 : Index := 0#32
  let c256_990_r0 : Index := 256#32
  ![v1172_r0.toNat, 0, 256]
def k0_mult280 : BitVec 32 :=
  let c11_i32_898_r0 : BitVec 32 := 11#32
  let c512_i32_899_r0 : BitVec 32 := 512#32
  let v1065_r0 : BitVec 32 := Scalar.muli c11_i32_898_r0 c512_i32_899_r0
  let c256_i32_991_r0 : BitVec 32 := 256#32
  let v1176_r0 : BitVec 32 := Scalar.addi v1065_r0 c256_i32_991_r0
  v1176_r0
def k0_mult281 : BitVec 32 :=
  let c11_i32_898_r0 : BitVec 32 := 11#32
  let c512_i32_899_r0 : BitVec 32 := 512#32
  let v1065_r0 : BitVec 32 := Scalar.muli c11_i32_898_r0 c512_i32_899_r0
  let c256_i32_997_r0 : BitVec 32 := 256#32
  let v1182_r0 : BitVec 32 := Scalar.addi v1065_r0 c256_i32_997_r0
  v1182_r0
def k0_mult282 : BitVec 32 :=
  let c11_i32_898_r0 : BitVec 32 := 11#32
  let c512_i32_899_r0 : BitVec 32 := 512#32
  let v1065_r0 : BitVec 32 := Scalar.muli c11_i32_898_r0 c512_i32_899_r0
  let c256_i32_1003_r0 : BitVec 32 := 256#32
  let v1188_r0 : BitVec 32 := Scalar.addi v1065_r0 c256_i32_1003_r0
  v1188_r0
def k0_mult283 : BitVec 32 :=
  let c11_i32_898_r0 : BitVec 32 := 11#32
  let c512_i32_899_r0 : BitVec 32 := 512#32
  let v1065_r0 : BitVec 32 := Scalar.muli c11_i32_898_r0 c512_i32_899_r0
  let c256_i32_1009_r0 : BitVec 32 := 256#32
  let v1194_r0 : BitVec 32 := Scalar.addi v1065_r0 c256_i32_1009_r0
  v1194_r0
def k0_mult284 : BitVec 32 :=
  let c11_i32_898_r0 : BitVec 32 := 11#32
  let c512_i32_899_r0 : BitVec 32 := 512#32
  let v1065_r0 : BitVec 32 := Scalar.muli c11_i32_898_r0 c512_i32_899_r0
  let c256_i32_1015_r0 : BitVec 32 := 256#32
  let v1200_r0 : BitVec 32 := Scalar.addi v1065_r0 c256_i32_1015_r0
  v1200_r0
def k0_mult285 : BitVec 32 :=
  let c11_i32_898_r0 : BitVec 32 := 11#32
  let c512_i32_899_r0 : BitVec 32 := 512#32
  let v1065_r0 : BitVec 32 := Scalar.muli c11_i32_898_r0 c512_i32_899_r0
  let c256_i32_1021_r0 : BitVec 32 := 256#32
  let v1206_r0 : BitVec 32 := Scalar.addi v1065_r0 c256_i32_1021_r0
  v1206_r0
def k0_mult286 : BitVec 32 :=
  let c11_i32_898_r0 : BitVec 32 := 11#32
  let c512_i32_899_r0 : BitVec 32 := 512#32
  let v1065_r0 : BitVec 32 := Scalar.muli c11_i32_898_r0 c512_i32_899_r0
  let c256_i32_1027_r0 : BitVec 32 := 256#32
  let v1212_r0 : BitVec 32 := Scalar.addi v1065_r0 c256_i32_1027_r0
  v1212_r0
def k0_mult287 : BitVec 32 :=
  let c11_i32_898_r0 : BitVec 32 := 11#32
  let c512_i32_899_r0 : BitVec 32 := 512#32
  let v1065_r0 : BitVec 32 := Scalar.muli c11_i32_898_r0 c512_i32_899_r0
  let c256_i32_1033_r0 : BitVec 32 := 256#32
  let v1218_r0 : BitVec 32 := Scalar.addi v1065_r0 c256_i32_1033_r0
  v1218_r0
def k0_mult288 : BitVec 32 :=
  let c11_i32_898_r0 : BitVec 32 := 11#32
  let c512_i32_899_r0 : BitVec 32 := 512#32
  let v1065_r0 : BitVec 32 := Scalar.muli c11_i32_898_r0 c512_i32_899_r0
  let c256_i32_1039_r0 : BitVec 32 := 256#32
  let v1224_r0 : BitVec 32 := Scalar.addi v1065_r0 c256_i32_1039_r0
  v1224_r0
def k0_mult289 : BitVec 32 :=
  let c11_i32_898_r0 : BitVec 32 := 11#32
  let c512_i32_899_r0 : BitVec 32 := 512#32
  let v1065_r0 : BitVec 32 := Scalar.muli c11_i32_898_r0 c512_i32_899_r0
  let c256_i32_1045_r0 : BitVec 32 := 256#32
  let v1230_r0 : BitVec 32 := Scalar.addi v1065_r0 c256_i32_1045_r0
  v1230_r0
def k0_mult290 : BitVec 32 :=
  let c11_i32_898_r0 : BitVec 32 := 11#32
  let c512_i32_899_r0 : BitVec 32 := 512#32
  let v1065_r0 : BitVec 32 := Scalar.muli c11_i32_898_r0 c512_i32_899_r0
  let c256_i32_1051_r0 : BitVec 32 := 256#32
  let v1236_r0 : BitVec 32 := Scalar.addi v1065_r0 c256_i32_1051_r0
  v1236_r0
def k0_mult291 : BitVec 32 :=
  let c11_i32_898_r0 : BitVec 32 := 11#32
  let c512_i32_899_r0 : BitVec 32 := 512#32
  let v1065_r0 : BitVec 32 := Scalar.muli c11_i32_898_r0 c512_i32_899_r0
  let c256_i32_1057_r0 : BitVec 32 := 256#32
  let v1242_r0 : BitVec 32 := Scalar.addi v1065_r0 c256_i32_1057_r0
  v1242_r0
def k0_mult292 : BitVec 32 :=
  let c0_i32_1063_r0 : BitVec 32 := 0#32
  c0_i32_1063_r0
def k0_mult293 : BitVec 32 :=
  let c0_i32_1069_r0 : BitVec 32 := 0#32
  c0_i32_1069_r0
def k0_mult294 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c4_i32_895_r0 : BitVec 32 := 4#32
  let v1061_r0 : BitVec 32 := Scalar.muli v856_r0 c4_i32_895_r0
  let c63_i32_896_r0 : BitVec 32 := 63#32
  let v1062_r0 : BitVec 32 := Scalar.minsi v1061_r0 c63_i32_896_r0
  let c128_i32_897_r0 : BitVec 32 := 128#32
  let v1063_r0 : BitVec 32 := Scalar.muli v1062_r0 c128_i32_897_r0
  let v1064_r0 : BitVec 32 := v1063_r0
  let c0_i32_1075_r0 : BitVec 32 := 0#32
  let v1259_r0 : BitVec 32 := Scalar.addi v1064_r0 c0_i32_1075_r0
  v1259_r0
def k0_off274 (k0_t5 : Fin k0_t5_loop.trips) (c1_i32_718_r0 : BitVec 32) : Fin 3 → Nat :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let v856_r0 : BitVec 32 := Scalar.addi v855_r0 c1_i32_718_r0
  let c12_i32_872_r0 : BitVec 32 := 12#32
  let v1030_r0 : BitVec 32 := Scalar.muli v856_r0 c12_i32_872_r0
  let c11_i32_873_r0 : BitVec 32 := 11#32
  let v1031_r0 : BitVec 32 := Scalar.addi v1030_r0 c11_i32_873_r0
  let c2_i32_874_r0 : BitVec 32 := 2#32
  let v1032_r0 : BitVec 32 := Scalar.remsi v1031_r0 c2_i32_874_r0
  let v1268_r0 : Index := Scalar.indexCast v1032_r0
  let c256_1077_r0 : Index := 256#32
  let c0_1078_r0 : Index := 0#32
  ![v1268_r0.toNat, 256, 0]
def k0_mult295 (k0_t5 : Fin k0_t5_loop.trips) : BitVec 32 :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let c1_i32_718_r0 : BitVec 32 := 1#32
  let v856_r0 : BitVec 32 := Scalar.addi v855_r0 c1_i32_718_r0
  let c4_i32_895_r0 : BitVec 32 := 4#32
  let v1061_r0 : BitVec 32 := Scalar.muli v856_r0 c4_i32_895_r0
  let c63_i32_896_r0 : BitVec 32 := 63#32
  let v1062_r0 : BitVec 32 := Scalar.minsi v1061_r0 c63_i32_896_r0
  let c128_i32_897_r0 : BitVec 32 := 128#32
  let v1063_r0 : BitVec 32 := Scalar.muli v1062_r0 c128_i32_897_r0
  let v1064_r0 : BitVec 32 := v1063_r0
  let c256_i32_1079_r0 : BitVec 32 := 256#32
  let v1272_r0 : BitVec 32 := Scalar.addi v1064_r0 c256_i32_1079_r0
  v1272_r0
def k0_off275 (k0_t5 : Fin k0_t5_loop.trips) (c1_i32_718_r0 : BitVec 32) : Fin 3 → Nat :=
  let c2_i32_717_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v855_r0 : BitVec 32 := Scalar.muli c2_i32_717_r0 arg21_r0
  let v856_r0 : BitVec 32 := Scalar.addi v855_r0 c1_i32_718_r0
  let c12_i32_872_r0 : BitVec 32 := 12#32
  let v1030_r0 : BitVec 32 := Scalar.muli v856_r0 c12_i32_872_r0
  let c11_i32_873_r0 : BitVec 32 := 11#32
  let v1031_r0 : BitVec 32 := Scalar.addi v1030_r0 c11_i32_873_r0
  let c2_i32_874_r0 : BitVec 32 := 2#32
  let v1032_r0 : BitVec 32 := Scalar.remsi v1031_r0 c2_i32_874_r0
  let v1281_r0 : Index := Scalar.indexCast v1032_r0
  let c256_1081_r0 : Index := 256#32
  let c256_1082_r0 : Index := 256#32
  ![v1281_r0.toNat, 256, 256]
def k0_mult296 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c1_i32_1085_r0 : BitVec 32 := 1#32
  let v1287_r0 : BitVec 32 := Scalar.addi v1286_r0 c1_i32_1085_r0
  let c4_i32_1086_r0 : BitVec 32 := 4#32
  let v1288_r0 : BitVec 32 := Scalar.muli v1287_r0 c4_i32_1086_r0
  let c63_i32_1087_r0 : BitVec 32 := 63#32
  let v1289_r0 : BitVec 32 := Scalar.minsi v1288_r0 c63_i32_1087_r0
  let c0_i32_1088_r0 : BitVec 32 := 0#32
  let v1290_r0 : BitVec 32 := Scalar.addi v1289_r0 c0_i32_1088_r0
  let c128_i32_1089_r0 : BitVec 32 := 128#32
  let v1291_r0 : BitVec 32 := Scalar.muli v1290_r0 c128_i32_1089_r0
  v1291_r0
def k0_mult297 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c1_i32_1085_r0 : BitVec 32 := 1#32
  let v1287_r0 : BitVec 32 := Scalar.addi v1286_r0 c1_i32_1085_r0
  let c4_i32_1086_r0 : BitVec 32 := 4#32
  let v1288_r0 : BitVec 32 := Scalar.muli v1287_r0 c4_i32_1086_r0
  let c63_i32_1087_r0 : BitVec 32 := 63#32
  let v1289_r0 : BitVec 32 := Scalar.minsi v1288_r0 c63_i32_1087_r0
  let c1_i32_1090_r0 : BitVec 32 := 1#32
  let v1293_r0 : BitVec 32 := Scalar.addi v1289_r0 c1_i32_1090_r0
  let c128_i32_1091_r0 : BitVec 32 := 128#32
  let v1294_r0 : BitVec 32 := Scalar.muli v1293_r0 c128_i32_1091_r0
  v1294_r0
def k0_mult298 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c1_i32_1085_r0 : BitVec 32 := 1#32
  let v1287_r0 : BitVec 32 := Scalar.addi v1286_r0 c1_i32_1085_r0
  let c4_i32_1086_r0 : BitVec 32 := 4#32
  let v1288_r0 : BitVec 32 := Scalar.muli v1287_r0 c4_i32_1086_r0
  let c63_i32_1087_r0 : BitVec 32 := 63#32
  let v1289_r0 : BitVec 32 := Scalar.minsi v1288_r0 c63_i32_1087_r0
  let c2_i32_1092_r0 : BitVec 32 := 2#32
  let v1296_r0 : BitVec 32 := Scalar.addi v1289_r0 c2_i32_1092_r0
  let c128_i32_1093_r0 : BitVec 32 := 128#32
  let v1297_r0 : BitVec 32 := Scalar.muli v1296_r0 c128_i32_1093_r0
  v1297_r0
def k0_mult299 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c1_i32_1085_r0 : BitVec 32 := 1#32
  let v1287_r0 : BitVec 32 := Scalar.addi v1286_r0 c1_i32_1085_r0
  let c4_i32_1086_r0 : BitVec 32 := 4#32
  let v1288_r0 : BitVec 32 := Scalar.muli v1287_r0 c4_i32_1086_r0
  let c63_i32_1087_r0 : BitVec 32 := 63#32
  let v1289_r0 : BitVec 32 := Scalar.minsi v1288_r0 c63_i32_1087_r0
  let c3_i32_1094_r0 : BitVec 32 := 3#32
  let v1299_r0 : BitVec 32 := Scalar.addi v1289_r0 c3_i32_1094_r0
  let c128_i32_1095_r0 : BitVec 32 := 128#32
  let v1300_r0 : BitVec 32 := Scalar.muli v1299_r0 c128_i32_1095_r0
  v1300_r0
def k0_mult300 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c1_i32_1085_r0 : BitVec 32 := 1#32
  let v1287_r0 : BitVec 32 := Scalar.addi v1286_r0 c1_i32_1085_r0
  let c4_i32_1086_r0 : BitVec 32 := 4#32
  let v1288_r0 : BitVec 32 := Scalar.muli v1287_r0 c4_i32_1086_r0
  let c63_i32_1087_r0 : BitVec 32 := 63#32
  let v1289_r0 : BitVec 32 := Scalar.minsi v1288_r0 c63_i32_1087_r0
  let c0_i32_1096_r0 : BitVec 32 := 0#32
  let v1302_r0 : BitVec 32 := Scalar.addi v1289_r0 c0_i32_1096_r0
  let c34_i32_1097_r0 : BitVec 32 := 34#32
  let v1303_r0 : BitVec 1 := Scalar.cmpi .slt v1302_r0 c34_i32_1097_r0
  let c34_i32_1098_r0 : BitVec 32 := 34#32
  let v1304_r0 : BitVec 32 := Scalar.subi v1302_r0 c34_i32_1098_r0
  let v1305_r0 : BitVec 32 := Scalar.select v1303_r0 v1302_r0 v1304_r0
  let c128_i32_1099_r0 : BitVec 32 := 128#32
  let v1306_r0 : BitVec 32 := Scalar.muli v1305_r0 c128_i32_1099_r0
  v1306_r0
def k0_mult301 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c1_i32_1085_r0 : BitVec 32 := 1#32
  let v1287_r0 : BitVec 32 := Scalar.addi v1286_r0 c1_i32_1085_r0
  let c4_i32_1086_r0 : BitVec 32 := 4#32
  let v1288_r0 : BitVec 32 := Scalar.muli v1287_r0 c4_i32_1086_r0
  let c63_i32_1087_r0 : BitVec 32 := 63#32
  let v1289_r0 : BitVec 32 := Scalar.minsi v1288_r0 c63_i32_1087_r0
  let c1_i32_1100_r0 : BitVec 32 := 1#32
  let v1308_r0 : BitVec 32 := Scalar.addi v1289_r0 c1_i32_1100_r0
  let c34_i32_1101_r0 : BitVec 32 := 34#32
  let v1309_r0 : BitVec 1 := Scalar.cmpi .slt v1308_r0 c34_i32_1101_r0
  let c34_i32_1102_r0 : BitVec 32 := 34#32
  let v1310_r0 : BitVec 32 := Scalar.subi v1308_r0 c34_i32_1102_r0
  let v1311_r0 : BitVec 32 := Scalar.select v1309_r0 v1308_r0 v1310_r0
  let c128_i32_1103_r0 : BitVec 32 := 128#32
  let v1312_r0 : BitVec 32 := Scalar.muli v1311_r0 c128_i32_1103_r0
  v1312_r0
def k0_mult302 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c1_i32_1085_r0 : BitVec 32 := 1#32
  let v1287_r0 : BitVec 32 := Scalar.addi v1286_r0 c1_i32_1085_r0
  let c4_i32_1086_r0 : BitVec 32 := 4#32
  let v1288_r0 : BitVec 32 := Scalar.muli v1287_r0 c4_i32_1086_r0
  let c63_i32_1087_r0 : BitVec 32 := 63#32
  let v1289_r0 : BitVec 32 := Scalar.minsi v1288_r0 c63_i32_1087_r0
  let c2_i32_1104_r0 : BitVec 32 := 2#32
  let v1314_r0 : BitVec 32 := Scalar.addi v1289_r0 c2_i32_1104_r0
  let c34_i32_1105_r0 : BitVec 32 := 34#32
  let v1315_r0 : BitVec 1 := Scalar.cmpi .slt v1314_r0 c34_i32_1105_r0
  let c34_i32_1106_r0 : BitVec 32 := 34#32
  let v1316_r0 : BitVec 32 := Scalar.subi v1314_r0 c34_i32_1106_r0
  let v1317_r0 : BitVec 32 := Scalar.select v1315_r0 v1314_r0 v1316_r0
  let c128_i32_1107_r0 : BitVec 32 := 128#32
  let v1318_r0 : BitVec 32 := Scalar.muli v1317_r0 c128_i32_1107_r0
  v1318_r0
def k0_mult303 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c1_i32_1085_r0 : BitVec 32 := 1#32
  let v1287_r0 : BitVec 32 := Scalar.addi v1286_r0 c1_i32_1085_r0
  let c4_i32_1086_r0 : BitVec 32 := 4#32
  let v1288_r0 : BitVec 32 := Scalar.muli v1287_r0 c4_i32_1086_r0
  let c63_i32_1087_r0 : BitVec 32 := 63#32
  let v1289_r0 : BitVec 32 := Scalar.minsi v1288_r0 c63_i32_1087_r0
  let c3_i32_1108_r0 : BitVec 32 := 3#32
  let v1320_r0 : BitVec 32 := Scalar.addi v1289_r0 c3_i32_1108_r0
  let c34_i32_1109_r0 : BitVec 32 := 34#32
  let v1321_r0 : BitVec 1 := Scalar.cmpi .slt v1320_r0 c34_i32_1109_r0
  let c34_i32_1110_r0 : BitVec 32 := 34#32
  let v1322_r0 : BitVec 32 := Scalar.subi v1320_r0 c34_i32_1110_r0
  let v1323_r0 : BitVec 32 := Scalar.select v1321_r0 v1320_r0 v1322_r0
  let c128_i32_1111_r0 : BitVec 32 := 128#32
  let v1324_r0 : BitVec 32 := Scalar.muli v1323_r0 c128_i32_1111_r0
  v1324_r0
def k0_mult304 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c1_i32_1085_r0 : BitVec 32 := 1#32
  let v1287_r0 : BitVec 32 := Scalar.addi v1286_r0 c1_i32_1085_r0
  let c4_i32_1086_r0 : BitVec 32 := 4#32
  let v1288_r0 : BitVec 32 := Scalar.muli v1287_r0 c4_i32_1086_r0
  let c63_i32_1087_r0 : BitVec 32 := 63#32
  let v1289_r0 : BitVec 32 := Scalar.minsi v1288_r0 c63_i32_1087_r0
  let c4_i32_1112_r0 : BitVec 32 := 4#32
  let v1326_r0 : BitVec 32 := Scalar.addi v1289_r0 c4_i32_1112_r0
  let c34_i32_1113_r0 : BitVec 32 := 34#32
  let v1327_r0 : BitVec 1 := Scalar.cmpi .slt v1326_r0 c34_i32_1113_r0
  let c34_i32_1114_r0 : BitVec 32 := 34#32
  let v1328_r0 : BitVec 32 := Scalar.subi v1326_r0 c34_i32_1114_r0
  let v1329_r0 : BitVec 32 := Scalar.select v1327_r0 v1326_r0 v1328_r0
  let c128_i32_1115_r0 : BitVec 32 := 128#32
  let v1330_r0 : BitVec 32 := Scalar.muli v1329_r0 c128_i32_1115_r0
  v1330_r0
@[reducible] def k0_t8_loop : Scf.Loop 32 :=
  let c0_i32_1157_r0 : BitVec 32 := 0#32
  let c9_i32_1158_r0 : BitVec 32 := 9#32
  let v1372_r0 : BitVec 32 := Scalar.addi c0_i32_1157_r0 c9_i32_1158_r0
  let c1_i32_1159_r0 : BitVec 32 := 1#32
  ⟨c0_i32_1157_r0, v1372_r0, c1_i32_1159_r0⟩
def k0_mult305 (k0_t5 : Fin k0_t5_loop.trips) (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c0_i32_1453_r0 : BitVec 32 := 0#32
  let v1720_r0 : BitVec 1 := Scalar.cmpi .eq arg22_r0 c0_i32_1453_r0
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c1_i32_1454_r0 : BitVec 32 := 1#32
  let v1721_r0 : BitVec 32 := Scalar.subi v1286_r0 c1_i32_1454_r0
  let v1722_r0 : BitVec 32 := Scalar.select v1720_r0 v1721_r0 v1286_r0
  let c4_i32_1458_r0 : BitVec 32 := 4#32
  let v1726_r0 : BitVec 32 := Scalar.muli v1722_r0 c4_i32_1458_r0
  let c63_i32_1459_r0 : BitVec 32 := 63#32
  let v1727_r0 : BitVec 32 := Scalar.minsi v1726_r0 c63_i32_1459_r0
  let c128_i32_1460_r0 : BitVec 32 := 128#32
  let v1728_r0 : BitVec 32 := Scalar.muli v1727_r0 c128_i32_1460_r0
  v1728_r0
def k0_mult306 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c0_i32_1453_r0 : BitVec 32 := 0#32
  let v1720_r0 : BitVec 1 := Scalar.cmpi .eq arg22_r0 c0_i32_1453_r0
  let c11_i32_1456_r0 : BitVec 32 := 11#32
  let c1_i32_1455_r0 : BitVec 32 := 1#32
  let v1723_r0 : BitVec 32 := Scalar.subi arg22_r0 c1_i32_1455_r0
  let v1724_r0 : BitVec 32 := Scalar.select v1720_r0 c11_i32_1456_r0 v1723_r0
  let c512_i32_1461_r0 : BitVec 32 := 512#32
  let v1730_r0 : BitVec 32 := Scalar.muli v1724_r0 c512_i32_1461_r0
  v1730_r0
def k0_off276 (k0_t5 : Fin k0_t5_loop.trips) (k0_t8 : Fin k0_t8_loop.trips) : Fin 1 → Nat :=
  let c1_i32_1457_r0 : BitVec 32 := 1#32
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c12_i32_1451_r0 : BitVec 32 := 12#32
  let v1717_r0 : BitVec 32 := Scalar.muli v1286_r0 c12_i32_1451_r0
  let c0_i32_1157_r0 : BitVec 32 := 0#32
  let c1_i32_1159_r0 : BitVec 32 := 1#32
  let arg22_r0 : BitVec 32 := Scf.iv c0_i32_1157_r0 c1_i32_1159_r0 k0_t8
  let v1718_r0 : BitVec 32 := Scalar.addi v1717_r0 arg22_r0
  let c2_i32_1452_r0 : BitVec 32 := 2#32
  let v1719_r0 : BitVec 32 := Scalar.remsi v1718_r0 c2_i32_1452_r0
  let v1725_r0 : BitVec 32 := Scalar.subi c1_i32_1457_r0 v1719_r0
  ![v1725_r0.toNat]
def k0_off277 (k0_t5 : Fin k0_t5_loop.trips) (k0_t8 : Fin k0_t8_loop.trips) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c0_i32_1453_r0 : BitVec 32 := 0#32
  let v1720_r0 : BitVec 1 := Scalar.cmpi .eq arg22_r0 c0_i32_1453_r0
  let c11_i32_1456_r0 : BitVec 32 := 11#32
  let c1_i32_1455_r0 : BitVec 32 := 1#32
  let v1723_r0 : BitVec 32 := Scalar.subi arg22_r0 c1_i32_1455_r0
  let v1724_r0 : BitVec 32 := Scalar.select v1720_r0 c11_i32_1456_r0 v1723_r0
  let c512_i32_1461_r0 : BitVec 32 := 512#32
  let v1730_r0 : BitVec 32 := Scalar.muli v1724_r0 c512_i32_1461_r0
  let v1731_r0 : BitVec 32 := v1730_r0
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c1_i32_1454_r0 : BitVec 32 := 1#32
  let v1721_r0 : BitVec 32 := Scalar.subi v1286_r0 c1_i32_1454_r0
  let v1722_r0 : BitVec 32 := Scalar.select v1720_r0 v1721_r0 v1286_r0
  let c4_i32_1458_r0 : BitVec 32 := 4#32
  let v1726_r0 : BitVec 32 := Scalar.muli v1722_r0 c4_i32_1458_r0
  let c63_i32_1459_r0 : BitVec 32 := 63#32
  let v1727_r0 : BitVec 32 := Scalar.minsi v1726_r0 c63_i32_1459_r0
  let c128_i32_1460_r0 : BitVec 32 := 128#32
  let v1728_r0 : BitVec 32 := Scalar.muli v1727_r0 c128_i32_1460_r0
  let v1729_r0 : BitVec 32 := v1728_r0
  ![v1731_r0.toNat, v1729_r0.toNat]
def k0_off278 (k0_t5 : Fin k0_t5_loop.trips) (k0_t8 : Fin k0_t8_loop.trips) : Fin 3 → Nat :=
  let c1_i32_1457_r0 : BitVec 32 := 1#32
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c12_i32_1451_r0 : BitVec 32 := 12#32
  let v1717_r0 : BitVec 32 := Scalar.muli v1286_r0 c12_i32_1451_r0
  let c0_i32_1157_r0 : BitVec 32 := 0#32
  let c1_i32_1159_r0 : BitVec 32 := 1#32
  let arg22_r0 : BitVec 32 := Scf.iv c0_i32_1157_r0 c1_i32_1159_r0 k0_t8
  let v1718_r0 : BitVec 32 := Scalar.addi v1717_r0 arg22_r0
  let c2_i32_1452_r0 : BitVec 32 := 2#32
  let v1719_r0 : BitVec 32 := Scalar.remsi v1718_r0 c2_i32_1452_r0
  let v1725_r0 : BitVec 32 := Scalar.subi c1_i32_1457_r0 v1719_r0
  let c0_i32_1462_r0 : BitVec 32 := 0#32
  let c0_i32_1463_r0 : BitVec 32 := 0#32
  ![v1725_r0.toNat, 0, 0]
def k0_mult307 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c4_i32_1464_r0 : BitVec 32 := 4#32
  let v1737_r0 : BitVec 32 := Scalar.muli v1286_r0 c4_i32_1464_r0
  let c63_i32_1465_r0 : BitVec 32 := 63#32
  let v1738_r0 : BitVec 32 := Scalar.minsi v1737_r0 c63_i32_1465_r0
  let c128_i32_1466_r0 : BitVec 32 := 128#32
  let v1739_r0 : BitVec 32 := Scalar.muli v1738_r0 c128_i32_1466_r0
  v1739_r0
def k0_mult308 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1467_r0 : BitVec 32 := 512#32
  let v1741_r0 : BitVec 32 := Scalar.muli arg22_r0 c512_i32_1467_r0
  v1741_r0
def k0_off279 (k0_t5 : Fin k0_t5_loop.trips) (k0_t8 : Fin k0_t8_loop.trips) : Fin 1 → Nat :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c12_i32_1451_r0 : BitVec 32 := 12#32
  let v1717_r0 : BitVec 32 := Scalar.muli v1286_r0 c12_i32_1451_r0
  let c0_i32_1157_r0 : BitVec 32 := 0#32
  let c1_i32_1159_r0 : BitVec 32 := 1#32
  let arg22_r0 : BitVec 32 := Scf.iv c0_i32_1157_r0 c1_i32_1159_r0 k0_t8
  let v1718_r0 : BitVec 32 := Scalar.addi v1717_r0 arg22_r0
  let c2_i32_1452_r0 : BitVec 32 := 2#32
  let v1719_r0 : BitVec 32 := Scalar.remsi v1718_r0 c2_i32_1452_r0
  ![v1719_r0.toNat]
def k0_off280 (k0_t5 : Fin k0_t5_loop.trips) (k0_t8 : Fin k0_t8_loop.trips) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c512_i32_1467_r0 : BitVec 32 := 512#32
  let v1741_r0 : BitVec 32 := Scalar.muli arg22_r0 c512_i32_1467_r0
  let v1742_r0 : BitVec 32 := v1741_r0
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c4_i32_1464_r0 : BitVec 32 := 4#32
  let v1737_r0 : BitVec 32 := Scalar.muli v1286_r0 c4_i32_1464_r0
  let c63_i32_1465_r0 : BitVec 32 := 63#32
  let v1738_r0 : BitVec 32 := Scalar.minsi v1737_r0 c63_i32_1465_r0
  let c128_i32_1466_r0 : BitVec 32 := 128#32
  let v1739_r0 : BitVec 32 := Scalar.muli v1738_r0 c128_i32_1466_r0
  let v1740_r0 : BitVec 32 := v1739_r0
  ![v1742_r0.toNat, v1740_r0.toNat]
def k0_off281 (k0_t5 : Fin k0_t5_loop.trips) (k0_t8 : Fin k0_t8_loop.trips) : Fin 3 → Nat :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c12_i32_1451_r0 : BitVec 32 := 12#32
  let v1717_r0 : BitVec 32 := Scalar.muli v1286_r0 c12_i32_1451_r0
  let c0_i32_1157_r0 : BitVec 32 := 0#32
  let c1_i32_1159_r0 : BitVec 32 := 1#32
  let arg22_r0 : BitVec 32 := Scf.iv c0_i32_1157_r0 c1_i32_1159_r0 k0_t8
  let v1718_r0 : BitVec 32 := Scalar.addi v1717_r0 arg22_r0
  let c2_i32_1452_r0 : BitVec 32 := 2#32
  let v1719_r0 : BitVec 32 := Scalar.remsi v1718_r0 c2_i32_1452_r0
  let c0_i32_1468_r0 : BitVec 32 := 0#32
  let c0_i32_1469_r0 : BitVec 32 := 0#32
  ![v1719_r0.toNat, 0, 0]
def k0_mult309 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c3_i32_1470_r0 : BitVec 32 := 3#32
  let v1748_r0 : BitVec 32 := Scalar.muli arg22_r0 c3_i32_1470_r0
  let c0_i32_1471_r0 : BitVec 32 := 0#32
  let v1749_r0 : BitVec 32 := Scalar.addi v1748_r0 c0_i32_1471_r0
  let c128_i32_1473_r0 : BitVec 32 := 128#32
  let v1751_r0 : BitVec 32 := Scalar.muli v1749_r0 c128_i32_1473_r0
  v1751_r0
def k0_off282 (k0_t8 : Fin k0_t8_loop.trips) (c0_i32_1471_r0 : BitVec 32) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c3_i32_1470_r0 : BitVec 32 := 3#32
  let v1748_r0 : BitVec 32 := Scalar.muli arg22_r0 c3_i32_1470_r0
  let v1749_r0 : BitVec 32 := Scalar.addi v1748_r0 c0_i32_1471_r0
  let c128_i32_1473_r0 : BitVec 32 := 128#32
  let v1751_r0 : BitVec 32 := Scalar.muli v1749_r0 c128_i32_1473_r0
  let v1752_r0 : BitVec 32 := v1751_r0
  let v1757_r0 : Index := Scalar.indexCast v1752_r0
  let c0_1477_r0 : Index := 0#32
  ![v1757_r0.toNat, 0]
def k0_off283 (k0_t8 : Fin k0_t8_loop.trips) (c0_i32_1471_r0 : BitVec 32) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c3_i32_1470_r0 : BitVec 32 := 3#32
  let v1748_r0 : BitVec 32 := Scalar.muli arg22_r0 c3_i32_1470_r0
  let v1749_r0 : BitVec 32 := Scalar.addi v1748_r0 c0_i32_1471_r0
  let c128_i32_1473_r0 : BitVec 32 := 128#32
  let v1751_r0 : BitVec 32 := Scalar.muli v1749_r0 c128_i32_1473_r0
  let v1752_r0 : BitVec 32 := v1751_r0
  let v1760_r0 : Index := Scalar.indexCast v1752_r0
  let c128_r0 : Index := 128#32
  ![v1760_r0.toNat, 128]
def k0_off284 (k0_t8 : Fin k0_t8_loop.trips) (c0_i32_1471_r0 : BitVec 32) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c3_i32_1470_r0 : BitVec 32 := 3#32
  let v1748_r0 : BitVec 32 := Scalar.muli arg22_r0 c3_i32_1470_r0
  let v1749_r0 : BitVec 32 := Scalar.addi v1748_r0 c0_i32_1471_r0
  let c128_i32_1473_r0 : BitVec 32 := 128#32
  let v1751_r0 : BitVec 32 := Scalar.muli v1749_r0 c128_i32_1473_r0
  let v1752_r0 : BitVec 32 := v1751_r0
  let v1763_r0 : Index := Scalar.indexCast v1752_r0
  let c256_1478_r0 : Index := 256#32
  ![v1763_r0.toNat, 256]
def k0_off285 (k0_t8 : Fin k0_t8_loop.trips) (c0_i32_1471_r0 : BitVec 32) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c3_i32_1470_r0 : BitVec 32 := 3#32
  let v1748_r0 : BitVec 32 := Scalar.muli arg22_r0 c3_i32_1470_r0
  let v1749_r0 : BitVec 32 := Scalar.addi v1748_r0 c0_i32_1471_r0
  let c128_i32_1473_r0 : BitVec 32 := 128#32
  let v1751_r0 : BitVec 32 := Scalar.muli v1749_r0 c128_i32_1473_r0
  let v1752_r0 : BitVec 32 := v1751_r0
  let v1766_r0 : Index := Scalar.indexCast v1752_r0
  let c384_r0 : Index := 384#32
  ![v1766_r0.toNat, 384]
def k0_off286 (k0_t8 : Fin k0_t8_loop.trips) (c0_i32_1471_r0 : BitVec 32) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c3_i32_1470_r0 : BitVec 32 := 3#32
  let v1748_r0 : BitVec 32 := Scalar.muli arg22_r0 c3_i32_1470_r0
  let v1749_r0 : BitVec 32 := Scalar.addi v1748_r0 c0_i32_1471_r0
  let c128_i32_1473_r0 : BitVec 32 := 128#32
  let v1751_r0 : BitVec 32 := Scalar.muli v1749_r0 c128_i32_1473_r0
  let v1752_r0 : BitVec 32 := v1751_r0
  let v1769_r0 : Index := Scalar.indexCast v1752_r0
  let c512_1479_r0 : Index := 512#32
  ![v1769_r0.toNat, 512]
def k0_off287 (k0_t8 : Fin k0_t8_loop.trips) (c0_i32_1471_r0 : BitVec 32) : Fin 3 → Nat :=
  let c0_1488_r0 : Index := 0#32
  let c0_i32_1157_r0 : BitVec 32 := 0#32
  let c1_i32_1159_r0 : BitVec 32 := 1#32
  let arg22_r0 : BitVec 32 := Scf.iv c0_i32_1157_r0 c1_i32_1159_r0 k0_t8
  let c3_i32_1470_r0 : BitVec 32 := 3#32
  let v1748_r0 : BitVec 32 := Scalar.muli arg22_r0 c3_i32_1470_r0
  let v1749_r0 : BitVec 32 := Scalar.addi v1748_r0 c0_i32_1471_r0
  let v1795_r0 : Index := Scalar.indexCast v1749_r0
  let c0_1489_r0 : Index := 0#32
  ![0, v1795_r0.toNat, 0]
def k0_off288 (k0_t8 : Fin k0_t8_loop.trips) (c0_i32_1471_r0 : BitVec 32) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c3_i32_1470_r0 : BitVec 32 := 3#32
  let v1748_r0 : BitVec 32 := Scalar.muli arg22_r0 c3_i32_1470_r0
  let v1749_r0 : BitVec 32 := Scalar.addi v1748_r0 c0_i32_1471_r0
  let c128_i32_1473_r0 : BitVec 32 := 128#32
  let v1751_r0 : BitVec 32 := Scalar.muli v1749_r0 c128_i32_1473_r0
  let v1752_r0 : BitVec 32 := v1751_r0
  let v1801_r0 : Index := Scalar.indexCast v1752_r0
  let c0_1490_r0 : Index := 0#32
  ![v1801_r0.toNat, 0]
def k0_off289 (k0_t8 : Fin k0_t8_loop.trips) (c0_i32_1471_r0 : BitVec 32) : Fin 3 → Nat :=
  let c1_r0 : Index := 1#32
  let c0_i32_1157_r0 : BitVec 32 := 0#32
  let c1_i32_1159_r0 : BitVec 32 := 1#32
  let arg22_r0 : BitVec 32 := Scf.iv c0_i32_1157_r0 c1_i32_1159_r0 k0_t8
  let c3_i32_1470_r0 : BitVec 32 := 3#32
  let v1748_r0 : BitVec 32 := Scalar.muli arg22_r0 c3_i32_1470_r0
  let v1749_r0 : BitVec 32 := Scalar.addi v1748_r0 c0_i32_1471_r0
  let v1823_r0 : Index := Scalar.indexCast v1749_r0
  let c0_1498_r0 : Index := 0#32
  ![1, v1823_r0.toNat, 0]
def k0_off290 (k0_t8 : Fin k0_t8_loop.trips) (c0_i32_1471_r0 : BitVec 32) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c3_i32_1470_r0 : BitVec 32 := 3#32
  let v1748_r0 : BitVec 32 := Scalar.muli arg22_r0 c3_i32_1470_r0
  let v1749_r0 : BitVec 32 := Scalar.addi v1748_r0 c0_i32_1471_r0
  let c128_i32_1473_r0 : BitVec 32 := 128#32
  let v1751_r0 : BitVec 32 := Scalar.muli v1749_r0 c128_i32_1473_r0
  let v1752_r0 : BitVec 32 := v1751_r0
  let v1829_r0 : Index := Scalar.indexCast v1752_r0
  let c128_1499_r0 : Index := 128#32
  ![v1829_r0.toNat, 128]
def k0_off291 (k0_t8 : Fin k0_t8_loop.trips) (c0_i32_1471_r0 : BitVec 32) : Fin 3 → Nat :=
  let c2_r0 : Index := 2#32
  let c0_i32_1157_r0 : BitVec 32 := 0#32
  let c1_i32_1159_r0 : BitVec 32 := 1#32
  let arg22_r0 : BitVec 32 := Scf.iv c0_i32_1157_r0 c1_i32_1159_r0 k0_t8
  let c3_i32_1470_r0 : BitVec 32 := 3#32
  let v1748_r0 : BitVec 32 := Scalar.muli arg22_r0 c3_i32_1470_r0
  let v1749_r0 : BitVec 32 := Scalar.addi v1748_r0 c0_i32_1471_r0
  let v1851_r0 : Index := Scalar.indexCast v1749_r0
  let c0_1507_r0 : Index := 0#32
  ![2, v1851_r0.toNat, 0]
def k0_off292 (k0_t8 : Fin k0_t8_loop.trips) (c0_i32_1471_r0 : BitVec 32) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c3_i32_1470_r0 : BitVec 32 := 3#32
  let v1748_r0 : BitVec 32 := Scalar.muli arg22_r0 c3_i32_1470_r0
  let v1749_r0 : BitVec 32 := Scalar.addi v1748_r0 c0_i32_1471_r0
  let c128_i32_1473_r0 : BitVec 32 := 128#32
  let v1751_r0 : BitVec 32 := Scalar.muli v1749_r0 c128_i32_1473_r0
  let v1752_r0 : BitVec 32 := v1751_r0
  let v1857_r0 : Index := Scalar.indexCast v1752_r0
  let c256_1508_r0 : Index := 256#32
  ![v1857_r0.toNat, 256]
def k0_off293 (k0_t8 : Fin k0_t8_loop.trips) (c0_i32_1471_r0 : BitVec 32) : Fin 3 → Nat :=
  let c3_r0 : Index := 3#32
  let c0_i32_1157_r0 : BitVec 32 := 0#32
  let c1_i32_1159_r0 : BitVec 32 := 1#32
  let arg22_r0 : BitVec 32 := Scf.iv c0_i32_1157_r0 c1_i32_1159_r0 k0_t8
  let c3_i32_1470_r0 : BitVec 32 := 3#32
  let v1748_r0 : BitVec 32 := Scalar.muli arg22_r0 c3_i32_1470_r0
  let v1749_r0 : BitVec 32 := Scalar.addi v1748_r0 c0_i32_1471_r0
  let v1879_r0 : Index := Scalar.indexCast v1749_r0
  let c0_1516_r0 : Index := 0#32
  ![3, v1879_r0.toNat, 0]
def k0_off294 (k0_t8 : Fin k0_t8_loop.trips) (c0_i32_1471_r0 : BitVec 32) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c3_i32_1470_r0 : BitVec 32 := 3#32
  let v1748_r0 : BitVec 32 := Scalar.muli arg22_r0 c3_i32_1470_r0
  let v1749_r0 : BitVec 32 := Scalar.addi v1748_r0 c0_i32_1471_r0
  let c128_i32_1473_r0 : BitVec 32 := 128#32
  let v1751_r0 : BitVec 32 := Scalar.muli v1749_r0 c128_i32_1473_r0
  let v1752_r0 : BitVec 32 := v1751_r0
  let v1885_r0 : Index := Scalar.indexCast v1752_r0
  let c384_1517_r0 : Index := 384#32
  ![v1885_r0.toNat, 384]
def k0_mult310 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c3_i32_1518_r0 : BitVec 32 := 3#32
  let v1889_r0 : BitVec 32 := Scalar.muli arg22_r0 c3_i32_1518_r0
  let c1_i32_1519_r0 : BitVec 32 := 1#32
  let v1890_r0 : BitVec 32 := Scalar.addi v1889_r0 c1_i32_1519_r0
  let c128_i32_1521_r0 : BitVec 32 := 128#32
  let v1892_r0 : BitVec 32 := Scalar.muli v1890_r0 c128_i32_1521_r0
  v1892_r0
def k0_mult311 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c3_i32_1575_r0 : BitVec 32 := 3#32
  let v2030_r0 : BitVec 32 := Scalar.muli arg22_r0 c3_i32_1575_r0
  let c2_i32_1576_r0 : BitVec 32 := 2#32
  let v2031_r0 : BitVec 32 := Scalar.addi v2030_r0 c2_i32_1576_r0
  let c128_i32_1578_r0 : BitVec 32 := 128#32
  let v2033_r0 : BitVec 32 := Scalar.muli v2031_r0 c128_i32_1578_r0
  v2033_r0
def k0_mult312 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c4_i32_1632_r0 : BitVec 32 := 4#32
  let v2171_r0 : BitVec 32 := Scalar.muli v1286_r0 c4_i32_1632_r0
  let c63_i32_1633_r0 : BitVec 32 := 63#32
  let v2172_r0 : BitVec 32 := Scalar.minsi v2171_r0 c63_i32_1633_r0
  let c128_i32_1634_r0 : BitVec 32 := 128#32
  let v2173_r0 : BitVec 32 := Scalar.muli v2172_r0 c128_i32_1634_r0
  v2173_r0
def k0_mult313 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c0_i32_1636_r0 : BitVec 32 := 0#32
  let v2176_r0 : BitVec 32 := Scalar.addi v2175_r0 c0_i32_1636_r0
  v2176_r0
def k0_off295 (k0_t8 : Fin k0_t8_loop.trips) (c0_i32_1636_r0 : BitVec 32) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let v2176_r0 : BitVec 32 := Scalar.addi v2175_r0 c0_i32_1636_r0
  let v2177_r0 : BitVec 32 := v2176_r0
  let v2178_r0 : Index := Scalar.indexCast v2177_r0
  let c512_1637_r0 : Index := 512#32
  ![v2178_r0.toNat, 512]
def k0_mult314 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c0_i32_1642_r0 : BitVec 32 := 0#32
  let v2182_r0 : BitVec 32 := Scalar.addi v2175_r0 c0_i32_1642_r0
  v2182_r0
def k0_off296 (k0_t8 : Fin k0_t8_loop.trips) (c0_i32_1642_r0 : BitVec 32) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let v2182_r0 : BitVec 32 := Scalar.addi v2175_r0 c0_i32_1642_r0
  let v2183_r0 : BitVec 32 := v2182_r0
  let v2184_r0 : Index := Scalar.indexCast v2183_r0
  let c768_1643_r0 : Index := 768#32
  ![v2184_r0.toNat, 768]
def k0_mult315 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c0_i32_1648_r0 : BitVec 32 := 0#32
  let v2188_r0 : BitVec 32 := Scalar.addi v2175_r0 c0_i32_1648_r0
  v2188_r0
def k0_off297 (k0_t8 : Fin k0_t8_loop.trips) (c0_i32_1648_r0 : BitVec 32) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let v2188_r0 : BitVec 32 := Scalar.addi v2175_r0 c0_i32_1648_r0
  let v2189_r0 : BitVec 32 := v2188_r0
  let v2190_r0 : Index := Scalar.indexCast v2189_r0
  let c1024_1649_r0 : Index := 1024#32
  ![v2190_r0.toNat, 1024]
def k0_mult316 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c0_i32_1654_r0 : BitVec 32 := 0#32
  let v2194_r0 : BitVec 32 := Scalar.addi v2175_r0 c0_i32_1654_r0
  v2194_r0
def k0_off298 (k0_t8 : Fin k0_t8_loop.trips) (c0_i32_1654_r0 : BitVec 32) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let v2194_r0 : BitVec 32 := Scalar.addi v2175_r0 c0_i32_1654_r0
  let v2195_r0 : BitVec 32 := v2194_r0
  let v2196_r0 : Index := Scalar.indexCast v2195_r0
  let c1280_1655_r0 : Index := 1280#32
  ![v2196_r0.toNat, 1280]
def k0_mult317 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c0_i32_1660_r0 : BitVec 32 := 0#32
  let v2200_r0 : BitVec 32 := Scalar.addi v2175_r0 c0_i32_1660_r0
  v2200_r0
def k0_off299 (k0_t8 : Fin k0_t8_loop.trips) (c0_i32_1660_r0 : BitVec 32) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let v2200_r0 : BitVec 32 := Scalar.addi v2175_r0 c0_i32_1660_r0
  let v2201_r0 : BitVec 32 := v2200_r0
  let v2202_r0 : Index := Scalar.indexCast v2201_r0
  let c1536_1661_r0 : Index := 1536#32
  ![v2202_r0.toNat, 1536]
def k0_mult318 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c0_i32_1666_r0 : BitVec 32 := 0#32
  let v2206_r0 : BitVec 32 := Scalar.addi v2175_r0 c0_i32_1666_r0
  v2206_r0
def k0_off300 (k0_t8 : Fin k0_t8_loop.trips) (c0_i32_1666_r0 : BitVec 32) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let v2206_r0 : BitVec 32 := Scalar.addi v2175_r0 c0_i32_1666_r0
  let v2207_r0 : BitVec 32 := v2206_r0
  let v2208_r0 : Index := Scalar.indexCast v2207_r0
  let c1792_1667_r0 : Index := 1792#32
  ![v2208_r0.toNat, 1792]
def k0_mult319 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c0_i32_1672_r0 : BitVec 32 := 0#32
  let v2212_r0 : BitVec 32 := Scalar.addi v2175_r0 c0_i32_1672_r0
  v2212_r0
def k0_off301 (k0_t8 : Fin k0_t8_loop.trips) (c0_i32_1672_r0 : BitVec 32) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let v2212_r0 : BitVec 32 := Scalar.addi v2175_r0 c0_i32_1672_r0
  let v2213_r0 : BitVec 32 := v2212_r0
  let v2214_r0 : Index := Scalar.indexCast v2213_r0
  let c2048_1673_r0 : Index := 2048#32
  ![v2214_r0.toNat, 2048]
def k0_mult320 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c0_i32_1678_r0 : BitVec 32 := 0#32
  let v2218_r0 : BitVec 32 := Scalar.addi v2175_r0 c0_i32_1678_r0
  v2218_r0
def k0_off302 (k0_t8 : Fin k0_t8_loop.trips) (c0_i32_1678_r0 : BitVec 32) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let v2218_r0 : BitVec 32 := Scalar.addi v2175_r0 c0_i32_1678_r0
  let v2219_r0 : BitVec 32 := v2218_r0
  let v2220_r0 : Index := Scalar.indexCast v2219_r0
  let c2304_1679_r0 : Index := 2304#32
  ![v2220_r0.toNat, 2304]
def k0_mult321 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c0_i32_1684_r0 : BitVec 32 := 0#32
  let v2224_r0 : BitVec 32 := Scalar.addi v2175_r0 c0_i32_1684_r0
  v2224_r0
def k0_off303 (k0_t8 : Fin k0_t8_loop.trips) (c0_i32_1684_r0 : BitVec 32) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let v2224_r0 : BitVec 32 := Scalar.addi v2175_r0 c0_i32_1684_r0
  let v2225_r0 : BitVec 32 := v2224_r0
  let v2226_r0 : Index := Scalar.indexCast v2225_r0
  let c2560_1685_r0 : Index := 2560#32
  ![v2226_r0.toNat, 2560]
def k0_mult322 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c0_i32_1690_r0 : BitVec 32 := 0#32
  let v2230_r0 : BitVec 32 := Scalar.addi v2175_r0 c0_i32_1690_r0
  v2230_r0
def k0_off304 (k0_t8 : Fin k0_t8_loop.trips) (c0_i32_1690_r0 : BitVec 32) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let v2230_r0 : BitVec 32 := Scalar.addi v2175_r0 c0_i32_1690_r0
  let v2231_r0 : BitVec 32 := v2230_r0
  let v2232_r0 : Index := Scalar.indexCast v2231_r0
  let c2816_1691_r0 : Index := 2816#32
  ![v2232_r0.toNat, 2816]
def k0_mult323 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c0_i32_1696_r0 : BitVec 32 := 0#32
  let v2236_r0 : BitVec 32 := Scalar.addi v2175_r0 c0_i32_1696_r0
  v2236_r0
def k0_off305 (k0_t8 : Fin k0_t8_loop.trips) (c0_i32_1696_r0 : BitVec 32) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let v2236_r0 : BitVec 32 := Scalar.addi v2175_r0 c0_i32_1696_r0
  let v2237_r0 : BitVec 32 := v2236_r0
  let v2238_r0 : Index := Scalar.indexCast v2237_r0
  let c3072_1697_r0 : Index := 3072#32
  ![v2238_r0.toNat, 3072]
def k0_mult324 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c0_i32_1702_r0 : BitVec 32 := 0#32
  let v2242_r0 : BitVec 32 := Scalar.addi v2175_r0 c0_i32_1702_r0
  v2242_r0
def k0_off306 (k0_t8 : Fin k0_t8_loop.trips) (c0_i32_1702_r0 : BitVec 32) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let v2242_r0 : BitVec 32 := Scalar.addi v2175_r0 c0_i32_1702_r0
  let v2243_r0 : BitVec 32 := v2242_r0
  let v2244_r0 : Index := Scalar.indexCast v2243_r0
  let c3328_1703_r0 : Index := 3328#32
  ![v2244_r0.toNat, 3328]
def k0_mult325 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c256_i32_1708_r0 : BitVec 32 := 256#32
  let v2249_r0 : BitVec 32 := Scalar.addi v2175_r0 c256_i32_1708_r0
  v2249_r0
def k0_off307 (k0_t8 : Fin k0_t8_loop.trips) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c256_i32_1708_r0 : BitVec 32 := 256#32
  let v2249_r0 : BitVec 32 := Scalar.addi v2175_r0 c256_i32_1708_r0
  let v2250_r0 : BitVec 32 := v2249_r0
  let v2251_r0 : Index := Scalar.indexCast v2250_r0
  let c0_1709_r0 : Index := 0#32
  ![v2251_r0.toNat, 0]
def k0_mult326 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c256_i32_1708_r0 : BitVec 32 := 256#32
  let v2249_r0 : BitVec 32 := Scalar.addi v2175_r0 c256_i32_1708_r0
  v2249_r0
def k0_off308 (k0_t8 : Fin k0_t8_loop.trips) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c256_i32_1708_r0 : BitVec 32 := 256#32
  let v2249_r0 : BitVec 32 := Scalar.addi v2175_r0 c256_i32_1708_r0
  let v2255_r0 : BitVec 32 := v2249_r0
  let v2256_r0 : Index := Scalar.indexCast v2255_r0
  let c256_1714_r0 : Index := 256#32
  ![v2256_r0.toNat, 256]
def k0_mult327 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c4_i32_1632_r0 : BitVec 32 := 4#32
  let v2171_r0 : BitVec 32 := Scalar.muli v1286_r0 c4_i32_1632_r0
  let c63_i32_1633_r0 : BitVec 32 := 63#32
  let v2172_r0 : BitVec 32 := Scalar.minsi v2171_r0 c63_i32_1633_r0
  let c128_i32_1634_r0 : BitVec 32 := 128#32
  let v2173_r0 : BitVec 32 := Scalar.muli v2172_r0 c128_i32_1634_r0
  let v2174_r0 : BitVec 32 := v2173_r0
  let c0_i32_1719_r0 : BitVec 32 := 0#32
  let v2260_r0 : BitVec 32 := Scalar.addi v2174_r0 c0_i32_1719_r0
  v2260_r0
def k0_off309 (k0_t5 : Fin k0_t5_loop.trips) (c0_i32_1719_r0 : BitVec 32) : Fin 2 → Nat :=
  let c0_1720_r0 : Index := 0#32
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c4_i32_1632_r0 : BitVec 32 := 4#32
  let v2171_r0 : BitVec 32 := Scalar.muli v1286_r0 c4_i32_1632_r0
  let c63_i32_1633_r0 : BitVec 32 := 63#32
  let v2172_r0 : BitVec 32 := Scalar.minsi v2171_r0 c63_i32_1633_r0
  let c128_i32_1634_r0 : BitVec 32 := 128#32
  let v2173_r0 : BitVec 32 := Scalar.muli v2172_r0 c128_i32_1634_r0
  let v2174_r0 : BitVec 32 := v2173_r0
  let v2260_r0 : BitVec 32 := Scalar.addi v2174_r0 c0_i32_1719_r0
  let v2261_r0 : BitVec 32 := v2260_r0
  let v2262_r0 : Index := Scalar.indexCast v2261_r0
  ![0, v2262_r0.toNat]
def k0_off310 (k0_t5 : Fin k0_t5_loop.trips) (k0_t8 : Fin k0_t8_loop.trips) : Fin 3 → Nat :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c12_i32_1451_r0 : BitVec 32 := 12#32
  let v1717_r0 : BitVec 32 := Scalar.muli v1286_r0 c12_i32_1451_r0
  let c0_i32_1157_r0 : BitVec 32 := 0#32
  let c1_i32_1159_r0 : BitVec 32 := 1#32
  let arg22_r0 : BitVec 32 := Scf.iv c0_i32_1157_r0 c1_i32_1159_r0 k0_t8
  let v1718_r0 : BitVec 32 := Scalar.addi v1717_r0 arg22_r0
  let c2_i32_1452_r0 : BitVec 32 := 2#32
  let v1719_r0 : BitVec 32 := Scalar.remsi v1718_r0 c2_i32_1452_r0
  let v2269_r0 : Index := Scalar.indexCast v1719_r0
  let c0_1721_r0 : Index := 0#32
  let c0_1722_r0 : Index := 0#32
  ![v2269_r0.toNat, 0, 0]
def k0_mult328 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c4_i32_1632_r0 : BitVec 32 := 4#32
  let v2171_r0 : BitVec 32 := Scalar.muli v1286_r0 c4_i32_1632_r0
  let c63_i32_1633_r0 : BitVec 32 := 63#32
  let v2172_r0 : BitVec 32 := Scalar.minsi v2171_r0 c63_i32_1633_r0
  let c128_i32_1634_r0 : BitVec 32 := 128#32
  let v2173_r0 : BitVec 32 := Scalar.muli v2172_r0 c128_i32_1634_r0
  let v2174_r0 : BitVec 32 := v2173_r0
  let c256_i32_1723_r0 : BitVec 32 := 256#32
  let v2273_r0 : BitVec 32 := Scalar.addi v2174_r0 c256_i32_1723_r0
  v2273_r0
def k0_off311 (k0_t5 : Fin k0_t5_loop.trips) (k0_t8 : Fin k0_t8_loop.trips) : Fin 3 → Nat :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c12_i32_1451_r0 : BitVec 32 := 12#32
  let v1717_r0 : BitVec 32 := Scalar.muli v1286_r0 c12_i32_1451_r0
  let c0_i32_1157_r0 : BitVec 32 := 0#32
  let c1_i32_1159_r0 : BitVec 32 := 1#32
  let arg22_r0 : BitVec 32 := Scf.iv c0_i32_1157_r0 c1_i32_1159_r0 k0_t8
  let v1718_r0 : BitVec 32 := Scalar.addi v1717_r0 arg22_r0
  let c2_i32_1452_r0 : BitVec 32 := 2#32
  let v1719_r0 : BitVec 32 := Scalar.remsi v1718_r0 c2_i32_1452_r0
  let v2282_r0 : Index := Scalar.indexCast v1719_r0
  let c0_1725_r0 : Index := 0#32
  let c256_1726_r0 : Index := 256#32
  ![v2282_r0.toNat, 0, 256]
def k0_mult329 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c256_i32_1727_r0 : BitVec 32 := 256#32
  let v2286_r0 : BitVec 32 := Scalar.addi v2175_r0 c256_i32_1727_r0
  v2286_r0
def k0_mult330 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c256_i32_1733_r0 : BitVec 32 := 256#32
  let v2292_r0 : BitVec 32 := Scalar.addi v2175_r0 c256_i32_1733_r0
  v2292_r0
def k0_mult331 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c256_i32_1739_r0 : BitVec 32 := 256#32
  let v2298_r0 : BitVec 32 := Scalar.addi v2175_r0 c256_i32_1739_r0
  v2298_r0
def k0_mult332 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c256_i32_1745_r0 : BitVec 32 := 256#32
  let v2304_r0 : BitVec 32 := Scalar.addi v2175_r0 c256_i32_1745_r0
  v2304_r0
def k0_mult333 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c256_i32_1751_r0 : BitVec 32 := 256#32
  let v2310_r0 : BitVec 32 := Scalar.addi v2175_r0 c256_i32_1751_r0
  v2310_r0
def k0_mult334 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c256_i32_1757_r0 : BitVec 32 := 256#32
  let v2316_r0 : BitVec 32 := Scalar.addi v2175_r0 c256_i32_1757_r0
  v2316_r0
def k0_mult335 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c256_i32_1763_r0 : BitVec 32 := 256#32
  let v2322_r0 : BitVec 32 := Scalar.addi v2175_r0 c256_i32_1763_r0
  v2322_r0
def k0_mult336 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c256_i32_1769_r0 : BitVec 32 := 256#32
  let v2328_r0 : BitVec 32 := Scalar.addi v2175_r0 c256_i32_1769_r0
  v2328_r0
def k0_mult337 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c256_i32_1775_r0 : BitVec 32 := 256#32
  let v2334_r0 : BitVec 32 := Scalar.addi v2175_r0 c256_i32_1775_r0
  v2334_r0
def k0_mult338 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c256_i32_1781_r0 : BitVec 32 := 256#32
  let v2340_r0 : BitVec 32 := Scalar.addi v2175_r0 c256_i32_1781_r0
  v2340_r0
def k0_mult339 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c256_i32_1787_r0 : BitVec 32 := 256#32
  let v2346_r0 : BitVec 32 := Scalar.addi v2175_r0 c256_i32_1787_r0
  v2346_r0
def k0_mult340 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c512_i32_1635_r0 : BitVec 32 := 512#32
  let v2175_r0 : BitVec 32 := Scalar.muli arg22_r0 c512_i32_1635_r0
  let c256_i32_1793_r0 : BitVec 32 := 256#32
  let v2352_r0 : BitVec 32 := Scalar.addi v2175_r0 c256_i32_1793_r0
  v2352_r0
def k0_mult341 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c1_i32_1449_r0 : BitVec 32 := 1#32
  let v1715_r0 : BitVec 32 := Scalar.addi arg22_r0 c1_i32_1449_r0
  let c512_i32_1450_r0 : BitVec 32 := 512#32
  let v1716_r0 : BitVec 32 := Scalar.muli v1715_r0 c512_i32_1450_r0
  v1716_r0
def k0_off312 (k0_t8 : Fin k0_t8_loop.trips) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c1_i32_1449_r0 : BitVec 32 := 1#32
  let v1715_r0 : BitVec 32 := Scalar.addi arg22_r0 c1_i32_1449_r0
  let c512_i32_1450_r0 : BitVec 32 := 512#32
  let v1716_r0 : BitVec 32 := Scalar.muli v1715_r0 c512_i32_1450_r0
  let v2359_r0 : BitVec 32 := v1716_r0
  let v2360_r0 : Index := Scalar.indexCast v2359_r0
  let c0_1799_r0 : Index := 0#32
  ![v2360_r0.toNat, 0]
def k0_mult342 (k0_t8 : Fin k0_t8_loop.trips) : BitVec 32 :=
  let c0_i32_1157_r0 : BitVec 32 := 0#32
  let c1_i32_1159_r0 : BitVec 32 := 1#32
  let arg22_r0 : BitVec 32 := Scf.iv c0_i32_1157_r0 c1_i32_1159_r0 k0_t8
  let c1_i32_1449_r0 : BitVec 32 := 1#32
  let v1715_r0 : BitVec 32 := Scalar.addi arg22_r0 c1_i32_1449_r0
  let c512_i32_1450_r0 : BitVec 32 := 512#32
  let v1716_r0 : BitVec 32 := Scalar.muli v1715_r0 c512_i32_1450_r0
  v1716_r0
def k0_off313 (k0_t8 : Fin k0_t8_loop.trips) : Fin 2 → Nat :=
  let c0_i32_1157_r0 : BitVec 32 := 0#32
  let c1_i32_1159_r0 : BitVec 32 := 1#32
  let arg22_r0 : BitVec 32 := Scf.iv c0_i32_1157_r0 c1_i32_1159_r0 k0_t8
  let c1_i32_1449_r0 : BitVec 32 := 1#32
  let v1715_r0 : BitVec 32 := Scalar.addi arg22_r0 c1_i32_1449_r0
  let c512_i32_1450_r0 : BitVec 32 := 512#32
  let v1716_r0 : BitVec 32 := Scalar.muli v1715_r0 c512_i32_1450_r0
  let v2364_r0 : BitVec 32 := v1716_r0
  let v2365_r0 : Index := Scalar.indexCast v2364_r0
  let c256_1804_r0 : Index := 256#32
  ![v2365_r0.toNat, 256]
def k0_mult343 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c4_i32_1632_r0 : BitVec 32 := 4#32
  let v2171_r0 : BitVec 32 := Scalar.muli v1286_r0 c4_i32_1632_r0
  let c63_i32_1633_r0 : BitVec 32 := 63#32
  let v2172_r0 : BitVec 32 := Scalar.minsi v2171_r0 c63_i32_1633_r0
  let c128_i32_1634_r0 : BitVec 32 := 128#32
  let v2173_r0 : BitVec 32 := Scalar.muli v2172_r0 c128_i32_1634_r0
  let v2174_r0 : BitVec 32 := v2173_r0
  let c0_i32_1809_r0 : BitVec 32 := 0#32
  let v2369_r0 : BitVec 32 := Scalar.addi v2174_r0 c0_i32_1809_r0
  v2369_r0
def k0_off314 (k0_t5 : Fin k0_t5_loop.trips) (k0_t8 : Fin k0_t8_loop.trips) : Fin 3 → Nat :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c12_i32_1451_r0 : BitVec 32 := 12#32
  let v1717_r0 : BitVec 32 := Scalar.muli v1286_r0 c12_i32_1451_r0
  let c0_i32_1157_r0 : BitVec 32 := 0#32
  let c1_i32_1159_r0 : BitVec 32 := 1#32
  let arg22_r0 : BitVec 32 := Scf.iv c0_i32_1157_r0 c1_i32_1159_r0 k0_t8
  let v1718_r0 : BitVec 32 := Scalar.addi v1717_r0 arg22_r0
  let c2_i32_1452_r0 : BitVec 32 := 2#32
  let v1719_r0 : BitVec 32 := Scalar.remsi v1718_r0 c2_i32_1452_r0
  let v2378_r0 : Index := Scalar.indexCast v1719_r0
  let c256_1811_r0 : Index := 256#32
  let c0_1812_r0 : Index := 0#32
  ![v2378_r0.toNat, 256, 0]
def k0_mult344 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c4_i32_1632_r0 : BitVec 32 := 4#32
  let v2171_r0 : BitVec 32 := Scalar.muli v1286_r0 c4_i32_1632_r0
  let c63_i32_1633_r0 : BitVec 32 := 63#32
  let v2172_r0 : BitVec 32 := Scalar.minsi v2171_r0 c63_i32_1633_r0
  let c128_i32_1634_r0 : BitVec 32 := 128#32
  let v2173_r0 : BitVec 32 := Scalar.muli v2172_r0 c128_i32_1634_r0
  let v2174_r0 : BitVec 32 := v2173_r0
  let c256_i32_1813_r0 : BitVec 32 := 256#32
  let v2382_r0 : BitVec 32 := Scalar.addi v2174_r0 c256_i32_1813_r0
  v2382_r0
def k0_off315 (k0_t5 : Fin k0_t5_loop.trips) (k0_t8 : Fin k0_t8_loop.trips) : Fin 3 → Nat :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c12_i32_1451_r0 : BitVec 32 := 12#32
  let v1717_r0 : BitVec 32 := Scalar.muli v1286_r0 c12_i32_1451_r0
  let c0_i32_1157_r0 : BitVec 32 := 0#32
  let c1_i32_1159_r0 : BitVec 32 := 1#32
  let arg22_r0 : BitVec 32 := Scf.iv c0_i32_1157_r0 c1_i32_1159_r0 k0_t8
  let v1718_r0 : BitVec 32 := Scalar.addi v1717_r0 arg22_r0
  let c2_i32_1452_r0 : BitVec 32 := 2#32
  let v1719_r0 : BitVec 32 := Scalar.remsi v1718_r0 c2_i32_1452_r0
  let v2391_r0 : Index := Scalar.indexCast v1719_r0
  let c256_1815_r0 : Index := 256#32
  let c256_1816_r0 : Index := 256#32
  ![v2391_r0.toNat, 256, 256]
def k0_mult345 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c2_i32_1161_r0 : BitVec 32 := 2#32
  let v1373_r0 : BitVec 32 := Scalar.addi v1286_r0 c2_i32_1161_r0
  let c16_i32_1162_r0 : BitVec 32 := 16#32
  let v1374_r0 : BitVec 32 := Scalar.minsi v1373_r0 c16_i32_1162_r0
  let c4_i32_1163_r0 : BitVec 32 := 4#32
  let v1375_r0 : BitVec 32 := Scalar.muli v1374_r0 c4_i32_1163_r0
  let c63_i32_1164_r0 : BitVec 32 := 63#32
  let v1376_r0 : BitVec 32 := Scalar.minsi v1375_r0 c63_i32_1164_r0
  let c0_i32_1165_r0 : BitVec 32 := 0#32
  let v1377_r0 : BitVec 32 := Scalar.addi v1376_r0 c0_i32_1165_r0
  let c128_i32_1166_r0 : BitVec 32 := 128#32
  let v1378_r0 : BitVec 32 := Scalar.muli v1377_r0 c128_i32_1166_r0
  v1378_r0
def k0_mult346 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c2_i32_1161_r0 : BitVec 32 := 2#32
  let v1373_r0 : BitVec 32 := Scalar.addi v1286_r0 c2_i32_1161_r0
  let c16_i32_1162_r0 : BitVec 32 := 16#32
  let v1374_r0 : BitVec 32 := Scalar.minsi v1373_r0 c16_i32_1162_r0
  let c4_i32_1163_r0 : BitVec 32 := 4#32
  let v1375_r0 : BitVec 32 := Scalar.muli v1374_r0 c4_i32_1163_r0
  let c63_i32_1164_r0 : BitVec 32 := 63#32
  let v1376_r0 : BitVec 32 := Scalar.minsi v1375_r0 c63_i32_1164_r0
  let c1_i32_1167_r0 : BitVec 32 := 1#32
  let v1380_r0 : BitVec 32 := Scalar.addi v1376_r0 c1_i32_1167_r0
  let c128_i32_1168_r0 : BitVec 32 := 128#32
  let v1381_r0 : BitVec 32 := Scalar.muli v1380_r0 c128_i32_1168_r0
  v1381_r0
def k0_mult347 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c2_i32_1161_r0 : BitVec 32 := 2#32
  let v1373_r0 : BitVec 32 := Scalar.addi v1286_r0 c2_i32_1161_r0
  let c16_i32_1162_r0 : BitVec 32 := 16#32
  let v1374_r0 : BitVec 32 := Scalar.minsi v1373_r0 c16_i32_1162_r0
  let c4_i32_1163_r0 : BitVec 32 := 4#32
  let v1375_r0 : BitVec 32 := Scalar.muli v1374_r0 c4_i32_1163_r0
  let c63_i32_1164_r0 : BitVec 32 := 63#32
  let v1376_r0 : BitVec 32 := Scalar.minsi v1375_r0 c63_i32_1164_r0
  let c2_i32_1169_r0 : BitVec 32 := 2#32
  let v1383_r0 : BitVec 32 := Scalar.addi v1376_r0 c2_i32_1169_r0
  let c128_i32_1170_r0 : BitVec 32 := 128#32
  let v1384_r0 : BitVec 32 := Scalar.muli v1383_r0 c128_i32_1170_r0
  v1384_r0
def k0_mult348 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c2_i32_1161_r0 : BitVec 32 := 2#32
  let v1373_r0 : BitVec 32 := Scalar.addi v1286_r0 c2_i32_1161_r0
  let c16_i32_1162_r0 : BitVec 32 := 16#32
  let v1374_r0 : BitVec 32 := Scalar.minsi v1373_r0 c16_i32_1162_r0
  let c4_i32_1163_r0 : BitVec 32 := 4#32
  let v1375_r0 : BitVec 32 := Scalar.muli v1374_r0 c4_i32_1163_r0
  let c63_i32_1164_r0 : BitVec 32 := 63#32
  let v1376_r0 : BitVec 32 := Scalar.minsi v1375_r0 c63_i32_1164_r0
  let c3_i32_1171_r0 : BitVec 32 := 3#32
  let v1386_r0 : BitVec 32 := Scalar.addi v1376_r0 c3_i32_1171_r0
  let c128_i32_1172_r0 : BitVec 32 := 128#32
  let v1387_r0 : BitVec 32 := Scalar.muli v1386_r0 c128_i32_1172_r0
  v1387_r0
def k0_mult349 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c2_i32_1161_r0 : BitVec 32 := 2#32
  let v1373_r0 : BitVec 32 := Scalar.addi v1286_r0 c2_i32_1161_r0
  let c16_i32_1162_r0 : BitVec 32 := 16#32
  let v1374_r0 : BitVec 32 := Scalar.minsi v1373_r0 c16_i32_1162_r0
  let c4_i32_1163_r0 : BitVec 32 := 4#32
  let v1375_r0 : BitVec 32 := Scalar.muli v1374_r0 c4_i32_1163_r0
  let c63_i32_1164_r0 : BitVec 32 := 63#32
  let v1376_r0 : BitVec 32 := Scalar.minsi v1375_r0 c63_i32_1164_r0
  let c0_i32_1173_r0 : BitVec 32 := 0#32
  let v1389_r0 : BitVec 32 := Scalar.addi v1376_r0 c0_i32_1173_r0
  let c34_i32_1174_r0 : BitVec 32 := 34#32
  let v1390_r0 : BitVec 1 := Scalar.cmpi .slt v1389_r0 c34_i32_1174_r0
  let c34_i32_1175_r0 : BitVec 32 := 34#32
  let v1391_r0 : BitVec 32 := Scalar.subi v1389_r0 c34_i32_1175_r0
  let v1392_r0 : BitVec 32 := Scalar.select v1390_r0 v1389_r0 v1391_r0
  let c128_i32_1176_r0 : BitVec 32 := 128#32
  let v1393_r0 : BitVec 32 := Scalar.muli v1392_r0 c128_i32_1176_r0
  v1393_r0
def k0_mult350 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c2_i32_1161_r0 : BitVec 32 := 2#32
  let v1373_r0 : BitVec 32 := Scalar.addi v1286_r0 c2_i32_1161_r0
  let c16_i32_1162_r0 : BitVec 32 := 16#32
  let v1374_r0 : BitVec 32 := Scalar.minsi v1373_r0 c16_i32_1162_r0
  let c4_i32_1163_r0 : BitVec 32 := 4#32
  let v1375_r0 : BitVec 32 := Scalar.muli v1374_r0 c4_i32_1163_r0
  let c63_i32_1164_r0 : BitVec 32 := 63#32
  let v1376_r0 : BitVec 32 := Scalar.minsi v1375_r0 c63_i32_1164_r0
  let c1_i32_1177_r0 : BitVec 32 := 1#32
  let v1395_r0 : BitVec 32 := Scalar.addi v1376_r0 c1_i32_1177_r0
  let c34_i32_1178_r0 : BitVec 32 := 34#32
  let v1396_r0 : BitVec 1 := Scalar.cmpi .slt v1395_r0 c34_i32_1178_r0
  let c34_i32_1179_r0 : BitVec 32 := 34#32
  let v1397_r0 : BitVec 32 := Scalar.subi v1395_r0 c34_i32_1179_r0
  let v1398_r0 : BitVec 32 := Scalar.select v1396_r0 v1395_r0 v1397_r0
  let c128_i32_1180_r0 : BitVec 32 := 128#32
  let v1399_r0 : BitVec 32 := Scalar.muli v1398_r0 c128_i32_1180_r0
  v1399_r0
def k0_mult351 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c2_i32_1161_r0 : BitVec 32 := 2#32
  let v1373_r0 : BitVec 32 := Scalar.addi v1286_r0 c2_i32_1161_r0
  let c16_i32_1162_r0 : BitVec 32 := 16#32
  let v1374_r0 : BitVec 32 := Scalar.minsi v1373_r0 c16_i32_1162_r0
  let c4_i32_1163_r0 : BitVec 32 := 4#32
  let v1375_r0 : BitVec 32 := Scalar.muli v1374_r0 c4_i32_1163_r0
  let c63_i32_1164_r0 : BitVec 32 := 63#32
  let v1376_r0 : BitVec 32 := Scalar.minsi v1375_r0 c63_i32_1164_r0
  let c2_i32_1181_r0 : BitVec 32 := 2#32
  let v1401_r0 : BitVec 32 := Scalar.addi v1376_r0 c2_i32_1181_r0
  let c34_i32_1182_r0 : BitVec 32 := 34#32
  let v1402_r0 : BitVec 1 := Scalar.cmpi .slt v1401_r0 c34_i32_1182_r0
  let c34_i32_1183_r0 : BitVec 32 := 34#32
  let v1403_r0 : BitVec 32 := Scalar.subi v1401_r0 c34_i32_1183_r0
  let v1404_r0 : BitVec 32 := Scalar.select v1402_r0 v1401_r0 v1403_r0
  let c128_i32_1184_r0 : BitVec 32 := 128#32
  let v1405_r0 : BitVec 32 := Scalar.muli v1404_r0 c128_i32_1184_r0
  v1405_r0
def k0_mult352 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c2_i32_1161_r0 : BitVec 32 := 2#32
  let v1373_r0 : BitVec 32 := Scalar.addi v1286_r0 c2_i32_1161_r0
  let c16_i32_1162_r0 : BitVec 32 := 16#32
  let v1374_r0 : BitVec 32 := Scalar.minsi v1373_r0 c16_i32_1162_r0
  let c4_i32_1163_r0 : BitVec 32 := 4#32
  let v1375_r0 : BitVec 32 := Scalar.muli v1374_r0 c4_i32_1163_r0
  let c63_i32_1164_r0 : BitVec 32 := 63#32
  let v1376_r0 : BitVec 32 := Scalar.minsi v1375_r0 c63_i32_1164_r0
  let c3_i32_1185_r0 : BitVec 32 := 3#32
  let v1407_r0 : BitVec 32 := Scalar.addi v1376_r0 c3_i32_1185_r0
  let c34_i32_1186_r0 : BitVec 32 := 34#32
  let v1408_r0 : BitVec 1 := Scalar.cmpi .slt v1407_r0 c34_i32_1186_r0
  let c34_i32_1187_r0 : BitVec 32 := 34#32
  let v1409_r0 : BitVec 32 := Scalar.subi v1407_r0 c34_i32_1187_r0
  let v1410_r0 : BitVec 32 := Scalar.select v1408_r0 v1407_r0 v1409_r0
  let c128_i32_1188_r0 : BitVec 32 := 128#32
  let v1411_r0 : BitVec 32 := Scalar.muli v1410_r0 c128_i32_1188_r0
  v1411_r0
def k0_mult353 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c2_i32_1161_r0 : BitVec 32 := 2#32
  let v1373_r0 : BitVec 32 := Scalar.addi v1286_r0 c2_i32_1161_r0
  let c16_i32_1162_r0 : BitVec 32 := 16#32
  let v1374_r0 : BitVec 32 := Scalar.minsi v1373_r0 c16_i32_1162_r0
  let c4_i32_1163_r0 : BitVec 32 := 4#32
  let v1375_r0 : BitVec 32 := Scalar.muli v1374_r0 c4_i32_1163_r0
  let c63_i32_1164_r0 : BitVec 32 := 63#32
  let v1376_r0 : BitVec 32 := Scalar.minsi v1375_r0 c63_i32_1164_r0
  let c4_i32_1189_r0 : BitVec 32 := 4#32
  let v1413_r0 : BitVec 32 := Scalar.addi v1376_r0 c4_i32_1189_r0
  let c34_i32_1190_r0 : BitVec 32 := 34#32
  let v1414_r0 : BitVec 1 := Scalar.cmpi .slt v1413_r0 c34_i32_1190_r0
  let c34_i32_1191_r0 : BitVec 32 := 34#32
  let v1415_r0 : BitVec 32 := Scalar.subi v1413_r0 c34_i32_1191_r0
  let v1416_r0 : BitVec 32 := Scalar.select v1414_r0 v1413_r0 v1415_r0
  let c128_i32_1192_r0 : BitVec 32 := 128#32
  let v1417_r0 : BitVec 32 := Scalar.muli v1416_r0 c128_i32_1192_r0
  v1417_r0
@[reducible] def k0_t9_loop : Scf.Loop 32 :=
  let c9_i32_1234_r0 : BitVec 32 := 9#32
  let c2_i32_1235_r0 : BitVec 32 := 2#32
  let v1459_r0 : BitVec 32 := Scalar.addi c9_i32_1234_r0 c2_i32_1235_r0
  let c1_i32_1236_r0 : BitVec 32 := 1#32
  ⟨c9_i32_1234_r0, v1459_r0, c1_i32_1236_r0⟩
def k0_mult354 (k0_t5 : Fin k0_t5_loop.trips) (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c0_i32_1453_r0 : BitVec 32 := 0#32
  let v1720_r0 : BitVec 1 := Scalar.cmpi .eq arg22_r0 c0_i32_1453_r0
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c1_i32_1454_r0 : BitVec 32 := 1#32
  let v1721_r0 : BitVec 32 := Scalar.subi v1286_r0 c1_i32_1454_r0
  let v1722_r0 : BitVec 32 := Scalar.select v1720_r0 v1721_r0 v1286_r0
  let c4_i32_1458_r0 : BitVec 32 := 4#32
  let v1726_r0 : BitVec 32 := Scalar.muli v1722_r0 c4_i32_1458_r0
  let c63_i32_1459_r0 : BitVec 32 := 63#32
  let v1727_r0 : BitVec 32 := Scalar.minsi v1726_r0 c63_i32_1459_r0
  let c128_i32_1460_r0 : BitVec 32 := 128#32
  let v1728_r0 : BitVec 32 := Scalar.muli v1727_r0 c128_i32_1460_r0
  v1728_r0
def k0_mult355 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c0_i32_1453_r0 : BitVec 32 := 0#32
  let v1720_r0 : BitVec 1 := Scalar.cmpi .eq arg22_r0 c0_i32_1453_r0
  let c11_i32_1456_r0 : BitVec 32 := 11#32
  let c1_i32_1455_r0 : BitVec 32 := 1#32
  let v1723_r0 : BitVec 32 := Scalar.subi arg22_r0 c1_i32_1455_r0
  let v1724_r0 : BitVec 32 := Scalar.select v1720_r0 c11_i32_1456_r0 v1723_r0
  let c512_i32_1461_r0 : BitVec 32 := 512#32
  let v1730_r0 : BitVec 32 := Scalar.muli v1724_r0 c512_i32_1461_r0
  v1730_r0
def k0_off316 (k0_t5 : Fin k0_t5_loop.trips) (k0_t9 : Fin k0_t9_loop.trips) : Fin 1 → Nat :=
  let c1_i32_1457_r0 : BitVec 32 := 1#32
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c12_i32_1451_r0 : BitVec 32 := 12#32
  let v1717_r0 : BitVec 32 := Scalar.muli v1286_r0 c12_i32_1451_r0
  let c9_i32_1234_r0 : BitVec 32 := 9#32
  let c1_i32_1236_r0 : BitVec 32 := 1#32
  let arg22_r0 : BitVec 32 := Scf.iv c9_i32_1234_r0 c1_i32_1236_r0 k0_t9
  let v1718_r0 : BitVec 32 := Scalar.addi v1717_r0 arg22_r0
  let c2_i32_1452_r0 : BitVec 32 := 2#32
  let v1719_r0 : BitVec 32 := Scalar.remsi v1718_r0 c2_i32_1452_r0
  let v1725_r0 : BitVec 32 := Scalar.subi c1_i32_1457_r0 v1719_r0
  ![v1725_r0.toNat]
def k0_off317 (k0_t5 : Fin k0_t5_loop.trips) (k0_t9 : Fin k0_t9_loop.trips) : Fin 2 → Nat :=
  let c9_i32_1234_r0 : BitVec 32 := 9#32
  let c1_i32_1236_r0 : BitVec 32 := 1#32
  let arg22_r0 : BitVec 32 := Scf.iv c9_i32_1234_r0 c1_i32_1236_r0 k0_t9
  let c0_i32_1453_r0 : BitVec 32 := 0#32
  let v1720_r0 : BitVec 1 := Scalar.cmpi .eq arg22_r0 c0_i32_1453_r0
  let c11_i32_1456_r0 : BitVec 32 := 11#32
  let c1_i32_1455_r0 : BitVec 32 := 1#32
  let v1723_r0 : BitVec 32 := Scalar.subi arg22_r0 c1_i32_1455_r0
  let v1724_r0 : BitVec 32 := Scalar.select v1720_r0 c11_i32_1456_r0 v1723_r0
  let c512_i32_1461_r0 : BitVec 32 := 512#32
  let v1730_r0 : BitVec 32 := Scalar.muli v1724_r0 c512_i32_1461_r0
  let v1731_r0 : BitVec 32 := v1730_r0
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c1_i32_1454_r0 : BitVec 32 := 1#32
  let v1721_r0 : BitVec 32 := Scalar.subi v1286_r0 c1_i32_1454_r0
  let v1722_r0 : BitVec 32 := Scalar.select v1720_r0 v1721_r0 v1286_r0
  let c4_i32_1458_r0 : BitVec 32 := 4#32
  let v1726_r0 : BitVec 32 := Scalar.muli v1722_r0 c4_i32_1458_r0
  let c63_i32_1459_r0 : BitVec 32 := 63#32
  let v1727_r0 : BitVec 32 := Scalar.minsi v1726_r0 c63_i32_1459_r0
  let c128_i32_1460_r0 : BitVec 32 := 128#32
  let v1728_r0 : BitVec 32 := Scalar.muli v1727_r0 c128_i32_1460_r0
  let v1729_r0 : BitVec 32 := v1728_r0
  ![v1731_r0.toNat, v1729_r0.toNat]
def k0_off318 (k0_t5 : Fin k0_t5_loop.trips) (k0_t9 : Fin k0_t9_loop.trips) : Fin 3 → Nat :=
  let c1_i32_1457_r0 : BitVec 32 := 1#32
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c12_i32_1451_r0 : BitVec 32 := 12#32
  let v1717_r0 : BitVec 32 := Scalar.muli v1286_r0 c12_i32_1451_r0
  let c9_i32_1234_r0 : BitVec 32 := 9#32
  let c1_i32_1236_r0 : BitVec 32 := 1#32
  let arg22_r0 : BitVec 32 := Scf.iv c9_i32_1234_r0 c1_i32_1236_r0 k0_t9
  let v1718_r0 : BitVec 32 := Scalar.addi v1717_r0 arg22_r0
  let c2_i32_1452_r0 : BitVec 32 := 2#32
  let v1719_r0 : BitVec 32 := Scalar.remsi v1718_r0 c2_i32_1452_r0
  let v1725_r0 : BitVec 32 := Scalar.subi c1_i32_1457_r0 v1719_r0
  let c0_i32_1462_r0 : BitVec 32 := 0#32
  let c0_i32_1463_r0 : BitVec 32 := 0#32
  ![v1725_r0.toNat, 0, 0]
def k0_mult356 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c4_i32_1464_r0 : BitVec 32 := 4#32
  let v1737_r0 : BitVec 32 := Scalar.muli v1286_r0 c4_i32_1464_r0
  let c63_i32_1465_r0 : BitVec 32 := 63#32
  let v1738_r0 : BitVec 32 := Scalar.minsi v1737_r0 c63_i32_1465_r0
  let c128_i32_1466_r0 : BitVec 32 := 128#32
  let v1739_r0 : BitVec 32 := Scalar.muli v1738_r0 c128_i32_1466_r0
  v1739_r0
def k0_mult357 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1467_r0 : BitVec 32 := 512#32
  let v1741_r0 : BitVec 32 := Scalar.muli arg22_r0 c512_i32_1467_r0
  v1741_r0
def k0_off319 (k0_t5 : Fin k0_t5_loop.trips) (k0_t9 : Fin k0_t9_loop.trips) : Fin 1 → Nat :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c12_i32_1451_r0 : BitVec 32 := 12#32
  let v1717_r0 : BitVec 32 := Scalar.muli v1286_r0 c12_i32_1451_r0
  let c9_i32_1234_r0 : BitVec 32 := 9#32
  let c1_i32_1236_r0 : BitVec 32 := 1#32
  let arg22_r0 : BitVec 32 := Scf.iv c9_i32_1234_r0 c1_i32_1236_r0 k0_t9
  let v1718_r0 : BitVec 32 := Scalar.addi v1717_r0 arg22_r0
  let c2_i32_1452_r0 : BitVec 32 := 2#32
  let v1719_r0 : BitVec 32 := Scalar.remsi v1718_r0 c2_i32_1452_r0
  ![v1719_r0.toNat]
def k0_off320 (k0_t5 : Fin k0_t5_loop.trips) (k0_t9 : Fin k0_t9_loop.trips) : Fin 2 → Nat :=
  let c9_i32_1234_r0 : BitVec 32 := 9#32
  let c1_i32_1236_r0 : BitVec 32 := 1#32
  let arg22_r0 : BitVec 32 := Scf.iv c9_i32_1234_r0 c1_i32_1236_r0 k0_t9
  let c512_i32_1467_r0 : BitVec 32 := 512#32
  let v1741_r0 : BitVec 32 := Scalar.muli arg22_r0 c512_i32_1467_r0
  let v1742_r0 : BitVec 32 := v1741_r0
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c4_i32_1464_r0 : BitVec 32 := 4#32
  let v1737_r0 : BitVec 32 := Scalar.muli v1286_r0 c4_i32_1464_r0
  let c63_i32_1465_r0 : BitVec 32 := 63#32
  let v1738_r0 : BitVec 32 := Scalar.minsi v1737_r0 c63_i32_1465_r0
  let c128_i32_1466_r0 : BitVec 32 := 128#32
  let v1739_r0 : BitVec 32 := Scalar.muli v1738_r0 c128_i32_1466_r0
  let v1740_r0 : BitVec 32 := v1739_r0
  ![v1742_r0.toNat, v1740_r0.toNat]
def k0_off321 (k0_t5 : Fin k0_t5_loop.trips) (k0_t9 : Fin k0_t9_loop.trips) : Fin 3 → Nat :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c12_i32_1451_r0 : BitVec 32 := 12#32
  let v1717_r0 : BitVec 32 := Scalar.muli v1286_r0 c12_i32_1451_r0
  let c9_i32_1234_r0 : BitVec 32 := 9#32
  let c1_i32_1236_r0 : BitVec 32 := 1#32
  let arg22_r0 : BitVec 32 := Scf.iv c9_i32_1234_r0 c1_i32_1236_r0 k0_t9
  let v1718_r0 : BitVec 32 := Scalar.addi v1717_r0 arg22_r0
  let c2_i32_1452_r0 : BitVec 32 := 2#32
  let v1719_r0 : BitVec 32 := Scalar.remsi v1718_r0 c2_i32_1452_r0
  let c0_i32_1468_r0 : BitVec 32 := 0#32
  let c0_i32_1469_r0 : BitVec 32 := 0#32
  ![v1719_r0.toNat, 0, 0]
def k0_mult358 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c4_i32_1470_r0 : BitVec 32 := 4#32
  let v1748_r0 : BitVec 32 := Scalar.muli v1286_r0 c4_i32_1470_r0
  let c63_i32_1471_r0 : BitVec 32 := 63#32
  let v1749_r0 : BitVec 32 := Scalar.minsi v1748_r0 c63_i32_1471_r0
  let c128_i32_1472_r0 : BitVec 32 := 128#32
  let v1750_r0 : BitVec 32 := Scalar.muli v1749_r0 c128_i32_1472_r0
  v1750_r0
def k0_mult359 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c0_i32_1474_r0 : BitVec 32 := 0#32
  let v1753_r0 : BitVec 32 := Scalar.addi v1752_r0 c0_i32_1474_r0
  v1753_r0
def k0_off322 (k0_t9 : Fin k0_t9_loop.trips) (c0_i32_1474_r0 : BitVec 32) : Fin 2 → Nat :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let v1753_r0 : BitVec 32 := Scalar.addi v1752_r0 c0_i32_1474_r0
  let v1754_r0 : BitVec 32 := v1753_r0
  let v1755_r0 : Index := Scalar.indexCast v1754_r0
  let c512_1475_r0 : Index := 512#32
  ![v1755_r0.toNat, 512]
def k0_mult360 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c0_i32_1480_r0 : BitVec 32 := 0#32
  let v1759_r0 : BitVec 32 := Scalar.addi v1752_r0 c0_i32_1480_r0
  v1759_r0
def k0_off323 (k0_t9 : Fin k0_t9_loop.trips) (c0_i32_1480_r0 : BitVec 32) : Fin 2 → Nat :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let v1759_r0 : BitVec 32 := Scalar.addi v1752_r0 c0_i32_1480_r0
  let v1760_r0 : BitVec 32 := v1759_r0
  let v1761_r0 : Index := Scalar.indexCast v1760_r0
  let c768_1481_r0 : Index := 768#32
  ![v1761_r0.toNat, 768]
def k0_mult361 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c0_i32_1486_r0 : BitVec 32 := 0#32
  let v1765_r0 : BitVec 32 := Scalar.addi v1752_r0 c0_i32_1486_r0
  v1765_r0
def k0_off324 (k0_t9 : Fin k0_t9_loop.trips) (c0_i32_1486_r0 : BitVec 32) : Fin 2 → Nat :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let v1765_r0 : BitVec 32 := Scalar.addi v1752_r0 c0_i32_1486_r0
  let v1766_r0 : BitVec 32 := v1765_r0
  let v1767_r0 : Index := Scalar.indexCast v1766_r0
  let c1024_1487_r0 : Index := 1024#32
  ![v1767_r0.toNat, 1024]
def k0_mult362 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c0_i32_1492_r0 : BitVec 32 := 0#32
  let v1771_r0 : BitVec 32 := Scalar.addi v1752_r0 c0_i32_1492_r0
  v1771_r0
def k0_off325 (k0_t9 : Fin k0_t9_loop.trips) (c0_i32_1492_r0 : BitVec 32) : Fin 2 → Nat :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let v1771_r0 : BitVec 32 := Scalar.addi v1752_r0 c0_i32_1492_r0
  let v1772_r0 : BitVec 32 := v1771_r0
  let v1773_r0 : Index := Scalar.indexCast v1772_r0
  let c1280_1493_r0 : Index := 1280#32
  ![v1773_r0.toNat, 1280]
def k0_mult363 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c0_i32_1498_r0 : BitVec 32 := 0#32
  let v1777_r0 : BitVec 32 := Scalar.addi v1752_r0 c0_i32_1498_r0
  v1777_r0
def k0_off326 (k0_t9 : Fin k0_t9_loop.trips) (c0_i32_1498_r0 : BitVec 32) : Fin 2 → Nat :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let v1777_r0 : BitVec 32 := Scalar.addi v1752_r0 c0_i32_1498_r0
  let v1778_r0 : BitVec 32 := v1777_r0
  let v1779_r0 : Index := Scalar.indexCast v1778_r0
  let c1536_1499_r0 : Index := 1536#32
  ![v1779_r0.toNat, 1536]
def k0_mult364 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c0_i32_1504_r0 : BitVec 32 := 0#32
  let v1783_r0 : BitVec 32 := Scalar.addi v1752_r0 c0_i32_1504_r0
  v1783_r0
def k0_off327 (k0_t9 : Fin k0_t9_loop.trips) (c0_i32_1504_r0 : BitVec 32) : Fin 2 → Nat :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let v1783_r0 : BitVec 32 := Scalar.addi v1752_r0 c0_i32_1504_r0
  let v1784_r0 : BitVec 32 := v1783_r0
  let v1785_r0 : Index := Scalar.indexCast v1784_r0
  let c1792_1505_r0 : Index := 1792#32
  ![v1785_r0.toNat, 1792]
def k0_mult365 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c0_i32_1510_r0 : BitVec 32 := 0#32
  let v1789_r0 : BitVec 32 := Scalar.addi v1752_r0 c0_i32_1510_r0
  v1789_r0
def k0_off328 (k0_t9 : Fin k0_t9_loop.trips) (c0_i32_1510_r0 : BitVec 32) : Fin 2 → Nat :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let v1789_r0 : BitVec 32 := Scalar.addi v1752_r0 c0_i32_1510_r0
  let v1790_r0 : BitVec 32 := v1789_r0
  let v1791_r0 : Index := Scalar.indexCast v1790_r0
  let c2048_1511_r0 : Index := 2048#32
  ![v1791_r0.toNat, 2048]
def k0_mult366 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c0_i32_1516_r0 : BitVec 32 := 0#32
  let v1795_r0 : BitVec 32 := Scalar.addi v1752_r0 c0_i32_1516_r0
  v1795_r0
def k0_off329 (k0_t9 : Fin k0_t9_loop.trips) (c0_i32_1516_r0 : BitVec 32) : Fin 2 → Nat :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let v1795_r0 : BitVec 32 := Scalar.addi v1752_r0 c0_i32_1516_r0
  let v1796_r0 : BitVec 32 := v1795_r0
  let v1797_r0 : Index := Scalar.indexCast v1796_r0
  let c2304_1517_r0 : Index := 2304#32
  ![v1797_r0.toNat, 2304]
def k0_mult367 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c0_i32_1522_r0 : BitVec 32 := 0#32
  let v1801_r0 : BitVec 32 := Scalar.addi v1752_r0 c0_i32_1522_r0
  v1801_r0
def k0_off330 (k0_t9 : Fin k0_t9_loop.trips) (c0_i32_1522_r0 : BitVec 32) : Fin 2 → Nat :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let v1801_r0 : BitVec 32 := Scalar.addi v1752_r0 c0_i32_1522_r0
  let v1802_r0 : BitVec 32 := v1801_r0
  let v1803_r0 : Index := Scalar.indexCast v1802_r0
  let c2560_1523_r0 : Index := 2560#32
  ![v1803_r0.toNat, 2560]
def k0_mult368 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c0_i32_1528_r0 : BitVec 32 := 0#32
  let v1807_r0 : BitVec 32 := Scalar.addi v1752_r0 c0_i32_1528_r0
  v1807_r0
def k0_off331 (k0_t9 : Fin k0_t9_loop.trips) (c0_i32_1528_r0 : BitVec 32) : Fin 2 → Nat :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let v1807_r0 : BitVec 32 := Scalar.addi v1752_r0 c0_i32_1528_r0
  let v1808_r0 : BitVec 32 := v1807_r0
  let v1809_r0 : Index := Scalar.indexCast v1808_r0
  let c2816_1529_r0 : Index := 2816#32
  ![v1809_r0.toNat, 2816]
def k0_mult369 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c0_i32_1534_r0 : BitVec 32 := 0#32
  let v1813_r0 : BitVec 32 := Scalar.addi v1752_r0 c0_i32_1534_r0
  v1813_r0
def k0_off332 (k0_t9 : Fin k0_t9_loop.trips) (c0_i32_1534_r0 : BitVec 32) : Fin 2 → Nat :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let v1813_r0 : BitVec 32 := Scalar.addi v1752_r0 c0_i32_1534_r0
  let v1814_r0 : BitVec 32 := v1813_r0
  let v1815_r0 : Index := Scalar.indexCast v1814_r0
  let c3072_1535_r0 : Index := 3072#32
  ![v1815_r0.toNat, 3072]
def k0_mult370 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c0_i32_1540_r0 : BitVec 32 := 0#32
  let v1819_r0 : BitVec 32 := Scalar.addi v1752_r0 c0_i32_1540_r0
  v1819_r0
def k0_off333 (k0_t9 : Fin k0_t9_loop.trips) (c0_i32_1540_r0 : BitVec 32) : Fin 2 → Nat :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let v1819_r0 : BitVec 32 := Scalar.addi v1752_r0 c0_i32_1540_r0
  let v1820_r0 : BitVec 32 := v1819_r0
  let v1821_r0 : Index := Scalar.indexCast v1820_r0
  let c3328_1541_r0 : Index := 3328#32
  ![v1821_r0.toNat, 3328]
def k0_mult371 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c256_i32_1546_r0 : BitVec 32 := 256#32
  let v1826_r0 : BitVec 32 := Scalar.addi v1752_r0 c256_i32_1546_r0
  v1826_r0
def k0_off334 (k0_t9 : Fin k0_t9_loop.trips) : Fin 2 → Nat :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c256_i32_1546_r0 : BitVec 32 := 256#32
  let v1826_r0 : BitVec 32 := Scalar.addi v1752_r0 c256_i32_1546_r0
  let v1827_r0 : BitVec 32 := v1826_r0
  let v1828_r0 : Index := Scalar.indexCast v1827_r0
  let c0_1547_r0 : Index := 0#32
  ![v1828_r0.toNat, 0]
def k0_mult372 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c256_i32_1546_r0 : BitVec 32 := 256#32
  let v1826_r0 : BitVec 32 := Scalar.addi v1752_r0 c256_i32_1546_r0
  v1826_r0
def k0_off335 (k0_t9 : Fin k0_t9_loop.trips) : Fin 2 → Nat :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c256_i32_1546_r0 : BitVec 32 := 256#32
  let v1826_r0 : BitVec 32 := Scalar.addi v1752_r0 c256_i32_1546_r0
  let v1832_r0 : BitVec 32 := v1826_r0
  let v1833_r0 : Index := Scalar.indexCast v1832_r0
  let c256_1552_r0 : Index := 256#32
  ![v1833_r0.toNat, 256]
def k0_mult373 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c4_i32_1470_r0 : BitVec 32 := 4#32
  let v1748_r0 : BitVec 32 := Scalar.muli v1286_r0 c4_i32_1470_r0
  let c63_i32_1471_r0 : BitVec 32 := 63#32
  let v1749_r0 : BitVec 32 := Scalar.minsi v1748_r0 c63_i32_1471_r0
  let c128_i32_1472_r0 : BitVec 32 := 128#32
  let v1750_r0 : BitVec 32 := Scalar.muli v1749_r0 c128_i32_1472_r0
  let v1751_r0 : BitVec 32 := v1750_r0
  let c0_i32_1557_r0 : BitVec 32 := 0#32
  let v1837_r0 : BitVec 32 := Scalar.addi v1751_r0 c0_i32_1557_r0
  v1837_r0
def k0_off336 (k0_t5 : Fin k0_t5_loop.trips) (c0_i32_1557_r0 : BitVec 32) : Fin 2 → Nat :=
  let c0_1558_r0 : Index := 0#32
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c4_i32_1470_r0 : BitVec 32 := 4#32
  let v1748_r0 : BitVec 32 := Scalar.muli v1286_r0 c4_i32_1470_r0
  let c63_i32_1471_r0 : BitVec 32 := 63#32
  let v1749_r0 : BitVec 32 := Scalar.minsi v1748_r0 c63_i32_1471_r0
  let c128_i32_1472_r0 : BitVec 32 := 128#32
  let v1750_r0 : BitVec 32 := Scalar.muli v1749_r0 c128_i32_1472_r0
  let v1751_r0 : BitVec 32 := v1750_r0
  let v1837_r0 : BitVec 32 := Scalar.addi v1751_r0 c0_i32_1557_r0
  let v1838_r0 : BitVec 32 := v1837_r0
  let v1839_r0 : Index := Scalar.indexCast v1838_r0
  ![0, v1839_r0.toNat]
def k0_off337 (k0_t5 : Fin k0_t5_loop.trips) (k0_t9 : Fin k0_t9_loop.trips) : Fin 3 → Nat :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c12_i32_1451_r0 : BitVec 32 := 12#32
  let v1717_r0 : BitVec 32 := Scalar.muli v1286_r0 c12_i32_1451_r0
  let c9_i32_1234_r0 : BitVec 32 := 9#32
  let c1_i32_1236_r0 : BitVec 32 := 1#32
  let arg22_r0 : BitVec 32 := Scf.iv c9_i32_1234_r0 c1_i32_1236_r0 k0_t9
  let v1718_r0 : BitVec 32 := Scalar.addi v1717_r0 arg22_r0
  let c2_i32_1452_r0 : BitVec 32 := 2#32
  let v1719_r0 : BitVec 32 := Scalar.remsi v1718_r0 c2_i32_1452_r0
  let v1846_r0 : Index := Scalar.indexCast v1719_r0
  let c0_1559_r0 : Index := 0#32
  let c0_1560_r0 : Index := 0#32
  ![v1846_r0.toNat, 0, 0]
def k0_mult374 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c4_i32_1470_r0 : BitVec 32 := 4#32
  let v1748_r0 : BitVec 32 := Scalar.muli v1286_r0 c4_i32_1470_r0
  let c63_i32_1471_r0 : BitVec 32 := 63#32
  let v1749_r0 : BitVec 32 := Scalar.minsi v1748_r0 c63_i32_1471_r0
  let c128_i32_1472_r0 : BitVec 32 := 128#32
  let v1750_r0 : BitVec 32 := Scalar.muli v1749_r0 c128_i32_1472_r0
  let v1751_r0 : BitVec 32 := v1750_r0
  let c256_i32_1561_r0 : BitVec 32 := 256#32
  let v1850_r0 : BitVec 32 := Scalar.addi v1751_r0 c256_i32_1561_r0
  v1850_r0
def k0_off338 (k0_t5 : Fin k0_t5_loop.trips) (k0_t9 : Fin k0_t9_loop.trips) : Fin 3 → Nat :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c12_i32_1451_r0 : BitVec 32 := 12#32
  let v1717_r0 : BitVec 32 := Scalar.muli v1286_r0 c12_i32_1451_r0
  let c9_i32_1234_r0 : BitVec 32 := 9#32
  let c1_i32_1236_r0 : BitVec 32 := 1#32
  let arg22_r0 : BitVec 32 := Scf.iv c9_i32_1234_r0 c1_i32_1236_r0 k0_t9
  let v1718_r0 : BitVec 32 := Scalar.addi v1717_r0 arg22_r0
  let c2_i32_1452_r0 : BitVec 32 := 2#32
  let v1719_r0 : BitVec 32 := Scalar.remsi v1718_r0 c2_i32_1452_r0
  let v1859_r0 : Index := Scalar.indexCast v1719_r0
  let c0_1563_r0 : Index := 0#32
  let c256_1564_r0 : Index := 256#32
  ![v1859_r0.toNat, 0, 256]
def k0_mult375 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c256_i32_1565_r0 : BitVec 32 := 256#32
  let v1863_r0 : BitVec 32 := Scalar.addi v1752_r0 c256_i32_1565_r0
  v1863_r0
def k0_mult376 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c256_i32_1571_r0 : BitVec 32 := 256#32
  let v1869_r0 : BitVec 32 := Scalar.addi v1752_r0 c256_i32_1571_r0
  v1869_r0
def k0_mult377 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c256_i32_1577_r0 : BitVec 32 := 256#32
  let v1875_r0 : BitVec 32 := Scalar.addi v1752_r0 c256_i32_1577_r0
  v1875_r0
def k0_mult378 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c256_i32_1583_r0 : BitVec 32 := 256#32
  let v1881_r0 : BitVec 32 := Scalar.addi v1752_r0 c256_i32_1583_r0
  v1881_r0
def k0_mult379 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c256_i32_1589_r0 : BitVec 32 := 256#32
  let v1887_r0 : BitVec 32 := Scalar.addi v1752_r0 c256_i32_1589_r0
  v1887_r0
def k0_mult380 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c256_i32_1595_r0 : BitVec 32 := 256#32
  let v1893_r0 : BitVec 32 := Scalar.addi v1752_r0 c256_i32_1595_r0
  v1893_r0
def k0_mult381 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c256_i32_1601_r0 : BitVec 32 := 256#32
  let v1899_r0 : BitVec 32 := Scalar.addi v1752_r0 c256_i32_1601_r0
  v1899_r0
def k0_mult382 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c256_i32_1607_r0 : BitVec 32 := 256#32
  let v1905_r0 : BitVec 32 := Scalar.addi v1752_r0 c256_i32_1607_r0
  v1905_r0
def k0_mult383 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c256_i32_1613_r0 : BitVec 32 := 256#32
  let v1911_r0 : BitVec 32 := Scalar.addi v1752_r0 c256_i32_1613_r0
  v1911_r0
def k0_mult384 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c256_i32_1619_r0 : BitVec 32 := 256#32
  let v1917_r0 : BitVec 32 := Scalar.addi v1752_r0 c256_i32_1619_r0
  v1917_r0
def k0_mult385 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c256_i32_1625_r0 : BitVec 32 := 256#32
  let v1923_r0 : BitVec 32 := Scalar.addi v1752_r0 c256_i32_1625_r0
  v1923_r0
def k0_mult386 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c512_i32_1473_r0 : BitVec 32 := 512#32
  let v1752_r0 : BitVec 32 := Scalar.muli arg22_r0 c512_i32_1473_r0
  let c256_i32_1631_r0 : BitVec 32 := 256#32
  let v1929_r0 : BitVec 32 := Scalar.addi v1752_r0 c256_i32_1631_r0
  v1929_r0
def k0_mult387 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c1_i32_1449_r0 : BitVec 32 := 1#32
  let v1715_r0 : BitVec 32 := Scalar.addi arg22_r0 c1_i32_1449_r0
  let c512_i32_1450_r0 : BitVec 32 := 512#32
  let v1716_r0 : BitVec 32 := Scalar.muli v1715_r0 c512_i32_1450_r0
  v1716_r0
def k0_off339 (k0_t9 : Fin k0_t9_loop.trips) : Fin 2 → Nat :=
  let c9_i32_1234_r0 : BitVec 32 := 9#32
  let c1_i32_1236_r0 : BitVec 32 := 1#32
  let arg22_r0 : BitVec 32 := Scf.iv c9_i32_1234_r0 c1_i32_1236_r0 k0_t9
  let c1_i32_1449_r0 : BitVec 32 := 1#32
  let v1715_r0 : BitVec 32 := Scalar.addi arg22_r0 c1_i32_1449_r0
  let c512_i32_1450_r0 : BitVec 32 := 512#32
  let v1716_r0 : BitVec 32 := Scalar.muli v1715_r0 c512_i32_1450_r0
  let v1936_r0 : BitVec 32 := v1716_r0
  let v1937_r0 : Index := Scalar.indexCast v1936_r0
  let c0_1637_r0 : Index := 0#32
  ![v1937_r0.toNat, 0]
def k0_mult388 (k0_t9 : Fin k0_t9_loop.trips) : BitVec 32 :=
  let c9_i32_1234_r0 : BitVec 32 := 9#32
  let c1_i32_1236_r0 : BitVec 32 := 1#32
  let arg22_r0 : BitVec 32 := Scf.iv c9_i32_1234_r0 c1_i32_1236_r0 k0_t9
  let c1_i32_1449_r0 : BitVec 32 := 1#32
  let v1715_r0 : BitVec 32 := Scalar.addi arg22_r0 c1_i32_1449_r0
  let c512_i32_1450_r0 : BitVec 32 := 512#32
  let v1716_r0 : BitVec 32 := Scalar.muli v1715_r0 c512_i32_1450_r0
  v1716_r0
def k0_off340 (k0_t9 : Fin k0_t9_loop.trips) : Fin 2 → Nat :=
  let c9_i32_1234_r0 : BitVec 32 := 9#32
  let c1_i32_1236_r0 : BitVec 32 := 1#32
  let arg22_r0 : BitVec 32 := Scf.iv c9_i32_1234_r0 c1_i32_1236_r0 k0_t9
  let c1_i32_1449_r0 : BitVec 32 := 1#32
  let v1715_r0 : BitVec 32 := Scalar.addi arg22_r0 c1_i32_1449_r0
  let c512_i32_1450_r0 : BitVec 32 := 512#32
  let v1716_r0 : BitVec 32 := Scalar.muli v1715_r0 c512_i32_1450_r0
  let v1941_r0 : BitVec 32 := v1716_r0
  let v1942_r0 : Index := Scalar.indexCast v1941_r0
  let c256_1642_r0 : Index := 256#32
  ![v1942_r0.toNat, 256]
def k0_mult389 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c4_i32_1470_r0 : BitVec 32 := 4#32
  let v1748_r0 : BitVec 32 := Scalar.muli v1286_r0 c4_i32_1470_r0
  let c63_i32_1471_r0 : BitVec 32 := 63#32
  let v1749_r0 : BitVec 32 := Scalar.minsi v1748_r0 c63_i32_1471_r0
  let c128_i32_1472_r0 : BitVec 32 := 128#32
  let v1750_r0 : BitVec 32 := Scalar.muli v1749_r0 c128_i32_1472_r0
  let v1751_r0 : BitVec 32 := v1750_r0
  let c0_i32_1647_r0 : BitVec 32 := 0#32
  let v1946_r0 : BitVec 32 := Scalar.addi v1751_r0 c0_i32_1647_r0
  v1946_r0
def k0_off341 (k0_t5 : Fin k0_t5_loop.trips) (k0_t9 : Fin k0_t9_loop.trips) : Fin 3 → Nat :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c12_i32_1451_r0 : BitVec 32 := 12#32
  let v1717_r0 : BitVec 32 := Scalar.muli v1286_r0 c12_i32_1451_r0
  let c9_i32_1234_r0 : BitVec 32 := 9#32
  let c1_i32_1236_r0 : BitVec 32 := 1#32
  let arg22_r0 : BitVec 32 := Scf.iv c9_i32_1234_r0 c1_i32_1236_r0 k0_t9
  let v1718_r0 : BitVec 32 := Scalar.addi v1717_r0 arg22_r0
  let c2_i32_1452_r0 : BitVec 32 := 2#32
  let v1719_r0 : BitVec 32 := Scalar.remsi v1718_r0 c2_i32_1452_r0
  let v1955_r0 : Index := Scalar.indexCast v1719_r0
  let c256_1649_r0 : Index := 256#32
  let c0_1650_r0 : Index := 0#32
  ![v1955_r0.toNat, 256, 0]
def k0_mult390 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c4_i32_1470_r0 : BitVec 32 := 4#32
  let v1748_r0 : BitVec 32 := Scalar.muli v1286_r0 c4_i32_1470_r0
  let c63_i32_1471_r0 : BitVec 32 := 63#32
  let v1749_r0 : BitVec 32 := Scalar.minsi v1748_r0 c63_i32_1471_r0
  let c128_i32_1472_r0 : BitVec 32 := 128#32
  let v1750_r0 : BitVec 32 := Scalar.muli v1749_r0 c128_i32_1472_r0
  let v1751_r0 : BitVec 32 := v1750_r0
  let c256_i32_1651_r0 : BitVec 32 := 256#32
  let v1959_r0 : BitVec 32 := Scalar.addi v1751_r0 c256_i32_1651_r0
  v1959_r0
def k0_off342 (k0_t5 : Fin k0_t5_loop.trips) (k0_t9 : Fin k0_t9_loop.trips) : Fin 3 → Nat :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c12_i32_1451_r0 : BitVec 32 := 12#32
  let v1717_r0 : BitVec 32 := Scalar.muli v1286_r0 c12_i32_1451_r0
  let c9_i32_1234_r0 : BitVec 32 := 9#32
  let c1_i32_1236_r0 : BitVec 32 := 1#32
  let arg22_r0 : BitVec 32 := Scf.iv c9_i32_1234_r0 c1_i32_1236_r0 k0_t9
  let v1718_r0 : BitVec 32 := Scalar.addi v1717_r0 arg22_r0
  let c2_i32_1452_r0 : BitVec 32 := 2#32
  let v1719_r0 : BitVec 32 := Scalar.remsi v1718_r0 c2_i32_1452_r0
  let v1968_r0 : Index := Scalar.indexCast v1719_r0
  let c256_1653_r0 : Index := 256#32
  let c256_1654_r0 : Index := 256#32
  ![v1968_r0.toNat, 256, 256]
def k0_mult391 (k0_t5 : Fin k0_t5_loop.trips) : BitVec 32 :=
  let c11_i32_1241_r0 : BitVec 32 := 11#32
  let c0_i32_1242_r0 : BitVec 32 := 0#32
  let v1463_r0 : BitVec 1 := Scalar.cmpi .eq c11_i32_1241_r0 c0_i32_1242_r0
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c1_i32_1243_r0 : BitVec 32 := 1#32
  let v1464_r0 : BitVec 32 := Scalar.subi v1286_r0 c1_i32_1243_r0
  let v1465_r0 : BitVec 32 := Scalar.select v1463_r0 v1464_r0 v1286_r0
  let c4_i32_1248_r0 : BitVec 32 := 4#32
  let v1469_r0 : BitVec 32 := Scalar.muli v1465_r0 c4_i32_1248_r0
  let c63_i32_1249_r0 : BitVec 32 := 63#32
  let v1470_r0 : BitVec 32 := Scalar.minsi v1469_r0 c63_i32_1249_r0
  let c128_i32_1250_r0 : BitVec 32 := 128#32
  let v1471_r0 : BitVec 32 := Scalar.muli v1470_r0 c128_i32_1250_r0
  v1471_r0
def k0_mult392 : BitVec 32 :=
  let c11_i32_1241_r0 : BitVec 32 := 11#32
  let c0_i32_1242_r0 : BitVec 32 := 0#32
  let v1463_r0 : BitVec 1 := Scalar.cmpi .eq c11_i32_1241_r0 c0_i32_1242_r0
  let c11_i32_1246_r0 : BitVec 32 := 11#32
  let c11_i32_1244_r0 : BitVec 32 := 11#32
  let c1_i32_1245_r0 : BitVec 32 := 1#32
  let v1466_r0 : BitVec 32 := Scalar.subi c11_i32_1244_r0 c1_i32_1245_r0
  let v1467_r0 : BitVec 32 := Scalar.select v1463_r0 c11_i32_1246_r0 v1466_r0
  let c512_i32_1251_r0 : BitVec 32 := 512#32
  let v1473_r0 : BitVec 32 := Scalar.muli v1467_r0 c512_i32_1251_r0
  v1473_r0
def k0_mult393 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c4_i32_1254_r0 : BitVec 32 := 4#32
  let v1480_r0 : BitVec 32 := Scalar.muli v1286_r0 c4_i32_1254_r0
  let c63_i32_1255_r0 : BitVec 32 := 63#32
  let v1481_r0 : BitVec 32 := Scalar.minsi v1480_r0 c63_i32_1255_r0
  let c128_i32_1256_r0 : BitVec 32 := 128#32
  let v1482_r0 : BitVec 32 := Scalar.muli v1481_r0 c128_i32_1256_r0
  v1482_r0
def k0_mult394 : BitVec 32 :=
  let c11_i32_1257_r0 : BitVec 32 := 11#32
  let c512_i32_1258_r0 : BitVec 32 := 512#32
  let v1484_r0 : BitVec 32 := Scalar.muli c11_i32_1257_r0 c512_i32_1258_r0
  v1484_r0
def k0_mult395 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c4_i32_1261_r0 : BitVec 32 := 4#32
  let v1491_r0 : BitVec 32 := Scalar.muli v1286_r0 c4_i32_1261_r0
  let c63_i32_1262_r0 : BitVec 32 := 63#32
  let v1492_r0 : BitVec 32 := Scalar.minsi v1491_r0 c63_i32_1262_r0
  let c128_i32_1263_r0 : BitVec 32 := 128#32
  let v1493_r0 : BitVec 32 := Scalar.muli v1492_r0 c128_i32_1263_r0
  v1493_r0
def k0_mult396 : BitVec 32 :=
  let c11_i32_1264_r0 : BitVec 32 := 11#32
  let c512_i32_1265_r0 : BitVec 32 := 512#32
  let v1495_r0 : BitVec 32 := Scalar.muli c11_i32_1264_r0 c512_i32_1265_r0
  let c0_i32_1266_r0 : BitVec 32 := 0#32
  let v1496_r0 : BitVec 32 := Scalar.addi v1495_r0 c0_i32_1266_r0
  v1496_r0
def k0_mult397 : BitVec 32 :=
  let c11_i32_1264_r0 : BitVec 32 := 11#32
  let c512_i32_1265_r0 : BitVec 32 := 512#32
  let v1495_r0 : BitVec 32 := Scalar.muli c11_i32_1264_r0 c512_i32_1265_r0
  let c0_i32_1272_r0 : BitVec 32 := 0#32
  let v1502_r0 : BitVec 32 := Scalar.addi v1495_r0 c0_i32_1272_r0
  v1502_r0
def k0_mult398 : BitVec 32 :=
  let c11_i32_1264_r0 : BitVec 32 := 11#32
  let c512_i32_1265_r0 : BitVec 32 := 512#32
  let v1495_r0 : BitVec 32 := Scalar.muli c11_i32_1264_r0 c512_i32_1265_r0
  let c0_i32_1278_r0 : BitVec 32 := 0#32
  let v1508_r0 : BitVec 32 := Scalar.addi v1495_r0 c0_i32_1278_r0
  v1508_r0
def k0_mult399 : BitVec 32 :=
  let c11_i32_1264_r0 : BitVec 32 := 11#32
  let c512_i32_1265_r0 : BitVec 32 := 512#32
  let v1495_r0 : BitVec 32 := Scalar.muli c11_i32_1264_r0 c512_i32_1265_r0
  let c0_i32_1284_r0 : BitVec 32 := 0#32
  let v1514_r0 : BitVec 32 := Scalar.addi v1495_r0 c0_i32_1284_r0
  v1514_r0
def k0_mult400 : BitVec 32 :=
  let c11_i32_1264_r0 : BitVec 32 := 11#32
  let c512_i32_1265_r0 : BitVec 32 := 512#32
  let v1495_r0 : BitVec 32 := Scalar.muli c11_i32_1264_r0 c512_i32_1265_r0
  let c0_i32_1290_r0 : BitVec 32 := 0#32
  let v1520_r0 : BitVec 32 := Scalar.addi v1495_r0 c0_i32_1290_r0
  v1520_r0
def k0_mult401 : BitVec 32 :=
  let c11_i32_1264_r0 : BitVec 32 := 11#32
  let c512_i32_1265_r0 : BitVec 32 := 512#32
  let v1495_r0 : BitVec 32 := Scalar.muli c11_i32_1264_r0 c512_i32_1265_r0
  let c0_i32_1296_r0 : BitVec 32 := 0#32
  let v1526_r0 : BitVec 32 := Scalar.addi v1495_r0 c0_i32_1296_r0
  v1526_r0
def k0_mult402 : BitVec 32 :=
  let c11_i32_1264_r0 : BitVec 32 := 11#32
  let c512_i32_1265_r0 : BitVec 32 := 512#32
  let v1495_r0 : BitVec 32 := Scalar.muli c11_i32_1264_r0 c512_i32_1265_r0
  let c0_i32_1302_r0 : BitVec 32 := 0#32
  let v1532_r0 : BitVec 32 := Scalar.addi v1495_r0 c0_i32_1302_r0
  v1532_r0
def k0_mult403 : BitVec 32 :=
  let c11_i32_1264_r0 : BitVec 32 := 11#32
  let c512_i32_1265_r0 : BitVec 32 := 512#32
  let v1495_r0 : BitVec 32 := Scalar.muli c11_i32_1264_r0 c512_i32_1265_r0
  let c0_i32_1308_r0 : BitVec 32 := 0#32
  let v1538_r0 : BitVec 32 := Scalar.addi v1495_r0 c0_i32_1308_r0
  v1538_r0
def k0_mult404 : BitVec 32 :=
  let c11_i32_1264_r0 : BitVec 32 := 11#32
  let c512_i32_1265_r0 : BitVec 32 := 512#32
  let v1495_r0 : BitVec 32 := Scalar.muli c11_i32_1264_r0 c512_i32_1265_r0
  let c0_i32_1314_r0 : BitVec 32 := 0#32
  let v1544_r0 : BitVec 32 := Scalar.addi v1495_r0 c0_i32_1314_r0
  v1544_r0
def k0_mult405 : BitVec 32 :=
  let c11_i32_1264_r0 : BitVec 32 := 11#32
  let c512_i32_1265_r0 : BitVec 32 := 512#32
  let v1495_r0 : BitVec 32 := Scalar.muli c11_i32_1264_r0 c512_i32_1265_r0
  let c0_i32_1320_r0 : BitVec 32 := 0#32
  let v1550_r0 : BitVec 32 := Scalar.addi v1495_r0 c0_i32_1320_r0
  v1550_r0
def k0_mult406 : BitVec 32 :=
  let c11_i32_1264_r0 : BitVec 32 := 11#32
  let c512_i32_1265_r0 : BitVec 32 := 512#32
  let v1495_r0 : BitVec 32 := Scalar.muli c11_i32_1264_r0 c512_i32_1265_r0
  let c0_i32_1326_r0 : BitVec 32 := 0#32
  let v1556_r0 : BitVec 32 := Scalar.addi v1495_r0 c0_i32_1326_r0
  v1556_r0
def k0_mult407 : BitVec 32 :=
  let c11_i32_1264_r0 : BitVec 32 := 11#32
  let c512_i32_1265_r0 : BitVec 32 := 512#32
  let v1495_r0 : BitVec 32 := Scalar.muli c11_i32_1264_r0 c512_i32_1265_r0
  let c0_i32_1332_r0 : BitVec 32 := 0#32
  let v1562_r0 : BitVec 32 := Scalar.addi v1495_r0 c0_i32_1332_r0
  v1562_r0
def k0_mult408 : BitVec 32 :=
  let c11_i32_1264_r0 : BitVec 32 := 11#32
  let c512_i32_1265_r0 : BitVec 32 := 512#32
  let v1495_r0 : BitVec 32 := Scalar.muli c11_i32_1264_r0 c512_i32_1265_r0
  let c256_i32_1338_r0 : BitVec 32 := 256#32
  let v1569_r0 : BitVec 32 := Scalar.addi v1495_r0 c256_i32_1338_r0
  v1569_r0
def k0_mult409 : BitVec 32 :=
  let c11_i32_1264_r0 : BitVec 32 := 11#32
  let c512_i32_1265_r0 : BitVec 32 := 512#32
  let v1495_r0 : BitVec 32 := Scalar.muli c11_i32_1264_r0 c512_i32_1265_r0
  let c256_i32_1338_r0 : BitVec 32 := 256#32
  let v1569_r0 : BitVec 32 := Scalar.addi v1495_r0 c256_i32_1338_r0
  v1569_r0
def k0_mult410 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c4_i32_1261_r0 : BitVec 32 := 4#32
  let v1491_r0 : BitVec 32 := Scalar.muli v1286_r0 c4_i32_1261_r0
  let c63_i32_1262_r0 : BitVec 32 := 63#32
  let v1492_r0 : BitVec 32 := Scalar.minsi v1491_r0 c63_i32_1262_r0
  let c128_i32_1263_r0 : BitVec 32 := 128#32
  let v1493_r0 : BitVec 32 := Scalar.muli v1492_r0 c128_i32_1263_r0
  let v1494_r0 : BitVec 32 := v1493_r0
  let c0_i32_1349_r0 : BitVec 32 := 0#32
  let v1580_r0 : BitVec 32 := Scalar.addi v1494_r0 c0_i32_1349_r0
  v1580_r0
def k0_mult411 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c4_i32_1261_r0 : BitVec 32 := 4#32
  let v1491_r0 : BitVec 32 := Scalar.muli v1286_r0 c4_i32_1261_r0
  let c63_i32_1262_r0 : BitVec 32 := 63#32
  let v1492_r0 : BitVec 32 := Scalar.minsi v1491_r0 c63_i32_1262_r0
  let c128_i32_1263_r0 : BitVec 32 := 128#32
  let v1493_r0 : BitVec 32 := Scalar.muli v1492_r0 c128_i32_1263_r0
  let v1494_r0 : BitVec 32 := v1493_r0
  let c256_i32_1353_r0 : BitVec 32 := 256#32
  let v1593_r0 : BitVec 32 := Scalar.addi v1494_r0 c256_i32_1353_r0
  v1593_r0
def k0_mult412 : BitVec 32 :=
  let c11_i32_1264_r0 : BitVec 32 := 11#32
  let c512_i32_1265_r0 : BitVec 32 := 512#32
  let v1495_r0 : BitVec 32 := Scalar.muli c11_i32_1264_r0 c512_i32_1265_r0
  let c256_i32_1357_r0 : BitVec 32 := 256#32
  let v1606_r0 : BitVec 32 := Scalar.addi v1495_r0 c256_i32_1357_r0
  v1606_r0
def k0_mult413 : BitVec 32 :=
  let c11_i32_1264_r0 : BitVec 32 := 11#32
  let c512_i32_1265_r0 : BitVec 32 := 512#32
  let v1495_r0 : BitVec 32 := Scalar.muli c11_i32_1264_r0 c512_i32_1265_r0
  let c256_i32_1363_r0 : BitVec 32 := 256#32
  let v1612_r0 : BitVec 32 := Scalar.addi v1495_r0 c256_i32_1363_r0
  v1612_r0
def k0_mult414 : BitVec 32 :=
  let c11_i32_1264_r0 : BitVec 32 := 11#32
  let c512_i32_1265_r0 : BitVec 32 := 512#32
  let v1495_r0 : BitVec 32 := Scalar.muli c11_i32_1264_r0 c512_i32_1265_r0
  let c256_i32_1369_r0 : BitVec 32 := 256#32
  let v1618_r0 : BitVec 32 := Scalar.addi v1495_r0 c256_i32_1369_r0
  v1618_r0
def k0_mult415 : BitVec 32 :=
  let c11_i32_1264_r0 : BitVec 32 := 11#32
  let c512_i32_1265_r0 : BitVec 32 := 512#32
  let v1495_r0 : BitVec 32 := Scalar.muli c11_i32_1264_r0 c512_i32_1265_r0
  let c256_i32_1375_r0 : BitVec 32 := 256#32
  let v1624_r0 : BitVec 32 := Scalar.addi v1495_r0 c256_i32_1375_r0
  v1624_r0
def k0_mult416 : BitVec 32 :=
  let c11_i32_1264_r0 : BitVec 32 := 11#32
  let c512_i32_1265_r0 : BitVec 32 := 512#32
  let v1495_r0 : BitVec 32 := Scalar.muli c11_i32_1264_r0 c512_i32_1265_r0
  let c256_i32_1381_r0 : BitVec 32 := 256#32
  let v1630_r0 : BitVec 32 := Scalar.addi v1495_r0 c256_i32_1381_r0
  v1630_r0
def k0_mult417 : BitVec 32 :=
  let c11_i32_1264_r0 : BitVec 32 := 11#32
  let c512_i32_1265_r0 : BitVec 32 := 512#32
  let v1495_r0 : BitVec 32 := Scalar.muli c11_i32_1264_r0 c512_i32_1265_r0
  let c256_i32_1387_r0 : BitVec 32 := 256#32
  let v1636_r0 : BitVec 32 := Scalar.addi v1495_r0 c256_i32_1387_r0
  v1636_r0
def k0_mult418 : BitVec 32 :=
  let c11_i32_1264_r0 : BitVec 32 := 11#32
  let c512_i32_1265_r0 : BitVec 32 := 512#32
  let v1495_r0 : BitVec 32 := Scalar.muli c11_i32_1264_r0 c512_i32_1265_r0
  let c256_i32_1393_r0 : BitVec 32 := 256#32
  let v1642_r0 : BitVec 32 := Scalar.addi v1495_r0 c256_i32_1393_r0
  v1642_r0
def k0_mult419 : BitVec 32 :=
  let c11_i32_1264_r0 : BitVec 32 := 11#32
  let c512_i32_1265_r0 : BitVec 32 := 512#32
  let v1495_r0 : BitVec 32 := Scalar.muli c11_i32_1264_r0 c512_i32_1265_r0
  let c256_i32_1399_r0 : BitVec 32 := 256#32
  let v1648_r0 : BitVec 32 := Scalar.addi v1495_r0 c256_i32_1399_r0
  v1648_r0
def k0_mult420 : BitVec 32 :=
  let c11_i32_1264_r0 : BitVec 32 := 11#32
  let c512_i32_1265_r0 : BitVec 32 := 512#32
  let v1495_r0 : BitVec 32 := Scalar.muli c11_i32_1264_r0 c512_i32_1265_r0
  let c256_i32_1405_r0 : BitVec 32 := 256#32
  let v1654_r0 : BitVec 32 := Scalar.addi v1495_r0 c256_i32_1405_r0
  v1654_r0
def k0_mult421 : BitVec 32 :=
  let c11_i32_1264_r0 : BitVec 32 := 11#32
  let c512_i32_1265_r0 : BitVec 32 := 512#32
  let v1495_r0 : BitVec 32 := Scalar.muli c11_i32_1264_r0 c512_i32_1265_r0
  let c256_i32_1411_r0 : BitVec 32 := 256#32
  let v1660_r0 : BitVec 32 := Scalar.addi v1495_r0 c256_i32_1411_r0
  v1660_r0
def k0_mult422 : BitVec 32 :=
  let c11_i32_1264_r0 : BitVec 32 := 11#32
  let c512_i32_1265_r0 : BitVec 32 := 512#32
  let v1495_r0 : BitVec 32 := Scalar.muli c11_i32_1264_r0 c512_i32_1265_r0
  let c256_i32_1417_r0 : BitVec 32 := 256#32
  let v1666_r0 : BitVec 32 := Scalar.addi v1495_r0 c256_i32_1417_r0
  v1666_r0
def k0_mult423 : BitVec 32 :=
  let c11_i32_1264_r0 : BitVec 32 := 11#32
  let c512_i32_1265_r0 : BitVec 32 := 512#32
  let v1495_r0 : BitVec 32 := Scalar.muli c11_i32_1264_r0 c512_i32_1265_r0
  let c256_i32_1423_r0 : BitVec 32 := 256#32
  let v1672_r0 : BitVec 32 := Scalar.addi v1495_r0 c256_i32_1423_r0
  v1672_r0
def k0_mult424 : BitVec 32 :=
  let c0_i32_1429_r0 : BitVec 32 := 0#32
  c0_i32_1429_r0
def k0_mult425 : BitVec 32 :=
  let c0_i32_1435_r0 : BitVec 32 := 0#32
  c0_i32_1435_r0
def k0_mult426 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c4_i32_1261_r0 : BitVec 32 := 4#32
  let v1491_r0 : BitVec 32 := Scalar.muli v1286_r0 c4_i32_1261_r0
  let c63_i32_1262_r0 : BitVec 32 := 63#32
  let v1492_r0 : BitVec 32 := Scalar.minsi v1491_r0 c63_i32_1262_r0
  let c128_i32_1263_r0 : BitVec 32 := 128#32
  let v1493_r0 : BitVec 32 := Scalar.muli v1492_r0 c128_i32_1263_r0
  let v1494_r0 : BitVec 32 := v1493_r0
  let c0_i32_1441_r0 : BitVec 32 := 0#32
  let v1689_r0 : BitVec 32 := Scalar.addi v1494_r0 c0_i32_1441_r0
  v1689_r0
def k0_mult427 (k0_t5 : Fin k0_t5_loop.trips) : BitVec 32 :=
  let c2_i32_1083_r0 : BitVec 32 := 2#32
  let c0_i32_612_r0 : BitVec 32 := 0#32
  let c1_i32_613_r0 : BitVec 32 := 1#32
  let arg21_r0 : BitVec 32 := Scf.iv c0_i32_612_r0 c1_i32_613_r0 k0_t5
  let v1285_r0 : BitVec 32 := Scalar.muli c2_i32_1083_r0 arg21_r0
  let c2_i32_1084_r0 : BitVec 32 := 2#32
  let v1286_r0 : BitVec 32 := Scalar.addi v1285_r0 c2_i32_1084_r0
  let c4_i32_1261_r0 : BitVec 32 := 4#32
  let v1491_r0 : BitVec 32 := Scalar.muli v1286_r0 c4_i32_1261_r0
  let c63_i32_1262_r0 : BitVec 32 := 63#32
  let v1492_r0 : BitVec 32 := Scalar.minsi v1491_r0 c63_i32_1262_r0
  let c128_i32_1263_r0 : BitVec 32 := 128#32
  let v1493_r0 : BitVec 32 := Scalar.muli v1492_r0 c128_i32_1263_r0
  let v1494_r0 : BitVec 32 := v1493_r0
  let c256_i32_1445_r0 : BitVec 32 := 256#32
  let v1702_r0 : BitVec 32 := Scalar.addi v1494_r0 c256_i32_1445_r0
  v1702_r0
def k0_mult428 : BitVec 32 :=
  let c16_i32_615_r0 : BitVec 32 := 16#32
  let c4_i32_616_r0 : BitVec 32 := 4#32
  let v733_r0 : BitVec 32 := Scalar.muli c16_i32_615_r0 c4_i32_616_r0
  let c63_i32_617_r0 : BitVec 32 := 63#32
  let v734_r0 : BitVec 32 := Scalar.minsi v733_r0 c63_i32_617_r0
  let c128_i32_618_r0 : BitVec 32 := 128#32
  let v735_r0 : BitVec 32 := Scalar.muli v734_r0 c128_i32_618_r0
  v735_r0
def k0_mult429 : BitVec 32 :=
  let c11_i32_619_r0 : BitVec 32 := 11#32
  let c512_i32_620_r0 : BitVec 32 := 512#32
  let v737_r0 : BitVec 32 := Scalar.muli c11_i32_619_r0 c512_i32_620_r0
  v737_r0
def k0_mult430 : BitVec 32 :=
  let c0_i32_625_r0 : BitVec 32 := 0#32
  c0_i32_625_r0
def k0_mult431 : BitVec 32 :=
  let c16_i32_627_r0 : BitVec 32 := 16#32
  let c4_i32_628_r0 : BitVec 32 := 4#32
  let v749_r0 : BitVec 32 := Scalar.muli c16_i32_627_r0 c4_i32_628_r0
  let c63_i32_629_r0 : BitVec 32 := 63#32
  let v750_r0 : BitVec 32 := Scalar.minsi v749_r0 c63_i32_629_r0
  let c0_i32_630_r0 : BitVec 32 := 0#32
  let v751_r0 : BitVec 32 := Scalar.addi v750_r0 c0_i32_630_r0
  let c128_i32_631_r0 : BitVec 32 := 128#32
  let v752_r0 : BitVec 32 := Scalar.muli v751_r0 c128_i32_631_r0
  v752_r0
def k0_mult432 : BitVec 32 :=
  let c16_i32_627_r0 : BitVec 32 := 16#32
  let c4_i32_628_r0 : BitVec 32 := 4#32
  let v749_r0 : BitVec 32 := Scalar.muli c16_i32_627_r0 c4_i32_628_r0
  let c63_i32_629_r0 : BitVec 32 := 63#32
  let v750_r0 : BitVec 32 := Scalar.minsi v749_r0 c63_i32_629_r0
  let c1_i32_632_r0 : BitVec 32 := 1#32
  let v754_r0 : BitVec 32 := Scalar.addi v750_r0 c1_i32_632_r0
  let c128_i32_633_r0 : BitVec 32 := 128#32
  let v755_r0 : BitVec 32 := Scalar.muli v754_r0 c128_i32_633_r0
  v755_r0
def k0_mult433 : BitVec 32 :=
  let c16_i32_627_r0 : BitVec 32 := 16#32
  let c4_i32_628_r0 : BitVec 32 := 4#32
  let v749_r0 : BitVec 32 := Scalar.muli c16_i32_627_r0 c4_i32_628_r0
  let c63_i32_629_r0 : BitVec 32 := 63#32
  let v750_r0 : BitVec 32 := Scalar.minsi v749_r0 c63_i32_629_r0
  let c2_i32_634_r0 : BitVec 32 := 2#32
  let v757_r0 : BitVec 32 := Scalar.addi v750_r0 c2_i32_634_r0
  let c128_i32_635_r0 : BitVec 32 := 128#32
  let v758_r0 : BitVec 32 := Scalar.muli v757_r0 c128_i32_635_r0
  v758_r0
def k0_mult434 : BitVec 32 :=
  let c16_i32_627_r0 : BitVec 32 := 16#32
  let c4_i32_628_r0 : BitVec 32 := 4#32
  let v749_r0 : BitVec 32 := Scalar.muli c16_i32_627_r0 c4_i32_628_r0
  let c63_i32_629_r0 : BitVec 32 := 63#32
  let v750_r0 : BitVec 32 := Scalar.minsi v749_r0 c63_i32_629_r0
  let c3_i32_636_r0 : BitVec 32 := 3#32
  let v760_r0 : BitVec 32 := Scalar.addi v750_r0 c3_i32_636_r0
  let c128_i32_637_r0 : BitVec 32 := 128#32
  let v761_r0 : BitVec 32 := Scalar.muli v760_r0 c128_i32_637_r0
  v761_r0
def k0_mult435 : BitVec 32 :=
  let c16_i32_627_r0 : BitVec 32 := 16#32
  let c4_i32_628_r0 : BitVec 32 := 4#32
  let v749_r0 : BitVec 32 := Scalar.muli c16_i32_627_r0 c4_i32_628_r0
  let c63_i32_629_r0 : BitVec 32 := 63#32
  let v750_r0 : BitVec 32 := Scalar.minsi v749_r0 c63_i32_629_r0
  let c0_i32_638_r0 : BitVec 32 := 0#32
  let v763_r0 : BitVec 32 := Scalar.addi v750_r0 c0_i32_638_r0
  let c34_i32_639_r0 : BitVec 32 := 34#32
  let v764_r0 : BitVec 1 := Scalar.cmpi .slt v763_r0 c34_i32_639_r0
  let c34_i32_640_r0 : BitVec 32 := 34#32
  let v765_r0 : BitVec 32 := Scalar.subi v763_r0 c34_i32_640_r0
  let v766_r0 : BitVec 32 := Scalar.select v764_r0 v763_r0 v765_r0
  let c128_i32_641_r0 : BitVec 32 := 128#32
  let v767_r0 : BitVec 32 := Scalar.muli v766_r0 c128_i32_641_r0
  v767_r0
def k0_mult436 : BitVec 32 :=
  let c16_i32_627_r0 : BitVec 32 := 16#32
  let c4_i32_628_r0 : BitVec 32 := 4#32
  let v749_r0 : BitVec 32 := Scalar.muli c16_i32_627_r0 c4_i32_628_r0
  let c63_i32_629_r0 : BitVec 32 := 63#32
  let v750_r0 : BitVec 32 := Scalar.minsi v749_r0 c63_i32_629_r0
  let c1_i32_642_r0 : BitVec 32 := 1#32
  let v769_r0 : BitVec 32 := Scalar.addi v750_r0 c1_i32_642_r0
  let c34_i32_643_r0 : BitVec 32 := 34#32
  let v770_r0 : BitVec 1 := Scalar.cmpi .slt v769_r0 c34_i32_643_r0
  let c34_i32_644_r0 : BitVec 32 := 34#32
  let v771_r0 : BitVec 32 := Scalar.subi v769_r0 c34_i32_644_r0
  let v772_r0 : BitVec 32 := Scalar.select v770_r0 v769_r0 v771_r0
  let c128_i32_645_r0 : BitVec 32 := 128#32
  let v773_r0 : BitVec 32 := Scalar.muli v772_r0 c128_i32_645_r0
  v773_r0
def k0_mult437 : BitVec 32 :=
  let c16_i32_627_r0 : BitVec 32 := 16#32
  let c4_i32_628_r0 : BitVec 32 := 4#32
  let v749_r0 : BitVec 32 := Scalar.muli c16_i32_627_r0 c4_i32_628_r0
  let c63_i32_629_r0 : BitVec 32 := 63#32
  let v750_r0 : BitVec 32 := Scalar.minsi v749_r0 c63_i32_629_r0
  let c2_i32_646_r0 : BitVec 32 := 2#32
  let v775_r0 : BitVec 32 := Scalar.addi v750_r0 c2_i32_646_r0
  let c34_i32_647_r0 : BitVec 32 := 34#32
  let v776_r0 : BitVec 1 := Scalar.cmpi .slt v775_r0 c34_i32_647_r0
  let c34_i32_648_r0 : BitVec 32 := 34#32
  let v777_r0 : BitVec 32 := Scalar.subi v775_r0 c34_i32_648_r0
  let v778_r0 : BitVec 32 := Scalar.select v776_r0 v775_r0 v777_r0
  let c128_i32_649_r0 : BitVec 32 := 128#32
  let v779_r0 : BitVec 32 := Scalar.muli v778_r0 c128_i32_649_r0
  v779_r0
def k0_mult438 : BitVec 32 :=
  let c16_i32_627_r0 : BitVec 32 := 16#32
  let c4_i32_628_r0 : BitVec 32 := 4#32
  let v749_r0 : BitVec 32 := Scalar.muli c16_i32_627_r0 c4_i32_628_r0
  let c63_i32_629_r0 : BitVec 32 := 63#32
  let v750_r0 : BitVec 32 := Scalar.minsi v749_r0 c63_i32_629_r0
  let c3_i32_650_r0 : BitVec 32 := 3#32
  let v781_r0 : BitVec 32 := Scalar.addi v750_r0 c3_i32_650_r0
  let c34_i32_651_r0 : BitVec 32 := 34#32
  let v782_r0 : BitVec 1 := Scalar.cmpi .slt v781_r0 c34_i32_651_r0
  let c34_i32_652_r0 : BitVec 32 := 34#32
  let v783_r0 : BitVec 32 := Scalar.subi v781_r0 c34_i32_652_r0
  let v784_r0 : BitVec 32 := Scalar.select v782_r0 v781_r0 v783_r0
  let c128_i32_653_r0 : BitVec 32 := 128#32
  let v785_r0 : BitVec 32 := Scalar.muli v784_r0 c128_i32_653_r0
  v785_r0
def k0_mult439 : BitVec 32 :=
  let c16_i32_627_r0 : BitVec 32 := 16#32
  let c4_i32_628_r0 : BitVec 32 := 4#32
  let v749_r0 : BitVec 32 := Scalar.muli c16_i32_627_r0 c4_i32_628_r0
  let c63_i32_629_r0 : BitVec 32 := 63#32
  let v750_r0 : BitVec 32 := Scalar.minsi v749_r0 c63_i32_629_r0
  let c4_i32_654_r0 : BitVec 32 := 4#32
  let v787_r0 : BitVec 32 := Scalar.addi v750_r0 c4_i32_654_r0
  let c34_i32_655_r0 : BitVec 32 := 34#32
  let v788_r0 : BitVec 1 := Scalar.cmpi .slt v787_r0 c34_i32_655_r0
  let c34_i32_656_r0 : BitVec 32 := 34#32
  let v789_r0 : BitVec 32 := Scalar.subi v787_r0 c34_i32_656_r0
  let v790_r0 : BitVec 32 := Scalar.select v788_r0 v787_r0 v789_r0
  let c128_i32_657_r0 : BitVec 32 := 128#32
  let v791_r0 : BitVec 32 := Scalar.muli v790_r0 c128_i32_657_r0
  v791_r0
def k0_mult440 : BitVec 32 :=
  let c16_i32_698_r0 : BitVec 32 := 16#32
  let c4_i32_699_r0 : BitVec 32 := 4#32
  let v833_r0 : BitVec 32 := Scalar.muli c16_i32_698_r0 c4_i32_699_r0
  let c63_i32_700_r0 : BitVec 32 := 63#32
  let v834_r0 : BitVec 32 := Scalar.minsi v833_r0 c63_i32_700_r0
  let c128_i32_701_r0 : BitVec 32 := 128#32
  let v835_r0 : BitVec 32 := Scalar.muli v834_r0 c128_i32_701_r0
  v835_r0
def k0_mult441 : BitVec 32 :=
  let c10_i32_r0 : BitVec 32 := 10#32
  let c512_i32_702_r0 : BitVec 32 := 512#32
  let v837_r0 : BitVec 32 := Scalar.muli c10_i32_r0 c512_i32_702_r0
  v837_r0
def k0_mult442 : BitVec 32 :=
  let c16_i32_707_r0 : BitVec 32 := 16#32
  let c4_i32_708_r0 : BitVec 32 := 4#32
  let v844_r0 : BitVec 32 := Scalar.muli c16_i32_707_r0 c4_i32_708_r0
  let c63_i32_709_r0 : BitVec 32 := 63#32
  let v845_r0 : BitVec 32 := Scalar.minsi v844_r0 c63_i32_709_r0
  let c128_i32_710_r0 : BitVec 32 := 128#32
  let v846_r0 : BitVec 32 := Scalar.muli v845_r0 c128_i32_710_r0
  v846_r0
def k0_mult443 : BitVec 32 :=
  let c11_i32_711_r0 : BitVec 32 := 11#32
  let c512_i32_712_r0 : BitVec 32 := 512#32
  let v848_r0 : BitVec 32 := Scalar.muli c11_i32_711_r0 c512_i32_712_r0
  v848_r0
abbrev stage0_0 : Fin 1 → Memref sig .tc .vmem S1x8576 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S6x1024x3456 : Shape := ⟨3, ![6, 1024, 3456]⟩
abbrev S3456x4288 : Shape := ⟨2, ![3456, 4288]⟩
abbrev S27x8576 : Shape := ⟨2, ![27, 8576]⟩
abbrev S8576 : Shape := ⟨1, ![8576]⟩
abbrev S6144x3456 : Shape := ⟨2, ![6144, 3456]⟩
abbrev S1x8576 : Shape := ⟨2, ![1, 8576]⟩
abbrev S6144x8576 : Shape := ⟨2, ![6144, 8576]⟩
abbrev S6144x27 : Shape := ⟨2, ![6144, 27]⟩
abbrev S6144x27x128 : Shape := ⟨3, ![6144, 27, 128]⟩
abbrev S6144x27x1 : Shape := ⟨3, ![6144, 27, 1]⟩
abbrev S27x4288 : Shape := ⟨2, ![27, 4288]⟩
abbrev S27x128x4288 : Shape := ⟨3, ![27, 128, 4288]⟩
abbrev S27x1x4288 : Shape := ⟨3, ![27, 1, 4288]⟩
abbrev S6144x4288 : Shape := ⟨2, ![6144, 4288]⟩
abbrev S1x4288 : Shape := ⟨2, ![1, 4288]⟩

abbrev nBuf : Space → Nat
  | .hbm => 9
  | .vmem => 7
  | .smem => 0
  | _ => 0

abbrev bufTy : (tb : Table) → Fin (tcTables nBuf tb) → BufTy
  | .hbm, ⟨0, _⟩ => ⟨S6x1024x3456, .bf16⟩
  | .hbm, ⟨1, _⟩ => ⟨S3456x4288, .i8⟩
  | .hbm, ⟨2, _⟩ => ⟨S27x8576, .f32⟩
  | .hbm, ⟨3, _⟩ => ⟨S8576, .f32⟩
  | .hbm, ⟨4, _⟩ => ⟨S6144x3456, .bf16⟩
  | .hbm, ⟨5, _⟩ => ⟨S1x8576, .f32⟩
  | .hbm, ⟨6, _⟩ => ⟨S6144x8576, .bf16⟩
  | .hbm, ⟨7, _⟩ => ⟨S6144x3456, .fp8e4m3⟩
  | .hbm, ⟨8, _⟩ => ⟨S6144x27, .f32⟩
  | .local _ .vmem, ⟨0, _⟩ => ⟨S6144x3456, .bf16⟩
  | .local _ .vmem, ⟨1, _⟩ => ⟨S3456x4288, .i8⟩
  | .local _ .vmem, ⟨2, _⟩ => ⟨S27x8576, .f32⟩
  | .local _ .vmem, ⟨3, _⟩ => ⟨S1x8576, .f32⟩
  | .local _ .vmem, ⟨4, _⟩ => ⟨S6144x8576, .bf16⟩
  | .local _ .vmem, ⟨5, _⟩ => ⟨S6144x3456, .fp8e4m3⟩
  | .local _ .vmem, ⟨6, _⟩ => ⟨S6144x27, .f32⟩
  | _, _ => ⟨S6x1024x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6144x3456 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3456x4288 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S27x8576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x8576 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x3456 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x27 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Words.lean ====
/- The words the kernel computes its offsets with, in closed form: panel `p`'s first chunk, the columns its copies
   read, the buffer slot of a trip. Each closed form is checked at the few values a panel or a trip can take. -/
module

public import proofs.«01_k».proof.Proof.Gen.KernelIdeal

@[expose] public section

namespace Cert.KernelIdeal.Model

open Idealize.ShloMosaic

/-- Panel `p`'s first chunk of 128 columns. -/
def chunk0 (p : BitVec 32) : BitVec 32 := Scalar.minsi (Scalar.muli p 4#32) 63#32

/-- The first column of panel `p`'s chunk `i`, in the group scales and in the result. -/
def gsCol (p i : BitVec 32) : BitVec 32 := Scalar.muli (Scalar.addi (chunk0 p) i) 128#32

/-- The first column of panel `p`'s chunk `i` in the packed weights. -/
def wpCol (p i : BitVec 32) : BitVec 32 :=
  Scalar.muli (Scalar.select (Scalar.cmpi .slt (Scalar.addi (chunk0 p) i) 34#32) (Scalar.addi (chunk0 p) i)
    (Scalar.subi (Scalar.addi (chunk0 p) i) 34#32)) 128#32

/-- The first column of panel `p`. -/
def colOf (p : BitVec 32) : BitVec 32 := Scalar.muli (chunk0 p) 128#32

/-- The buffer slot of panel `p`'s trip `t`. -/
def slotOf (p t : BitVec 32) : BitVec 32 := Scalar.remsi (Scalar.addi (Scalar.muli p 12#32) t) 2#32

/-- The panel of the trip before panel `p`'s trip `t`, -/
def prevP (p t : BitVec 32) : BitVec 32 := Scalar.select (Scalar.cmpi .eq t 0#32) (Scalar.subi p 1#32) p

/-- and the trip itself. -/
def prevT (t : BitVec 32) : BitVec 32 := Scalar.select (Scalar.cmpi .eq t 0#32) 11#32 (Scalar.subi t 1#32)

/-- First chunk as a number. -/
def fc (p : Nat) : Nat := min (4 * p) 63

theorem word_eq {p : BitVec 32} {n : Nat} (h : p.toNat = n) : p = BitVec.ofNat 32 n := by
  subst h; simp

theorem chunk0_nat {p : BitVec 32} (h : p.toNat ≤ 17) : (chunk0 p).toNat = fc p.toNat := by
  have hall : ∀ n : Fin 18, (chunk0 (BitVec.ofNat 32 n.val)).toNat = fc n.val := by decide +kernel
  have := hall ⟨p.toNat, by omega⟩
  rwa [← word_eq (p := p) rfl] at this

theorem colOf_nat {p : BitVec 32} (h : p.toNat ≤ 17) : (colOf p).toNat = 128 * fc p.toNat := by
  have hall : ∀ n : Fin 18, (colOf (BitVec.ofNat 32 n.val)).toNat = 128 * fc n.val := by decide +kernel
  have := hall ⟨p.toNat, by omega⟩
  rwa [← word_eq (p := p) rfl] at this

theorem gsCol_nat {p i : BitVec 32} (h : p.toNat ≤ 17) (hi : i.toNat ≤ 3) :
    (gsCol p i).toNat = 128 * (fc p.toNat + i.toNat) := by
  have hall : ∀ (n : Fin 18) (k : Fin 4), (gsCol (BitVec.ofNat 32 n.val) (BitVec.ofNat 32 k.val)).toNat = 128 * (fc n.val + k.val) := by
    decide +kernel
  have := hall ⟨p.toNat, by omega⟩ ⟨i.toNat, by omega⟩
  rwa [← word_eq (p := p) rfl, ← word_eq (p := i) rfl] at this

/-- Chunk `i` of panel `p` in the packed weights, as a number. -/
def wc (p i : Nat) : Nat := if fc p + i < 34 then fc p + i else fc p + i - 34

theorem wpCol_nat {p i : BitVec 32} (h : p.toNat ≤ 17) (hi : i.toNat ≤ 4) :
    (wpCol p i).toNat = 128 * wc p.toNat i.toNat := by
  have hall : ∀ (n : Fin 18) (k : Fin 5), (wpCol (BitVec.ofNat 32 n.val) (BitVec.ofNat 32 k.val)).toNat = 128 * wc n.val k.val := by
    decide +kernel
  have := hall ⟨p.toNat, by omega⟩ ⟨i.toNat, by omega⟩
  rwa [← word_eq (p := p) rfl, ← word_eq (p := i) rfl] at this

theorem fc_le (p : Nat) : fc p ≤ 63 := Nat.min_le_right _ _

theorem wc_le {p i : Nat} (hi : i ≤ 4) : wc p i ≤ 33 := by
  have := fc_le p; unfold wc; split <;> omega

/-- A word of a panel and one of a trip, in the order the trips run. -/
theorem trip_words {P : BitVec 32 → BitVec 32 → Prop} (hall : ∀ (n : Fin 17) (k : Fin 12), P (BitVec.ofNat 32 n.val) (BitVec.ofNat 32 k.val))
    {p t : BitVec 32} (hp : p.toNat ≤ 16) (ht : t.toNat ≤ 11) : P p t := by
  have := hall ⟨p.toNat, by omega⟩ ⟨t.toNat, by omega⟩
  rwa [← word_eq (p := p) rfl, ← word_eq (p := t) rfl] at this

theorem slotOf_nat {p t : BitVec 32} (hp : p.toNat ≤ 16) (ht : t.toNat ≤ 11) : (slotOf p t).toNat = t.toNat % 2 :=
  trip_words (P := fun p t => (slotOf p t).toNat = t.toNat % 2) (by decide +kernel) hp ht

theorem otherSlot_nat {p t : BitVec 32} (hp : p.toNat ≤ 16) (ht : t.toNat ≤ 11) :
    (Scalar.subi 1#32 (slotOf p t)).toNat = 1 - t.toNat % 2 :=
  trip_words (P := fun p t => (Scalar.subi 1#32 (slotOf p t)).toNat = 1 - t.toNat % 2) (by decide +kernel) hp ht

theorem row512_nat {t : BitVec 32} (ht : t.toNat ≤ 12) : (Scalar.muli t 512#32).toNat = 512 * t.toNat := by
  have hall : ∀ n : Fin 13, (Scalar.muli (BitVec.ofNat 32 n.val) 512#32).toNat = 512 * n.val := by decide +kernel
  have := hall ⟨t.toNat, by omega⟩
  rwa [← word_eq (p := t) rfl] at this

theorem prevT_nat {t : BitVec 32} (ht : t.toNat ≤ 11) : (prevT t).toNat = if t.toNat = 0 then 11 else t.toNat - 1 := by
  have hall : ∀ n : Fin 12, (prevT (BitVec.ofNat 32 n.val)).toNat = if n.val = 0 then 11 else n.val - 1 := by decide +kernel
  have := hall ⟨t.toNat, by omega⟩
  rwa [← word_eq (p := t) rfl] at this

theorem prevP_nat {p t : BitVec 32} (hp : p.toNat ≤ 16) (ht : t.toNat ≤ 11) (h : p.toNat ≠ 0 ∨ t.toNat ≠ 0) :
    (prevP p t).toNat = if t.toNat = 0 then p.toNat - 1 else p.toNat :=
  trip_words (P := fun p t => (p.toNat ≠ 0 ∨ t.toNat ≠ 0) → (prevP p t).toNat = if t.toNat = 0 then p.toNat - 1 else p.toNat)
    (by decide +kernel) hp ht h

end Cert.KernelIdeal.Model
-- ==== Proof.Model.lean ====
/- The kernel's body written once per step: a load or store of a rectangle, a copy's start and wait, one group
   quantised, one group of weights widened, one accumulate and one push of the matrix unit, a trip, a panel, and the
   body over them. Offsets are numbers with their bounds, so a step serves every place the body takes it. -/
module

public import proofs.«01_k».proof.Proof.Words

@[expose] public section

noncomputable section

namespace Cert.KernelIdeal.Model

open Idealize.ShloMosaic Idealize.SL.Sem
open Shapes1.Facts₀ K0.Facts₀

variable {F : FTy → Type} [FloatOps F]

variable (F) in
/-- A program of the kernel's one core. -/
abbrev PM (α : Type) := Prog (TpuEff nD τ sig (Elt F) Λ₀ .tc) α

/-! ## The buffers -/

abbrev xHbm : Memref sig .tc .hbm S6144x3456 .bf16 := Memref.whole main_v0
abbrev wpHbm : Memref sig .tc .hbm S3456x4352 .i8 := Memref.whole main_v1
abbrev gsHbm : Memref sig .tc .hbm S27x8576 .f32 := Memref.whole main_arg2
abbrev yHbm : Memref sig .tc .hbm S6144x8576 .bf16 := Memref.whole main_v3_0
abbrev cHbm : Memref sig .tc .hbm S6144x3456 .fp8e4m3 := Memref.whole main_v3_1
abbrev sHbm : Memref sig .tc .hbm S6144x27 .f32 := Memref.whole main_v3_2
abbrev aBuf : Memref sig .tc .vmem S6144x3456 .bf16 := Memref.whole cc0_scratch0
abbrev w0 : Memref sig .tc .vmem S3584x512 .bf16 := Memref.whole cc0_scratch1
abbrev w1 : Memref sig .tc .vmem S3584x512 .bf16 := Memref.whole cc0_scratch2
abbrev wpBuf : Memref sig .tc .vmem S3456x640 .i8 := Memref.whole cc0_scratch3
abbrev gsBuf : Memref sig .tc .vmem S4x27x128 .f32 := Memref.whole cc0_scratch4
abbrev xBuf : Memref sig .tc .vmem S2x128x3456 .bf16 := Memref.whole cc0_scratch5
abbrev cBuf : Memref sig .tc .vmem S2x128x3456 .fp8e4m3 := Memref.whole cc0_scratch6
abbrev sBuf : Memref sig .tc .vmem S2x128x27 .f32 := Memref.whole cc0_scratch7
abbrev yBuf : Memref sig .tc .vmem S2x512x512 .bf16 := Memref.whole cc0_scratch8

/-! ## Rectangles -/

theorem inb2 {r c m n R C : Nat} (h0 : r + m ≤ R) (h1 : c + n ≤ C) : ∀ a : Fin 2, (![r, c] a : Nat) + ![m, n] a ≤ ![R, C] a :=
  Fin.forall_fin_two.2 ⟨h0, h1⟩

theorem inb3 {q r c l m n Q R C : Nat} (h : q + l ≤ Q) (h0 : r + m ≤ R) (h1 : c + n ≤ C) :
    ∀ a : Fin 3, (![q, r, c] a : Nat) + ![l, m, n] a ≤ ![Q, R, C] a :=
  fun a => match a with | 0 => h | 1 => h0 | 2 => h1

theorem packed2 {r c m n R C p : Nat} (h) (hr : p ∣ r) (hm : p ∣ m) :
    (Rect.unit (s := ⟨2, ![R, C]⟩) ![r, c] ![m, n] h).PackedRows p :=
  .inr ⟨Nat.le_refl 2, rfl, .inl ⟨hr, hm⟩⟩

theorem packed3 {q r c l m n Q R C p : Nat} (h) (hr : p ∣ r) (hm : p ∣ m) :
    (Rect.unit (s := ⟨3, ![Q, R, C]⟩) ![q, r, c] ![l, m, n] h).PackedRows p :=
  .inr ⟨Nat.le_succ 2, rfl, .inl ⟨hr, hm⟩⟩

/-! ## Loads, stores, copies -/

/-- A rectangle of a whole 2-axis buffer, loaded. -/
def ld2 {R C : Nat} {e : EltTy} (M : Memref sig .tc .vmem ⟨2, ![R, C]⟩ e) (r c m n : Nat) (h : r + m ≤ R ∧ c + n ≤ C)
    (hp : 0 < (⟨2, ![m, n]⟩ : Shape).numel) : PM F (Vec F ⟨2, ![m, n]⟩ e) :=
  Prog.lift (.load M (Rect.unit (s := ⟨2, ![R, C]⟩) ![r, c] ![m, n] (inb2 h.1 h.2)).toLoadRect (View.loadsAt_vmem hp))

/-- A rectangle of a whole 3-axis buffer, loaded. -/
def ld3 {Q R C : Nat} {e : EltTy} (M : Memref sig .tc .vmem ⟨3, ![Q, R, C]⟩ e) (q r c l m n : Nat)
    (h : q + l ≤ Q ∧ r + m ≤ R ∧ c + n ≤ C) (hp : 0 < (⟨3, ![l, m, n]⟩ : Shape).numel) : PM F (Vec F ⟨3, ![l, m, n]⟩ e) :=
  Prog.lift (.load M (Rect.unit (s := ⟨3, ![Q, R, C]⟩) ![q, r, c] ![l, m, n] (inb3 h.1 h.2.1 h.2.2)).toLoadRect (View.loadsAt_vmem hp))

/-- A rectangle of a whole 2-axis buffer, stored (the kernel reads the rectangle first and leaves what it read). -/
def st2 {R C : Nat} {e : EltTy} (M : Memref sig .tc .vmem ⟨2, ![R, C]⟩ e) (hM : M.IsWhole) (r c m n : Nat)
    (h : r + m ≤ R ∧ c + n ≤ C) (hp : 0 < (⟨2, ![m, n]⟩ : Shape).numel) (hd : e.packing ∣ r ∧ e.packing ∣ m)
    (v : Vec F ⟨2, ![m, n]⟩ e) : PM F PUnit := do
  let _ ← ld2 M r c m n h hp
  Prog.lift (.store M (Rect.unit (s := ⟨2, ![R, C]⟩) ![r, c] ![m, n] (inb2 h.1 h.2)) v Finset.univ
    (View.stores_vmem hp (hM.storeExact_slice rfl _ (packed2 _ hd.1 hd.2)) (fun _ => rfl)) (.inl rfl))

/-- A rectangle of a whole 3-axis buffer, stored. -/
def st3 {Q R C : Nat} {e : EltTy} (M : Memref sig .tc .vmem ⟨3, ![Q, R, C]⟩ e) (hM : M.IsWhole) (q r c l m n : Nat)
    (h : q + l ≤ Q ∧ r + m ≤ R ∧ c + n ≤ C) (hp : 0 < (⟨3, ![l, m, n]⟩ : Shape).numel) (hd : e.packing ∣ r ∧ e.packing ∣ m)
    (v : Vec F ⟨3, ![l, m, n]⟩ e) : PM F PUnit := do
  let _ ← ld3 M q r c l m n h hp
  Prog.lift (.store M (Rect.unit (s := ⟨3, ![Q, R, C]⟩) ![q, r, c] ![l, m, n] (inb3 h.1 h.2.1 h.2.2)) v Finset.univ
    (View.stores_vmem hp (hM.storeExact_slice rfl _ (packed3 _ hd.1 hd.2)) (fun _ => rfl)) (.inl rfl))

/-- One cell of a pair of DMA semaphores. -/
abbrev cell (S : DmaSems sig S2) (i : Nat) (hi : i < 2) : DmaSems sig S_ :=
  (S.slice (Rect.unit (s := S2) ![i] S1.size (fun a => match a with | 0 => hi))).squeeze S_ squeezes_S1_S_

/-! ### The copies' two ends -/

/-- Slot `q` of a double buffer. -/
abbrev slot {R C : Nat} {e : EltTy} (M : Memref sig .tc .vmem ⟨3, ![2, R, C]⟩ e) (q : Nat) (hq : q < 2)
    (hs : (⟨3, ![1, R, C]⟩ : Shape).Squeezes ⟨2, ![R, C]⟩) : Memref sig .tc .vmem ⟨2, ![R, C]⟩ e :=
  (M.slice (Rect.unit (s := ⟨3, ![2, R, C]⟩) ![q, 0, 0] ![1, R, C] (inb3 hq (by omega) (by omega))) (fun _ => rfl)).squeeze _ hs

/-- A rectangle of an array in HBM, or of a whole scratch buffer. -/
abbrev part {sp : Space} {R C : Nat} {e : EltTy} (M : Memref sig .tc sp ⟨2, ![R, C]⟩ e) (r c m n : Nat) (h : r + m ≤ R ∧ c + n ≤ C) :
    Memref sig .tc sp ⟨2, ![m, n]⟩ e :=
  M.slice (Rect.unit (s := ⟨2, ![R, C]⟩) ![r, c] ![m, n] (inb2 h.1 h.2)) (fun _ => rfl)

theorem words_part {sp : Space} {R C : Nat} {e : EltTy} (M : Memref sig .tc sp ⟨2, ![R, C]⟩ e) (hM : M.IsWhole)
    (hl : Kind.statesLayout .tc sp = true) (r c m n : Nat) (h : r + m ≤ R ∧ c + n ≤ C)
    (hd : (e.packing ∣ r ∧ e.packing ∣ m) ∨ (r = 0 ∧ m = R)) : (part M r c m n h).view.WordExact :=
  hM.wordExact_slice hl _ (hd.elim (fun hd => .inl (packed2 _ hd.1 hd.2)) (fun hd => .inr ⟨Nat.le_refl 2, rfl, hd.1, hd.2⟩))

theorem words_slot {R C : Nat} {e : EltTy} (M : Memref sig .tc .vmem ⟨3, ![2, R, C]⟩ e) (hM : M.IsWhole) (q : Nat) (hq : q < 2)
    (hs : (⟨3, ![1, R, C]⟩ : Shape).Squeezes ⟨2, ![R, C]⟩) : (slot M q hq hs).view.WordExact :=
  (hM.wordExact_slice rfl _ (.inr ⟨Nat.le_succ 2, rfl, rfl, rfl⟩)).reshape _ _

/-- The start of a copy on a DMA semaphore, -/
abbrev start {sp sp' : Space} {s : Shape} {e : EltTy} (src : Memref sig .tc sp s e) (dst : Memref sig .tc sp' s e) (sem : DmaSems sig S_)
    (h1 : src.view.WordExact) (h2 : dst.view.WordExact) (h3 : DmaTarget.HostLowered (nD := nD) (τ := τ) (p := .tc) sp (.dma sem.sem) (.here dst)) : PM F PUnit :=
  Prog.lift (.enqueueDma src (.here dst) (.dma sem.sem) h1 h2 ⟨Or.inl rfl, h3⟩)

/-- and the wait for it. -/
abbrev wait {sp sp' : Space} {s : Shape} {e : EltTy} (src : Memref sig .tc sp s e) (dst : Memref sig .tc sp' s e) (sem : DmaSems sig S_)
    (h1 : src.view.WordExact) (h2 : dst.view.WordExact) : PM F PUnit :=
  Prog.lift (.waitDma2 sem.sem src dst h1 h2)

section Copies

abbrev xSrc (row : Nat) (h : row + 128 ≤ 6144) := part xHbm row 0 128 3456 ⟨h, by omega⟩
abbrev xDst (q : Nat) (hq : q < 2) := slot xBuf q hq squeezes_S1x128x3456_S128x3456
abbrev cSrc (q : Nat) (hq : q < 2) := slot cBuf q hq squeezes_S1x128x3456_S128x3456
abbrev cDst (row : Nat) (h : row + 128 ≤ 6144) := part cHbm row 0 128 3456 ⟨h, by omega⟩
abbrev sSrc (q : Nat) (hq : q < 2) := slot sBuf q hq squeezes_S1x128x27_S128x27
abbrev sDst (row : Nat) (h : row + 128 ≤ 6144) := part sHbm row 0 128 27 ⟨h, by omega⟩
abbrev ySrc (q : Nat) (hq : q < 2) := slot yBuf q hq squeezes_S1x512x512_S512x512
abbrev yDst (row col : Nat) (h : row + 512 ≤ 6144 ∧ col + 512 ≤ 8576) := part yHbm row col 512 512 h

theorem packing_dvd {e : EltTy} {r : Nat} (hd : 4 ∣ r) (he : e.packing ∣ 4) : e.packing ∣ r := he.trans hd

theorem words_xSrc {row : Nat} (h : row + 128 ≤ 6144) (hd : 4 ∣ row) : (xSrc row h).view.WordExact :=
  words_part xHbm (Memref.isWhole_whole _) rfl _ _ _ _ _ (.inl ⟨packing_dvd hd (by decide), by decide⟩)
theorem words_cDst {row : Nat} (h : row + 128 ≤ 6144) (hd : 4 ∣ row) : (cDst row h).view.WordExact :=
  words_part cHbm (Memref.isWhole_whole _) rfl _ _ _ _ _ (.inl ⟨packing_dvd hd (by decide), by decide⟩)
theorem words_sDst {row : Nat} (h : row + 128 ≤ 6144) (hd : 4 ∣ row) : (sDst row h).view.WordExact :=
  words_part sHbm (Memref.isWhole_whole _) rfl _ _ _ _ _ (.inl ⟨packing_dvd hd (by decide), by decide⟩)
theorem words_yDst {row col : Nat} (h : row + 512 ≤ 6144 ∧ col + 512 ≤ 8576) (hd : 2 ∣ row) : (yDst row col h).view.WordExact :=
  words_part yHbm (Memref.isWhole_whole _) rfl _ _ _ _ _ (.inl ⟨hd, by decide⟩)

def xStart (row q : Nat) (h : row + 128 ≤ 6144) (hd : 4 ∣ row) (hq : q < 2) : PM F PUnit :=
  start (xSrc row h) (xDst q hq) (cell cc0_scratch9 q hq) (words_xSrc h hd) (words_slot xBuf (Memref.isWhole_whole _) _ _ _) trivial
def xWait (row q : Nat) (h : row + 128 ≤ 6144) (hd : 4 ∣ row) (hq : q < 2) : PM F PUnit :=
  wait (xSrc row h) (xDst q hq) (cell cc0_scratch9 q hq) (words_xSrc h hd) (words_slot xBuf (Memref.isWhole_whole _) _ _ _)
def cStart (row q : Nat) (h : row + 128 ≤ 6144) (hd : 4 ∣ row) (hq : q < 2) : PM F PUnit :=
  start (cSrc q hq) (cDst row h) (cell cc0_scratch10 q hq) (words_slot cBuf (Memref.isWhole_whole _) _ _ _) (words_cDst h hd) trivial
def cWait (row q : Nat) (h : row + 128 ≤ 6144) (hd : 4 ∣ row) (hq : q < 2) : PM F PUnit :=
  wait (cSrc q hq) (cDst row h) (cell cc0_scratch10 q hq) (words_slot cBuf (Memref.isWhole_whole _) _ _ _) (words_cDst h hd)
def sStart (row q : Nat) (h : row + 128 ≤ 6144) (hd : 4 ∣ row) (hq : q < 2) : PM F PUnit :=
  start (sSrc q hq) (sDst row h) (cell cc0_scratch11 q hq) (words_slot sBuf (Memref.isWhole_whole _) _ _ _) (words_sDst h hd) trivial
def sWait (row q : Nat) (h : row + 128 ≤ 6144) (hd : 4 ∣ row) (hq : q < 2) : PM F PUnit :=
  wait (sSrc q hq) (sDst row h) (cell cc0_scratch11 q hq) (words_slot sBuf (Memref.isWhole_whole _) _ _ _) (words_sDst h hd)
def yStart (row col q : Nat) (h : row + 512 ≤ 6144 ∧ col + 512 ≤ 8576) (hd : 2 ∣ row) (hq : q < 2) : PM F PUnit :=
  start (ySrc q hq) (yDst row col h) (cell cc0_scratch12 q hq) (words_slot yBuf (Memref.isWhole_whole _) _ _ _) (words_yDst h hd) trivial
def yWait (row col q : Nat) (h : row + 512 ≤ 6144 ∧ col + 512 ≤ 8576) (hd : 2 ∣ row) (hq : q < 2) : PM F PUnit :=
  wait (ySrc q hq) (yDst row col h) (cell cc0_scratch12 q hq) (words_slot yBuf (Memref.isWhole_whole _) _ _ _) (words_yDst h hd)

end Copies

section WpCopies

abbrev gsSrc (col : Nat) (h : col + 128 ≤ 8576) := part gsHbm 0 col 27 128 ⟨by omega, h⟩
abbrev gsDst (i : Nat) (hi : i < 4) : Memref sig .tc .vmem S27x128 .f32 :=
  (gsBuf.slice (Rect.unit (s := S4x27x128) ![i, 0, 0] S1x27x128.size (inb3 hi (by omega) (by omega))) (fun _ => rfl)).squeeze S27x128
    squeezes_S1x27x128_S27x128
abbrev wpSrc (col : Nat) (h : col + 128 ≤ 4352) := part wpHbm 0 col 3456 128 ⟨by omega, h⟩
abbrev wpDst (i : Nat) (hi : i < 5) := part wpBuf 0 (128 * i) 3456 128 ⟨by omega, by omega⟩

theorem words_wpSrc {col : Nat} (h : col + 128 ≤ 4352) : (wpSrc col h).view.WordExact :=
  words_part wpHbm (Memref.isWhole_whole _) rfl _ _ _ _ _ (.inr ⟨rfl, rfl⟩)
theorem words_wpDst {i : Nat} (hi : i < 5) : (wpDst i hi).view.WordExact :=
  words_part wpBuf (Memref.isWhole_whole _) rfl _ _ _ _ _ (.inr ⟨rfl, rfl⟩)

def gsStart (col i : Nat) (h : col + 128 ≤ 8576) (hi : i < 4) : PM F PUnit :=
  start (gsSrc col h) (gsDst i hi) (cell cc0_scratch13 1 (by decide)) (View.wordExact_bits rfl) ((View.wordExact_bits rfl).reshape _ _) trivial
def gsWait (col i : Nat) (h : col + 128 ≤ 8576) (hi : i < 4) : PM F PUnit :=
  wait (gsSrc col h) (gsDst i hi) (cell cc0_scratch13 1 (by decide)) (View.wordExact_bits rfl) ((View.wordExact_bits rfl).reshape _ _)
def wpStart (col i : Nat) (h : col + 128 ≤ 4352) (hi : i < 5) : PM F PUnit :=
  start (wpSrc col h) (wpDst i hi) (cell cc0_scratch13 0 (by decide)) (words_wpSrc h) (words_wpDst hi) trivial
def wpWait (col i : Nat) (h : col + 128 ≤ 4352) (hi : i < 5) : PM F PUnit :=
  wait (wpSrc col h) (wpDst i hi) (cell cc0_scratch13 0 (by decide)) (words_wpSrc h) (words_wpDst hi)

end WpCopies

theorem gsCol_inb {p i : BitVec 32} (hp : p.toNat ≤ 17) (hi : i.toNat ≤ 3) : (gsCol p i).toNat + 128 ≤ 8576 := by
  rw [gsCol_nat hp hi]; have := fc_le p.toNat; omega

theorem wpCol_inb {p i : BitVec 32} (hp : p.toNat ≤ 17) (hi : i.toNat ≤ 4) : (wpCol p i).toNat + 128 ≤ 4352 := by
  rw [wpCol_nat hp hi]; have := wc_le (p := p.toNat) hi; omega

/-- The copies of a panel's weights, started, -/
def startWp (p : BitVec 32) (hp : p.toNat ≤ 17) : PM F PUnit := do
  gsStart (gsCol p 0#32).toNat 0 (gsCol_inb hp (by decide)) (by decide)
  gsStart (gsCol p 1#32).toNat 1 (gsCol_inb hp (by decide)) (by decide)
  gsStart (gsCol p 2#32).toNat 2 (gsCol_inb hp (by decide)) (by decide)
  gsStart (gsCol p 3#32).toNat 3 (gsCol_inb hp (by decide)) (by decide)
  wpStart (wpCol p 0#32).toNat 0 (wpCol_inb hp (by decide)) (by decide)
  wpStart (wpCol p 1#32).toNat 1 (wpCol_inb hp (by decide)) (by decide)
  wpStart (wpCol p 2#32).toNat 2 (wpCol_inb hp (by decide)) (by decide)
  wpStart (wpCol p 3#32).toNat 3 (wpCol_inb hp (by decide)) (by decide)
  wpStart (wpCol p 4#32).toNat 4 (wpCol_inb hp (by decide)) (by decide)

/-- and waited for. -/
def waitWp (p : BitVec 32) (hp : p.toNat ≤ 17) : PM F PUnit := do
  gsWait (gsCol p 0#32).toNat 0 (gsCol_inb hp (by decide)) (by decide)
  gsWait (gsCol p 1#32).toNat 1 (gsCol_inb hp (by decide)) (by decide)
  gsWait (gsCol p 2#32).toNat 2 (gsCol_inb hp (by decide)) (by decide)
  gsWait (gsCol p 3#32).toNat 3 (gsCol_inb hp (by decide)) (by decide)
  wpWait (wpCol p 0#32).toNat 0 (wpCol_inb hp (by decide)) (by decide)
  wpWait (wpCol p 1#32).toNat 1 (wpCol_inb hp (by decide)) (by decide)
  wpWait (wpCol p 2#32).toNat 2 (wpCol_inb hp (by decide)) (by decide)
  wpWait (wpCol p 3#32).toNat 3 (wpCol_inb hp (by decide)) (by decide)
  wpWait (wpCol p 4#32).toNat 4 (wpCol_inb hp (by decide)) (by decide)

/-! ## One group quantised -/

/-- The scale's bits, from the counted exponent field. -/
def scaleBits (xg : FVec F S128x128 .bf16) : IVec S128x1 32 :=
  have top : FVec F S128x1 .f32 := mulf (shapeCast S128x1 (multiReduction .maximumf [1] S128 (extf .f32 (absf xg) bitsLt_bf16_f32)
    0xFF800000#32 reduces_S128x128_S128 (.inl rfl) rfl) shapeCasts_S128_S128x1) (broadcast S128x1 (Scalar.ofBits .f32 0x3B124925#32))
  have fld : IVec S128x256 32 := iota .tc S128x256 32 [1] iota_S128x256_d1_w32
  have powers : FVec F S128x256 .f32 := bitcastToFloat .f32 (shli fld (broadcast S128x256 23#32))
  have below : IVec S128x256 1 := andi (cmpf .ole powers (broadcastTo S128x256 top broadcasts_S128x1_S128x256))
    (cmpi .sgt fld (broadcast S128x256 0#32))
  have one : FVec F S128x256 .f32 := select below (broadcast S128x256 (Scalar.ofBits .f32 0x3F800000#32))
    (broadcast S128x256 (Scalar.ofBits .f32 0x00000000#32))
  have count : FVec F S128x1 .f32 := shapeCast S128x1 (multiReduction .add [1] S128 one 0x00000000#32 reduces_S128x256_S128 (.inl rfl) rfl)
    shapeCasts_S128_S128x1
  have e : IVec S128x1 32 := shli (fptosi 32 count) (broadcast S128x1 23#32)
  select (cmpi .eq e (broadcast S128x1 0#32)) (broadcast S128x1 1065353216#32) (addi e (broadcast S128x1 8388608#32))

/-- The group's scales, -/
def scaleOf (xg : FVec F S128x128 .bf16) : FVec F S128x1 .f32 := bitcastToFloat .f32 (scaleBits xg)

/-- its codes, -/
def codesOf (xg : FVec F S128x128 .bf16) : FVec F S128x128 .fp8e4m3 :=
  have inv : FVec F S128x1 .f32 := bitcastToFloat .f32 (subi (broadcast S128x1 (Scalar.muli 2#32 1065353216#32)) (scaleBits xg))
  truncf .fp8e4m3 (minimumf (broadcast S128x128 (Scalar.ofBits .f32 0x43E00000#32))
    (maximumf (broadcast S128x128 (Scalar.ofBits .f32 0xC3E00000#32))
      (mulf (extf .f32 xg bitsLt_bf16_f32) (broadcastTo S128x128 inv broadcasts_S128x1_S128x128)))) bitsLt_fp8e4m3_f32

/-- and the activations the matrix unit multiplies. -/
def actOf (xg : FVec F S128x128 .bf16) : FVec F S128x128 .bf16 :=
  mulf (extf .bf16 (codesOf xg) bitsLt_fp8e4m3_bf16)
    (broadcastTo S128x128 (truncf .bf16 (scaleOf xg) bitsLt_bf16_f32) broadcasts_S128x1_S128x128)

/-- The lane of each element. -/
def lanes : IVec S128x128 32 := iota .tc S128x128 32 [1] iota_S128x128_d1_w32

/-- The scales row so far, lane `g` now holding this group's. -/
def putScale (g : Nat) (xg : FVec F S128x128 .bf16) (scales : FVec F S128x128 .f32) : FVec F S128x128 .f32 :=
  select (cmpi .eq lanes (broadcast S128x128 (BitVec.ofNat 32 g)))
    (broadcastTo S128x128 (shapeCast S128x1 (scaleOf xg) shapeCasts_S128x1_S128x1) broadcasts_S128x1_S128x128) scales

/-- Group `g` of the rows in slot `q`, quantised. -/
def quantGroup (row q : Nat) (h : row + 128 ≤ 6144) (hd : 4 ∣ row) (hq : q < 2) (g : Nat) (hg : g < 27) (scales : FVec F S128x128 .f32) :
    PM F (FVec F S128x128 .f32) := do
  let xg ← ld3 xBuf q 0 (128 * g) 1 128 128 ⟨hq, by omega, by omega⟩ h_S1x128x128
  have xg : FVec F S128x128 .bf16 := shapeCast S128x128 xg shapeCasts_S1x128x128_S128x128
  st3 cBuf (Memref.isWhole_whole _) q 0 (128 * g) 1 128 128 ⟨hq, by omega, by omega⟩ h_S1x128x128 (by decide)
    (shapeCast S1x128x128 (codesOf xg) shapeCasts_S128x128_S1x128x128)
  st2 aBuf (Memref.isWhole_whole _) row (128 * g) 128 128 ⟨h, by omega⟩ h_S128x128 ⟨packing_dvd hd (by decide), by decide⟩
    (shapeCast S128x128 (actOf xg) shapeCasts_S128x128_S128x128)
  pure (putScale g xg scales)

/-- The groups from `g` on. -/
def quantGroups (row q : Nat) (h : row + 128 ≤ 6144) (hd : 4 ∣ row) (hq : q < 2) :
    (n g : Nat) → (hg : g + n ≤ 27) → FVec F S128x128 .f32 → PM F (FVec F S128x128 .f32)
  | 0, _, _, scales => pure scales
  | n + 1, g, hg, scales => do
    let scales ← quantGroup row q h hd hq g (by omega) scales
    quantGroups row q h hd hq n (g + 1) (by omega) scales

/-- The quantiser's trips, as words: the trip `i`'s rows and slots. -/
def qRow (i : BitVec 32) : BitVec 32 := Scalar.muli i 128#32
def qSlot (i : BitVec 32) : BitVec 32 := Scalar.remsi i 2#32
def qOther (i : BitVec 32) : BitVec 32 := Scalar.subi 1#32 (qSlot i)

theorem qRow_nat {i : BitVec 32} (hi : i.toNat ≤ 47) : (qRow i).toNat = 128 * i.toNat := by
  have hall : ∀ n : Fin 48, (qRow (BitVec.ofNat 32 n.val)).toNat = 128 * n.val := by decide +kernel
  have := hall ⟨i.toNat, by omega⟩
  rwa [← word_eq (p := i) rfl] at this

theorem qSlot_nat {i : BitVec 32} (hi : i.toNat ≤ 47) : (qSlot i).toNat = i.toNat % 2 := by
  have hall : ∀ n : Fin 48, (qSlot (BitVec.ofNat 32 n.val)).toNat = n.val % 2 := by decide +kernel
  have := hall ⟨i.toNat, by omega⟩
  rwa [← word_eq (p := i) rfl] at this

theorem qOther_nat {i : BitVec 32} (hi : i.toNat ≤ 47) : (qOther i).toNat = 1 - i.toNat % 2 := by
  have hall : ∀ n : Fin 48, (qOther (BitVec.ofNat 32 n.val)).toNat = 1 - n.val % 2 := by decide +kernel
  have := hall ⟨i.toNat, by omega⟩
  rwa [← word_eq (p := i) rfl] at this

theorem qRow_inb {i : BitVec 32} (hi : i.toNat ≤ 47) : (qRow i).toNat + 128 ≤ 6144 := by rw [qRow_nat hi]; omega
theorem qRow_dvd {i : BitVec 32} (hi : i.toNat ≤ 47) : 4 ∣ (qRow i).toNat := by rw [qRow_nat hi]; omega
theorem qSlot_lt {i : BitVec 32} (hi : i.toNat ≤ 47) : (qSlot i).toNat < 2 := by rw [qSlot_nat hi]; omega
theorem qOther_lt {i : BitVec 32} (hi : i.toNat ≤ 47) : (qOther i).toNat < 2 := by rw [qOther_nat hi]; omega

/-- More rows follow trip `i`'s. -/
def qMore (i : BitVec 32) : BitVec 1 := Scalar.cmpi .ne (Scalar.extui (Scalar.cmpi .slt (Scalar.addi i 1#32) 48#32)) 0#32
/-- Two trips went before trip `i`. -/
def qPast (i : BitVec 32) : BitVec 1 := Scalar.cmpi .ne (Scalar.extui (Scalar.cmpi .sge i 2#32)) 0#32

theorem qMore_nat {i : BitVec 32} (hi : i.toNat ≤ 47) : qMore i = 1#1 ↔ i.toNat + 1 ≤ 47 := by
  have hall : ∀ n : Fin 48, qMore (BitVec.ofNat 32 n.val) = 1#1 ↔ n.val + 1 ≤ 47 := by decide +kernel
  have := hall ⟨i.toNat, by omega⟩
  rwa [← word_eq (p := i) rfl] at this

theorem qPast_nat {i : BitVec 32} (hi : i.toNat ≤ 47) : qPast i = 1#1 ↔ 2 ≤ i.toNat := by
  have hall : ∀ n : Fin 48, qPast (BitVec.ofNat 32 n.val) = 1#1 ↔ 2 ≤ n.val := by decide +kernel
  have := hall ⟨i.toNat, by omega⟩
  rwa [← word_eq (p := i) rfl] at this

theorem qNext_nat {i : BitVec 32} (hi : i.toNat ≤ 47) : (Scalar.addi i 1#32).toNat = i.toNat + 1 := by
  have hall : ∀ n : Fin 48, (Scalar.addi (BitVec.ofNat 32 n.val) 1#32).toNat = n.val + 1 := by decide +kernel
  have := hall ⟨i.toNat, by omega⟩
  rwa [← word_eq (p := i) rfl] at this

theorem qBack_nat {i : BitVec 32} (hi : i.toNat ≤ 47) (h2 : 2 ≤ i.toNat) : (Scalar.subi i 2#32).toNat = i.toNat - 2 := by
  have hall : ∀ n : Fin 48, 2 ≤ n.val → (Scalar.subi (BitVec.ofNat 32 n.val) 2#32).toNat = n.val - 2 := by decide +kernel
  have := hall ⟨i.toNat, by omega⟩ h2
  rwa [← word_eq (p := i) rfl] at this

/-- The next rows' copy in, if there are more rows. -/
def quantNext (i : BitVec 32) (hi : i.toNat ≤ 47) : PM F PUnit :=
  if h : qMore i = 1#1 then do
    have hi' : (Scalar.addi i 1#32).toNat ≤ 47 := by rw [qNext_nat hi]; exact (qMore_nat hi).1 h
    xStart (qRow (Scalar.addi i 1#32)).toNat (qOther i).toNat (qRow_inb hi') (qRow_dvd hi') (qOther_lt hi)
    pure ⟨⟩
  else pure ⟨⟩

/-- The wait for the slot's copies out, if two trips went before. -/
def quantPast (i : BitVec 32) (hi : i.toNat ≤ 47) : PM F PUnit :=
  if h : qPast i = 1#1 then do
    have hi' : (Scalar.subi i 2#32).toNat ≤ 47 := by rw [qBack_nat hi ((qPast_nat hi).1 h)]; omega
    cWait (qRow (Scalar.subi i 2#32)).toNat (qSlot i).toNat (qRow_inb hi') (qRow_dvd hi') (qSlot_lt hi)
    sWait (qRow (Scalar.subi i 2#32)).toNat (qSlot i).toNat (qRow_inb hi') (qRow_dvd hi') (qSlot_lt hi)
    pure ⟨⟩
  else pure ⟨⟩

/-- The scales of a trip, stored. -/
def putScales (q : Nat) (hq : q < 2) (scales : FVec F S128x128 .f32) : PM F PUnit :=
  st3 sBuf (Memref.isWhole_whole _) q 0 0 1 128 27 ⟨hq, by omega, by omega⟩ h_S1x128x27 (by decide)
    (shapeCast S1x128x27 (extractStridedSlice S128x27 ![0, 0] scales slices_S128x128_o0_0_S128x27) shapeCasts_S128x27_S1x128x27)

/-- One trip of the quantiser. -/
def quantStep (i : BitVec 32) (hi : i.toNat ≤ 47) : PM F PUnit := do
  quantNext i hi
  xWait (qRow i).toNat (qSlot i).toNat (qRow_inb hi) (qRow_dvd hi) (qSlot_lt hi)
  quantPast i hi
  let scales ← quantGroups (qRow i).toNat (qSlot i).toNat (qRow_inb hi) (qRow_dvd hi) (qSlot_lt hi) 27 0 (by decide)
    (broadcast S128x128 (Scalar.ofBits .f32 0x00000000#32))
  putScales (qSlot i).toNat (qSlot_lt hi) scales
  cStart (qRow i).toNat (qSlot i).toNat (qRow_inb hi) (qRow_dvd hi) (qSlot_lt hi)
  sStart (qRow i).toNat (qSlot i).toNat (qRow_inb hi) (qRow_dvd hi) (qSlot_lt hi)
  pure ⟨⟩

/-! ## One group of weights widened -/

/-- Chunk `i`'s codes of a group, from the panel's first column and two chunks of packed words. -/
def nibbles (col0 : BitVec 32) (i : Nat) (lo hi : Vec F S128x128 .i8) : FVec F S128x128 .bf16 :=
  have lane : IVec S32x128 32 := iota .tc S32x128 32 [1] iota_S32x128_d1_w32
  have raw : IVec S32x128 32 := bitcast S32x128 32 lo bitcasts_S128x128_w8_S32x128_w32
  have raw' : IVec S32x128 32 := bitcast S32x128 32 hi bitcasts_S128x128_w8_S32x128_w32
  have rolled : IVec S32x128 32 := dynamicRotate 1 64#32 none raw rotates_S32x128_d1
  have rolled' : IVec S32x128 32 := dynamicRotate 1 64#32 none raw' rotates_S32x128_d1
  have high : IVec S32x128 32 := shrui (select (cmpi .slt lane (broadcast S32x128 64#32)) rolled rolled') (broadcast S32x128 4#32)
  have v : IVec S32x128 32 := select (cmpi .sge lane (broadcast S32x128 (Scalar.subi (Scalar.subi 4288#32 col0) (BitVec.ofNat 32 (128 * i))))) high raw
  have v : IVec S32x128 32 := andi (xori v (broadcast S32x128 134744072#32)) (broadcast S32x128 252645135#32)
  subf (sitofp .bf16 (bitcast S128x128 8 v bitcasts_S32x128_w32_S128x128_w8)) (broadcast S128x128 (Scalar.ofBits .bf16 0x4100#16))

/-- The weights of chunk `i`: the codes times the group's scales. -/
def weights (col0 : BitVec 32) (i : Nat) (lo hi : Vec F S128x128 .i8) (gs : Vec F S1x1x128 .f32) : FVec F S128x128 .bf16 :=
  mulf (nibbles col0 i lo hi) (broadcastTo S128x128 (truncf .bf16 (shapeCast S1x128 gs shapeCasts_S1x1x128_S1x128 : FVec F S1x128 .f32) bitsLt_bf16_f32)
    broadcasts_S1x128_S128x128)

/-- Chunk `i` widened into the weights buffer. -/
def widenChunk (W : Memref sig .tc .vmem S3584x512 .bf16) (hW : W.IsWhole) (row g : Nat) (h : row + 128 ≤ 3456) (hd : 2 ∣ row) (hg : g < 27)
    (col0 : BitVec 32) (i : Nat) (hi : i < 4) (lo hi' : Vec F S128x128 .i8) : PM F PUnit := do
  let gs ← ld3 gsBuf i g 0 1 1 128 ⟨hi, hg, by omega⟩ h_S1x1x128
  st2 W hW row (128 * i) 128 128 ⟨by omega, by omega⟩ h_S128x128 ⟨hd, by decide⟩
    (shapeCast S128x128 (weights col0 i lo hi' gs) shapeCasts_S128x128_S128x128)

/-- A group's rows of the packed weights, chunk `i`. -/
def ldWp (row : Nat) (h : row + 128 ≤ 3456) (i : Nat) (hi : i < 5) : PM F (Vec F S128x128 .i8) :=
  ld2 wpBuf row (128 * i) 128 128 ⟨h, by omega⟩ h_S128x128

/-- One group widened. -/
def widen (W : Memref sig .tc .vmem S3584x512 .bf16) (hW : W.IsWhole) (row g : Nat) (h : row + 128 ≤ 3456) (hd : 2 ∣ row) (hg : g < 27)
    (col0 : BitVec 32) : PM F PUnit := do
  let c0 ← ldWp row h 0 (by decide)
  let c1 ← ldWp row h 1 (by decide)
  let c2 ← ldWp row h 2 (by decide)
  let c3 ← ldWp row h 3 (by decide)
  let c4 ← ldWp row h 4 (by decide)
  widenChunk W hW row g h hd hg col0 0 (by decide) c0 c1
  widenChunk W hW row g h hd hg col0 1 (by decide) c1 c2
  widenChunk W hW row g h hd hg col0 2 (by decide) c2 c3
  widenChunk W hW row g h hd hg col0 3 (by decide) c3 c4

theorem gRow_nat {g : BitVec 32} (hg : g.toNat ≤ 26) : (Scalar.muli g 128#32).toNat = 128 * g.toNat := by
  have hall : ∀ n : Fin 27, (Scalar.muli (BitVec.ofNat 32 n.val) 128#32).toNat = 128 * n.val := by decide +kernel
  have := hall ⟨g.toNat, by omega⟩
  rwa [← word_eq (p := g) rfl] at this

/-- Group `g` (a word) of panel `p`, widened. -/
def widenW (W : Memref sig .tc .vmem S3584x512 .bf16) (hW : W.IsWhole) (g p : BitVec 32) (hg : g.toNat ≤ 26) : PM F PUnit :=
  widen W hW (Scalar.muli g 128#32).toNat g.toNat (by rw [gRow_nat hg]; omega) (by rw [gRow_nat hg]; omega) (by omega) (colOf p)

/-! ## The matrix unit's steps -/

/-- The staging register of contraction tile `kt`. -/
def kreg (kt : Nat) : Fin 2 := ⟨kt % 2, Nat.mod_lt _ (by decide)⟩

/-- Tile `kt` of a weights buffer, staged in both units. -/
def push (W : Memref sig .tc .vmem S3584x512 .bf16) (kt : Nat) (h : kt < 14) (μ : Mxu F) : PM F (Mxu F) := do
  let v ← ld2 W (256 * kt) 0 256 256 ⟨by omega, by omega⟩ h_S256x256
  let μ ← μ.pushRhs 0 (kreg kt) false v
  let v ← ld2 W (256 * kt) 256 256 256 ⟨by omega, by omega⟩ h_S256x256
  μ.pushRhs 1 (kreg kt) false v

/-- Both units' accumulate of one left operand at address `A`. -/
def accBoth (A : Nat) (hA : Mxu.Fits A 256) (r : Fin 2) (lhs : FVec F S256x256 .bf16) (μ : Mxu F) : Mxu F :=
  (μ.accLhs 0 r A lhs hA).accLhs 1 r A lhs hA

/-- Rows `row` of the activations times the staged tile `kt`, accumulated at address `A`. -/
def accumulate (A : Nat) (hA : Mxu.Fits A 256) (row kt : Nat) (h : row + 256 ≤ 6144) (hk : kt < 13) (μ : Mxu F) : PM F (Mxu F) := do
  let v ← ld2 aBuf row (256 * kt) 256 256 ⟨h, by omega⟩ h_S256x256
  pure (accBoth A hA (kreg kt) v μ)

/-- The last tile's: half of it is there twice, and the weights' second half is zero. -/
def accumulateTail (A : Nat) (hA : Mxu.Fits A 256) (row : Nat) (h : row + 256 ≤ 6144) (μ : Mxu F) : PM F (Mxu F) := do
  let v ← ld2 aBuf row 3328 256 128 ⟨h, by omega⟩ h_S256x128
  pure (accBoth A hA 1 (concatenate S256x256 1 [⟨S256x128, v⟩, ⟨S256x128, v⟩] concatenates_S256x128_S256x128_S256x256_d1) μ)

/-- Tiles `kt`, …: accumulate one, stage the next. -/
def steps (W : Memref sig .tc .vmem S3584x512 .bf16) (A : Nat) (hA : Mxu.Fits A 256) (row : Nat) (h : row + 256 ≤ 6144) :
    (n kt : Nat) → (hk : kt + n ≤ 13) → Mxu F → PM F (Mxu F)
  | 0, _, _, μ => pure μ
  | n + 1, kt, hk, μ => do
    let μ ← accumulate A hA row kt h (by omega) μ
    let μ ← push W (kt + 1) (by omega) μ
    steps W A hA row h n (kt + 1) (by omega) μ

/-- One tile of the result: the sum popped, times the weights' scale. -/
def tileOf (acc : FVec F S256x256 .f32) (ws : Vec F S1x256 .f32) : FVec F S256x256 .bf16 :=
  truncf .bf16 (mulf acc (broadcastTo S256x256 (shapeCast S1x256 ws shapeCasts_S1x256_S1x256 : FVec F S1x256 .f32) broadcasts_S1x256_S256x256)) bitsLt_bf16_f32

/-- Unit `q`'s sum at address `A`, popped and stored in slot `s`, half `b`. -/
def popOut (ws : Memref sig .tc .vmem S1x8576 .f32) (A : Nat) (hA : Mxu.Fits A 256) (q : Fin 2) (col s b : Nat)
    (hc : col + 256 ≤ 8576) (hs : s < 2) (hb : b < 2) (μ : Mxu F) : PM F (Mxu F) := do
  let w ← ld2 ws 0 col 1 256 ⟨by omega, hc⟩ h_S1x256
  st3 yBuf (Memref.isWhole_whole _) s (256 * b) (256 * q.val) 1 256 256 ⟨hs, by omega, by have := q.isLt; omega⟩ h_S1x256x256
    ⟨Dvd.dvd.mul_right (by decide) b, by decide⟩
    (shapeCast S1x256x256 (tileOf (μ.read q A hA) w) shapeCasts_S256x256_S1x256x256)
  pure (μ.pop q A 256 hA)

/-- The address of half `b`'s sums. -/
abbrev addr (b : Nat) : Nat := 64 * b

theorem fits0 : Mxu.Fits 0 256 := by decide
theorem fits64 : Mxu.Fits 64 256 := by decide

/-- Half of a trip: the rest of the half's tiles, the first tiles of the next half, and the sums out. -/
def half (ws : Memref sig .tc .vmem S1x8576 .f32) (W W' : Memref sig .tc .vmem S3584x512 .bf16) (A A' : Nat) (hA : Mxu.Fits A 256) (hA' : Mxu.Fits A' 256)
    (row row' : Nat) (h : row + 256 ≤ 6144) (h' : row' + 256 ≤ 6144) (c0 c1 s b : Nat) (hc0 : c0 + 256 ≤ 8576) (hc1 : c1 + 256 ≤ 8576)
    (hs : s < 2) (hb : b < 2) (μ : Mxu F) : PM F (Mxu F) := do
  let μ ← steps W A hA row h 11 2 (by decide) μ
  let μ ← accumulateTail A hA row h μ
  let μ ← push W' 0 (by decide) μ
  let μ ← accumulate A' hA' row' 0 h' (by decide) μ
  let μ ← push W' 1 (by decide) μ
  let μ ← accumulate A' hA' row' 1 h' (by decide) μ
  let μ ← push W' 2 (by decide) μ
  let μ ← popOut ws A hA 0 c0 s b hc0 hs hb μ
  popOut ws A hA 1 c1 s b hc1 hs hb μ

theorem col_inb {p : BitVec 32} (hp : p.toNat ≤ 16) : (colOf p).toNat + 512 ≤ 8576 := by
  rw [colOf_nat (by omega)]; have := fc_le p.toNat; omega

theorem colq_nat {p : BitVec 32} (hp : p.toNat ≤ 16) :
    (Scalar.addi (colOf p) 0#32).toNat = 128 * fc p.toNat ∧ (Scalar.addi (colOf p) 256#32).toNat = 128 * fc p.toNat + 256 := by
  have hall : ∀ n : Fin 17, (Scalar.addi (colOf (BitVec.ofNat 32 n.val)) 0#32).toNat = 128 * fc n.val ∧
      (Scalar.addi (colOf (BitVec.ofNat 32 n.val)) 256#32).toNat = 128 * fc n.val + 256 := by decide +kernel
  have := hall ⟨p.toNat, by omega⟩
  rwa [← word_eq (p := p) rfl] at this

theorem rowb_nat {t : BitVec 32} (ht : t.toNat ≤ 11) :
    (Scalar.addi (Scalar.muli t 512#32) 0#32).toNat = 512 * t.toNat ∧ (Scalar.addi (Scalar.muli t 512#32) 256#32).toNat = 512 * t.toNat + 256 := by
  have hall : ∀ n : Fin 12, (Scalar.addi (Scalar.muli (BitVec.ofNat 32 n.val) 512#32) 0#32).toNat = 512 * n.val ∧
      (Scalar.addi (Scalar.muli (BitVec.ofNat 32 n.val) 512#32) 256#32).toNat = 512 * n.val + 256 := by decide +kernel
  have := hall ⟨t.toNat, by omega⟩
  rwa [← word_eq (p := t) rfl] at this

/-- The matrix unit's part of a trip. -/
def core (ws : Memref sig .tc .vmem S1x8576 .f32) (W W' : Memref sig .tc .vmem S3584x512 .bf16) (p t : BitVec 32) (hp : p.toNat ≤ 16)
    (ht : t.toNat ≤ 11) (nrow : Nat) (hn : nrow + 256 ≤ 6144) (μ : Mxu F) : PM F (Mxu F) := do
  have hc0 : (Scalar.addi (colOf p) 0#32).toNat + 256 ≤ 8576 := by rw [(colq_nat hp).1]; have := fc_le p.toNat; omega
  have hc1 : (Scalar.addi (colOf p) 256#32).toNat + 256 ≤ 8576 := by rw [(colq_nat hp).2]; have := fc_le p.toNat; omega
  have hr0 : (Scalar.addi (Scalar.muli t 512#32) 0#32).toNat + 256 ≤ 6144 := by rw [(rowb_nat ht).1]; omega
  have hr1 : (Scalar.addi (Scalar.muli t 512#32) 256#32).toNat + 256 ≤ 6144 := by rw [(rowb_nat ht).2]; omega
  have hs : (slotOf p t).toNat < 2 := by rw [slotOf_nat hp ht]; omega
  let μ ← half ws W W 0 64 fits0 fits64 (Scalar.addi (Scalar.muli t 512#32) 0#32).toNat (Scalar.addi (Scalar.muli t 512#32) 256#32).toNat hr0 hr1
    (Scalar.addi (colOf p) 0#32).toNat (Scalar.addi (colOf p) 256#32).toNat (slotOf p t).toNat 0 hc0 hc1 hs (by decide) μ
  half ws W W' 64 0 fits64 fits0 (Scalar.addi (Scalar.muli t 512#32) 256#32).toNat nrow hr1 hn
    (Scalar.addi (colOf p) 0#32).toNat (Scalar.addi (colOf p) 256#32).toNat (slotOf p t).toNat 1 hc0 hc1 hs (by decide) μ

/-! ## Trips and panels -/

theorem yRow_inb {t : BitVec 32} (ht : t.toNat ≤ 11) : (Scalar.muli t 512#32).toNat + 512 ≤ 6144 := by rw [row512_nat (by omega)]; omega
theorem yRow_dvd {t : BitVec 32} (ht : t.toNat ≤ 11) : 2 ∣ (Scalar.muli t 512#32).toNat := by rw [row512_nat (by omega)]; omega

theorem prevT_le {t : BitVec 32} (ht : t.toNat ≤ 11) : (prevT t).toNat ≤ 11 := by rw [prevT_nat ht]; split <;> omega
theorem prevP_le {p t : BitVec 32} (hp : p.toNat ≤ 16) (ht : t.toNat ≤ 11) (h : p.toNat ≠ 0 ∨ t.toNat ≠ 0) : (prevP p t).toNat ≤ 16 := by
  rw [prevP_nat hp ht h]; split <;> omega

/-- The previous trip's tile on its way out, -/
def yStartPrev (p t : BitVec 32) (hp : p.toNat ≤ 16) (ht : t.toNat ≤ 11) (h : p.toNat ≠ 0 ∨ t.toNat ≠ 0) : PM F PUnit :=
  yStart (Scalar.muli (prevT t) 512#32).toNat (colOf (prevP p t)).toNat (Scalar.subi 1#32 (slotOf p t)).toNat
    ⟨yRow_inb (prevT_le ht), col_inb (prevP_le hp ht h)⟩ (yRow_dvd (prevT_le ht)) (by rw [otherSlot_nat hp ht]; omega)

/-- and the slot's last one waited for. -/
def yWaitPrev (p t : BitVec 32) (hp : p.toNat ≤ 16) (ht : t.toNat ≤ 11) : PM F PUnit :=
  yWait (Scalar.muli t 512#32).toNat (colOf p).toNat (slotOf p t).toNat ⟨yRow_inb ht, col_inb hp⟩ (yRow_dvd ht) (by rw [slotOf_nat hp ht]; omega)

/-- A trip's head in the first panel: there may be no trip before it. -/
def head0 (p t : BitVec 32) (hp : p.toNat ≤ 16) (ht : t.toNat ≤ 11) : PM F PUnit := do
  if h : Scalar.cmpi .ne (Scalar.extui (Scalar.cmpi .sgt t 0#32)) 0#32 = 1#1 then do
    yStartPrev p t hp ht (.inr (by
      intro h0
      have : t = 0#32 := by rw [word_eq h0]
      subst this; exact absurd h (by decide)))
    pure ⟨⟩
  else pure ⟨⟩
  if h : Scalar.cmpi .ne (Scalar.extui (Scalar.cmpi .sgt t 1#32)) 0#32 = 1#1 then do
    yWaitPrev p t hp ht
    pure ⟨⟩
  else pure ⟨⟩

/-- A trip's head elsewhere. -/
def head (p t : BitVec 32) (hp : p.toNat ≤ 16) (ht : t.toNat ≤ 11) (h : p.toNat ≠ 0 ∨ t.toNat ≠ 0) : PM F PUnit := do
  yStartPrev p t hp ht h
  yWaitPrev p t hp ht

theorem group_nat {t : BitVec 32} (ht : t.toNat ≤ 8) {i : BitVec 32} (hi : i.toNat ≤ 2) :
    (Scalar.addi (Scalar.muli t 3#32) i).toNat = 3 * t.toNat + i.toNat := by
  have hall : ∀ (n : Fin 9) (k : Fin 3), (Scalar.addi (Scalar.muli (BitVec.ofNat 32 n.val) 3#32) (BitVec.ofNat 32 k.val)).toNat = 3 * n.val + k.val := by
    decide +kernel
  have := hall ⟨t.toNat, by omega⟩ ⟨i.toNat, by omega⟩
  rwa [← word_eq (p := t) rfl, ← word_eq (p := i) rfl] at this

/-- Three groups of the next panel widened. -/
def widen3 (W : Memref sig .tc .vmem S3584x512 .bf16) (hW : W.IsWhole) (p t : BitVec 32) (ht : t.toNat ≤ 8) : PM F PUnit := do
  widenW W hW (Scalar.addi (Scalar.muli t 3#32) 0#32) (Scalar.addi p 1#32) (by rw [group_nat ht (by decide)]; simp; omega)
  widenW W hW (Scalar.addi (Scalar.muli t 3#32) 1#32) (Scalar.addi p 1#32) (by rw [group_nat ht (by decide)]; simp; omega)
  widenW W hW (Scalar.addi (Scalar.muli t 3#32) 2#32) (Scalar.addi p 1#32) (by rw [group_nat ht (by decide)]; simp; omega)

/-- The rows of the trip after trip `t`. -/
abbrev nextRow (t : BitVec 32) : Nat := (Scalar.muli (Scalar.addi t 1#32) 512#32).toNat

theorem nextRow_nat {t : BitVec 32} (ht : t.toNat ≤ 10) : nextRow t = 512 * (t.toNat + 1) := by
  have hall : ∀ n : Fin 11, nextRow (BitVec.ofNat 32 n.val) = 512 * (n.val + 1) := by decide +kernel
  have := hall ⟨t.toNat, by omega⟩
  rwa [← word_eq (p := t) rfl] at this

theorem nextRow_inb {t : BitVec 32} (ht : t.toNat ≤ 10) : nextRow t + 256 ≤ 6144 := by rw [nextRow_nat ht]; omega

/-- The word of a loop's trip. -/
abbrev ivFrom (lb : BitVec 32) {n : Nat} (k : Fin n) : BitVec 32 := Scf.iv lb 1#32 k

theorem iv9 (k : Fin k0_t3_loop.trips) : (ivFrom 0#32 k).toNat ≤ 8 :=
  (by decide +kernel : ∀ k : Fin k0_t3_loop.trips, (ivFrom 0#32 k).toNat ≤ 8) k
theorem iv2 (k : Fin k0_t4_loop.trips) : (ivFrom 9#32 k).toNat ≤ 10 :=
  (by decide +kernel : ∀ k : Fin k0_t4_loop.trips, (ivFrom 9#32 k).toNat ≤ 10) k
theorem iv2_pos (k : Fin k0_t4_loop.trips) : (ivFrom 9#32 k).toNat ≠ 0 :=
  (by decide +kernel : ∀ k : Fin k0_t4_loop.trips, (ivFrom 9#32 k).toNat ≠ 0) k
theorem iv27 (k : Fin k0_t2_loop.trips) : (ivFrom 0#32 k).toNat ≤ 26 :=
  (by decide +kernel : ∀ k : Fin k0_t2_loop.trips, (ivFrom 0#32 k).toNat ≤ 26) k
theorem iv48 (k : Fin k0_t1_loop.trips) : (ivFrom 0#32 k).toNat ≤ 47 :=
  (by decide +kernel : ∀ k : Fin k0_t1_loop.trips, (ivFrom 0#32 k).toNat ≤ 47) k

theorem next_le {p : BitVec 32} (hp : p.toNat ≤ 16) : (Scalar.addi p 1#32).toNat ≤ 17 ∧ (Scalar.minsi (Scalar.addi p 2#32) 16#32).toNat ≤ 17 := by
  have hall : ∀ n : Fin 17, (Scalar.addi (BitVec.ofNat 32 n.val) 1#32).toNat ≤ 17 ∧ (Scalar.minsi (Scalar.addi (BitVec.ofNat 32 n.val) 2#32) 16#32).toNat ≤ 17 := by
    decide +kernel
  have := hall ⟨p.toNat, by omega⟩
  rwa [← word_eq (p := p) rfl] at this

section Panel
variable (ws : Memref sig .tc .vmem S1x8576 .f32) (W W' : Memref sig .tc .vmem S3584x512 .bf16) (hW' : W'.IsWhole)

/-- The first panel. -/
def panel0 (p : BitVec 32) (hp : p.toNat ≤ 16) (μ : Mxu F) : PM F (Mxu F) := do
  waitWp (Scalar.addi p 1#32) (next_le hp).1
  let μ ← Scf.Loop.for k0_t3_loop k0_t3_ok μ fun k μ => do
    head0 p (ivFrom 0#32 k) hp ((iv9 k).trans (by decide))
    widen3 W' hW' p (ivFrom 0#32 k) (iv9 k)
    core ws W W p (ivFrom 0#32 k) hp ((iv9 k).trans (by decide)) (nextRow (ivFrom 0#32 k)) (nextRow_inb ((iv9 k).trans (by decide))) μ
  startWp (Scalar.minsi (Scalar.addi p 2#32) 16#32) (next_le hp).2
  let μ ← Scf.Loop.for k0_t4_loop k0_t4_ok μ fun k μ => do
    head0 p (ivFrom 9#32 k) hp ((iv2 k).trans (by decide))
    core ws W W p (ivFrom 9#32 k) hp ((iv2 k).trans (by decide)) (nextRow (ivFrom 9#32 k)) (nextRow_inb (iv2 k)) μ
  head p 11#32 hp (by decide) (.inr (by decide))
  core ws W W' p 11#32 hp (by decide) 0 (by decide) μ

/-- A later panel. -/
def panel (p : BitVec 32) (hp : p.toNat ≤ 16) (h0 : p.toNat ≠ 0) (μ : Mxu F) : PM F (Mxu F) := do
  waitWp (Scalar.addi p 1#32) (next_le hp).1
  let μ ← Scf.Loop.for k0_t3_loop k0_t3_ok μ fun k μ => do
    head p (ivFrom 0#32 k) hp ((iv9 k).trans (by decide)) (.inl h0)
    widen3 W' hW' p (ivFrom 0#32 k) (iv9 k)
    core ws W W p (ivFrom 0#32 k) hp ((iv9 k).trans (by decide)) (nextRow (ivFrom 0#32 k)) (nextRow_inb ((iv9 k).trans (by decide))) μ
  startWp (Scalar.minsi (Scalar.addi p 2#32) 16#32) (next_le hp).2
  let μ ← Scf.Loop.for k0_t4_loop k0_t4_ok μ fun k μ => do
    head p (ivFrom 9#32 k) hp ((iv2 k).trans (by decide)) (.inl h0)
    core ws W W p (ivFrom 9#32 k) hp ((iv2 k).trans (by decide)) (nextRow (ivFrom 9#32 k)) (nextRow_inb (iv2 k)) μ
  head p 11#32 hp (by decide) (.inl h0)
  core ws W W' p 11#32 hp (by decide) 0 (by decide) μ

end Panel

/-- The panels of a pair, as words. -/
abbrev pOdd (k : Fin k0_t5_loop.trips) : BitVec 32 := Scalar.addi (Scalar.muli 2#32 (ivFrom 0#32 k)) 1#32
abbrev pEven (k : Fin k0_t5_loop.trips) : BitVec 32 := Scalar.addi (Scalar.muli 2#32 (ivFrom 0#32 k)) 2#32

theorem pOdd_nat (k : Fin k0_t5_loop.trips) : (pOdd k).toNat = 2 * k.val + 1 :=
  (by decide +kernel : ∀ k : Fin k0_t5_loop.trips, (pOdd k).toNat = 2 * k.val + 1) k
theorem pEven_nat (k : Fin k0_t5_loop.trips) : (pEven k).toNat = 2 * k.val + 2 :=
  (by decide +kernel : ∀ k : Fin k0_t5_loop.trips, (pEven k).toNat = 2 * k.val + 2) k
theorem t5_lt (k : Fin k0_t5_loop.trips) : k.val < 8 := k.isLt

/-- The rows of the weights buffers past the contraction, zeroed. -/
def zeroTail (W : Memref sig .tc .vmem S3584x512 .bf16) (hW : W.IsWhole) : PM F PUnit :=
  st2 W hW 3456 0 128 512 ⟨by omega, by omega⟩ h_S128x512 (by decide)
    (shapeCast S128x512 (broadcast S128x512 (Scalar.ofBits .bf16 0x0000#16)) shapeCasts_S128x512_S128x512)

/-- Two panels. -/
def panels (ws : Memref sig .tc .vmem S1x8576 .f32) (k : Fin k0_t5_loop.trips) (μ : Mxu F) : PM F (Mxu F) := do
  have hk := t5_lt k
  let μ ← panel ws w1 w0 (Memref.isWhole_whole _) (pOdd k) (by rw [pOdd_nat]; omega) (by rw [pOdd_nat]; omega) μ
  panel ws w0 w1 (Memref.isWhole_whole _) (pEven k) (by rw [pEven_nat]; omega) (by rw [pEven_nat]; omega) μ

/-- The four accumulators of a fresh unit, emptied. -/
def emptied : Mxu F :=
  ((((Mxu.init : Mxu F).pop 0 0 256 fits0).pop 1 0 256 fits0).pop 0 64 256 fits64).pop 1 64 256 fits64

/-- The first tiles of the first trip. -/
def lead (μ : Mxu F) : PM F (Mxu F) := do
  let μ ← push w0 0 (by decide) μ
  let μ ← accumulate 0 fits0 0 0 (by decide) (by decide) μ
  let μ ← push w0 1 (by decide) μ
  let μ ← accumulate 0 fits0 0 1 (by decide) (by decide) μ
  push w0 2 (by decide) μ

/-- The quantiser: every row's codes, scales and activations. -/
def quantAll : PM F PUnit := do
  Scf.Loop.for k0_t1_loop k0_t1_ok PUnit.unit fun k _ => quantStep (ivFrom 0#32 k) (iv48 k)
  cWait 5888 0 (by decide) (by decide) (by decide)
  sWait 5888 0 (by decide) (by decide) (by decide)
  cWait 6016 1 (by decide) (by decide) (by decide)
  sWait 6016 1 (by decide) (by decide) (by decide)

/-- The first panel's weights. -/
def widenAll : PM F PUnit := do
  waitWp 0#32 (by decide)
  Scf.Loop.for k0_t2_loop k0_t2_ok PUnit.unit fun k _ => do
    widenW w0 (Memref.isWhole_whole _) (ivFrom 0#32 k) 0#32 (iv27 k)
    pure ⟨⟩
  startWp 1#32 (by decide)

/-- The last copies out, the unit emptied, and what is still under way waited for. -/
def finish (μ : Mxu F) : PM F PUnit := do
  yStart (Scalar.muli 11#32 512#32).toNat (colOf 16#32).toNat 1 (by decide +kernel) (by decide +kernel) (by decide)
  let μ ← accumulate 0 fits0 0 2 (by decide) (by decide) μ
  waitWp 16#32 (by decide)
  yWait (Scalar.muli 10#32 512#32).toNat (colOf 16#32).toNat 0 (by decide +kernel) (by decide +kernel) (by decide)
  yWait (Scalar.muli 11#32 512#32).toNat (colOf 16#32).toNat 1 (by decide +kernel) (by decide +kernel) (by decide)
  ((μ.pop 0 0 256 fits0).pop 1 0 256 fits0).exit
  pure ⟨⟩

/-- The body. -/
def body (ws : Memref sig .tc .vmem S1x8576 .f32) : PM F PUnit := do
  startWp 0#32 (by decide)
  xStart 0 0 (by decide) (by decide) (by decide)
  zeroTail w0 (Memref.isWhole_whole _)
  zeroTail w1 (Memref.isWhole_whole _)
  quantAll
  widenAll
  let μ ← lead emptied
  let μ ← panel0 ws w0 w1 (Memref.isWhole_whole _) 0#32 (by decide) μ
  let μ ← Scf.Loop.for k0_t5_loop k0_t5_ok μ fun k μ => panels ws k μ
  finish μ

end Cert.KernelIdeal.Model
-- ==== Proof.Unit.lean ====
/- What the two matrix units hold between the kernel's steps: which registers hold which tiles, and which of the two
   accumulators hold which sums. -/
module

public import proofs.«01_k».proof.Proof.Model
public import Idealize.ShloMosaic.Lib.Mxu.Lemmas

@[expose] public section

noncomputable section

namespace Cert.KernelIdeal.Model

open Idealize.ShloMosaic Idealize.SL.Sem

variable {F : FTy → Type} [FloatOps F]

/-- One tile's products. -/
abbrev pass (lhs v : FVec F S256x256 .bf16) : FVec F S256x256 .f32 := FloatOps.mxuPass (DotDims.plain 256 256 256) lhs v

/-- What an accumulate leaves at an address. -/
def accTo (a : Option (FVec F S256x256 .f32)) (x : FVec F S256x256 .f32) : FVec F S256x256 .f32 :=
  match a with
  | none => x
  | some s => addf s x

theorem fitsb (b : Fin 2) : Mxu.Fits (64 * b.val) 256 := by revert b; decide

/-- Registers `ρ` (unit, register) and accumulators `α` (unit, half). -/
structure St (μ : Mxu F) (ρ : Fin 2 → Fin 2 → Option (FVec F S256x256 .bf16)) (α : Fin 2 → Fin 2 → Option (FVec F S256x256 .f32)) : Prop where
  reg : ∀ q r, μ.reg q r = (ρ q r).map fun v => ⟨.bf16, false, v⟩
  live : ∀ q (R : Fin 1024), μ.live q R = if R.val < 256 then (α q 0).isSome else if R.val < 512 then (α q 1).isSome else false
  read : ∀ q b v, α q b = some v → μ.read q (64 * b.val) (fitsb b) = v

theorem St_init : St (Mxu.init : Mxu F) (fun _ _ => none) (fun _ _ => none) :=
  ⟨fun q r => by simp, fun q R => by simp, fun q b v h => by cases h⟩

theorem live_row {μ : Mxu F} {ρ α} (h : St μ ρ α) (q b : Fin 2) (r : Fin 256) : μ.live q (Mxu.row (fitsb b) r) = (α q b).isSome := by
  rw [h.live]
  have hr := r.isLt
  have hb := b.isLt
  show (if 4 * (64 * b.val) + r.val < 256 then _ else if 4 * (64 * b.val) + r.val < 512 then _ else _) = _
  match b with
  | 0 => rw [if_pos (by simp only [Fin.val_zero]; omega)]
  | 1 => rw [if_neg (by simp only [Fin.val_one]; omega), if_pos (by simp only [Fin.val_one]; omega)]

/-- The tiles `v` of a register, in both units. -/
def push2 (ρ : Fin 2 → Fin 2 → Option (FVec F S256x256 .bf16)) (r : Fin 2) (v : Fin 2 → FVec F S256x256 .bf16) :
    Fin 2 → Fin 2 → Option (FVec F S256x256 .bf16) := fun q r' => if r' = r then some (v q) else ρ q r'
/-- A register emptied, in both units. -/
def clr2 (ρ : Fin 2 → Fin 2 → Option (FVec F S256x256 .bf16)) (r : Fin 2) : Fin 2 → Fin 2 → Option (FVec F S256x256 .bf16) :=
  fun q r' => if r' = r then none else ρ q r'
/-- An accumulator added to, in both units. -/
def add2 (α : Fin 2 → Fin 2 → Option (FVec F S256x256 .f32)) (b : Fin 2) (x : Fin 2 → FVec F S256x256 .f32) :
    Fin 2 → Fin 2 → Option (FVec F S256x256 .f32) := fun q b' => if b' = b then some (accTo (α q b) (x q)) else α q b'
/-- One unit's accumulator emptied. -/
def pop1 (α : Fin 2 → Fin 2 → Option (FVec F S256x256 .f32)) (q b : Fin 2) : Fin 2 → Fin 2 → Option (FVec F S256x256 .f32) :=
  fun q' b' => if q' = q ∧ b' = b then none else α q' b'

theorem St_push1 {μ : Mxu F} {ρ α} (h : St μ ρ α) (q r : Fin 2) (v : FVec F S256x256 .bf16) (hn : ρ q r = none) :
    μ.PushOk q r false ∧ St (μ.pushed q r false v) (fun q' r' => if q' = q ∧ r' = r then some v else ρ q' r') α := by
  have hr : μ.reg q r = none := by rw [h.reg, hn]; rfl
  refine ⟨Mxu.pushOk_of_none μ q r false hr, fun q' r' => ?_, fun q' R => ?_, fun q' b w hw => ?_⟩
  · by_cases hc : q' = q ∧ r' = r
    · obtain ⟨rfl, rfl⟩ := hc
      rw [Mxu.reg_pushed_of_none _ _ _ _ _ hr, if_pos ⟨rfl, rfl⟩]; rfl
    · rw [Mxu.reg_pushed_ne _ _ _ _ _ _ _ hc, if_neg hc, h.reg]
  · rw [Mxu.live_pushed]; exact h.live q' R
  · rw [Mxu.read_pushed]; exact h.read q' b w hw

theorem St_push {μ : Mxu F} {ρ α} (h : St μ ρ α) (r : Fin 2) (v : Fin 2 → FVec F S256x256 .bf16) (hn : ∀ q, ρ q r = none) :
    μ.PushOk 0 r false ∧ (μ.pushed 0 r false (v 0)).PushOk 1 r false ∧ St ((μ.pushed 0 r false (v 0)).pushed 1 r false (v 1)) (push2 ρ r v) α := by
  obtain ⟨h0, s0⟩ := St_push1 h 0 r (v 0) (hn 0)
  obtain ⟨h1, s1⟩ := St_push1 s0 1 r (v 1) (by rw [if_neg (by simp)]; exact hn 1)
  refine ⟨h0, h1, ?_⟩
  convert s1 using 1
  funext q r'
  unfold push2
  match q with
  | 0 => by_cases hc : r' = r <;> simp [hc]
  | 1 => by_cases hc : r' = r <;> simp [hc]

theorem St_acc1 {μ : Mxu F} {ρ α} (h : St μ ρ α) (q r b : Fin 2) (lhs v : FVec F S256x256 .bf16) (hv : ρ q r = some v) :
    St (μ.accLhs q r (64 * b.val) lhs (fitsb b)) (fun q' r' => if q' = q ∧ r' = r then none else ρ q' r')
      (fun q' b' => if q' = q ∧ b' = b then some (accTo (α q b) (pass lhs v)) else α q' b') := by
  have hst : μ.staged q r = ⟨.bf16, false, v⟩ := by rw [Mxu.staged_eq, h.reg, hv]; rfl
  refine ⟨fun q' r' => ?_, fun q' R => ?_, fun q' b' w hw => ?_⟩
  · by_cases hc : q' = q ∧ r' = r
    · obtain ⟨rfl, rfl⟩ := hc
      rw [Mxu.reg_accLhs, if_pos ⟨rfl, rfl⟩]; rfl
    · rw [Mxu.reg_accLhs_ne _ _ _ _ _ _ _ _ hc, if_neg hc, h.reg]
  · rw [Mxu.live_accLhs, h.live]
    by_cases hq : q' = q
    · subst hq
      match b with
      | 0 => by_cases h1 : R.val < 256 <;> simp [h1]
      | 1 =>
        by_cases h1 : R.val < 256
        · simp [h1]
        · by_cases h2 : R.val < 512
          · simp [h1, h2]; omega
          · simp [h1, h2]
    · simp [hq]
  · by_cases hc : q' = q ∧ b' = b
    · obtain ⟨rfl, rfl⟩ := hc
      rw [if_pos ⟨rfl, rfl⟩] at hw
      cases hw
      cases ha : α q' b' with
      | none =>
        rw [Mxu.read_accLhs_of_not_live _ _ _ _ _ _ (fun r' => by rw [live_row h, ha]; rfl), hst]; rfl
      | some s =>
        rw [Mxu.read_accLhs_of_live _ _ _ _ _ _ (fun r' => by rw [live_row h, ha]; rfl), hst, h.read _ _ _ ha]; rfl
    · rw [if_neg hc] at hw
      rw [Mxu.read_accLhs_ne _ _ _ _ _ _ _ _ _ ?_]
      · exact h.read _ _ _ hw
      · by_cases hq : q' = q
        · right
          have hb : b' ≠ b := fun hb => hc ⟨hq, hb⟩
          have : b'.val ≠ b.val := fun hb' => hb (Fin.ext hb')
          have := b.isLt; have := b'.isLt
          omega
        · exact .inl hq

theorem St_acc {μ : Mxu F} {ρ α} (h : St μ ρ α) (r b : Fin 2) (lhs : FVec F S256x256 .bf16) (v : Fin 2 → FVec F S256x256 .bf16)
    (hv : ∀ q, ρ q r = some (v q)) :
    St (accBoth (64 * b.val) (fitsb b) r lhs μ) (clr2 ρ r) (add2 α b fun q => pass lhs (v q)) := by
  have s0 := St_acc1 h 0 r b lhs (v 0) (hv 0)
  have s1 := St_acc1 s0 1 r b lhs (v 1) (by rw [if_neg (by simp)]; exact hv 1)
  unfold accBoth
  convert s1 using 1
  · funext q r'
    unfold clr2
    match q with
    | 0 => by_cases hc : r' = r <;> simp [hc]
    | 1 => by_cases hc : r' = r <;> simp [hc]
  · funext q b'
    unfold add2
    match q with
    | 0 => by_cases hc : b' = b <;> simp [hc]
    | 1 => by_cases hc : b' = b <;> simp [hc]

theorem St_pop {μ : Mxu F} {ρ α} (h : St μ ρ α) (q b : Fin 2) : St (μ.pop q (64 * b.val) 256 (fitsb b)) ρ (pop1 α q b) := by
  refine ⟨fun q' r' => ?_, fun q' R => ?_, fun q' b' w hw => ?_⟩
  · rw [Mxu.reg_pop]; exact h.reg q' r'
  · rw [Mxu.live_pop, h.live]
    unfold pop1
    by_cases hq : q' = q
    · subst hq
      match b with
      | 0 => by_cases h1 : R.val < 256 <;> simp [h1]
      | 1 =>
        by_cases h1 : R.val < 256
        · simp [h1]
        · by_cases h2 : R.val < 512
          · simp [h1, h2]
          · simp [h1, h2]
    · simp [hq]
  · unfold pop1 at hw
    by_cases hc : q' = q ∧ b' = b
    · rw [if_pos hc] at hw; cases hw
    · rw [if_neg hc] at hw
      rw [Mxu.read_pop_ne _ _ _ _ _ _ _ ?_]
      · exact h.read _ _ _ hw
      · by_cases hq : q' = q
        · right
          have hb : b' ≠ b := fun hb => hc ⟨hq, hb⟩
          have : b'.val ≠ b.val := fun hb' => hb (Fin.ext hb')
          have := b.isLt; have := b'.isLt
          omega
        · exact .inl hq

theorem drained {μ : Mxu F} {ρ α} (h : St μ ρ α) (hρ : ∀ q r, ρ q r = none) (hα : ∀ q b, α q b = none) : μ.Drained := by
  refine ⟨fun q r => ?_, fun q R => ?_⟩
  · rw [h.reg, hρ]; rfl
  · rw [h.live, hα, hα]; simp

end Cert.KernelIdeal.Model
-- ==== Proof.Own.lean ====
/- What the body holds of a two-axis array: some of its elements, and what is known of them. `kn M q P K G`: the elements
   `(i, j)` of `M` with `P i j`, at share `q`; those with `K i j` hold `G i j`. -/
module

public import proofs.«01_k».proof.Proof.Model
public import proofs.«01_k».proof.Proof.Gen.KernelIdeal.Launch
public import proofs.«01_k».proof.Proof.Gen.KernelIdeal.Points
public import Idealize.ShloMosaic.Lib.Pipeline.FrameBody
public import Idealize.ShloMosaic.Lib.Batch
public import Idealize.ShloMosaic.Lib.Ring
public import Idealize.ShloMosaic.Lib.ViewIndex
public import Idealize.ShloMosaic.Lib.ValueIdxCore

@[expose] public section

set_option maxRecDepth 16384

noncomputable section

namespace Cert.KernelIdeal.Model

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The weakest precondition of a program of the kernel's core. -/
abbrev WP (c : Dev nD) {α : Type} (p : PM F α) (Q : α → sProp 𝕄) : sProp 𝕄 :=
  wp frame (wpE (defs₀ (F := F)) Variants.none (c : Thread nD τ) none) Set.univ p Q

/-- A step, then the rest. -/
theorem WP_bind {c : Dev nD} {α β : Type} {p : PM F α} {k : α → PM F β} {P : sProp 𝕄} {R : α → sProp 𝕄} {Q : β → sProp 𝕄} (h : P ⊢ WP c p R) :
    P ⊢ iprop((∀ x, R x -∗ WP c (k x) Q) -∗ WP c (p >>= k) Q) := by
  show P ⊢ iprop((∀ x, R x -∗ WP c (k x) Q) -∗ wp _ _ _ (p >>= k) Q)
  rw [wp_bind]
  iintro HP HK
  iapply wp_wand_r
  isplitl [HP]
  · iapply h $$ HP
  · iexact HK

/-- A step at the end. -/
theorem WP_mono {c : Dev nD} {α : Type} {p : PM F α} {P : sProp 𝕄} {R : α → sProp 𝕄} {Q : α → sProp 𝕄} (h : P ⊢ WP c p R) :
    P ⊢ iprop((∀ x, R x -∗ Q x) -∗ WP c p Q) := by
  iintro HP HK
  iapply wp_wand_r
  isplitl [HP]
  · iapply h $$ HP
  · iexact HK

theorem WP_pure {c : Dev nD} {α : Type} {x : α} {Q : α → sProp 𝕄} : Q x ⊢ WP c (pure x : PM F α) Q := by
  show Q x ⊢ wp _ _ _ (Prog.ret x) Q
  rw [wp_ret]
  exact BI.fupd_intro

/-! ## Elements held -/

section Kn

variable {sp : Space} {R C : Nat} {e : EltTy}

/-- The elements of `M` with `P`. -/
def cells (M : Memref sig .tc sp ⟨2, ![R, C]⟩ e) (P : Nat → Nat → Prop) : Finset M.view.ty.Idx :=
  M.view.setOn (by classical exact Finset.univ.filter fun x => P (x 0).val (x 1).val)

/-- The elements with `P`, those with `K` holding `G`. -/
def kn (c : Dev nD) (M : Memref sig .tc sp ⟨2, ![R, C]⟩ e) (q : PosShare TreeShare) (P K : Nat → Nat → Prop) (G : Nat → Nat → Elt F e) : sProp 𝕄 :=
  iprop(∃ f : Buf (Elt F) (M.view.loc (c : Thread nD τ)), (M.view.loc (c : Thread nD τ) ↦[cells M P]{q} f)
    ∗ ⌜∀ x, P (x 0).val (x 1).val → K (x 0).val (x 1).val → M.view.read (Elt F) f x = G (x 0).val (x 1).val⌝)

instance kn_storable (c : Dev nD) (M : Memref sig .tc sp ⟨2, ![R, C]⟩ e) (q : PosShare TreeShare) (P K : Nat → Nat → Prop) (G : Nat → Nat → Elt F e) :
    BI.Storable (upEmb : UEmb _ 𝕄) (kn c M q P K G) := by unfold kn; infer_instance

theorem mem_cells {M : Memref sig .tc sp ⟨2, ![R, C]⟩ e} {P : Nat → Nat → Prop} {x : (⟨2, ![R, C]⟩ : Shape).Idx} :
    M.view.emb x ∈ cells M P ↔ P (x 0).val (x 1).val := by
  classical
  unfold cells; rw [View.mem_setOn]; simp

theorem exists_of_mem_cells {M : Memref sig .tc sp ⟨2, ![R, C]⟩ e} {P : Nat → Nat → Prop} {i : M.view.ty.Idx} (h : i ∈ cells M P) :
    ∃ x, M.view.emb x = i ∧ P (x 0).val (x 1).val := by
  classical
  obtain ⟨x, hx, rfl⟩ := Finset.mem_map.mp h
  exact ⟨x, rfl, mem_cells.1 h⟩

variable {c : Dev nD} {M : Memref sig .tc sp ⟨2, ![R, C]⟩ e} {q : PosShare TreeShare} {P P₁ P₂ K K' : Nat → Nat → Prop} {G G' : Nat → Nat → Elt F e}

theorem kn_weaken (h : ∀ i j, i < R → j < C → P i j → K' i j → K i j ∧ G i j = G' i j) : (kn c M q P K G : sProp 𝕄) ⊢ kn c M q P K' G' := by
  unfold kn
  iintro ⟨%f, Hf, %hf⟩
  iexists f
  isplitl [Hf]; · iexact Hf
  ipureintro
  intro x hP hK
  obtain ⟨h1, h2⟩ := h _ _ (x 0).isLt (x 1).isLt hP hK
  rw [hf x hP h1, h2]

/-- Parts of what is held: `P` is `P₁` and `P₂`, disjoint. -/
abbrev Parts (R C : Nat) (P P₁ P₂ : Nat → Nat → Prop) : Prop :=
  ∀ i j, i < R → j < C → (P i j ↔ (P₁ i j ∨ P₂ i j)) ∧ ¬(P₁ i j ∧ P₂ i j)

theorem cells_parts (h : Parts R C P P₁ P₂) : cells M P = cells M P₁ ∪ cells M P₂ ∧ Disjoint (cells M P₁) (cells M P₂) := by
  classical
  constructor
  · ext i
    rw [Finset.mem_union]
    constructor
    · intro hi
      obtain ⟨x, rfl, hx⟩ := exists_of_mem_cells hi
      rw [mem_cells, mem_cells]; exact (h _ _ (x 0).isLt (x 1).isLt).1.1 hx
    · rintro (hi | hi) <;> obtain ⟨x, rfl, hx⟩ := exists_of_mem_cells hi <;> rw [mem_cells]
      · exact (h _ _ (x 0).isLt (x 1).isLt).1.2 (.inl hx)
      · exact (h _ _ (x 0).isLt (x 1).isLt).1.2 (.inr hx)
  · rw [Finset.disjoint_left]
    intro i hi hj
    obtain ⟨x, rfl, hx⟩ := exists_of_mem_cells hi
    exact (h _ _ (x 0).isLt (x 1).isLt).2 ⟨hx, mem_cells.1 hj⟩

theorem kn_split (h : Parts R C P P₁ P₂) : (kn c M q P K G : sProp 𝕄) ⊢ iprop(kn c M q P₁ K G ∗ kn c M q P₂ K G) := by
  classical
  unfold kn
  iintro ⟨%f, Hf, %hf⟩
  rw [(cells_parts h).1]
  ihave H := (pointsTo_union (cells_parts h).2).1 $$ Hf
  icases H with ⟨H1, H2⟩
  isplitl [H1]
  · iexists f
    isplitl [H1]; · iexact H1
    ipureintro; intro x hP hK; exact hf x ((h _ _ (x 0).isLt (x 1).isLt).1.2 (.inl hP)) hK
  · iexists f
    isplitl [H2]; · iexact H2
    ipureintro; intro x hP hK; exact hf x ((h _ _ (x 0).isLt (x 1).isLt).1.2 (.inr hP)) hK

theorem kn_join (h : Parts R C P P₁ P₂) : (iprop(kn c M q P₁ K G ∗ kn c M q P₂ K G) : sProp 𝕄) ⊢ kn c M q P K G := by
  classical
  unfold kn
  iintro ⟨⟨%f, Hf, %hf⟩, ⟨%g, Hg, %hg⟩⟩
  iexists (cells M P₂).piecewise g f
  rw [(cells_parts h).1]
  isplitl [Hf Hg]
  · iapply (pointsTo_join (cells_parts h).2)
    isplitl [Hf]; · iexact Hf
    iexact Hg
  ipureintro
  intro x hP hK
  by_cases h2 : P₂ (x 0).val (x 1).val
  · rw [← hg x h2 hK]
    exact View.read_congr_at x (Finset.piecewise_eq_of_mem _ _ _ (mem_cells.2 h2))
  · have h1 := ((h _ _ (x 0).isLt (x 1).isLt).1.1 hP).resolve_right h2
    rw [← hf x h1 hK]
    exact View.read_congr_at x (Finset.piecewise_eq_of_notMem _ _ _ (fun hm => h2 (mem_cells.1 hm)))

end Kn

/-! ## Rectangles -/

/-- In the rectangle at `(r, c)`, `m` by `n`. -/
abbrev InRect (r c m n i j : Nat) : Prop := (r ≤ i ∧ i < r + m) ∧ (c ≤ j ∧ j < c + n)

/-- A tile of what is known. -/
def tile2 {α : Type} (G : Nat → Nat → α) (r c m n : Nat) : (⟨2, ![m, n]⟩ : Shape).Idx → α := fun x => G (r + (x 0).val) (c + (x 1).val)
def tile3 {α : Type} (G : Nat → Nat → α) (r c m n : Nat) : (⟨3, ![1, m, n]⟩ : Shape).Idx → α := fun x => G (r + (x 1).val) (c + (x 2).val)

section Access

variable {sp : Space} {R C : Nat} {e : EltTy} {c : Dev nD} {q : PosShare TreeShare} {P P₁ P₂ K K' : Nat → Nat → Prop} {G G' : Nat → Nat → Elt F e}

theorem emb2 {r c m n R C : Nat} (h) (x : (⟨2, ![m, n]⟩ : Shape).Idx) :
    (((Rect.unit (s := ⟨2, ![R, C]⟩) ![r, c] ![m, n] h).emb x) 0).val = r + (x 0).val
    ∧ (((Rect.unit (s := ⟨2, ![R, C]⟩) ![r, c] ![m, n] h).emb x) 1).val = c + (x 1).val :=
  ⟨(Rect.emb_apply _ _ _).trans (by simp [Rect.unit]), (Rect.emb_apply _ _ _).trans (by simp [Rect.unit])⟩

/-- The index under `(i, j)` of a rectangle that has it. -/
theorem exists_emb2 {r c m n R C : Nat} (h) (y : (⟨2, ![R, C]⟩ : Shape).Idx) (hy : InRect r c m n (y 0).val (y 1).val) :
    ∃ x : (⟨2, ![m, n]⟩ : Shape).Idx, (Rect.unit (s := ⟨2, ![R, C]⟩) ![r, c] ![m, n] h).emb x = y
      ∧ (x 0).val = (y 0).val - r ∧ (x 1).val = (y 1).val - c := by
  have h0 : (y 0).val - r < m := by have := hy.1; omega
  have h1 : (y 1).val - c < n := by have := hy.2; omega
  refine ⟨ValueIdx.ix2 ⟨_, h0⟩ ⟨_, h1⟩, ?_, rfl, rfl⟩
  funext a
  match a with
  | 0 => exact Fin.ext ((emb2 h _).1.trans (by show r + ((y 0).val - r) = _; have := hy.1; omega))
  | 1 => exact Fin.ext ((emb2 h _).2.trans (by show c + ((y 1).val - c) = _; have := hy.2; omega))

theorem cells_access {M : Memref sig .tc sp ⟨2, ![R, C]⟩ e} {r c m n : Nat} (h) :
    (M.access (Rect.unit (s := ⟨2, ![R, C]⟩) ![r, c] ![m, n] h)).set = cells M (InRect r c m n) := by
  ext i
  constructor
  · intro hi
    obtain ⟨x, rfl⟩ := View.exists_of_mem_set_slice hi
    rw [mem_cells, (emb2 h x).1, (emb2 h x).2]
    have h0 : (x 0).val < m := (x 0).isLt
    have h1 : (x 1).val < n := (x 1).isLt
    exact ⟨⟨by omega, by omega⟩, by omega, by omega⟩
  · intro hi
    obtain ⟨y, rfl, hy⟩ := exists_of_mem_cells hi
    obtain ⟨x, rfl, -, -⟩ := exists_emb2 h y hy
    exact View.emb_mem_set (v := M.access (Rect.unit (s := ⟨2, ![R, C]⟩) ![r, c] ![m, n] h)) x

theorem cells_mono {M : Memref sig .tc sp ⟨2, ![R, C]⟩ e} (h : ∀ i j, i < R → j < C → P₁ i j → P₂ i j) : cells M P₁ ⊆ cells M P₂ := by
  intro i hi
  obtain ⟨x, rfl, hx⟩ := exists_of_mem_cells hi
  exact mem_cells.2 (h _ _ (x 0).isLt (x 1).isLt hx)

end Access

section Ops

variable {R C : Nat} {e : EltTy} {c : Dev nD} {q : PosShare TreeShare} {P P₁ P₂ K K' : Nat → Nat → Prop} {G G' : Nat → Nat → Elt F e}

/-- A load: what is known of the rectangle is what is loaded. -/
theorem wp_ld2 {M : Memref sig .tc .vmem ⟨2, ![R, C]⟩ e} {r c' m n : Nat} {h} {hp}
    (hP : ∀ i j, InRect r c' m n i j → P i j) :
    (kn c M q P K G : sProp 𝕄) ⊢ WP c (ld2 (F := F) M r c' m n h hp)
      (fun v => iprop(kn c M q P K G ∗ ⌜(∀ i j, InRect r c' m n i j → K i j) → v = tile2 G r c' m n⌝)) := by
  unfold kn
  iintro ⟨%f, Hf, %hf⟩
  unfold ld2
  iapply (wp_load_rect (defs := defs₀ (F := F)) Variants.none (c : Thread nD τ) none Set.univ (k := .ret)
    ((cells_access (M := M) (inb2 h.1 h.2)).trans_subset (cells_mono fun i j _ _ => hP i j))) $$ Hf
  iintro Hf
  rw [wp_ret]
  imodintro
  isplitl [Hf]
  · iexists f
    isplitl [Hf]; · iexact Hf
    ipureintro; exact hf
  ipureintro
  intro hK
  funext x
  have e := emb2 (inb2 h.1 h.2) x
  have h0 : (x 0).val < m := (x 0).isLt
  have h1 : (x 1).val < n := (x 1).isLt
  have hin : InRect r c' m n (r + (x 0).val) (c' + (x 1).val) := ⟨⟨by omega, by omega⟩, by omega, by omega⟩
  refine (hf ((Rect.unit (s := ⟨2, ![R, C]⟩) ![r, c'] ![m, n] (inb2 h.1 h.2)).emb x) ?_ ?_).trans ?_
  · rw [e.1, e.2]; exact hP _ _ hin
  · rw [e.1, e.2]; exact hK _ _ hin
  · rw [e.1, e.2]; rfl

/-- What a store of `w` at the rectangle leaves known. -/
abbrev Put {α : Type} (R C r c m n : Nat) (w : (⟨2, ![m, n]⟩ : Shape).Idx → α) (P K K' : Nat → Nat → Prop) (G : Nat → Nat → α) : Prop :=
  (w = tile2 G r c m n ∨ ∀ i j, P i j → K' i j → ¬InRect r c m n i j) ∧ ∀ i j, i < R → j < C → P i j → K' i j → ¬InRect r c m n i j → K i j

theorem read_put {sp : Space} {M : Memref sig .tc sp ⟨2, ![R, C]⟩ e} {r c' m n : Nat} (h) {w : (⟨2, ![m, n]⟩ : Shape).Idx → Elt F e}
    {f : M.view.ty.Contents (Elt F)} (hw : Put R C r c' m n w P K K' G)
    (hf : ∀ x : (⟨2, ![R, C]⟩ : Shape).Idx, P (x 0).val (x 1).val → K (x 0).val (x 1).val → M.view.read (Elt F) f x = G (x 0).val (x 1).val) :
    ∀ x : (⟨2, ![R, C]⟩ : Shape).Idx, P (x 0).val (x 1).val → K' (x 0).val (x 1).val →
      M.view.read (Elt F) ((M.access (Rect.unit (s := ⟨2, ![R, C]⟩) ![r, c'] ![m, n] h)).write (Elt F) f w Finset.univ) x = G (x 0).val (x 1).val := by
  intro x hP hK
  by_cases hin : InRect r c' m n (x 0).val (x 1).val
  · have hw' := hw.1.resolve_right (fun h => h _ _ hP hK hin)
    obtain ⟨y, rfl, -, -⟩ := exists_emb2 h x hin
    refine (View.read_slice_write_emb (Rect.unit (s := ⟨2, ![R, C]⟩) ![r, c'] ![m, n] h) f w (Finset.mem_univ y)).trans ?_
    rw [(emb2 h y).1, (emb2 h y).2, hw']; rfl
  · rw [← hf x hP (hw.2 _ _ (x 0).isLt (x 1).isLt hP hK hin)]
    refine View.read_slice_write_of_not_mem (Rect.unit (s := ⟨2, ![R, C]⟩) ![r, c'] ![m, n] h) f w _ (fun hm => hin ?_)
    obtain ⟨y, -, rfl⟩ := Finset.mem_map.mp hm
    have h0 : (y 0).val < m := (y 0).isLt
    have h1 : (y 1).val < n := (y 1).isLt
    rw [(emb2 h y).1, (emb2 h y).2]
    exact ⟨⟨by omega, by omega⟩, by omega, by omega⟩

/-- A store. -/
theorem wp_st2 {M : Memref sig .tc .vmem ⟨2, ![R, C]⟩ e} {hM : M.IsWhole} {r c' m n : Nat} {h} {hp} {hd} {w : Vec F ⟨2, ![m, n]⟩ e}
    (hP : ∀ i j, InRect r c' m n i j → P i j) (hw : Put R C r c' m n w P K K' G) :
    (kn c M fullShare P K G : sProp 𝕄) ⊢ WP c (st2 (F := F) M hM r c' m n h hp hd w) (fun _ => kn c M fullShare P K' G) := by
  iintro HM
  unfold st2
  iapply (WP_bind (wp_ld2 hP)) $$ HM
  iintro %_ ⟨HM, -⟩
  unfold kn
  icases HM with ⟨%f, Hf, %hf⟩
  iapply (wp_store (defs := defs₀ (F := F)) Variants.none (c : Thread nD τ) none Set.univ (k := .ret)
    ((cells_access (M := M) (inb2 h.1 h.2)).trans_subset (cells_mono fun i j _ _ => hP i j))) $$ Hf
  iintro Hf
  rw [wp_ret]
  imodintro
  iexists _
  isplitl [Hf]; · iexact Hf
  ipureintro
  exact read_put _ hw hf

/-! ## A slot of a three-axis buffer -/

theorem emb3 {q r c l m n Q R C : Nat} (h) (x : (⟨3, ![l, m, n]⟩ : Shape).Idx) :
    (((Rect.unit (s := ⟨3, ![Q, R, C]⟩) ![q, r, c] ![l, m, n] h).emb x) 0).val = q + (x 0).val
    ∧ (((Rect.unit (s := ⟨3, ![Q, R, C]⟩) ![q, r, c] ![l, m, n] h).emb x) 1).val = r + (x 1).val
    ∧ (((Rect.unit (s := ⟨3, ![Q, R, C]⟩) ![q, r, c] ![l, m, n] h).emb x) 2).val = c + (x 2).val :=
  ⟨(Rect.emb_apply _ _ _).trans (by simp [Rect.unit]), (Rect.emb_apply _ _ _).trans (by simp [Rect.unit]),
    (Rect.emb_apply _ _ _).trans (by simp [Rect.unit])⟩

/-- Slot `i` of a three-axis buffer, as a two-axis array. -/
abbrev plane {sp : Space} {Q R C : Nat} {e : EltTy} (M : Memref sig .tc sp ⟨3, ![Q, R, C]⟩ e) (i : Nat) (hi : i < Q)
    (hs : (⟨3, ![1, R, C]⟩ : Shape).Squeezes ⟨2, ![R, C]⟩) : Memref sig .tc sp ⟨2, ![R, C]⟩ e :=
  (M.slice (Rect.unit (s := ⟨3, ![Q, R, C]⟩) ![i, 0, 0] ![1, R, C] (inb3 hi (by omega) (by omega))) (fun _ => rfl)).squeeze _ hs

theorem plane_emb {sp : Space} {Q : Nat} {M : Memref sig .tc sp ⟨3, ![Q, R, C]⟩ e} {i : Nat} {hi : i < Q} {hs}
    (x : (⟨2, ![R, C]⟩ : Shape).Idx) (y : (⟨3, ![Q, R, C]⟩ : Shape).Idx) (h0 : (y 0).val = i) (h1 : (y 1).val = (x 0).val) (h2 : (y 2).val = (x 1).val) :
    (plane M i hi hs).view.emb x = M.view.emb y := by
  have hz : Shape.reshapeEquiv hs.numel_eq x = (ValueIdx.ix3 (0 : Fin 1) (x 0) (x 1) : (⟨3, ![1, R, C]⟩ : Shape).Idx) := by
    refine Shape.reshapeEquiv_eq_of_rowMajor _ ?_
    rw [Shape.rowMajor_val_two, Shape.rowMajor_val_three]
    show (0 * R + (x 0).val) * C + (x 1).val = (x 0).val * C + (x 1).val
    rw [Nat.zero_mul, Nat.zero_add]
  show M.view.emb ((Rect.unit (s := ⟨3, ![Q, R, C]⟩) ![i, 0, 0] ![1, R, C] (inb3 hi (by omega) (by omega))).emb (Shape.reshapeEquiv hs.numel_eq x)) = _
  rw [hz]
  congr 1
  have e := emb3 (inb3 (q := i) (l := 1) (m := R) (n := C) (r := 0) (c := 0) (Q := Q) (R := R) (C := C) hi (by omega) (by omega)) (ValueIdx.ix3 (0 : Fin 1) (x 0) (x 1) : (⟨3, ![1, R, C]⟩ : Shape).Idx)
  refine Shape.idx3_ext ?_ ?_ ?_
  · rw [e.1, h0]; rfl
  · rw [e.2.1, h1]; exact Nat.zero_add _
  · rw [e.2.2, h2]; exact Nat.zero_add _

/-- The index of a plane under an index of a rectangle of it. -/
theorem plane_emb3 {sp : Space} {Q : Nat} {M : Memref sig .tc sp ⟨3, ![Q, R, C]⟩ e} {i r c' m n : Nat} {hi : i < Q} {hs} (h) (h1 : r + m ≤ R) (h2 : c' + n ≤ C)
    (x : (⟨3, ![1, m, n]⟩ : Shape).Idx) :
    ∃ y : (⟨2, ![R, C]⟩ : Shape).Idx, (M.access (Rect.unit (s := ⟨3, ![Q, R, C]⟩) ![i, r, c'] ![1, m, n] h)).emb x = (plane M i hi hs).view.emb y
      ∧ (y 0).val = r + (x 1).val ∧ (y 1).val = c' + (x 2).val := by
  have e := emb3 h x
  have hx0 : (x 0).val < 1 := (x 0).isLt
  have hx1 : (x 1).val < m := (x 1).isLt
  have hx2 : (x 2).val < n := (x 2).isLt
  refine ⟨ValueIdx.ix2 ⟨r + (x 1).val, by omega⟩ ⟨c' + (x 2).val, by omega⟩, ?_, rfl, rfl⟩
  symm
  refine plane_emb (M := M) (hi := hi) (hs := hs) _ ((Rect.unit (s := ⟨3, ![Q, R, C]⟩) ![i, r, c'] ![1, m, n] h).emb x) ?_ ?_ ?_
  · rw [e.1]; omega
  · rw [e.2.1]; rfl
  · rw [e.2.2]; rfl

theorem exists_plane_emb3 {sp : Space} {Q : Nat} {M : Memref sig .tc sp ⟨3, ![Q, R, C]⟩ e} {i r c' m n : Nat} {hi : i < Q} {hs} (h)
    (y : (⟨2, ![R, C]⟩ : Shape).Idx) (hy : InRect r c' m n (y 0).val (y 1).val) :
    ∃ x : (⟨3, ![1, m, n]⟩ : Shape).Idx, (M.access (Rect.unit (s := ⟨3, ![Q, R, C]⟩) ![i, r, c'] ![1, m, n] h)).emb x = (plane M i hi hs).view.emb y
      ∧ (y 0).val = r + (x 1).val ∧ (y 1).val = c' + (x 2).val := by
  have h0 : (y 0).val - r < m := by have := hy.1; omega
  have h1 : (y 1).val - c' < n := by have := hy.2; omega
  let x : (⟨3, ![1, m, n]⟩ : Shape).Idx := ValueIdx.ix3 0 ⟨_, h0⟩ ⟨_, h1⟩
  have e := emb3 h x
  have e1 : (y 0).val = r + ((y 0).val - r) := by have := hy.1; omega
  have e2 : (y 1).val = c' + ((y 1).val - c') := by have := hy.2; omega
  refine ⟨x, ?_, e1, e2⟩
  symm
  refine plane_emb (M := M) (hi := hi) (hs := hs) _ ((Rect.unit (s := ⟨3, ![Q, R, C]⟩) ![i, r, c'] ![1, m, n] h).emb x) ?_ ?_ ?_
  · exact e.1
  · exact e.2.1.trans e1.symm
  · exact e.2.2.trans e2.symm

theorem cells_plane {sp : Space} {Q : Nat} {M : Memref sig .tc sp ⟨3, ![Q, R, C]⟩ e} {i r c' m n : Nat} {hi : i < Q} {hs} (h) (h1 : r + m ≤ R) (h2 : c' + n ≤ C) :
    (M.access (Rect.unit (s := ⟨3, ![Q, R, C]⟩) ![i, r, c'] ![1, m, n] h)).set = cells (plane M i hi hs) (InRect r c' m n) := by
  ext z
  constructor
  · intro hz
    obtain ⟨x, -, rfl⟩ := Finset.mem_map.mp hz
    obtain ⟨y, hy, e0, e1⟩ := plane_emb3 (M := M) (hi := hi) (hs := hs) h h1 h2 x
    rw [hy, mem_cells, e0, e1]
    have h0 : (x 1).val < m := (x 1).isLt
    have h1 : (x 2).val < n := (x 2).isLt
    exact ⟨⟨by omega, by omega⟩, by omega, by omega⟩
  · intro hz
    obtain ⟨y, rfl, hy⟩ := exists_of_mem_cells hz
    obtain ⟨x, hx, -, -⟩ := exists_plane_emb3 (M := M) (hi := hi) (hs := hs) h y hy
    rw [← hx]
    exact Finset.mem_map_of_mem _ (Finset.mem_univ x)

/-- A load of a rectangle of a slot. -/
theorem wp_ld3 {Q : Nat} {M : Memref sig .tc .vmem ⟨3, ![Q, R, C]⟩ e} {i r c' m n : Nat} {hi : i < Q} {hs} {h} {hp}
    (hP : ∀ a b, InRect r c' m n a b → P a b) :
    (kn c (plane M i hi hs) q P K G : sProp 𝕄) ⊢ WP c (ld3 (F := F) M i r c' 1 m n h hp)
      (fun v => iprop(kn c (plane M i hi hs) q P K G ∗ ⌜(∀ a b, InRect r c' m n a b → K a b) → v = tile3 G r c' m n⌝)) := by
  unfold kn
  iintro ⟨%f, Hf, %hf⟩
  unfold ld3
  iapply (wp_load_rect (defs := defs₀ (F := F)) Variants.none (c : Thread nD τ) none Set.univ (k := .ret)
    ((cells_plane (M := M) (hi := hi) (hs := hs) (inb3 h.1 h.2.1 h.2.2) h.2.1 h.2.2).trans_subset (cells_mono fun a b _ _ => hP a b))) $$ Hf
  iintro Hf
  rw [wp_ret]
  imodintro
  isplitl [Hf]
  · iexists f
    isplitl [Hf]; · iexact Hf
    ipureintro; exact hf
  ipureintro
  intro hK
  funext x
  obtain ⟨y, hy, e0, e1⟩ := plane_emb3 (M := M) (hi := hi) (hs := hs) (inb3 h.1 h.2.1 h.2.2) h.2.1 h.2.2 x
  have h0 : (x 1).val < m := (x 1).isLt
  have h1 : (x 2).val < n := (x 2).isLt
  have hin : InRect r c' m n (r + (x 1).val) (c' + (x 2).val) := ⟨⟨by omega, by omega⟩, by omega, by omega⟩
  have hr := hf y (by rw [e0, e1]; exact hP _ _ hin) (by rw [e0, e1]; exact hK _ _ hin)
  rw [e0, e1] at hr
  rw [View.read_apply] at hr ⊢
  refine Eq.trans ?_ hr
  congr 1
  exact congrArg f hy

/-- A store to a rectangle of a slot. -/
theorem wp_st3 {Q : Nat} {M : Memref sig .tc .vmem ⟨3, ![Q, R, C]⟩ e} {hM : M.IsWhole} {i r c' m n : Nat} {hi : i < Q} {hs} {h} {hp} {hd} {w : Vec F ⟨3, ![1, m, n]⟩ e}
    (hP : ∀ a b, InRect r c' m n a b → P a b)
    (hw : w = tile3 G r c' m n ∨ ∀ a b, P a b → K' a b → ¬InRect r c' m n a b) (hK : ∀ a b, a < R → b < C → P a b → K' a b → ¬InRect r c' m n a b → K a b) :
    (kn c (plane M i hi hs) fullShare P K G : sProp 𝕄) ⊢ WP c (st3 (F := F) M hM i r c' 1 m n h hp hd w)
      (fun _ => kn c (plane M i hi hs) fullShare P K' G) := by
  iintro HM
  unfold st3
  iapply (WP_bind (wp_ld3 hP)) $$ HM
  iintro %_ ⟨HM, -⟩
  unfold kn
  icases HM with ⟨%f, Hf, %hf⟩
  iapply (wp_store (defs := defs₀ (F := F)) Variants.none (c : Thread nD τ) none Set.univ (k := .ret)
    ((cells_plane (M := M) (hi := hi) (hs := hs) (inb3 h.1 h.2.1 h.2.2) h.2.1 h.2.2).trans_subset (cells_mono fun a b _ _ => hP a b))) $$ Hf
  iintro Hf
  rw [wp_ret]
  imodintro
  iexists _
  isplitl [Hf]; · iexact Hf
  ipureintro
  intro x hx hKx
  by_cases hin : InRect r c' m n (x 0).val (x 1).val
  · have hw' := hw.resolve_right (fun h => h _ _ hx hKx hin)
    obtain ⟨y, hy, e0, e1⟩ := exists_plane_emb3 (M := M) (hi := hi) (hs := hs) (inb3 h.1 h.2.1 h.2.2) x hin
    refine Eq.trans ?_ ((View.read_write_of_mem (v := M.access (Rect.unit (s := ⟨3, ![Q, R, C]⟩) ![i, r, c'] ![1, m, n] (inb3 h.1 h.2.1 h.2.2))) f w (Finset.mem_univ y)).trans ?_)
    · rw [View.read_apply, View.read_apply]
      congr 1
      exact congrArg ((M.access (Rect.unit (s := ⟨3, ![Q, R, C]⟩) ![i, r, c'] ![1, m, n] (inb3 h.1 h.2.1 h.2.2))).write (Elt F) f w Finset.univ) hy.symm
    · rw [hw', e0, e1]; rfl
  · rw [← hf x hx (hK _ _ (x 0).isLt (x 1).isLt hx hKx hin)]
    refine View.read_congr_at x (View.write_of_not_mem _ _ _ ?_)
    intro hm
    have hm' : (plane M i hi hs).view.emb x ∈ (M.access (Rect.unit (s := ⟨3, ![Q, R, C]⟩) ![i, r, c'] ![1, m, n] (inb3 h.1 h.2.1 h.2.2))).set := hm
    rw [cells_plane (M := M) (hi := hi) (hs := hs) (inb3 h.1 h.2.1 h.2.2) h.2.1 h.2.2, mem_cells] at hm'
    exact hin hm'

end Ops

end Cert.KernelIdeal.Model
-- ==== Proof.Copies.lean ====
/- Copies between arrays of which elements are held: a copy's start and wait, alone on its semaphore or one of several,
   and a rectangle of an array as an array of its own. -/
module

public import proofs.«01_k».proof.Proof.Own

@[expose] public section

set_option maxRecDepth 16384

noncomputable section

namespace Cert.KernelIdeal.Model

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- Everything; nothing. -/
abbrev tt (_ _ : Nat) : Prop := True
abbrev ff (_ _ : Nat) : Prop := False

variable (F) in
/-- The core's record of its waits. -/
def Ow (c : Dev nD) : sProp 𝕄 := iprop(∃ W, owes (c : Thread nD τ) 0 W)

variable (F) in
/-- A semaphore of the copies, at zero. -/
abbrev Sem0 (c : Dev nD) (s : DmaSems sig S_) : sProp 𝕄 := semVal ((c : Thread nD τ), SemLoc.dma s.sem) 0

/-- A copy under way on a semaphore, `D` what it delivers. -/
abbrev Fly (c : Dev nD) (s : DmaSems sig S_) (N : ℕ) (D : sProp 𝕄) : sProp 𝕄 :=
  Transfers.Flight (countersEmb (U := Pipeline.UD sig nD τ)) (c : Thread nD τ) (SemLoc.dma s.sem) () N D

/-- `n` copies on a semaphore, `k` of them started and `u` units waited for. -/
abbrev Flock (c : Dev nD) (s : DmaSems sig S_) (N : ℕ) {n : ℕ} (D : Fin n → sProp 𝕄) (k u : ℕ) : sProp 𝕄 :=
  Transfers.Batch (countersEmb (U := Pipeline.UD sig nD τ)) (c : Thread nD τ) (SemLoc.dma s.sem) () N D k u

section Parts

variable {sp sp' : Space} {R C : Nat} {e : EltTy} {c : Dev nD} {M : Memref sig .tc sp ⟨2, ![R, C]⟩ e} {q : PosShare TreeShare}
  {P K : Nat → Nat → Prop} {G : Nat → Nat → Elt F e}

theorem cells_tt : cells M tt = M.view.set := by
  ext i
  constructor
  · intro hi
    obtain ⟨x, rfl, -⟩ := exists_of_mem_cells hi
    exact View.emb_mem_set (v := M.view) x
  · intro hi
    obtain ⟨x, -, rfl⟩ := Finset.mem_map.mp hi
    exact mem_cells.2 trivial

theorem cells_part {r c' m n : Nat} {h} : cells (part M r c' m n h) tt = cells M (InRect r c' m n) := by
  rw [cells_tt]; exact cells_access _

/-- What is held of a rectangle, held as an array of its own; -/
theorem kn_part {r c' m n : Nat} {h} :
    (kn c M q (InRect r c' m n) K G : sProp 𝕄) ⊢ kn c (part M r c' m n h) q tt (fun i j => K (r + i) (c' + j)) (fun i j => G (r + i) (c' + j)) := by
  unfold kn
  iintro ⟨%f, Hf, %hf⟩
  iexists f
  isplitl [Hf]
  · rw [cells_part]; iexact Hf
  ipureintro
  intro x _ hK
  have e := emb2 (inb2 h.1 h.2) x
  have h0 : (x 0).val < m := (x 0).isLt
  have h1 : (x 1).val < n := (x 1).isLt
  have := hf ((Rect.unit (s := ⟨2, ![R, C]⟩) ![r, c'] ![m, n] (inb2 h.1 h.2)).emb x)
    (by rw [e.1, e.2]; exact ⟨⟨by omega, by omega⟩, by omega, by omega⟩) (by rw [e.1, e.2]; exact hK)
  rw [e.1, e.2] at this
  exact this

/-- and back. -/
theorem kn_unpart {r c' m n : Nat} {h} {K' : Nat → Nat → Prop} {G' : Nat → Nat → Elt F e}
    (hK : ∀ i j, i < m → j < n → K (r + i) (c' + j) → K' i j ∧ G' i j = G (r + i) (c' + j)) :
    (kn c (part M r c' m n h) q tt K' G' : sProp 𝕄) ⊢ kn c M q (InRect r c' m n) K G := by
  unfold kn
  iintro ⟨%f, Hf, %hf⟩
  iexists f
  isplitl [Hf]
  · rw [cells_part]; iexact Hf
  ipureintro
  intro y hP hK'
  obtain ⟨x, rfl, e0, e1⟩ := exists_emb2 (inb2 h.1 h.2) y hP
  have e := emb2 (inb2 h.1 h.2) x
  rw [e.1, e.2] at hK' ⊢
  obtain ⟨h1, h2⟩ := hK _ _ (x 0).isLt (x 1).isLt hK'
  exact (hf x trivial h1).trans h2

end Parts

section Copies

variable {sp sp' : Space} {R C : Nat} {e : EltTy} {c : Dev nD} {src : Memref sig .tc sp ⟨2, ![R, C]⟩ e} {dst : Memref sig .tc sp' ⟨2, ![R, C]⟩ e}
  {q : PosShare TreeShare} {K Ks : Nat → Nat → Prop} {G Gs : Nat → Nat → Elt F e} {s : DmaSems sig S_} {h1 h2 h3}

theorem kn_landed {f : Buf (Elt F) (src.view.loc (c : Thread nD τ))} {g : Buf (Elt F) (dst.view.loc (c : Thread nD τ))}
    (hf : ∀ x : (⟨2, ![R, C]⟩ : Shape).Idx, tt (x 0).val (x 1).val → Ks (x 0).val (x 1).val → src.view.read (Elt F) f x = Gs (x 0).val (x 1).val) :
    iprop((dst.view.loc (c : Thread nD τ) ↦[cells dst tt]{fullShare} dst.view.write (Elt F) g (ReadAs.same.apply (src.view.read (Elt F) f)) Finset.univ)
      ∗ (src.view.loc (c : Thread nD τ) ↦[src.view.set]{q} f))
      ⊢ (iprop(kn c dst fullShare tt Ks Gs ∗ kn c src q tt Ks Gs) : sProp 𝕄) := by
  unfold kn
  iintro ⟨Hd, Hs⟩
  isplitl [Hd]
  · iexists _
    isplitl [Hd]; · iexact Hd
    ipureintro
    intro x hx hK
    rw [View.read_write_univ]
    exact hf x hx hK
  · iexists f
    isplitl [Hs]
    · rw [cells_tt]; iexact Hs
    ipureintro; exact hf

/-- A copy started, alone on its semaphore. -/
theorem wp_start {N : ℕ} (hN : dst.view.dmaCredit = N) (hN0 : 0 < N) :
    (iprop(kn c src q tt Ks Gs ∗ kn c dst fullShare tt K G ∗ Sem0 F c s) : sProp 𝕄)
      ⊢ WP c (start (F := F) src dst s h1 h2 h3) (fun _ => Fly c s N iprop(kn c dst fullShare tt Ks Gs ∗ kn c src q tt Ks Gs)) := by
  conv => lhs; unfold kn
  iintro ⟨⟨%f, Hf, %hf⟩, ⟨%g, Hg, -⟩, HS⟩
  rw [cells_tt (M := src)]
  iapply (Transfers.wp_dmaLocal (countersEmb (U := Pipeline.UD sig nD τ)) Variants.none (c : Thread nD τ) none (src := src) (via := ReadAs.same) (dst := dst) (sm := SemLoc.dma s.sem)
    (k := .ret) () N hN hN0 (cells_tt (M := dst)).symm.subset) $$ [Hf Hg HS]
  · isplitl [Hf]; · iexact Hf
    isplitl [Hg]; · iexact Hg
    iexact HS
  iintro HF
  rw [wp_ret]
  imodintro
  iapply (Transfers.Flight_mono _ _ (kn_landed hf)) $$ HF

/-- Its wait. -/
theorem wp_wait {sp₁ : Space} {s₁ : Shape} {e₁ : EltTy} {src' : Memref sig .tc sp₁ s₁ e₁} {dst' : Memref sig .tc sp' s₁ e₁} {h1 h2}
    {N : ℕ} (hN : dst'.view.dmaCredit = N) {D : sProp 𝕄} :
    (iprop(Fly c s N D ∗ Ow F c) : sProp 𝕄) ⊢ WP c (wait (F := F) src' dst' s h1 h2) (fun _ => iprop(D ∗ Sem0 F c s ∗ Ow F c)) := by
  unfold Ow
  iintro ⟨HF, ⟨%W, HW⟩⟩
  iapply (Transfers.wp_waitLocal (countersEmb (U := Pipeline.UD sig nD τ)) Variants.none (c : Thread nD τ) none (srcw := src') (dstw := dst') (k := .ret) () hN) $$ [HF HW]
  · isplitl [HF]; · iexact HF
    iexact HW
  iintro ⟨HD, HS, HW⟩
  rw [wp_ret]
  imodintro
  isplitl [HD]; · iexact HD
  isplitl [HS]; · iexact HS
  iexists _; iexact HW

/-- The next of several copies started. -/
theorem wp_startFlock {N n : ℕ} {D : Fin n → sProp 𝕄} (hN : dst.view.dmaCredit = N) (j : ℕ) (hj : j < n)
    (hD : iprop(kn c dst fullShare tt Ks Gs ∗ kn c src q tt Ks Gs) ⊢ D ⟨j, hj⟩) :
    (iprop(kn c src q tt Ks Gs ∗ kn c dst fullShare tt K G ∗ Flock c s N D j 0) : sProp 𝕄)
      ⊢ WP c (start (F := F) src dst s h1 h2 h3) (fun _ => Flock c s N D (j + 1) 0) := by
  conv => lhs; unfold kn
  iintro ⟨⟨%f, Hf, %hf⟩, ⟨%g, Hg, -⟩, HS⟩
  rw [cells_tt (M := src)]
  iapply (Transfers.wp_dmaBatch (countersEmb (U := Pipeline.UD sig nD τ)) Variants.none (c : Thread nD τ) none (src := src) (via := ReadAs.same) (dst := dst) (sm := SemLoc.dma s.sem)
    (k := .ret) () N hN (cells_tt (M := dst)).symm.subset hj (Nat.zero_le _) ((kn_landed hf).trans hD)) $$ [Hf Hg HS]
  · isplitl [Hf]; · iexact Hf
    isplitl [Hg]; · iexact Hg
    iexact HS
  iintro HF
  rw [wp_ret]
  imodintro
  iexact HF

/-- A wait among several: nothing yet; -/
theorem wp_waitFlock {sp₁ : Space} {s₁ : Shape} {e₁ : EltTy} {src' : Memref sig .tc sp₁ s₁ e₁} {dst' : Memref sig .tc sp' s₁ e₁} {h1 h2}
    {N n : ℕ} {D : Fin n → sProp 𝕄} (hN : dst'.view.dmaCredit = N) {u : ℕ} (hu : u + N < N * n) :
    (iprop(Flock c s N D n u ∗ Ow F c) : sProp 𝕄) ⊢ WP c (wait (F := F) src' dst' s h1 h2) (fun _ => iprop(Flock c s N D n (u + N) ∗ Ow F c)) := by
  unfold Ow
  iintro ⟨HF, ⟨%W, HW⟩⟩
  iapply (Transfers.wp_waitBatch (countersEmb (U := Pipeline.UD sig nD τ)) Variants.none (c : Thread nD τ) none (srcw := src') (dstw := dst') (k := .ret) () hN hu) $$ [HF HW]
  · isplitl [HF]; · iexact HF
    iexact HW
  iintro ⟨HD, HW⟩
  rw [wp_ret]
  imodintro
  isplitl [HD]; · iexact HD
  iexists _; iexact HW

/-- the last: all of them. -/
theorem wp_waitFlockLast {sp₁ : Space} {s₁ : Shape} {e₁ : EltTy} {src' : Memref sig .tc sp₁ s₁ e₁} {dst' : Memref sig .tc sp' s₁ e₁} {h1 h2}
    {N n : ℕ} {D : Fin n → sProp 𝕄} (hN : dst'.view.dmaCredit = N) (hN0 : 0 < N) {u : ℕ} (hu : u + N = N * n) :
    (iprop(Flock c s N D n u ∗ Ow F c) : sProp 𝕄) ⊢ WP c (wait (F := F) src' dst' s h1 h2)
      (fun _ => iprop(bigSep Finset.univ D ∗ Sem0 F c s ∗ Ow F c)) := by
  unfold Ow
  iintro ⟨HF, ⟨%W, HW⟩⟩
  iapply (Transfers.wp_waitBatchLast (countersEmb (U := Pipeline.UD sig nD τ)) Variants.none (c : Thread nD τ) none (srcw := src') (dstw := dst') (k := .ret) () hN hN0 hu) $$ [HF HW]
  · isplitl [HF]; · iexact HF
    iexact HW
  iintro ⟨HD, HS, HW⟩
  rw [wp_ret]
  imodintro
  isplitl [HD]; · iexact HD
  isplitl [HS]; · iexact HS
  iexists _; iexact HW

theorem wp_flock {α : Type} {p : PM F α} {Q : α → sProp 𝕄} {n : ℕ} (N : ℕ) (D : Fin n → sProp 𝕄) [∀ t, BI.Storable (upEmb : UEmb _ 𝕄) (D t)] :
    (iprop(Sem0 F c s ∗ (Flock c s N D 0 0 -∗ WP c p Q)) : sProp 𝕄) ⊢ WP c p Q := by
  iintro ⟨HS, HK⟩
  imod (Transfers.batch_alloc' (Lvl := ℕ) (countersEmb (U := Pipeline.UD sig nD τ)) (c : Thread nD τ) () N D (sm := SemLoc.dma s.sem) (E := Set.univ)) $$ HS with HB
  iapply HK $$ HB

end Copies

end Cert.KernelIdeal.Model
-- ==== Proof.Values.lean ====
/- What the kernel computes, as functions of its four inputs: the codes, the scales, the activations the matrix units
   multiply, the widened weights of a panel, the sums, and the result. -/
module

public import proofs.«01_k».proof.Proof.Unit
public import proofs.«01_k».proof.Proof.Copies

@[expose] public section

noncomputable section

namespace Cert.KernelIdeal.Model

open Idealize.ShloMosaic Idealize.SL.Sem
open Shapes1.Facts₀ K0.Facts₀

variable {F : FTy → Type} [FloatOps F]

/-- An array made of tiles. -/
def at2 {α : Type} (m n : Nat) (hm : 0 < m) (hn : 0 < n) (T : Nat → Nat → (⟨2, ![m, n]⟩ : Shape).Idx → α) (r c : Nat) : α :=
  T (r / m) (c / n) (ValueIdx.ix2 ⟨r % m, Nat.mod_lt _ hm⟩ ⟨c % n, Nat.mod_lt _ hn⟩)

theorem at2_apply {α : Type} {m n : Nat} (hm : 0 < m) (hn : 0 < n) (T : Nat → Nat → (⟨2, ![m, n]⟩ : Shape).Idx → α) (i j : Nat) (a : Fin m) (b : Fin n) :
    at2 m n hm hn T (m * i + a.val) (n * j + b.val) = T i j (ValueIdx.ix2 a b) := by
  have h1 : (m * i + a.val) / m = i := by rw [Nat.mul_add_div hm, Nat.div_eq_of_lt a.isLt, Nat.add_zero]
  have h2 : (n * j + b.val) / n = j := by rw [Nat.mul_add_div hn, Nat.div_eq_of_lt b.isLt, Nat.add_zero]
  have h3 : (m * i + a.val) % m = a.val := by rw [Nat.mul_add_mod, Nat.mod_eq_of_lt a.isLt]
  have h4 : (n * j + b.val) % n = b.val := by rw [Nat.mul_add_mod, Nat.mod_eq_of_lt b.isLt]
  unfold at2
  rw [h1, h2]
  congr 2 <;> exact Fin.ext (by assumption)

theorem tile2_at2 {α : Type} {m n : Nat} (hm : 0 < m) (hn : 0 < n) (T : Nat → Nat → (⟨2, ![m, n]⟩ : Shape).Idx → α) (i j : Nat) :
    tile2 (at2 m n hm hn T) (m * i) (n * j) m n = T i j := by
  funext x
  refine (at2_apply hm hn T i j (x 0) (x 1)).trans (congrArg _ ?_)
  funext a
  match a with
  | 0 => rfl
  | 1 => rfl

variable (F) in
/-- The four inputs. -/
structure In where
  x : Nat → Nat → Elt F .bf16
  wp : Nat → Nat → Elt F .i8
  gs : Nat → Nat → Elt F .f32
  ws : Nat → Nat → Elt F .f32

namespace In
variable (D : In F)

/-- A group's rows of the input. -/
def xt (i g : Nat) : FVec F S128x128 .bf16 := tile2 D.x (128 * i) (128 * g) 128 128

/-- The codes, the activations, the scales. -/
def cod : Nat → Nat → Elt F .fp8e4m3 := at2 128 128 (by decide) (by decide) fun i g => codesOf (D.xt i g)
def act : Nat → Nat → Elt F .bf16 := at2 128 128 (by decide) (by decide) fun i g => actOf (D.xt i g)
def scl (r g : Nat) : Elt F .f32 := scaleOf (D.xt (r / 128) g) (ValueIdx.ix2 ⟨r % 128, Nat.mod_lt _ (by decide)⟩ 0)

/-- The chunk of packed weights under chunk `f + i` of the columns. -/
def wch (f i : Nat) : Nat := if f + i < 34 then f + i else f + i - 34

/-- The packed weights and the group scales a panel reads, `f` its first chunk. -/
def wpp (f : Nat) (r c : Nat) : Elt F .i8 := D.wp r (128 * wch f (c / 128) + c % 128)
def gsp (f i : Nat) (g j : Nat) : Elt F .f32 := D.gs g (128 * (f + i) + j)

/-- The panel's weights. -/
def wgt (f : Nat) : Nat → Nat → Elt F .bf16 := at2 128 128 (by decide) (by decide) fun g i =>
  if g < 27 then weights (BitVec.ofNat 32 (128 * f)) i (tile2 (D.wpp f) (128 * g) (128 * i) 128 128) (tile2 (D.wpp f) (128 * g) (128 * (i + 1)) 128 128)
    (tile3 (D.gsp f i) g 0 1 128)
  else fun _ => Scalar.ofBits .bf16 0x0000#16

/-- The operands of tile `k`'s products, -/
def lhs (row k : Nat) : FVec F S256x256 .bf16 :=
  if k < 13 then tile2 D.act row (256 * k) 256 256
  else concatenate S256x256 1 [⟨S256x128, (tile2 D.act row 3328 256 128 : FVec F S256x128 .bf16)⟩, ⟨S256x128, (tile2 D.act row 3328 256 128 : FVec F S256x128 .bf16)⟩]
    concatenates_S256x128_S256x128_S256x256_d1
def rhs (f k : Nat) (q : Fin 2) : FVec F S256x256 .bf16 := tile2 (D.wgt f) (256 * k) (256 * q.val) 256 256

/-- and their sum so far. -/
def psum (row f : Nat) : Nat → Fin 2 → FVec F S256x256 .f32
  | 0, q => pass (D.lhs row 0) (D.rhs f 0 q)
  | k + 1, q => addf (psum row f k q) (pass (D.lhs row (k + 1)) (D.rhs f (k + 1) q))

/-- A tile of the result, -/
def ytile (row f : Nat) (q : Fin 2) : FVec F S256x256 .bf16 := tileOf (D.psum row f 13 q) (tile2 D.ws 0 (128 * f + 256 * q.val) 1 256)

/-- a panel of it, -/
def ypan (f : Nat) : Nat → Nat → Elt F .bf16 := at2 256 256 (by decide) (by decide) fun i q => D.ytile (256 * i) f (if q = 0 then 0 else 1)

/-- the panel a column is of, -/
def own (c : Nat) : Nat := if 8064 ≤ c then 16 else c / 512

/-- and all of it. -/
def y (r c : Nat) : Elt F .bf16 := D.ypan (fc (own c)) r (c - 128 * fc (own c))

end In

end Cert.KernelIdeal.Model
-- ==== Proof.Parts.lean ====
/- Rectangles taken out of an array and given back, and the copies in and out of them. -/
module

public import proofs.«01_k».proof.Proof.Copies

@[expose] public section

set_option maxRecDepth 16384

noncomputable section

namespace Cert.KernelIdeal.Model

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Parts

variable {sp sp' : Space} {R C m n r c' : Nat} {e : EltTy} {c : Dev nD} {M : Memref sig .tc sp ⟨2, ![R, C]⟩ e} {q : PosShare TreeShare}
  {P P' K K' : Nat → Nat → Prop} {G G' : Nat → Nat → Elt F e}

/-- The same elements under another description. -/
theorem kn_region (h : ∀ i j, i < R → j < C → (P i j ↔ P' i j)) : (kn c M q P K G : sProp 𝕄) ⊢ kn c M q P' K G := by
  have hc : cells M P = cells M P' := Finset.Subset.antisymm (cells_mono fun i j hi hj => (h i j hi hj).1) (cells_mono fun i j hi hj => (h i j hi hj).2)
  unfold kn
  iintro ⟨%f, Hf, %hf⟩
  iexists f
  rw [hc]
  isplitl [Hf]; · iexact Hf
  ipureintro; intro x hP hK; exact hf x ((h _ _ (x 0).isLt (x 1).isLt).2 hP) hK

/-- A rectangle taken, as an array of its own; -/
theorem kn_take {h} (hP : Parts R C P (InRect r c' m n) P') :
    (kn c M q P K G : sProp 𝕄) ⊢ iprop(kn c (part M r c' m n h) q tt (fun i j => K (r + i) (c' + j)) (fun i j => G (r + i) (c' + j)) ∗ kn c M q P' K G) := by
  iintro H
  ihave H := (kn_split hP) $$ H
  icases H with ⟨H1, H2⟩
  isplitl [H1]
  · iapply kn_part; iexact H1
  iexact H2

/-- and given back, with what is now known of it and of the rest. -/
theorem kn_give {K₁ K₂ : Nat → Nat → Prop} {G₁ G₂ : Nat → Nat → Elt F e} (hP : Parts R C P (InRect r c' m n) P')
    (h1 : ∀ i j, i < R → j < C → InRect r c' m n i j → K i j → K₁ i j ∧ G₁ i j = G i j)
    (h2 : ∀ i j, i < R → j < C → P' i j → K i j → K₂ i j ∧ G₂ i j = G i j) :
    (iprop(kn c M q (InRect r c' m n) K₁ G₁ ∗ kn c M q P' K₂ G₂) : sProp 𝕄) ⊢ kn c M q P K G := by
  iintro ⟨H1, H2⟩
  iapply (kn_join hP)
  isplitl [H1]
  · iapply (kn_weaken h1); iexact H1
  · iapply (kn_weaken h2); iexact H2

end Parts

section Copies

variable {sp sp' : Space} {R C m n r c' : Nat} {e : EltTy} {c : Dev nD} {M : Memref sig .tc sp ⟨2, ![R, C]⟩ e} {N : Memref sig .tc sp' ⟨2, ![m, n]⟩ e} {q : PosShare TreeShare}
  {P P' K K' : Nat → Nat → Prop} {G : Nat → Nat → Elt F e} {G' : Nat → Nat → Elt F e} {s : DmaSems sig S_} {h h1 h2 h3}

/-- A copy into a rectangle of an array, started: what arrives is known, -/
theorem wp_startInto {w : ℕ} (hP : Parts R C P (InRect r c' m n) P') (hw : (part M r c' m n h).view.dmaCredit = w) (hw0 : 0 < w) {K₁ : Nat → Nat → Prop}
    (hG : ∀ i j, i < m → j < n → K₁ (r + i) (c' + j) → G' i j = G (r + i) (c' + j)) :
    (iprop(kn c N q tt tt G' ∗ kn c M fullShare P K G ∗ Sem0 F c s) : sProp 𝕄)
      ⊢ WP c (start (F := F) N (part M r c' m n h) s h1 h2 h3)
        (fun _ => iprop(Fly c s w iprop(kn c M fullShare (InRect r c' m n) K₁ G ∗ kn c N q tt tt G') ∗ kn c M fullShare P' K G)) := by
  iintro ⟨HN, HM, HS⟩
  ihave HM := (kn_take (h := h) hP) $$ HM
  icases HM with ⟨HT, HM⟩
  iapply (WP_mono (wp_start hw hw0)) $$ [HN HT HS]
  · isplitl [HN]; · iexact HN
    isplitl [HT]; · iexact HT
    iexact HS
  iintro %_ HF
  isplitl [HF]
  · iapply (Transfers.Flight_mono _ _ (BI.sep_mono (kn_unpart (h := h) fun i j hi hj hK => ⟨trivial, hG i j hi hj hK⟩) (BI.Entails.refl _))) $$ HF
  iexact HM

/-- and a copy out of one. -/
theorem wp_startFrom {w : ℕ} (hP : Parts R C P (InRect r c' m n) P') (hw : N.view.dmaCredit = w) (hw0 : 0 < w) :
    (iprop(kn c M q P tt G ∗ kn c N fullShare tt K G' ∗ Sem0 F c s) : sProp 𝕄)
      ⊢ WP c (start (F := F) (part M r c' m n h) N s h1 h2 h3)
        (fun _ => iprop(Fly c s w iprop(kn c N fullShare tt tt (fun i j => G (r + i) (c' + j)) ∗ kn c M q (InRect r c' m n) tt G) ∗ kn c M q P' tt G)) := by
  iintro ⟨HM, HN, HS⟩
  ihave HM := (kn_take (h := h) hP) $$ HM
  icases HM with ⟨HT, HM⟩
  iapply (WP_mono (wp_start hw hw0)) $$ [HN HT HS]
  · isplitl [HT]; · iexact HT
    isplitl [HN]; · iexact HN
    iexact HS
  iintro %_ HF
  isplitl [HF]
  · iapply (Transfers.Flight_mono _ _ (BI.sep_mono (BI.Entails.refl _) (kn_unpart (h := h) fun i j hi hj hK => ⟨trivial, rfl⟩))) $$ HF
  iexact HM

/-- One of several copies out of an array. -/
theorem wp_startFlockFrom {w k : ℕ} {D : Fin k → sProp 𝕄} (hP : Parts R C P (InRect r c' m n) P') (hw : N.view.dmaCredit = w) (j : ℕ) (hj : j < k)
    (hD : iprop(kn c N fullShare tt tt (fun i j => G (r + i) (c' + j)) ∗ kn c M q (InRect r c' m n) tt G) ⊢ D ⟨j, hj⟩) :
    (iprop(kn c M q P tt G ∗ kn c N fullShare tt K G' ∗ Flock c s w D j 0) : sProp 𝕄)
      ⊢ WP c (start (F := F) (part M r c' m n h) N s h1 h2 h3) (fun _ => iprop(Flock c s w D (j + 1) 0 ∗ kn c M q P' tt G)) := by
  iintro ⟨HM, HN, HS⟩
  ihave HM := (kn_take (h := h) hP) $$ HM
  icases HM with ⟨HT, HM⟩
  iapply (WP_mono (wp_startFlock hw j hj ((BI.sep_mono (BI.Entails.refl _) (kn_unpart (h := h) fun i j hi hj hK => ⟨trivial, rfl⟩)).trans hD))) $$ [HN HT HS]
  · isplitl [HT]; · iexact HT
    isplitl [HN]; · iexact HN
    iexact HS
  iintro %_ HF
  isplitl [HF]; · iexact HF
  iexact HM

end Copies

/-! ## Arrays of one tile as arrays of two axes -/

theorem shapeCast_same {α : Type} {s : Shape} (v : s.Idx → α) (h : s.ShapeCasts s) : shapeCast s v h = v :=
  funext fun i => congrArg v (Shape.reshapeEquiv_self _ i)

theorem cast_tile3 {α : Type} {G : Nat → Nat → α} {r c m n : Nat} (h : (⟨3, ![1, m, n]⟩ : Shape).ShapeCasts ⟨2, ![m, n]⟩) :
    shapeCast ⟨2, ![m, n]⟩ (tile3 G r c m n) h = tile2 G r c m n := by
  funext x
  have hz : Shape.reshapeEquiv h x = (ValueIdx.ix3 (0 : Fin 1) (x 0) (x 1) : (⟨3, ![1, m, n]⟩ : Shape).Idx) := by
    refine Shape.reshapeEquiv_eq_of_rowMajor _ ?_
    rw [Shape.rowMajor_val_two, Shape.rowMajor_val_three]
    show (0 * m + (x 0).val) * n + (x 1).val = (x 0).val * n + (x 1).val
    rw [Nat.zero_mul, Nat.zero_add]
  show tile3 G r c m n (Shape.reshapeEquiv h x) = _
  rw [hz]; rfl

theorem cast_tile2 {α : Type} {G : Nat → Nat → α} {r c m n : Nat} (h : (⟨2, ![m, n]⟩ : Shape).ShapeCasts ⟨3, ![1, m, n]⟩) :
    shapeCast ⟨3, ![1, m, n]⟩ (tile2 G r c m n) h = tile3 G r c m n := by
  funext x
  have hx0 : (x 0).val = 0 := by have : (x 0).val < 1 := (x 0).isLt; omega
  have hz : Shape.reshapeEquiv h x = (ValueIdx.ix2 (x 1) (x 2) : (⟨2, ![m, n]⟩ : Shape).Idx) := by
    refine Shape.reshapeEquiv_eq_of_rowMajor _ ?_
    rw [Shape.rowMajor_val_two, Shape.rowMajor_val_three]
    show (x 1).val * n + (x 2).val = ((x 0).val * m + (x 1).val) * n + (x 2).val
    rw [hx0, Nat.zero_mul, Nat.zero_add]
  show tile2 G r c m n (Shape.reshapeEquiv h x) = _
  rw [hz]; rfl

end Cert.KernelIdeal.Model
-- ==== Proof.Quant.lean ====
/- One trip of the quantiser: the rows in a slot give their codes, activations and scales. -/
module

public import proofs.«01_k».proof.Proof.Values
public import proofs.«01_k».proof.Proof.Parts

@[expose] public section

set_option maxRecDepth 16384

noncomputable section

namespace Cert.KernelIdeal.Model

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Group

variable {c : Dev nD} (D : In F)

/-- The scales of the groups before `g` of block `i`, in the row of scales. -/
def ScaleRow (i g : Nat) (v : FVec F S128x128 .f32) : Prop :=
  ∀ (a b : Fin 128), b.val < g → v (ValueIdx.ix2 a b) = D.scl (128 * i + a.val) b.val

theorem scl_apply (i g : Nat) (a : Fin 128) : D.scl (128 * i + a.val) g = scaleOf (D.xt i g) (ValueIdx.ix2 a 0) := by
  have h1 : (128 * i + a.val) / 128 = i := by omega
  have h2 : (128 * i + a.val) % 128 = a.val := by omega
  unfold In.scl
  rw [h1]
  congr 2
  exact Fin.ext h2

theorem scaleRow_put {i g : Nat} (hg : g < 27) {v : FVec F S128x128 .f32} (h : ScaleRow D i g v) : ScaleRow D i (g + 1) (putScale g (D.xt i g) v) := by
  intro a b hb
  have hl : (lanes : IVec S128x128 32) (ValueIdx.ix2 a b) = BitVec.ofNat 32 b.val := by
    show BitVec.ofNat 32 (0 * 128 + b.val) = _
    rw [Nat.zero_mul, Nat.zero_add]
  have hc : ∀ x y : BitVec 32, IntOp.cmpi .eq x y = if x = y then 1#1 else 0#1 := fun x y => by
    simp only [IntOp.cmpi]
    by_cases h : x = y
    · simp [h]
    · rw [if_neg h, beq_eq_false_iff_ne.mpr h]; rfl
  show Scalar.select (IntOp.cmpi .eq ((lanes : IVec S128x128 32) (ValueIdx.ix2 a b)) (BitVec.ofNat 32 g)) _ _ = _
  rw [hl, hc]
  by_cases e : b.val = g
  · rw [if_pos (by rw [e])]
    refine Eq.trans (if_pos rfl) ?_
    rw [e, scl_apply, shapeCast_same]
    refine congrArg (scaleOf (D.xt i g)) ?_
    funext k
    match k with
    | 0 => rfl
    | 1 => rfl
  · have hb' : b.val < 128 := b.isLt
    rw [if_neg (fun h => e (by have := congrArg BitVec.toNat h; simp at this; omega))]
    refine Eq.trans (if_neg (by decide)) ?_
    exact h a b (by omega)

/-- What a trip holds while it works: the rows, the codes so far, the activations so far. -/
abbrev Work (c : Dev nD) (D : In F) (i q : Nat) (hq : q < 2) (g : Nat) : sProp 𝕄 :=
  iprop(kn c (xDst q hq) fullShare tt tt (fun a j => D.x (128 * i + a) j)
    ∗ kn c (cSrc q hq) fullShare tt (fun _ j => j < 128 * g) (fun a j => D.cod (128 * i + a) j)
    ∗ kn c aBuf fullShare tt (fun r j => r < 128 * i ∨ (r < 128 * i + 128 ∧ j < 128 * g)) D.act)

theorem wp_quantGroup {i q : Nat} {h hd hq} {g : Nat} {hg : g < 27} {v : FVec F S128x128 .f32} (hv : ScaleRow D i g v) :
    (Work c D i q hq g : sProp 𝕄) ⊢ WP c (quantGroup (F := F) (128 * i) q h hd hq g hg v)
      (fun v' => iprop(Work c D i q hq (g + 1) ∗ ⌜ScaleRow D i (g + 1) v'⌝)) := by
  unfold quantGroup
  iintro ⟨HX, HC, HA⟩
  iapply (WP_bind (wp_ld3 (i := q) (hi := hq) (fun _ _ _ => trivial))) $$ HX
  iintro %w ⟨HX, %hw⟩
  have hx : (shapeCast S128x128 w shapeCasts_S1x128x128_S128x128 : FVec F S128x128 .bf16) = D.xt i g := by
    rw [hw fun _ _ _ => trivial]
    refine (cast_tile3 _).trans ?_
    funext x
    show D.x (128 * i + (0 + (x 0).val)) _ = D.x (128 * i + (x 0).val) _
    rw [Nat.zero_add]
  simp only [hx]
  iapply (WP_bind (wp_st3 (i := q) (hi := hq) (K' := fun _ j => j < 128 * (g + 1)) (fun _ _ _ => trivial) (.inl (by
    have e : codesOf (D.xt i g) = tile2 (fun a j => D.cod (128 * i + a) j) 0 (128 * g) 128 128 := by
      refine (tile2_at2 (by decide) (by decide) (fun i g => codesOf (D.xt i g)) i g).symm.trans ?_
      funext x
      show D.cod (128 * i + (x 0).val) _ = D.cod (128 * i + (0 + (x 0).val)) _
      rw [Nat.zero_add]
    rw [e]
    exact cast_tile2 _)) (fun a b ha hb _ hK hn => by
      by_contra hlt
      exact hn ⟨⟨Nat.zero_le _, by omega⟩, by omega, by omega⟩))) $$ HC
  iintro %_ HC
  iapply (WP_bind (wp_st2 (K' := fun r j => r < 128 * i ∨ (r < 128 * i + 128 ∧ j < 128 * (g + 1))) (fun _ _ _ => trivial) ⟨.inl (by
    rw [shapeCast_same]
    exact (tile2_at2 (by decide) (by decide) (fun i g => actOf (D.xt i g)) i g).symm), fun a b _ _ _ hK hn => by
      by_contra hlt
      exact hn ⟨⟨by omega, by omega⟩, by omega, by omega⟩⟩)) $$ HA
  iintro %_ HA
  iapply WP_pure
  isplitl [HX HC HA]
  · isplitl [HX]; · iexact HX
    isplitl [HC]; · iexact HC
    iexact HA
  ipureintro
  exact scaleRow_put D hg hv

theorem wp_quantGroups {i q : Nat} {h hd hq} : ∀ (n g : Nat) (hg : g + n ≤ 27) (v : FVec F S128x128 .f32), ScaleRow D i g v →
    ((Work c D i q hq g : sProp 𝕄) ⊢ WP c (quantGroups (F := F) (128 * i) q h hd hq n g hg v)
      (fun v' => iprop(Work c D i q hq (g + n) ∗ ⌜ScaleRow D i (g + n) v'⌝)))
  | 0, g, hg, v, hv => by
    unfold quantGroups
    iintro H
    iapply WP_pure
    isplitl [H]; · iexact H
    ipureintro; exact hv
  | n + 1, g, hg, v, hv => by
    unfold quantGroups
    iintro H
    iapply (WP_bind (wp_quantGroup D hv)) $$ H
    iintro %v' ⟨H, %hv'⟩
    rw [show g + (n + 1) = g + 1 + n by omega]
    iapply (wp_quantGroups n (g + 1) _ v' hv') $$ H

/-- The scales stored. -/
theorem wp_putScales {i q : Nat} {hq} {v : FVec F S128x128 .f32} (hv : ScaleRow D i 27 v) {K : Nat → Nat → Prop} {G : Nat → Nat → Elt F .f32} :
    (kn c (sSrc q hq) fullShare tt ff G : sProp 𝕄) ⊢ WP c (putScales (F := F) q hq v)
      (fun _ => kn c (sSrc q hq) fullShare tt tt (fun a j => D.scl (128 * i + a) j)) := by
  unfold putScales
  iintro H
  ihave H := (kn_weaken (K' := ff) (G' := fun a j => D.scl (128 * i + a) j) fun _ _ _ _ _ h => h.elim) $$ H
  iapply (wp_st3 (i := q) (hi := hq) (K' := tt) (fun _ _ _ => trivial) (.inl (by
    have e : (extractStridedSlice S128x27 ![0, 0] v slices_S128x128_o0_0_S128x27 : FVec F S128x27 .f32) = tile2 (fun a j => D.scl (128 * i + a) j) 0 0 128 27 := by
      funext x
      have hx : (x 1).val < 27 := (x 1).isLt
      refine Eq.trans ?_ ((hv (x 0) ⟨(x 1).val, by omega⟩ hx).trans ?_)
      · show v _ = v _
        congr 1
        funext k
        match k with
        | 0 => exact Fin.ext (by show 0 + (x 0).val = (x 0).val; omega)
        | 1 => exact Fin.ext (by show 0 + (x 1).val = (x 1).val; omega)
      · show D.scl _ _ = D.scl (128 * i + (0 + (x 0).val)) (0 + (x 1).val)
        rw [Nat.zero_add, Nat.zero_add]
    rw [e]
    exact cast_tile2 _)) (fun a b ha hb _ _ hn => absurd ⟨⟨Nat.zero_le _, by omega⟩, Nat.zero_le _, by omega⟩ hn)) $$ H

end Group

end Cert.KernelIdeal.Model
-- ==== Proof.Stream.lean ====
/- The quantiser's copies: rows coming in one trip ahead, codes and scales going out, each through two slots in turn. -/
module

public import proofs.«01_k».proof.Proof.Quant

@[expose] public section

set_option maxRecDepth 16384

noncomputable section

namespace Cert.KernelIdeal.Model

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem mod_two_lt (n : Nat) : n % 2 < 2 := Nat.mod_lt _ (by decide)

/-! ## Blocks going out -/

section Out

variable {C : Nat} {e : EltTy} (c : Dev nD) (H : Memref sig .tc .hbm ⟨2, ![6144, C]⟩ e) (B : Memref sig .tc .vmem ⟨3, ![2, 128, C]⟩ e)
  (sq : (⟨3, ![1, 128, C]⟩ : Shape).Squeezes ⟨2, ![128, C]⟩) (S : DmaSems sig S2) (w : ℕ) (G : Nat → Nat → Elt F e)

/-- A slot at rest. -/
def OutFree (q : Nat) (hq : q < 2) : sProp 𝕄 := iprop(kn c (plane B q hq sq) fullShare tt ff G ∗ Sem0 F c (cell S q hq))

/-- The slot of copy `n`, from before its turn `n`: the copy two turns before may be under way. -/
def OutC (n : Nat) : sProp 𝕄 :=
  if n < 2 then OutFree c B sq S G (n % 2) (mod_two_lt n)
  else Fly c (cell S (n % 2) (mod_two_lt n)) w
    iprop(kn c H fullShare (InRect (128 * (n - 2)) 0 128 C) tt G ∗ kn c (plane B (n % 2) (mod_two_lt n) sq) fullShare tt tt (fun i j => G (128 * (n - 2) + i) j))

/-- The array they go to: blocks before `lo` are there, blocks from `lo` to `hi` under way. -/
def OutH (lo hi : Nat) : sProp 𝕄 := kn c H fullShare (fun r _ => r < 128 * lo ∨ 128 * hi ≤ r) (fun r _ => r < 128 * lo) G

variable {c H B sq S w G}

theorem wp_outWait {n hi q : Nat} {hq : q < 2} (e : q = n % 2) (h2 : 2 ≤ n) (hn : n - 1 ≤ hi) {sp₁ sp' : Space} {s₁ : Shape} {e₁ : EltTy}
    {src' : Memref sig .tc sp₁ s₁ e₁} {dst' : Memref sig .tc sp' s₁ e₁} {h1 h2} (hN : dst'.view.dmaCredit = w) :
    (iprop(OutC c H B sq S w G n ∗ OutH c H G (n - 2) hi ∗ Ow F c) : sProp 𝕄) ⊢ WP c (wait (F := F) src' dst' (cell S q hq) h1 h2)
      (fun _ => iprop(OutFree c B sq S G (n % 2) (mod_two_lt n) ∗ OutH c H G (n - 1) hi ∗ Ow F c)) := by
  subst e
  have hland : (iprop(kn c H fullShare (InRect (128 * (n - 2)) 0 128 C) tt G
      ∗ kn c H fullShare (fun r _ => r < 128 * (n - 2) ∨ 128 * hi ≤ r) (fun r _ => r < 128 * (n - 2)) G) : sProp 𝕄)
      ⊢ kn c H fullShare (fun r _ => r < 128 * (n - 1) ∨ 128 * hi ≤ r) (fun r _ => r < 128 * (n - 1)) G :=
    kn_give (fun i j hi hj => ⟨by unfold InRect; omega, by unfold InRect; omega⟩)
      (fun _ _ _ _ _ _ => ⟨trivial, rfl⟩) (fun i j _ _ hP hK => ⟨by omega, rfl⟩)
  unfold OutC OutFree OutH
  rw [if_neg (by omega)]
  iintro ⟨HF, HH, HW⟩
  iapply (WP_mono (wp_wait hN)) $$ [HF HW]
  · isplitl [HF]; · iexact HF
    iexact HW
  iintro %_ ⟨⟨HD, HB⟩, HS, HW⟩
  isplitl [HB HS]
  · isplitl [HB]
    · iapply (kn_weaken fun _ _ _ _ _ h => h.elim) $$ HB
    iexact HS
  isplitl [HD HH]
  · iapply hland
    isplitl [HD]; · iexact HD
    iexact HH
  iexact HW

theorem wp_outStart {i lo q R : Nat} {hq : q < 2} (e : q = i % 2) (eR : R = 128 * i) (hl : lo ≤ i) {h h1 h2 h3}
    (hN : (part H R 0 128 C h).view.dmaCredit = w) (hw0 : 0 < w) :
    (iprop(kn c (plane B (i % 2) (mod_two_lt i) sq) fullShare tt tt (fun a j => G (128 * i + a) j) ∗ Sem0 F c (cell S (i % 2) (mod_two_lt i)) ∗ OutH c H G lo i) : sProp 𝕄)
      ⊢ WP c (start (F := F) (plane B q hq sq) (part H R 0 128 C h) (cell S q hq) h1 h2 h3)
        (fun _ => iprop(OutC c H B sq S w G (i + 2) ∗ OutH c H G lo (i + 1))) := by
  subst e eR
  have hgo : (iprop(kn c (plane B (i % 2) hq sq) fullShare tt tt (fun a j => G (128 * i + a) j)
      ∗ kn c H fullShare (fun r _ => r < 128 * lo ∨ 128 * i ≤ r) (fun r _ => r < 128 * lo) G ∗ Sem0 F c (cell S (i % 2) hq)) : sProp 𝕄)
      ⊢ WP c (start (F := F) (plane B (i % 2) hq sq) (part H (128 * i) 0 128 C h) (cell S (i % 2) hq) h1 h2 h3)
        (fun _ => iprop(Fly c (cell S (i % 2) hq) w iprop(kn c H fullShare (InRect (128 * i) 0 128 C) tt G
            ∗ kn c (plane B (i % 2) hq sq) fullShare tt tt (fun a j => G (128 * i + a) j))
          ∗ kn c H fullShare (fun r _ => r < 128 * lo ∨ 128 * (i + 1) ≤ r) (fun r _ => r < 128 * lo) G)) :=
    wp_startInto (fun a b ha hb => ⟨by unfold InRect; omega, by unfold InRect; omega⟩) hN hw0 (fun a b _ _ _ => by rw [Nat.zero_add])
  unfold OutC OutH
  rw [if_neg (by omega)]
  have e2 : (i + 2) % 2 = i % 2 := by omega
  simp only [Nat.add_sub_cancel, e2]
  iintro ⟨HB, HS, HH⟩
  iapply (WP_mono hgo) $$ [HB HS HH]
  · isplitl [HB]; · iexact HB
    isplitl [HH]; · iexact HH
    iexact HS
  iintro %_ ⟨HF, HH⟩
  isplitl [HF]; · iexact HF
  iexact HH

end Out

end Cert.KernelIdeal.Model
-- ==== Proof.StreamIn.lean ====
/- The quantiser's rows coming in, one trip ahead, through two slots in turn. -/
module

public import proofs.«01_k».proof.Proof.Stream

@[expose] public section

set_option maxRecDepth 16384

noncomputable section

namespace Cert.KernelIdeal.Model

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Blocks coming in -/

abbrev credX : ℕ := (xDst 0 (by decide)).view.dmaCredit
abbrev credC : ℕ := (cDst 0 (by decide)).view.dmaCredit
abbrev credS : ℕ := (sDst 0 (by decide)).view.dmaCredit
theorem credX_pos : 0 < credX := by decide +kernel
theorem credC_pos : 0 < credC := by decide +kernel
theorem credS_pos : 0 < credS := by decide +kernel

section In

variable (c : Dev nD) (D : In F)

def InFree (q : Nat) (hq : q < 2) : sProp 𝕄 := iprop(kn c (xDst q hq) fullShare tt ff D.x ∗ Sem0 F c (cell cc0_scratch9 q hq))

def InFly (n : Nat) : sProp 𝕄 :=
  Fly c (cell cc0_scratch9 (n % 2) (mod_two_lt n)) credX
    iprop(kn c (xDst (n % 2) (mod_two_lt n)) fullShare tt tt (fun i j => D.x (128 * n + i) j) ∗ kn c xHbm fullShare (InRect (128 * n) 0 128 3456) tt D.x)

/-- The rows of trip `n` on their way in, if there is a trip `n`. -/
def InC (n : Nat) : sProp 𝕄 :=
  if n < 48 then iprop(InFly c D n
    ∗ kn c xHbm fullShare (fun r _ => r < 128 * n ∨ 128 * (n + 1) ≤ r) tt D.x)
  else iprop(InFree c D (n % 2) (mod_two_lt n) ∗ kn c xHbm fullShare tt tt D.x)

variable {c D}

/-- Rows started coming in. -/
theorem wp_xStart {n q R : Nat} {hq : q < 2} (e : q = n % 2) (eR : R = 128 * n) {h hd} {P P' : Nat → Nat → Prop} (hP : Parts 6144 3456 P (InRect (128 * n) 0 128 3456) P') :
    (iprop(InFree c D (n % 2) (mod_two_lt n) ∗ kn c xHbm fullShare P tt D.x) : sProp 𝕄) ⊢ WP c (xStart (F := F) R q h hd hq)
      (fun _ => iprop(InFly c D n ∗ kn c xHbm fullShare P' tt D.x)) := by
  subst e eR
  have hgo : (iprop(kn c xHbm fullShare P tt D.x ∗ kn c (xDst (n % 2) hq) fullShare tt ff D.x ∗ Sem0 F c (cell cc0_scratch9 (n % 2) hq)) : sProp 𝕄)
      ⊢ WP c (xStart (F := F) (128 * n) (n % 2) h hd hq)
        (fun _ => iprop(Fly c (cell cc0_scratch9 (n % 2) hq) credX
          iprop(kn c (xDst (n % 2) hq) fullShare tt tt (fun i j => D.x (128 * n + i) (0 + j)) ∗ kn c xHbm fullShare (InRect (128 * n) 0 128 3456) tt D.x)
          ∗ kn c xHbm fullShare P' tt D.x)) :=
    wp_startFrom (M := xHbm) (N := xDst (n % 2) hq) (r := 128 * n) (c' := 0) (m := 128) (n := 3456) (w := credX) (h3 := trivial) hP rfl credX_pos
  unfold InFree InFly
  iintro ⟨⟨HB, HS⟩, HX⟩
  iapply (WP_mono hgo) $$ [HB HS HX]
  · isplitl [HX]; · iexact HX
    isplitl [HB]; · iexact HB
    iexact HS
  iintro %_ ⟨HF, HX⟩
  isplitl [HF]
  · simp only [Nat.zero_add]
    iexact HF
  iexact HX

/-- and waited for. -/
theorem wp_xWait {n q R : Nat} {hq : q < 2} (e : q = n % 2) {h hd} :
    (iprop(InFly c D n ∗ Ow F c) : sProp 𝕄) ⊢ WP c (xWait (F := F) R q h hd hq)
      (fun _ => iprop((kn c (xDst (n % 2) (mod_two_lt n)) fullShare tt tt (fun i j => D.x (128 * n + i) j) ∗ kn c xHbm fullShare (InRect (128 * n) 0 128 3456) tt D.x)
        ∗ Sem0 F c (cell cc0_scratch9 (n % 2) (mod_two_lt n)) ∗ Ow F c)) := by
  subst e
  unfold xWait InFly
  exact wp_wait (src' := xSrc R h) (dst' := xDst (n % 2) hq) (N := credX) rfl

theorem x_back {n : Nat} {P P' : Nat → Nat → Prop} (hP : Parts 6144 3456 P (InRect (128 * n) 0 128 3456) P') :
    (iprop(kn c xHbm fullShare (InRect (128 * n) 0 128 3456) tt D.x ∗ kn c xHbm fullShare P' tt D.x) : sProp 𝕄) ⊢ kn c xHbm fullShare P tt D.x :=
  kn_join hP

/-- The next rows started. -/
theorem wp_quantNext {i : BitVec 32} {hi : i.toNat ≤ 47} {n : Nat} (hn : i.toNat = n) :
    (iprop(InC c D n ∗ InFree c D ((n + 1) % 2) (mod_two_lt _)) : sProp 𝕄)
      ⊢ WP c (quantNext (F := F) i hi) (fun _ => iprop(InFly c D n ∗ (kn c xHbm fullShare (InRect (128 * n) 0 128 3456) tt D.x -∗ InC c D (n + 1)))) := by
  subst hn
  conv => lhs; unfold InC
  rw [if_pos (by omega)]
  iintro ⟨⟨HF, HX⟩, HI⟩
  by_cases h : qMore i = 1#1
  · have hi' : i.toNat + 1 ≤ 47 := (qMore_nat hi).1 h
    have hnx : (Scalar.addi i 1#32).toNat ≤ 47 := by rw [qNext_nat hi]; exact hi'
    have hP : Parts 6144 3456 (fun r _ => r < 128 * i.toNat ∨ 128 * (i.toNat + 1) ≤ r) (InRect (128 * (i.toNat + 1)) 0 128 3456)
        (fun r _ => (r < 128 * i.toNat ∨ 128 * (i.toNat + 1) ≤ r) ∧ ¬(128 * (i.toNat + 1) ≤ r ∧ r < 128 * (i.toNat + 1) + 128)) :=
      fun a b _ hb => ⟨by unfold InRect; omega, by unfold InRect; omega⟩
    have hP2 : Parts 6144 3456 (fun r _ => r < 128 * (i.toNat + 1) ∨ 128 * (i.toNat + 1 + 1) ≤ r) (InRect (128 * i.toNat) 0 128 3456)
        (fun r _ => (r < 128 * i.toNat ∨ 128 * (i.toNat + 1) ≤ r) ∧ ¬(128 * (i.toNat + 1) ≤ r ∧ r < 128 * (i.toNat + 1) + 128)) :=
      fun a b _ hb => ⟨by unfold InRect; omega, by unfold InRect; omega⟩
    unfold quantNext
    rw [dif_pos h]
    iapply (WP_bind (wp_xStart (n := i.toNat + 1) (by rw [qOther_nat hi]; omega) (by rw [qRow_nat hnx, qNext_nat hi]) hP)) $$ [HI HX]
    · isplitl [HI]; · iexact HI
      iexact HX
    iintro %_ ⟨HF', HX⟩
    iapply WP_pure
    isplitl [HF]; · iexact HF
    iintro HD
    unfold InC
    rw [if_pos (by omega)]
    isplitl [HF']; · iexact HF'
    iapply (x_back hP2)
    isplitl [HD]; · iexact HD
    iexact HX
  · have hi' : i.toNat = 47 := by have := (qMore_nat hi).not.1 h; omega
    have hP2 : Parts 6144 3456 tt (InRect (128 * i.toNat) 0 128 3456) (fun r _ => r < 128 * i.toNat ∨ 128 * (i.toNat + 1) ≤ r) :=
      fun a b _ hb => ⟨by simp only [tt, InRect, true_iff]; omega, by unfold InRect; omega⟩
    unfold quantNext
    rw [dif_neg h]
    iapply WP_pure
    isplitl [HF]; · iexact HF
    iintro HD
    unfold InC
    rw [if_neg (by omega)]
    isplitl [HI]; · iexact HI
    iapply (x_back hP2)
    isplitl [HD]; · iexact HD
    iexact HX

end In

end Cert.KernelIdeal.Model
-- ==== Proof.QuantAll.lean ====
/- The quantiser: every block's trip, and the last copies out. -/
module

public import proofs.«01_k».proof.Proof.StreamIn

@[expose] public section

set_option maxRecDepth 16384

noncomputable section

namespace Cert.KernelIdeal.Model

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

abbrev sqC : (⟨3, ![1, 128, 3456]⟩ : Shape).Squeezes ⟨2, ![128, 3456]⟩ := squeezes_S1x128x3456_S128x3456
abbrev sqS : (⟨3, ![1, 128, 27]⟩ : Shape).Squeezes ⟨2, ![128, 27]⟩ := squeezes_S1x128x27_S128x27

section

variable (c : Dev nD) (D : In F)

abbrev CodC (n : Nat) : sProp 𝕄 := OutC c cHbm cBuf sqC cc0_scratch10 credC D.cod n
abbrev SclC (n : Nat) : sProp 𝕄 := OutC c sHbm sBuf sqS cc0_scratch11 credS D.scl n
abbrev CodFree (q : Nat) (hq : q < 2) : sProp 𝕄 := OutFree c cBuf sqC cc0_scratch10 D.cod q hq
abbrev SclFree (q : Nat) (hq : q < 2) : sProp 𝕄 := OutFree c sBuf sqS cc0_scratch11 D.scl q hq
abbrev CodH (lo hi : Nat) : sProp 𝕄 := OutH c cHbm D.cod lo hi
abbrev SclH (lo hi : Nat) : sProp 𝕄 := OutH c sHbm D.scl lo hi

/-- Between trips: `n` blocks are done. -/
def QSt (n : Nat) : sProp 𝕄 :=
  iprop(InC c D n ∗ InFree c D ((n + 1) % 2) (mod_two_lt _) ∗ (CodC c D n ∗ CodH c D (n - 2) n ∗ SclC c D n ∗ SclH c D (n - 2) n ∗ Ow F c)
    ∗ CodC c D (n + 1) ∗ SclC c D (n + 1) ∗ kn c aBuf fullShare tt (fun r _ => r < 128 * n) D.act)

variable {c D}

theorem wp_cWait {n hi q R : Nat} {hq : q < 2} (e : q = n % 2) (h2 : 2 ≤ n) (hn : n - 1 ≤ hi) {h hd} :
    (iprop(CodC c D n ∗ CodH c D (n - 2) hi ∗ Ow F c) : sProp 𝕄) ⊢ WP c (cWait (F := F) R q h hd hq)
      (fun _ => iprop(CodFree c D (n % 2) (mod_two_lt n) ∗ CodH c D (n - 1) hi ∗ Ow F c)) := by
  unfold cWait
  exact wp_outWait (src' := cSrc q hq) (dst' := cDst R h) (w := credC) e h2 hn rfl

theorem wp_sWait {n hi q R : Nat} {hq : q < 2} (e : q = n % 2) (h2 : 2 ≤ n) (hn : n - 1 ≤ hi) {h hd} :
    (iprop(SclC c D n ∗ SclH c D (n - 2) hi ∗ Ow F c) : sProp 𝕄) ⊢ WP c (sWait (F := F) R q h hd hq)
      (fun _ => iprop(SclFree c D (n % 2) (mod_two_lt n) ∗ SclH c D (n - 1) hi ∗ Ow F c)) := by
  unfold sWait
  exact wp_outWait (src' := sSrc q hq) (dst' := sDst R h) (w := credS) e h2 hn rfl

theorem wp_cStart {i lo q R : Nat} {hq : q < 2} (e : q = i % 2) (eR : R = 128 * i) (hl : lo ≤ i) {h hd} :
    (iprop(kn c (cSrc (i % 2) (mod_two_lt i)) fullShare tt tt (fun a j => D.cod (128 * i + a) j) ∗ Sem0 F c (cell cc0_scratch10 (i % 2) (mod_two_lt i)) ∗ CodH c D lo i) : sProp 𝕄)
      ⊢ WP c (cStart (F := F) R q h hd hq) (fun _ => iprop(CodC c D (i + 2) ∗ CodH c D lo (i + 1))) := by
  unfold cStart
  exact wp_outStart (B := cBuf) (H := cHbm) (sq := sqC) (w := credC) (h3 := trivial) e eR hl rfl credC_pos

theorem wp_sStart {i lo q R : Nat} {hq : q < 2} (e : q = i % 2) (eR : R = 128 * i) (hl : lo ≤ i) {h hd} :
    (iprop(kn c (sSrc (i % 2) (mod_two_lt i)) fullShare tt tt (fun a j => D.scl (128 * i + a) j) ∗ Sem0 F c (cell cc0_scratch11 (i % 2) (mod_two_lt i)) ∗ SclH c D lo i) : sProp 𝕄)
      ⊢ WP c (sStart (F := F) R q h hd hq) (fun _ => iprop(SclC c D (i + 2) ∗ SclH c D lo (i + 1))) := by
  unfold sStart
  exact wp_outStart (B := sBuf) (H := sHbm) (sq := sqS) (w := credS) (h3 := trivial) e eR hl rfl credS_pos

/-- The slot's last copies out, done. -/
theorem wp_quantPast {i : BitVec 32} {hi : i.toNat ≤ 47} {n : Nat} (hn : i.toNat = n) :
    (iprop(CodC c D n ∗ CodH c D (n - 2) n ∗ SclC c D n ∗ SclH c D (n - 2) n ∗ Ow F c) : sProp 𝕄)
      ⊢ WP c (quantPast (F := F) i hi) (fun _ => iprop(CodFree c D (n % 2) (mod_two_lt n) ∗ CodH c D (n - 1) n ∗ SclFree c D (n % 2) (mod_two_lt n) ∗ SclH c D (n - 1) n ∗ Ow F c)) := by
  subst hn
  iintro ⟨HC, HCH, HS, HSH, HW⟩
  by_cases h : qPast i = 1#1
  · have h2 : 2 ≤ i.toNat := (qPast_nat hi).1 h
    unfold quantPast
    rw [dif_pos h]
    iapply (WP_bind (wp_cWait (n := i.toNat) (hi := i.toNat) (qSlot_nat hi) h2 (by omega))) $$ [HC HCH HW]
    · isplitl [HC]; · iexact HC
      isplitl [HCH]; · iexact HCH
      iexact HW
    iintro %_ ⟨HC, HCH, HW⟩
    iapply (WP_bind (wp_sWait (n := i.toNat) (hi := i.toNat) (qSlot_nat hi) h2 (by omega))) $$ [HS HSH HW]
    · isplitl [HS]; · iexact HS
      isplitl [HSH]; · iexact HSH
      iexact HW
    iintro %_ ⟨HS, HSH, HW⟩
    iapply WP_pure
    isplitl [HC]; · iexact HC
    isplitl [HCH]; · iexact HCH
    isplitl [HS]; · iexact HS
    isplitl [HSH]; · iexact HSH
    iexact HW
  · have h2 : ¬2 ≤ i.toNat := (qPast_nat hi).not.1 h
    have e : i.toNat - 2 = i.toNat - 1 := by omega
    unfold quantPast
    rw [dif_neg h, e]
    have hc : (CodC c D i.toNat : sProp 𝕄) ⊢ CodFree c D (i.toNat % 2) (mod_two_lt i.toNat) := by
      unfold CodC OutC
      rw [if_pos (by omega)]
    have hs : (SclC c D i.toNat : sProp 𝕄) ⊢ SclFree c D (i.toNat % 2) (mod_two_lt i.toNat) := by
      unfold SclC OutC
      rw [if_pos (by omega)]
    ihave HC := hc $$ HC
    ihave HS := hs $$ HS
    iapply WP_pure
    isplitl [HC]; · iexact HC
    isplitl [HCH]; · iexact HCH
    isplitl [HS]; · iexact HS
    isplitl [HSH]; · iexact HSH
    iexact HW

/-- The groups of a block. -/
theorem wp_quantBlock {i q R : Nat} {hq : q < 2} (e : q = i % 2) (eR : R = 128 * i) {h hd} {hg : 0 + 27 ≤ 27} {v : FVec F S128x128 .f32} :
    (Work c D i (i % 2) (mod_two_lt i) 0 : sProp 𝕄) ⊢ WP c (quantGroups (F := F) R q h hd hq 27 0 hg v)
      (fun v' => iprop(Work c D i (i % 2) (mod_two_lt i) 27 ∗ ⌜ScaleRow D i 27 v'⌝)) := by
  subst e eR
  exact wp_quantGroups D 27 0 hg v (fun _ b hb => absurd hb (Nat.not_lt_zero _))

theorem wp_putBlock {i q : Nat} {hq : q < 2} (e : q = i % 2) {v : FVec F S128x128 .f32} (hv : ScaleRow D i 27 v) :
    (kn c (sSrc (i % 2) (mod_two_lt i)) fullShare tt ff D.scl : sProp 𝕄) ⊢ WP c (putScales (F := F) q hq v)
      (fun _ => kn c (sSrc (i % 2) (mod_two_lt i)) fullShare tt tt (fun a j => D.scl (128 * i + a) j)) := by
  subst e
  exact wp_putScales D hv (K := ff)

theorem wp_quantStep {i : BitVec 32} {hi : i.toNat ≤ 47} {n : Nat} (hn : i.toNat = n) :
    (QSt c D n : sProp 𝕄) ⊢ WP c (quantStep (F := F) i hi) (fun _ => QSt c D (n + 1)) := by
  have hs : (qSlot i).toNat = n % 2 := by rw [qSlot_nat hi, hn]
  have hr : (qRow i).toNat = 128 * n := by rw [qRow_nat hi, hn]
  unfold quantStep
  conv => lhs; unfold QSt
  iintro ⟨HX, HX', HO, HC', HS', HA⟩
  iapply (WP_bind (wp_quantNext (hi := hi) hn)) $$ [HX HX']
  · isplitl [HX]; · iexact HX
    iexact HX'
  iintro %_ ⟨HX, HXK⟩
  icases HO with ⟨HC, HCH, HS, HSH, HW⟩
  iapply (WP_bind (wp_xWait hs)) $$ [HX HW]
  · isplitl [HX]; · iexact HX
    iexact HW
  iintro %_ ⟨⟨HX, HD⟩, HXS, HW⟩
  ihave HXC := HXK $$ HD
  iapply (WP_bind (wp_quantPast (hi := hi) hn)) $$ [HC HCH HS HSH HW]
  · isplitl [HC]; · iexact HC
    isplitl [HCH]; · iexact HCH
    isplitl [HS]; · iexact HS
    isplitl [HSH]; · iexact HSH
    iexact HW
  unfold CodFree SclFree OutFree
  iintro %_ ⟨⟨HC, HCS⟩, HCH, ⟨HS, HSS⟩, HSH, HW⟩
  have hc0 : (kn c (cSrc (n % 2) (mod_two_lt n)) fullShare tt ff D.cod : sProp 𝕄)
      ⊢ kn c (cSrc (n % 2) (mod_two_lt n)) fullShare tt (fun _ j => j < 128 * 0) (fun a j => D.cod (128 * n + a) j) :=
    kn_weaken fun _ _ _ _ _ h => absurd h (Nat.not_lt_zero _)
  have ha0 : (kn c aBuf fullShare tt (fun r _ => r < 128 * n) D.act : sProp 𝕄)
      ⊢ kn c aBuf fullShare tt (fun r j => r < 128 * n ∨ (r < 128 * n + 128 ∧ j < 128 * 0)) D.act :=
    kn_weaken fun _ _ _ _ _ h => ⟨h.resolve_right fun h => absurd h.2 (Nat.not_lt_zero _), rfl⟩
  have ha1 : (kn c aBuf fullShare tt (fun r j => r < 128 * n ∨ (r < 128 * n + 128 ∧ j < 128 * 27)) D.act : sProp 𝕄)
      ⊢ kn c aBuf fullShare tt (fun r _ => r < 128 * (n + 1)) D.act :=
    kn_weaken fun _ j _ hj _ h => ⟨by omega, rfl⟩
  have hc1 : (kn c (cSrc (n % 2) (mod_two_lt n)) fullShare tt (fun _ j => j < 128 * 27) (fun a j => D.cod (128 * n + a) j) : sProp 𝕄)
      ⊢ kn c (cSrc (n % 2) (mod_two_lt n)) fullShare tt tt (fun a j => D.cod (128 * n + a) j) :=
    kn_weaken fun _ j _ hj _ h => ⟨by omega, rfl⟩
  have hx1 : (kn c (xDst (n % 2) (mod_two_lt n)) fullShare tt tt (fun a j => D.x (128 * n + a) j) : sProp 𝕄)
      ⊢ kn c (xDst (n % 2) (mod_two_lt n)) fullShare tt ff D.x :=
    kn_weaken fun _ _ _ _ _ h => h.elim
  ihave HC := hc0 $$ HC
  ihave HA := ha0 $$ HA
  iapply (WP_bind (wp_quantBlock hs hr)) $$ [HX HC HA]
  · isplitl [HX]; · iexact HX
    isplitl [HC]; · iexact HC
    iexact HA
  iintro %v ⟨⟨HX, HC, HA⟩, %hv⟩
  ihave HC := hc1 $$ HC
  ihave HA := ha1 $$ HA
  ihave HX := hx1 $$ HX
  iapply (WP_bind (wp_putBlock hs hv)) $$ HS
  iintro %_ HS
  iapply (WP_bind (wp_cStart hs hr (Nat.sub_le n 1))) $$ [HC HCS HCH]
  · isplitl [HC]; · iexact HC
    isplitl [HCS]; · iexact HCS
    iexact HCH
  iintro %_ ⟨HC, HCH⟩
  iapply (WP_bind (wp_sStart hs hr (Nat.sub_le n 1))) $$ [HS HSS HSH]
  · isplitl [HS]; · iexact HS
    isplitl [HSS]; · iexact HSS
    iexact HSH
  iintro %_ ⟨HS, HSH⟩
  iapply WP_pure
  have e1 : n + 1 - 2 = n - 1 := by omega
  have e2 : (n + 1 + 1) % 2 = n % 2 := by omega
  unfold QSt InFree
  simp only [e1, e2]
  isplitl [HXC]; · iexact HXC
  isplitl [HX HXS]
  · isplitl [HX]; · iexact HX
    iexact HXS
  isplitl [HC' HCH HS' HSH HW]
  · isplitl [HC']; · iexact HC'
    isplitl [HCH]; · iexact HCH
    isplitl [HS']; · iexact HS'
    isplitl [HSH]; · iexact HSH
    iexact HW
  isplitl [HC]; · iexact HC
  isplitl [HS]; · iexact HS
  iexact HA

theorem iv48_nat (k : Fin k0_t1_loop.trips) : (ivFrom 0#32 k).toNat = k.val :=
  (by decide +kernel : ∀ k : Fin k0_t1_loop.trips, (ivFrom 0#32 k).toNat = k.val) k

/-- After the quantiser: everything is quantised, nothing is under way. -/
def QEnd (c : Dev nD) (D : In F) : sProp 𝕄 :=
  iprop(InFree c D 0 (by decide) ∗ InFree c D 1 (by decide) ∗ kn c xHbm fullShare tt tt D.x
    ∗ CodFree c D 0 (by decide) ∗ CodFree c D 1 (by decide) ∗ kn c cHbm fullShare tt tt D.cod
    ∗ SclFree c D 0 (by decide) ∗ SclFree c D 1 (by decide) ∗ kn c sHbm fullShare tt tt D.scl
    ∗ kn c aBuf fullShare tt tt D.act ∗ Ow F c)

theorem wp_quantAll : (QSt c D 0 : sProp 𝕄) ⊢ WP c (quantAll (F := F)) (fun _ => QEnd c D) := by
  have hloop : (QSt c D 0 : sProp 𝕄) ⊢ WP c (Scf.Loop.for k0_t1_loop k0_t1_ok PUnit.unit fun k _ => quantStep (F := F) (ivFrom 0#32 k) (iv48 k)) (fun _ => QSt c D 48) := by
    iintro H
    iapply (Scf.wp_for _ _ _ _ _ _ _ _ _ (fun n (_ : PUnit) => QSt c D n) (fun k _ => wp_quantStep (iv48_nat k)))
    isplitl [H]; · iexact H
    iintro %_ H
    iexact H
  have hc : (CodH c D 48 48 : sProp 𝕄) ⊢ kn c cHbm fullShare tt tt D.cod := by
    refine BIBase.Entails.trans (kn_region (P' := tt) fun a b ha _ => by simp only [tt, iff_true]; omega) (kn_weaken fun a b ha _ _ _ => ?_)
    · exact ⟨by omega, rfl⟩
  have hs : (SclH c D 48 48 : sProp 𝕄) ⊢ kn c sHbm fullShare tt tt D.scl := by
    refine BIBase.Entails.trans (kn_region (P' := tt) fun a b ha _ => by simp only [tt, iff_true]; omega) (kn_weaken fun a b ha _ _ _ => ?_)
    · exact ⟨by omega, rfl⟩
  have ha : (kn c aBuf fullShare tt (fun r _ => r < 128 * 48) D.act : sProp 𝕄) ⊢ kn c aBuf fullShare tt tt D.act :=
    kn_weaken fun a _ ha _ _ _ => ⟨by omega, rfl⟩
  unfold quantAll
  iintro H
  iapply (WP_bind hloop) $$ H
  iintro %_ H
  unfold QSt
  icases H with ⟨HX, HX', ⟨HC, HCH, HS, HSH, HW⟩, HC', HS', HA⟩
  iapply (WP_bind (wp_cWait (n := 48) (hi := 48) rfl (by decide) (by decide))) $$ [HC HCH HW]
  · isplitl [HC]; · iexact HC
    isplitl [HCH]; · iexact HCH
    iexact HW
  iintro %_ ⟨HC, HCH, HW⟩
  iapply (WP_bind (wp_sWait (n := 48) (hi := 48) rfl (by decide) (by decide))) $$ [HS HSH HW]
  · isplitl [HS]; · iexact HS
    isplitl [HSH]; · iexact HSH
    iexact HW
  iintro %_ ⟨HS, HSH, HW⟩
  iapply (WP_bind (wp_cWait (n := 49) (hi := 48) rfl (by decide) (by decide))) $$ [HC' HCH HW]
  · isplitl [HC']; · iexact HC'
    isplitl [HCH]; · iexact HCH
    iexact HW
  iintro %_ ⟨HC', HCH, HW⟩
  iapply (WP_mono (wp_sWait (n := 49) (hi := 48) rfl (by decide) (by decide))) $$ [HS' HSH HW]
  · isplitl [HS']; · iexact HS'
    isplitl [HSH]; · iexact HSH
    iexact HW
  iintro %_ ⟨HS', HSH, HW⟩
  ihave HCH := hc $$ HCH
  ihave HSH := hs $$ HSH
  ihave HA := ha $$ HA
  have hx : (InC c D 48 : sProp 𝕄) ⊢ iprop(InFree c D 0 (by decide) ∗ kn c xHbm fullShare tt tt D.x) := by
    unfold InC
    rw [if_neg (by decide)]
  ihave HX := hx $$ HX
  unfold QEnd
  icases HX with ⟨HX, HXH⟩
  isplitl [HX]; · iexact HX
  isplitl [HX']; · iexact HX'
  isplitl [HXH]; · iexact HXH
  isplitl [HC]; · iexact HC
  isplitl [HC']; · iexact HC'
  isplitl [HCH]; · iexact HCH
  isplitl [HS]; · iexact HS
  isplitl [HS']; · iexact HS'
  isplitl [HSH]; · iexact HSH
  isplitl [HA]; · iexact HA
  iexact HW

end

end Cert.KernelIdeal.Model
-- ==== Proof.Weights.lean ====
/- A panel's packed weights and group scales: nine copies, on two semaphores. -/
module

public import proofs.«01_k».proof.Proof.QuantAll

@[expose] public section

set_option maxRecDepth 16384

noncomputable section

namespace Cert.KernelIdeal.Model

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

abbrev sqG : (⟨3, ![1, 27, 128]⟩ : Shape).Squeezes ⟨2, ![27, 128]⟩ := squeezes_S1x27x128_S27x128
abbrev semW : DmaSems sig S_ := cell cc0_scratch13 0 (by decide)
abbrev semG : DmaSems sig S_ := cell cc0_scratch13 1 (by decide)
abbrev credW : ℕ := (wpDst 0 (by decide)).view.dmaCredit
abbrev credG : ℕ := (gsDst 0 (by decide)).view.dmaCredit
theorem credW_pos : 0 < credW := by decide +kernel
theorem credG_pos : 0 < credG := by decide +kernel

/-- What stays of the packed weights once `k` chunks are under way; of the group scales. -/
abbrev wpLeft (f k : Nat) : Nat → Nat → Prop := fun _ j => ∀ i < k, j / 128 ≠ In.wch f i
abbrev gsLeft (f k : Nat) : Nat → Nat → Prop := fun _ j => j < 128 * f ∨ 128 * (f + k) ≤ j
abbrev bufLeft (k : Nat) : Nat → Nat → Prop := fun _ j => 128 * k ≤ j

theorem wch_ne {f i k : Nat} (hi : i < 5) (hk : k < i) : In.wch f i ≠ In.wch f k := by unfold In.wch; split <;> split <;> omega

theorem parts_wp {f i : Nat} (hi : i < 5) : Parts 3456 4352 (wpLeft f i) (InRect 0 (128 * In.wch f i) 3456 128) (wpLeft f (i + 1)) := by
  intro a j ha _
  have hr : InRect 0 (128 * In.wch f i) 3456 128 a j ↔ j / 128 = In.wch f i := by unfold InRect; omega
  rw [hr]
  refine ⟨⟨fun h => ?_, ?_⟩, fun h => h.2 i (by omega) h.1⟩
  · by_cases e : j / 128 = In.wch f i
    · exact .inl e
    · refine .inr fun k hk => ?_
      by_cases ek : k = i
      · subst ek; exact e
      · exact h k (by omega)
  · rintro (h | h) k hk
    · rw [h]; exact wch_ne hi hk
    · exact h k (by omega)

theorem parts_buf {i : Nat} : Parts 3456 640 (bufLeft i) (InRect 0 (128 * i) 3456 128) (bufLeft (i + 1)) :=
  fun a j ha _ => ⟨by unfold InRect; omega, by unfold InRect; omega⟩

theorem parts_gs {f i : Nat} : Parts 27 8576 (gsLeft f i) (InRect 0 (128 * (f + i)) 27 128) (gsLeft f (i + 1)) :=
  fun a j ha _ => ⟨by unfold InRect; omega, by unfold InRect; omega⟩

section

variable (c : Dev nD) (D : In F)

/-- What each copy delivers. -/
def Dwp (f : Nat) (i : Fin 5) : sProp 𝕄 :=
  iprop(kn c wpBuf fullShare (InRect 0 (128 * i.val) 3456 128) tt (D.wpp f) ∗ kn c wpHbm fullShare (InRect 0 (128 * In.wch f i.val) 3456 128) tt D.wp)
def Dgs (f : Nat) (i : Fin 4) : sProp 𝕄 :=
  iprop(kn c (plane gsBuf i.val i.isLt sqG) fullShare tt tt (D.gsp f i.val) ∗ kn c gsHbm fullShare (InRect 0 (128 * (f + i.val)) 27 128) tt D.gs)

instance Dwp_storable (f : Nat) (i : Fin 5) : BI.Storable (upEmb : UEmb _ 𝕄) (Dwp c D f i) := by unfold Dwp; infer_instance
instance Dgs_storable (f : Nat) (i : Fin 4) : BI.Storable (upEmb : UEmb _ 𝕄) (Dgs c D f i) := by unfold Dgs; infer_instance

/-- The four planes of group scales. -/
def Planes (K : Nat → Nat → Prop) (f : Nat) : sProp 𝕄 :=
  iprop(kn c (plane gsBuf 0 (by decide) sqG) fullShare tt K (D.gsp f 0) ∗ kn c (plane gsBuf 1 (by decide) sqG) fullShare tt K (D.gsp f 1)
    ∗ kn c (plane gsBuf 2 (by decide) sqG) fullShare tt K (D.gsp f 2) ∗ kn c (plane gsBuf 3 (by decide) sqG) fullShare tt K (D.gsp f 3))

/-- Nothing under way, the buffers known where `K`; -/
def WpHeld (K : Nat → Nat → Prop) (f : Nat) : sProp 𝕄 :=
  iprop((kn c wpBuf fullShare tt K (D.wpp f) ∗ Planes c D K f) ∗ (kn c wpHbm fullShare tt tt D.wp ∗ kn c gsHbm fullShare tt tt D.gs) ∗ Sem0 F c semW ∗ Sem0 F c semG)

/-- the nine copies under way. -/
def WpFlight (f : Nat) : sProp 𝕄 :=
  iprop((kn c gsHbm fullShare (gsLeft f 4) tt D.gs ∗ Flock c semG credG (Dgs c D f) 4 0)
    ∗ kn c wpHbm fullShare (wpLeft f 5) tt D.wp ∗ kn c wpBuf fullShare (bufLeft 5) ff (D.wpp f) ∗ Flock c semW credW (Dwp c D f) 5 0)

variable {c D}

theorem wp_gsStart {f i col : Nat} {hi : i < 4} {h} (e : col = 128 * (f + i)) :
    (iprop(kn c (plane gsBuf i hi sqG) fullShare tt ff (D.gsp f i) ∗ kn c gsHbm fullShare (gsLeft f i) tt D.gs ∗ Flock c semG credG (Dgs c D f) i 0) : sProp 𝕄)
      ⊢ WP c (gsStart (F := F) col i h hi) (fun _ => iprop(kn c gsHbm fullShare (gsLeft f (i + 1)) tt D.gs ∗ Flock c semG credG (Dgs c D f) (i + 1) 0)) := by
  subst e
  have hD : (iprop(kn c (plane gsBuf i hi sqG) fullShare tt tt (fun a j => D.gs (0 + a) (128 * (f + i) + j)) ∗ kn c gsHbm fullShare (InRect 0 (128 * (f + i)) 27 128) tt D.gs) : sProp 𝕄)
      ⊢ Dgs c D f ⟨i, hi⟩ := by
    simp only [Nat.zero_add]
    exact BI.Entails.refl _
  have hgo : (iprop(kn c gsHbm fullShare (gsLeft f i) tt D.gs ∗ kn c (plane gsBuf i hi sqG) fullShare tt ff (D.gsp f i) ∗ Flock c semG credG (Dgs c D f) i 0) : sProp 𝕄)
      ⊢ WP c (gsStart (F := F) (128 * (f + i)) i h hi) (fun _ => iprop(Flock c semG credG (Dgs c D f) (i + 1) 0 ∗ kn c gsHbm fullShare (gsLeft f (i + 1)) tt D.gs)) :=
    wp_startFlockFrom (M := gsHbm) (N := plane gsBuf i hi sqG) (h3 := trivial) parts_gs rfl i hi hD
  iintro ⟨HP, HH, HF⟩
  iapply (WP_mono hgo) $$ [HP HH HF]
  · isplitl [HH]; · iexact HH
    isplitl [HP]; · iexact HP
    iexact HF
  iintro %_ ⟨HF, HH⟩
  isplitl [HH]; · iexact HH
  iexact HF

theorem wp_wpStart {f i col : Nat} {hi : i < 5} {h} (e : col = 128 * In.wch f i) :
    (iprop(kn c wpHbm fullShare (wpLeft f i) tt D.wp ∗ kn c wpBuf fullShare (bufLeft i) ff (D.wpp f) ∗ Flock c semW credW (Dwp c D f) i 0) : sProp 𝕄)
      ⊢ WP c (wpStart (F := F) col i h hi)
        (fun _ => iprop(kn c wpHbm fullShare (wpLeft f (i + 1)) tt D.wp ∗ kn c wpBuf fullShare (bufLeft (i + 1)) ff (D.wpp f) ∗ Flock c semW credW (Dwp c D f) (i + 1) 0)) := by
  subst e
  have hD : (iprop(kn c (wpDst i hi) fullShare tt tt (fun a j => D.wp (0 + a) (128 * In.wch f i + j)) ∗ kn c wpHbm fullShare (InRect 0 (128 * In.wch f i) 3456 128) tt D.wp) : sProp 𝕄)
      ⊢ Dwp c D f ⟨i, hi⟩ := by
    refine BI.sep_mono (kn_unpart fun a j _ hj _ => ⟨trivial, ?_⟩) (BI.Entails.refl _)
    unfold In.wpp
    rw [show (128 * i + j) / 128 = i by omega, show (128 * i + j) % 128 = j by omega]
  have hT : (kn c wpBuf fullShare (bufLeft i) ff (D.wpp f) : sProp 𝕄) ⊢ iprop(kn c (wpDst i hi) fullShare tt ff (fun a j => D.wpp f (0 + a) (128 * i + j)) ∗ kn c wpBuf fullShare (bufLeft (i + 1)) ff (D.wpp f)) :=
    kn_take parts_buf
  have hgo : (iprop(kn c wpHbm fullShare (wpLeft f i) tt D.wp ∗ kn c (wpDst i hi) fullShare tt ff (fun a j => D.wpp f (0 + a) (128 * i + j)) ∗ Flock c semW credW (Dwp c D f) i 0) : sProp 𝕄)
      ⊢ WP c (wpStart (F := F) (128 * In.wch f i) i h hi) (fun _ => iprop(Flock c semW credW (Dwp c D f) (i + 1) 0 ∗ kn c wpHbm fullShare (wpLeft f (i + 1)) tt D.wp)) :=
    wp_startFlockFrom (M := wpHbm) (N := wpDst i hi) (h3 := trivial) (parts_wp hi) rfl i hi hD
  iintro ⟨HH, HB, HF⟩
  ihave HB := hT $$ HB
  icases HB with ⟨HB, HB'⟩
  iapply (WP_mono hgo) $$ [HB HH HF]
  · isplitl [HH]; · iexact HH
    isplitl [HB]; · iexact HB
    iexact HF
  iintro %_ ⟨HF, HH⟩
  isplitl [HH]; · iexact HH
  isplitl [HB']; · iexact HB'
  iexact HF

theorem wp_startWp {p : BitVec 32} {hp : p.toNat ≤ 17} {K : Nat → Nat → Prop} {f f' : Nat} (hf : fc p.toNat = f') :
    (WpHeld c D K f : sProp 𝕄) ⊢ WP c (startWp (F := F) p hp) (fun _ => WpFlight c D f') := by
  subst hf
  have hplane : ∀ (i : Nat) (hi : i < 4), (kn c (plane gsBuf i hi sqG) fullShare tt K (D.gsp f i) : sProp 𝕄) ⊢ kn c (plane gsBuf i hi sqG) fullShare tt ff (D.gsp (fc p.toNat) i) :=
    fun _ _ => kn_weaken fun _ _ _ _ _ h => h.elim
  have hbuf : (kn c wpBuf fullShare tt K (D.wpp f) : sProp 𝕄) ⊢ kn c wpBuf fullShare (bufLeft 0) ff (D.wpp (fc p.toNat)) :=
    BIBase.Entails.trans (kn_region fun _ _ _ _ => by simp [bufLeft]) (kn_weaken fun _ _ _ _ _ h => h.elim)
  have hwp : (kn c wpHbm fullShare tt tt D.wp : sProp 𝕄) ⊢ kn c wpHbm fullShare (wpLeft (fc p.toNat) 0) tt D.wp :=
    kn_region fun _ _ _ _ => by simp [wpLeft]
  have hgs : (kn c gsHbm fullShare tt tt D.gs : sProp 𝕄) ⊢ kn c gsHbm fullShare (gsLeft (fc p.toNat) 0) tt D.gs :=
    kn_region fun _ _ _ _ => by simp only [tt, gsLeft, true_iff]; omega
  unfold WpHeld Planes startWp
  iintro ⟨⟨HB, HP0, HP1, HP2, HP3⟩, ⟨HW, HG⟩, HSW, HSG⟩
  iapply (wp_flock (c := c) (s := semG) credG (Dgs c D (fc p.toNat)))
  isplitl [HSG]; · iexact HSG
  iintro HFG
  iapply (wp_flock (c := c) (s := semW) credW (Dwp c D (fc p.toNat)))
  isplitl [HSW]; · iexact HSW
  iintro HFW
  ihave HB := hbuf $$ HB
  ihave HW := hwp $$ HW
  ihave HG := hgs $$ HG
  ihave HP := hplane 0 _ $$ HP0
  iapply (WP_bind (wp_gsStart (f := fc p.toNat) (gsCol_nat hp (by decide)))) $$ [HP HG HFG]
  · isplitl [HP]; · iexact HP
    isplitl [HG]; · iexact HG
    iexact HFG
  iintro %_ ⟨HG, HFG⟩
  ihave HP := hplane 1 _ $$ HP1
  iapply (WP_bind (wp_gsStart (f := fc p.toNat) (gsCol_nat hp (by decide)))) $$ [HP HG HFG]
  · isplitl [HP]; · iexact HP
    isplitl [HG]; · iexact HG
    iexact HFG
  iintro %_ ⟨HG, HFG⟩
  ihave HP := hplane 2 _ $$ HP2
  iapply (WP_bind (wp_gsStart (f := fc p.toNat) (gsCol_nat hp (by decide)))) $$ [HP HG HFG]
  · isplitl [HP]; · iexact HP
    isplitl [HG]; · iexact HG
    iexact HFG
  iintro %_ ⟨HG, HFG⟩
  ihave HP := hplane 3 _ $$ HP3
  iapply (WP_bind (wp_gsStart (f := fc p.toNat) (gsCol_nat hp (by decide)))) $$ [HP HG HFG]
  · isplitl [HP]; · iexact HP
    isplitl [HG]; · iexact HG
    iexact HFG
  iintro %_ ⟨HG, HFG⟩
  iapply (WP_bind (wp_wpStart (f := fc p.toNat) (wpCol_nat hp (by decide)))) $$ [HW HB HFW]
  · isplitl [HW]; · iexact HW
    isplitl [HB]; · iexact HB
    iexact HFW
  iintro %_ ⟨HW, HB, HFW⟩
  iapply (WP_bind (wp_wpStart (f := fc p.toNat) (wpCol_nat hp (by decide)))) $$ [HW HB HFW]
  · isplitl [HW]; · iexact HW
    isplitl [HB]; · iexact HB
    iexact HFW
  iintro %_ ⟨HW, HB, HFW⟩
  iapply (WP_bind (wp_wpStart (f := fc p.toNat) (wpCol_nat hp (by decide)))) $$ [HW HB HFW]
  · isplitl [HW]; · iexact HW
    isplitl [HB]; · iexact HB
    iexact HFW
  iintro %_ ⟨HW, HB, HFW⟩
  iapply (WP_bind (wp_wpStart (f := fc p.toNat) (wpCol_nat hp (by decide)))) $$ [HW HB HFW]
  · isplitl [HW]; · iexact HW
    isplitl [HB]; · iexact HB
    iexact HFW
  iintro %_ ⟨HW, HB, HFW⟩
  iapply (WP_mono (wp_wpStart (f := fc p.toNat) (wpCol_nat hp (by decide)))) $$ [HW HB HFW]
  · isplitl [HW]; · iexact HW
    isplitl [HB]; · iexact HB
    iexact HFW
  iintro %_ ⟨HW, HB, HFW⟩
  unfold WpFlight
  isplitl [HG HFG]
  · isplitl [HG]; · iexact HG
    iexact HFG
  isplitl [HW]; · iexact HW
  isplitl [HB]; · iexact HB
  iexact HFW

theorem gs_back {f i : Nat} (hi : i < 4) :
    (iprop(Dgs c D f ⟨i, hi⟩ ∗ kn c gsHbm fullShare (gsLeft f (i + 1)) tt D.gs) : sProp 𝕄) ⊢ iprop(kn c (plane gsBuf i hi sqG) fullShare tt tt (D.gsp f i) ∗ kn c gsHbm fullShare (gsLeft f i) tt D.gs) := by
  have hj : (iprop(kn c gsHbm fullShare (InRect 0 (128 * (f + i)) 27 128) tt D.gs ∗ kn c gsHbm fullShare (gsLeft f (i + 1)) tt D.gs) : sProp 𝕄) ⊢ kn c gsHbm fullShare (gsLeft f i) tt D.gs :=
    kn_join parts_gs
  unfold Dgs
  iintro ⟨⟨HP, HD⟩, HG⟩
  isplitl [HP]; · iexact HP
  iapply hj
  isplitl [HD]; · iexact HD
  iexact HG

theorem wp_back {f i : Nat} (hi : i < 5) :
    (iprop(Dwp c D f ⟨i, hi⟩ ∗ kn c wpHbm fullShare (wpLeft f (i + 1)) tt D.wp ∗ kn c wpBuf fullShare (bufLeft (i + 1)) tt (D.wpp f)) : sProp 𝕄)
      ⊢ iprop(kn c wpHbm fullShare (wpLeft f i) tt D.wp ∗ kn c wpBuf fullShare (bufLeft i) tt (D.wpp f)) := by
  have hj : (iprop(kn c wpHbm fullShare (InRect 0 (128 * In.wch f i) 3456 128) tt D.wp ∗ kn c wpHbm fullShare (wpLeft f (i + 1)) tt D.wp) : sProp 𝕄) ⊢ kn c wpHbm fullShare (wpLeft f i) tt D.wp :=
    kn_join (parts_wp hi)
  have hb : (iprop(kn c wpBuf fullShare (InRect 0 (128 * i) 3456 128) tt (D.wpp f) ∗ kn c wpBuf fullShare (bufLeft (i + 1)) tt (D.wpp f)) : sProp 𝕄) ⊢ kn c wpBuf fullShare (bufLeft i) tt (D.wpp f) :=
    kn_join parts_buf
  unfold Dwp
  iintro ⟨⟨HB, HD⟩, HW, HB'⟩
  isplitl [HD HW]
  · iapply hj
    isplitl [HD]; · iexact HD
    iexact HW
  iapply hb
  isplitl [HB]; · iexact HB
  iexact HB'

theorem list_Dgs {f : Nat} : (bigSep Finset.univ (Dgs c D f) : sProp 𝕄) = iprop(Dgs c D f ⟨0, by decide⟩ ∗ Dgs c D f ⟨1, by decide⟩ ∗ Dgs c D f ⟨2, by decide⟩ ∗ Dgs c D f ⟨3, by decide⟩) := by
  rw [BI.bigSep_eq_bigSepL_of_eq [0, 1, 2, 3] (by decide) (by decide)]
  simp only [bigSepL_cons_cons, bigSepL_singleton]; rfl

theorem list_Dwp {f : Nat} : (bigSep Finset.univ (Dwp c D f) : sProp 𝕄)
    = iprop(Dwp c D f ⟨0, by decide⟩ ∗ Dwp c D f ⟨1, by decide⟩ ∗ Dwp c D f ⟨2, by decide⟩ ∗ Dwp c D f ⟨3, by decide⟩ ∗ Dwp c D f ⟨4, by decide⟩) := by
  rw [BI.bigSep_eq_bigSepL_of_eq [0, 1, 2, 3, 4] (by decide) (by decide)]
  simp only [bigSepL_cons_cons, bigSepL_singleton]; rfl

theorem wp_waitWp {p : BitVec 32} {hp : p.toNat ≤ 17} {f : Nat} :
    (iprop(WpFlight c D f ∗ Ow F c) : sProp 𝕄) ⊢ WP c (waitWp (F := F) p hp) (fun _ => iprop(WpHeld c D tt f ∗ Ow F c)) := by
  have hg : ∀ {i col : Nat} {hi : i < 4} {h} (u : Nat), u + credG < credG * 4 → (iprop(Flock c semG credG (Dgs c D f) 4 u ∗ Ow F c) : sProp 𝕄)
      ⊢ WP c (gsWait (F := F) col i h hi) (fun _ => iprop(Flock c semG credG (Dgs c D f) 4 (u + credG) ∗ Ow F c)) := by
    intro i col hi h u hu
    exact wp_waitFlock (src' := gsSrc col h) (dst' := gsDst i hi) rfl hu
  have hg' : ∀ {i col : Nat} {hi : i < 4} {h} (u : Nat), u + credG = credG * 4 → (iprop(Flock c semG credG (Dgs c D f) 4 u ∗ Ow F c) : sProp 𝕄)
      ⊢ WP c (gsWait (F := F) col i h hi) (fun _ => iprop(bigSep Finset.univ (Dgs c D f) ∗ Sem0 F c semG ∗ Ow F c)) := by
    intro i col hi h u hu
    exact wp_waitFlockLast (src' := gsSrc col h) (dst' := gsDst i hi) rfl credG_pos hu
  have hw : ∀ {i col : Nat} {hi : i < 5} {h} (u : Nat), u + credW < credW * 5 → (iprop(Flock c semW credW (Dwp c D f) 5 u ∗ Ow F c) : sProp 𝕄)
      ⊢ WP c (wpWait (F := F) col i h hi) (fun _ => iprop(Flock c semW credW (Dwp c D f) 5 (u + credW) ∗ Ow F c)) := by
    intro i col hi h u hu
    exact wp_waitFlock (src' := wpSrc col h) (dst' := wpDst i hi) rfl hu
  have hw' : ∀ {i col : Nat} {hi : i < 5} {h} (u : Nat), u + credW = credW * 5 → (iprop(Flock c semW credW (Dwp c D f) 5 u ∗ Ow F c) : sProp 𝕄)
      ⊢ WP c (wpWait (F := F) col i h hi) (fun _ => iprop(bigSep Finset.univ (Dwp c D f) ∗ Sem0 F c semW ∗ Ow F c)) := by
    intro i col hi h u hu
    exact wp_waitFlockLast (src' := wpSrc col h) (dst' := wpDst i hi) rfl credW_pos hu
  have hlg : (bigSep Finset.univ (Dgs c D f) : sProp 𝕄) ⊢ iprop(Dgs c D f ⟨0, by decide⟩ ∗ Dgs c D f ⟨1, by decide⟩ ∗ Dgs c D f ⟨2, by decide⟩ ∗ Dgs c D f ⟨3, by decide⟩) := by
    rw [list_Dgs]
  have hlw : (bigSep Finset.univ (Dwp c D f) : sProp 𝕄)
      ⊢ iprop(Dwp c D f ⟨0, by decide⟩ ∗ Dwp c D f ⟨1, by decide⟩ ∗ Dwp c D f ⟨2, by decide⟩ ∗ Dwp c D f ⟨3, by decide⟩ ∗ Dwp c D f ⟨4, by decide⟩) := by
    rw [list_Dwp]
  have pg := credG_pos
  have pw := credW_pos
  have hbuf : (kn c wpBuf fullShare (bufLeft 5) ff (D.wpp f) : sProp 𝕄) ⊢ kn c wpBuf fullShare (bufLeft 5) tt (D.wpp f) :=
    kn_weaken fun _ j _ hj h _ => absurd h (by unfold bufLeft; omega)
  have hbuf' : (kn c wpBuf fullShare (bufLeft 0) tt (D.wpp f) : sProp 𝕄) ⊢ kn c wpBuf fullShare tt tt (D.wpp f) :=
    kn_region fun _ _ _ _ => by simp [bufLeft]
  have hwp : (kn c wpHbm fullShare (wpLeft f 0) tt D.wp : sProp 𝕄) ⊢ kn c wpHbm fullShare tt tt D.wp :=
    kn_region fun _ _ _ _ => by simp [wpLeft]
  have hgs : (kn c gsHbm fullShare (gsLeft f 0) tt D.gs : sProp 𝕄) ⊢ kn c gsHbm fullShare tt tt D.gs :=
    kn_region fun _ _ _ _ => by simp only [tt, gsLeft, iff_true]; omega
  unfold WpFlight waitWp
  iintro ⟨⟨⟨HG, HFG⟩, HW, HB, HFW⟩, HO⟩
  iapply (WP_bind (hg 0 (by omega))) $$ [HFG HO]
  · isplitl [HFG]; · iexact HFG
    iexact HO
  iintro %_ ⟨HFG, HO⟩
  iapply (WP_bind (hg (0 + credG) (by omega))) $$ [HFG HO]
  · isplitl [HFG]; · iexact HFG
    iexact HO
  iintro %_ ⟨HFG, HO⟩
  iapply (WP_bind (hg ((0 + credG) + credG) (by omega))) $$ [HFG HO]
  · isplitl [HFG]; · iexact HFG
    iexact HO
  iintro %_ ⟨HFG, HO⟩
  iapply (WP_bind (hg' (((0 + credG) + credG) + credG) (by omega))) $$ [HFG HO]
  · isplitl [HFG]; · iexact HFG
    iexact HO
  iintro %_ ⟨HFG, HSG, HO⟩
  iapply (WP_bind (hw 0 (by omega))) $$ [HFW HO]
  · isplitl [HFW]; · iexact HFW
    iexact HO
  iintro %_ ⟨HFW, HO⟩
  iapply (WP_bind (hw (0 + credW) (by omega))) $$ [HFW HO]
  · isplitl [HFW]; · iexact HFW
    iexact HO
  iintro %_ ⟨HFW, HO⟩
  iapply (WP_bind (hw ((0 + credW) + credW) (by omega))) $$ [HFW HO]
  · isplitl [HFW]; · iexact HFW
    iexact HO
  iintro %_ ⟨HFW, HO⟩
  iapply (WP_bind (hw (((0 + credW) + credW) + credW) (by omega))) $$ [HFW HO]
  · isplitl [HFW]; · iexact HFW
    iexact HO
  iintro %_ ⟨HFW, HO⟩
  iapply (WP_mono (hw' ((((0 + credW) + credW) + credW) + credW) (by omega))) $$ [HFW HO]
  · isplitl [HFW]; · iexact HFW
    iexact HO
  iintro %_ ⟨HFW, HSW, HO⟩
  ihave HFG := hlg $$ HFG
  ihave HFW := hlw $$ HFW
  icases HFG with ⟨HG0, HG1, HG2, HG3⟩
  icases HFW with ⟨HW0, HW1, HW2, HW3, HW4⟩
  ihave HB := hbuf $$ HB
  ihave HG := (gs_back (c := c) (D := D) (f := f) (i := 3) (by decide)) $$ [HG3 HG]
  · isplitl [HG3]; · iexact HG3
    iexact HG
  icases HG with ⟨HP3, HG⟩
  ihave HG := (gs_back (c := c) (D := D) (f := f) (i := 2) (by decide)) $$ [HG2 HG]
  · isplitl [HG2]; · iexact HG2
    iexact HG
  icases HG with ⟨HP2, HG⟩
  ihave HG := (gs_back (c := c) (D := D) (f := f) (i := 1) (by decide)) $$ [HG1 HG]
  · isplitl [HG1]; · iexact HG1
    iexact HG
  icases HG with ⟨HP1, HG⟩
  ihave HG := (gs_back (c := c) (D := D) (f := f) (i := 0) (by decide)) $$ [HG0 HG]
  · isplitl [HG0]; · iexact HG0
    iexact HG
  icases HG with ⟨HP0, HG⟩
  ihave HW := (wp_back (c := c) (D := D) (f := f) (i := 4) (by decide)) $$ [HW4 HW HB]
  · isplitl [HW4]; · iexact HW4
    isplitl [HW]; · iexact HW
    iexact HB
  icases HW with ⟨HW, HB⟩
  ihave HW := (wp_back (c := c) (D := D) (f := f) (i := 3) (by decide)) $$ [HW3 HW HB]
  · isplitl [HW3]; · iexact HW3
    isplitl [HW]; · iexact HW
    iexact HB
  icases HW with ⟨HW, HB⟩
  ihave HW := (wp_back (c := c) (D := D) (f := f) (i := 2) (by decide)) $$ [HW2 HW HB]
  · isplitl [HW2]; · iexact HW2
    isplitl [HW]; · iexact HW
    iexact HB
  icases HW with ⟨HW, HB⟩
  ihave HW := (wp_back (c := c) (D := D) (f := f) (i := 1) (by decide)) $$ [HW1 HW HB]
  · isplitl [HW1]; · iexact HW1
    isplitl [HW]; · iexact HW
    iexact HB
  icases HW with ⟨HW, HB⟩
  ihave HW := (wp_back (c := c) (D := D) (f := f) (i := 0) (by decide)) $$ [HW0 HW HB]
  · isplitl [HW0]; · iexact HW0
    isplitl [HW]; · iexact HW
    iexact HB
  icases HW with ⟨HW, HB⟩
  ihave HB := hbuf' $$ HB
  ihave HW := hwp $$ HW
  ihave HG := hgs $$ HG
  unfold WpHeld Planes
  isplitr [HO]
  · isplitl [HB HP0 HP1 HP2 HP3]
    · isplitl [HB]; · iexact HB
      isplitl [HP0]; · iexact HP0
      isplitl [HP1]; · iexact HP1
      isplitl [HP2]; · iexact HP2
      iexact HP3
    isplitl [HW HG]
    · isplitl [HW]; · iexact HW
      iexact HG
    isplitl [HSW]; · iexact HSW
    iexact HSG
  iexact HO

end

end Cert.KernelIdeal.Model
-- ==== Proof.Widen.lean ====
/- The packed weights of a panel widened, group by group. -/
module

public import proofs.«01_k».proof.Proof.Weights

@[expose] public section

set_option maxRecDepth 16384

noncomputable section

namespace Cert.KernelIdeal.Model

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- Rows known once `g` groups are widened: theirs, and the zeros at the end; -/
abbrev wKn (g : Nat) : Nat → Nat → Prop := fun r _ => r < 128 * g ∨ 3456 ≤ r
/-- and with `i` chunks of the next group. -/
abbrev wKn' (g i : Nat) : Nat → Nat → Prop := fun r j => r < 128 * g ∨ 3456 ≤ r ∨ (r < 128 * g + 128 ∧ j < 128 * i)

section

variable {c : Dev nD} {D : In F}

theorem wgt_tile {f g i : Nat} (hg : g < 27) : tile2 (D.wgt f) (128 * g) (128 * i) 128 128
    = weights (BitVec.ofNat 32 (128 * f)) i (tile2 (D.wpp f) (128 * g) (128 * i) 128 128) (tile2 (D.wpp f) (128 * g) (128 * (i + 1)) 128 128) (tile3 (D.gsp f i) g 0 1 128) := by
  unfold In.wgt
  rw [tile2_at2, if_pos hg]

theorem wgt_zero {f r j : Nat} (hr : 3456 ≤ r) : D.wgt f r j = Scalar.ofBits .bf16 0x0000#16 := by
  unfold In.wgt at2
  beta_reduce
  rw [if_neg (by omega)]

/-- The plane of group scales a chunk reads. -/
theorem wp_widenChunk {W : Memref sig .tc .vmem S3584x512 .bf16} {hW : W.IsWhole} {row g i f : Nat} {h hd hg} {hi : i < 4} {col0 : BitVec 32} (hrow : row = 128 * g) (hc : col0 = BitVec.ofNat 32 (128 * f)) :
    (iprop(kn c W fullShare tt (wKn' g i) (D.wgt f) ∗ kn c (plane gsBuf i hi sqG) fullShare tt tt (D.gsp f i)) : sProp 𝕄)
      ⊢ WP c (widenChunk (F := F) W hW row g h hd hg col0 i hi (tile2 (D.wpp f) (128 * g) (128 * i) 128 128) (tile2 (D.wpp f) (128 * g) (128 * (i + 1)) 128 128))
        (fun _ => iprop(kn c W fullShare tt (wKn' g (i + 1)) (D.wgt f) ∗ kn c (plane gsBuf i hi sqG) fullShare tt tt (D.gsp f i))) := by
  subst hrow hc
  unfold widenChunk
  iintro ⟨HW, HG⟩
  iapply (WP_bind (wp_ld3 fun _ _ _ => trivial)) $$ HG
  iintro %v ⟨HG, %hv⟩
  have hv := hv fun _ _ _ => trivial
  have hput : Put 3584 512 (128 * g) (128 * i) 128 128 (shapeCast S128x128 (weights (BitVec.ofNat 32 (128 * f)) i (tile2 (D.wpp f) (128 * g) (128 * i) 128 128) (tile2 (D.wpp f) (128 * g) (128 * (i + 1)) 128 128) v) Shapes1.Facts₀.shapeCasts_S128x128_S128x128)
      tt (wKn' g i) (wKn' g (i + 1)) (D.wgt f) := by
    refine ⟨.inl ?_, fun a b _ _ _ hK hn => ?_⟩
    · rw [shapeCast_same, wgt_tile hg, hv]
    · revert hK hn; unfold InRect wKn'; omega
  iapply (WP_mono (wp_st2 (fun _ _ _ => trivial) hput)) $$ HW
  iintro %_ HW
  isplitl [HW]; · iexact HW
  iexact HG

theorem wp_ldWp {K : Nat → Nat → Prop} {row g i f : Nat} {h hi} (hrow : row = 128 * g) :
    (kn c wpBuf fullShare tt tt (D.wpp f) : sProp 𝕄) ⊢ WP c (ldWp (F := F) row h i hi)
      (fun v => iprop(kn c wpBuf fullShare tt tt (D.wpp f) ∗ ⌜v = tile2 (D.wpp f) (128 * g) (128 * i) 128 128⌝)) := by
  subst hrow
  unfold ldWp
  iintro H
  iapply (WP_mono (wp_ld2 fun _ _ _ => trivial)) $$ H
  iintro %v ⟨H, %hv⟩
  isplitl [H]; · iexact H
  ipureintro; exact hv fun _ _ _ => trivial

/-- The buffers of packed weights and group scales, as they came. -/
abbrev Packed (c : Dev nD) (D : In F) (f : Nat) : sProp 𝕄 := iprop(kn c wpBuf fullShare tt tt (D.wpp f) ∗ Planes c D tt f)

theorem wp_widen {W : Memref sig .tc .vmem S3584x512 .bf16} {hW : W.IsWhole} {row g f : Nat} {h hd hg} {col0 : BitVec 32} (hrow : row = 128 * g) (hc : col0 = BitVec.ofNat 32 (128 * f)) :
    (iprop(kn c W fullShare tt (wKn g) (D.wgt f) ∗ Packed c D f) : sProp 𝕄)
      ⊢ WP c (widen (F := F) W hW row g h hd hg col0) (fun _ => iprop(kn c W fullShare tt (wKn (g + 1)) (D.wgt f) ∗ Packed c D f)) := by
  have h0 : (kn c W fullShare tt (wKn g) (D.wgt f) : sProp 𝕄) ⊢ kn c W fullShare tt (wKn' g 0) (D.wgt f) :=
    kn_weaken fun a b _ _ _ hK => ⟨by revert hK; unfold wKn wKn'; omega, rfl⟩
  have h4 : (kn c W fullShare tt (wKn' g 4) (D.wgt f) : sProp 𝕄) ⊢ kn c W fullShare tt (wKn (g + 1)) (D.wgt f) :=
    kn_weaken fun a b _ hb _ hK => ⟨by revert hK; unfold wKn wKn'; omega, rfl⟩
  unfold widen Packed Planes
  iintro ⟨HW, HB, HP0, HP1, HP2, HP3⟩
  ihave HW := h0 $$ HW
  iapply (WP_bind (wp_ldWp (K := tt) hrow)) $$ HB
  iintro %c0 ⟨HB, %h0'⟩
  iapply (WP_bind (wp_ldWp (K := tt) hrow)) $$ HB
  iintro %c1 ⟨HB, %h1'⟩
  iapply (WP_bind (wp_ldWp (K := tt) hrow)) $$ HB
  iintro %c2 ⟨HB, %h2'⟩
  iapply (WP_bind (wp_ldWp (K := tt) hrow)) $$ HB
  iintro %c3 ⟨HB, %h3'⟩
  iapply (WP_bind (wp_ldWp (K := tt) hrow)) $$ HB
  iintro %c4 ⟨HB, %h4'⟩
  subst h0' h1' h2' h3' h4'
  iapply (WP_bind (wp_widenChunk (c := c) (D := D) (i := 0) hrow hc)) $$ [HW HP0]
  · isplitl [HW]; · iexact HW
    iexact HP0
  iintro %_ ⟨HW, HP0⟩
  iapply (WP_bind (wp_widenChunk (c := c) (D := D) (i := 1) hrow hc)) $$ [HW HP1]
  · isplitl [HW]; · iexact HW
    iexact HP1
  iintro %_ ⟨HW, HP1⟩
  iapply (WP_bind (wp_widenChunk (c := c) (D := D) (i := 2) hrow hc)) $$ [HW HP2]
  · isplitl [HW]; · iexact HW
    iexact HP2
  iintro %_ ⟨HW, HP2⟩
  iapply (WP_mono (wp_widenChunk (c := c) (D := D) (i := 3) hrow hc)) $$ [HW HP3]
  · isplitl [HW]; · iexact HW
    iexact HP3
  iintro %_ ⟨HW, HP3⟩
  ihave HW := h4 $$ HW
  isplitl [HW]; · iexact HW
  isplitl [HB]; · iexact HB
  isplitl [HP0]; · iexact HP0
  isplitl [HP1]; · iexact HP1
  isplitl [HP2]; · iexact HP2
  iexact HP3

theorem wp_widenW {W : Memref sig .tc .vmem S3584x512 .bf16} {hW : W.IsWhole} {w p : BitVec 32} {hg : w.toNat ≤ 26} {g f : Nat} (hw : w.toNat = g) (hp : p.toNat ≤ 17) (hf : fc p.toNat = f) :
    (iprop(kn c W fullShare tt (wKn g) (D.wgt f) ∗ Packed c D f) : sProp 𝕄)
      ⊢ WP c (widenW (F := F) W hW w p hg) (fun _ => iprop(kn c W fullShare tt (wKn (g + 1)) (D.wgt f) ∗ Packed c D f)) := by
  subst hw hf
  unfold widenW
  exact wp_widen (gRow_nat hg) (word_eq (colOf_nat hp))

theorem wp_widen3 {W : Memref sig .tc .vmem S3584x512 .bf16} {hW : W.IsWhole} {p t : BitVec 32} {ht : t.toNat ≤ 8} {n f : Nat} (hn : t.toNat = n) (hp : p.toNat ≤ 16)
    (hf : fc (Scalar.addi p 1#32).toNat = f) :
    (iprop(kn c W fullShare tt (wKn (3 * n)) (D.wgt f) ∗ Packed c D f) : sProp 𝕄)
      ⊢ WP c (widen3 (F := F) W hW p t ht) (fun _ => iprop(kn c W fullShare tt (wKn (3 * (n + 1))) (D.wgt f) ∗ Packed c D f)) := by
  subst hn
  unfold widen3
  iintro H
  iapply (WP_bind (wp_widenW (g := 3 * t.toNat) (group_nat ht (by decide)) (next_le hp).1 hf)) $$ H
  iintro %_ H
  iapply (WP_bind (wp_widenW (g := 3 * t.toNat + 1) (group_nat ht (by decide)) (next_le hp).1 hf)) $$ H
  iintro %_ H
  iapply (WP_mono (wp_widenW (g := 3 * t.toNat + 2) (group_nat ht (by decide)) (next_le hp).1 hf)) $$ H
  iintro %_ H
  iexact H

/-- The last rows zeroed. -/
theorem wp_zeroTail {W : Memref sig .tc .vmem S3584x512 .bf16} {hW : W.IsWhole} {f : Nat} {G : Nat → Nat → Elt F .bf16} :
    (kn c W fullShare tt ff G : sProp 𝕄) ⊢ WP c (zeroTail (F := F) W hW) (fun _ => kn c W fullShare tt (wKn 0) (D.wgt f)) := by
  have h0 : (kn c W fullShare tt ff G : sProp 𝕄) ⊢ kn c W fullShare tt ff (D.wgt f) := kn_weaken fun _ _ _ _ _ h => h.elim
  have hput : Put 3584 512 3456 0 128 512 (shapeCast S128x512 (broadcast S128x512 (Scalar.ofBits (F := F) .bf16 0x0000#16)) Shapes1.Facts₀.shapeCasts_S128x512_S128x512)
      tt ff (wKn 0) (D.wgt f) := by
    refine ⟨.inl ?_, fun a b ha hb _ hK hn => ?_⟩
    · rw [shapeCast_same]
      funext x
      exact (wgt_zero (by omega)).symm
    · revert hK hn; unfold InRect wKn; omega
  iintro H
  ihave H := h0 $$ H
  unfold zeroTail
  iapply (WP_mono (wp_st2 (fun _ _ _ => trivial) hput)) $$ H
  iintro %_ H
  iexact H

/-- The zeros are every panel's. -/
theorem kn_zeros {W : Memref sig .tc .vmem S3584x512 .bf16} {K : Nat → Nat → Prop} {f f' : Nat} (hK : ∀ r j, 3456 ≤ r → K r j) :
    (kn c W fullShare tt K (D.wgt f) : sProp 𝕄) ⊢ kn c W fullShare tt (wKn 0) (D.wgt f') :=
  kn_weaken fun a b _ _ _ h => by
    have h' : 3456 ≤ a := by revert h; unfold wKn; omega
    exact ⟨hK a b h', by rw [wgt_zero h', wgt_zero h']⟩

theorem kn_full {W : Memref sig .tc .vmem S3584x512 .bf16} {f : Nat} : (kn c W fullShare tt (wKn 27) (D.wgt f) : sProp 𝕄) ⊢ kn c W fullShare tt tt (D.wgt f) :=
  kn_weaken fun a b _ _ _ _ => ⟨by unfold wKn; omega, rfl⟩

theorem iv27_nat (k : Fin k0_t2_loop.trips) : (ivFrom 0#32 k).toNat = k.val :=
  (by decide +kernel : ∀ k : Fin k0_t2_loop.trips, (ivFrom 0#32 k).toNat = k.val) k

/-- The first panel's weights, and the second's copies started. -/
theorem wp_widenAll : (iprop(kn c w0 fullShare tt (wKn 0) (D.wgt (fc 0)) ∗ WpFlight c D (fc 0) ∗ Ow F c) : sProp 𝕄)
    ⊢ WP c (widenAll (F := F)) (fun _ => iprop(kn c w0 fullShare tt tt (D.wgt (fc 0)) ∗ WpFlight c D (fc 1) ∗ Ow F c)) := by
  have hstep : ∀ k : Fin k0_t2_loop.trips, (iprop(kn c w0 fullShare tt (wKn k.val) (D.wgt (fc 0)) ∗ Packed c D (fc 0)) : sProp 𝕄)
      ⊢ WP c (do widenW (F := F) w0 (Memref.isWhole_whole _) (ivFrom 0#32 k) 0#32 (iv27 k); pure PUnit.unit : PM F PUnit) (fun _ => iprop(kn c w0 fullShare tt (wKn (k.val + 1)) (D.wgt (fc 0)) ∗ Packed c D (fc 0))) := by
    intro k
    iintro H
    iapply (WP_bind (wp_widenW (g := k.val) (f := fc 0) (iv27_nat k) (by decide) rfl)) $$ H
    iintro %_ H
    iapply WP_pure
    iexact H
  have hloop : (iprop(kn c w0 fullShare tt (wKn 0) (D.wgt (fc 0)) ∗ Packed c D (fc 0)) : sProp 𝕄) ⊢ WP c (Scf.Loop.for k0_t2_loop k0_t2_ok PUnit.unit fun k _ => do
        widenW (F := F) w0 (Memref.isWhole_whole _) (ivFrom 0#32 k) 0#32 (iv27 k)
        pure PUnit.unit) (fun _ => iprop(kn c w0 fullShare tt (wKn 27) (D.wgt (fc 0)) ∗ Packed c D (fc 0))) := by
    iintro H
    iapply (Scf.wp_for _ _ _ _ _ _ _ _ _ (fun n (_ : PUnit) => iprop(kn c w0 fullShare tt (wKn n) (D.wgt (fc 0)) ∗ Packed c D (fc 0))) (fun k _ => hstep k))
    isplitl [H]; · iexact H
    iintro %_ H
    iexact H
  unfold widenAll
  iintro ⟨HW, HF, HO⟩
  iapply (WP_bind wp_waitWp) $$ [HF HO]
  · isplitl [HF]; · iexact HF
    iexact HO
  unfold WpHeld
  iintro %_ ⟨⟨HB, HH, HS⟩, HO⟩
  iapply (WP_bind hloop) $$ [HW HB]
  · isplitl [HW]; · iexact HW
    iexact HB
  iintro %_ ⟨HW, HB⟩
  ihave HW := kn_full $$ HW
  iapply (WP_mono (wp_startWp (K := tt) (f := fc 0) (f' := fc 1) rfl)) $$ [HB HH HS]
  · unfold WpHeld
    isplitl [HB]; · iexact HB
    isplitl [HH]; · iexact HH
    iexact HS
  iintro %_ HF
  isplitl [HW]; · iexact HW
  isplitl [HF]; · iexact HF
  iexact HO

end

end Cert.KernelIdeal.Model
-- ==== Proof.Trip.lean ====
/- The matrix unit's part of a trip: a half's sums are finished, the next half's begun, and the half's tiles are stored. -/
module

public import proofs.«01_k».proof.Proof.Values

@[expose] public section

set_option maxRecDepth 16384

noncomputable section

namespace Cert.KernelIdeal.Model

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- `R` lets `M` be read as `G`. -/
def Reads (c : Dev nD) (R : sProp 𝕄) {A B : Nat} {e : EltTy} (M : Memref sig .tc .vmem ⟨2, ![A, B]⟩ e) (G : Nat → Nat → Elt F e) : Prop :=
  ∀ (r c' m n : Nat) (h : r + m ≤ A ∧ c' + n ≤ B) (hp : 0 < (⟨2, ![m, n]⟩ : Shape).numel), R ⊢ WP c (ld2 (F := F) M r c' m n h hp) (fun v => iprop(R ∗ ⌜v = tile2 G r c' m n⌝))

section Reads
variable {c : Dev nD} {A B : Nat} {e : EltTy} {M : Memref sig .tc .vmem ⟨2, ![A, B]⟩ e} {G : Nat → Nat → Elt F e}

theorem reads_kn {q : PosShare TreeShare} : Reads c (kn c M q tt tt G) M G := by
  intro r c' m n h hp
  iintro H
  iapply (WP_mono (wp_ld2 fun _ _ _ => trivial)) $$ H
  iintro %v ⟨H, %hv⟩
  isplitl [H]; · iexact H
  ipureintro; exact hv fun _ _ _ => trivial

theorem reads_left {R R' : sProp 𝕄} (h : Reads c R M G) : Reads c iprop(R ∗ R') M G := by
  intro r c' m n hb hp
  iintro ⟨H, H'⟩
  iapply (WP_mono (h r c' m n hb hp)) $$ H
  iintro %v ⟨H, %hv⟩
  isplitl [H H']
  · isplitl [H]; · iexact H
    iexact H'
  ipureintro; exact hv

theorem reads_right {R R' : sProp 𝕄} (h : Reads c R M G) : Reads c iprop(R' ∗ R) M G := by
  intro r c' m n hb hp
  iintro ⟨H', H⟩
  iapply (WP_mono (h r c' m n hb hp)) $$ H
  iintro %v ⟨H, %hv⟩
  isplitl [H H']
  · isplitl [H']; · iexact H'
    iexact H
  ipureintro; exact hv

end Reads

/-- Within a half: tile `kt` staged, the sums up to the tile before it at `b`. -/
def Mid (D : In F) (μ : Mxu F) (b b' : Fin 2) (f row kt : Nat) : Prop :=
  ∃ ρ α, St μ ρ α ∧ (∀ q, ρ q (kreg kt) = some (D.rhs f kt q)) ∧ (∀ q, ρ q (kreg (kt + 1)) = none)
    ∧ (∀ q, α q b = some (D.psum row f (kt - 1) q)) ∧ ∀ q, α q b' = none

theorem kreg_succ (k : Nat) : kreg (k + 1) ≠ kreg k := by
  intro h
  have := congrArg Fin.val h
  simp only [kreg] at this
  omega

theorem kreg_two (k : Nat) : kreg (k + 2) = kreg k := Fin.ext (by simp only [kreg]; omega)

theorem clr2_apply (ρ : Fin 2 → Fin 2 → Option (FVec F S256x256 .bf16)) (r q r' : Fin 2) : clr2 ρ r q r' = if r' = r then none else ρ q r' := rfl
theorem push2_apply (ρ : Fin 2 → Fin 2 → Option (FVec F S256x256 .bf16)) (r : Fin 2) (v : Fin 2 → FVec F S256x256 .bf16) (q r' : Fin 2) :
    push2 ρ r v q r' = if r' = r then some (v q) else ρ q r' := rfl
theorem add2_apply (α : Fin 2 → Fin 2 → Option (FVec F S256x256 .f32)) (b : Fin 2) (x : Fin 2 → FVec F S256x256 .f32) (q b' : Fin 2) :
    add2 α b x q b' = if b' = b then some (accTo (α q b) (x q)) else α q b' := rfl

section Steps
variable {c : Dev nD} {D : In F}

theorem wp_push {R : sProp 𝕄} {W : Memref sig .tc .vmem S3584x512 .bf16} {f : Nat} (hW : Reads c R W (D.wgt f)) {kt : Nat} {h : kt < 14} {μ : Mxu F} {ρ : Fin 2 → Fin 2 → Option (FVec F S256x256 .bf16)} {α : Fin 2 → Fin 2 → Option (FVec F S256x256 .f32)}
    (hs : St μ ρ α) (hn : ∀ q, ρ q (kreg kt) = none) :
    R ⊢ WP c (push (F := F) W kt h μ) (fun μ' => iprop(R ∗ ⌜St μ' (push2 ρ (kreg kt) (D.rhs f kt)) α⌝)) := by
  obtain ⟨h0, h1, h2⟩ := St_push hs (kreg kt) (D.rhs f kt) hn
  unfold push
  iintro H
  iapply (WP_bind (hW _ _ _ _ _ _)) $$ H
  iintro %v ⟨H, %hv⟩
  subst hv
  iapply (Mxu.wp_pushRhs (𝒱 := Variants.none) (c := (c : Thread nD τ)) (bd := none) (E := Set.univ) _ h0)
  iapply (WP_bind (hW _ _ _ _ _ _)) $$ H
  iintro %v ⟨H, %hv⟩
  subst hv
  rw [← bind_pure (Mxu.pushRhs _ _ _ _ _)]
  iapply (Mxu.wp_pushRhs (𝒱 := Variants.none) (c := (c : Thread nD τ)) (bd := none) (E := Set.univ) _ h1)
  iapply WP_pure
  isplitl [H]; · iexact H
  ipureintro; exact h2

theorem wp_accumulate {R : sProp 𝕄} (hA : Reads c R aBuf D.act) {row kt : Nat} {h : row + 256 ≤ 6144} {hk : kt < 13} (b : Fin 2) {μ : Mxu F} {ρ : Fin 2 → Fin 2 → Option (FVec F S256x256 .bf16)} {α : Fin 2 → Fin 2 → Option (FVec F S256x256 .f32)} {v : Fin 2 → FVec F S256x256 .bf16}
    (hs : St μ ρ α) (hv : ∀ q, ρ q (kreg kt) = some (v q)) :
    R ⊢ WP c (accumulate (F := F) (64 * b.val) (fitsb b) row kt h hk μ)
      (fun μ' => iprop(R ∗ ⌜St μ' (clr2 ρ (kreg kt)) (add2 α b fun q => pass (D.lhs row kt) (v q))⌝)) := by
  unfold accumulate
  iintro H
  iapply (WP_bind (hA _ _ _ _ _ _)) $$ H
  iintro %w ⟨H, %hw⟩
  iapply WP_pure
  isplitl [H]; · iexact H
  ipureintro
  have he : D.lhs row kt = w := by rw [hw]; exact if_pos hk
  rw [he]
  exact St_acc hs (kreg kt) b w v hv

theorem wp_accumulateTail {R : sProp 𝕄} (hA : Reads c R aBuf D.act) {row : Nat} {h : row + 256 ≤ 6144} (b : Fin 2) {μ : Mxu F} {ρ : Fin 2 → Fin 2 → Option (FVec F S256x256 .bf16)} {α : Fin 2 → Fin 2 → Option (FVec F S256x256 .f32)} {v : Fin 2 → FVec F S256x256 .bf16}
    (hs : St μ ρ α) (hv : ∀ q, ρ q 1 = some (v q)) :
    R ⊢ WP c (accumulateTail (F := F) (64 * b.val) (fitsb b) row h μ)
      (fun μ' => iprop(R ∗ ⌜St μ' (clr2 ρ 1) (add2 α b fun q => pass (D.lhs row 13) (v q))⌝)) := by
  unfold accumulateTail
  iintro H
  iapply (WP_bind (hA _ _ _ _ _ _)) $$ H
  iintro %w ⟨H, %hw⟩
  iapply WP_pure
  isplitl [H]; · iexact H
  ipureintro
  subst hw
  exact St_acc hs 1 b (D.lhs row 13) v hv

theorem wp_steps {R : sProp 𝕄} {W : Memref sig .tc .vmem S3584x512 .bf16} {f : Nat} (hA : Reads c R aBuf D.act) (hW : Reads c R W (D.wgt f)) (b b' : Fin 2) (hb : b' ≠ b)
    {row : Nat} {h : row + 256 ≤ 6144} : ∀ (n kt : Nat) (hk : kt + n ≤ 13) (h1 : 1 ≤ kt) (μ : Mxu F), Mid D μ b b' f row kt →
    R ⊢ WP c (steps (F := F) W (64 * b.val) (fitsb b) row h n kt hk μ) (fun μ' => iprop(R ∗ ⌜Mid D μ' b b' f row (kt + n)⌝))
  | 0, kt, hk, h1, μ, hm => by
    unfold steps
    iintro H
    iapply WP_pure
    isplitl [H]; · iexact H
    ipureintro; exact hm
  | n + 1, kt, hk, h1, μ, ⟨ρ, α, hs, hr, hn, ha, ha'⟩ => by
    unfold steps
    iintro H
    iapply (WP_bind (wp_accumulate hA b hs hr)) $$ H
    iintro %μ₁ ⟨H, %hs₁⟩
    iapply (WP_bind (wp_push hW hs₁ (kt := kt + 1) (fun q => by rw [clr2_apply, if_neg (kreg_succ kt)]; exact hn q))) $$ H
    iintro %μ₂ ⟨H, %hs₂⟩
    have hm : Mid D μ₂ b b' f row (kt + 1) := by
      refine ⟨_, _, hs₂, fun q => ?_, fun q => ?_, fun q => ?_, fun q => ?_⟩
      · rw [push2_apply, if_pos rfl]
      · rw [push2_apply, if_neg (kreg_succ _), clr2_apply, if_pos (kreg_two kt)]
      · rw [add2_apply, if_pos rfl, ha]
        obtain ⟨k, rfl⟩ : ∃ k, kt = k + 1 := ⟨kt - 1, by omega⟩
        rfl
      · rw [add2_apply, if_neg hb]; exact ha' q
    iapply (WP_mono (wp_steps hA hW b b' hb n (kt + 1) _ (by omega) μ₂ hm)) $$ H
    iintro %μ₃ ⟨H, %hm₃⟩
    isplitl [H]; · iexact H
    ipureintro
    rw [show kt + (n + 1) = kt + 1 + n by omega]; exact hm₃

/-- A slot of the result's buffer, a tile put at its half `b` and side `q`. -/
abbrev withTile (K : Nat → Nat → Prop) (b q : Nat) : Nat → Nat → Prop := fun i j => K i j ∨ InRect (256 * b) (256 * q) 256 256 i j

theorem tile3_ypan {f t b : Nat} {q : Fin 2} :
    (shapeCast S1x256x256 (D.ytile (512 * t + 256 * b) f q) Shapes1.Facts₀.shapeCasts_S256x256_S1x256x256 : Vec F S1x256x256 .bf16)
      = tile3 (fun i j => D.ypan f (512 * t + i) j) (256 * b) (256 * q.val) 256 256 := by
  funext x
  have hx0 : (x 0).val = 0 := by have : (x 0).val < 1 := (x 0).isLt; omega
  have hz : Shape.reshapeEquiv Shapes1.Facts₀.shapeCasts_S256x256_S1x256x256 x = (ValueIdx.ix2 (x 1) (x 2) : S256x256.Idx) := by
    refine Shape.reshapeEquiv_eq_of_rowMajor _ ?_
    rw [Shape.rowMajor_val_two, Shape.rowMajor_val_three]
    show (x 1).val * 256 + (x 2).val = ((x 0).val * 256 + (x 1).val) * 256 + (x 2).val
    omega
  show D.ytile (512 * t + 256 * b) f q (Shape.reshapeEquiv Shapes1.Facts₀.shapeCasts_S256x256_S1x256x256 x) = D.ypan f (512 * t + (256 * b + (x 1).val)) (256 * q.val + (x 2).val)
  rw [hz, show 512 * t + (256 * b + (x 1).val) = 256 * (2 * t + b) + (x 1).val by omega]
  refine Eq.trans ?_ (at2_apply _ _ _ (2 * t + b) q.val (x 1) (x 2)).symm
  have hq : (if q.val = 0 then (0 : Fin 2) else 1) = q := by revert q; decide
  show D.ytile _ f q _ = D.ytile _ f (if q.val = 0 then 0 else 1) _
  rw [hq, show 512 * t + 256 * b = 256 * (2 * t + b) by omega]
  rfl

theorem wp_popOut {R : sProp 𝕄} {ws : Memref sig .tc .vmem S1x8576 .f32} (hws : Reads c R ws D.ws) {f t : Nat} (q : Fin 2) (b : Fin 2) {col s : Nat} {hc hs hb}
    (hcol : col = 128 * f + 256 * q.val) {sq : (⟨3, ![1, 512, 512]⟩ : Shape).Squeezes ⟨2, ![512, 512]⟩} {K : Nat → Nat → Prop} {μ : Mxu F} {ρ : Fin 2 → Fin 2 → Option (FVec F S256x256 .bf16)} {α : Fin 2 → Fin 2 → Option (FVec F S256x256 .f32)}
    (hst : St μ ρ α) (ha : α q b = some (D.psum (512 * t + 256 * b.val) f 13 q)) :
    iprop(R ∗ kn c (plane yBuf s hs sq) fullShare tt K (fun i j => D.ypan f (512 * t + i) j))
      ⊢ WP c (popOut (F := F) ws (64 * b.val) (fitsb b) q col s b.val hc hs hb μ)
        (fun μ' => iprop((R ∗ kn c (plane yBuf s hs sq) fullShare tt (withTile K b.val q.val) (fun i j => D.ypan f (512 * t + i) j)) ∗ ⌜St μ' ρ (pop1 α q b)⌝)) := by
  unfold popOut
  iintro ⟨H, HY⟩
  iapply (WP_bind (hws _ _ _ _ _ _)) $$ H
  iintro %w ⟨H, %hw⟩
  iapply (WP_bind (wp_st3 (K' := withTile K b.val q.val) (fun _ _ _ => trivial) (.inl (by
    rw [hst.read _ _ _ ha, hw, hcol]
    exact tile3_ypan)) (fun i j _ _ _ hK hn => hK.resolve_right hn))) $$ HY
  iintro %_ HY
  iapply WP_pure
  isplitl [H HY]
  · isplitl [H]; · iexact H
    iexact HY
  ipureintro
  exact St_pop hst q b

theorem wp_half {R : sProp 𝕄} {ws : Memref sig .tc .vmem S1x8576 .f32} {W W' : Memref sig .tc .vmem S3584x512 .bf16} {f f' t : Nat} (hA : Reads c R aBuf D.act)
    (hW : Reads c R W (D.wgt f)) (hW' : Reads c R W' (D.wgt f')) (hws : Reads c R ws D.ws) (b b' : Fin 2) (hb : b' ≠ b) {row row' c0 c1 s : Nat}
    {h h' hc0 hc1 hs hbl} (hrow : row = 512 * t + 256 * b.val) (h0 : c0 = 128 * f) (h1 : c1 = 128 * f + 256)
    {sq : (⟨3, ![1, 512, 512]⟩ : Shape).Squeezes ⟨2, ![512, 512]⟩} {K : Nat → Nat → Prop} {μ : Mxu F} (hm : Mid D μ b b' f row 2) :
    iprop(R ∗ kn c (plane yBuf s hs sq) fullShare tt K (fun i j => D.ypan f (512 * t + i) j))
      ⊢ WP c (half (F := F) ws W W' (64 * b.val) (64 * b'.val) (fitsb b) (fitsb b') row row' h h' c0 c1 s b.val hc0 hc1 hs hbl μ)
        (fun μ' => iprop((R ∗ kn c (plane yBuf s hs sq) fullShare tt (withTile (withTile K b.val 0) b.val 1) (fun i j => D.ypan f (512 * t + i) j))
          ∗ ⌜Mid D μ' b' b f' row' 2⌝)) := by
  unfold half
  iintro ⟨H, HY⟩
  iapply (WP_bind (wp_steps hA hW b b' hb 11 2 _ (by decide) μ hm)) $$ H
  iintro %μ₁ ⟨H, %hm₁⟩
  obtain ⟨ρ, α, hs₁, hr, hn, ha, ha'⟩ := hm₁
  have hn0 : ∀ q, ρ q 0 = none := hn
  iapply (WP_bind (wp_accumulateTail hA b hs₁ hr)) $$ H
  iintro %μ₂ ⟨H, %hs₂⟩
  iapply (WP_bind (wp_push hW' hs₂ (kt := 0) (fun q => by rw [clr2_apply, if_neg (by decide)]; exact hn0 q))) $$ H
  iintro %μ₃ ⟨H, %hs₃⟩
  iapply (WP_bind (wp_accumulate hA b' hs₃ (v := D.rhs f' 0) (fun q => by rw [push2_apply, if_pos rfl]))) $$ H
  iintro %μ₄ ⟨H, %hs₄⟩
  iapply (WP_bind (wp_push hW' hs₄ (kt := 1) (fun q => by
    rw [clr2_apply, if_neg (by decide), push2_apply, if_neg (by decide), clr2_apply, if_pos (by decide)]))) $$ H
  iintro %μ₅ ⟨H, %hs₅⟩
  iapply (WP_bind (wp_accumulate hA b' hs₅ (v := D.rhs f' 1) (fun q => by rw [push2_apply, if_pos rfl]))) $$ H
  iintro %μ₆ ⟨H, %hs₆⟩
  iapply (WP_bind (wp_push hW' hs₆ (kt := 2) (fun q => by
    rw [clr2_apply, if_neg (by decide), push2_apply, if_neg (by decide), clr2_apply, if_pos (by decide)]))) $$ H
  iintro %μ₇ ⟨H, %hs₇⟩
  have hb2 : b ≠ b' := fun h => hb h.symm
  iapply (WP_bind (wp_popOut hws 0 b h0 (sq := sq) hs₇ (t := t) (f := f) (by
    rw [add2_apply, if_neg hb2, add2_apply, if_neg hb2, add2_apply, if_pos rfl, ha, hrow]
    rfl))) $$ [H HY]
  · isplitl [H]; · iexact H
    iexact HY
  iintro %μ₈ ⟨⟨H, HY⟩, %hs₈⟩
  iapply (WP_mono (wp_popOut hws 1 b h1 (sq := sq) hs₈ (t := t) (f := f) (by
    unfold pop1
    rw [if_neg (by simp), add2_apply, if_neg hb2, add2_apply, if_neg hb2, add2_apply, if_pos rfl, ha, hrow]
    rfl))) $$ [H HY]
  · isplitl [H]; · iexact H
    iexact HY
  iintro %μ₉ ⟨H, %hs₉⟩
  isplitl [H]; · iexact H
  ipureintro
  refine ⟨_, _, hs₉, fun q => ?_, fun q => ?_, fun q => ?_, fun q => ?_⟩
  · rw [push2_apply, if_pos rfl]
  · rw [push2_apply, if_neg (by decide), clr2_apply, if_pos (by decide)]
  · unfold pop1
    rw [if_neg (fun h => hb h.2), if_neg (fun h => hb h.2), add2_apply, if_pos rfl, add2_apply, if_pos rfl, add2_apply, if_neg hb, ha']
    rfl
  · unfold pop1
    match q with
    | 0 => simp
    | 1 => simp

end Steps

end Cert.KernelIdeal.Model
-- ==== Proof.Results.lean ====
/- The result's tiles: summed in a slot, copied out two at a time. -/
module

public import proofs.«01_k».proof.Proof.Widen
public import proofs.«01_k».proof.Proof.Trip

@[expose] public section

set_option maxRecDepth 16384

noncomputable section

namespace Cert.KernelIdeal.Model

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

abbrev sqY : (⟨3, ![1, 512, 512]⟩ : Shape).Squeezes ⟨2, ![512, 512]⟩ := squeezes_S1x512x512_S512x512
abbrev credY : ℕ := (yDst 0 0 (by decide)).view.dmaCredit
theorem credY_pos : 0 < credY := by decide +kernel

/-- Where trip `s` puts its tile; what the trips before `n` have computed. -/
abbrev region (s : Nat) : Nat → Nat → Prop := InRect (512 * (s % 12)) (128 * fc (s / 12)) 512 512
abbrev Ld (n : Nat) : Nat → Nat → Prop := fun r j => 12 * In.own j + r / 512 < n

theorem own_le {p j : Nat} (hp : p ≤ 16) (h1 : 128 * fc p ≤ j) (h2 : j < 128 * fc p + 512) : p ≤ In.own j := by
  revert h1 h2; unfold In.own fc; split <;> omega
theorem own_in {p j : Nat} (hp : p ≤ 16) (hj : j < 8576) (h : In.own j = p) : 128 * fc p ≤ j ∧ j < 128 * fc p + 512 := by
  revert h; unfold In.own fc; split <;> omega
theorem own_16 {j : Nat} (hj : j < 8576) : In.own j ≤ 16 := by unfold In.own; split <;> omega

section

variable (c : Dev nD) (D : In F)

/-- A trip's tile, in its slot; the slot before. -/
abbrev YTile (s : Nat) : sProp 𝕄 :=
  kn c (plane yBuf (s % 2) (mod_two_lt s) sqY) fullShare tt tt (fun i j => D.ypan (fc (s / 12)) (512 * (s % 12) + i) j)
abbrev YFree (s : Nat) : sProp 𝕄 := kn c (plane yBuf (s % 2) (mod_two_lt s) sqY) fullShare tt ff D.y
abbrev YSem (s : Nat) : sProp 𝕄 := Sem0 F c (cell cc0_scratch12 (s % 2) (mod_two_lt s))

/-- What is not under way before trip `s` starts its predecessor's tile. -/
def outP : Nat → Nat → Nat → Prop
  | 0 => tt
  | s + 1 => fun i j => ¬region s i j

/-- The other slot at trip `s`: the tile two trips before on its way out. -/
def OutRest : Nat → sProp 𝕄
  | 0 => iprop(YFree c D 1 ∗ YSem (F := F) c 1)
  | s + 1 => Fly c (cell cc0_scratch12 (s % 2) (mod_two_lt s)) credY iprop(kn c yHbm fullShare (region s) (fun _ j => In.own j = s / 12) D.y ∗ YTile c D s)

/-- A trip's slot is free; -/
def YReady (s : Nat) : sProp 𝕄 :=
  iprop(YFree c D s ∗ YSem (F := F) c s ∗ kn c yHbm fullShare (outP s) (Ld (s - 1)) D.y ∗ OutRest c D s)

/-- a trip's tile is there. -/
def YDone (s : Nat) : sProp 𝕄 :=
  iprop(YTile c D s ∗ YSem (F := F) c s ∗ kn c yHbm fullShare (outP s) (Ld (s - 1)) D.y ∗ OutRest c D s)

/-- Between trips. -/
def YSt : Nat → sProp 𝕄
  | 0 => YReady c D 0
  | s + 1 => YDone c D s

variable {c D}

theorem slot_eq {q q' : Nat} {hq : q < 2} {hq' : q' < 2} (e : q = q') {K : Nat → Nat → Prop} {G : Nat → Nat → Elt F .bf16} :
    (kn c (plane yBuf q hq sqY) fullShare tt K G : sProp 𝕄) ⊢ kn c (plane yBuf q' hq' sqY) fullShare tt K G := by
  subst e; exact BI.Entails.refl _

theorem rest_zero : (OutRest c D 0 : sProp 𝕄) ⊢ iprop(YFree c D 1 ∗ YSem (F := F) c 1) := BI.Entails.refl _
theorem rest_succ {s : Nat} : (Fly c (cell cc0_scratch12 (s % 2) (mod_two_lt s)) credY iprop(kn c yHbm fullShare (region s) (fun _ j => In.own j = s / 12) D.y ∗ YTile c D s) : sProp 𝕄) ⊢ OutRest c D (s + 1) :=
  BI.Entails.refl _
theorem yst_zero : (YSt c D 0 : sProp 𝕄) ⊢ YReady c D 0 := BI.Entails.refl _
theorem yst_succ {s : Nat} : (YSt c D (s + 1) : sProp 𝕄) ⊢ YDone c D s := BI.Entails.refl _
theorem yst_done {s : Nat} : (YDone c D s : sProp 𝕄) ⊢ YSt c D (s + 1) := BI.Entails.refl _

theorem wp_yStart {s row col q : Nat} {h hd hq} (hs : s < 204) (er : row = 512 * (s % 12)) (ec : col = 128 * fc (s / 12)) (eq : q = s % 2) :
    (YDone c D s : sProp 𝕄) ⊢ WP c (yStart (F := F) row col q h hd hq)
      (fun _ => iprop(kn c yHbm fullShare (fun i j => outP s i j ∧ ¬region s i j) (Ld (s - 1)) D.y ∗ OutRest c D s ∗ OutRest c D (s + 1))) := by
  subst er ec eq
  have hP : Parts 6144 8576 (outP s) (region s) (fun i j => outP s i j ∧ ¬region s i j) := by
    intro i j hi hj
    have ho : region s i j → outP s i j := by
      cases s with
      | zero => exact fun _ => trivial
      | succ s => intro h1 h2; have h1 := h1.1; have h2 := h2.1; omega
    tauto
  have hgo : (iprop(kn c (plane yBuf (s % 2) hq sqY) fullShare tt tt (fun i j => D.ypan (fc (s / 12)) (512 * (s % 12) + i) j)
      ∗ kn c yHbm fullShare (outP s) (Ld (s - 1)) D.y ∗ Sem0 F c (cell cc0_scratch12 (s % 2) hq)) : sProp 𝕄)
      ⊢ WP c (yStart (F := F) (512 * (s % 12)) (128 * fc (s / 12)) (s % 2) h hd hq)
        (fun _ => iprop(Fly c (cell cc0_scratch12 (s % 2) hq) credY iprop(kn c yHbm fullShare (region s) (fun _ j => In.own j = s / 12) D.y
          ∗ kn c (plane yBuf (s % 2) hq sqY) fullShare tt tt (fun i j => D.ypan (fc (s / 12)) (512 * (s % 12) + i) j))
          ∗ kn c yHbm fullShare (fun i j => outP s i j ∧ ¬region s i j) (Ld (s - 1)) D.y)) :=
    wp_startInto (M := yHbm) (N := plane yBuf (s % 2) hq sqY) (h3 := trivial) hP rfl credY_pos (fun a b _ _ hK => by
      unfold In.y
      rw [hK, Nat.add_sub_cancel_left])
  unfold YDone
  iintro ⟨HT, HS, HY, HR⟩
  iapply (WP_mono hgo) $$ [HT HS HY]
  · isplitl [HT]; · iexact HT
    isplitl [HY]; · iexact HY
    iexact HS
  iintro %_ ⟨HF, HY⟩
  isplitl [HY]; · iexact HY
  isplitl [HR]; · iexact HR
  iapply rest_succ $$ HF

/-- What a wait brings in. -/
theorem y_landed {s : Nat} (hs : s < 204) {P' : Nat → Nat → Prop} {P : Nat → Nat → Prop} (hP : Parts 6144 8576 P (region s) P') :
    (iprop(kn c yHbm fullShare (region s) (fun _ j => In.own j = s / 12) D.y ∗ kn c yHbm fullShare P' (Ld s) D.y) : sProp 𝕄) ⊢ kn c yHbm fullShare P (Ld (s + 1)) D.y := by
  refine kn_give hP (fun i j hi hj hr hK => ⟨?_, rfl⟩) (fun i j hi hj hp hK => ⟨?_, rfl⟩)
  · have h1 := own_le (p := s / 12) (j := j) (by omega) hr.2.1 hr.2.2
    have h2 := hr.1
    unfold Ld at hK
    omega
  · have hn : ¬region s i j := fun h => (hP i j hi hj).2 ⟨h, hp⟩
    unfold Ld at hK ⊢
    by_contra hc
    refine hn ⟨by omega, own_in (p := s / 12) (by omega) hj (by omega)⟩

theorem wp_yWait {s row col q : Nat} {h hd hq} (hs : s + 1 < 204) (eq : q = s % 2) :
    (iprop((kn c yHbm fullShare (fun i j => outP (s + 1) i j ∧ ¬region (s + 1) i j) (Ld s) D.y ∗ OutRest c D (s + 1)) ∗ Ow F c) : sProp 𝕄)
      ⊢ WP c (yWait (F := F) row col q h hd hq)
        (fun _ => iprop((YFree c D (s + 1 + 1) ∗ YSem (F := F) c (s + 1 + 1) ∗ kn c yHbm fullShare (outP (s + 1 + 1)) (Ld (s + 1)) D.y) ∗ Ow F c)) := by
  subst eq
  have hP : Parts 6144 8576 (outP (s + 1 + 1)) (region s) (fun i j => outP (s + 1) i j ∧ ¬region (s + 1) i j) := by
    intro i j hi hj
    have hd : region s i j → ¬region (s + 1) i j := by
      intro h1 h2; have h1 := h1.1; have h2 := h2.1; omega
    unfold outP
    tauto
  have e : (s + 1 + 1) % 2 = s % 2 := by omega
  have hf : (YTile c D s : sProp 𝕄) ⊢ YFree c D (s + 1 + 1) := by
    unfold YTile YFree
    simp only [e]
    exact kn_weaken fun _ _ _ _ _ h => h.elim
  have hgo : (iprop(OutRest c D (s + 1) ∗ Ow F c) : sProp 𝕄) ⊢ WP c (yWait (F := F) row col (s % 2) h hd hq)
      (fun _ => iprop((kn c yHbm fullShare (region s) (fun _ j => In.own j = s / 12) D.y ∗ YTile c D s) ∗ Sem0 F c (cell cc0_scratch12 (s % 2) hq) ∗ Ow F c)) := by
    unfold yWait OutRest
    exact wp_wait (src' := ySrc (s % 2) hq) (dst' := yDst row col h) (N := credY) rfl
  iintro ⟨⟨HY, HR⟩, HO⟩
  iapply (WP_mono hgo) $$ [HR HO]
  · isplitl [HR]; · iexact HR
    iexact HO
  iintro %_ ⟨⟨HD, HT⟩, HS, HO⟩
  ihave HT := hf $$ HT
  isplitr [HO]
  · isplitl [HT]; · iexact HT
    isplitl [HS]
    · unfold YSem
      simp only [e]
      iexact HS
    iapply (y_landed (by omega) hP)
    isplitl [HD]; · iexact HD
    iexact HY
  iexact HO

/-- A trip's head, once there are two trips before it; -/
theorem wp_yNext {s : Nat} (hs : s + 1 < 204) {row col q row' col' q' : Nat} {h hd hq h' hd' hq'} (er : row = 512 * ((s + 1) % 12)) (ec : col = 128 * fc ((s + 1) / 12)) (eq : q = (s + 1) % 2) (eq' : q' = s % 2) :
    (iprop(YSt c D (s + 1 + 1) ∗ Ow F c) : sProp 𝕄) ⊢ WP c (do yStart (F := F) row col q h hd hq; yWait (F := F) row' col' q' h' hd' hq')
      (fun _ => iprop(YReady c D (s + 1 + 1) ∗ Ow F c)) := by
  iintro ⟨H, HO⟩
  iapply (WP_bind (wp_yStart (D := D) (s := s + 1) hs er ec eq)) $$ [H]
  · iapply yst_succ $$ H
  iintro %_ ⟨HY, HR, HR'⟩
  iapply (WP_mono (wp_yWait (D := D) (s := s) hs eq')) $$ [HY HR HO]
  · isplitr [HO]
    · isplitl [HY]; · iexact HY
      iexact HR
    iexact HO
  unfold YReady
  iintro %_ ⟨⟨HF, HS, HY⟩, HO⟩
  isplitr [HO]
  · isplitl [HF]; · iexact HF
    isplitl [HS]; · iexact HS
    isplitl [HY]; · iexact HY
    iexact HR'
  iexact HO

theorem wp_head {p t : BitVec 32} {hp : p.toNat ≤ 16} {ht : t.toNat ≤ 11} {h : p.toNat ≠ 0 ∨ t.toNat ≠ 0} {s : Nat} (hs : 12 * p.toNat + t.toNat = s) (h2 : 2 ≤ s) :
    (iprop(YSt c D s ∗ Ow F c) : sProp 𝕄) ⊢ WP c (head (F := F) p t hp ht h) (fun _ => iprop(YReady c D s ∗ Ow F c)) := by
  obtain ⟨s, rfl⟩ : ∃ s', s = s' + 1 + 1 := ⟨s - 2, by omega⟩
  unfold head yStartPrev yWaitPrev
  have hpt := prevT_nat ht
  have hpp := prevP_nat hp ht h
  refine wp_yNext (by omega) ?_ ?_ ?_ ?_
  · rw [row512_nat ((prevT_le ht).trans (by decide)), hpt]; split <;> omega
  · rw [colOf_nat ((prevP_le hp ht h).trans (by decide)), hpp]
    congr 2
    split <;> omega
  · rw [otherSlot_nat hp ht]; omega
  · rw [slotOf_nat hp ht]; omega

theorem sgt0_nat {t : BitVec 32} (ht : t.toNat ≤ 11) : Scalar.cmpi .ne (Scalar.extui (Scalar.cmpi .sgt t 0#32)) 0#32 = 1#1 ↔ 0 < t.toNat := by
  have hall : ∀ n : Fin 12, Scalar.cmpi .ne (Scalar.extui (Scalar.cmpi .sgt (BitVec.ofNat 32 n.val) 0#32)) 0#32 = 1#1 ↔ 0 < n.val := by decide +kernel
  have := hall ⟨t.toNat, by omega⟩
  rwa [← word_eq (p := t) rfl] at this

theorem sgt1_nat {t : BitVec 32} (ht : t.toNat ≤ 11) : Scalar.cmpi .ne (Scalar.extui (Scalar.cmpi .sgt t 1#32)) 0#32 = 1#1 ↔ 1 < t.toNat := by
  have hall : ∀ n : Fin 12, Scalar.cmpi .ne (Scalar.extui (Scalar.cmpi .sgt (BitVec.ofNat 32 n.val) 1#32)) 0#32 = 1#1 ↔ 1 < n.val := by decide +kernel
  have := hall ⟨t.toNat, by omega⟩
  rwa [← word_eq (p := t) rfl] at this

/-- and in the first panel. -/
theorem wp_head0 {p t : BitVec 32} {hp : p.toNat ≤ 16} {ht : t.toNat ≤ 11} (h0 : p.toNat = 0) {s : Nat} (hs : 12 * p.toNat + t.toNat = s) :
    (iprop(YSt c D s ∗ Ow F c) : sProp 𝕄) ⊢ WP c (head0 (F := F) p t hp ht) (fun _ => iprop(YReady c D s ∗ Ow F c)) := by
  have hst : t.toNat = s := by omega
  unfold head0
  by_cases h1 : 0 < t.toNat
  · have hn : p.toNat ≠ 0 ∨ t.toNat ≠ 0 := .inr (by omega)
    rw [dif_pos ((sgt0_nat ht).2 h1)]
    by_cases h2 : 1 < t.toNat
    · rw [dif_pos ((sgt1_nat ht).2 h2)]
      iintro H
      simp only [bind_assoc, pure_bind, bind_pure_unit]
      iapply (WP_mono (wp_head (p := p) (t := t) (hp := hp) (ht := ht) (h := hn) hs (by omega))) $$ H
      iintro %_ H
      iexact H
    · obtain rfl : s = 0 + 1 := by omega
      rw [dif_neg ((sgt1_nat ht).not.2 h2)]
      unfold yStartPrev
      iintro ⟨H, HO⟩
      simp only [bind_assoc, pure_bind]
      iapply (WP_bind (wp_yStart (D := D) (s := 0) (by decide) (by rw [row512_nat ((prevT_le ht).trans (by decide)), prevT_nat ht, if_neg (by omega)]; omega)
        (by rw [colOf_nat ((prevP_le hp ht hn).trans (by decide)), prevP_nat hp ht hn, if_neg (by omega), h0]) (by rw [otherSlot_nat hp ht]; omega))) $$ [H]
      · iapply yst_succ $$ H
      iintro %_ ⟨HY, HZ, HR⟩
      ihave HZ := rest_zero $$ HZ
      icases HZ with ⟨HF, HS⟩
      iapply WP_pure
      have hy : (kn c yHbm fullShare (fun i j => outP 0 i j ∧ ¬region 0 i j) (Ld (0 - 1)) D.y : sProp 𝕄) ⊢ kn c yHbm fullShare (outP (0 + 1)) (Ld (0 + 1 - 1)) D.y :=
        kn_region fun _ _ _ _ => by simp only [outP, tt, _root_.true_and]
      ihave HY := hy $$ HY
      unfold YReady
      isplitr [HO]
      · isplitl [HF]; · iexact HF
        isplitl [HS]; · iexact HS
        isplitl [HY]; · iexact HY
        iexact HR
      iexact HO
  · obtain rfl : s = 0 := by omega
    rw [dif_neg ((sgt0_nat ht).not.2 h1), dif_neg ((sgt1_nat ht).not.2 (by omega))]
    iintro ⟨H, HO⟩
    simp only [pure_bind]
    iapply WP_pure
    isplitl [H]; · iapply yst_zero $$ H
    iexact HO

/-- The matrix unit's part of a trip: the trip's tile in its slot, the next trip's first tiles in the unit. -/
theorem wp_core {R : sProp 𝕄} {ws : Memref sig .tc .vmem S1x8576 .f32} {W W' : Memref sig .tc .vmem S3584x512 .bf16} {f' : Nat} {p t : BitVec 32} {hp : p.toNat ≤ 16} {ht : t.toNat ≤ 11} {nrow : Nat} {hn}
    {f s n : Nat} (hA : Reads c R aBuf D.act) (hW : Reads c R W (D.wgt f)) (hW' : Reads c R W' (D.wgt f')) (hws : Reads c R ws D.ws)
    (hs : 12 * p.toNat + t.toNat = s) (hf : fc p.toNat = f) (hnr : nrow = n) {μ : Mxu F} (hm : Mid D μ 0 1 f (512 * t.toNat) 2) :
    (iprop(R ∗ YReady c D s) : sProp 𝕄) ⊢ WP c (core (F := F) ws W W' p t hp ht nrow hn μ)
      (fun μ' => iprop((R ∗ YDone c D s) ∗ ⌜Mid D μ' 0 1 f' n 2⌝)) := by
  subst hf hnr
  have e1 : s % 2 = (slotOf p t).toNat := by rw [slotOf_nat hp ht]; omega
  have e2 : s / 12 = p.toNat := by omega
  have e3 : s % 12 = t.toNat := by omega
  have hsl : (slotOf p t).toNat < 2 := by omega
  have h0 : (YFree c D s : sProp 𝕄) ⊢ kn c (plane yBuf (slotOf p t).toNat hsl sqY) fullShare tt ff (fun i j => D.ypan (fc p.toNat) (512 * t.toNat + i) j) :=
    BIBase.Entails.trans (slot_eq e1) (kn_weaken fun _ _ _ _ _ h => h.elim)
  have h1 : (kn c (plane yBuf (slotOf p t).toNat hsl sqY) fullShare tt (withTile (withTile (withTile (withTile ff 0 0) 0 1) 1 0) 1 1) (fun i j => D.ypan (fc p.toNat) (512 * t.toNat + i) j) : sProp 𝕄)
      ⊢ YTile c D s := by
    unfold YTile
    rw [e2, e3]
    refine BIBase.Entails.trans (kn_weaken fun a b ha hb _ _ => ⟨?_, rfl⟩) (slot_eq e1.symm)
    unfold withTile InRect ff
    omega
  have r0 := (rowb_nat ht).1
  have r1 := (rowb_nat ht).2
  unfold core
  unfold YReady
  iintro ⟨HR, HF, HS, HY, HO⟩
  ihave HF := h0 $$ HF
  have hfirst := wp_half (D := D) (s := (slotOf p t).toNat) (hs := hsl) (sq := sqY) (K := ff) hA hW hW hws (0 : Fin 2) 1 (by decide) (t := t.toNat)
    (h := (by rw [r0]; omega)) (h' := (by rw [r1]; omega)) (hc0 := (by rw [(colq_nat hp).1]; have := fc_le p.toNat; omega)) (hc1 := (by rw [(colq_nat hp).2]; have := fc_le p.toNat; omega)) (hbl := (by decide))
    (r0.trans (by simp)) (colq_nat hp).1 (colq_nat hp).2 (row' := (Scalar.addi (Scalar.muli t 512#32) 256#32).toNat) (μ := μ) (by rw [r0]; exact hm)
  iapply (WP_bind hfirst) $$ [HR HF]
  · isplitl [HR]; · iexact HR
    iexact HF
  iintro %μ' ⟨⟨HR, HF⟩, %hm'⟩
  have hsec := wp_half (D := D) (s := (slotOf p t).toNat) (hs := hsl) (sq := sqY) (K := withTile (withTile ff 0 0) 0 1) hA hW hW' hws (1 : Fin 2) 0 (by decide) (t := t.toNat)
    (h := (by rw [r1]; omega)) (h' := hn) (hc0 := (by rw [(colq_nat hp).1]; have := fc_le p.toNat; omega)) (hc1 := (by rw [(colq_nat hp).2]; have := fc_le p.toNat; omega)) (hbl := (by decide))
    (r1.trans (by simp)) (colq_nat hp).1 (colq_nat hp).2 (row' := nrow) (μ := μ') hm'
  iapply (WP_mono hsec) $$ [HR HF]
  · isplitl [HR]; · iexact HR
    iexact HF
  iintro %μ'' ⟨⟨HR, HF⟩, %hm''⟩
  ihave HF := h1 $$ HF
  unfold YDone
  isplitl
  · isplitl [HR]; · iexact HR
    isplitl [HF]; · iexact HF
    isplitl [HS]; · iexact HS
    isplitl [HY]; · iexact HY
    iexact HO
  ipureintro; exact hm''

end

end Cert.KernelIdeal.Model
-- ==== Proof.Panel.lean ====
/- A panel of columns: twelve trips, the next panel's weights widened in the first nine. -/
module

public import proofs.«01_k».proof.Proof.Results

@[expose] public section

set_option maxRecDepth 16384

noncomputable section

namespace Cert.KernelIdeal.Model

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Words

theorem succ_nat {p : BitVec 32} (hp : p.toNat ≤ 16) : fc (Scalar.addi p 1#32).toNat = fc (p.toNat + 1) ∧ fc (Scalar.minsi (Scalar.addi p 2#32) 16#32).toNat = fc (p.toNat + 2) := by
  have hall : ∀ n : Fin 17, fc (Scalar.addi (BitVec.ofNat 32 n.val) 1#32).toNat = fc (n.val + 1) ∧ fc (Scalar.minsi (Scalar.addi (BitVec.ofNat 32 n.val) 2#32) 16#32).toNat = fc (n.val + 2) := by
    decide +kernel
  have := hall ⟨p.toNat, by omega⟩
  rwa [← word_eq (p := p) rfl] at this

theorem iv9_nat (k : Fin k0_t3_loop.trips) : (ivFrom 0#32 k).toNat = k.val :=
  (by decide +kernel : ∀ k : Fin k0_t3_loop.trips, (ivFrom 0#32 k).toNat = k.val) k
theorem iv2_nat (k : Fin k0_t4_loop.trips) : (ivFrom 9#32 k).toNat = 9 + k.val :=
  (by decide +kernel : ∀ k : Fin k0_t4_loop.trips, (ivFrom 9#32 k).toNat = 9 + k.val) k

end Words

/-- A panel, its trips' heads left open. -/
def panelOf (ws : Memref sig .tc .vmem S1x8576 .f32) (W W' : Memref sig .tc .vmem S3584x512 .bf16) (hW' : W'.IsWhole) (p : BitVec 32) (hp : p.toNat ≤ 16)
    (hd : ∀ t : BitVec 32, t.toNat ≤ 10 → PM F PUnit) (hl : PM F PUnit) (μ : Mxu F) : PM F (Mxu F) := do
  waitWp (Scalar.addi p 1#32) (next_le hp).1
  let μ ← Scf.Loop.for k0_t3_loop k0_t3_ok μ fun k μ => do
    hd (ivFrom 0#32 k) ((iv9 k).trans (by decide))
    widen3 W' hW' p (ivFrom 0#32 k) (iv9 k)
    core ws W W p (ivFrom 0#32 k) hp ((iv9 k).trans (by decide)) (nextRow (ivFrom 0#32 k)) (nextRow_inb ((iv9 k).trans (by decide))) μ
  startWp (Scalar.minsi (Scalar.addi p 2#32) 16#32) (next_le hp).2
  let μ ← Scf.Loop.for k0_t4_loop k0_t4_ok μ fun k μ => do
    hd (ivFrom 9#32 k) (iv2 k)
    core ws W W p (ivFrom 9#32 k) hp ((iv2 k).trans (by decide)) (nextRow (ivFrom 9#32 k)) (nextRow_inb (iv2 k)) μ
  hl
  core ws W W' p 11#32 hp (by decide) 0 (by decide) μ

section

variable (c : Dev nD) (D : In F) (ws : Memref sig .tc .vmem S1x8576 .f32)

/-- What the trips of a panel read. -/
def Base (W : Memref sig .tc .vmem S3584x512 .bf16) (f : Nat) : sProp 𝕄 :=
  iprop(kn c aBuf fullShare tt tt D.act ∗ kn c W fullShare tt tt (D.wgt f) ∗ kn c ws fullShare tt tt D.ws)

/-- Between panels: `p` panels are done. -/
def PSt (p : Nat) (W W' : Memref sig .tc .vmem S3584x512 .bf16) (μ : Mxu F) : sProp 𝕄 :=
  iprop((Base c D ws W (fc p) ∗ kn c W' fullShare tt (wKn 0) (D.wgt (fc (p + 1))) ∗ WpFlight c D (fc (p + 1)) ∗ YSt c D (12 * p) ∗ Ow F c) ∗ ⌜Mid D μ 0 1 (fc p) 0 2⌝)

/-- Between the first nine trips; between the others. -/
def Trip3 (p : Nat) (W W' : Memref sig .tc .vmem S3584x512 .bf16) (k : Nat) (μ : Mxu F) : sProp 𝕄 :=
  iprop((Base c D ws W (fc p) ∗ (kn c W' fullShare tt (wKn (3 * k)) (D.wgt (fc (p + 1))) ∗ Packed c D (fc (p + 1))) ∗ YSt c D (12 * p + k) ∗ Ow F c) ∗ ⌜Mid D μ 0 1 (fc p) (512 * k) 2⌝)
def Trip4 (p : Nat) (W : Memref sig .tc .vmem S3584x512 .bf16) (k : Nat) (μ : Mxu F) : sProp 𝕄 :=
  iprop((Base c D ws W (fc p) ∗ YSt c D (12 * p + k) ∗ Ow F c) ∗ ⌜Mid D μ 0 1 (fc p) (512 * k) 2⌝)

variable {c D ws} {W W' : Memref sig .tc .vmem S3584x512 .bf16} {f : Nat}

theorem base_act : Reads c (Base c D ws W f) aBuf D.act := by unfold Base; exact reads_left reads_kn
theorem base_wgt : Reads c (Base c D ws W f) W (D.wgt f) := by unfold Base; exact reads_right (reads_left reads_kn)
theorem base_ws : Reads c (Base c D ws W f) ws D.ws := by unfold Base; exact reads_right (reads_right reads_kn)

/-- A trip's head does its part. -/
abbrev Heads (c : Dev nD) (D : In F) (p t : Nat) (h : PM F PUnit) : Prop :=
  (iprop(YSt c D (12 * p + t) ∗ Ow F c) : sProp 𝕄) ⊢ WP c h (fun _ => iprop(YReady c D (12 * p + t) ∗ Ow F c))

theorem wp_trip3 {p t : BitVec 32} {hp : p.toNat ≤ 16} {ht : t.toNat ≤ 8} {ht' : t.toNat ≤ 11} {hn} {hW' : W'.IsWhole} {k : Nat} (hk : t.toNat = k) {h : PM F PUnit} (hh : Heads c D p.toNat k h) (μ : Mxu F) :
    (Trip3 c D ws p.toNat W W' k μ : sProp 𝕄) ⊢ WP c (do
        h
        widen3 W' hW' p t ht
        core ws W W p t hp ht' (nextRow t) hn μ) (fun μ' => Trip3 c D ws p.toNat W W' (k + 1) μ') := by
  unfold Trip3
  iintro ⟨⟨HB, HW, HY, HO⟩, %hm⟩
  iapply (WP_bind hh) $$ [HY HO]
  · isplitl [HY]; · iexact HY
    iexact HO
  iintro %_ ⟨HY, HO⟩
  iapply (WP_bind (wp_widen3 (f := fc (p.toNat + 1)) hk hp (succ_nat hp).1)) $$ HW
  iintro %_ HW
  have hc := wp_core (c := c) (D := D) (hp := hp) (ht := ht') (hn := hn) (base_act (c := c) (D := D) (ws := ws) (W := W) (f := fc p.toNat)) base_wgt base_wgt base_ws
    (s := 12 * p.toNat + k) (by omega) rfl (n := 512 * (k + 1)) (by rw [nextRow_nat (by omega), hk]) (μ := μ) (by rw [hk]; exact hm)
  iapply (WP_mono hc) $$ [HB HY]
  · isplitl [HB]; · iexact HB
    iexact HY
  iintro %μ' ⟨⟨HB, HY⟩, %hm'⟩
  isplitl
  · isplitl [HB]; · iexact HB
    isplitl [HW]; · iexact HW
    isplitl [HY]; · iapply yst_done $$ HY
    iexact HO
  ipureintro; exact hm'

theorem wp_trip4 {p t : BitVec 32} {hp : p.toNat ≤ 16} {ht' : t.toNat ≤ 11} {hn} {k : Nat} (hk : t.toNat = k) (hk10 : k ≤ 10) {h : PM F PUnit} (hh : Heads c D p.toNat k h) (μ : Mxu F) :
    (Trip4 c D ws p.toNat W k μ : sProp 𝕄) ⊢ WP c (do
        h
        core ws W W p t hp ht' (nextRow t) hn μ) (fun μ' => Trip4 c D ws p.toNat W (k + 1) μ') := by
  unfold Trip4
  iintro ⟨⟨HB, HY, HO⟩, %hm⟩
  iapply (WP_bind hh) $$ [HY HO]
  · isplitl [HY]; · iexact HY
    iexact HO
  iintro %_ ⟨HY, HO⟩
  have hc := wp_core (c := c) (D := D) (hp := hp) (ht := ht') (hn := hn) (base_act (c := c) (D := D) (ws := ws) (W := W) (f := fc p.toNat)) base_wgt base_wgt base_ws
    (s := 12 * p.toNat + k) (by omega) rfl (n := 512 * (k + 1)) (by rw [nextRow_nat (by omega), hk]) (μ := μ) (by rw [hk]; exact hm)
  iapply (WP_mono hc) $$ [HB HY]
  · isplitl [HB]; · iexact HB
    iexact HY
  iintro %μ' ⟨⟨HB, HY⟩, %hm'⟩
  isplitl
  · isplitl [HB]; · iexact HB
    isplitl [HY]; · iapply yst_done $$ HY
    iexact HO
  ipureintro; exact hm'

/-- The panel's last trip leaves the next panel's first tiles in the unit. -/
theorem wp_tripLast {p : BitVec 32} {hp : p.toNat ≤ 16} {f' : Nat} (hf : fc (p.toNat + 1) = f') {ht : (11#32).toNat ≤ 11} {hn} {h : PM F PUnit} (hh : Heads c D p.toNat 11 h) (μ : Mxu F) :
    (iprop(Trip4 c D ws p.toNat W 11 μ ∗ kn c W' fullShare tt tt (D.wgt f')) : sProp 𝕄) ⊢ WP c (do
        h
        core ws W W' p 11#32 hp ht 0 hn μ)
      (fun μ' => iprop(((Base c D ws W (fc p.toNat) ∗ kn c W' fullShare tt tt (D.wgt f')) ∗ YSt c D (12 * p.toNat + 12) ∗ Ow F c) ∗ ⌜Mid D μ' 0 1 f' 0 2⌝)) := by
  unfold Trip4
  iintro ⟨⟨⟨HB, HY, HO⟩, %hm⟩, HW'⟩
  iapply (WP_bind hh) $$ [HY HO]
  · isplitl [HY]; · iexact HY
    iexact HO
  iintro %_ ⟨HY, HO⟩
  have hc := wp_core (c := c) (D := D) (R := iprop(Base c D ws W (fc p.toNat) ∗ kn c W' fullShare tt tt (D.wgt f'))) (W := W) (W' := W') (hp := hp) (ht := ht) (hn := hn) (reads_left base_act) (reads_left base_wgt) (reads_right reads_kn) (reads_left base_ws)
    (s := 12 * p.toNat + 11) rfl rfl (n := 0) rfl (μ := μ) hm
  iapply (WP_mono hc) $$ [HB HY HW']
  · isplitr [HY]
    · isplitl [HB]; · iexact HB
      iexact HW'
    iexact HY
  iintro %μ' ⟨⟨HB, HY⟩, %hm'⟩
  isplitl
  · isplitl [HB]; · iexact HB
    isplitl [HY]; · iapply yst_done $$ HY
    iexact HO
  ipureintro; exact hm'

theorem wp_panelOf {hW' : W'.IsWhole} {p : BitVec 32} {hp : p.toNat ≤ 16} {hd : ∀ t : BitVec 32, t.toNat ≤ 10 → PM F PUnit} {hl : PM F PUnit}
    (hhd : ∀ t ht k, t.toNat = k → Heads c D p.toNat k (hd t ht)) (hhl : Heads c D p.toNat 11 hl) {n : Nat} (hn : p.toNat = n) (μ : Mxu F) :
    (PSt c D ws n W W' μ : sProp 𝕄) ⊢ WP c (panelOf ws W W' hW' p hp hd hl μ) (fun μ' => PSt c D ws (n + 1) W' W μ') := by
  subst hn
  have hl3 : ∀ μ : Mxu F, (Trip3 c D ws p.toNat W W' 0 μ : sProp 𝕄) ⊢ WP c (Scf.Loop.for k0_t3_loop k0_t3_ok μ fun k μ => do
      hd (ivFrom 0#32 k) ((iv9 k).trans (by decide))
      widen3 W' hW' p (ivFrom 0#32 k) (iv9 k)
      core ws W W p (ivFrom 0#32 k) hp ((iv9 k).trans (by decide)) (nextRow (ivFrom 0#32 k)) (nextRow_inb ((iv9 k).trans (by decide))) μ) (fun μ' => Trip3 c D ws p.toNat W W' 9 μ') := by
    intro μ
    iintro H
    iapply (Scf.wp_for _ _ _ _ _ _ _ _ _ (fun k μ => Trip3 c D ws p.toNat W W' k μ) (fun k μ => wp_trip3 (iv9_nat k) (hhd _ _ _ (iv9_nat k)) μ))
    isplitl [H]; · iexact H
    iintro %μ' H
    iexact H
  have hl4 : ∀ μ : Mxu F, (Trip4 c D ws p.toNat W 9 μ : sProp 𝕄) ⊢ WP c (Scf.Loop.for k0_t4_loop k0_t4_ok μ fun k μ => do
      hd (ivFrom 9#32 k) (iv2 k)
      core ws W W p (ivFrom 9#32 k) hp ((iv2 k).trans (by decide)) (nextRow (ivFrom 9#32 k)) (nextRow_inb (iv2 k)) μ) (fun μ' => Trip4 c D ws p.toNat W 11 μ') := by
    intro μ
    iintro H
    iapply (Scf.wp_for _ _ _ _ _ _ _ _ _ (fun k μ => Trip4 c D ws p.toNat W (9 + k) μ) (fun k μ => wp_trip4 (iv2_nat k) (by have := iv2 k; rw [iv2_nat k] at this; exact this) (hhd _ _ _ (iv2_nat k)) μ))
    isplitl [H]; · iexact H
    iintro %μ' H
    iexact H
  unfold panelOf PSt
  iintro ⟨⟨HB, HW', HF, HY, HO⟩, %hm⟩
  iapply (WP_bind wp_waitWp) $$ [HF HO]
  · isplitl [HF]; · iexact HF
    iexact HO
  unfold WpHeld
  iintro %_ ⟨⟨HP, HH, HS⟩, HO⟩
  iapply (WP_bind (hl3 μ)) $$ [HB HW' HP HY HO]
  · unfold Trip3
    isplitl
    · isplitl [HB]; · iexact HB
      isplitl [HW' HP]
      · isplitl [HW']; · iexact HW'
        iexact HP
      isplitl [HY]; · iexact HY
      iexact HO
    ipureintro; exact hm
  unfold Trip3
  iintro %μ₁ ⟨⟨HB, ⟨HW', HP⟩, HY, HO⟩, %hm₁⟩
  iapply (WP_bind (wp_startWp (K := tt) (f := fc (p.toNat + 1)) (succ_nat hp).2)) $$ [HP HH HS]
  · unfold WpHeld
    isplitl [HP]; · iexact HP
    isplitl [HH]; · iexact HH
    iexact HS
  iintro %_ HF
  iapply (WP_bind (hl4 μ₁)) $$ [HB HY HO]
  · unfold Trip4
    isplitl
    · isplitl [HB]; · iexact HB
      isplitl [HY]; · iexact HY
      iexact HO
    ipureintro; exact hm₁
  iintro %μ₂ H
  have hfull : (kn c W' fullShare tt (wKn (3 * 9)) (D.wgt (fc (p.toNat + 1))) : sProp 𝕄) ⊢ kn c W' fullShare tt tt (D.wgt (fc (p.toNat + 1))) := kn_full
  have hzero : (kn c W fullShare tt tt (D.wgt (fc p.toNat)) : sProp 𝕄) ⊢ kn c W fullShare tt (wKn 0) (D.wgt (fc (p.toNat + 2))) := kn_zeros fun _ _ _ => trivial
  ihave HW' := hfull $$ HW'
  iapply (WP_mono (wp_tripLast (W' := W') rfl hhl μ₂)) $$ [H HW']
  · isplitl [H]; · iexact H
    iexact HW'
  unfold Base
  iintro %μ₃ ⟨⟨⟨⟨HA, HW, HS⟩, HW'⟩, HY, HO⟩, %hm₃⟩
  ihave HW := hzero $$ HW
  isplitl
  · isplitl [HA HW' HS]
    · isplitl [HA]; · iexact HA
      isplitl [HW']; · iexact HW'
      iexact HS
    isplitl [HW]; · iexact HW
    isplitl [HF]; · iexact HF
    isplitl [HY]; · iexact HY
    iexact HO
  ipureintro; exact hm₃

theorem wp_panel0 {hW' : W'.IsWhole} {p : BitVec 32} {hp : p.toNat ≤ 16} (h0 : p.toNat = 0) (μ : Mxu F) :
    (PSt c D ws 0 W W' μ : sProp 𝕄) ⊢ WP c (panel0 ws W W' hW' p hp μ) (fun μ' => PSt c D ws 1 W' W μ') :=
  wp_panelOf (hd := fun t ht => head0 p t hp (ht.trans (by decide))) (hl := head p 11#32 hp (by decide) (.inr (by decide)))
    (fun t ht k e => wp_head0 h0 (by rw [e])) (wp_head rfl (by omega)) h0 μ

theorem wp_panel {hW' : W'.IsWhole} {p : BitVec 32} {hp : p.toNat ≤ 16} {h0 : p.toNat ≠ 0} {n : Nat} (hn : p.toNat = n) (μ : Mxu F) :
    (PSt c D ws n W W' μ : sProp 𝕄) ⊢ WP c (panel ws W W' hW' p hp h0 μ) (fun μ' => PSt c D ws (n + 1) W' W μ') :=
  wp_panelOf (hd := fun t ht => head p t hp (ht.trans (by decide)) (.inl h0)) (hl := head p 11#32 hp (by decide) (.inl h0))
    (fun t ht k e => wp_head (by rw [e]) (by omega)) (wp_head rfl (by omega)) hn μ

/-- The pairs of panels. -/
theorem wp_panels (k : Fin k0_t5_loop.trips) (μ : Mxu F) :
    (PSt c D ws (2 * k.val + 1) w1 w0 μ : sProp 𝕄) ⊢ WP c (panels ws k μ) (fun μ' => PSt c D ws (2 * (k.val + 1) + 1) w1 w0 μ') := by
  unfold panels
  iintro H
  iapply (WP_bind (wp_panel (pOdd_nat k) μ)) $$ H
  iintro %μ₁ H
  iapply (WP_mono (wp_panel (pEven_nat k) μ₁)) $$ H
  iintro %μ₂ H
  iexact H

theorem wp_allPanels (μ : Mxu F) :
    (PSt c D ws 1 w1 w0 μ : sProp 𝕄) ⊢ WP c (Scf.Loop.for k0_t5_loop k0_t5_ok μ fun k μ => panels (F := F) ws k μ) (fun μ' => PSt c D ws 17 w1 w0 μ') := by
  iintro H
  iapply (Scf.wp_for _ _ _ _ _ _ _ _ _ (fun k μ => PSt c D ws (2 * k + 1) w1 w0 μ) (fun k μ => wp_panels k μ))
  isplitl [H]; · iexact H
  iintro %μ' H
  iexact H

end

end Cert.KernelIdeal.Model
-- ==== Proof.Whole.lean ====
/- The body: what it is given, what it leaves. -/
module

public import proofs.«01_k».proof.Proof.Panel

@[expose] public section

set_option maxRecDepth 16384

noncomputable section

namespace Cert.KernelIdeal.Model

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section

variable (c : Dev nD) (D : In F) (ws : Memref sig .tc .vmem S1x8576 .f32)

/-- The quantiser's arrays; the result's; the weights'. -/
def QAll (K : Nat → Nat → Prop) : sProp 𝕄 :=
  iprop(InFree c D 0 (by decide) ∗ InFree c D 1 (by decide) ∗ kn c xHbm fullShare tt tt D.x
    ∗ CodFree c D 0 (by decide) ∗ CodFree c D 1 (by decide) ∗ kn c cHbm fullShare tt K D.cod
    ∗ SclFree c D 0 (by decide) ∗ SclFree c D 1 (by decide) ∗ kn c sHbm fullShare tt K D.scl
    ∗ kn c aBuf fullShare tt K D.act ∗ Ow F c)
def YAll (K : Nat → Nat → Prop) : sProp 𝕄 :=
  iprop((YFree c D 0 ∗ YSem (F := F) c 0) ∗ (YFree c D 1 ∗ YSem (F := F) c 1) ∗ kn c yHbm fullShare tt K D.y)
def WAll : sProp 𝕄 :=
  iprop(kn c w0 fullShare tt ff (D.wgt 0) ∗ kn c w1 fullShare tt ff (D.wgt 0) ∗ WpHeld c D ff 0)

/-- All of it, the results known where `K`. -/
def All (K : Nat → Nat → Prop) : sProp 𝕄 := iprop(QAll c D K ∗ YAll c D K ∗ WAll c D ∗ kn c ws fullShare tt tt D.ws)

variable {c D ws}

theorem qst_zero {P : Nat → Nat → Prop} (hP : ∀ r j, P r j ↔ (r < 128 * 0 ∨ 128 * (0 + 1) ≤ r)) :
    (iprop((InFly c D 0 ∗ kn c xHbm fullShare P tt D.x) ∗ InFree c D 1 (by decide) ∗ CodFree c D 0 (by decide) ∗ CodFree c D 1 (by decide) ∗ kn c cHbm fullShare tt ff D.cod
      ∗ SclFree c D 0 (by decide) ∗ SclFree c D 1 (by decide) ∗ kn c sHbm fullShare tt ff D.scl ∗ kn c aBuf fullShare tt ff D.act ∗ Ow F c) : sProp 𝕄) ⊢ QSt c D 0 := by
  have hx : (iprop(InFly c D 0 ∗ kn c xHbm fullShare P tt D.x) : sProp 𝕄) ⊢ InC c D 0 := by
    unfold InC
    rw [if_pos (by decide)]
    exact BI.sep_mono (BI.Entails.refl _) (kn_region fun _ _ _ _ => hP _ _)
  have hc0 : (CodFree c D 0 (by decide) : sProp 𝕄) ⊢ CodC c D 0 := by unfold CodC OutC; rw [if_pos (by decide)]
  have hc1 : (CodFree c D 1 (by decide) : sProp 𝕄) ⊢ CodC c D (0 + 1) := by unfold CodC OutC; rw [if_pos (by decide)]
  have hs0 : (SclFree c D 0 (by decide) : sProp 𝕄) ⊢ SclC c D 0 := by unfold SclC OutC; rw [if_pos (by decide)]
  have hs1 : (SclFree c D 1 (by decide) : sProp 𝕄) ⊢ SclC c D (0 + 1) := by unfold SclC OutC; rw [if_pos (by decide)]
  have hch : (kn c cHbm fullShare tt ff D.cod : sProp 𝕄) ⊢ CodH c D (0 - 2) 0 :=
    BIBase.Entails.trans (kn_region fun _ _ _ _ => by simp only [tt, true_iff]; omega) (kn_weaken fun _ _ _ _ _ h => absurd h (Nat.not_lt_zero _))
  have hsh : (kn c sHbm fullShare tt ff D.scl : sProp 𝕄) ⊢ SclH c D (0 - 2) 0 :=
    BIBase.Entails.trans (kn_region fun _ _ _ _ => by simp only [tt, true_iff]; omega) (kn_weaken fun _ _ _ _ _ h => absurd h (Nat.not_lt_zero _))
  have ha : (kn c aBuf fullShare tt ff D.act : sProp 𝕄) ⊢ kn c aBuf fullShare tt (fun r _ => r < 128 * 0) D.act :=
    kn_weaken fun _ _ _ _ _ h => absurd h (Nat.not_lt_zero _)
  iintro ⟨HX, HX1, HC0, HC1, HC, HS0, HS1, HS, HA, HO⟩
  ihave HX := hx $$ HX
  ihave HC0 := hc0 $$ HC0
  ihave HC1 := hc1 $$ HC1
  ihave HS0 := hs0 $$ HS0
  ihave HS1 := hs1 $$ HS1
  ihave HC := hch $$ HC
  ihave HS := hsh $$ HS
  ihave HA := ha $$ HA
  unfold QSt
  isplitl [HX]; · iexact HX
  isplitl [HX1]; · iexact HX1
  isplitl [HC0 HC HS0 HS HO]
  · isplitl [HC0]; · iexact HC0
    isplitl [HC]; · iexact HC
    isplitl [HS0]; · iexact HS0
    isplitl [HS]; · iexact HS
    iexact HO
  isplitl [HC1]; · iexact HC1
  isplitl [HS1]; · iexact HS1
  iexact HA

theorem st_emptied : St (emptied : Mxu F) (fun _ _ => none) (fun _ _ => none) := by
  have h := St_pop (St_pop (St_pop (St_pop (St_init (F := F)) 0 0) 1 0) 0 1) 1 1
  have e : pop1 (pop1 (pop1 (pop1 (fun _ _ => (none : Option (FVec F S256x256 .f32))) 0 0) 1 0) 0 1) 1 1 = fun _ _ => none := by
    funext q b; unfold pop1; simp
  rw [e] at h
  exact h

theorem wp_lead {R : sProp 𝕄} {f : Nat} (hA : Reads c R aBuf D.act) (hW : Reads c R w0 (D.wgt f)) :
    R ⊢ WP c (lead (F := F) emptied) (fun μ => iprop(R ∗ ⌜Mid D μ 0 1 f 0 2⌝)) := by
  unfold lead
  iintro H
  iapply (WP_bind (wp_push hW st_emptied (kt := 0) (fun _ => rfl))) $$ H
  iintro %μ₃ ⟨H, %hs₃⟩
  iapply (WP_bind (wp_accumulate hA (0 : Fin 2) hs₃ (v := D.rhs f 0) (fun q => by rw [push2_apply, if_pos rfl]))) $$ H
  iintro %μ₄ ⟨H, %hs₄⟩
  iapply (WP_bind (wp_push hW hs₄ (kt := 1) (fun q => by
    rw [clr2_apply, if_neg (by decide), push2_apply, if_neg (by decide)]))) $$ H
  iintro %μ₅ ⟨H, %hs₅⟩
  iapply (WP_bind (wp_accumulate hA (0 : Fin 2) hs₅ (v := D.rhs f 1) (fun q => by rw [push2_apply, if_pos rfl]))) $$ H
  iintro %μ₆ ⟨H, %hs₆⟩
  iapply (WP_mono (wp_push hW hs₆ (kt := 2) (fun q => by
    rw [clr2_apply, if_neg (by decide), push2_apply, if_neg (by decide), clr2_apply, if_pos (by decide)]))) $$ H
  iintro %μ₇ ⟨H, %hs₇⟩
  isplitl [H]; · iexact H
  ipureintro
  refine ⟨_, _, hs₇, fun q => ?_, fun q => ?_, fun q => ?_, fun q => ?_⟩
  · rw [push2_apply, if_pos rfl]
  · rw [push2_apply, if_neg (by decide), clr2_apply, if_pos (by decide)]
  · rw [add2_apply, if_pos rfl, add2_apply, if_pos rfl]
    rfl
  · rw [add2_apply, if_neg (by decide), add2_apply, if_neg (by decide)]

theorem mid_drained {μ μ' : Mxu F} {ρ : Fin 2 → Fin 2 → Option (FVec F S256x256 .bf16)} {α : Fin 2 → Fin 2 → Option (FVec F S256x256 .f32)} {x : Fin 2 → FVec F S256x256 .f32}
    (h : St μ (clr2 ρ (kreg 2)) (add2 α 0 x)) (hr : ∀ q, ρ q (kreg (2 + 1)) = none) (ha : ∀ q, α q 1 = none) :
    ((μ.pop 0 0 256 fits0).pop 1 0 256 fits0).Drained := by
  refine drained (St_pop (St_pop h 0 0) 1 0) (fun q r => ?_) (fun q b => ?_)
  · rw [clr2_apply]
    match r with
    | 0 => rw [if_pos (by decide)]
    | 1 => rw [if_neg (by decide)]; exact hr q
  · unfold pop1
    match b with
    | 0 => match q with
      | 0 => simp
      | 1 => simp
    | 1 => rw [if_neg (by simp), if_neg (by simp), add2_apply, if_neg (by decide)]; exact ha q

/-- The end: everything copied out, nothing under way. -/
theorem wp_finish (μ : Mxu F) :
    (PSt c D ws 17 w1 w0 μ : sProp 𝕄) ⊢ WP c (finish (F := F) μ) (fun _ => iprop(YAll c D tt ∗ (kn c aBuf fullShare tt tt D.act ∗ kn c ws fullShare tt tt D.ws ∗ Ow F c) ∗ WAll c D)) := by
  have hw0 : (kn c w0 fullShare tt (wKn 0) (D.wgt (fc (17 + 1))) : sProp 𝕄) ⊢ kn c w0 fullShare tt ff (D.wgt 0) := kn_weaken fun _ _ _ _ _ h => h.elim
  have hw1 : (kn c w1 fullShare tt tt (D.wgt (fc 17)) : sProp 𝕄) ⊢ kn c w1 fullShare tt ff (D.wgt 0) := kn_weaken fun _ _ _ _ _ h => h.elim
  have hb : (kn c wpBuf fullShare tt tt (D.wpp (fc (17 + 1))) : sProp 𝕄) ⊢ kn c wpBuf fullShare tt ff (D.wpp 0) := kn_weaken fun _ _ _ _ _ h => h.elim
  have hpl : ∀ (i : Nat) (hi : i < 4), (kn c (plane gsBuf i hi sqG) fullShare tt tt (D.gsp (fc (17 + 1)) i) : sProp 𝕄) ⊢ kn c (plane gsBuf i hi sqG) fullShare tt ff (D.gsp 0 i) :=
    fun _ _ => kn_weaken fun _ _ _ _ _ h => h.elim
  have hyt : (YTile c D 203 : sProp 𝕄) ⊢ YFree c D 1 := kn_weaken fun _ _ _ _ _ h => h.elim
  have hy : (iprop(kn c yHbm fullShare (region 203) (fun _ j => In.own j = 203 / 12) D.y ∗ kn c yHbm fullShare (outP (203 + 1)) (Ld 203) D.y) : sProp 𝕄) ⊢ kn c yHbm fullShare tt tt D.y :=
    BIBase.Entails.trans (y_landed (P := tt) (by decide) fun i j _ _ => by unfold outP; tauto)
      (kn_weaken fun i j hi hj _ _ => ⟨by have := own_16 hj; unfold Ld; omega, rfl⟩)
  have hlast : (iprop(OutRest c D 204 ∗ Ow F c) : sProp 𝕄) ⊢ WP c (yWait (F := F) (Scalar.muli 11#32 512#32).toNat (colOf 16#32).toNat 1 (by decide +kernel) (by decide +kernel) (by decide))
      (fun _ => iprop((kn c yHbm fullShare (region 203) (fun _ j => In.own j = 203 / 12) D.y ∗ YTile c D 203) ∗ YSem (F := F) c 1 ∗ Ow F c)) := by
    unfold yWait
    exact wp_wait (src' := ySrc 1 (by decide)) (dst' := yDst (Scalar.muli 11#32 512#32).toNat (colOf 16#32).toNat (by decide +kernel)) (N := credY) rfl
  unfold PSt Base finish
  iintro ⟨⟨⟨HA, HW1, HWS⟩, HW0, HF, HY, HO⟩, %hm⟩
  obtain ⟨ρ, α, hst, hr, hn, ha, ha'⟩ := hm
  ihave HY := (yst_succ (c := c) (D := D) (s := 203)) $$ HY
  iapply (WP_bind (wp_yStart (D := D) (s := 203) (by decide) (by decide +kernel) (by decide +kernel) (by decide))) $$ HY
  iintro %_ ⟨HY, HR, HR'⟩
  iapply (WP_bind (wp_accumulate reads_kn (0 : Fin 2) hst hr)) $$ HA
  iintro %μ₁ ⟨HA, %hst₁⟩
  iapply (WP_bind wp_waitWp) $$ [HF HO]
  · isplitl [HF]; · iexact HF
    iexact HO
  unfold WpHeld Planes
  iintro %_ ⟨⟨⟨HB, HP0, HP1, HP2, HP3⟩, HH, HS⟩, HO⟩
  iapply (WP_bind (wp_yWait (D := D) (s := 202) (by decide) (by decide))) $$ [HY HR HO]
  · isplitr [HO]
    · isplitl [HY]; · iexact HY
      iexact HR
    iexact HO
  iintro %_ ⟨⟨HF0, HS0, HY⟩, HO⟩
  iapply (WP_bind hlast) $$ [HR' HO]
  · isplitl [HR']; · iexact HR'
    iexact HO
  iintro %_ ⟨⟨HD, HT⟩, HS1, HO⟩
  iapply (Mxu.wp_exit (mid_drained (μ' := μ) hst₁ hn ha'))
  iapply WP_pure
  ihave HW0 := hw0 $$ HW0
  ihave HW1 := hw1 $$ HW1
  ihave HB := hb $$ HB
  ihave HP0 := hpl 0 _ $$ HP0
  ihave HP1 := hpl 1 _ $$ HP1
  ihave HP2 := hpl 2 _ $$ HP2
  ihave HP3 := hpl 3 _ $$ HP3
  ihave HT := hyt $$ HT
  ihave HY := hy $$ [HD HY]
  · isplitl [HD]; · iexact HD
    iexact HY
  unfold YAll WAll WpHeld Planes
  isplitl [HF0 HS0 HT HS1 HY]
  · isplitl [HF0 HS0]
    · isplitl [HF0]; · iexact HF0
      iexact HS0
    isplitl [HT HS1]
    · isplitl [HT]; · iexact HT
      iexact HS1
    iexact HY
  isplitl [HA HWS HO]
  · isplitl [HA]; · iexact HA
    isplitl [HWS]; · iexact HWS
    iexact HO
  isplitl [HW0]; · iexact HW0
  isplitl [HW1]; · iexact HW1
  isplitl [HB HP0 HP1 HP2 HP3]
  · isplitl [HB]; · iexact HB
    isplitl [HP0]; · iexact HP0
    isplitl [HP1]; · iexact HP1
    isplitl [HP2]; · iexact HP2
    iexact HP3
  isplitl [HH]; · iexact HH
  iexact HS

/-- The whole body. -/
theorem wp_body : (All c D ws ff : sProp 𝕄) ⊢ WP c (body (F := F) ws) (fun _ => All c D ws tt) := by
  have hP : Parts 6144 3456 tt (InRect (128 * 0) 0 128 3456) (fun r _ => r < 128 * 0 ∨ 128 * (0 + 1) ≤ r) :=
    fun i j _ hj => ⟨by simp only [tt, InRect, true_iff]; omega, by unfold InRect; omega⟩
  have hy0 : (iprop((YFree c D 0 ∗ YSem (F := F) c 0) ∗ (YFree c D 1 ∗ YSem (F := F) c 1) ∗ kn c yHbm fullShare tt ff D.y) : sProp 𝕄) ⊢ YSt c D 0 := by
    have hk : (kn c yHbm fullShare tt ff D.y : sProp 𝕄) ⊢ kn c yHbm fullShare (outP 0) (Ld (0 - 1)) D.y := kn_weaken fun _ _ _ _ _ h => absurd h (Nat.not_lt_zero _)
    have h : (iprop((YFree c D 0 ∗ YSem (F := F) c 0) ∗ (YFree c D 1 ∗ YSem (F := F) c 1) ∗ kn c yHbm fullShare (outP 0) (Ld (0 - 1)) D.y) : sProp 𝕄)
        ⊢ iprop(YFree c D 0 ∗ YSem (F := F) c 0 ∗ kn c yHbm fullShare (outP 0) (Ld (0 - 1)) D.y ∗ (YFree c D 1 ∗ YSem (F := F) c 1)) := by
      iintro ⟨⟨HF, HS⟩, HR, HY⟩
      isplitl [HF]; · iexact HF
      isplitl [HS]; · iexact HS
      isplitl [HY]; · iexact HY
      iexact HR
    exact BIBase.Entails.trans (BI.sep_mono (BI.Entails.refl _) (BI.sep_mono (BI.Entails.refl _) hk)) h
  unfold All QAll YAll WAll body
  iintro ⟨⟨HX0, HX1, HX, HC0, HC1, HC, HS0, HS1, HS, HA, HO⟩, HY, ⟨HW0, HW1, HWp⟩, HWs⟩
  ihave HY := hy0 $$ HY
  iapply (WP_bind (wp_startWp (K := ff) (f := 0) (f' := fc 0) rfl)) $$ HWp
  iintro %_ HF
  iapply (WP_bind (wp_xStart (n := 0) rfl rfl hP)) $$ [HX0 HX]
  · isplitl [HX0]; · iexact HX0
    iexact HX
  iintro %_ HX
  iapply (WP_bind (wp_zeroTail (D := D) (f := fc 0))) $$ HW0
  iintro %_ HW0
  iapply (WP_bind (wp_zeroTail (D := D) (f := fc 1))) $$ HW1
  iintro %_ HW1
  ihave HQ := (qst_zero (c := c) (D := D) (P := fun r _ => r < 128 * 0 ∨ 128 * (0 + 1) ≤ r) (fun _ _ => Iff.rfl)) $$ [HX HX1 HC0 HC1 HC HS0 HS1 HS HA HO]
  · isplitl [HX]; · iexact HX
    isplitl [HX1]; · iexact HX1
    isplitl [HC0]; · iexact HC0
    isplitl [HC1]; · iexact HC1
    isplitl [HC]; · iexact HC
    isplitl [HS0]; · iexact HS0
    isplitl [HS1]; · iexact HS1
    isplitl [HS]; · iexact HS
    isplitl [HA]; · iexact HA
    iexact HO
  iapply (WP_bind (wp_quantAll (c := c) (D := D))) $$ HQ
  unfold QEnd
  iintro %_ ⟨HX0, HX1, HX, HC0, HC1, HC, HS0, HS1, HS, HA, HO⟩
  iapply (WP_bind (wp_widenAll (c := c) (D := D))) $$ [HW0 HF HO]
  · isplitl [HW0]; · iexact HW0
    isplitl [HF]; · iexact HF
    iexact HO
  iintro %_ ⟨HW0, HF, HO⟩
  iapply (WP_bind (wp_lead (c := c) (D := D) (R := Base c D ws w0 (fc 0)) base_act base_wgt)) $$ [HA HW0 HWs]
  · unfold Base
    isplitl [HA]; · iexact HA
    isplitl [HW0]; · iexact HW0
    iexact HWs
  iintro %μ ⟨HB, %hm⟩
  iapply (WP_bind (wp_panel0 (c := c) (D := D) rfl μ)) $$ [HB HW1 HF HY HO]
  · unfold PSt
    isplitl
    · isplitl [HB]; · iexact HB
      isplitl [HW1]; · iexact HW1
      isplitl [HF]; · iexact HF
      isplitl [HY]; · iexact HY
      iexact HO
    ipureintro; exact hm
  iintro %μ₁ H
  iapply (WP_bind (wp_allPanels μ₁)) $$ H
  iintro %μ₂ H
  iapply (WP_mono (wp_finish μ₂)) $$ H
  unfold YAll WAll
  iintro %_ ⟨HY, ⟨HA, HWs, HO⟩, HW⟩
  isplitl [HX0 HX1 HX HC0 HC1 HC HS0 HS1 HS HA HO]
  · isplitl [HX0]; · iexact HX0
    isplitl [HX1]; · iexact HX1
    isplitl [HX]; · iexact HX
    isplitl [HC0]; · iexact HC0
    isplitl [HC1]; · iexact HC1
    isplitl [HC]; · iexact HC
    isplitl [HS0]; · iexact HS0
    isplitl [HS1]; · iexact HS1
    isplitl [HS]; · iexact HS
    isplitl [HA]; · iexact HA
    iexact HO
  isplitl [HY]; · iexact HY
  isplitl [HW]; · iexact HW
  iexact HWs

end

end Cert.KernelIdeal.Model
-- ==== Proof.Hold.lean ====
/- Whole buffers as the body holds them, and back. -/
module

public import proofs.«01_k».proof.Proof.Whole
public import Idealize.ShloMosaic.Lib.Pipeline.FrameValue

@[expose] public section

set_option maxRecDepth 16384

noncomputable section

namespace Cert.KernelIdeal.Model

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Two

variable {c : Dev nD} {sp : Space} {R C : Nat} {e : EltTy} {M : Memref sig .tc sp ⟨2, ![R, C]⟩ e} {q : PosShare TreeShare} {K : Nat → Nat → Prop} {G : Nat → Nat → Elt F e}

theorem cells_all (hM : M.IsWhole) : cells M tt = Finset.univ := by
  rw [← Memref.IsWhole.set_eq_univ hM]
  ext i
  constructor
  · intro h
    obtain ⟨x, rfl, -⟩ := exists_of_mem_cells h
    exact M.view.emb_mem_set x
  · intro h
    obtain ⟨x, -, rfl⟩ := Finset.mem_map.mp h
    exact mem_cells.2 trivial

theorem kn_of_whole (hM : M.IsWhole) (f : Buf (Elt F) (M.view.loc (c : Thread nD τ))) (h : ∀ x, K (x 0).val (x 1).val → M.view.read (Elt F) f x = G (x 0).val (x 1).val) :
    (M.view.loc (c : Thread nD τ) ↦{q} f : sProp 𝕄) ⊢ kn c M q tt K G := by
  unfold kn
  rw [cells_all hM]
  iintro H
  iexists f
  isplitl [H]; · iexact H
  ipureintro
  exact fun x _ hK => h x hK

theorem whole_of_kn (hM : M.IsWhole) :
    (kn c M q tt K G : sProp 𝕄) ⊢ iprop(∃ f : Buf (Elt F) (M.view.loc (c : Thread nD τ)), (M.view.loc (c : Thread nD τ) ↦{q} f)
      ∗ ⌜∀ x, K (x 0).val (x 1).val → M.view.read (Elt F) f x = G (x 0).val (x 1).val⌝) := by
  unfold kn
  rw [cells_all hM]
  iintro ⟨%f, H, %h⟩
  iexists f
  isplitl [H]; · iexact H
  ipureintro
  exact fun x hK => h x trivial hK

theorem kn_of_any (hM : M.IsWhole) :
    (iprop(∃ f : Buf (Elt F) (M.view.loc (c : Thread nD τ)), M.view.loc (c : Thread nD τ) ↦{q} f) : sProp 𝕄) ⊢ kn c M q tt ff G := by
  iintro ⟨%f, H⟩
  iapply (kn_of_whole hM f (fun _ h => h.elim)) $$ H

theorem any_of_kn (hM : M.IsWhole) :
    (kn c M q tt K G : sProp 𝕄) ⊢ iprop(∃ f : Buf (Elt F) (M.view.loc (c : Thread nD τ)), M.view.loc (c : Thread nD τ) ↦{q} f) := by
  iintro H
  ihave H := (whole_of_kn hM) $$ H
  icases H with ⟨%f, H, -⟩
  iexists f
  iexact H

end Two

section Three

variable {c : Dev nD} {sp : Space} {Q R C : Nat} {e : EltTy} {M : Memref sig .tc sp ⟨3, ![Q, R, C]⟩ e} {q : PosShare TreeShare} {K : Nat → Nat → Prop} {G G' : Nat → Nat → Elt F e}

/-- The first `k` planes. -/
def low (M : Memref sig .tc sp ⟨3, ![Q, R, C]⟩ e) (k : Nat) : Finset M.view.ty.Idx :=
  M.view.setOn (by classical exact Finset.univ.filter fun x => (x 0).val < k)

theorem mem_low {k : Nat} {x : (⟨3, ![Q, R, C]⟩ : Shape).Idx} : M.view.emb x ∈ low M k ↔ (x 0).val < k := by
  classical
  unfold low; rw [View.mem_setOn]; simp

theorem exists_of_mem_low {k : Nat} {i : M.view.ty.Idx} (h : i ∈ low M k) : ∃ x, M.view.emb x = i ∧ (x 0).val < k := by
  classical
  obtain ⟨x, hx, rfl⟩ := Finset.mem_map.mp h
  exact ⟨x, rfl, mem_low.1 h⟩

theorem mem_plane {k : Nat} {hk : k < Q} {hs} {i : M.view.ty.Idx} : i ∈ cells (plane M k hk hs) tt ↔ ∃ x, M.view.emb x = i ∧ (x 0).val = k := by
  constructor
  · intro h
    obtain ⟨x, hx, -⟩ := exists_of_mem_cells h
    have e := plane_emb (M := M) (hi := hk) (hs := hs) x (ValueIdx.ix3 ⟨k, hk⟩ (x 0) (x 1)) rfl rfl rfl
    exact ⟨_, e.symm.trans hx, rfl⟩
  · rintro ⟨x, rfl, h0⟩
    have e := plane_emb (M := M) (hi := hk) (hs := hs) (ValueIdx.ix2 (x 1) (x 2)) x h0 rfl rfl
    rw [← e]
    exact mem_cells.2 trivial

theorem low_succ {k : Nat} {hk : k < Q} {hs} : low M (k + 1) = low M k ∪ cells (plane M k hk hs) tt ∧ Disjoint (low M k) (cells (plane M k hk hs) tt) := by
  classical
  constructor
  · ext i
    rw [Finset.mem_union]
    constructor
    · intro h
      obtain ⟨x, rfl, hx⟩ := exists_of_mem_low h
      by_cases hlt : (x 0).val < k
      · exact .inl (mem_low.2 hlt)
      · exact .inr (mem_plane.2 ⟨x, rfl, by omega⟩)
    · rintro (h | h)
      · obtain ⟨x, rfl, hx⟩ := exists_of_mem_low h
        exact mem_low.2 (by omega)
      · obtain ⟨x, rfl, hx⟩ := mem_plane.1 h
        exact mem_low.2 (by omega)
  · rw [Finset.disjoint_left]
    intro i h h'
    obtain ⟨x, rfl, hx⟩ := exists_of_mem_low h
    obtain ⟨y, hy, hyk⟩ := mem_plane.1 h'
    have := M.view.emb.injective hy
    subst this
    omega

theorem low_zero : low M 0 = ∅ := by
  ext i
  constructor
  · intro h
    obtain ⟨x, -, hx⟩ := exists_of_mem_low h
    omega
  · intro h; simp at h

theorem low_all (hM : M.IsWhole) : low M Q = Finset.univ := by
  rw [← Memref.IsWhole.set_eq_univ hM]
  ext i
  constructor
  · intro h
    obtain ⟨x, rfl, -⟩ := exists_of_mem_low h
    exact M.view.emb_mem_set x
  · intro h
    obtain ⟨x, -, rfl⟩ := Finset.mem_map.mp h
    exact mem_low.2 (x 0).isLt

/-- The first `k` planes, at anything. -/
def lowAny (c : Dev nD) (M : Memref sig .tc sp ⟨3, ![Q, R, C]⟩ e) (q : PosShare TreeShare) (k : Nat) : sProp 𝕄 :=
  iprop(∃ f : Buf (Elt F) (M.view.loc (c : Thread nD τ)), M.view.loc (c : Thread nD τ) ↦[low M k]{q} f)

theorem low_take {k : Nat} {hk : k < Q} {hs} : (lowAny c M q (k + 1) : sProp 𝕄) ⊢ iprop(lowAny c M q k ∗ kn c (plane M k hk hs) q tt ff G) := by
  classical
  unfold lowAny
  rw [(low_succ (M := M) (hk := hk) (hs := hs)).1]
  iintro ⟨%f, Hf⟩
  ihave H := (pointsTo_union (low_succ (M := M) (hk := hk) (hs := hs)).2).1 $$ Hf
  icases H with ⟨H1, H2⟩
  isplitl [H1]
  · iexists f; iexact H1
  unfold kn
  iexists f
  isplitl [H2]; · iexact H2
  ipureintro; exact fun _ _ h => h.elim

theorem low_give {k : Nat} {hk : k < Q} {hs} : (iprop(lowAny c M q k ∗ kn c (plane M k hk hs) q tt K G) : sProp 𝕄) ⊢ lowAny c M q (k + 1) := by
  classical
  unfold lowAny kn
  rw [(low_succ (M := M) (hk := hk) (hs := hs)).1]
  iintro ⟨⟨%f, Hf⟩, ⟨%g, Hg, -⟩⟩
  iexists _
  iapply (pointsTo_join (low_succ (M := M) (hk := hk) (hs := hs)).2)
  isplitl [Hf]; · iexact Hf
  iexact Hg

theorem low_one {hk : 0 < Q} {hs} : (kn c (plane M 0 hk hs) q tt K G : sProp 𝕄) ⊢ lowAny c M q 1 := by
  classical
  have e : low M 1 = cells (plane M 0 hk hs) tt := by
    rw [(low_succ (M := M) (k := 0) (hk := hk) (hs := hs)).1, low_zero, Finset.empty_union]
  unfold lowAny kn
  rw [e]
  iintro ⟨%f, Hf, -⟩
  iexists f
  iexact Hf

theorem one_low {hk : 0 < Q} {hs} : (lowAny c M q 1 : sProp 𝕄) ⊢ kn c (plane M 0 hk hs) q tt ff G := by
  classical
  have e : low M 1 = cells (plane M 0 hk hs) tt := by
    rw [(low_succ (M := M) (k := 0) (hk := hk) (hs := hs)).1, low_zero, Finset.empty_union]
  unfold lowAny kn
  rw [e]
  iintro ⟨%f, Hf⟩
  iexists f
  isplitl [Hf]; · iexact Hf
  ipureintro; exact fun _ _ h => h.elim

theorem low_any (hM : M.IsWhole) : (lowAny c M q Q : sProp 𝕄) ⊢ iprop(∃ f : Buf (Elt F) (M.view.loc (c : Thread nD τ)), M.view.loc (c : Thread nD τ) ↦{q} f) := by
  unfold lowAny; rw [low_all hM]

theorem any_low (hM : M.IsWhole) : (iprop(∃ f : Buf (Elt F) (M.view.loc (c : Thread nD τ)), M.view.loc (c : Thread nD τ) ↦{q} f) : sProp 𝕄) ⊢ lowAny c M q Q := by
  unfold lowAny; rw [low_all hM]

end Three

section Slots

variable {c : Dev nD} {sp : Space} {R C : Nat} {e : EltTy} {q : PosShare TreeShare} {K K' K₂ K₃ : Nat → Nat → Prop} {G G' G₂ G₃ : Nat → Nat → Elt F e}

theorem two_in {M : Memref sig .tc sp ⟨3, ![2, R, C]⟩ e} (hM : M.IsWhole) {hs} :
    (iprop(∃ f : Buf (Elt F) (M.view.loc (c : Thread nD τ)), M.view.loc (c : Thread nD τ) ↦{q} f) : sProp 𝕄)
      ⊢ iprop(kn c (plane M 0 (by decide) hs) q tt ff G ∗ kn c (plane M 1 (by decide) hs) q tt ff G') :=
  BIBase.Entails.trans (any_low hM) (BIBase.Entails.trans (low_take (k := 1)) (BI.sep_mono one_low (BI.Entails.refl _)))

theorem two_out {M : Memref sig .tc sp ⟨3, ![2, R, C]⟩ e} (hM : M.IsWhole) {hs} :
    (iprop(kn c (plane M 0 (by decide) hs) q tt K G ∗ kn c (plane M 1 (by decide) hs) q tt K' G') : sProp 𝕄)
      ⊢ iprop(∃ f : Buf (Elt F) (M.view.loc (c : Thread nD τ)), M.view.loc (c : Thread nD τ) ↦{q} f) :=
  BIBase.Entails.trans (BI.sep_mono low_one (BI.Entails.refl _)) (BIBase.Entails.trans (low_give (k := 1)) (low_any hM))

theorem four_in {M : Memref sig .tc sp ⟨3, ![4, R, C]⟩ e} (hM : M.IsWhole) {hs} :
    (iprop(∃ f : Buf (Elt F) (M.view.loc (c : Thread nD τ)), M.view.loc (c : Thread nD τ) ↦{q} f) : sProp 𝕄)
      ⊢ iprop(((kn c (plane M 0 (by decide) hs) q tt ff G ∗ kn c (plane M 1 (by decide) hs) q tt ff G') ∗ kn c (plane M 2 (by decide) hs) q tt ff G₂)
        ∗ kn c (plane M 3 (by decide) hs) q tt ff G₃) :=
  BIBase.Entails.trans (any_low hM) (BIBase.Entails.trans (low_take (k := 3)) (BI.sep_mono (BIBase.Entails.trans (low_take (k := 2))
    (BI.sep_mono (BIBase.Entails.trans (low_take (k := 1)) (BI.sep_mono one_low (BI.Entails.refl _))) (BI.Entails.refl _))) (BI.Entails.refl _)))

theorem four_out {M : Memref sig .tc sp ⟨3, ![4, R, C]⟩ e} (hM : M.IsWhole) {hs} :
    (iprop(((kn c (plane M 0 (by decide) hs) q tt K G ∗ kn c (plane M 1 (by decide) hs) q tt K' G') ∗ kn c (plane M 2 (by decide) hs) q tt K₂ G₂)
        ∗ kn c (plane M 3 (by decide) hs) q tt K₃ G₃) : sProp 𝕄)
      ⊢ iprop(∃ f : Buf (Elt F) (M.view.loc (c : Thread nD τ)), M.view.loc (c : Thread nD τ) ↦{q} f) :=
  BIBase.Entails.trans (BI.sep_mono (BIBase.Entails.trans (BI.sep_mono (BIBase.Entails.trans (BI.sep_mono low_one (BI.Entails.refl _)) (low_give (k := 1))) (BI.Entails.refl _))
    (low_give (k := 2))) (BI.Entails.refl _)) (BIBase.Entails.trans (low_give (k := 3)) (low_any hM))

end Slots

end Cert.KernelIdeal.Model
-- ==== Proof.BodyEq.lean ====
/- The printed body is the body of the model: the steps, written once, in the same order. -/
module
public import proofs.«01_k».proof.Proof.Model
public import Idealize.ShloMosaic.Lib.Tactic
@[expose] public section

noncomputable section

namespace Cert.KernelIdeal.Model
open Idealize.ShloMosaic Idealize.SL.Sem Idealize.ShloMosaic.Tactic

variable {F : FTy → Type} [FloatOps F]

/-- What follows a conditional follows each of its branches. -/
theorem dite_bind {α β : Type} {c : Prop} [Decidable c] (a : c → PM F α) (b : ¬c → PM F α) (k : α → PM F β) :
    (dite c a b >>= k) = dite c (fun h => a h >>= k) (fun h => b h >>= k) := by
  split <;> rfl

set_option maxRecDepth 100000 in
/-- The printed body is the model's. -/
theorem body_eq (ws : Memref sig .tc .vmem S1x8576 .f32) (hws : ws.IsWhole) :
    cc0__body (F := F) (Memref.whole main_v0) (Memref.isWhole_whole _) (Memref.whole main_v1) (Memref.isWhole_whole _)
      (Memref.whole main_arg2) (Memref.isWhole_whole _) ws hws (Memref.whole main_v3_0) (Memref.isWhole_whole _)
      (Memref.whole main_v3_1) (Memref.isWhole_whole _) (Memref.whole main_v3_2) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      (Memref.whole cc0_scratch8) (Memref.isWhole_whole _) cc0_scratch9 cc0_scratch10 cc0_scratch11 cc0_scratch12 cc0_scratch13
      = body ws := by
  simp only [cc0__body, k0_part163, k0_part131, k0_part134, k0_part147, k0_part150, k0_part166, k0_part173, k0_part176, k0_part186,
    body, quantAll, widenAll, panel0, panels, panel, bind_assoc, pure_bind, dite_bind, k0_part1, k0_part43, k0_part62, quantStep, quantNext, quantPast, head0]
  sl_kernel_rfl

end Cert.KernelIdeal.Model
-- ==== Proof.Launch.lean ====
/- The launch: the buffers and semaphores the region hands the body, as the body holds them, and what the run ends with. -/
module

public import proofs.«01_k».proof.Proof.Hold
public import proofs.«01_k».proof.Proof.BodyEq
public import proofs.«01_k».proof.Proof.Gen.KernelIdeal.Frame

@[expose] public section

set_option maxRecDepth 16384

noncomputable section

namespace Cert.KernelIdeal.Model

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- An array as a function of two numbers, and back. -/
def fn2 {α : Type} {R C : Nat} (hR : 0 < R) (hC : 0 < C) (f : (⟨2, ![R, C]⟩ : Shape).Idx → α) (r j : Nat) : α :=
  f (ValueIdx.ix2 ⟨r % R, Nat.mod_lt _ hR⟩ ⟨j % C, Nat.mod_lt _ hC⟩)
def arr2 {α : Type} {R C : Nat} (G : Nat → Nat → α) : (⟨2, ![R, C]⟩ : Shape).Idx → α := fun x => G (x 0).val (x 1).val

theorem fn2_val {α : Type} {R C : Nat} (hR : 0 < R) (hC : 0 < C) (f : (⟨2, ![R, C]⟩ : Shape).Idx → α) (x : (⟨2, ![R, C]⟩ : Shape).Idx) :
    fn2 hR hC f (x 0).val (x 1).val = f x := by
  unfold fn2
  congr 1
  funext a
  match a with
  | 0 => exact Fin.ext (Nat.mod_eq_of_lt (x 0).isLt)
  | 1 => exact Fin.ext (Nat.mod_eq_of_lt (x 1).isLt)

section Named

variable {c : Dev nD} {sp : Space} {R C : Nat} {e : EltTy} {M : Memref sig .tc sp ⟨2, ![R, C]⟩ e} {q : PosShare TreeShare} {G : Nat → Nat → Elt F e}

theorem named_of_kn (hM : M.IsWhole) (f : Buf (Elt F) (M.view.loc (c : Thread nD τ))) (h : ∀ x, M.view.read (Elt F) f x = G (x 0).val (x 1).val) :
    (kn c M q tt tt G : sProp 𝕄) ⊢ (M.view.loc (c : Thread nD τ) ↦{q} f) := by
  unfold kn
  iintro ⟨%g, H, %hg⟩
  have e : (M.view.loc (c : Thread nD τ) ↦[cells M tt]{q} g : sProp 𝕄) = (M.view.loc (c : Thread nD τ) ↦{q} f) := by
    rw [cells_all hM]
    refine congrArg _ ?_
    funext i
    obtain ⟨x, -, rfl⟩ := Finset.mem_map.mp (show i ∈ M.view.set by rw [Memref.IsWhole.set_eq_univ hM]; exact Finset.mem_univ _)
    have h1 := (hg x trivial trivial).trans (h x).symm
    exact View.eq_of_read_eq h1
  rw [← e]
  iexact H

end Named

variable (m : (ℓ : Loc nD τ sig) → Buf (Elt F) ℓ) (ρ : Dev nD → PrngReg)

/-! ## @main up to the region -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- The one point of the grid. -/
abbrev zpt : Fin cfg0.N := (0 : Fin 1)

/-- What the kernel reads. -/
def inOf (c : Dev nD) : In F where
  x := fn2 (R := 6144) (C := 3456) (by decide) (by decide) (V m c main_v0)
  wp := fn2 (R := 3456) (C := 4352) (by decide) (by decide) (V m c main_v1)
  gs := fn2 (R := 27) (C := 8576) (by decide) (by decide) (V m c main_arg2)
  ws := fn2 (R := 1) (C := 8576) (by decide) (by decide) (iblk m c 0 zpt)

/-! ## What the region owns -/

/-- The three results. -/
def R0 : Finset (Ref sig .tc) := {main_v3_0, main_v3_1, main_v3_2}
/-- The three operands read where they are. -/
def H0 : Finset (Ref sig .tc) := {main_v0, main_v1, main_arg2}
theorem H0_sub : H0 ⊆ Pipeline.restRefs sig spec0 := by decide
theorem R0_sub : R0 ⊆ Pipeline.restRefs sig spec0 \ H0 := by decide

abbrev osem0 : Fin 10 → SemLoc sig := fun j => (![SemLoc.dma 1, SemLoc.dma 2, SemLoc.dma 3, SemLoc.dma 4, SemLoc.dma 5, SemLoc.dma 6, SemLoc.dma 7, SemLoc.dma 8,
  SemLoc.dma 9, SemLoc.dma 10] : Fin 10 → SemLoc sig) j
theorem ownSemFacts0 : Pipeline.OwnSemFacts spec0 osem0 := by decide

abbrev sv (c : Dev nD) (j : DmaSem sig) : sProp 𝕄 := semVal ((c : Thread nD τ), SemLoc.dma j) 0
theorem ownSems00_eq (c : Dev nD) :
    (Pipeline.ownSems0 (Ix := Unit) (Name := ℕ) (U := Pipeline.UD sig nD τ) (Lvl := ℕ) (Val := Elt F) (τ := τ) osem0 c : sProp 𝕄)
      = iprop(sv (F := F) c 1 ∗ sv (F := F) c 2 ∗ sv (F := F) c 3 ∗ sv (F := F) c 4 ∗ sv (F := F) c 5 ∗ sv (F := F) c 6 ∗ sv (F := F) c 7 ∗ sv (F := F) c 8 ∗ sv (F := F) c 9 ∗ sv (F := F) c 10) := by
  rw [Pipeline.ownSems0_eq_of_list c osem0 [0, 1, 2, 3, 4, 5, 6, 7, 8, 9] (by decide) (by decide)]; rfl

abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f
abbrev pta (c : Dev nD) {sp : Space} {S : Shape} {e : EltTy} (M : Memref sig .tc sp S e) : sProp 𝕄 := iprop(∃ f, pt (F := F) c M f)

theorem hbmPts0_eq (c : Dev nD) :
    (bigSep H0 (fun b => ((c : Thread nD τ).loc b) ↦{fullShare} V m c b) : sProp 𝕄)
      = iprop(pt c xHbm (V m c main_v0) ∗ pt c wpHbm (V m c main_v1) ∗ pt c gsHbm (V m c main_arg2)) := by
  rw [BI.bigSep_eq_bigSepL_of_eq [main_v0, main_v1, main_arg2] (by decide) (by decide)]; rfl

/-- The results' contents at the end. -/
def G (c : Dev nD) : (b : Ref sig .tc) → Buf (Elt F) ((c : Thread nD τ).loc b) :=
  Function.update (Function.update (Function.update (V m c) main_v3_0 (arr2 (R := 6144) (C := 8576) (inOf m c).y)) main_v3_1 (arr2 (R := 6144) (C := 3456) (inOf m c).cod))
    main_v3_2 (arr2 (R := 6144) (C := 27) (inOf m c).scl)

theorem routed_eq (c : Dev nD) (W : (b : Ref sig .tc) → Buf (Elt F) ((c : Thread nD τ).loc b)) :
    (Pipeline.routed R0 c W : sProp 𝕄) = iprop(pt c yHbm (W main_v3_0) ∗ pt c cHbm (W main_v3_1) ∗ pt c sHbm (W main_v3_2)) := by
  unfold Pipeline.routed
  rw [BI.bigSep_eq_bigSepL_of_eq [main_v3_0, main_v3_1, main_v3_2] (by decide) (by decide)]; rfl

theorem G_y (c : Dev nD) : G m c main_v3_0 = arr2 (R := 6144) (C := 8576) (inOf m c).y := by
  unfold G
  rw [Function.update_of_ne (by decide), Function.update_of_ne (by decide), Function.update_self]
theorem G_cod (c : Dev nD) : G m c main_v3_1 = arr2 (R := 6144) (C := 3456) (inOf m c).cod := by
  unfold G
  rw [Function.update_of_ne (by decide), Function.update_self]
theorem G_scl (c : Dev nD) : G m c main_v3_2 = arr2 (R := 6144) (C := 27) (inOf m c).scl := by
  unfold G
  rw [Function.update_self]

abbrev scratch (c : Dev nD) : sProp 𝕄 :=
  iprop(pta (F := F) c aBuf ∗ pta (F := F) c w0 ∗ pta (F := F) c w1 ∗ pta (F := F) c wpBuf ∗ pta (F := F) c gsBuf ∗ pta (F := F) c xBuf ∗ pta (F := F) c cBuf
    ∗ pta (F := F) c sBuf ∗ pta (F := F) c yBuf)

theorem phi_eq (c : Dev nD) (W : (c : Dev nD) → (b : Ref sig .tc) → Buf (Elt F) ((c : Thread nD τ).loc b)) :
    (Pipeline.ΦDRG osem0 spec0 H0 R0 (V m) W c : sProp 𝕄)
      = iprop(scratch (F := F) c ∗ (∃ r, prngReg c r)
        ∗ (sv (F := F) c 1 ∗ sv (F := F) c 2 ∗ sv (F := F) c 3 ∗ sv (F := F) c 4 ∗ sv (F := F) c 5 ∗ sv (F := F) c 6 ∗ sv (F := F) c 7 ∗ sv (F := F) c 8 ∗ sv (F := F) c 9 ∗ sv (F := F) c 10)
        ∗ (pt c xHbm (V m c main_v0) ∗ pt c wpHbm (V m c main_v1) ∗ pt c gsHbm (V m c main_arg2))
        ∗ (pt c yHbm (W c main_v3_0) ∗ pt c cHbm (W c main_v3_1) ∗ pt c sHbm (W c main_v3_2))) := by
  rw [Pipeline.ΦDRG_eq, scopedRest0_eq, ownSems00_eq, hbmPts0_eq, routed_eq]

/-! ## Into the body's own account, and back -/

theorem ws_in (c : Dev nD) (ws : Memref sig .tc .vmem S1x8576 .f32) (hws : ws.IsWhole) :
    (owns (c : Thread nD τ) ws fullShare (iblk m c 0 zpt) : sProp 𝕄) ⊢ kn c ws fullShare tt tt (inOf m c).ws := by
  unfold owns
  iintro ⟨%f, %hf, H⟩
  rw [Memref.IsWhole.set_eq_univ hws]
  iapply (kn_of_whole hws f (fun x _ => by rw [hf]; exact (fn2_val (R := 1) (C := 8576) (by decide) (by decide) _ x).symm)) $$ H

theorem ws_out (c : Dev nD) (ws : Memref sig .tc .vmem S1x8576 .f32) (hws : ws.IsWhole) :
    (kn c ws fullShare tt tt (inOf m c).ws : sProp 𝕄) ⊢ owns (c : Thread nD τ) ws fullShare (iblk m c 0 zpt) := by
  have h := whole_of_kn (c := c) (q := fullShare) (K := tt) (G := (inOf m c).ws) hws
  unfold owns
  rw [Memref.IsWhole.set_eq_univ hws]
  iintro H
  ihave H := h $$ H
  icases H with ⟨%f, H, %hf⟩
  iexists f
  isplitr [H]
  · ipureintro
    funext x
    have e : (inOf m c).ws (x 0).val (x 1).val = iblk m c 0 zpt x := fn2_val (R := 1) (C := 8576) (by decide) (by decide) (iblk m c 0 zpt) x
    exact (hf x trivial).trans e
  iexact H

theorem all_in (c : Dev nD) (ws : Memref sig .tc .vmem S1x8576 .f32) (hws : ws.IsWhole) :
    (iprop((scratch (F := F) c ∗ (∃ r, prngReg c r)
        ∗ (sv (F := F) c 1 ∗ sv (F := F) c 2 ∗ sv (F := F) c 3 ∗ sv (F := F) c 4 ∗ sv (F := F) c 5 ∗ sv (F := F) c 6 ∗ sv (F := F) c 7 ∗ sv (F := F) c 8 ∗ sv (F := F) c 9 ∗ sv (F := F) c 10)
        ∗ (pt c xHbm (V m c main_v0) ∗ pt c wpHbm (V m c main_v1) ∗ pt c gsHbm (V m c main_arg2))
        ∗ (pt c yHbm (V m c main_v3_0) ∗ pt c cHbm (V m c main_v3_1) ∗ pt c sHbm (V m c main_v3_2)))
      ∗ Ow F c ∗ owns (c : Thread nD τ) ws fullShare (iblk m c 0 zpt)) : sProp 𝕄) ⊢ iprop((∃ r, prngReg c r) ∗ All c (inOf m c) ws ff) := by
  have hA : pta (F := F) c aBuf ⊢ kn c aBuf fullShare tt ff (inOf m c).act := kn_of_any (Memref.isWhole_whole _)
  have hW0 : pta (F := F) c w0 ⊢ kn c w0 fullShare tt ff ((inOf m c).wgt 0) := kn_of_any (Memref.isWhole_whole _)
  have hW1 : pta (F := F) c w1 ⊢ kn c w1 fullShare tt ff ((inOf m c).wgt 0) := kn_of_any (Memref.isWhole_whole _)
  have hWP : pta (F := F) c wpBuf ⊢ kn c wpBuf fullShare tt ff ((inOf m c).wpp 0) := kn_of_any (Memref.isWhole_whole _)
  have hGS : pta (F := F) c gsBuf ⊢ iprop(((kn c (plane gsBuf 0 (by decide) sqG) fullShare tt ff ((inOf m c).gsp 0 0) ∗ kn c (plane gsBuf 1 (by decide) sqG) fullShare tt ff ((inOf m c).gsp 0 1))
      ∗ kn c (plane gsBuf 2 (by decide) sqG) fullShare tt ff ((inOf m c).gsp 0 2)) ∗ kn c (plane gsBuf 3 (by decide) sqG) fullShare tt ff ((inOf m c).gsp 0 3)) :=
    four_in (Memref.isWhole_whole _)
  have hXB : pta (F := F) c xBuf ⊢ iprop(kn c (xDst 0 (by decide)) fullShare tt ff (inOf m c).x ∗ kn c (xDst 1 (by decide)) fullShare tt ff (inOf m c).x) :=
    two_in (Memref.isWhole_whole _)
  have hCB : pta (F := F) c cBuf ⊢ iprop(kn c (cSrc 0 (by decide)) fullShare tt ff (inOf m c).cod ∗ kn c (cSrc 1 (by decide)) fullShare tt ff (inOf m c).cod) :=
    two_in (Memref.isWhole_whole _)
  have hSB : pta (F := F) c sBuf ⊢ iprop(kn c (sSrc 0 (by decide)) fullShare tt ff (inOf m c).scl ∗ kn c (sSrc 1 (by decide)) fullShare tt ff (inOf m c).scl) :=
    two_in (Memref.isWhole_whole _)
  have hYB : pta (F := F) c yBuf ⊢ iprop(kn c (ySrc 0 (by decide)) fullShare tt ff (inOf m c).y ∗ kn c (ySrc 1 (by decide)) fullShare tt ff (inOf m c).y) :=
    two_in (Memref.isWhole_whole _)
  have hx : pt c xHbm (V m c main_v0) ⊢ kn c xHbm fullShare tt tt (inOf m c).x :=
    kn_of_whole (Memref.isWhole_whole _) _ fun x _ => (fn2_val (R := 6144) (C := 3456) (by decide) (by decide) (V m c main_v0) x).symm
  have hwp : pt c wpHbm (V m c main_v1) ⊢ kn c wpHbm fullShare tt tt (inOf m c).wp :=
    kn_of_whole (Memref.isWhole_whole _) _ fun x _ => (fn2_val (R := 3456) (C := 4352) (by decide) (by decide) (V m c main_v1) x).symm
  have hgs : pt c gsHbm (V m c main_arg2) ⊢ kn c gsHbm fullShare tt tt (inOf m c).gs :=
    kn_of_whole (Memref.isWhole_whole _) _ fun x _ => (fn2_val (R := 27) (C := 8576) (by decide) (by decide) (V m c main_arg2) x).symm
  have hy : pt c yHbm (V m c main_v3_0) ⊢ kn c yHbm fullShare tt ff (inOf m c).y := kn_of_whole (Memref.isWhole_whole _) _ fun _ h => h.elim
  have hc : pt c cHbm (V m c main_v3_1) ⊢ kn c cHbm fullShare tt ff (inOf m c).cod := kn_of_whole (Memref.isWhole_whole _) _ fun _ h => h.elim
  have hs : pt c sHbm (V m c main_v3_2) ⊢ kn c sHbm fullShare tt ff (inOf m c).scl := kn_of_whole (Memref.isWhole_whole _) _ fun _ h => h.elim
  iintro ⟨⟨⟨HA, HW0, HW1, HWP, HGS, HXB, HCB, HSB, HYB⟩, Hg, ⟨Q1, Q2, Q3, Q4, Q5, Q6, Q7, Q8, Q9, Q10⟩, ⟨Hx, Hwp, Hgs⟩, ⟨Hy, Hc, Hs⟩⟩, HO, HWs⟩
  ihave HA := hA $$ HA
  ihave HW0 := hW0 $$ HW0
  ihave HW1 := hW1 $$ HW1
  ihave HWP := hWP $$ HWP
  ihave HGS := hGS $$ HGS
  ihave HXB := hXB $$ HXB
  ihave HCB := hCB $$ HCB
  ihave HSB := hSB $$ HSB
  ihave HYB := hYB $$ HYB
  ihave Hx := hx $$ Hx
  ihave Hwp := hwp $$ Hwp
  ihave Hgs := hgs $$ Hgs
  ihave Hy := hy $$ Hy
  ihave Hc := hc $$ Hc
  ihave Hs := hs $$ Hs
  ihave HWs := (ws_in m c ws hws) $$ HWs
  icases HGS with ⟨⟨⟨P0, P1⟩, P2⟩, P3⟩
  icases HXB with ⟨X0, X1⟩
  icases HCB with ⟨C0, C1⟩
  icases HSB with ⟨S0, S1⟩
  icases HYB with ⟨Y0, Y1⟩
  isplitl [Hg]; · iexact Hg
  unfold All QAll YAll WAll WpHeld Planes InFree CodFree SclFree OutFree
  isplitl [X0 Q1 X1 Q2 Hx C0 Q3 C1 Q4 Hc S0 Q5 S1 Q6 Hs HA HO]
  · isplitl [X0 Q1]
    · isplitl [X0]; · iexact X0
      iexact Q1
    isplitl [X1 Q2]
    · isplitl [X1]; · iexact X1
      iexact Q2
    isplitl [Hx]; · iexact Hx
    isplitl [C0 Q3]
    · isplitl [C0]; · iexact C0
      iexact Q3
    isplitl [C1 Q4]
    · isplitl [C1]; · iexact C1
      iexact Q4
    isplitl [Hc]; · iexact Hc
    isplitl [S0 Q5]
    · isplitl [S0]; · iexact S0
      iexact Q5
    isplitl [S1 Q6]
    · isplitl [S1]; · iexact S1
      iexact Q6
    isplitl [Hs]; · iexact Hs
    isplitl [HA]; · iexact HA
    iexact HO
  isplitl [Y0 Q7 Y1 Q8 Hy]
  · isplitl [Y0 Q7]
    · isplitl [Y0]; · iexact Y0
      iexact Q7
    isplitl [Y1 Q8]
    · isplitl [Y1]; · iexact Y1
      iexact Q8
    iexact Hy
  isplitr [HWs]
  · isplitl [HW0]; · iexact HW0
    isplitl [HW1]; · iexact HW1
    isplitl [HWP P0 P1 P2 P3]
    · isplitl [HWP]; · iexact HWP
      isplitl [P0]; · iexact P0
      isplitl [P1]; · iexact P1
      isplitl [P2]; · iexact P2
      iexact P3
    isplitl [Hwp Hgs]
    · isplitl [Hwp]; · iexact Hwp
      iexact Hgs
    isplitl [Q9]; · iexact Q9
    iexact Q10
  iexact HWs

theorem all_out (c : Dev nD) (ws : Memref sig .tc .vmem S1x8576 .f32) (hws : ws.IsWhole) :
    (iprop((∃ r, prngReg c r) ∗ All c (inOf m c) ws tt) : sProp 𝕄) ⊢ iprop((scratch (F := F) c ∗ (∃ r, prngReg c r)
        ∗ (sv (F := F) c 1 ∗ sv (F := F) c 2 ∗ sv (F := F) c 3 ∗ sv (F := F) c 4 ∗ sv (F := F) c 5 ∗ sv (F := F) c 6 ∗ sv (F := F) c 7 ∗ sv (F := F) c 8 ∗ sv (F := F) c 9 ∗ sv (F := F) c 10)
        ∗ (pt c xHbm (V m c main_v0) ∗ pt c wpHbm (V m c main_v1) ∗ pt c gsHbm (V m c main_arg2))
        ∗ (pt c yHbm (G m c main_v3_0) ∗ pt c cHbm (G m c main_v3_1) ∗ pt c sHbm (G m c main_v3_2)))
      ∗ Ow F c ∗ owns (c : Thread nD τ) ws fullShare (iblk m c 0 zpt)) := by
  have hA : kn c aBuf fullShare tt tt (inOf m c).act ⊢ pta (F := F) c aBuf := any_of_kn (Memref.isWhole_whole _)
  have hW0 : kn c w0 fullShare tt ff ((inOf m c).wgt 0) ⊢ pta (F := F) c w0 := any_of_kn (Memref.isWhole_whole _)
  have hW1 : kn c w1 fullShare tt ff ((inOf m c).wgt 0) ⊢ pta (F := F) c w1 := any_of_kn (Memref.isWhole_whole _)
  have hWP : kn c wpBuf fullShare tt ff ((inOf m c).wpp 0) ⊢ pta (F := F) c wpBuf := any_of_kn (Memref.isWhole_whole _)
  have hGS : iprop(((kn c (plane gsBuf 0 (by decide) sqG) fullShare tt ff ((inOf m c).gsp 0 0) ∗ kn c (plane gsBuf 1 (by decide) sqG) fullShare tt ff ((inOf m c).gsp 0 1))
      ∗ kn c (plane gsBuf 2 (by decide) sqG) fullShare tt ff ((inOf m c).gsp 0 2)) ∗ kn c (plane gsBuf 3 (by decide) sqG) fullShare tt ff ((inOf m c).gsp 0 3)) ⊢ pta (F := F) c gsBuf :=
    four_out (Memref.isWhole_whole _)
  have hXB : iprop(kn c (xDst 0 (by decide)) fullShare tt ff (inOf m c).x ∗ kn c (xDst 1 (by decide)) fullShare tt ff (inOf m c).x) ⊢ pta (F := F) c xBuf :=
    two_out (Memref.isWhole_whole _)
  have hCB : iprop(kn c (cSrc 0 (by decide)) fullShare tt ff (inOf m c).cod ∗ kn c (cSrc 1 (by decide)) fullShare tt ff (inOf m c).cod) ⊢ pta (F := F) c cBuf :=
    two_out (Memref.isWhole_whole _)
  have hSB : iprop(kn c (sSrc 0 (by decide)) fullShare tt ff (inOf m c).scl ∗ kn c (sSrc 1 (by decide)) fullShare tt ff (inOf m c).scl) ⊢ pta (F := F) c sBuf :=
    two_out (Memref.isWhole_whole _)
  have hYB : iprop(kn c (ySrc 0 (by decide)) fullShare tt ff (inOf m c).y ∗ kn c (ySrc 1 (by decide)) fullShare tt ff (inOf m c).y) ⊢ pta (F := F) c yBuf :=
    two_out (Memref.isWhole_whole _)
  have hx : kn c xHbm fullShare tt tt (inOf m c).x ⊢ pt c xHbm (V m c main_v0) :=
    named_of_kn (Memref.isWhole_whole _) _ fun x => (fn2_val (R := 6144) (C := 3456) (by decide) (by decide) (V m c main_v0) x).symm
  have hwp : kn c wpHbm fullShare tt tt (inOf m c).wp ⊢ pt c wpHbm (V m c main_v1) :=
    named_of_kn (Memref.isWhole_whole _) _ fun x => (fn2_val (R := 3456) (C := 4352) (by decide) (by decide) (V m c main_v1) x).symm
  have hgs : kn c gsHbm fullShare tt tt (inOf m c).gs ⊢ pt c gsHbm (V m c main_arg2) :=
    named_of_kn (Memref.isWhole_whole _) _ fun x => (fn2_val (R := 27) (C := 8576) (by decide) (by decide) (V m c main_arg2) x).symm
  have hy : kn c yHbm fullShare tt tt (inOf m c).y ⊢ pt c yHbm (G m c main_v3_0) := by
    rw [G_y]; exact named_of_kn (Memref.isWhole_whole _) _ fun x => rfl
  have hc : kn c cHbm fullShare tt tt (inOf m c).cod ⊢ pt c cHbm (G m c main_v3_1) := by
    rw [G_cod]; exact named_of_kn (Memref.isWhole_whole _) _ fun x => rfl
  have hs : kn c sHbm fullShare tt tt (inOf m c).scl ⊢ pt c sHbm (G m c main_v3_2) := by
    rw [G_scl]; exact named_of_kn (Memref.isWhole_whole _) _ fun x => rfl
  unfold All QAll YAll WAll WpHeld Planes InFree CodFree SclFree OutFree
  iintro ⟨Hg, ⟨⟨X0, Q1⟩, ⟨X1, Q2⟩, Hx, ⟨C0, Q3⟩, ⟨C1, Q4⟩, Hc, ⟨S0, Q5⟩, ⟨S1, Q6⟩, Hs, HA, HO⟩, ⟨⟨Y0, Q7⟩, ⟨Y1, Q8⟩, Hy⟩, ⟨HW0, HW1, ⟨HWP, P0, P1, P2, P3⟩, ⟨Hwp, Hgs⟩, Q9, Q10⟩, HWs⟩
  ihave HGS := hGS $$ [P0 P1 P2 P3]
  · isplitr [P3]
    · isplitr [P2]
      · isplitl [P0]; · iexact P0
        iexact P1
      iexact P2
    iexact P3
  ihave HXB := hXB $$ [X0 X1]
  · isplitl [X0]; · iexact X0
    iexact X1
  ihave HCB := hCB $$ [C0 C1]
  · isplitl [C0]; · iexact C0
    iexact C1
  ihave HSB := hSB $$ [S0 S1]
  · isplitl [S0]; · iexact S0
    iexact S1
  ihave HYB := hYB $$ [Y0 Y1]
  · isplitl [Y0]; · iexact Y0
    iexact Y1
  ihave HA := hA $$ HA
  ihave HW0 := hW0 $$ HW0
  ihave HW1 := hW1 $$ HW1
  ihave HWP := hWP $$ HWP
  ihave Hx := hx $$ Hx
  ihave Hwp := hwp $$ Hwp
  ihave Hgs := hgs $$ Hgs
  ihave Hy := hy $$ Hy
  ihave Hc := hc $$ Hc
  ihave Hs := hs $$ Hs
  ihave HWs := (ws_out m c ws hws) $$ HWs
  isplitr [HO HWs]
  · isplitl [HA HW0 HW1 HWP HGS HXB HCB HSB HYB]
    · isplitl [HA]; · iexact HA
      isplitl [HW0]; · iexact HW0
      isplitl [HW1]; · iexact HW1
      isplitl [HWP]; · iexact HWP
      isplitl [HGS]; · iexact HGS
      isplitl [HXB]; · iexact HXB
      isplitl [HCB]; · iexact HCB
      isplitl [HSB]; · iexact HSB
      iexact HYB
    isplitl [Hg]; · iexact Hg
    isplitl [Q1 Q2 Q3 Q4 Q5 Q6 Q7 Q8 Q9 Q10]
    · isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      iexact Q10
    isplitl [Hx Hwp Hgs]
    · isplitl [Hx]; · iexact Hx
      isplitl [Hwp]; · iexact Hwp
      iexact Hgs
    isplitl [Hy]; · iexact Hy
    isplitl [Hc]; · iexact Hc
    iexact Hs
  isplitl [HO]; · iexact HO
  iexact HWs

/-! ## The proof data, the body's obligation -/

/-- The results' contents before point `i`. -/
def Gat (i : ℕ) (c : Dev nD) (b : Ref sig .tc) : Buf (Elt F) ((c : Thread nD τ).loc b) := if i = 0 then V m c b else G m c b

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ i := Pipeline.ΦDRG osem0 spec0 H0 R0 (V m) (Gat m i.val) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

theorem Gat_zero : Gat m 0 = V m := rfl
theorem Gat_one : Gat m 1 = G m := rfl

theorem sound_body (c : Dev nD) (t : Fin cfg0.N) :
    bodyPre m c t ⊢ wp frame (wpE (defs₀ (F := F)) Variants.none c none) Set.univ (bodyAt0 t) (fun _ => bodyPost m c t) := by
  obtain rfl : t = zpt := Subsingleton.elim (α := Fin 1) _ _
  unfold bodyPre bodyPost bodyAt0
  rw [body_eq, after0_0]
  simp only [before0_0]
  rw [show (dats m 0 c).Φ (Fin.succ zpt) = Pipeline.ΦDRG osem0 spec0 H0 R0 (V m) (G m) c from rfl,
    show (dats m 0 c).Φ (Fin.castSucc zpt) = Pipeline.ΦDRG osem0 spec0 H0 R0 (V m) (V m) c from rfl, phi_eq, phi_eq]
  unfold Dat.owesAt Pipeline.owesWithin
  rw [show (dats m 0 c).owed (Fin.castSucc zpt) = 0 from rfl, show (dats m 0 c).owed (Fin.succ zpt) = 0 from rfl]
  iintro ⟨H, ⟨%W, -, HW⟩, ⟨%d, HWs⟩⟩
  ihave H := (all_in m c _ (hstage0_0 0)) $$ [H HW HWs]
  · isplitl [H]; · iexact H
    isplitl [HW]
    · unfold Ow; iexists W; iexact HW
    iexact HWs
  icases H with ⟨Hg, H⟩
  iapply (WP_mono wp_body) $$ H
  iintro %_ H
  ihave H := (all_out m c _ (hstage0_0 0)) $$ [Hg H]
  · isplitl [Hg]; · iexact Hg
    iexact H
  unfold Ow
  icases H with ⟨H, ⟨%W', HW'⟩, HWs⟩
  isplitl [H]; · iexact H
  isplitl [HW']
  · iexists W'; isplitr; · ipureintro; exact fun _ _ => Or.inl trivial
    iexact HW'
  iexact HWs

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := fun _ => .rfl) (hout := fun _ => .rfl)

theorem args_kept {r : PUnit × MemSt nD τ sig (Elt F)} (h : Pipeline.FramePostR cfgs (dats m) 0 R0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Finset.mem_sdiff.mpr ⟨Pipeline.mem_restRefs_of main_arg0 (by decide) (by decide), by decide⟩)).trans (V_main_arg0 m c),
    ((h c).2 main_arg1 (Finset.mem_sdiff.mpr ⟨Pipeline.mem_restRefs_of main_arg1 (by decide) (by decide), by decide⟩)).trans (V_main_arg1 m c),
    ((h c).2 main_arg2 (Finset.mem_sdiff.mpr ⟨Pipeline.mem_restRefs_of main_arg2 (by decide) (by decide), by decide⟩)).trans (V_main_arg2 m c),
    ((h c).2 main_arg3 (Finset.mem_sdiff.mpr ⟨Pipeline.mem_restRefs_of main_arg3 (by decide) (by decide), by decide⟩)).trans (V_main_arg3 m c)⟩

/-- It ends, its arguments as they were and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_kept m h.1.toR, h.2⟩) (run_main m ρ)

/-- Its results: the arguments kept, the three arrays at the model's values. -/
theorem value_main : θ_run defs (onTc (τ := τ) (main (F := F))) ⟨m, fun _ => 0, ρ⟩ (fun r => ∀ c : Dev nD,
      r.2.mem ((c.tc : Thread nD τ).loc main_v3_0) = arr2 (R := 6144) (C := 8576) (inOf m c).y
      ∧ r.2.mem ((c.tc : Thread nD τ).loc main_v3_1) = arr2 (R := 6144) (C := 3456) (inOf m c).cod
      ∧ r.2.mem ((c.tc : Thread nD τ).loc main_v3_2) = arr2 (R := 6144) (C := 27) (inOf m c).scl) :=
  (θ_run defs _ _).mono (fun _ h c => ⟨(h.1.written c (by decide)).trans (G_y m c), (h.1.written c (by decide)).trans (G_cod m c),
    (h.1.written c (by decide)).trans (G_scl m c)⟩) (run_main m ρ)

end Cert.KernelIdeal.Model
-- ==== Proof.Same.lean ====
/- The kernel before idealization: the same program text, so the same run at the words. -/
module

public import proofs.«01_k».proof.Defs
public import proofs.«01_k».proof.Proof.Gen.Kernel
public import proofs.«01_k».proof.Proof.Launch

@[expose] public section

set_option maxRecDepth 16384

noncomputable section

namespace Cert.Kernel.Same

open Idealize.ShloMosaic Idealize.ShloMosaic.TcCoe Idealize.ShloMosaic.Tactic Idealize.SL.Sem
open Cert.Kernel Cert.Kernel.Gen

/-- What the kernel's frame claim says, at any values. -/
abbrev Says : Prop :=
  ∀ (m : (ℓ : Loc nD τ sig) → Buf (Elt Bits) ℓ) (ρ : Dev nD → PrngReg),
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

end Cert.Kernel.Same

namespace Cert.KernelIdeal.Same

open Idealize.ShloMosaic Idealize.ShloMosaic.TcCoe Idealize.ShloMosaic.Tactic Idealize.SL.Sem
open Cert.KernelIdeal Cert.KernelIdeal.Gen

/-- The same of its idealization's text. -/
abbrev Says : Prop :=
  ∀ (m : (ℓ : Loc nD τ sig) → Buf (Elt Bits) ℓ) (ρ : Dev nD → PrngReg),
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem same : Cert.Kernel.Same.Says = Says := by sl_kernel_rfl

theorem frame_kernel : Cert.Kernel.Same.Says := same.mpr fun m ρ => Cert.KernelIdeal.Model.frame_main m ρ

end Cert.KernelIdeal.Same
-- ==== Proof.Scale.lean ====
/-
The arithmetic of a power-of-two scale, on one number: what the count of the powers of two up to `t` gives,
and what the floor of its binary logarithm gives. They are the same power of two.
-/
module

public import Idealize.ShloMosaic.PureOps.Ideal.Laws

@[expose] public section

noncomputable section

namespace Cert.Scale

open Idealize.ShloMosaic

theorem ofBits_f32 (b : BitVec 32) : Ideal.ofBits .f32 b = Ideal.ieee 8 23 b := rfl

theorem ieee_normal (e m : ℕ) {w : ℕ} (b : BitVec w) (j : ℕ) (hn : (b.extractLsb' (e + m) 1 == 1#1) = false)
    (he : (b.extractLsb' m e).toNat = j) (hf : (b.extractLsb' 0 m).toNat = 0) (h1 : j ≠ 2 ^ e - 1) (h2 : j ≠ 0) :
    Ideal.ieee e m b = (((2 : ℝ) ^ ((m : ℤ) + ((j : ℤ) - (2 ^ (e - 1) - 1) - m)) : ℝ) : EReal) := by
  unfold Ideal.ieee
  simp only [hn, he, hf]
  rw [if_neg h1, if_neg h2, if_neg Bool.false_ne_true, one_mul, Nat.add_zero, Nat.cast_pow, Nat.cast_ofNat, zpow_add₀ (by norm_num), zpow_natCast]

theorem ieee_inf (e m : ℕ) {w : ℕ} (b : BitVec w) (hn : (b.extractLsb' (e + m) 1 == 1#1) = false)
    (he : (b.extractLsb' m e).toNat = 2 ^ e - 1) (hf : (b.extractLsb' 0 m).toNat = 0) : Ideal.ieee e m b = ⊤ := by
  unfold Ideal.ieee
  simp only [hn, he, hf]
  rw [if_pos trivial, if_pos trivial, if_neg Bool.false_ne_true]

theorem field_facts (j : ℕ) (h : j < 256) : ((BitVec.ofNat 32 (j * 8388608)).extractLsb' (8 + 23) 1 == 1#1) = false ∧
    ((BitVec.ofNat 32 (j * 8388608)).extractLsb' 23 8).toNat = j ∧ ((BitVec.ofNat 32 (j * 8388608)).extractLsb' 0 23).toNat = 0 := by
  have ht : (BitVec.ofNat 32 (j * 8388608)).toNat = j * 8388608 := by rw [BitVec.toNat_ofNat]; omega
  refine ⟨?_, ?_, ?_⟩
  · rw [beq_eq_false_iff_ne]
    intro h'
    have := congrArg BitVec.toNat h'
    rw [BitVec.extractLsb'_toNat, ht, Nat.shiftRight_eq_div_pow, BitVec.toNat_ofNat] at this
    omega
  · rw [BitVec.extractLsb'_toNat, ht, Nat.shiftRight_eq_div_pow]
    omega
  · rw [BitVec.extractLsb'_toNat, ht, Nat.shiftRight_eq_div_pow]
    omega

/-- An f32 exponent field `j` with an empty fraction. -/
theorem ofBits_field (j : Nat) (h1 : 1 ≤ j) (h2 : j ≤ 254) :
    Ideal.ofBits .f32 (BitVec.ofNat 32 (j * 8388608)) = (((2 : ℝ) ^ ((j : ℤ) - 127) : ℝ) : EReal) := by
  obtain ⟨a, b, c⟩ := field_facts j (by omega)
  rw [ofBits_f32, ieee_normal 8 23 _ j a b c (by omega) (by omega), show (((23 : ℕ) : ℤ) + ((j : ℤ) - (2 ^ (8 - 1) - 1) - ((23 : ℕ) : ℤ))) = (j : ℤ) - 127 by norm_num]

/-- The last field is infinity's. -/
theorem ofBits_last : Ideal.ofBits .f32 (BitVec.ofNat 32 (255 * 8388608)) = ⊤ := by
  obtain ⟨a, b, c⟩ := field_facts 255 (by omega)
  rw [ofBits_f32, ieee_inf 8 23 _ a (by rw [b]; norm_num) c]

theorem shl23 (f : Nat) : IntOp.shli .vector (BitVec.ofNat 32 f) 23#32 = BitVec.ofNat 32 (f * 8388608) := by
  unfold IntOp.shli
  rw [if_pos (by decide)]
  apply BitVec.eq_of_toNat_eq
  simp [Nat.shiftLeft_eq]

/-- The bits of the count of the powers of two up to `t`. -/
def count (t : EReal) : EReal := ∑ f : Fin 256, Scalar.select
  (IntOp.andi (Ideal.cmp .ole (Ideal.ofBits .f32 (IntOp.shli .vector (BitVec.ofNat 32 f.val) 23#32)) t)
    (IntOp.cmpi .sgt (BitVec.ofNat 32 f.val) 0#32)) (Ideal.ofBits .f32 0x3F800000#32) (Ideal.ofBits .f32 0x00000000#32)

theorem sum_ind {ι : Type} [Fintype ι] (p : ι → Prop) [DecidablePred p] :
    (∑ i : ι, if p i then (1 : EReal) else 0) = (((Finset.univ.filter p).card : ℝ) : EReal) := by
  classical
  have h : ∀ s : Finset ι, (∑ i ∈ s, if p i then (1 : EReal) else 0) = (((s.filter p).card : ℝ) : EReal) := by
    intro s
    induction s using Finset.induction_on with
    | empty => simp
    | insert a s ha ih =>
      rw [Finset.sum_insert ha, ih, Finset.filter_insert]
      split
      · rw [Finset.card_insert_of_notMem (by simp [ha]), Nat.cast_succ, add_comm, EReal.coe_add]; rfl
      · rw [zero_add]
  exact h _

theorem one_bits : Ideal.ofBits .f32 0x3F800000#32 = 1 := by
  have := ofBits_field 127 (by decide) (by decide)
  norm_num at this
  exact this

/-- The exponent field of the largest power of two up to `t`: 0 below the smallest normal number. -/
def Field (t : ℝ) (n : ℕ) : Prop :=
  n ≤ 246 ∧ (n = 0 → t < (2 : ℝ) ^ (-126 : ℤ)) ∧ (n ≠ 0 → (2 : ℝ) ^ ((n : ℤ) - 127) ≤ t) ∧ t < (2 : ℝ) ^ ((n : ℤ) - 126)

theorem exists_field (t : ℝ) (h : t < (2 : ℝ) ^ (120 : ℤ)) : ∃ n, Field t n := by
  by_cases ht : t < (2 : ℝ) ^ (-126 : ℤ)
  · exact ⟨0, by decide, fun _ => ht, fun h => absurd rfl h, by simpa using ht⟩
  · have ht := not_lt.mp ht
    have h0 : 0 < t := lt_of_lt_of_le (by positivity) ht
    obtain ⟨k, hk1, hk2⟩ := exists_mem_Ico_zpow h0 (by norm_num : (1 : ℝ) < 2)
    have a1 : -126 < k + 1 := (zpow_lt_zpow_iff_right₀ (by norm_num : (1 : ℝ) < 2)).mp (lt_of_le_of_lt ht hk2)
    have a2 : k < 120 := (zpow_lt_zpow_iff_right₀ (by norm_num : (1 : ℝ) < 2)).mp (lt_of_le_of_lt hk1 h)
    have e : ((k + 127).toNat : ℤ) = k + 127 := by omega
    refine ⟨(k + 127).toNat, by omega, fun h => by omega, fun _ => ?_, ?_⟩
    · rw [e, show k + 127 - 127 = k by omega]; exact hk1
    · rw [e, show k + 127 - 126 = k + 1 by omega]; exact hk2

/-- A power is counted exactly when its field is one of 1, …, n. -/
theorem counted {t : ℝ} {n : ℕ} (h : Field t n) (f : Fin 256) :
    Scalar.select (IntOp.andi (Ideal.cmp .ole (Ideal.ofBits .f32 (IntOp.shli .vector (BitVec.ofNat 32 f.val) 23#32)) (t : EReal))
      (IntOp.cmpi .sgt (BitVec.ofNat 32 f.val) 0#32)) (Ideal.ofBits .f32 0x3F800000#32) (Ideal.ofBits .f32 0x00000000#32)
      = if 1 ≤ f.val ∧ f.val ≤ n then (1 : EReal) else 0 := by
  rw [shl23, one_bits, Ideal.ofBits_zero_f32]
  obtain ⟨hn, h0, h1, h2⟩ := h
  have hs : IntOp.cmpi .sgt (BitVec.ofNat 32 f.val) 0#32 = BitVec.ofBool (decide (1 ≤ f.val)) := by
    revert f; decide
  have hc : 1 ≤ f.val → Ideal.cmp .ole (Ideal.ofBits .f32 (BitVec.ofNat 32 (f.val * 8388608))) (t : EReal) = BitVec.ofBool (decide (f.val ≤ n)) := by
    intro hf
    have hq : (Ideal.ofBits .f32 (BitVec.ofNat 32 (f.val * 8388608)) ≤ (t : EReal)) ↔ f.val ≤ n := by
      by_cases h255 : f.val = 255
      · rw [h255, ofBits_last]
        simp only [top_le_iff, EReal.coe_ne_top, false_iff]
        omega
      · have := f.isLt
        rw [ofBits_field f.val hf (by omega), EReal.coe_le_coe_iff]
        constructor
        · intro h
          by_contra hlt
          have hlt : n + 1 ≤ f.val := by omega
          have : (2 : ℝ) ^ ((n : ℤ) - 126) ≤ (2 : ℝ) ^ ((f.val : ℤ) - 127) := zpow_le_zpow_right₀ (by norm_num) (by omega)
          linarith
        · intro h
          have : (2 : ℝ) ^ ((f.val : ℤ) - 127) ≤ (2 : ℝ) ^ ((n : ℤ) - 127) := zpow_le_zpow_right₀ (by norm_num) (by omega)
          exact this.trans (h1 (by omega))
    show BitVec.ofBool (decide _) = _
    rw [decide_eq_decide.mpr hq]
  by_cases hf : 1 ≤ f.val
  · rw [hc hf, hs]
    by_cases hfn : f.val ≤ n
    · rw [if_pos ⟨hf, hfn⟩, decide_eq_true hf, decide_eq_true hfn]; rfl
    · rw [if_neg (fun h => hfn h.2), decide_eq_true hf, decide_eq_false hfn]; rfl
  · rw [if_neg (fun h => hf h.1), hs, decide_eq_false hf]
    have : ∀ b : BitVec 1, IntOp.andi b (BitVec.ofBool false) = 0#1 := by decide
    rw [this]; rfl

theorem count_eq {t : ℝ} {n : ℕ} (h : Field t n) : count (t : EReal) = ((n : ℝ) : EReal) := by
  unfold count
  rw [Finset.sum_congr rfl (fun f _ => counted h f), sum_ind]
  congr 2
  have : (Finset.univ.filter fun f : Fin 256 => 1 ≤ f.val ∧ f.val ≤ n) = (Finset.Icc 1 n).attachFin (by
      intro m hm; have := h.1; simp only [Finset.mem_Icc] at hm; omega) := by
    ext f; simp
  rw [this, Finset.card_attachFin]
  simp

/-- The scale's bits from a count. -/
def bitsOf (t : EReal) : BitVec 32 :=
  let e := IntOp.shli .vector (Ideal.fptosi 32 (count t)) 23#32
  Scalar.select (IntOp.cmpi .eq e 0#32) 1065353216#32 (IntOp.addi e 8388608#32)

/-- The field of the scale. -/
def fieldOf (n : ℕ) : ℕ := if n = 0 then 127 else n + 1

theorem bitsOf_eq {t : ℝ} {n : ℕ} (h : Field t n) : bitsOf (t : EReal) = BitVec.ofNat 32 (fieldOf n * 8388608) := by
  have hf : Ideal.fptosi 32 (count (t : EReal)) = BitVec.ofNat 32 n := by
    rw [count_eq h]
    show BitVec.ofInt 32 (max _ (min _ (if 0 ≤ (n : ℝ) then ⌊(n : ℝ)⌋ else ⌈(n : ℝ)⌉))) = _
    rw [if_pos (by positivity), Int.floor_natCast, min_eq_right (by have := h.1; norm_num; omega), max_eq_right (by norm_num)]
    exact BitVec.ofInt_natCast 32 n
  unfold bitsOf
  rw [hf, shl23]
  have hd : ∀ n : Fin 247, (let e := BitVec.ofNat 32 (n.val * 8388608)
      Scalar.select (IntOp.cmpi .eq e 0#32) 1065353216#32 (IntOp.addi e 8388608#32)) = BitVec.ofNat 32 (fieldOf n.val * 8388608) := by decide
  exact hd ⟨n, by have := h.1; omega⟩

theorem fieldOf_bounds {t : ℝ} {n : ℕ} (h : Field t n) : 1 ≤ fieldOf n ∧ fieldOf n ≤ 247 := by
  have := h.1
  unfold fieldOf
  split <;> omega

/-- The scale and its inverse, from the bits. -/
theorem scale_eq {t : ℝ} {n : ℕ} (h : Field t n) :
    Ideal.ofBits .f32 (bitsOf (t : EReal)) = (((2 : ℝ) ^ ((fieldOf n : ℤ) - 127) : ℝ) : EReal) := by
  have := fieldOf_bounds h
  rw [bitsOf_eq h, ofBits_field _ (by omega) (by omega)]

theorem inv_eq {t : ℝ} {n : ℕ} (h : Field t n) :
    Ideal.ofBits .f32 (IntOp.subi (2130706432#32) (bitsOf (t : EReal))) = (((2 : ℝ) ^ (127 - (fieldOf n : ℤ)) : ℝ) : EReal) := by
  have hb := fieldOf_bounds h
  have : IntOp.subi (2130706432#32) (bitsOf (t : EReal)) = BitVec.ofNat 32 ((254 - fieldOf n) * 8388608) := by
    rw [bitsOf_eq h]
    have hd : ∀ n : Fin 248, IntOp.subi (2130706432#32) (BitVec.ofNat 32 (n.val * 8388608)) = BitVec.ofNat 32 ((254 - n.val) * 8388608) := by decide
    exact hd ⟨fieldOf n, by omega⟩
  rw [this, ofBits_field _ (by omega) (by omega)]
  congr 2
  omega

/-- The exponent by the logarithm. -/
def expOf (t : EReal) : EReal :=
  Scalar.select (Ideal.cmp .olt t (Ideal.ofBits .f32 0x00800000#32)) (Ideal.ofBits .f32 0x00000000#32)
    (Ideal.liftRound Int.floor (Ideal.div (Ideal.log t) (Ideal.log (Ideal.ofBits .f32 0x40000000#32))) + Ideal.ofBits .f32 0x3F800000#32)

theorem floor_logb {t : ℝ} {k : ℤ} (h1 : (2 : ℝ) ^ k ≤ t) (h2 : t < (2 : ℝ) ^ (k + 1)) : ⌊Real.log t * (Real.log 2)⁻¹⌋ = k := by
  have hp : (0 : ℝ) < 2 ^ k := by positivity
  have ht : 0 < t := lt_of_lt_of_le hp h1
  have hl : 0 < Real.log 2 := Real.log_pos (by norm_num)
  rw [Int.floor_eq_iff, ← div_eq_mul_inv, le_div_iff₀ hl, div_lt_iff₀ hl, ← Real.log_zpow, ]
  refine ⟨Real.log_le_log hp h1, ?_⟩
  have := Real.log_lt_log ht h2
  rw [Real.log_zpow] at this
  push_cast at this
  exact this

theorem expOf_eq {t : ℝ} {n : ℕ} (h : Field t n) : expOf (t : EReal) = ((((fieldOf n : ℤ) - 127 : ℤ) : ℝ) : EReal) := by
  have hmin : Ideal.ofBits .f32 0x00800000#32 = (((2 : ℝ) ^ (-126 : ℤ) : ℝ) : EReal) := by
    have := ofBits_field 1 (by decide) (by decide)
    rwa [show ((1 : ℕ) : ℤ) - 127 = -126 by norm_num] at this
  have htwo : Ideal.ofBits .f32 0x40000000#32 = ((2 : ℝ) : EReal) := by
    have := ofBits_field 128 (by decide) (by decide)
    rw [show ((128 : ℕ) : ℤ) - 127 = 1 by norm_num, zpow_one] at this
    exact this
  obtain ⟨hn, h0, h1, h2⟩ := h
  unfold expOf
  rw [hmin, htwo, one_bits, Ideal.ofBits_zero_f32]
  by_cases hz : n = 0
  · have : Ideal.cmp .olt (t : EReal) (((2 : ℝ) ^ (-126 : ℤ) : ℝ) : EReal) = 1#1 := by
      show BitVec.ofBool (decide _) = _
      rw [decide_eq_true (EReal.coe_lt_coe_iff.mpr (h0 hz))]; rfl
    rw [this, hz]
    simp [Scalar.select, fieldOf]
  · have hlow : (2 : ℝ) ^ (-126 : ℤ) ≤ t := (zpow_le_zpow_right₀ (by norm_num) (by omega)).trans (h1 hz)
    have ht : 0 < t := lt_of_lt_of_le (by positivity) hlow
    have : Ideal.cmp .olt (t : EReal) (((2 : ℝ) ^ (-126 : ℤ) : ℝ) : EReal) = 0#1 := by
      show BitVec.ofBool (decide _) = _
      rw [decide_eq_false (by rw [EReal.coe_lt_coe_iff]; exact not_lt.mpr hlow)]; rfl
    rw [this]
    have hl : Ideal.div (Ideal.log (t : EReal)) (Ideal.log ((2 : ℝ) : EReal)) = ((Real.log t * (Real.log 2)⁻¹ : ℝ) : EReal) := by
      have e1 : Ideal.log (t : EReal) = (Real.log t : EReal) := by
        show (if t ≤ 0 then ⊥ else (Real.log t : EReal)) = _
        rw [if_neg (not_le.mpr ht)]
      have e2 : Ideal.log ((2 : ℝ) : EReal) = (Real.log 2 : EReal) := by
        show (if (2 : ℝ) ≤ 0 then ⊥ else (Real.log 2 : EReal)) = _
        rw [if_neg (by norm_num)]
      rw [e1, e2]
      unfold Ideal.div
      rw [if_neg (by intro h; have := EReal.coe_eq_zero.mp h; have := Real.log_pos (show (1:ℝ) < 2 by norm_num); linarith), ← EReal.coe_inv, ← EReal.coe_mul]
    rw [hl]
    show ((⌊Real.log t * (Real.log 2)⁻¹⌋ : ℝ) : EReal) + 1 = _
    rw [floor_logb (h1 hz) (by rw [show (n : ℤ) - 127 + 1 = (n : ℤ) - 126 by omega]; exact h2)]
    have : fieldOf n = n + 1 := if_neg hz
    rw [this, ← EReal.coe_one, ← EReal.coe_add]
    congr 1
    push_cast
    ring

theorem exp2_int (k : ℤ) : Ideal.exp2 (((k : ℤ) : ℝ) : EReal) = (((2 : ℝ) ^ k : ℝ) : EReal) := by
  show ((Real.rpow 2 (k : ℝ) : ℝ) : EReal) = _
  rw [← Real.rpow_intCast]; rfl

/-- The two scales are one, -/
theorem scale_agree {t : ℝ} (ht : t < (2 : ℝ) ^ (120 : ℤ)) : Ideal.ofBits .f32 (bitsOf (t : EReal)) = Ideal.exp2 (expOf (t : EReal)) := by
  obtain ⟨n, h⟩ := exists_field t ht
  rw [scale_eq h, expOf_eq h, exp2_int]

/-- and so are their inverses. -/
theorem inv_agree {t : ℝ} (ht : t < (2 : ℝ) ^ (120 : ℤ)) :
    Ideal.ofBits .f32 (IntOp.subi (2130706432#32) (bitsOf (t : EReal))) = Ideal.exp2 (Ideal.ofBits .f32 0x00000000#32 - expOf (t : EReal)) := by
  obtain ⟨n, h⟩ := exists_field t ht
  rw [inv_eq h, expOf_eq h, Ideal.ofBits_zero_f32, zero_sub, ← EReal.coe_neg, ← Int.cast_neg, exp2_int]
  congr 2
  omega

end Cert.Scale
-- ==== Proof.QuantAt.lean ====
/- The kernel's quantiser on the extended reals, read at an element: the scale is the power of two Proof/Scale.lean's
   `bitsOf` denotes at the group's largest magnitude over 448, the code the element times its inverse, clamped. -/
module

public import proofs.«01_k».proof.Proof.Values
public import proofs.«01_k».proof.Proof.Scale
public import Idealize.ShloMosaic.Lib.ValueLayout
public import Idealize.ShloMosaic.PureOps.Ideal.Laws

@[expose] public section

noncomputable section

namespace Cert.Scale

open Idealize.ShloMosaic

/-- The largest magnitude of a group over 448. -/
def top (v : Fin 128 → EReal) : EReal :=
  (Finset.univ : Finset (Fin 128)).fold max (Ideal.ofBits .f32 0xFF800000#32) (fun k => max (v k) (-(v k))) * Ideal.ofBits .f32 0x3B124925#32

/-- An element's code, given its group's inverse scale. -/
def code (x inv : EReal) : EReal := min (Ideal.ofBits .f32 0x43E00000#32) (max (Ideal.ofBits .f32 0xC3E00000#32) (x * inv))

end Cert.Scale

namespace Cert.KernelIdeal.Model

open Idealize.ShloMosaic Idealize.ShloMosaic.ValueIdx
open Shapes1.Facts₀ K0.Facts₀

section
variable (xg : FVec Ideal S128x128 .bf16)

/-- A group's values. -/
def rowOf (i : Fin 128) : Fin 128 → EReal := fun k => xg (ix2 i k)

def topv : FVec Ideal S128x1 .f32 := mulf (shapeCast S128x1 (multiReduction .maximumf [1] S128 (extf .f32 (absf xg) bitsLt_bf16_f32)
  0xFF800000#32 reduces_S128x128_S128 (.inl rfl) rfl) shapeCasts_S128_S128x1) (broadcast S128x1 (Scalar.ofBits .f32 0x3B124925#32))

theorem col_cast {α : Type} (v : S128.Idx → α) (i : Fin 128) : shapeCast S128x1 v shapeCasts_S128_S128x1 (ix2 i (0 : Fin 1)) = v (ix1 i) :=
  shapeCast_apply v _ (ix2 i (0 : Fin 1)) (ix1 i) (by
    rw [Shape.rowMajor_val_one, Shape.rowMajor_val_two]
    show i.val = i.val * 1 + 0
    omega)

theorem topv_at (i : Fin 128) : topv xg (ix2 i (0 : Fin 1)) = Scale.top (rowOf xg i) := by
  show shapeCast S128x1 (multiReduction .maximumf [1] S128 (extf .f32 (absf xg) bitsLt_bf16_f32)
    0xFF800000#32 reduces_S128x128_S128 (.inl rfl) rfl) shapeCasts_S128_S128x1 (ix2 i (0 : Fin 1)) * Ideal.ofBits .f32 0x3B124925#32 = _
  rw [col_cast]
  unfold Scale.top
  refine congrArg (· * Ideal.ofBits .f32 0x3B124925#32) ((Ideal.multiReduction_maximumf_single (a := 1) _ _ _ _ _ (ix1 i)).trans ?_)
  refine Finset.fold_congr fun k _ => ?_
  have h : reduces_S128x128_S128.lift (ix1 i) k = ix2 i k := by
    funext a
    match a with
    | 0 => rfl
    | 1 => rfl
  show max (xg _) (-(xg _)) = _
  rw [h]
  rfl

def onev : FVec Ideal S128x256 .f32 :=
  have fld : IVec S128x256 32 := iota .tc S128x256 32 [1] iota_S128x256_d1_w32
  have powers : FVec Ideal S128x256 .f32 := bitcastToFloat .f32 (shli fld (broadcast S128x256 23#32))
  have below : IVec S128x256 1 := andi (cmpf .ole powers (broadcastTo S128x256 (topv xg) broadcasts_S128x1_S128x256))
    (cmpi .sgt fld (broadcast S128x256 0#32))
  select below (broadcast S128x256 (Scalar.ofBits .f32 0x3F800000#32)) (broadcast S128x256 (Scalar.ofBits .f32 0x00000000#32))

theorem onev_at (i : Fin 128) (f : Fin 256) : onev xg (ix2 i f) = Scalar.select
    (IntOp.andi (Ideal.cmp .ole (Ideal.ofBits .f32 (IntOp.shli .vector (BitVec.ofNat 32 f.val) 23#32)) (Scale.top (rowOf xg i)))
    (IntOp.cmpi .sgt (BitVec.ofNat 32 f.val) 0#32)) (Ideal.ofBits .f32 0x3F800000#32) (Ideal.ofBits .f32 0x00000000#32) := by
  have hi : iota .tc S128x256 32 [1] iota_S128x256_d1_w32 (ix2 i f) = BitVec.ofNat 32 f.val := iota_single_apply _ _ _ _ _ _
  have hb : broadcastTo S128x256 (topv xg) broadcasts_S128x1_S128x256 (ix2 i f) = Scale.top (rowOf xg i) :=
    (broadcastTo_apply _ _ (ix2 i f) (ix2 i (0 : Fin 1)) fun a => match a with | ⟨0, _⟩ => rfl | ⟨1, _⟩ => rfl).trans (topv_at xg i)
  show Scalar.select (IntOp.andi (Ideal.cmp .ole (Ideal.ofBits .f32 (IntOp.shli .vector (iota .tc S128x256 32 [1] iota_S128x256_d1_w32 (ix2 i f)) 23#32))
    (broadcastTo S128x256 (topv xg) broadcasts_S128x1_S128x256 (ix2 i f)))
    (IntOp.cmpi .sgt (iota .tc S128x256 32 [1] iota_S128x256_d1_w32 (ix2 i f)) 0#32)) _ _ = _
  rw [hi, hb]
  rfl

def countv : FVec Ideal S128x1 .f32 :=
  shapeCast S128x1 (multiReduction .add [1] S128 (onev xg) 0x00000000#32 reduces_S128x256_S128 (.inl rfl) rfl) shapeCasts_S128_S128x1

theorem countv_at (i : Fin 128) : countv xg (ix2 i (0 : Fin 1)) = Scale.count (Scale.top (rowOf xg i)) := by
  unfold countv
  rw [col_cast]
  unfold Scale.count
  refine (Ideal.multiReduction_add_single (a := 1) _ _ _ _ _ (ix1 i)).trans ?_
  refine Finset.sum_congr rfl fun f _ => ?_
  have h : reduces_S128x256_S128.lift (ix1 i) f = ix2 i f := by
    funext a
    match a with
    | 0 => rfl
    | 1 => rfl
  exact (congrArg (onev xg) h).trans (onev_at xg i f)

theorem scaleBits_at (i : Fin 128) : scaleBits xg (ix2 i (0 : Fin 1)) = Scale.bitsOf (Scale.top (rowOf xg i)) := by
  have : scaleBits xg (ix2 i (0 : Fin 1)) = Scalar.select (IntOp.cmpi .eq (IntOp.shli .vector (Ideal.fptosi 32 (countv xg (ix2 i (0 : Fin 1)))) 23#32) 0#32)
    1065353216#32 (IntOp.addi (IntOp.shli .vector (Ideal.fptosi 32 (countv xg (ix2 i (0 : Fin 1)))) 23#32) 8388608#32) := rfl
  rw [this, countv_at]
  rfl

theorem scaleOf_at (i : Fin 128) : scaleOf xg (ix2 i (0 : Fin 1)) = Ideal.ofBits .f32 (Scale.bitsOf (Scale.top (rowOf xg i))) :=
  congrArg (Ideal.ofBits .f32) (scaleBits_at xg i)

theorem codesOf_at (i k : Fin 128) : codesOf xg (ix2 i k)
    = Scale.code (rowOf xg i k) (Ideal.ofBits .f32 (IntOp.subi (2130706432#32) (Scale.bitsOf (Scale.top (rowOf xg i))))) := by
  have hb : broadcastTo S128x128 (bitcastToFloat .f32 (subi (broadcast S128x1 (Scalar.muli 2#32 1065353216#32)) (scaleBits xg)) : FVec Ideal S128x1 .f32)
      broadcasts_S128x1_S128x128 (ix2 i k) = Ideal.ofBits .f32 (IntOp.subi (2130706432#32) (Scale.bitsOf (Scale.top (rowOf xg i)))) := by
    refine (broadcastTo_apply _ _ (ix2 i k) (ix2 i (0 : Fin 1)) fun a => match a with | ⟨0, _⟩ => rfl | ⟨1, _⟩ => rfl).trans ?_
    show Ideal.ofBits .f32 (IntOp.subi (Scalar.muli 2#32 1065353216#32) (scaleBits xg (ix2 i (0 : Fin 1)))) = _
    rw [scaleBits_at, show Scalar.muli 2#32 1065353216#32 = 2130706432#32 from by decide]
  show min _ (max _ (xg (ix2 i k) * broadcastTo S128x128 (bitcastToFloat .f32 (subi (broadcast S128x1 (Scalar.muli 2#32 1065353216#32)) (scaleBits xg)) : FVec Ideal S128x1 .f32)
      broadcasts_S128x1_S128x128 (ix2 i k))) = _
  rw [hb]
  rfl

theorem actOf_at (i k : Fin 128) : actOf xg (ix2 i k) = (show EReal from codesOf xg (ix2 i k)) * scaleOf xg (ix2 i (0 : Fin 1)) := by
  have hb : broadcastTo S128x128 (truncf .bf16 (scaleOf xg) bitsLt_bf16_f32) broadcasts_S128x1_S128x128 (ix2 i k) = scaleOf xg (ix2 i (0 : Fin 1)) :=
    (broadcastTo_apply _ _ (ix2 i k) (ix2 i (0 : Fin 1)) fun a => match a with | ⟨0, _⟩ => rfl | ⟨1, _⟩ => rfl).trans rfl
  show (show EReal from codesOf xg (ix2 i k)) * broadcastTo S128x128 (truncf .bf16 (scaleOf xg) bitsLt_bf16_f32) broadcasts_S128x1_S128x128 (ix2 i k) = _
  rw [hb]

end

namespace In
variable (D : In Ideal)

/-- A group of the input. -/
def grp (r g : Nat) : Fin 128 → EReal := fun k => D.x r (128 * g + k.val)

theorem rowOf_xt (r g : Nat) : rowOf (D.xt (r / 128) g) ⟨r % 128, Nat.mod_lt _ (by decide)⟩ = D.grp r g := by
  funext k
  show D.x (128 * (r / 128) + r % 128) (128 * g + k.val) = D.x r (128 * g + k.val)
  rw [Nat.div_add_mod]

theorem scl_at (r g : Nat) : D.scl r g = Ideal.ofBits .f32 (Scale.bitsOf (Scale.top (D.grp r g))) := by
  unfold scl
  refine (scaleOf_at _ _).trans ?_
  rw [rowOf_xt]

theorem cod_at (r c : Nat) : D.cod r c = Scale.code (D.x r c)
    (Ideal.ofBits .f32 (IntOp.subi (2130706432#32) (Scale.bitsOf (Scale.top (D.grp r (c / 128)))))) := by
  unfold cod at2
  refine (codesOf_at _ _ _).trans ?_
  rw [rowOf_xt]
  show Scale.code (D.x r (128 * (c / 128) + c % 128)) _ = _
  rw [Nat.div_add_mod]

theorem act_at (r c : Nat) : D.act r c = (show EReal from D.cod r c) * D.scl r (c / 128) := by
  unfold act at2
  exact actOf_at _ _ _

end In

end Cert.KernelIdeal.Model
-- ==== Proof.RefQuant.lean ====
/- The reference's quantiser on the extended reals, read at an element. -/
module

public import proofs.«01_k».proof.Proof.QuantAt
public import proofs.«01_k».proof.Proof.Gen.ReferenceIdeal.Frame

@[expose] public section

noncomputable section

namespace Cert.ReferenceIdeal.At

open Idealize.ShloMosaic Idealize.ShloMosaic.ValueIdx
open Cert.ReferenceIdeal Cert.ReferenceIdeal.Gen

/-! ### Pointwise steps, at any shape -/

section
variable {s : Shape}

def expv (t : FVec Ideal s .f32) : FVec Ideal s .f32 :=
  select (cmpf .olt t (broadcast s (Scalar.ofBits .f32 0x00800000#32))) (broadcast s (Scalar.ofBits .f32 0x00000000#32))
    (addf (floor (divf (log t) (log (broadcast s (Scalar.ofBits .f32 0x40000000#32))))) (broadcast s (Scalar.ofBits .f32 0x3F800000#32)))

theorem expv_at (t : FVec Ideal s .f32) (i : s.Idx) : expv t i = Scale.expOf (t i) := rfl

def codev (x b : FVec Ideal s .f32) : FVec Ideal s .fp8e4m3 :=
  truncf .fp8e4m3 (minimumf (broadcast s (Scalar.ofBits .f32 0x43E00000#32)) (maximumf (broadcast s (Scalar.ofBits .f32 0xC3E00000#32)) (mulf x b)))
    bitsLt_fp8e4m3_f32

theorem codev_at (x b : FVec Ideal s .f32) (i : s.Idx) : codev x b i = Scale.code (x i) (b i) := rfl

theorem exp2_at (t : FVec Ideal s .f32) (i : s.Idx) : exp2 t i = Ideal.exp2 (t i) := rfl
theorem neg_at (t : FVec Ideal s .f32) (i : s.Idx) : subf (broadcast s (Scalar.ofBits .f32 0x00000000#32)) t i = Ideal.ofBits .f32 0x00000000#32 - t i := rfl
theorem ext_at (t : FVec Ideal s .bf16) (i : s.Idx) : (extf .f32 t bitsLt_bf16_f32) i = t i := rfl
theorem trunc_at (t : FVec Ideal s .f32) (i : s.Idx) : (truncf .bf16 t bitsLt_bf16_f32) i = t i := rfl
theorem abs_at (t : FVec Ideal s .f32) (i : s.Idx) : absf t i = max (t i : EReal) (-(t i : EReal)) := rfl
theorem act_at (x : FVec Ideal s .fp8e4m3) (b : FVec Ideal s .bf16) (i : s.Idx) :
    mulf (extf .bf16 x bitsLt_fp8e4m3_bf16) b i = (x i : EReal) * (b i : EReal) := rfl
theorem mul448_at (x : FVec Ideal s .f32) (i : s.Idx) :
    mulf x (broadcast s (Scalar.ofBits .f32 0x3B124925#32)) i = (x i : EReal) * Ideal.ofBits .f32 0x3B124925#32 := rfl

end

/-! ### Layout steps -/

theorem group_cast {α : Type} (v : S6144x3456.Idx → α) (r : Fin 6144) (g : Fin 27) (k : Fin 128) :
    shapeCast S6144x27x128 v shapeCasts_S6144x3456_S6144x27x128 (ix3 r g k) = v (ix2 r ⟨128 * g.val + k.val, by omega⟩) :=
  shapeCast_apply v _ (ix3 r g k) (ix2 r ⟨128 * g.val + k.val, by omega⟩) (by
    rw [Shape.rowMajor_val_two, Shape.rowMajor_val_three]
    show r.val * 3456 + (128 * g.val + k.val) = (r.val * 27 + g.val) * 128 + k.val
    omega)

theorem unit_cast {α : Type} (v : S6144x27.Idx → α) (r : Fin 6144) (g : Fin 27) :
    shapeCast S6144x27x1 v shapeCasts_S6144x27_S6144x27x1 (ix3 r g (0 : Fin 1)) = v (ix2 r g) :=
  shapeCast_apply v _ (ix3 r g (0 : Fin 1)) (ix2 r g) (by
    rw [Shape.rowMajor_val_two, Shape.rowMajor_val_three]
    show r.val * 27 + g.val = (r.val * 27 + g.val) * 1 + 0
    omega)

theorem drop_cast {α : Type} (v : S6144x27x1.Idx → α) (r : Fin 6144) (g : Fin 27) :
    shapeCast S6144x27 v shapeCasts_S6144x27x1_S6144x27 (ix2 r g) = v (ix3 r g (0 : Fin 1)) :=
  shapeCast_apply v _ (ix2 r g) (ix3 r g (0 : Fin 1)) (by
    rw [Shape.rowMajor_val_two, Shape.rowMajor_val_three]
    show (r.val * 27 + g.val) * 1 + 0 = r.val * 27 + g.val
    omega)

theorem lane_cast {α : Type} (v : S6144x27x1.Idx → α) (r : Fin 6144) (g : Fin 27) (k : Fin 128) :
    broadcastTo S6144x27x128 v broadcasts_S6144x27x1_S6144x27x128 (ix3 r g k) = v (ix3 r g (0 : Fin 1)) :=
  broadcastTo_apply v _ (ix3 r g k) (ix3 r g (0 : Fin 1)) fun a => match a with | ⟨0, _⟩ => rfl | ⟨1, _⟩ => rfl | ⟨2, _⟩ => rfl

/-! ### A group's largest magnitude over 448 -/

def topv (y : FVec Ideal S6144x27x128 .f32) : FVec Ideal S6144x27x1 .f32 :=
  mulf (shapeCast S6144x27x1 (multiReduction .maximumf [2] S6144x27 (absf y) 0xFF800000#32 reduces_S6144x27x128_S6144x27 (.inl rfl) rfl)
    shapeCasts_S6144x27_S6144x27x1) (broadcast S6144x27x1 (Scalar.ofBits .f32 0x3B124925#32))

theorem lift_at (r : Fin 6144) (g : Fin 27) (k : Fin 128) : reduces_S6144x27x128_S6144x27.lift (ix2 r g) k = ix3 r g k := by
  funext a
  match a with
  | 0 => rfl
  | 1 => rfl
  | 2 => rfl

theorem max_at (y : FVec Ideal S6144x27x128 .f32) (r : Fin 6144) (g : Fin 27) :
    multiReduction .maximumf [2] S6144x27 (absf y) 0xFF800000#32 reduces_S6144x27x128_S6144x27 (.inl rfl) rfl (ix2 r g)
      = (Finset.univ : Finset (Fin 128)).fold max (Ideal.ofBits .f32 0xFF800000#32) (fun k => max (y (ix3 r g k) : EReal) (-(y (ix3 r g k) : EReal))) := by
  refine (Ideal.multiReduction_maximumf_single (a := 2) _ _ _ _ _ (ix2 r g)).trans ?_
  refine Finset.fold_congr fun k _ => ?_
  exact (abs_at y _).trans (congrArg (fun i => max (y i : EReal) (-(y i : EReal))) (lift_at r g k))

theorem topv_at (y : FVec Ideal S6144x27x128 .f32) (r : Fin 6144) (g : Fin 27) :
    topv y (ix3 r g (0 : Fin 1)) = Scale.top (fun k => y (ix3 r g k)) := by
  unfold topv Scale.top
  refine (mul448_at _ _).trans ?_
  rw [unit_cast]
  exact congrArg (· * Ideal.ofBits .f32 0x3B124925#32) (max_at y r g)

/-! ### The printed steps -/

variable (P : Vec Ideal S6144x3456 .bf16)

/-- A group of the input. -/
def grp (r : Fin 6144) (g : Fin 27) : Fin 128 → EReal := fun k => P (ix2 r ⟨128 * g.val + k.val, by omega⟩)

theorem pay1_at (r : Fin 6144) (g : Fin 27) (k : Fin 128) : k0_pay1 P (ix3 r g k) = grp P r g k := by
  unfold k0_pay1
  rw [shapeCast_self]
  exact (group_cast _ r g k).trans (ext_at P _)

theorem pay2_eq : k0_pay2 P = expv (topv (k0_pay1 P)) := rfl

theorem pay2_at (r : Fin 6144) (g : Fin 27) : k0_pay2 P (ix3 r g (0 : Fin 1)) = Scale.expOf (Scale.top (grp P r g)) := by
  rw [pay2_eq, expv_at, topv_at]
  exact congrArg (fun v => Scale.expOf (Scale.top v)) (funext fun k => pay1_at P r g k)

theorem pay6_at (r : Fin 6144) (g : Fin 27) : k0_pay6 P (ix2 r g) = Ideal.exp2 (Scale.expOf (Scale.top (grp P r g))) := by
  unfold k0_pay6
  refine (drop_cast _ r g).trans ?_
  unfold k0_pay3
  refine (exp2_at _ _).trans ?_
  rw [pay2_at]

theorem pay4_eq : k0_pay4 P = codev (k0_pay1 P) (broadcastTo S6144x27x128 (exp2 (subf (broadcast S6144x27x1 (Scalar.ofBits .f32 0x00000000#32)) (k0_pay2 P)))
    broadcasts_S6144x27x1_S6144x27x128) := rfl

theorem pay4_at (r : Fin 6144) (g : Fin 27) (k : Fin 128) : k0_pay4 P (ix3 r g k)
    = Scale.code (grp P r g k) (Ideal.exp2 (Ideal.ofBits .f32 0x00000000#32 - Scale.expOf (Scale.top (grp P r g)))) := by
  rw [pay4_eq, codev_at, pay1_at, lane_cast, exp2_at, neg_at, pay2_at]

/-- The index of a column within its group. -/
def grpIx (c : Fin 3456) : Fin 27 := ⟨c.val / 128, by omega⟩
def inGrp (c : Fin 3456) : Fin 128 := ⟨c.val % 128, by omega⟩

theorem grp_col (r : Fin 6144) (c : Fin 3456) : grp P r (grpIx c) (inGrp c) = P (ix2 r c) := by
  unfold grp grpIx inGrp
  congr 2
  exact Fin.ext (Nat.div_add_mod _ _)

theorem row_col (r : Fin 6144) (c : Fin 3456) :
    ((⟨3, ![6144, 27, 128]⟩ : Shape).rowMajor (ix3 r (grpIx c) (inGrp c))).val = ((⟨2, ![6144, 3456]⟩ : Shape).rowMajor (ix2 r c)).val := by
  rw [Shape.rowMajor_val_two, Shape.rowMajor_val_three]
  show (r.val * 27 + c.val / 128) * 128 + c.val % 128 = r.val * 3456 + c.val
  omega

theorem col_cast {α : Type} (v : S6144x27x128.Idx → α) (r : Fin 6144) (c : Fin 3456) :
    shapeCast S6144x3456 v shapeCasts_S6144x27x128_S6144x3456 (ix2 r c) = v (ix3 r (grpIx c) (inGrp c)) :=
  shapeCast_apply v _ (ix2 r c) (ix3 r (grpIx c) (inGrp c)) (row_col r c)

theorem pay5_at (r : Fin 6144) (c : Fin 3456) : k0_pay5 P (ix2 r c)
    = Scale.code (P (ix2 r c)) (Ideal.exp2 (Ideal.ofBits .f32 0x00000000#32 - Scale.expOf (Scale.top (grp P r (grpIx c))))) := by
  unfold k0_pay5
  refine (col_cast _ r c).trans ?_
  rw [pay4_at, grp_col]

theorem pay7_eq : k0_pay7 P = shapeCast S6144x3456 (mulf (extf .bf16 (k0_pay4 P) bitsLt_fp8e4m3_bf16)
    (broadcastTo S6144x27x128 (truncf .bf16 (k0_pay3 P) bitsLt_bf16_f32) broadcasts_S6144x27x1_S6144x27x128)) shapeCasts_S6144x27x128_S6144x3456 := rfl

theorem pay7_at (r : Fin 6144) (c : Fin 3456) : k0_pay7 P (ix2 r c)
    = Scale.code (P (ix2 r c)) (Ideal.exp2 (Ideal.ofBits .f32 0x00000000#32 - Scale.expOf (Scale.top (grp P r (grpIx c)))))
      * Ideal.exp2 (Scale.expOf (Scale.top (grp P r (grpIx c)))) := by
  rw [pay7_eq]
  refine (col_cast _ r c).trans ?_
  refine (act_at _ _ _).trans ?_
  rw [pay4_at, grp_col, lane_cast, trunc_at]
  unfold k0_pay3
  rw [exp2_at, pay2_at]

end Cert.ReferenceIdeal.At
-- ==== Proof.Nibble.lean ====
/- The kernel's four-bit codes read at an element: the low half of the byte of the same chunk, or, from column 4288 on,
   the high half of the byte half a chunk along. -/
module

public import proofs.«01_k».proof.Proof.Values
public import Idealize.ShloMosaic.Lib.ValueLayout
public import Idealize.ShloMosaic.Lib.BitcastFour
public import Idealize.ShloMosaic.Lib.KernelVsHost
public import Idealize.ShloMosaic.PureOps.Ideal.Laws

@[expose] public section

noncomputable section

namespace Cert.Nib

open Idealize.ShloMosaic

/-- A four-bit code's value, as the reference takes it: 8 and more stand for the negative numbers. -/
def val (n : BitVec 32) : BitVec 32 := Scalar.select (IntOp.cmpi .sge n 8#32) (IntOp.subi n 16#32) n
/-- A byte's low and high code, -/
def low (b : BitVec 8) : BitVec 32 := IntOp.andi (b.setWidth 32) 15#32
def high (b : BitVec 8) : BitVec 32 := IntOp.shrsi .vector (b.setWidth 32) 4#32
/-- and the kernel's bytes for them. -/
def lowB (b : BitVec 8) : BitVec 8 := (b ^^^ 8#8) &&& 15#8
def highB (b : BitVec 8) : BitVec 8 := ((b >>> 4) ^^^ 8#8) &&& 15#8

theorem low_int (b : BitVec 8) : (lowB b).toInt - 8 = (val (low b)).toInt := by
  have h : ∀ n : Fin 256, (lowB (BitVec.ofFin n)).toInt - 8 = (val (low (BitVec.ofFin n))).toInt := by decide +kernel
  exact h b.toFin

theorem high_int (b : BitVec 8) : (highB b).toInt - 8 = (val (high b)).toInt := by
  have h : ∀ n : Fin 256, (highB (BitVec.ofFin n)).toInt - 8 = (val (high (BitVec.ofFin n))).toInt := by decide +kernel
  exact h b.toFin

theorem eight : Ideal.ofBits .bf16 0x4100#16 = ((8 : ℝ) : EReal) := by
  show Ideal.ieee 8 7 (0x4100#16) = _
  unfold Ideal.ieee
  have hn : ((0x4100#16 : BitVec 16).extractLsb' (8 + 7) 1 == 1#1) = false := by decide
  have he : ((0x4100#16 : BitVec 16).extractLsb' 7 8).toNat = 130 := by decide
  have hf : ((0x4100#16 : BitVec 16).extractLsb' 0 7).toNat = 0 := by decide
  simp only [hn, he, hf]
  norm_num

theorem sub_eight (b : BitVec 8) (z : ℤ) (h : b.toInt - 8 = z) : ((b.toInt : ℝ) : EReal) - Ideal.ofBits .bf16 0x4100#16 = ((z : ℝ) : EReal) := by
  rw [eight, ← EReal.coe_sub, ← h]
  congr 1
  push_cast
  rfl

end Cert.Nib

namespace Cert.KernelIdeal.Model

open Idealize.ShloMosaic Idealize.ShloMosaic.ValueIdx
open Shapes1.Facts₀ K0.Facts₀

/-- Word row `a / 4` of a byte row. -/
def wordRow (a : Fin 128) : Fin 32 := ⟨a.val / 4, by omega⟩

/-- A bit of a byte of the words written back as bytes. -/
theorem byte_at (v : IVec S32x128 32) (a l : Fin 128) (q : Nat) (hq : q < 8) :
    (bitcast S128x128 8 v bitcasts_S32x128_w32_S128x128_w8 (ix2 a l)).getLsbD q = (v (ix2 (wordRow a) l)).getLsbD (8 * (a.val % 4) + q) := by
  rw [bitcast_getLsbD v _ _ q hq (by decide)]
  have e1 : ((⟨2, ![128, 128]⟩ : Shape).row (ix2 a l) * 8 + q) % 32 = 8 * (a.val % 4) + q := by
    show (a.val * 8 + q) % 32 = _
    omega
  have e2 : ((⟨2, ![128, 128]⟩ : Shape).row (ix2 a l) * 8 + q) / 32 = a.val / 4 := by
    show (a.val * 8 + q) / 32 = _
    omega
  refine (congrArg _ e1).trans ?_
  refine congrArg (fun i => (v i).getLsbD (8 * (a.val % 4) + q)) ?_
  funext c
  match c with
  | ⟨0, _⟩ => exact Fin.ext ((Shape.Bitcasts.srcIdx_row _ _ _ _ ⟨0, Nat.zero_lt_two⟩ rfl).trans e2)
  | ⟨1, _⟩ => exact Fin.ext (Shape.Bitcasts.srcIdx_other _ _ _ _ ⟨1, Nat.one_lt_two⟩ (by show ¬ 1 + 2 = 2; omega))

/-- A bit of a word of packed bytes. -/
theorem word_at (x : IVec S128x128 8) (a l : Fin 128) (q : Nat) (hq : q < 8) :
    (bitcast S32x128 32 x bitcasts_S128x128_w8_S32x128_w32 (ix2 (wordRow a) l)).getLsbD (8 * (a.val % 4) + q) = (x (ix2 a l)).getLsbD q := by
  rw [bitcast_8_32_getLsbD_ix2 x _ (wordRow a) l (8 * (a.val % 4) + q) (by omega) a (by show a.val = 4 * (a.val / 4) + _; omega)]
  congr 1
  omega

theorem mask8 : ∀ k : Fin 4, ∀ q : Fin 8, (134744072#32).getLsbD (8 * k.val + q.val) = (8#8).getLsbD q.val := by decide
theorem mask15 : ∀ k : Fin 4, ∀ q : Fin 8, (252645135#32).getLsbD (8 * k.val + q.val) = (15#8).getLsbD q.val := by decide
theorem mask15_high : ∀ q : Fin 8, 4 ≤ q.val → (15#8).getLsbD q.val = false := by decide

/-- The other half chunk. -/
def halfLane (l : Fin 128) : Fin 128 := ⟨(l.val + 64) % 128, Nat.mod_lt _ (by decide)⟩

theorem rolled_at (w : IVec S32x128 32) (r : Fin 32) (l : Fin 128) : dynamicRotate 1 64#32 none w rotates_S32x128_d1 (ix2 r l) = w (ix2 r (halfLane l)) :=
  dynamicRotate_apply 1 64#32 w _ (ix2 r l) (ix2 r (halfLane l)) fun b => match b with
    | ⟨0, _⟩ => rfl
    | ⟨1, _⟩ => by
      show (l.val + 64) % 128 = (l.val + 128 - 64 % 128) % 128
      omega

/-- The byte a code is of. -/
def srcByte (lo hi : IVec S128x128 8) (a l : Fin 128) : BitVec 8 := if l.val < 64 then lo (ix2 a (halfLane l)) else hi (ix2 a (halfLane l))

def rawWord (x : IVec S128x128 8) : IVec S32x128 32 := bitcast S32x128 32 x bitcasts_S128x128_w8_S32x128_w32

def highWord (lo hi : IVec S128x128 8) : IVec S32x128 32 :=
  select (cmpi .slt (iota .tc S32x128 32 [1] iota_S32x128_d1_w32) (broadcast S32x128 64#32))
    (dynamicRotate 1 64#32 none (rawWord lo) rotates_S32x128_d1) (dynamicRotate 1 64#32 none (rawWord hi) rotates_S32x128_d1)

theorem slt64 : ∀ l : Fin 128, IntOp.cmpi .slt (BitVec.ofNat 32 l.val) 64#32 = BitVec.ofBool (decide (l.val < 64)) := by decide

theorem highWord_at (lo hi : IVec S128x128 8) (a l : Fin 128) (q : Nat) (hq : q < 8) :
    (highWord lo hi (ix2 (wordRow a) l)).getLsbD (8 * (a.val % 4) + q) = (srcByte lo hi a l).getLsbD q := by
  have h : highWord lo hi (ix2 (wordRow a) l) = Scalar.select (IntOp.cmpi .slt (iota .tc S32x128 32 [1] iota_S32x128_d1_w32 (ix2 (wordRow a) l)) 64#32)
    (dynamicRotate 1 64#32 none (rawWord lo) rotates_S32x128_d1 (ix2 (wordRow a) l)) (dynamicRotate 1 64#32 none (rawWord hi) rotates_S32x128_d1 (ix2 (wordRow a) l)) := rfl
  have hi' : iota .tc S32x128 32 [1] iota_S32x128_d1_w32 (ix2 (wordRow a) l) = BitVec.ofNat 32 l.val := iota_single_apply _ _ _ _ _ _
  rw [h, hi', slt64, rolled_at, rolled_at]
  unfold srcByte
  by_cases hl : l.val < 64
  · rw [if_pos hl, decide_eq_true hl]
    exact word_at lo a (halfLane l) q hq
  · rw [if_neg hl, decide_eq_false hl]
    exact word_at hi a (halfLane l) q hq

/-- The word of codes before its bytes are taken. -/
def codeWord (t : BitVec 32) (lo hi : IVec S128x128 8) : IVec S32x128 32 :=
  andi (xori (select (cmpi .sge (iota .tc S32x128 32 [1] iota_S32x128_d1_w32) (broadcast S32x128 t))
    (shrui (highWord lo hi) (broadcast S32x128 4#32)) (rawWord lo)) (broadcast S32x128 134744072#32)) (broadcast S32x128 252645135#32)

theorem codeWord_at (t : BitVec 32) (lo hi : IVec S128x128 8) (r : Fin 32) (l : Fin 128) : codeWord t lo hi (ix2 r l)
    = ((Scalar.select (IntOp.cmpi .sge (BitVec.ofNat 32 l.val) t) (highWord lo hi (ix2 r l) >>> 4) (rawWord lo (ix2 r l))) ^^^ 134744072#32) &&& 252645135#32 := by
  have h : codeWord t lo hi (ix2 r l) = ((Scalar.select (IntOp.cmpi .sge (iota .tc S32x128 32 [1] iota_S32x128_d1_w32 (ix2 r l)) t)
    (IntOp.shrui .vector (highWord lo hi (ix2 r l)) 4#32) (rawWord lo (ix2 r l))) ^^^ 134744072#32) &&& 252645135#32 := rfl
  have hi' : iota .tc S32x128 32 [1] iota_S32x128_d1_w32 (ix2 r l) = BitVec.ofNat 32 l.val := iota_single_apply _ _ _ _ _ _
  rw [h, hi']
  rfl

theorem codeByte_low (t : BitVec 32) (lo hi : IVec S128x128 8) (a l : Fin 128) (h : IntOp.cmpi .sge (BitVec.ofNat 32 l.val) t = 0#1) :
    bitcast S128x128 8 (codeWord t lo hi) bitcasts_S32x128_w32_S128x128_w8 (ix2 a l) = Nib.lowB (lo (ix2 a l)) := by
  apply BitVec.eq_of_getLsbD_eq
  intro q hq
  rw [byte_at _ _ _ q hq, codeWord_at, h]
  unfold Nib.lowB
  rw [BitVec.getLsbD_and, BitVec.getLsbD_xor, BitVec.getLsbD_and, BitVec.getLsbD_xor,
    mask8 ⟨a.val % 4, Nat.mod_lt _ (by decide)⟩ ⟨q, hq⟩, mask15 ⟨a.val % 4, Nat.mod_lt _ (by decide)⟩ ⟨q, hq⟩]
  have : (rawWord lo (ix2 (wordRow a) l)).getLsbD (8 * (a.val % 4) + q) = (lo (ix2 a l)).getLsbD q := word_at lo a l q hq
  rw [← this]
  rfl

theorem codeByte_high (t : BitVec 32) (lo hi : IVec S128x128 8) (a l : Fin 128) (h : IntOp.cmpi .sge (BitVec.ofNat 32 l.val) t = 1#1) :
    bitcast S128x128 8 (codeWord t lo hi) bitcasts_S32x128_w32_S128x128_w8 (ix2 a l) = Nib.highB (srcByte lo hi a l) := by
  apply BitVec.eq_of_getLsbD_eq
  intro q hq
  rw [byte_at _ _ _ q hq, codeWord_at, h]
  unfold Nib.highB
  rw [BitVec.getLsbD_and, BitVec.getLsbD_xor, BitVec.getLsbD_and, BitVec.getLsbD_xor,
    mask8 ⟨a.val % 4, Nat.mod_lt _ (by decide)⟩ ⟨q, hq⟩, mask15 ⟨a.val % 4, Nat.mod_lt _ (by decide)⟩ ⟨q, hq⟩]
  by_cases h4 : 4 ≤ q
  · rw [mask15_high ⟨q, hq⟩ h4, Bool.and_false, Bool.and_false]
  · have : (highWord lo hi (ix2 (wordRow a) l)).getLsbD (8 * (a.val % 4) + (q + 4)) = (srcByte lo hi a l).getLsbD (q + 4) := highWord_at lo hi a l (q + 4) (by omega)
    have e : (highWord lo hi (ix2 (wordRow a) l) >>> 4).getLsbD (8 * (a.val % 4) + q) = (srcByte lo hi a l >>> 4).getLsbD q := by
      rw [BitVec.getLsbD_ushiftRight, BitVec.getLsbD_ushiftRight, Nat.add_comm 4 q, ← this]
      congr 1
      omega
    rw [← e]
    rfl

/-- The threshold's comparison. -/
theorem sge_at (f i : Nat) (hf : f ≤ 63) (hi : i < 4) (l : Fin 128) :
    IntOp.cmpi .sge (BitVec.ofNat 32 l.val) (Scalar.subi (Scalar.subi 4288#32 (BitVec.ofNat 32 (128 * f))) (BitVec.ofNat 32 (128 * i)))
      = BitVec.ofBool (decide (4288 ≤ 128 * (f + i) + l.val)) := by
  have e : Scalar.subi (Scalar.subi 4288#32 (BitVec.ofNat 32 (128 * f))) (BitVec.ofNat 32 (128 * i)) = BitVec.ofInt 32 (4288 - ((128 * f : ℕ) : ℤ) - ((128 * i : ℕ) : ℤ)) := by
    rw [Int.sub_eq_add_neg, Int.sub_eq_add_neg, BitVec.ofInt_add, BitVec.ofInt_add, BitVec.ofInt_neg, BitVec.ofInt_neg, BitVec.ofInt_natCast, BitVec.ofInt_natCast, ← BitVec.sub_eq_add_neg, ← BitVec.sub_eq_add_neg]
    rfl
  rw [e]
  show BitVec.ofBool (BitVec.sle _ _) = _
  congr 1
  rw [BitVec.sle_eq_decide]
  have h1 : (BitVec.ofInt 32 (4288 - ((128 * f : ℕ) : ℤ) - ((128 * i : ℕ) : ℤ))).toInt = 4288 - ((128 * f : ℕ) : ℤ) - ((128 * i : ℕ) : ℤ) :=
    BitVec.toInt_ofInt_eq_self (by decide) (by norm_num <;> omega) (by norm_num <;> omega)
  have h2 : (BitVec.ofNat 32 l.val).toInt = (l.val : ℤ) := by
    rw [← BitVec.ofInt_natCast]
    have := l.isLt
    exact BitVec.toInt_ofInt_eq_self (by decide) (by norm_num <;> omega) (by norm_num <;> omega)
  rw [h1, h2, decide_eq_decide]
  omega

/-- The kernel's code, a real number. -/
theorem nibbles_low (f i : Nat) (hf : f ≤ 63) (hi : i < 4) (lo hi' : IVec S128x128 8) (a l : Fin 128) (h : 128 * (f + i) + l.val < 4288) :
    nibbles (F := Ideal) (BitVec.ofNat 32 (128 * f)) i lo hi' (ix2 a l) = (((Nib.val (Nib.low (lo (ix2 a l)))).toInt : ℝ) : EReal) := by
  have e : nibbles (F := Ideal) (BitVec.ofNat 32 (128 * f)) i lo hi' (ix2 a l)
    = ((((bitcast S128x128 8 (codeWord (Scalar.subi (Scalar.subi 4288#32 (BitVec.ofNat 32 (128 * f))) (BitVec.ofNat 32 (128 * i))) lo hi')
      bitcasts_S32x128_w32_S128x128_w8 (ix2 a l)).toInt : ℝ)) : EReal) - Ideal.ofBits .bf16 0x4100#16 := rfl
  rw [e, codeByte_low _ _ _ _ _ (by rw [sge_at f i hf hi l, decide_eq_false (by omega)]; rfl)]
  exact Nib.sub_eight _ _ (Nib.low_int _)

theorem nibbles_high (f i : Nat) (hf : f ≤ 63) (hi : i < 4) (lo hi' : IVec S128x128 8) (a l : Fin 128) (h : 4288 ≤ 128 * (f + i) + l.val) :
    nibbles (F := Ideal) (BitVec.ofNat 32 (128 * f)) i lo hi' (ix2 a l) = (((Nib.val (Nib.high (srcByte lo hi' a l))).toInt : ℝ) : EReal) := by
  have e : nibbles (F := Ideal) (BitVec.ofNat 32 (128 * f)) i lo hi' (ix2 a l)
    = ((((bitcast S128x128 8 (codeWord (Scalar.subi (Scalar.subi 4288#32 (BitVec.ofNat 32 (128 * f))) (BitVec.ofNat 32 (128 * i))) lo hi')
      bitcasts_S32x128_w32_S128x128_w8 (ix2 a l)).toInt : ℝ)) : EReal) - Ideal.ofBits .bf16 0x4100#16 := rfl
  rw [e, codeByte_high _ _ _ _ _ (by rw [sge_at f i hf hi l, decide_eq_true h]; rfl)]
  exact Nib.sub_eight _ _ (Nib.high_int _)

end Cert.KernelIdeal.Model
-- ==== Proof.SumAt.lean ====
/- The kernel's product on the extended reals, read at an element: the sum over the 3456 input columns of the activation
   times the widened weight, times the column's scale. The tiles, the doubled last half tile and the zero weights under
   it leave no trace. -/
module

public import proofs.«01_k».proof.Proof.Nibble
public import Idealize.ShloMosaic.Lib.MatmulPlain

@[expose] public section

noncomputable section

namespace Cert.Nib

open Idealize.ShloMosaic

/-- The code of row `k`, column `c`: the low halves of the bytes, then their high halves. -/
def codeAt (wp : Nat → Nat → BitVec 8) (k c : Nat) : EReal :=
  (((val (if c < 4288 then low (wp k c) else high (wp k (c - 4288)))).toInt : ℝ) : EReal)

end Cert.Nib

namespace Cert.KernelIdeal.Model

open Idealize.ShloMosaic Idealize.ShloMosaic.ValueIdx
open Shapes1.Facts₀ K0.Facts₀

theorem fc_own {c : Nat} (h : c < 8576) : fc (In.own c) ≤ 63 ∧ 128 * fc (In.own c) ≤ c ∧ c < 128 * fc (In.own c) + 512 := by
  unfold fc In.own
  split <;> omega

theorem weights_at (col0 : BitVec 32) (i : Nat) (lo hi : IVec S128x128 8) (gs : FVec Ideal S1x1x128 .f32) (a l : Fin 128) :
    weights (F := Ideal) col0 i lo hi gs (ix2 a l) = (nibbles (F := Ideal) col0 i lo hi (ix2 a l) : EReal) * (gs (ix3 (0 : Fin 1) (0 : Fin 1) l) : EReal) := by
  have hb : broadcastTo S128x128 (truncf .bf16 (shapeCast S1x128 gs shapeCasts_S1x1x128_S1x128 : FVec Ideal S1x128 .f32) bitsLt_bf16_f32)
      broadcasts_S1x128_S128x128 (ix2 a l) = gs (ix3 (0 : Fin 1) (0 : Fin 1) l) := by
    refine (broadcastTo_1b_ab_apply _ _ a l).trans ?_
    exact shapeCast_1ab_ab_apply gs _ (0 : Fin 1) l
  have e : weights (F := Ideal) col0 i lo hi gs (ix2 a l) = (nibbles (F := Ideal) col0 i lo hi (ix2 a l) : EReal)
    * (broadcastTo S128x128 (truncf .bf16 (shapeCast S1x128 gs shapeCasts_S1x1x128_S1x128 : FVec Ideal S1x128 .f32) bitsLt_bf16_f32)
      broadcasts_S1x128_S128x128 (ix2 a l) : EReal) := rfl
  rw [e, hb]

theorem pass_at (l v : FVec Ideal S256x256 .bf16) (i j : Fin 256) :
    pass l v (ix2 i j) = ∑ k : Fin 256, (l (ix2 i k) : EReal) * (v (ix2 k j) : EReal) := by
  have h := Ideal.matmul_plain_apply none l v (fun _ => (0 : EReal)) i j
  rw [zero_add] at h
  rw [← h]
  exact (zero_add _).symm

namespace In
variable (D : In Ideal)

theorem wpp_at (f k c : Nat) : D.wpp f k c = D.wp k (128 * wch f (c / 128) + c % 128) := rfl

/-- A weight of a panel. -/
theorem wgt_at (f k c : Nat) (hf : f ≤ 63) (hk : k < 3456) (hc : c < 512) :
    D.wgt f k c = Nib.codeAt D.wp k (128 * f + c) * (D.gs (k / 128) (128 * f + c) : EReal) := by
  unfold wgt at2
  beta_reduce
  rw [if_pos (by omega : k / 128 < 27)]
  refine (weights_at _ _ _ _ _ _ _).trans ?_
  have hg : tile3 (D.gsp f (c / 128)) (k / 128) 0 1 128 (ix3 (0 : Fin 1) (0 : Fin 1) ⟨c % 128, Nat.mod_lt _ (by decide)⟩) = D.gs (k / 128) (128 * f + c) := by
    show D.gs (k / 128) (128 * (f + c / 128) + (0 + c % 128)) = _
    refine congrArg (D.gs (k / 128)) ?_
    omega
  rw [hg]
  refine congrArg (fun z : EReal => z * (D.gs (k / 128) (128 * f + c) : EReal)) ?_
  unfold Nib.codeAt
  by_cases h : 128 * f + c < 4288
  · rw [if_pos h]
    refine (nibbles_low f (c / 128) hf (by omega) _ _ _ _ (by show 128 * (f + c / 128) + c % 128 < 4288; omega)).trans ?_
    have e : tile2 (D.wpp f) (128 * (k / 128)) (128 * (c / 128)) 128 128 (ix2 ⟨k % 128, Nat.mod_lt _ (by decide)⟩ ⟨c % 128, Nat.mod_lt _ (by decide)⟩)
        = D.wp k (128 * f + c) := by
      show D.wpp f (128 * (k / 128) + k % 128) (128 * (c / 128) + c % 128) = _
      rw [Nat.div_add_mod, Nat.div_add_mod, wpp_at]
      have : wch f (c / 128) = f + c / 128 := if_pos (by omega)
      rw [this]
      refine congrArg (D.wp k) ?_
      omega
    rw [e]
  · rw [if_neg h]
    refine (nibbles_high f (c / 128) hf (by omega) _ _ _ _ (by show 4288 ≤ 128 * (f + c / 128) + c % 128; omega)).trans ?_
    have e : srcByte (tile2 (D.wpp f) (128 * (k / 128)) (128 * (c / 128)) 128 128) (tile2 (D.wpp f) (128 * (k / 128)) (128 * (c / 128 + 1)) 128 128)
        ⟨k % 128, Nat.mod_lt _ (by decide)⟩ ⟨c % 128, Nat.mod_lt _ (by decide)⟩ = D.wp k (128 * f + c - 4288) := by
      unfold srcByte
      by_cases hl : c % 128 < 64
      · rw [if_pos hl]
        show D.wpp f (128 * (k / 128) + k % 128) (128 * (c / 128) + (c % 128 + 64) % 128) = _
        rw [Nat.div_add_mod, wpp_at]
        have h1 : (128 * (c / 128) + (c % 128 + 64) % 128) / 128 = c / 128 := by omega
        rw [h1]
        have : wch f (c / 128) = f + c / 128 - 34 := if_neg (by omega)
        rw [this]
        refine congrArg (D.wp k) ?_
        omega
      · rw [if_neg hl]
        show D.wpp f (128 * (k / 128) + k % 128) (128 * (c / 128 + 1) + (c % 128 + 64) % 128) = _
        rw [Nat.div_add_mod, wpp_at]
        have h1 : (128 * (c / 128 + 1) + (c % 128 + 64) % 128) / 128 = c / 128 + 1 := by omega
        rw [h1]
        have : wch f (c / 128 + 1) = f + (c / 128 + 1) - 34 := if_neg (by omega)
        rw [this]
        refine congrArg (D.wp k) ?_
        omega
    rw [e]

/-- Below the last row they are zero. -/
theorem wgt_zero (f k c : Nat) (hk : 3456 ≤ k) : D.wgt f k c = (0 : EReal) := by
  unfold wgt at2
  beta_reduce
  rw [if_neg (by omega)]
  show Ideal.ieee 8 7 (0x0000#16) = 0
  simp [Ideal.ieee]

/-- A product of the sum. -/
def term (r f c m : Nat) : EReal := if m < 3456 then (D.act r m : EReal) * (D.wgt f m c : EReal) else 0

theorem tile_sum (R f k : Nat) (hk : k ≤ 13) (q : Fin 2) (i j : Fin 256) :
    pass (D.lhs R k) (D.rhs f k q) (ix2 i j) = ∑ l ∈ Finset.range 256, D.term (R + i.val) f (256 * q.val + j.val) (256 * k + l) := by
  rw [pass_at, Finset.sum_range]
  refine Finset.sum_congr rfl fun l _ => ?_
  have hr : D.rhs f k q (ix2 l j) = D.wgt f (256 * k + l.val) (256 * q.val + j.val) := rfl
  rw [hr]
  unfold term
  by_cases h : 256 * k + l.val < 3456
  · rw [if_pos h]
    refine congrArg (fun z : EReal => z * (D.wgt f (256 * k + l.val) (256 * q.val + j.val) : EReal)) ?_
    by_cases h13 : k < 13
    · unfold lhs
      rw [if_pos h13]
      rfl
    · have hk13 : k = 13 := by omega
      subst hk13
      have hl : l.val < 128 := by omega
      unfold lhs
      rw [if_neg (by decide)]
      refine (concatenate_pair_apply_left (t := S256x256) (s₁ := S256x128) (s₂ := S256x128) (1 : Fin 2) _ _
        concatenates_S256x128_S256x128_S256x256_d1 (ix2 i l) rfl (ix2 i (⟨l.val, hl⟩ : Fin 128)) fun b => match b with
          | ⟨0, _⟩ => rfl
          | ⟨1, _⟩ => rfl).trans rfl
  · rw [if_neg h, wgt_zero D f _ _ (by omega), mul_zero]

theorem psum_at (R f : Nat) (q : Fin 2) (i j : Fin 256) : ∀ n : Nat, n ≤ 13 →
    D.psum R f n q (ix2 i j) = ∑ m ∈ Finset.range (256 * (n + 1)), D.term (R + i.val) f (256 * q.val + j.val) m
  | 0, _ => by
    refine (tile_sum D R f 0 (by decide) q i j).trans ?_
    refine Finset.sum_congr rfl fun l _ => ?_
    rw [Nat.mul_zero, Nat.zero_add]
  | n + 1, hn => by
    have e : D.psum R f (n + 1) q (ix2 i j) = (D.psum R f n q (ix2 i j) : EReal) + (pass (D.lhs R (n + 1)) (D.rhs f (n + 1) q) (ix2 i j) : EReal) := rfl
    rw [e, psum_at R f q i j n (by omega), tile_sum D R f (n + 1) hn q i j, show 256 * (n + 1 + 1) = 256 * (n + 1) + 256 by omega, Finset.sum_range_add]

theorem sum_term (r f c : Nat) : ∑ m ∈ Finset.range (256 * (13 + 1)), D.term r f c m
    = ∑ k : Fin 3456, (D.act r k.val : EReal) * (D.wgt f k.val c : EReal) := by
  rw [show 256 * (13 + 1) = 3456 + 128 by norm_num, Finset.sum_range_add, Finset.sum_range]
  have h0 : ∑ m ∈ Finset.range 128, D.term r f c (3456 + m) = 0 :=
    Finset.sum_eq_zero fun m _ => if_neg (by omega)
  rw [h0, add_zero]
  exact Finset.sum_congr rfl fun k _ => if_pos k.isLt

theorem tileOf_at (acc : FVec Ideal S256x256 .f32) (ws : FVec Ideal S1x256 .f32) (i j : Fin 256) :
    tileOf (F := Ideal) acc ws (ix2 i j) = (acc (ix2 i j) : EReal) * (ws (ix2 (0 : Fin 1) j) : EReal) := by
  have e : tileOf (F := Ideal) acc ws (ix2 i j) = (acc (ix2 i j) : EReal)
    * (broadcastTo S256x256 (shapeCast S1x256 ws shapeCasts_S1x256_S1x256 : FVec Ideal S1x256 .f32) broadcasts_S1x256_S256x256 (ix2 i j) : EReal) := rfl
  rw [e, shapeCast_self]
  exact congrArg (fun z : EReal => (acc (ix2 i j) : EReal) * z) (broadcastTo_1b_ab_apply ws _ i j)

/-- The result at an element. -/
theorem y_at (r c : Nat) (hc : c < 8576) : D.y r c
    = (∑ k : Fin 3456, (D.act r k.val : EReal) * (Nib.codeAt D.wp k.val c * (D.gs (k.val / 128) c : EReal))) * (D.ws 0 c : EReal) := by
  obtain ⟨hf, h1, h2⟩ := fc_own hc
  obtain ⟨f, hfd⟩ : ∃ f, f = fc (own c) := ⟨_, rfl⟩
  rw [← hfd] at hf h1 h2
  obtain ⟨d, hd⟩ : ∃ d, d = c - 128 * f := ⟨_, rfl⟩
  obtain ⟨q, hq⟩ : ∃ q : Fin 2, q = if d / 256 = 0 then 0 else 1 := ⟨_, rfl⟩
  have hqv : q.val = d / 256 := by
    rw [hq]
    split
    · rename_i h0
      rw [h0]
      rfl
    · show 1 = d / 256
      omega
  have e : D.y r c = D.ytile (256 * (r / 256)) f q (ix2 ⟨r % 256, Nat.mod_lt _ (by decide)⟩ ⟨d % 256, Nat.mod_lt _ (by decide)⟩) := by
    unfold y ypan at2
    beta_reduce
    rw [← hfd, ← hd, ← hq]
  rw [e]
  unfold ytile
  refine (tileOf_at _ _ _ _).trans ?_
  rw [psum_at D _ _ _ _ _ 13 (by decide), sum_term]
  have hr : 256 * (r / 256) + r % 256 = r := Nat.div_add_mod _ _
  have hcol : 256 * q.val + d % 256 = d := by rw [hqv]; exact Nat.div_add_mod _ _
  have hws : tile2 D.ws 0 (128 * f + 256 * q.val) 1 256 (ix2 (0 : Fin 1) ⟨d % 256, Nat.mod_lt _ (by decide)⟩) = D.ws 0 c := by
    show D.ws 0 (128 * f + 256 * q.val + d % 256) = _
    refine congrArg (D.ws 0) ?_
    omega
  rw [hws]
  refine congrArg (fun z : EReal => z * (D.ws 0 c : EReal)) ?_
  refine Finset.sum_congr rfl fun k _ => ?_
  show (D.act (256 * (r / 256) + r % 256) k.val : EReal) * (D.wgt f k.val (256 * q.val + d % 256) : EReal) = _
  rw [hr, hcol, wgt_at D f k.val d hf k.isLt (by omega), show 128 * f + d = c by omega]

end In

end Cert.KernelIdeal.Model
-- ==== Proof.RefSum.lean ====
/- The reference's product on the extended reals, read at an element. -/
module

public import proofs.«01_k».proof.Proof.RefQuant
public import proofs.«01_k».proof.Proof.SumAt

@[expose] public section

noncomputable section

namespace Cert.ReferenceIdeal.At

open Idealize.ShloMosaic Idealize.ShloMosaic.ValueIdx
open Cert.ReferenceIdeal Cert.ReferenceIdeal.Gen

/-! ### Pointwise steps, at any shape -/

section
variable {s : Shape}

def valv (n : IVec s 32) : FVec Ideal s .bf16 :=
  sitofp .bf16 (select (cmpi .sge n (broadcast s 8#32)) (subi n (broadcast s 16#32)) n)

theorem valv_at (n : IVec s 32) (i : s.Idx) : valv n i = (((Nib.val (n i)).toInt : ℝ) : EReal) := rfl

theorem mul16_at (x y : FVec Ideal s .bf16) (i : s.Idx) : mulf x y i = (x i : EReal) * (y i : EReal) := rfl
theorem mul32_at (x y : FVec Ideal s .f32) (i : s.Idx) : mulf x y i = (x i : EReal) * (y i : EReal) := rfl
theorem low_at (x : IVec s 8) (i : s.Idx) : andi (extui 32 x natLt_8_32) (broadcast s 15#32) i = Nib.low (x i) := rfl
theorem high_at (x : IVec s 8) (i : s.Idx) : shrsi (extui 32 x natLt_8_32) (broadcast s 4#32) i = Nib.high (x i) := rfl

end

/-! ### Layout steps -/

theorem rows_cast {α : Type} (v : S27x128x4288.Idx → α) (k : Fin 3456) (c : Fin 4288) :
    shapeCast S3456x4288 v shapeCasts_S27x128x4288_S3456x4288 (ix2 k c) = v (ix3 (grpIx k) (inGrp k) c) :=
  shapeCast_apply v _ (ix2 k c) (ix3 (grpIx k) (inGrp k) c) (by
    rw [Shape.rowMajor_val_two, Shape.rowMajor_val_three]
    show (k.val / 128 * 128 + k.val % 128) * 4288 + c.val = k.val * 4288 + c.val
    rw [Nat.div_add_mod'])

theorem groups_cast {α : Type} (v : S3456x4288.Idx → α) (k : Fin 3456) (c : Fin 4288) :
    shapeCast S27x128x4288 v shapeCasts_S3456x4288_S27x128x4288 (ix3 (grpIx k) (inGrp k) c) = v (ix2 k c) :=
  shapeCast_apply v _ (ix3 (grpIx k) (inGrp k) c) (ix2 k c) (by
    rw [Shape.rowMajor_val_two, Shape.rowMajor_val_three]
    show k.val * 4288 + c.val = (k.val / 128 * 128 + k.val % 128) * 4288 + c.val
    rw [Nat.div_add_mod'])

theorem mid_cast {α : Type} (v : S27x4288.Idx → α) (g : Fin 27) (c : Fin 4288) :
    shapeCast S27x1x4288 v shapeCasts_S27x4288_S27x1x4288 (ix3 g (0 : Fin 1) c) = v (ix2 g c) :=
  shapeCast_apply v _ (ix3 g (0 : Fin 1) c) (ix2 g c) (by
    rw [Shape.rowMajor_val_two, Shape.rowMajor_val_three]
    show g.val * 4288 + c.val = (g.val * 1 + 0) * 4288 + c.val
    omega)

theorem mid_bcast {α : Type} (v : S27x1x4288.Idx → α) (g : Fin 27) (k : Fin 128) (c : Fin 4288) :
    broadcastTo S27x128x4288 v broadcasts_S27x1x4288_S27x128x4288 (ix3 g k c) = v (ix3 g (0 : Fin 1) c) :=
  broadcastTo_apply v _ (ix3 g k c) (ix3 g (0 : Fin 1) c) fun a => match a with | ⟨0, _⟩ => rfl | ⟨1, _⟩ => rfl | ⟨2, _⟩ => rfl

/-! ### One half of the columns, from its codes -/

/-- The half's weights, -/
def wv (n : IVec S3456x4288 32) (gs : FVec Ideal S27x4288 .f32) : FVec Ideal S3456x4288 .bf16 :=
  shapeCast S3456x4288 (mulf (shapeCast S27x128x4288 (valv n) shapeCasts_S3456x4288_S27x128x4288)
    (broadcastTo S27x128x4288 (shapeCast S27x1x4288 (truncf .bf16 gs bitsLt_bf16_f32) shapeCasts_S27x4288_S27x1x4288) broadcasts_S27x1x4288_S27x128x4288))
    shapeCasts_S27x128x4288_S3456x4288

theorem wv_at (n : IVec S3456x4288 32) (gs : FVec Ideal S27x4288 .f32) (k : Fin 3456) (c : Fin 4288) :
    wv n gs (ix2 k c) = (((Nib.val (n (ix2 k c))).toInt : ℝ) : EReal) * (gs (ix2 (grpIx k) c) : EReal) := by
  unfold wv
  rw [rows_cast, mul16_at, groups_cast, valv_at, mid_bcast, mid_cast, trunc_at]

/-- and its columns of the result. -/
def yv (a : FVec Ideal S6144x3456 .bf16) (w : FVec Ideal S3456x4288 .bf16) (ws : FVec Ideal S1x4288 .f32) : FVec Ideal S6144x4288 .bf16 :=
  truncf .bf16 (mulf (matmul dot_S6144x3456_S3456x4288_S6144x4288_1_0_0_1_n_n none a w (constant S6144x4288 .f32 0x00000000#32))
    (broadcastTo S6144x4288 ws broadcasts_S1x4288_S6144x4288)) bitsLt_bf16_f32

theorem dot_at (a : FVec Ideal S6144x3456 .bf16) (w : FVec Ideal S3456x4288 .bf16) (acc : FVec Ideal S6144x4288 .f32) (r : Fin 6144) (c : Fin 4288) :
    matmul dot_S6144x3456_S3456x4288_S6144x4288_1_0_0_1_n_n none a w acc (ix2 r c)
      = (acc (ix2 r c) : EReal) + ∑ k : Fin 3456, (a (ix2 r k) : EReal) * (w (ix2 k c) : EReal) := by
  have hd : dot_S6144x3456_S3456x4288_S6144x4288_1_0_0_1_n_n = DotDims.plain 6144 3456 4288 := rfl
  rw [hd]
  exact Ideal.matmul_plain_apply none a w acc r c

theorem const_at {s : Shape} (i : s.Idx) : constant (F := Ideal) s .f32 0x00000000#32 i = (0 : EReal) := Ideal.ofBits_zero_f32

theorem yv_at (a : FVec Ideal S6144x3456 .bf16) (w : FVec Ideal S3456x4288 .bf16) (ws : FVec Ideal S1x4288 .f32) (r : Fin 6144) (c : Fin 4288) :
    yv a w ws (ix2 r c) = (∑ k : Fin 3456, (a (ix2 r k) : EReal) * (w (ix2 k c) : EReal)) * (ws (ix2 (0 : Fin 1) c) : EReal) := by
  unfold yv
  rw [trunc_at, mul32_at, dot_at, const_at, zero_add]
  exact congrArg (fun z : EReal => (∑ k : Fin 3456, (a (ix2 r k) : EReal) * (w (ix2 k c) : EReal)) * z) (broadcastTo_1b_ab_apply ws _ r c)

/-! ### The printed steps -/

variable (A : FVec Ideal S6144x3456 .bf16) (W : Vec Ideal S3456x4288 .i8) (G : Vec Ideal S27x8576 .f32) (S : Vec Ideal S1x8576 .f32)

theorem pay10_eq : k0_pay10 A W G S = yv A (wv (andi (extui 32 (show IVec S3456x4288 8 from W) natLt_8_32) (broadcast S3456x4288 15#32))
    (extractStridedSlice S27x4288 ![0, 0] G slices_S27x8576_o0_0_S27x4288))
    (extractStridedSlice S1x4288 ![0, 0] (shapeCast S1x8576 S shapeCasts_S1x8576_S1x8576) slices_S1x8576_o0_0_S1x4288) := rfl

theorem pay11_eq : k0_pay11 A W G S = yv A (wv (shrsi (extui 32 (show IVec S3456x4288 8 from W) natLt_8_32) (broadcast S3456x4288 4#32))
    (extractStridedSlice S27x4288 ![0, 4288] G slices_S27x8576_o0_4288_S27x4288))
    (extractStridedSlice S1x4288 ![0, 4288] (shapeCast S1x8576 S shapeCasts_S1x8576_S1x8576) slices_S1x8576_o0_4288_S1x4288) := rfl

theorem pay10_at (r : Fin 6144) (c : Fin 4288) : k0_pay10 A W G S (ix2 r c)
    = (∑ k : Fin 3456, (A (ix2 r k) : EReal) * ((((Nib.val (Nib.low (W (ix2 k c)))).toInt : ℝ) : EReal) * (G (ix2 (grpIx k) ⟨c.val, by omega⟩) : EReal)))
      * (S (ix2 (0 : Fin 1) ⟨c.val, by omega⟩) : EReal) := by
  have hg : ∀ g : Fin 27, extractStridedSlice S27x4288 ![0, 0] G slices_S27x8576_o0_0_S27x4288 (ix2 g c) = G (ix2 g ⟨c.val, by omega⟩) := fun g =>
    extractStridedSlice_apply _ _ _ (ix2 g c) (ix2 g ⟨c.val, by omega⟩) fun a => match a with
      | ⟨0, _⟩ => (Nat.zero_add _).symm
      | ⟨1, _⟩ => (Nat.zero_add _).symm
  have hs : extractStridedSlice S1x4288 ![0, 0] S slices_S1x8576_o0_0_S1x4288 (ix2 (0 : Fin 1) c) = S (ix2 (0 : Fin 1) ⟨c.val, by omega⟩) :=
    extractStridedSlice_apply _ _ _ (ix2 (0 : Fin 1) c) (ix2 (0 : Fin 1) ⟨c.val, by omega⟩) fun a => match a with
      | ⟨0, _⟩ => (Nat.zero_add _).symm
      | ⟨1, _⟩ => (Nat.zero_add _).symm
  rw [pay10_eq, yv_at, shapeCast_self, hs]
  refine congrArg (fun z : EReal => z * (S (ix2 (0 : Fin 1) ⟨c.val, by omega⟩) : EReal)) ?_
  refine Finset.sum_congr rfl fun k _ => ?_
  rw [wv_at, low_at, hg]

theorem pay11_at (r : Fin 6144) (c : Fin 4288) : k0_pay11 A W G S (ix2 r c)
    = (∑ k : Fin 3456, (A (ix2 r k) : EReal) * ((((Nib.val (Nib.high (W (ix2 k c)))).toInt : ℝ) : EReal) * (G (ix2 (grpIx k) ⟨4288 + c.val, by omega⟩) : EReal)))
      * (S (ix2 (0 : Fin 1) ⟨4288 + c.val, by omega⟩) : EReal) := by
  have hg : ∀ g : Fin 27, extractStridedSlice S27x4288 ![0, 4288] G slices_S27x8576_o0_4288_S27x4288 (ix2 g c) = G (ix2 g ⟨4288 + c.val, by omega⟩) := fun g =>
    extractStridedSlice_apply _ _ _ (ix2 g c) (ix2 g ⟨4288 + c.val, by omega⟩) fun a => match a with
      | ⟨0, _⟩ => (Nat.zero_add _).symm
      | ⟨1, _⟩ => rfl
  have hs : extractStridedSlice S1x4288 ![0, 4288] S slices_S1x8576_o0_4288_S1x4288 (ix2 (0 : Fin 1) c) = S (ix2 (0 : Fin 1) ⟨4288 + c.val, by omega⟩) :=
    extractStridedSlice_apply _ _ _ (ix2 (0 : Fin 1) c) (ix2 (0 : Fin 1) ⟨4288 + c.val, by omega⟩) fun a => match a with
      | ⟨0, _⟩ => (Nat.zero_add _).symm
      | ⟨1, _⟩ => rfl
  rw [pay11_eq, yv_at, shapeCast_self, hs]
  refine congrArg (fun z : EReal => z * (S (ix2 (0 : Fin 1) ⟨4288 + c.val, by omega⟩) : EReal)) ?_
  refine Finset.sum_congr rfl fun k _ => ?_
  rw [wv_at, high_at, hg]

end Cert.ReferenceIdeal.At
-- ==== Proof.RefBlocks.lean ====
/- The reference's run with its three result arrays named, and what its one grid point writes back to each. -/
module

public import proofs.«01_k».proof.Proof.Gen.ReferenceIdeal.Frame
public import Idealize.ShloMosaic.Lib.Pipeline.Value

@[expose] public section

noncomputable section

namespace Cert.ReferenceIdeal.Blocks

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S6144x8576.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S6144x3456.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S6144x27.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v2_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v2_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v2_2) = (dats m 0 c).arrAt 6 cfg0.N :=
  (h c).1 6

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 4 cfg0.N
      ∧ r.2.mem ((c : Thread nD τ).loc main_v2_1) = (dats m 0 c).arrAt 5 cfg0.N
      ∧ r.2.mem ((c : Thread nD τ).loc main_v2_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      kept_main_arg0 m r h c,
      kept_main_arg1 m r h c,
      kept_main_arg2 m r h c,
      kept_main_arg3 m r h c⟩)
    (run_main m ρ)

end Cert.ReferenceIdeal.Blocks
-- ==== Proof.RefIn.lean ====
/- What the reference's one grid point reads and leaves: its blocks are its arrays. -/
module

public import proofs.«01_k».proof.Proof.RefSum
public import proofs.«01_k».proof.Proof.RefBlocks
public import Idealize.ShloMosaic.Lib.Pipeline.ValueKit

@[expose] public section

noncomputable section

namespace Cert.ReferenceIdeal.At

open Idealize.ShloMosaic Idealize.ShloMosaic.ValueIdx Idealize.ShloMosaic.TcCoe Idealize.SL.Sem
open Cert.ReferenceIdeal Cert.ReferenceIdeal.Gen

variable (m : (ℓ : Loc nD τ sig) → Buf (Elt Ideal) ℓ)

/-- The one grid point. -/
def pt : Fin cfg0.N := (0 : Fin 1)

theorem idx0 : win0_0.index pt 0 = 0 ∧ win0_0.index pt 1 = 0 :=
  (by decide +kernel : ∀ t : Fin grid0.N, win0_0.index t 0 = 0 ∧ win0_0.index t 1 = 0) pt

theorem idx1 : win0_1.index pt 0 = 0 ∧ win0_1.index pt 1 = 0 :=
  (by decide +kernel : ∀ t : Fin grid0.N, win0_1.index t 0 = 0 ∧ win0_1.index t 1 = 0) pt

theorem idx2 : win0_2.index pt 0 = 0 ∧ win0_2.index pt 1 = 0 :=
  (by decide +kernel : ∀ t : Fin grid0.N, win0_2.index t 0 = 0 ∧ win0_2.index t 1 = 0) pt

theorem idx3 : win0_3.index pt 0 = 0 ∧ win0_3.index pt 1 = 0 :=
  (by decide +kernel : ∀ t : Fin grid0.N, win0_3.index t 0 = 0 ∧ win0_3.index t 1 = 0) pt

theorem idx4 : win0_4.index pt 0 = 0 ∧ win0_4.index pt 1 = 0 :=
  (by decide +kernel : ∀ t : Fin grid0.N, win0_4.index t 0 = 0 ∧ win0_4.index t 1 = 0) pt

theorem idx5 : win0_5.index pt 0 = 0 ∧ win0_5.index pt 1 = 0 :=
  (by decide +kernel : ∀ t : Fin grid0.N, win0_5.index t 0 = 0 ∧ win0_5.index t 1 = 0) pt

theorem idx6 : win0_6.index pt 0 = 0 ∧ win0_6.index pt 1 = 0 :=
  (by decide +kernel : ∀ t : Fin grid0.N, win0_6.index t 0 = 0 ∧ win0_6.index t 1 = 0) pt

/-- Input window 0's one block is its whole array. -/
theorem blk0 (c : Dev nD) : iblk m c 0 pt = V m c main_v0 := by
  funext j
  blk_ext [iblk, idx0.1, idx0.2]

/-- Input window 1's one block is its whole array. -/
theorem blk1 (c : Dev nD) : iblk m c 1 pt = V m c main_arg1 := by
  funext j
  blk_ext [iblk, idx1.1, idx1.2]

/-- Input window 2's one block is its whole array. -/
theorem blk2 (c : Dev nD) : iblk m c 2 pt = V m c main_arg2 := by
  funext j
  blk_ext [iblk, idx2.1, idx2.2]

/-- Input window 3's one block is its whole array. -/
theorem blk3 (c : Dev nD) : iblk m c 3 pt = V m c main_v1 := by
  funext j
  blk_ext [iblk, idx3.1, idx3.2]

/-- Result 0 of the run is what the body leaves in its window. -/
theorem arr4 (c : Dev nD) : (dats m 0 c).arrAt 4 cfg0.N
    = out0_4 (V m c main_v0) (V m c main_arg1) (V m c main_arg2) (V m c main_v1) := by
  have h := (Blocks.blocks4 m c pt (by decide +kernel)).trans (Blocks.flushed4 m c pt)
  rw [blk0, blk1, blk2, blk3] at h
  have e : ∀ A, ((cfg0.win 4).blk pt).view.read (Elt Ideal) A = A := by
    intro A
    funext j
    blk_ext [idx4.1, idx4.2]
  exact ((e _).symm.trans h)

/-- Result 1 of the run is what the body leaves in its window. -/
theorem arr5 (c : Dev nD) : (dats m 0 c).arrAt 5 cfg0.N
    = out0_5 (V m c main_v0) (V m c main_arg1) (V m c main_arg2) (V m c main_v1) := by
  have h := (Blocks.blocks5 m c pt (by decide +kernel)).trans (Blocks.flushed5 m c pt)
  rw [blk0, blk1, blk2, blk3] at h
  have e : ∀ A, ((cfg0.win 5).blk pt).view.read (Elt Ideal) A = A := by
    intro A
    funext j
    blk_ext [idx5.1, idx5.2]
  exact ((e _).symm.trans h)

/-- Result 2 of the run is what the body leaves in its window. -/
theorem arr6 (c : Dev nD) : (dats m 0 c).arrAt 6 cfg0.N
    = out0_6 (V m c main_v0) (V m c main_arg1) (V m c main_arg2) (V m c main_v1) := by
  have h := (Blocks.blocks6 m c pt (by decide +kernel)).trans (Blocks.flushed6 m c pt)
  rw [blk0, blk1, blk2, blk3] at h
  have e : ∀ A, ((cfg0.win 6).blk pt).view.read (Elt Ideal) A = A := by
    intro A
    funext j
    blk_ext [idx6.1, idx6.2]
  exact ((e _).symm.trans h)

end Cert.ReferenceIdeal.At
-- ==== Proof.RefOut.lean ====
/- The reference's three results, element by element, over its arguments. -/
module

public import proofs.«01_k».proof.Proof.RefIn

@[expose] public section

noncomputable section

namespace Cert.ReferenceIdeal.At

open Idealize.ShloMosaic hiding ix1 ix2 ix3
open Idealize.ShloMosaic.ValueIdx Idealize.ShloMosaic.TcCoe Idealize.SL.Sem
open Cert.ReferenceIdeal Cert.ReferenceIdeal.Gen

variable (X : Vec Ideal S6144x3456 .bf16) (W : Vec Ideal S3456x4288 .i8) (G : Vec Ideal S27x8576 .f32) (S : Vec Ideal S1x8576 .f32)

theorem zero2 : (![0, 0] : Fin 2 → Nat) = fun _ => 0 := by
  funext a; match a with | ⟨0, _⟩ => rfl | ⟨1, _⟩ => rfl

theorem out5_eq : out0_5 X W G S = k0_pay5 X := by
  unfold out0_5
  rw [View.canon_unit_zero zero2, View.ld_unit_zero zero2]

theorem out6_eq : out0_6 X W G S = k0_pay6 X := by
  unfold out0_6
  rw [View.canon_unit_zero zero2, View.ld_unit_zero zero2]

theorem out4_high (r : Fin 6144) (c : Fin 4288) :
    out0_4 X W G S (ix2 r ⟨4288 + c.val, by omega⟩) = k0_pay11 (k0_pay7 X) W G S (ix2 r c) := by
  unfold out0_4 k0_pay12
  rw [View.ld_unit_zero zero2, View.ld_unit_zero zero2, View.ld_unit_zero zero2, View.ld_unit_zero zero2]
  have e : (ix2 r ⟨4288 + c.val, by omega⟩ : S6144x8576.Idx) = r0_6.emb (ix2 r c) := by
    blk_ext
  rw [e]
  exact View.canon_cons_emb _ _ _ _

theorem out4_low (r : Fin 6144) (c : Fin 4288) :
    out0_4 X W G S (ix2 r ⟨c.val, by omega⟩) = k0_pay10 (k0_pay7 X) W G S (ix2 r c) := by
  unfold out0_4 k0_pay12
  rw [View.ld_unit_zero zero2, View.ld_unit_zero zero2, View.ld_unit_zero zero2, View.ld_unit_zero zero2]
  have e : (ix2 r ⟨c.val, by omega⟩ : S6144x8576.Idx) = r0_5.emb (ix2 r c) := by
    blk_ext
  have hn : (ix2 r ⟨c.val, by omega⟩ : S6144x8576.Idx) ∉ r0_6.set := by
    intro h
    obtain ⟨x, hx⟩ := r0_6.exists_idx_of_mem h
    have h1 := congrArg Fin.val (congrFun hx 1)
    have h2 : (r0_6.emb x 1).val = 4288 + (x 1).val := ValueKit.rect_emb_unit_val _ _ _ _ _
    have h3 : (r0_6.emb x 1).val = c.val := h1
    have := c.isLt
    omega
  rw [View.canon_cons_of_not_mem (⟨r0_6, k0_pay11 (k0_pay7 X) W G S⟩ : View.Piece (Elt Ideal) S6144x8576 .bf16) _ hn, e]
  exact View.canon_cons_emb _ _ _ _

variable (m : (ℓ : Loc nD τ sig) → Buf (Elt Ideal) ℓ)

theorem V_v0 (c : Dev nD) : V m c main_v0
    = shapeCast S6144x3456 (m ((c : Thread nD τ).loc main_arg0)) shapeCasts_S6x1024x3456_S6144x3456 := by
  entry_read
  rfl

theorem V_v1 (c : Dev nD) : V m c main_v1
    = shapeCast S1x8576 (m ((c : Thread nD τ).loc main_arg3)) shapeCasts_S8576_S1x8576 := by
  entry_read
  rfl

end Cert.ReferenceIdeal.At
-- ==== Proof.Bound.lean ====
/- A group of finite bf16 elements: its largest magnitude over 448 is a real below 2^120, so that the two scales are one. -/
module

public import proofs.«01_k».proof.Proof.QuantAt

@[expose] public section

noncomputable section

namespace Cert.Scale

open Idealize.ShloMosaic

theorem ofBits_bf16 (b : BitVec 16) : Ideal.ofBits .bf16 b = Ideal.ieee 8 7 b := rfl

theorem ieee_pos (e m : ℕ) {w : ℕ} (b : BitVec w) (j f : ℕ) (hn : (b.extractLsb' (e + m) 1 == 1#1) = false)
    (he : (b.extractLsb' m e).toNat = j) (hf : (b.extractLsb' 0 m).toNat = f) (h1 : j ≠ 2 ^ e - 1) (h2 : j ≠ 0) :
    Ideal.ieee e m b = (((1 : ℝ) * ((2 ^ m + f : ℕ) : ℝ) * (2 : ℝ) ^ ((j : ℤ) - (2 ^ (e - 1) - 1) - m : ℤ) : ℝ) : EReal) := by
  unfold Ideal.ieee
  simp only [hn, he, hf]
  rw [if_neg h1, if_neg h2, if_neg Bool.false_ne_true]

/-- The largest finite bf16. -/
theorem bf16_max : Ideal.ofBits .bf16 0x7F7F#16 = (((255 : ℝ) * (2 : ℝ) ^ (120 : ℤ) : ℝ) : EReal) := by
  rw [ofBits_bf16, ieee_pos 8 7 (0x7F7F#16) 254 127 (by decide) (by decide) (by decide) (by decide) (by decide)]
  congr 1
  norm_num

/-- The f32 nearest 1/448. -/
theorem inv448 : Ideal.ofBits .f32 0x3B124925#32 = (((9586981 : ℝ) * (2 : ℝ) ^ (-32 : ℤ) : ℝ) : EReal) := by
  rw [ofBits_f32, ieee_pos 8 23 (0x3B124925#32) 118 1198373 (by decide) (by decide) (by decide) (by decide) (by decide)]
  congr 1
  norm_num

theorem neg_inf : Ideal.ofBits .f32 0xFF800000#32 = ⊥ := by
  rw [ofBits_f32]
  unfold Ideal.ieee
  have a : ((0xFF800000#32).extractLsb' (8 + 23) 1 == 1#1) = true := by decide
  have b : ((0xFF800000#32).extractLsb' 23 8).toNat = 255 := by decide
  have c : ((0xFF800000#32).extractLsb' 0 23).toNat = 0 := by decide
  simp only [a, b, c]
  norm_num

theorem top_real (v : Fin 128 → EReal) (h : ∀ k, max (v k) (-(v k)) ≤ Ideal.ofBits .bf16 0x7F7F#16) :
    ∃ t : ℝ, top v = (t : EReal) ∧ t < (2 : ℝ) ^ (120 : ℤ) := by
  unfold top
  rw [neg_inf, inv448]
  have hle : (Finset.univ : Finset (Fin 128)).fold max ⊥ (fun k => max (v k) (-(v k))) ≤ Ideal.ofBits .bf16 0x7F7F#16 :=
    (Finset.fold_max_le _).mpr ⟨bot_le, fun k _ => h k⟩
  have hge : (0 : EReal) ≤ (Finset.univ : Finset (Fin 128)).fold max ⊥ (fun k => max (v k) (-(v k))) := by
    refine (Finset.le_fold_max _).mpr (Or.inr ⟨0, Finset.mem_univ _, ?_⟩)
    rcases le_total 0 (v 0) with h0 | h0
    · exact le_max_of_le_left h0
    · exact le_max_of_le_right (by rw [← neg_zero]; exact EReal.neg_le_neg_iff.mpr h0)
  generalize (Finset.univ : Finset (Fin 128)).fold max ⊥ (fun k => max (v k) (-(v k))) = M at hle hge
  rw [bf16_max] at hle
  induction M with
  | bot => exact absurd hge (by simp)
  | top => exact absurd hle (not_le.mpr (EReal.coe_lt_top _))
  | coe a =>
    have ha := EReal.coe_le_coe_iff.mp hle
    refine ⟨a * ((9586981 : ℝ) * (2 : ℝ) ^ (-32 : ℤ)), (EReal.coe_mul _ _).symm, ?_⟩
    have hc : (0 : ℝ) ≤ (9586981 : ℝ) * (2 : ℝ) ^ (-32 : ℤ) := by positivity
    refine lt_of_le_of_lt (mul_le_mul_of_nonneg_right ha hc) ?_
    norm_num

variable (v : Fin 128 → EReal) (h : ∀ k, max (v k) (-(v k)) ≤ Ideal.ofBits .bf16 0x7F7F#16)

include h in
theorem scale_top : Ideal.ofBits .f32 (bitsOf (top v)) = Ideal.exp2 (expOf (top v)) := by
  obtain ⟨t, e, ht⟩ := top_real v h
  rw [e, scale_agree ht]

include h in
theorem inv_top : Ideal.ofBits .f32 (IntOp.subi (2130706432#32) (bitsOf (top v))) = Ideal.exp2 (Ideal.ofBits .f32 0x00000000#32 - expOf (top v)) := by
  obtain ⟨t, e, ht⟩ := top_real v h
  rw [e, inv_agree ht]

end Cert.Scale
-- ==== Proof.Agree.lean ====
/- The kernel's values are the reference's, element by element, once the two are given the same finite inputs. -/
module

public import proofs.«01_k».proof.Proof.RefOut
public import proofs.«01_k».proof.Proof.SumAt
public import proofs.«01_k».proof.Proof.Bound

@[expose] public section

noncomputable section

namespace Cert.Agree

open Idealize.ShloMosaic hiding ix1 ix2 ix3
open Idealize.ShloMosaic.ValueIdx
open Cert.KernelIdeal.Model (In)
open Cert.ReferenceIdeal (S6144x3456 S3456x4288 S27x8576 S1x8576)
open Cert.ReferenceIdeal.Gen Cert.ReferenceIdeal.At

/-- The kernel's inputs are the reference's arrays, and the activations are finite bf16 numbers. -/
structure Given (D : In Ideal) (X : Vec Ideal S6144x3456 .bf16) (W : Vec Ideal S3456x4288 .i8) (G : Vec Ideal S27x8576 .f32)
    (S : Vec Ideal S1x8576 .f32) : Prop where
  x : ∀ (r : Fin 6144) (c : Fin 3456), D.x r.val c.val = X (ix2 r c)
  w : ∀ (k : Fin 3456) (c : Fin 4288), D.wp k.val c.val = W (ix2 k c)
  g : ∀ (g : Fin 27) (c : Fin 8576), D.gs g.val c.val = G (ix2 g c)
  s : ∀ c : Fin 8576, D.ws 0 c.val = S (ix2 (0 : Fin 1) c)
  b : ∀ (r : Fin 6144) (c : Fin 3456), max (X (ix2 r c) : EReal) (-(X (ix2 r c) : EReal)) ≤ Ideal.ofBits .bf16 0x7F7F#16

variable {D : In Ideal} {X : Vec Ideal S6144x3456 .bf16} {W : Vec Ideal S3456x4288 .i8} {G : Vec Ideal S27x8576 .f32} {S : Vec Ideal S1x8576 .f32}
variable (h : Given D X W G S)

include h

theorem grp_eq (r : Fin 6144) (g : Fin 27) : D.grp r.val g.val = grp X r g := by
  funext k
  exact h.x r ⟨128 * g.val + k.val, by omega⟩

theorem grp_le (r : Fin 6144) (g : Fin 27) (k : Fin 128) : max (grp X r g k) (-(grp X r g k)) ≤ Ideal.ofBits .bf16 0x7F7F#16 :=
  h.b r ⟨128 * g.val + k.val, by omega⟩

theorem scl_pay (r : Fin 6144) (g : Fin 27) : D.scl r.val g.val = Ideal.exp2 (Scale.expOf (Scale.top (grp X r g))) := by
  rw [D.scl_at, grp_eq h, Scale.scale_top _ (grp_le h r g)]

/-- The group scales. -/
theorem scl (r : Fin 6144) (g : Fin 27) : D.scl r.val g.val = out0_6 X W G S (ix2 r g) := by
  rw [out6_eq, pay6_at, scl_pay h]

theorem cod_pay (r : Fin 6144) (c : Fin 3456) : D.cod r.val c.val
    = Scale.code (X (ix2 r c)) (Ideal.exp2 (Ideal.ofBits .f32 0x00000000#32 - Scale.expOf (Scale.top (grp X r (grpIx c))))) := by
  rw [D.cod_at, h.x, ← Scale.inv_top _ (grp_le h r (grpIx c)), ← grp_eq h]
  rfl

/-- The codes. -/
theorem cod (r : Fin 6144) (c : Fin 3456) : D.cod r.val c.val = out0_5 X W G S (ix2 r c) := by
  rw [out5_eq, pay5_at, cod_pay h]

/-- The activations the products take. -/
theorem act (r : Fin 6144) (c : Fin 3456) : D.act r.val c.val = k0_pay7 X (ix2 r c) := by
  have e := scl_pay h r (grpIx c)
  rw [D.act_at, pay7_at, cod_pay h]
  exact congrArg (fun z : EReal => Scale.code (X (ix2 r c)) (Ideal.exp2 (Ideal.ofBits .f32 0x00000000#32 - Scale.expOf (Scale.top (grp X r (grpIx c))))) * z) e

theorem y_low (r : Fin 6144) (c : Fin 4288) : D.y r.val c.val = out0_4 X W G S (ix2 r ⟨c.val, by omega⟩) := by
  rw [out4_low, pay10_at, D.y_at r.val c.val (by omega)]
  refine congrArg₂ (fun a b : EReal => a * b) (Finset.sum_congr rfl fun k _ => ?_) (h.s ⟨c.val, by omega⟩)
  refine congrArg₂ (fun a b : EReal => a * b) (act h r k) (congrArg₂ (fun a b : EReal => a * b) ?_ (h.g (grpIx k) ⟨c.val, by omega⟩))
  unfold Nib.codeAt
  rw [if_pos c.isLt, h.w]

theorem y_high (r : Fin 6144) (c : Fin 4288) : D.y r.val (4288 + c.val) = out0_4 X W G S (ix2 r ⟨4288 + c.val, by omega⟩) := by
  rw [out4_high, pay11_at, D.y_at r.val (4288 + c.val) (by omega)]
  refine congrArg₂ (fun a b : EReal => a * b) (Finset.sum_congr rfl fun k _ => ?_) (h.s ⟨4288 + c.val, by omega⟩)
  refine congrArg₂ (fun a b : EReal => a * b) (act h r k) (congrArg₂ (fun a b : EReal => a * b) ?_ (h.g (grpIx k) ⟨4288 + c.val, by omega⟩))
  unfold Nib.codeAt
  rw [if_neg (by omega), Nat.add_sub_cancel_left, h.w]

/-- The output. -/
theorem y (r : Fin 6144) (c : Fin 8576) : D.y r.val c.val = out0_4 X W G S (ix2 r c) := by
  by_cases hc : c.val < 4288
  · exact y_low h r ⟨c.val, hc⟩
  · have e : c = ⟨4288 + (⟨c.val - 4288, by omega⟩ : Fin 4288).val, by show 4288 + (c.val - 4288) < 8576; omega⟩ :=
      Fin.ext (show c.val = 4288 + (c.val - 4288) by omega)
    have := y_high h r ⟨c.val - 4288, by omega⟩
    rw [e]
    exact this

end Cert.Agree
-- ==== Proof.KerIn.lean ====
/- What the kernel's body is given, over the kernel's arguments. -/
module

public import proofs.«01_k».proof.Proof.Launch
public import Idealize.ShloMosaic.Lib.Pipeline.ValueKit
public import Idealize.ShloMosaic.Lib.KernelVsHost
public import Idealize.ShloMosaic.Lib.StableHlo.ReadAt

@[expose] public section

noncomputable section

namespace Cert.KernelIdeal.Model

open Idealize.ShloMosaic hiding ix1 ix2 ix3
open Idealize.ShloMosaic.ValueIdx Idealize.ShloMosaic.TcCoe Idealize.SL.Sem
open Cert.KernelIdeal Cert.KernelIdeal.Gen

variable (m : (ℓ : Loc nD τ sig) → Buf (Elt Ideal) ℓ)

theorem V_v0 (c : Dev nD) : V m c main_v0
    = shapeCast S6144x3456 (m ((c : Thread nD τ).loc main_arg0)) shapeCasts_S6x1024x3456_S6144x3456 := by
  entry_read
  rfl

theorem V_v2 (c : Dev nD) : V m c main_v2
    = shapeCast S1x8576 (m ((c : Thread nD τ).loc main_arg3)) shapeCasts_S8576_S1x8576 := by
  entry_read
  rfl

/-- The padded packed weights, at a column the weights have. -/
theorem V_v1 (c : Dev nD) (k : Fin 3456) (j : Fin 4352) (hj : j.val < 4288) :
    (V m c main_v1 : S3456x4352.Idx → BitVec 8) (ix2 k j) = (m ((c : Thread nD τ).loc main_arg1) : S3456x4288.Idx → BitVec 8) (ix2 k ⟨j.val, hj⟩) := by
  have e : V m c main_v1 = pad S3456x4352 ![0, 0] ![0, 64] ![0, 0] (m ((c : Thread nD τ).loc main_arg1))
      (trunci 8 (constantI S_ 32 0#32) natLt_8_32) pads_S3456x4288_S3456x4352_000_0640 h_S_ := by
    unfold_abbrev_sides
    simp only [hostOps0, hostOps0_1, hostOps0_2, List.flatten_cons, List.flatten_nil, List.append_nil, List.cons_append, List.nil_append]
    after_reads_at
  rw [e]
  refine pad_apply_of_inside _ _ _ _ _ _ _ _ _ ?_
  intro a
  match a with
  | ⟨0, _⟩ => show k.val = 0 + k.val * (0 + 1); omega
  | ⟨1, _⟩ => show j.val = 0 + j.val * (0 + 1); omega

theorem idx0 : win0_0.index zpt 0 = 0 ∧ win0_0.index zpt 1 = 0 :=
  (by decide +kernel : ∀ t : Fin grid0.N, win0_0.index t 0 = 0 ∧ win0_0.index t 1 = 0) zpt

/-- The column scales' one block is the whole array. -/
theorem blk0 (c : Dev nD) : iblk m c 0 zpt = V m c main_v2 := by
  funext j
  blk_ext [iblk, idx0.1, idx0.2]

end Cert.KernelIdeal.Model
-- ==== Proof.Join.lean ====
/- From memories that agree on the arguments the two runs end with equal results. -/
module

public import proofs.«01_k».proof.Defs
public import proofs.«01_k».proof.Proof.Agree
public import proofs.«01_k».proof.Proof.KerIn

@[expose] public section

noncomputable section

namespace Cert.Join

open Idealize.ShloMosaic hiding ix1 ix2 ix3
open Idealize.ShloMosaic.ValueIdx Idealize.ShloMosaic.TcCoe Idealize.SL.Sem

instance preFacts : Cert.Pre_x_in_range.Facts := ⟨by decide⟩

/-- A reshape reads an element of what it reshapes. -/
theorem cast_mem {α : Type} {s t : Shape} (x : s.Idx → α) (h : s.ShapeCasts t) (j : t.Idx) : ∃ i, shapeCast t x h j = x i := ⟨_, rfl⟩

/-- What the precondition says of an element. -/
theorem pre_at (a0 : FVec Ideal Cert.Pre_x_in_range.S6x1024x3456 .bf16) (a1 : IVec Cert.Pre_x_in_range.S3456x4288 8)
    (a2 : FVec Ideal Cert.Pre_x_in_range.S27x8576 .f32) (a3 : FVec Ideal Cert.Pre_x_in_range.S8576 .f32)
    (h : Cert.Pre_x_in_range.fn a0 a1 a2 a3 = fun _ => 1#1) (i : Cert.Pre_x_in_range.S6x1024x3456.Idx) :
    max (a0 i : EReal) (-(a0 i : EReal)) ≤ Ideal.ofBits .bf16 0x7F7F#16 := by
  have e : Ideal.cmp .ole (max (a0 i : EReal) (-(a0 i : EReal))) (Ideal.ofBits .bf16 0x7F7F#16) = 1#1 := congrFun h i
  by_contra hc
  have : Ideal.cmp .ole (max (a0 i : EReal) (-(a0 i : EReal))) (Ideal.ofBits .bf16 0x7F7F#16) = 0#1 := by
    show BitVec.ofBool (decide _) = _
    rw [decide_eq_false hc]; rfl
  rw [this] at e
  exact absurd e (by decide)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

theorem given (hp : Cert.Pre_KernelIdeal_x_in_range m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Agree.Given (Cert.KernelIdeal.Model.inOf m c) (Cert.ReferenceIdeal.Gen.V m' c Cert.ReferenceIdeal.main_v0)
      (Cert.ReferenceIdeal.Gen.V m' c Cert.ReferenceIdeal.main_arg1) (Cert.ReferenceIdeal.Gen.V m' c Cert.ReferenceIdeal.main_arg2)
      (Cert.ReferenceIdeal.Gen.V m' c Cert.ReferenceIdeal.main_v1) where
  x r j := by
    rw [Cert.ReferenceIdeal.At.V_v0]
    refine (Cert.KernelIdeal.Model.fn2_val (R := 6144) (C := 3456) (by decide) (by decide) (Cert.KernelIdeal.Gen.V m c Cert.KernelIdeal.main_v0) (ix2 r j)).trans ?_
    rw [Cert.KernelIdeal.Model.V_v0]
    exact congrArg (fun a => shapeCast Cert.ReferenceIdeal.S6144x3456 a _ (ix2 r j)) h0.symm
  w k j := by
    rw [Cert.ReferenceIdeal.Gen.V_main_arg1]
    refine (Cert.KernelIdeal.Model.fn2_val (R := 3456) (C := 4352) (by decide) (by decide) (Cert.KernelIdeal.Gen.V m c Cert.KernelIdeal.main_v1) (ix2 k ⟨j.val, by omega⟩)).trans ?_
    refine (Cert.KernelIdeal.Model.V_v1 m c k ⟨j.val, by omega⟩ j.isLt).trans ?_
    exact congrArg (fun a : Cert.ReferenceIdeal.S3456x4288.Idx → BitVec 8 => a (ix2 k j)) h1.symm
  g k j := by
    rw [Cert.ReferenceIdeal.Gen.V_main_arg2]
    refine (Cert.KernelIdeal.Model.fn2_val (R := 27) (C := 8576) (by decide) (by decide) (Cert.KernelIdeal.Gen.V m c Cert.KernelIdeal.main_arg2) (ix2 k j)).trans ?_
    rw [Cert.KernelIdeal.Gen.V_main_arg2]
    exact congrArg (fun a : Cert.ReferenceIdeal.S27x8576.Idx → EReal => a (ix2 k j)) h2.symm
  s j := by
    rw [Cert.ReferenceIdeal.At.V_v1]
    refine (Cert.KernelIdeal.Model.fn2_val (R := 1) (C := 8576) (by decide) (by decide) (Cert.KernelIdeal.Gen.iblk m c 0 Cert.KernelIdeal.Model.zpt) (ix2 (0 : Fin 1) j)).trans ?_
    rw [Cert.KernelIdeal.Model.blk0, Cert.KernelIdeal.Model.V_v2]
    exact congrArg (fun a => shapeCast Cert.ReferenceIdeal.S1x8576 a _ (ix2 (0 : Fin 1) j)) h3.symm
  b r j := by
    rw [Cert.ReferenceIdeal.At.V_v0]
    obtain ⟨i, hi⟩ := cast_mem (m' ((c.tc : Thread Cert.ReferenceIdeal.nD Cert.ReferenceIdeal.τ).loc Cert.ReferenceIdeal.main_arg0))
      Cert.ReferenceIdeal.Facts₀.shapeCasts_S6x1024x3456_S6144x3456 (ix2 r j)
    rw [hi, h0]
    exact pre_at _ _ _ _ (hp c) i

theorem algebraic : Cert.algebraic_KernelIdeal_ReferenceIdeal_pre_x_in_range := by
  intro m g m' g' hp hm
  have hG := fun c => given m m' hp c (hm c).1 (hm c).2.1 (hm c).2.2.1 (hm c).2.2.2
  refine ⟨fun c => Cert.KernelIdeal.Model.arr2 (R := 6144) (C := 8576) (Cert.KernelIdeal.Model.inOf m c).y,
    fun c => Cert.KernelIdeal.Model.arr2 (R := 6144) (C := 3456) (Cert.KernelIdeal.Model.inOf m c).cod,
    fun c => Cert.KernelIdeal.Model.arr2 (R := 6144) (C := 27) (Cert.KernelIdeal.Model.inOf m c).scl, ?_, ?_⟩
  · exact (θ_run Cert.KernelIdeal.defs _ _).mono
      (fun _ h c => ⟨(h.1 c).1, (h.1 c).2.1, (h.1 c).2.2, (h.2.1 c).1, (h.2.1 c).2.1, (h.2.1 c).2.2.1, (h.2.1 c).2.2.2⟩)
      (θ_run_and (Cert.KernelIdeal.Model.value_main m g) (Cert.KernelIdeal.Model.frame_main m g))
  · refine (θ_run Cert.ReferenceIdeal.defs _ _).mono (fun _ h c => ?_) (Cert.ReferenceIdeal.Blocks.run_blocks m' g')
    obtain ⟨e0, e1, e2, k0, k1, k2, k3⟩ := h c
    refine ⟨e0.trans ((Cert.ReferenceIdeal.At.arr4 m' c).trans ?_), e1.trans ((Cert.ReferenceIdeal.At.arr5 m' c).trans ?_),
      e2.trans ((Cert.ReferenceIdeal.At.arr6 m' c).trans ?_), k0, k1, k2, k3⟩
    · funext i
      exact (congrArg _ (ValueIdx.eq_ix2 i)).trans (Agree.y (hG c) (i 0) (i 1)).symm
    · funext i
      exact (congrArg _ (ValueIdx.eq_ix2 i)).trans (Agree.cod (hG c) (i 0) (i 1)).symm
    · funext i
      exact (congrArg _ (ValueIdx.eq_ix2 i)).trans (Agree.scl (hG c) (i 0) (i 1)).symm

end Cert.Join
-- ==== Proof.lean ====
module

public import proofs.«01_k».proof.Defs
public import proofs.«01_k».proof.Proof.Same
public import proofs.«01_k».proof.Proof.Gen.ReferenceIdeal.Frame
public import proofs.«01_k».proof.Proof.Join
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Join.preFacts,
  fun m g _ => Cert.KernelIdeal.Same.frame_kernel m g, fun m g _ => Cert.KernelIdeal.Model.frame_main m g,
  fun m g _ => Cert.KernelIdeal.Model.frame_main m g,
  fun m g _ => Cert.ReferenceIdeal.Gen.frame m g, fun m g _ => Cert.ReferenceIdeal.Gen.frame m g, trivial, Cert.Join.algebraic⟩

end Cert.Proof

end
